-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts) (hPre_finite_in_range : Cert.Pre_finite_in_range.Facts),
    quiescent_Kernel (hKernel := hKernel) (hPre_in_range := hPre_in_range)
    ∧ quiescent_KernelIdeal (hKernelIdeal := hKernelIdeal) (hPre_in_range := hPre_in_range)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S50000x64 : Shape := ⟨2, ![50000, 64]⟩
abbrev S50000x3 : Shape := ⟨2, ![50000, 3]⟩
abbrev S50000x16 : Shape := ⟨2, ![50000, 16]⟩
abbrev S15x64x64 : Shape := ⟨3, ![15, 64, 64]⟩
abbrev S15x3 : Shape := ⟨2, ![15, 3]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S15x64x64 : S_.BroadcastsInDim S15x64x64 (![] : Fin 0 → Fin S15x64x64.rank)
  reducesTo_S15x64x64_S_d0_1_2 : S15x64x64.ReducesTo [0, 1, 2] S_
  bcast_S_S15x3 : S_.BroadcastsInDim S15x3 (![] : Fin 0 → Fin S15x3.rank)
  reducesTo_S15x3_S_d0_1 : S15x3.ReducesTo [0, 1] S_
  bcast_S_S50000x16 : S_.BroadcastsInDim S50000x16 (![] : Fin 0 → Fin S50000x16.rank)
  reducesTo_S50000x16_S_d0_1 : S50000x16.ReducesTo [0, 1] S_

variable [Facts]

def fn_part1 {F : FTy → Type} [FloatOps F] (main_arg3 : IVec S50000x16 32) (main_arg5 : FVec F S15x3 .f32) (main_v13 : IVec S_ 1) (main_v16 : IVec S15x64x64 1) : IVec S_ 1 :=
  let main_c_5 : IVec S_ 1 := constantI S_ 1 1#1
  let main_v17 : IVec S_ 1 := (fun x v => Host.reduce IntOp.andi x v reducesTo_S15x64x64_S_d0_1_2 h_S_) main_v16 main_c_5
  let main_v18 : IVec S_ 1 := andi main_v13 main_v17
  let main_v19 : FVec F S15x3 .f32 := Host.absf main_arg5
  let main_cst_6 : FVec F S_ .f32 := constant S_ .f32 0x7F800000#32
  let main_v20 : FVec F S15x3 .f32 := broadcastInDim S15x3 ![] bcast_S_S15x3 main_cst_6
  let main_v21 : IVec S15x3 1 := cmpf .olt main_v19 main_v20
  let main_c_7 : IVec S_ 1 := constantI S_ 1 1#1
  let main_v22 : IVec S_ 1 := (fun x v => Host.reduce IntOp.andi x v reducesTo_S15x3_S_d0_1 h_S_) main_v21 main_c_7
  let main_v23 : IVec S_ 1 := andi main_v18 main_v22
  let main_c_8 : IVec S_ 32 := constantI S_ 32 0#32
  let main_v24 : IVec S50000x16 32 := broadcastInDim S50000x16 ![] bcast_S_S50000x16 main_c_8
  let main_v25 : IVec S50000x16 1 := cmpi .sge main_arg3 main_v24
  let main_c_9 : IVec S_ 32 := constantI S_ 32 50000#32
  let main_v26 : IVec S50000x16 32 := broadcastInDim S50000x16 ![] bcast_S_S50000x16 main_c_9
  let main_v27 : IVec S50000x16 1 := cmpi .slt main_arg3 main_v26
  let main_v28 : IVec S50000x16 1 := andi main_v25 main_v27
  let main_c_10 : IVec S_ 1 := constantI S_ 1 1#1
  let main_v29 : IVec S_ 1 := (fun x v => Host.reduce IntOp.andi x v reducesTo_S50000x16_S_d0_1 h_S_) main_v28 main_c_10
  let main_v30 : IVec S_ 1 := andi main_v23 main_v29
  main_v30

def fn {F : FTy → Type} [FloatOps F] (main_arg0 : FVec F S50000x64 .f32) (main_arg1 : FVec F S50000x3 .f32) (main_arg2 : FVec F S50000x3 .f32) (main_arg3 : IVec S50000x16 32) (main_arg4 : FVec F S15x64x64 .f32) (main_arg5 : FVec F S15x3 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S50000x3 .f32 := Host.absf main_arg2
  let main_cst_2 : FVec F S_ .f32 := constant S_ .f32 0x7F800000#32
  let main_v10 : FVec F S50000x3 .f32 := broadcastInDim S50000x3 ![] bcast_S_S50000x3 main_cst_2
  let main_v11 : IVec S50000x3 1 := cmpf .olt main_v9 main_v10
  let main_c_3 : IVec S_ 1 := constantI S_ 1 1#1
  let main_v12 : IVec S_ 1 := (fun x v => Host.reduce IntOp.andi x v reducesTo_S50000x3_S_d0_1 h_S_) main_v11 main_c_3
  let main_v13 : IVec S_ 1 := andi main_v8 main_v12
  let main_v14 : FVec F S15x64x64 .f32 := Host.absf main_arg4
  let main_cst_4 : FVec F S_ .f32 := constant S_ .f32 0x7F800000#32
  let main_v15 : FVec F S15x64x64 .f32 := broadcastInDim S15x64x64 ![] bcast_S_S15x64x64 main_cst_4
  let main_v16 : IVec S15x64x64 1 := cmpf .olt main_v14 main_v15
  fn_part1 (F := F) main_arg3 main_arg5 main_v13 main_v16
-- ==== Pre_in_range.lean ====
abbrev S50000x64 : Shape := ⟨2, ![50000, 64]⟩
abbrev S50000x3 : Shape := ⟨2, ![50000, 3]⟩
abbrev S50000x16 : Shape := ⟨2, ![50000, 16]⟩
abbrev S15x64x64 : Shape := ⟨3, ![15, 64, 64]⟩
abbrev S15x3 : Shape := ⟨2, ![15, 3]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel

variable [Facts]

def fn {F : FTy → Type} [FloatOps F] (main_arg0 : FVec F S50000x64 .f32) (main_arg1 : FVec F S50000x3 .f32) (main_arg2 : FVec F S50000x3 .f32) (main_arg3 : IVec S50000x16 32) (main_arg4 : FVec F S15x64x64 .f32) (main_arg5 : FVec F S15x3 .f32) : IVec S_ 1 :=
  let main_c : IVec S_ 32 := constantI S_ 32 0#32
  let main_v0 : IVec S50000x16 32 := broadcastInDim S50000x16 ![] bcast_S_S50000x16 main_c
  let main_v1 : IVec S50000x16 1 := cmpi .sge main_arg3 main_v0
  let main_c_0 : IVec S_ 32 := constantI S_ 32 50000#32
  let main_v2 : IVec S50000x16 32 := broadcastInDim S50000x16 ![] bcast_S_S50000x16 main_c_0
  let main_v3 : IVec S50000x16 1 := cmpi .slt main_arg3 main_v2
  let main_v4 : IVec S50000x16 1 := andi main_v1 main_v3
  let main_c_1 : IVec S_ 1 := constantI S_ 1 1#1
  let main_v5 : IVec S_ 1 := (fun x v => Host.reduce IntOp.andi x v reducesTo_S50000x16_S_d0_1 h_S_) main_v4 main_c_1
  main_v5
-- ==== Kernel.lean ====
abbrev S50000x64 : Shape := ⟨2, ![50000, 64]⟩
abbrev S50000x3 : Shape := ⟨2, ![50000, 3]⟩
abbrev S50000x16 : Shape := ⟨2, ![50000, 16]⟩
abbrev S15x64x64 : Shape := ⟨3, ![15, 64, 64]⟩
abbrev S15x3 : Shape := ⟨2, ![15, 3]⟩
abbrev S16x50000 : Shape := ⟨2, ![16, 50000]⟩
abbrev S_ : Shape := ⟨0, ![]⟩
abbrev S50000x48 : Shape := ⟨2, ![50000, 48]⟩
abbrev S50000x128 : Shape := ⟨2, ![50000, 128]⟩
abbrev S16x16 : Shape := ⟨2, ![16, 16]⟩
abbrev S16x15 : Shape := ⟨2, ![16, 15]⟩
abbrev S1x64 : Shape := ⟨2, ![1, 64]⟩
abbrev S16x1x15x1 : Shape := ⟨4, ![16, 1, 15, 1]⟩
abbrev S1x1x1x64 : Shape := ⟨4, ![1, 1, 1, 64]⟩
abbrev S16x1x15x64 : Shape := ⟨4, ![16, 1, 15, 64]⟩
abbrev S16x960 : Shape := ⟨2, ![16, 960]⟩
abbrev S16x1x16x1 : Shape := ⟨4, ![16, 1, 16, 1]⟩
abbrev S1x16x1x16 : Shape := ⟨4, ![1, 16, 1, 16]⟩
abbrev S16x16x16x16 : Shape := ⟨4, ![16, 16, 16, 16]⟩
abbrev S256x256 : Shape := ⟨2, ![256, 256]⟩
abbrev S512x256 : Shape := ⟨2, ![512, 256]⟩
abbrev S16 : Shape := ⟨1, ![16]⟩
abbrev S1x16 : Shape := ⟨2, ![1, 16]⟩
abbrev S1x1x1x16 : Shape := ⟨4, ![1, 1, 1, 16]⟩
abbrev S1x1x16x16 : Shape := ⟨4, ![1, 1, 16, 16]⟩
abbrev S1x256 : Shape := ⟨2, ![1, 256]⟩
abbrev S960x64 : Shape := ⟨2, ![960, 64]⟩
abbrev S16x10000 : Shape := ⟨2, ![16, 10000]⟩
abbrev S1x160000 : Shape := ⟨2, ![1, 160000]⟩
abbrev S160000x128 : Shape := ⟨2, ![160000, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S16x10000x128 : Shape := ⟨3, ![16, 10000, 128]⟩
abbrev S10000x16 : Shape := ⟨2, ![10000, 16]⟩
abbrev S10000x64 : Shape := ⟨2, ![10000, 64]⟩
abbrev S16x400x128 : Shape := ⟨3, ![16, 400, 128]⟩
abbrev S400x16 : Shape := ⟨2, ![400, 16]⟩
abbrev S400x64 : Shape := ⟨2, ![400, 64]⟩
abbrev S1x400x128 : Shape := ⟨3, ![1, 400, 128]⟩
abbrev S400x128 : Shape := ⟨2, ![400, 128]⟩
abbrev S400x256 : Shape := ⟨2, ![400, 256]⟩
abbrev S400x512 : Shape := ⟨2, ![400, 512]⟩
abbrev S400x1 : Shape := ⟨2, ![400, 1]⟩
abbrev S400x960 : Shape := ⟨2, ![400, 960]⟩
abbrev S400 : Shape := ⟨1, ![400]⟩

abbrev nBuf : Table → Nat
  | .hbm => 104
  | .local .tc .vmem => 55
  | .local .scVector .vmem => 10
  | _ => 0

abbrev bufTy : (tb : Table) → Fin (nBuf tb) → BufTy
  | .hbm, ⟨0, _⟩ => ⟨S50000x64, .f32⟩
  | .hbm, ⟨1, _⟩ => ⟨S50000x3, .f32⟩
  | .hbm, ⟨2, _⟩ => ⟨S50000x3, .f32⟩
  | .hbm, ⟨3, _⟩ => ⟨S50000x16, .i32⟩
  | .hbm, ⟨4, _⟩ => ⟨S15x64x64, .f32⟩
  | .hbm, ⟨5, _⟩ => ⟨S15x3, .f32⟩
  | .hbm, ⟨6, _⟩ => ⟨S16x50000, .i32⟩
  | .hbm, ⟨7, _⟩ => ⟨S_, .i32⟩
  | .hbm, ⟨8, _⟩ => ⟨S_, .f32⟩
  | .hbm, ⟨9, _⟩ => ⟨S50000x16, .f32⟩
  | .hbm, ⟨10, _⟩ => ⟨S_, .f32⟩
  | .hbm, ⟨11, _⟩ => ⟨S50000x48, .f32⟩
  | .hbm, ⟨12, _⟩ => ⟨S50000x128, .f32⟩
  | .hbm, ⟨13, _⟩ => ⟨S_, .i32⟩
  | .hbm, ⟨14, _⟩ => ⟨S_, .f32⟩
  | .hbm, ⟨15, _⟩ => ⟨S50000x16, .f32⟩
  | .hbm, ⟨16, _⟩ => ⟨S_, .i32⟩
  | .hbm, ⟨17, _⟩ => ⟨S_, .f32⟩
  | .hbm, ⟨18, _⟩ => ⟨S16x16, .f32⟩
  | .hbm, ⟨19, _⟩ => ⟨S16x16, .f32⟩
  | .hbm, ⟨20, _⟩ => ⟨S16x15, .i32⟩
  | .hbm, ⟨21, _⟩ => ⟨S16x15, .i32⟩
  | .hbm, ⟨22, _⟩ => ⟨S_, .i32⟩
  | .hbm, ⟨23, _⟩ => ⟨S16x15, .i32⟩
  | .hbm, ⟨24, _⟩ => ⟨S16x15, .i32⟩
  | .hbm, ⟨25, _⟩ => ⟨S16x15, .i1⟩
  | .hbm, ⟨26, _⟩ => ⟨S16x15, .f32⟩
  | .hbm, ⟨27, _⟩ => ⟨S_, .f32⟩
  | .hbm, ⟨28, _⟩ => ⟨S1x64, .f32⟩
  | .hbm, ⟨29, _⟩ => ⟨S16x1x15x1, .f32⟩
  | .hbm, ⟨30, _⟩ => ⟨S1x1x1x64, .f32⟩
  | .hbm, ⟨31, _⟩ => ⟨S16x1x15x64, .f32⟩
  | .hbm, ⟨32, _⟩ => ⟨S16x1x15x64, .f32⟩
  | .hbm, ⟨33, _⟩ => ⟨S16x1x15x64, .f32⟩
  | .hbm, ⟨34, _⟩ => ⟨S16x960, .f32⟩
  | .hbm, ⟨35, _⟩ => ⟨S16x960, .bf16⟩
  | .hbm, ⟨36, _⟩ => ⟨S16x16, .i32⟩
  | .hbm, ⟨37, _⟩ => ⟨S16x16, .i32⟩
  | .hbm, ⟨38, _⟩ => ⟨S_, .i32⟩
  | .hbm, ⟨39, _⟩ => ⟨S16x16, .i32⟩
  | .hbm, ⟨40, _⟩ => ⟨S16x16, .i32⟩
  | .hbm, ⟨41, _⟩ => ⟨S16x16, .i1⟩
  | .hbm, ⟨42, _⟩ => ⟨S16x16, .f32⟩
  | .hbm, ⟨43, _⟩ => ⟨S_, .f32⟩
  | .hbm, ⟨44, _⟩ => ⟨S16x16, .f32⟩
  | .hbm, ⟨45, _⟩ => ⟨S16x16, .f32⟩
  | .hbm, ⟨46, _⟩ => ⟨S16x1x16x1, .f32⟩
  | .hbm, ⟨47, _⟩ => ⟨S1x16x1x16, .f32⟩
  | .hbm, ⟨48, _⟩ => ⟨S16x16x16x16, .f32⟩
  | .hbm, ⟨49, _⟩ => ⟨S16x16x16x16, .f32⟩
  | .hbm, ⟨50, _⟩ => ⟨S16x16x16x16, .f32⟩
  | .hbm, ⟨51, _⟩ => ⟨S256x256, .f32⟩
  | .hbm, ⟨52, _⟩ => ⟨S_, .f32⟩
  | .hbm, ⟨53, _⟩ => ⟨S16x16, .f32⟩
  | .hbm, ⟨54, _⟩ => ⟨S16x1x16x1, .f32⟩
  | .hbm, ⟨55, _⟩ => ⟨S1x16x1x16, .f32⟩
  | .hbm, ⟨56, _⟩ => ⟨S16x16x16x16, .f32⟩
  | .hbm, ⟨57, _⟩ => ⟨S16x16x16x16, .f32⟩
  | .hbm, ⟨58, _⟩ => ⟨S16x16x16x16, .f32⟩
  | .hbm, ⟨59, _⟩ => ⟨S256x256, .f32⟩
  | .hbm, ⟨60, _⟩ => ⟨S512x256, .f32⟩
  | .hbm, ⟨61, _⟩ => ⟨S16x16, .f32⟩
  | .hbm, ⟨62, _⟩ => ⟨S_, .f32⟩
  | .hbm, ⟨63, _⟩ => ⟨S16, .f32⟩
  | .hbm, ⟨64, _⟩ => ⟨S1x16, .f32⟩
  | .hbm, ⟨65, _⟩ => ⟨S1x1x1x16, .f32⟩
  | .hbm, ⟨66, _⟩ => ⟨S1x1x16x16, .f32⟩
  | .hbm, ⟨67, _⟩ => ⟨S1x256, .f32⟩
  | .hbm, ⟨68, _⟩ => ⟨S960x64, .f32⟩
  | .hbm, ⟨69, _⟩ => ⟨S960x64, .bf16⟩
  | .hbm, ⟨70, _⟩ => ⟨S960x64, .f32⟩
  | .hbm, ⟨71, _⟩ => ⟨S960x64, .f32⟩
  | .hbm, ⟨72, _⟩ => ⟨S960x64, .bf16⟩
  | .hbm, ⟨73, _⟩ => ⟨S16x10000, .i32⟩
  | .hbm, ⟨74, _⟩ => ⟨S1x160000, .i32⟩
  | .hbm, ⟨75, _⟩ => ⟨S160000x128, .f32⟩
  | .hbm, ⟨76, _⟩ => ⟨S16x10000x128, .f32⟩
  | .hbm, ⟨77, _⟩ => ⟨S10000x16, .f32⟩
  | .hbm, ⟨78, _⟩ => ⟨S10000x64, .f32⟩
  | .hbm, ⟨79, _⟩ => ⟨S16x10000, .i32⟩
  | .hbm, ⟨80, _⟩ => ⟨S1x160000, .i32⟩
  | .hbm, ⟨81, _⟩ => ⟨S160000x128, .f32⟩
  | .hbm, ⟨82, _⟩ => ⟨S16x10000x128, .f32⟩
  | .hbm, ⟨83, _⟩ => ⟨S10000x16, .f32⟩
  | .hbm, ⟨84, _⟩ => ⟨S10000x64, .f32⟩
  | .hbm, ⟨85, _⟩ => ⟨S16x10000, .i32⟩
  | .hbm, ⟨86, _⟩ => ⟨S1x160000, .i32⟩
  | .hbm, ⟨87, _⟩ => ⟨S160000x128, .f32⟩
  | .hbm, ⟨88, _⟩ => ⟨S16x10000x128, .f32⟩
  | .hbm, ⟨89, _⟩ => ⟨S10000x16, .f32⟩
  | .hbm, ⟨90, _⟩ => ⟨S10000x64, .f32⟩
  | .hbm, ⟨91, _⟩ => ⟨S16x10000, .i32⟩
  | .hbm, ⟨92, _⟩ => ⟨S1x160000, .i32⟩
  | .hbm, ⟨93, _⟩ => ⟨S160000x128, .f32⟩
  | .hbm, ⟨94, _⟩ => ⟨S16x10000x128, .f32⟩
  | .hbm, ⟨95, _⟩ => ⟨S10000x16, .f32⟩
  | .hbm, ⟨96, _⟩ => ⟨S10000x64, .f32⟩
  | .hbm, ⟨97, _⟩ => ⟨S16x10000, .i32⟩
  | .hbm, ⟨98, _⟩ => ⟨S1x160000, .i32⟩
  | .hbm, ⟨99, _⟩ => ⟨S160000x128, .f32⟩
  | .hbm, ⟨100, _⟩ => ⟨S16x10000x128, .f32⟩
  | .hbm, ⟨101, _⟩ => ⟨S10000x16, .f32⟩
  | .hbm, ⟨102, _⟩ => ⟨S10000x64, .f32⟩
  | .hbm, ⟨103, _⟩ => ⟨S50000x64, .f32⟩
  | .local .tc .vmem, ⟨0, _⟩ => ⟨S16x400x128, .f32⟩
  | .local .tc .vmem, ⟨1, _⟩ => ⟨S16x400x128, .f32⟩
  | .local .tc .vmem, ⟨2, _⟩ => ⟨S400x16, .f32⟩
  | .local .tc .vmem, ⟨3, _⟩ => ⟨S400x16, .f32⟩
  | .local .tc .vmem, ⟨4, _⟩ => ⟨S512x256, .f32⟩
  | .local .tc .vmem, ⟨5, _⟩ => ⟨S1x256, .f32⟩
  | .local .tc .vmem, ⟨6, _⟩ => ⟨S16x960, .bf16⟩
  | .local .tc .vmem, ⟨7, _⟩ => ⟨S960x64, .bf16⟩
  | .local .tc .vmem, ⟨8, _⟩ => ⟨S960x64, .bf16⟩
  | .local .tc .vmem, ⟨9, _⟩ => ⟨S400x64, .f32⟩
  | .local .tc .vmem, ⟨10, _⟩ => ⟨S400x64, .f32⟩
  | .local .tc .vmem, ⟨11, _⟩ => ⟨S16x400x128, .f32⟩
  | .local .tc .vmem, ⟨12, _⟩ => ⟨S16x400x128, .f32⟩
  | .local .tc .vmem, ⟨13, _⟩ => ⟨S400x16, .f32⟩
  | .local .tc .vmem, ⟨14, _⟩ => ⟨S400x16, .f32⟩
  | .local .tc .vmem, ⟨15, _⟩ => ⟨S512x256, .f32⟩
  | .local .tc .vmem, ⟨16, _⟩ => ⟨S1x256, .f32⟩
  | .local .tc .vmem, ⟨17, _⟩ => ⟨S16x960, .bf16⟩
  | .local .tc .vmem, ⟨18, _⟩ => ⟨S960x64, .bf16⟩
  | .local .tc .vmem, ⟨19, _⟩ => ⟨S960x64, .bf16⟩
  | .local .tc .vmem, ⟨20, _⟩ => ⟨S400x64, .f32⟩
  | .local .tc .vmem, ⟨21, _⟩ => ⟨S400x64, .f32⟩
  | .local .tc .vmem, ⟨22, _⟩ => ⟨S16x400x128, .f32⟩
  | .local .tc .vmem, ⟨23, _⟩ => ⟨S16x400x128, .f32⟩
  | .local .tc .vmem, ⟨24, _⟩ => ⟨S400x16, .f32⟩
  | .local .tc .vmem, ⟨25, _⟩ => ⟨S400x16, .f32⟩
  | .local .tc .vmem, ⟨26, _⟩ => ⟨S512x256, .f32⟩
  | .local .tc .vmem, ⟨27, _⟩ => ⟨S1x256, .f32⟩
  | .local .tc .vmem, ⟨28, _⟩ => ⟨S16x960, .bf16⟩
  | .local .tc .vmem, ⟨29, _⟩ => ⟨S960x64, .bf16⟩
  | .local .tc .vmem, ⟨30, _⟩ => ⟨S960x64, .bf16⟩
  | .local .tc .vmem, ⟨31, _⟩ => ⟨S400x64, .f32⟩
  | .local .tc .vmem, ⟨32, _⟩ => ⟨S400x64, .f32⟩
  | .local .tc .vmem, ⟨33, _⟩ => ⟨S16x400x128, .f32⟩
  | .local .tc .vmem, ⟨34, _⟩ => ⟨S16x400x128, .f32⟩
  | .local .tc .vmem, ⟨35, _⟩ => ⟨S400x16, .f32⟩
  | .local .tc .vmem, ⟨36, _⟩ => ⟨S400x16, .f32⟩
  | .local .tc .vmem, ⟨37, _⟩ => ⟨S512x256, .f32⟩
  | .local .tc .vmem, ⟨38, _⟩ => ⟨S1x256, .f32⟩
  | .local .tc .vmem, ⟨39, _⟩ => ⟨S16x960, .bf16⟩
  | .local .tc .vmem, ⟨40, _⟩ => ⟨S960x64, .bf16⟩
  | .local .tc .vmem, ⟨41, _⟩ => ⟨S960x64, .bf16⟩
  | .local .tc .vmem, ⟨42, _⟩ => ⟨S400x64, .f32⟩
  | .local .tc .vmem, ⟨43, _⟩ => ⟨S400x64, .f32⟩
  | .local .tc .vmem, ⟨44, _⟩ => ⟨S16x400x128, .f32⟩
  | .local .tc .vmem, ⟨45, _⟩ => ⟨S16x400x128, .f32⟩
  | .local .tc .vmem, ⟨46, _⟩ => ⟨S400x16, .f32⟩
  | .local .tc .vmem, ⟨47, _⟩ => ⟨S400x16, .f32⟩
  | .local .tc .vmem, ⟨48, _⟩ => ⟨S512x256, .f32⟩
  | .local .tc .vmem, ⟨49, _⟩ => ⟨S1x256, .f32⟩
  | .local .tc .vmem, ⟨50, _⟩ => ⟨S16x960, .bf16⟩
  | .local .tc .vmem, ⟨51, _⟩ => ⟨S960x64, .bf16⟩
  | .local .tc .vmem, ⟨52, _⟩ => ⟨S960x64, .bf16⟩
  | .local .tc .vmem, ⟨53, _⟩ => ⟨S400x64, .f32⟩
  | .local .tc .vmem, ⟨54, _⟩ => ⟨S400x64, .f32⟩
  | .local .scVector .vmem, ⟨0, _⟩ => ⟨S2x1x128, .i32⟩
  | .local .scVector .vmem, ⟨1, _⟩ => ⟨S2x128x128, .f32⟩
  | .local .scVector .vmem, ⟨2, _⟩ => ⟨S2x1x128, .i32⟩
  | .local .scVector .vmem, ⟨3, _⟩ => ⟨S2x128x128, .f32⟩
  | .local .scVector .vmem, ⟨4, _⟩ => ⟨S2x1x128, .i32⟩
  | .local .scVector .vmem, ⟨5, _⟩ => ⟨S2x128x128, .f32⟩
  | .local .scVector .vmem, ⟨6, _⟩ => ⟨S2x1x128, .i32⟩
  | .local .scVector .vmem, ⟨7, _⟩ => ⟨S2x128x128, .f32⟩
  | .local .scVector .vmem, ⟨8, _⟩ => ⟨S2x1x128, .i32⟩
  | .local .scVector .vmem, ⟨9, _⟩ => ⟨S2x128x128, .f32⟩
  | _, _ => ⟨S50000x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 85 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => false
  | ⟨18, _⟩ => false
  | ⟨19, _⟩ => false
  | ⟨20, _⟩ => false
  | ⟨21, _⟩ => false
  | ⟨22, _⟩ => false
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => false
  | ⟨35, _⟩ => false
  | ⟨36, _⟩ => false
  | ⟨37, _⟩ => false
  | ⟨38, _⟩ => false
  | ⟨39, _⟩ => false
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => false
  | ⟨52, _⟩ => false
  | ⟨53, _⟩ => false
  | ⟨54, _⟩ => false
  | ⟨55, _⟩ => false
  | ⟨56, _⟩ => false
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => false
  | ⟨69, _⟩ => false
  | ⟨70, _⟩ => false
  | ⟨71, _⟩ => false
  | ⟨72, _⟩ => false
  | ⟨73, _⟩ => false
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | _ => false

abbrev sig : RefSig :=
  ofTables nBuf rfl bufTy 4 85 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_c_1 : Ref sig .tc := ⟨.hbm, 16, rfl⟩
abbrev main_call2_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_call3_v0 : Ref sig .tc := ⟨.hbm, 29, rfl⟩
abbrev main_call3_v1 : Ref sig .tc := ⟨.hbm, 30, rfl⟩
abbrev main_call3_v2 : Ref sig .tc := ⟨.hbm, 31, rfl⟩
abbrev main_call3_v3 : Ref sig .tc := ⟨.hbm, 32, rfl⟩
abbrev main_call3_v4 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_5 : Ref sig .tc := ⟨.hbm, 43, rfl⟩
abbrev main_v22 : Ref sig .tc := ⟨.hbm, 44, rfl⟩
abbrev main_v23 : Ref sig .tc := ⟨.hbm, 45, rfl⟩
abbrev main_call4_v0 : Ref sig .tc := ⟨.hbm, 46, rfl⟩
abbrev main_call4_v1 : Ref sig .tc := ⟨.hbm, 47, rfl⟩
abbrev main_call4_v2 : Ref sig .tc := ⟨.hbm, 48, rfl⟩
abbrev main_call4_v3 : Ref sig .tc := ⟨.hbm, 49, rfl⟩
abbrev main_call4_v4 : Ref sig .tc := ⟨.hbm, 50, rfl⟩
abbrev main_v24 : Ref sig .tc := ⟨.hbm, 51, rfl⟩
abbrev main_cst_6 : Ref sig .tc := ⟨.hbm, 52, rfl⟩
abbrev main_v25 : Ref sig .tc := ⟨.hbm, 53, rfl⟩
abbrev main_call5_v0 : Ref sig .tc := ⟨.hbm, 54, rfl⟩
abbrev main_call5_v1 : Ref sig .tc := ⟨.hbm, 55, rfl⟩
abbrev main_call5_v2 : Ref sig .tc := ⟨.hbm, 56, rfl⟩
abbrev main_call5_v3 : Ref sig .tc := ⟨.hbm, 57, rfl⟩
abbrev main_call5_v4 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_cst_7 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v3_scv : Ref sig .scVector := ⟨.hbm, 12, rfl⟩
abbrev main_v40_scv : Ref sig .scVector := ⟨.hbm, 74, rfl⟩
abbrev main_v41_scv : Ref sig .scVector := ⟨.hbm, 75, rfl⟩
abbrev main_v46_scv : Ref sig .scVector := ⟨.hbm, 80, rfl⟩
abbrev main_v47_scv : Ref sig .scVector := ⟨.hbm, 81, rfl⟩
abbrev main_v52_scv : Ref sig .scVector := ⟨.hbm, 86, rfl⟩
abbrev main_v53_scv : Ref sig .scVector := ⟨.hbm, 87, rfl⟩
abbrev main_v58_scv : Ref sig .scVector := ⟨.hbm, 92, rfl⟩
abbrev main_v59_scv : Ref sig .scVector := ⟨.hbm, 93, rfl⟩
abbrev main_v64_scv : Ref sig .scVector := ⟨.hbm, 98, rfl⟩
abbrev main_v65_scv : Ref sig .scVector := ⟨.hbm, 99, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg7_1 : Ref sig .tc := ⟨.vmem, 10, rfl⟩
abbrev cc3_stg0_0 : Ref sig .tc := ⟨.vmem, 11, rfl⟩
abbrev cc3_stg0_1 : Ref sig .tc := ⟨.vmem, 12, rfl⟩
abbrev cc3_stg1_0 : Ref sig .tc := ⟨.vmem, 13, rfl⟩
abbrev cc3_stg1_1 : Ref sig .tc := ⟨.vmem, 14, rfl⟩
abbrev cc3_stg2_0 : Ref sig .tc := ⟨.vmem, 15, rfl⟩
abbrev cc3_stg3_0 : Ref sig .tc := ⟨.vmem, 16, rfl⟩
abbrev cc3_stg4_0 : Ref sig .tc := ⟨.vmem, 17, rfl⟩
abbrev cc3_stg5_0 : Ref sig .tc := ⟨.vmem, 18, rfl⟩
abbrev cc3_stg6_0 : Ref sig .tc := ⟨.vmem, 19, rfl⟩
abbrev cc3_stg7_0 : Ref sig .tc := ⟨.vmem, 20, rfl⟩
abbrev cc3_stg7_1 : Ref sig .tc := ⟨.vmem, 21, rfl⟩
abbrev cc5_stg0_0 : Ref sig .tc := ⟨.vmem, 22, rfl⟩
abbrev cc5_stg0_1 : Ref sig .tc := ⟨.vmem, 23, rfl⟩
abbrev cc5_stg1_0 : Ref sig .tc := ⟨.vmem, 24, rfl⟩
abbrev cc5_stg1_1 : Ref sig .tc := ⟨.vmem, 25, rfl⟩
abbrev cc5_stg2_0 : Ref sig .tc := ⟨.vmem, 26, rfl⟩
abbrev cc5_stg3_0 : Ref sig .tc := ⟨.vmem, 27, rfl⟩
abbrev cc5_stg4_0 : Ref sig .tc := ⟨.vmem, 28, rfl⟩
abbrev cc5_stg5_0 : Ref sig .tc := ⟨.vmem, 29, rfl⟩
abbrev cc5_stg6_0 : Ref sig .tc := ⟨.vmem, 30, rfl⟩
abbrev cc5_stg7_0 : Ref sig .tc := ⟨.vmem, 31, rfl⟩
abbrev cc5_stg7_1 : Ref sig .tc := ⟨.vmem, 32, rfl⟩
abbrev cc7_stg0_0 : Ref sig .tc := ⟨.vmem, 33, rfl⟩
abbrev cc7_stg0_1 : Ref sig .tc := ⟨.vmem, 34, rfl⟩
abbrev cc7_stg1_0 : Ref sig .tc := ⟨.vmem, 35, rfl⟩
abbrev cc7_stg1_1 : Ref sig .tc := ⟨.vmem, 36, rfl⟩
abbrev cc7_stg2_0 : Ref sig .tc := ⟨.vmem, 37, rfl⟩
abbrev cc7_stg3_0 : Ref sig .tc := ⟨.vmem, 38, rfl⟩
abbrev cc7_stg4_0 : Ref sig .tc := ⟨.vmem, 39, rfl⟩
abbrev cc7_stg5_0 : Ref sig .tc := ⟨.vmem, 40, rfl⟩
abbrev cc7_stg6_0 : Ref sig .tc := ⟨.vmem, 41, rfl⟩
abbrev cc7_stg7_0 : Ref sig .tc := ⟨.vmem, 42, rfl⟩
abbrev cc7_stg7_1 : Ref sig .tc := ⟨.vmem, 43, rfl⟩
abbrev cc9_stg0_0 : Ref sig .tc := ⟨.vmem, 44, rfl⟩
abbrev cc9_stg0_1 : Ref sig .tc := ⟨.vmem, 45, rfl⟩
abbrev cc9_stg1_0 : Ref sig .tc := ⟨.vmem, 46, rfl⟩
abbrev cc9_stg1_1 : Ref sig .tc := ⟨.vmem, 47, rfl⟩
abbrev cc9_stg2_0 : Ref sig .tc := ⟨.vmem, 48, rfl⟩
abbrev cc9_stg3_0 : Ref sig .tc := ⟨.vmem, 49, rfl⟩
abbrev cc9_stg4_0 : Ref sig .tc := ⟨.vmem, 50, rfl⟩
abbrev cc9_stg5_0 : Ref sig .tc := ⟨.vmem, 51, rfl⟩
abbrev cc9_stg6_0 : Ref sig .tc := ⟨.vmem, 52, rfl⟩
abbrev cc9_stg7_0 : Ref sig .tc := ⟨.vmem, 53, rfl⟩
abbrev cc9_stg7_1 : Ref sig .tc := ⟨.vmem, 54, rfl⟩
abbrev cc0_scoped0 : Ref sig .scVector := ⟨.vmem, 0, rfl⟩
abbrev cc0_scoped2 : Ref sig .scVector := ⟨.vmem, 1, rfl⟩
abbrev cc2_scoped0 : Ref sig .scVector := ⟨.vmem, 2, rfl⟩
abbrev cc2_scoped2 : Ref sig .scVector := ⟨.vmem, 3, rfl⟩
abbrev cc4_scoped0 : Ref sig .scVector := ⟨.vmem, 4, rfl⟩
abbrev cc4_scoped2 : Ref sig .scVector := ⟨.vmem, 5, rfl⟩
abbrev cc6_scoped0 : Ref sig .scVector := ⟨.vmem, 6, rfl⟩
abbrev cc6_scoped2 : Ref sig .scVector := ⟨.vmem, 7, rfl⟩
abbrev cc8_scoped0 : Ref sig .scVector := ⟨.vmem, 8, rfl⟩
abbrev cc8_scoped2 : Ref sig .scVector := ⟨.vmem, 9, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem6_0 : DmaSem sig := 31
abbrev cc3_sem7_0 : DmaSem sig := 32
abbrev cc3_sem7_1 : DmaSem sig := 33
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem4_0 : DmaSem sig := 46
abbrev cc5_sem5_0 : DmaSem sig := 47
abbrev cc5_sem6_0 : DmaSem sig := 48
abbrev cc5_sem7_0 : DmaSem sig := 49
abbrev cc5_sem7_1 : DmaSem sig := 50
abbrev cc7_sem0_0 : DmaSem sig := 57
abbrev cc7_sem0_1 : DmaSem sig := 58
abbrev cc7_sem1_0 : DmaSem sig := 59
abbrev cc7_sem1_1 : DmaSem sig := 60
abbrev cc7_sem2_0 : DmaSem sig := 61
abbrev cc7_sem3_0 : DmaSem sig := 62
abbrev cc7_sem4_0 : DmaSem sig := 63
abbrev cc7_sem5_0 : DmaSem sig := 64
abbrev cc7_sem6_0 : DmaSem sig := 65
abbrev cc7_sem7_0 : DmaSem sig := 66
abbrev cc7_sem7_1 : DmaSem sig := 67
abbrev cc9_sem0_0 : DmaSem sig := 74
abbrev cc9_sem0_1 : DmaSem sig := 75
abbrev cc9_sem1_0 : DmaSem sig := 76
abbrev cc9_sem1_1 : DmaSem sig := 77
abbrev cc9_sem2_0 : DmaSem sig := 78
abbrev cc9_sem3_0 : DmaSem sig := 79
abbrev cc9_sem4_0 : DmaSem sig := 80
abbrev cc9_sem5_0 : DmaSem sig := 81
abbrev cc9_sem6_0 : DmaSem sig := 82
abbrev cc9_sem7_0 : DmaSem sig := 83
abbrev cc9_sem7_1 : DmaSem sig := 84
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v11 : BitVec 32 := Scalar.muli c1_i32_3 v5
  let c0_i32_5_r0 : BitVec 32 := 0#32
  let v14_r0 : BitVec 1 := Scalar.cmpi .sgt v11 c0_i32_5_r0
  let v15_r0 : BitVec 32 := Scalar.extui v14_r0
  let c0_i32_6_r0 : BitVec 32 := 0#32
  let v16_r0 : BitVec 1 := Scalar.cmpi .ne v15_r0 c0_i32_6_r0
  v16_r0

def k0_cond2 (i : grid0.Coords) : BitVec 1 :=
  let true_22_r0 : BitVec 1 := 1#1
  let c1_i32_7_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v17_r0 : BitVec 32 := Scalar.muli c1_i32_7_r0 v5
  let c0_i32_21_r0 : BitVec 32 := 0#32
  let v35_r0 : BitVec 1 := Scalar.cmpi .sgt v17_r0 c0_i32_21_r0
  let v36_r0 : BitVec 1 := Scalar.andi true_22_r0 v35_r0
  let true_23_r0 : BitVec 1 := 1#1
  let v37_r0 : BitVec 1 := Scalar.andi v36_r0 true_23_r0
  let v38_r0 : BitVec 32 := Scalar.extui v37_r0
  let c0_i32_25_r0 : BitVec 32 := 0#32
  let v39_r0 : BitVec 1 := Scalar.cmpi .ne v38_r0 c0_i32_25_r0
  v39_r0

def k0_off1 : Fin 3 → Nat :=
  let c0_i32_24_r0 : BitVec 32 := 0#32
  let c2_i32_57_r0 : BitVec 32 := 2#32
  let v80_r0 : BitVec 32 := Scalar.remui c0_i32_24_r0 c2_i32_57_r0
  let c0_i32_58_r0 : BitVec 32 := 0#32
  let c0_i32_59_r0 : BitVec 32 := 0#32
  ![v80_r0.toNat, 0, 0]
def k0_off2 (i : grid0.Coords) : Fin 2 → Nat :=
  let c0_i32_60_r0 : BitVec 32 := 0#32
  let c128_i32_r0 : BitVec 32 := 128#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v20_r0 : BitVec 32 := Scalar.addi c0_i32_10_r0 v10
  let v81_r0 : BitVec 32 := Scalar.muli c128_i32_r0 v20_r0
  ![0, v81_r0.toNat]
def k0_off3 : Fin 1 → Nat :=
  let c0_i32_24_r0 : BitVec 32 := 0#32
  let c2_i32_57_r0 : BitVec 32 := 2#32
  let v80_r0 : BitVec 32 := Scalar.remui c0_i32_24_r0 c2_i32_57_r0
  ![v80_r0.toNat]
@[reducible] def k0_t1_loop (i : grid0.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_35_r0 : BitVec 32 := 1#32
  ⟨c0_i32_29_r0, v46_r0, c1_i32_35_r0⟩
def k0_off4 (arg6_r0 : BitVec 32) : Fin 3 → Nat :=
  let c2_i32_102_r0 : BitVec 32 := 2#32
  let v167_r0 : BitVec 32 := Scalar.remui arg6_r0 c2_i32_102_r0
  let c0_i32_103_r0 : BitVec 32 := 0#32
  let c0_i32_104_r0 : BitVec 32 := 0#32
  ![v167_r0.toNat, 0, 0]
def k0_cond3 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k0_t1
  let c1_i32_57_r0 : BitVec 32 := 1#32
  let v80_r0 : BitVec 32 := Scalar.muli c1_i32_57_r0 v5
  let c2_i32_70_r0 : BitVec 32 := 2#32
  let v102_r0 : BitVec 32 := Scalar.subi v80_r0 c2_i32_70_r0
  let c1_i32_71_r0 : BitVec 32 := 1#32
  let v103_r0 : BitVec 32 := Scalar.addi v102_r0 c1_i32_71_r0
  let v104_r0 : BitVec 1 := Scalar.cmpi .sge arg5_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k0_off5 (i : grid0.Coords) (arg10_r0 : BitVec 32) : Fin 2 → Nat :=
  let c0_i32_105_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v93_r0 : BitVec 1 := Scalar.cmpi .eq v92_r0 v5
  let c0_i32_66_r0 : BitVec 32 := 0#32
  let v94_r0 : BitVec 32 := Scalar.select v93_r0 c0_i32_66_r0 v92_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k0_off6 (arg6_r0 : BitVec 32) : Fin 1 → Nat :=
  let c2_i32_102_r0 : BitVec 32 := 2#32
  let v167_r0 : BitVec 32 := Scalar.remui arg6_r0 c2_i32_102_r0
  ![v167_r0.toNat]
def k0_off7 (arg7_r0 : BitVec 32) : Fin 3 → Nat :=
  let c2_i32_102_r0 : BitVec 32 := 2#32
  let v168_r0 : BitVec 32 := Scalar.remui arg7_r0 c2_i32_102_r0
  let c0_i32_103_r0 : BitVec 32 := 0#32
  let c0_i32_104_r0 : BitVec 32 := 0#32
  ![v168_r0.toNat, 0, 0]
def k0_cond4 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k0_t1
  let c0_i32_58_r0 : BitVec 32 := 0#32
  let v81_r0 : BitVec 1 := Scalar.cmpi .eq arg5_r0 c0_i32_58_r0
  let v120_r0 : BitVec 1 := Scalar.ori v119_r0 v81_r0
  let c0_i32_80_r0 : BitVec 32 := 0#32
  let v121_r0 : BitVec 1 := Scalar.cmpi .sge arg5_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k0_off8 (i : grid0.Coords) (arg10_r0 : BitVec 32) : Fin 2 → Nat :=
  let c0_i32_105_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k0_off9 (arg7_r0 : BitVec 32) : Fin 1 → Nat :=
  let c2_i32_102_r0 : BitVec 32 := 2#32
  let v168_r0 : BitVec 32 := Scalar.remui arg7_r0 c2_i32_102_r0
  ![v168_r0.toNat]
def k0_off10 (arg8_r0 : BitVec 32) : Fin 3 → Nat :=
  let c2_i32_85_r0 : BitVec 32 := 2#32
  let v132_r0 : BitVec 32 := Scalar.remui arg8_r0 c2_i32_85_r0
  let c0_i32_102_r1 : BitVec 32 := 0#32
  let c0_i32_103_r1 : BitVec 32 := 0#32
  ![v132_r0.toNat, 0, 0]

def k0_chk2 (i : grid0.Coords) (arg8_r0 : BitVec 32) : Prop :=
  (∀ (k0_h1 : k0_cond1 i = 1#1), ∀ a, (k0_off10 arg8_r0) a + S1x128x128.size a ≤ S2x128x128.size a)
theorem k0_off10_inb : ∀ (i : grid0.Coords) (arg8_r0 : BitVec 32) (k0_hw2 : k0_chk2 i arg8_r0), ∀ (k0_h1 : k0_cond1 i = 1#1), ∀ a, (k0_off10 arg8_r0) a + S1x128x128.size a ≤ S2x128x128.size a := fun i arg8_r0 k0_hw2 k0_h1 => k0_hw2 k0_h1

def k0_off11 (arg7_r0 : BitVec 32) : Fin 3 → Nat :=
  let c2_i32_84_r0 : BitVec 32 := 2#32
  let v131_r0 : BitVec 32 := Scalar.remui arg7_r0 c2_i32_84_r0
  let c0_i32_104_r1 : BitVec 32 := 0#32
  let c0_i32_105_r1 : BitVec 32 := 0#32
  ![v131_r0.toNat, 0, 0]

def k0_chk3 (i : grid0.Coords) (arg7_r0 : BitVec 32) : Prop :=
  (∀ (k0_h1 : k0_cond1 i = 1#1), ∀ a, (k0_off11 arg7_r0) a + S1x1x128.size a ≤ S2x1x128.size a)
theorem k0_off11_inb : ∀ (i : grid0.Coords) (arg7_r0 : BitVec 32) (k0_hw3 : k0_chk3 i arg7_r0), ∀ (k0_h1 : k0_cond1 i = 1#1), ∀ a, (k0_off11 arg7_r0) a + S1x1x128.size a ≤ S2x1x128.size a := fun i arg7_r0 k0_hw3 k0_h1 => k0_hw3 k0_h1

def k0_off12 (arg8_r0 : BitVec 32) : Fin 3 → Nat :=
  let c2_i32_102_r0 : BitVec 32 := 2#32
  let v167_r0 : BitVec 32 := Scalar.remui arg8_r0 c2_i32_102_r0
  let c0_i32_103_r0 : BitVec 32 := 0#32
  let c0_i32_104_r0 : BitVec 32 := 0#32
  ![v167_r0.toNat, 0, 0]
def k0_cond7 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k0_t1
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_88_r0 : BitVec 32 := 0#32
  let v141_r0 : BitVec 1 := Scalar.cmpi .ne v140_r0 c0_i32_88_r0
  v141_r0

def k0_off13 (i : grid0.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let v168_r0 : BitVec 32 := Scalar.muli c128_i32_r0 v84_r0
  let c0_i32_105_r0 : BitVec 32 := 0#32
  ![v168_r0.toNat, 0]
def k0_off14 (arg8_r0 : BitVec 32) : Fin 1 → Nat :=
  let c2_i32_102_r0 : BitVec 32 := 2#32
  let v167_r0 : BitVec 32 := Scalar.remui arg8_r0 c2_i32_102_r0
  ![v167_r0.toNat]
def k0_off15 (arg9_r0 : BitVec 32) : Fin 3 → Nat :=
  let c2_i32_102_r0 : BitVec 32 := 2#32
  let v167_r0 : BitVec 32 := Scalar.remui arg9_r0 c2_i32_102_r0
  let c0_i32_103_r0 : BitVec 32 := 0#32
  let c0_i32_104_r0 : BitVec 32 := 0#32
  ![v167_r0.toNat, 0, 0]
def k0_cond9 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k0_t1
  let c0_i32_58_r0 : BitVec 32 := 0#32
  let v81_r0 : BitVec 1 := Scalar.cmpi .eq arg5_r0 c0_i32_58_r0
  let true_94_r0 : BitVec 1 := 1#1
  let v152_r0 : BitVec 1 := Scalar.xori v81_r0 true_94_r0
  let v153_r0 : BitVec 1 := Scalar.andi v151_r0 v152_r0
  let v154_r0 : BitVec 32 := Scalar.extui v153_r0
  let c0_i32_95_r0 : BitVec 32 := 0#32
  let v155_r0 : BitVec 1 := Scalar.cmpi .ne v154_r0 c0_i32_95_r0
  v155_r0

def k0_off16 (i : grid0.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let c1_i32_63_r0 : BitVec 32 := 1#32
  let v88_r0 : BitVec 32 := Scalar.subi v5 c1_i32_63_r0
  let v89_r0 : BitVec 32 := Scalar.select v87_r0 v88_r0 v86_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi v89_r0 v10
  let v168_r0 : BitVec 32 := Scalar.muli c128_i32_r0 v90_r0
  let c0_i32_105_r0 : BitVec 32 := 0#32
  ![v168_r0.toNat, 0]
def k0_off17 (arg9_r0 : BitVec 32) : Fin 1 → Nat :=
  let c2_i32_102_r0 : BitVec 32 := 2#32
  let v167_r0 : BitVec 32 := Scalar.remui arg9_r0 c2_i32_102_r0
  ![v167_r0.toNat]

def k0_chk1 (i : grid0.Coords) (k0_t1 : Fin (k0_t1_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h3 : k0_cond3 i k0_t1 arg10_r0 = 1#1), ∀ a, (k0_off4 arg6_r0) a + S1x1x128.size a ≤ S2x1x128.size a) ∧
  (∀ (k0_h1 : k0_cond1 i = 1#1), ∀ (k0_h3 : k0_cond3 i k0_t1 arg10_r0 = 1#1), ∀ a, (k0_off5 i arg10_r0) a + S1x128.size a ≤ S1x160000.size a) ∧
  (∀ (k0_h1 : k0_cond1 i = 1#1), ∀ (k0_h3 : k0_cond3 i k0_t1 arg10_r0 = 1#1), ∀ a, (k0_off6 arg6_r0) a + S1.size a ≤ S2.size a) ∧
  (∀ (k0_h1 : k0_cond1 i = 1#1), ∀ (k0_h4 : k0_cond4 i k0_t1 arg10_r0 = 1#1), ∀ a, (k0_off7 arg7_r0) a + S1x1x128.size a ≤ S2x1x128.size a) ∧
  (∀ (k0_h1 : k0_cond1 i = 1#1), ∀ (k0_h4 : k0_cond4 i k0_t1 arg10_r0 = 1#1), ∀ a, (k0_off8 i arg10_r0) a + S1x128.size a ≤ S1x160000.size a) ∧
  (∀ (k0_h1 : k0_cond1 i = 1#1), ∀ (k0_h4 : k0_cond4 i k0_t1 arg10_r0 = 1#1), ∀ a, (k0_off9 arg7_r0) a + S1.size a ≤ S2.size a) ∧
  (∀ (k0_h1 : k0_cond1 i = 1#1), ∀ (k0_h7 : k0_cond7 i k0_t1 arg10_r0 = 1#1), ∀ a, (k0_off12 arg8_r0) a + S1x128x128.size a ≤ S2x128x128.size a) ∧
  (∀ (k0_h1 : k0_cond1 i = 1#1), ∀ (k0_h7 : k0_cond7 i k0_t1 arg10_r0 = 1#1), ∀ a, (k0_off13 i arg10_r0) a + S128x128.size a ≤ S160000x128.size a) ∧
  (∀ (k0_h1 : k0_cond1 i = 1#1), ∀ (k0_h7 : k0_cond7 i k0_t1 arg10_r0 = 1#1), ∀ a, (k0_off14 arg8_r0) a + S1.size a ≤ S2.size a) ∧
  (∀ (k0_h1 : k0_cond1 i = 1#1), ∀ (k0_h9 : k0_cond9 i k0_t1 arg10_r0 = 1#1), ∀ a, (k0_off15 arg9_r0) a + S1x128x128.size a ≤ S2x128x128.size a) ∧
  (∀ (k0_h1 : k0_cond1 i = 1#1), ∀ (k0_h9 : k0_cond9 i k0_t1 arg10_r0 = 1#1), ∀ a, (k0_off16 i arg10_r0) a + S128x128.size a ≤ S160000x128.size a) ∧
  (∀ (k0_h1 : k0_cond1 i = 1#1), ∀ (k0_h9 : k0_cond9 i k0_t1 arg10_r0 = 1#1), ∀ a, (k0_off17 arg9_r0) a + S1.size a ≤ S2.size a)
theorem k0_off4_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off4 arg6_r0) a + S1x1x128.size a ≤ S2x1x128.size a := fun i k0_t1 arg6_r0 arg7_r0 arg8_r0 arg9_r0 arg10_r0 k0_hw1 k0_h1 k0_h3 => k0_hw1.1 k0_h1 k0_h3
theorem k0_off5_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off5 i arg10_r0) a + S1x128.size a ≤ S1x160000.size a := fun i k0_t1 arg6_r0 arg7_r0 arg8_r0 arg9_r0 arg10_r0 k0_hw1 k0_h1 k0_h3 => k0_hw1.2.1 k0_h1 k0_h3
theorem k0_off6_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off6 arg6_r0) a + S1.size a ≤ S2.size a := fun i k0_t1 arg6_r0 arg7_r0 arg8_r0 arg9_r0 arg10_r0 k0_hw1 k0_h1 k0_h3 => k0_hw1.2.2.1 k0_h1 k0_h3
theorem k0_off7_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off7 arg7_r0) a + S1x1x128.size a ≤ S2x1x128.size a := fun i k0_t1 arg6_r0 arg7_r0 arg8_r0 arg9_r0 arg10_r0 k0_hw1 k0_h1 k0_h4 => k0_hw1.2.2.2.1 k0_h1 k0_h4
theorem k0_off8_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off8 i arg10_r0) a + S1x128.size a ≤ S1x160000.size a := fun i k0_t1 arg6_r0 arg7_r0 arg8_r0 arg9_r0 arg10_r0 k0_hw1 k0_h1 k0_h4 => k0_hw1.2.2.2.2.1 k0_h1 k0_h4
theorem k0_off9_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off9 arg7_r0) a + S1.size a ≤ S2.size a := fun i k0_t1 arg6_r0 arg7_r0 arg8_r0 arg9_r0 arg10_r0 k0_hw1 k0_h1 k0_h4 => k0_hw1.2.2.2.2.2.1 k0_h1 k0_h4
theorem k0_off12_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off12 arg8_r0) a + S1x128x128.size a ≤ S2x128x128.size a := fun i k0_t1 arg6_r0 arg7_r0 arg8_r0 arg9_r0 arg10_r0 k0_hw1 k0_h1 k0_h7 => k0_hw1.2.2.2.2.2.2.1 k0_h1 k0_h7
theorem k0_off13_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off13 i arg10_r0) a + S128x128.size a ≤ S160000x128.size a := fun i k0_t1 arg6_r0 arg7_r0 arg8_r0 arg9_r0 arg10_r0 k0_hw1 k0_h1 k0_h7 => k0_hw1.2.2.2.2.2.2.2.1 k0_h1 k0_h7
theorem k0_off14_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off14 arg8_r0) a + S1.size a ≤ S2.size a := fun i k0_t1 arg6_r0 arg7_r0 arg8_r0 arg9_r0 arg10_r0 k0_hw1 k0_h1 k0_h7 => k0_hw1.2.2.2.2.2.2.2.2.1 k0_h1 k0_h7
theorem k0_off15_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off15 arg9_r0) a + S1x128x128.size a ≤ S2x128x128.size a := fun i k0_t1 arg6_r0 arg7_r0 arg8_r0 arg9_r0 arg10_r0 k0_hw1 k0_h1 k0_h9 => k0_hw1.2.2.2.2.2.2.2.2.2.1 k0_h1 k0_h9
theorem k0_off16_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off16 i arg10_r0) a + S128x128.size a ≤ S160000x128.size a := fun i k0_t1 arg6_r0 arg7_r0 arg8_r0 arg9_r0 arg10_r0 k0_hw1 k0_h1 k0_h9 => k0_hw1.2.2.2.2.2.2.2.2.2.2.1 k0_h1 k0_h9
theorem k0_off17_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off17 arg9_r0) a + S1.size a ≤ S2.size a := fun i k0_t1 arg6_r0 arg7_r0 arg8_r0 arg9_r0 arg10_r0 k0_hw1 k0_h1 k0_h9 => k0_hw1.2.2.2.2.2.2.2.2.2.2.2 k0_h1 k0_h9

@[reducible] def k0_t2_loop (i : grid0.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let v43_r0 : BitVec 32 := Scalar.addi c0_i32_29_r0 v42_r0
  let c1_i32_36_r0 : BitVec 32 := 1#32
  ⟨v46_r0, v43_r0, c1_i32_36_r0⟩
def k0_off18 (arg6_r0 : BitVec 32) : Fin 3 → Nat :=
  let c2_i32_102_r0 : BitVec 32 := 2#32
  let v167_r0 : BitVec 32 := Scalar.remui arg6_r0 c2_i32_102_r0
  let c0_i32_103_r0 : BitVec 32 := 0#32
  let c0_i32_104_r0 : BitVec 32 := 0#32
  ![v167_r0.toNat, 0, 0]
def k0_cond10 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c1_i32_57_r0 : BitVec 32 := 1#32
  let v80_r0 : BitVec 32 := Scalar.muli c1_i32_57_r0 v5
  let c2_i32_70_r0 : BitVec 32 := 2#32
  let v102_r0 : BitVec 32 := Scalar.subi v80_r0 c2_i32_70_r0
  let c1_i32_71_r0 : BitVec 32 := 1#32
  let v103_r0 : BitVec 32 := Scalar.addi v102_r0 c1_i32_71_r0
  let v104_r0 : BitVec 1 := Scalar.cmpi .sge arg5_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k0_off19 (i : grid0.Coords) (arg10_r0 : BitVec 32) : Fin 2 → Nat :=
  let c0_i32_105_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v93_r0 : BitVec 1 := Scalar.cmpi .eq v92_r0 v5
  let c0_i32_66_r0 : BitVec 32 := 0#32
  let v94_r0 : BitVec 32 := Scalar.select v93_r0 c0_i32_66_r0 v92_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k0_off20 (arg6_r0 : BitVec 32) : Fin 1 → Nat :=
  let c2_i32_102_r0 : BitVec 32 := 2#32
  let v167_r0 : BitVec 32 := Scalar.remui arg6_r0 c2_i32_102_r0
  ![v167_r0.toNat]
def k0_off21 (arg7_r0 : BitVec 32) : Fin 3 → Nat :=
  let c2_i32_102_r0 : BitVec 32 := 2#32
  let v168_r0 : BitVec 32 := Scalar.remui arg7_r0 c2_i32_102_r0
  let c0_i32_103_r0 : BitVec 32 := 0#32
  let c0_i32_104_r0 : BitVec 32 := 0#32
  ![v168_r0.toNat, 0, 0]
def k0_cond11 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c0_i32_58_r0 : BitVec 32 := 0#32
  let v81_r0 : BitVec 1 := Scalar.cmpi .eq arg5_r0 c0_i32_58_r0
  let v120_r0 : BitVec 1 := Scalar.ori v119_r0 v81_r0
  let c0_i32_80_r0 : BitVec 32 := 0#32
  let v121_r0 : BitVec 1 := Scalar.cmpi .sge arg5_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k0_off22 (i : grid0.Coords) (arg10_r0 : BitVec 32) : Fin 2 → Nat :=
  let c0_i32_105_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k0_off23 (arg7_r0 : BitVec 32) : Fin 1 → Nat :=
  let c2_i32_102_r0 : BitVec 32 := 2#32
  let v168_r0 : BitVec 32 := Scalar.remui arg7_r0 c2_i32_102_r0
  ![v168_r0.toNat]
def k0_off24 (arg8_r0 : BitVec 32) : Fin 3 → Nat :=
  let c2_i32_85_r0 : BitVec 32 := 2#32
  let v132_r0 : BitVec 32 := Scalar.remui arg8_r0 c2_i32_85_r0
  let c0_i32_102_r2 : BitVec 32 := 0#32
  let c0_i32_103_r2 : BitVec 32 := 0#32
  ![v132_r0.toNat, 0, 0]

def k0_chk5 (i : grid0.Coords) (k0_t2 : Fin (k0_t2_loop i).trips) (arg8_r0 : BitVec 32) : Prop :=
  (∀ (k0_h1 : k0_cond1 i = 1#1), ∀ a, (k0_off24 arg8_r0) a + S1x128x128.size a ≤ S2x128x128.size a)
theorem k0_off24_inb : ∀ (i : grid0.Coords) (k0_t2 : Fin (k0_t2_loop i).trips) (arg8_r0 : BitVec 32) (k0_hw5 : k0_chk5 i k0_t2 arg8_r0), ∀ (k0_h1 : k0_cond1 i = 1#1), ∀ a, (k0_off24 arg8_r0) a + S1x128x128.size a ≤ S2x128x128.size a := fun i k0_t2 arg8_r0 k0_hw5 k0_h1 => k0_hw5 k0_h1

def k0_off25 (arg7_r0 : BitVec 32) : Fin 3 → Nat :=
  let c2_i32_84_r0 : BitVec 32 := 2#32
  let v131_r0 : BitVec 32 := Scalar.remui arg7_r0 c2_i32_84_r0
  let c0_i32_104_r2 : BitVec 32 := 0#32
  let c0_i32_105_r2 : BitVec 32 := 0#32
  ![v131_r0.toNat, 0, 0]

def k0_chk6 (i : grid0.Coords) (k0_t2 : Fin (k0_t2_loop i).trips) (arg7_r0 : BitVec 32) : Prop :=
  (∀ (k0_h1 : k0_cond1 i = 1#1), ∀ a, (k0_off25 arg7_r0) a + S1x1x128.size a ≤ S2x1x128.size a)
theorem k0_off25_inb : ∀ (i : grid0.Coords) (k0_t2 : Fin (k0_t2_loop i).trips) (arg7_r0 : BitVec 32) (k0_hw6 : k0_chk6 i k0_t2 arg7_r0), ∀ (k0_h1 : k0_cond1 i = 1#1), ∀ a, (k0_off25 arg7_r0) a + S1x1x128.size a ≤ S2x1x128.size a := fun i k0_t2 arg7_r0 k0_hw6 k0_h1 => k0_hw6 k0_h1

def k0_off26 (arg8_r0 : BitVec 32) : Fin 3 → Nat :=
  let c2_i32_102_r0 : BitVec 32 := 2#32
  let v167_r0 : BitVec 32 := Scalar.remui arg8_r0 c2_i32_102_r0
  let c0_i32_103_r0 : BitVec 32 := 0#32
  let c0_i32_104_r0 : BitVec 32 := 0#32
  ![v167_r0.toNat, 0, 0]
def k0_cond14 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_88_r0 : BitVec 32 := 0#32
  let v141_r0 : BitVec 1 := Scalar.cmpi .ne v140_r0 c0_i32_88_r0
  v141_r0

def k0_off27 (i : grid0.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let v168_r0 : BitVec 32 := Scalar.muli c128_i32_r0 v84_r0
  let c0_i32_105_r0 : BitVec 32 := 0#32
  ![v168_r0.toNat, 0]
def k0_off28 (arg8_r0 : BitVec 32) : Fin 1 → Nat :=
  let c2_i32_102_r0 : BitVec 32 := 2#32
  let v167_r0 : BitVec 32 := Scalar.remui arg8_r0 c2_i32_102_r0
  ![v167_r0.toNat]
def k0_off29 (arg9_r0 : BitVec 32) : Fin 3 → Nat :=
  let c2_i32_102_r0 : BitVec 32 := 2#32
  let v167_r0 : BitVec 32 := Scalar.remui arg9_r0 c2_i32_102_r0
  let c0_i32_103_r0 : BitVec 32 := 0#32
  let c0_i32_104_r0 : BitVec 32 := 0#32
  ![v167_r0.toNat, 0, 0]
def k0_cond16 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c0_i32_58_r0 : BitVec 32 := 0#32
  let v81_r0 : BitVec 1 := Scalar.cmpi .eq arg5_r0 c0_i32_58_r0
  let true_94_r0 : BitVec 1 := 1#1
  let v152_r0 : BitVec 1 := Scalar.xori v81_r0 true_94_r0
  let v153_r0 : BitVec 1 := Scalar.andi v151_r0 v152_r0
  let v154_r0 : BitVec 32 := Scalar.extui v153_r0
  let c0_i32_95_r0 : BitVec 32 := 0#32
  let v155_r0 : BitVec 1 := Scalar.cmpi .ne v154_r0 c0_i32_95_r0
  v155_r0

def k0_off30 (i : grid0.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let c1_i32_63_r0 : BitVec 32 := 1#32
  let v88_r0 : BitVec 32 := Scalar.subi v5 c1_i32_63_r0
  let v89_r0 : BitVec 32 := Scalar.select v87_r0 v88_r0 v86_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi v89_r0 v10
  let v168_r0 : BitVec 32 := Scalar.muli c128_i32_r0 v90_r0
  let c0_i32_105_r0 : BitVec 32 := 0#32
  ![v168_r0.toNat, 0]
def k0_off31 (arg9_r0 : BitVec 32) : Fin 1 → Nat :=
  let c2_i32_102_r0 : BitVec 32 := 2#32
  let v167_r0 : BitVec 32 := Scalar.remui arg9_r0 c2_i32_102_r0
  ![v167_r0.toNat]

def k0_chk4 (i : grid0.Coords) (k0_t2 : Fin (k0_t2_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h10 : k0_cond10 i k0_t2 arg10_r0 = 1#1), ∀ a, (k0_off18 arg6_r0) a + S1x1x128.size a ≤ S2x1x128.size a) ∧
  (∀ (k0_h1 : k0_cond1 i = 1#1), ∀ (k0_h10 : k0_cond10 i k0_t2 arg10_r0 = 1#1), ∀ a, (k0_off19 i arg10_r0) a + S1x128.size a ≤ S1x160000.size a) ∧
  (∀ (k0_h1 : k0_cond1 i = 1#1), ∀ (k0_h10 : k0_cond10 i k0_t2 arg10_r0 = 1#1), ∀ a, (k0_off20 arg6_r0) a + S1.size a ≤ S2.size a) ∧
  (∀ (k0_h1 : k0_cond1 i = 1#1), ∀ (k0_h11 : k0_cond11 i k0_t2 arg10_r0 = 1#1), ∀ a, (k0_off21 arg7_r0) a + S1x1x128.size a ≤ S2x1x128.size a) ∧
  (∀ (k0_h1 : k0_cond1 i = 1#1), ∀ (k0_h11 : k0_cond11 i k0_t2 arg10_r0 = 1#1), ∀ a, (k0_off22 i arg10_r0) a + S1x128.size a ≤ S1x160000.size a) ∧
  (∀ (k0_h1 : k0_cond1 i = 1#1), ∀ (k0_h11 : k0_cond11 i k0_t2 arg10_r0 = 1#1), ∀ a, (k0_off23 arg7_r0) a + S1.size a ≤ S2.size a) ∧
  (∀ (k0_h1 : k0_cond1 i = 1#1), ∀ (k0_h14 : k0_cond14 i k0_t2 arg10_r0 = 1#1), ∀ a, (k0_off26 arg8_r0) a + S1x128x128.size a ≤ S2x128x128.size a) ∧
  (∀ (k0_h1 : k0_cond1 i = 1#1), ∀ (k0_h14 : k0_cond14 i k0_t2 arg10_r0 = 1#1), ∀ a, (k0_off27 i arg10_r0) a + S128x128.size a ≤ S160000x128.size a) ∧
  (∀ (k0_h1 : k0_cond1 i = 1#1), ∀ (k0_h14 : k0_cond14 i k0_t2 arg10_r0 = 1#1), ∀ a, (k0_off28 arg8_r0) a + S1.size a ≤ S2.size a) ∧
  (∀ (k0_h1 : k0_cond1 i = 1#1), ∀ (k0_h16 : k0_cond16 i k0_t2 arg10_r0 = 1#1), ∀ a, (k0_off29 arg9_r0) a + S1x128x128.size a ≤ S2x128x128.size a) ∧
  (∀ (k0_h1 : k0_cond1 i = 1#1), ∀ (k0_h16 : k0_cond16 i k0_t2 arg10_r0 = 1#1), ∀ a, (k0_off30 i arg10_r0) a + S128x128.size a ≤ S160000x128.size a) ∧
  (∀ (k0_h1 : k0_cond1 i = 1#1), ∀ (k0_h16 : k0_cond16 i k0_t2 arg10_r0 = 1#1), ∀ a, (k0_off31 arg9_r0) a + S1.size a ≤ S2.size a)
theorem k0_off18_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off18 arg6_r0) a + S1x1x128.size a ≤ S2x1x128.size a := fun i k0_t2 arg6_r0 arg7_r0 arg8_r0 arg9_r0 arg10_r0 k0_hw4 k0_h1 k0_h10 => k0_hw4.1 k0_h1 k0_h10
theorem k0_off19_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off19 i arg10_r0) a + S1x128.size a ≤ S1x160000.size a := fun i k0_t2 arg6_r0 arg7_r0 arg8_r0 arg9_r0 arg10_r0 k0_hw4 k0_h1 k0_h10 => k0_hw4.2.1 k0_h1 k0_h10
theorem k0_off20_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off20 arg6_r0) a + S1.size a ≤ S2.size a := fun i k0_t2 arg6_r0 arg7_r0 arg8_r0 arg9_r0 arg10_r0 k0_hw4 k0_h1 k0_h10 => k0_hw4.2.2.1 k0_h1 k0_h10
theorem k0_off21_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off21 arg7_r0) a + S1x1x128.size a ≤ S2x1x128.size a := fun i k0_t2 arg6_r0 arg7_r0 arg8_r0 arg9_r0 arg10_r0 k0_hw4 k0_h1 k0_h11 => k0_hw4.2.2.2.1 k0_h1 k0_h11
theorem k0_off22_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off22 i arg10_r0) a + S1x128.size a ≤ S1x160000.size a := fun i k0_t2 arg6_r0 arg7_r0 arg8_r0 arg9_r0 arg10_r0 k0_hw4 k0_h1 k0_h11 => k0_hw4.2.2.2.2.1 k0_h1 k0_h11
theorem k0_off23_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off23 arg7_r0) a + S1.size a ≤ S2.size a := fun i k0_t2 arg6_r0 arg7_r0 arg8_r0 arg9_r0 arg10_r0 k0_hw4 k0_h1 k0_h11 => k0_hw4.2.2.2.2.2.1 k0_h1 k0_h11
theorem k0_off26_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off26 arg8_r0) a + S1x128x128.size a ≤ S2x128x128.size a := fun i k0_t2 arg6_r0 arg7_r0 arg8_r0 arg9_r0 arg10_r0 k0_hw4 k0_h1 k0_h14 => k0_hw4.2.2.2.2.2.2.1 k0_h1 k0_h14
theorem k0_off27_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off27 i arg10_r0) a + S128x128.size a ≤ S160000x128.size a := fun i k0_t2 arg6_r0 arg7_r0 arg8_r0 arg9_r0 arg10_r0 k0_hw4 k0_h1 k0_h14 => k0_hw4.2.2.2.2.2.2.2.1 k0_h1 k0_h14
theorem k0_off28_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off28 arg8_r0) a + S1.size a ≤ S2.size a := fun i k0_t2 arg6_r0 arg7_r0 arg8_r0 arg9_r0 arg10_r0 k0_hw4 k0_h1 k0_h14 => k0_hw4.2.2.2.2.2.2.2.2.1 k0_h1 k0_h14
theorem k0_off29_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off29 arg9_r0) a + S1x128x128.size a ≤ S2x128x128.size a := fun i k0_t2 arg6_r0 arg7_r0 arg8_r0 arg9_r0 arg10_r0 k0_hw4 k0_h1 k0_h16 => k0_hw4.2.2.2.2.2.2.2.2.2.1 k0_h1 k0_h16
theorem k0_off30_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off30 i arg10_r0) a + S128x128.size a ≤ S160000x128.size a := fun i k0_t2 arg6_r0 arg7_r0 arg8_r0 arg9_r0 arg10_r0 k0_hw4 k0_h1 k0_h16 => k0_hw4.2.2.2.2.2.2.2.2.2.2.1 k0_h1 k0_h16
theorem k0_off31_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off31 arg9_r0) a + S1.size a ≤ S2.size a := fun i k0_t2 arg6_r0 arg7_r0 arg8_r0 arg9_r0 arg10_r0 k0_hw4 k0_h1 k0_h16 => k0_hw4.2.2.2.2.2.2.2.2.2.2.2 k0_h1 k0_h16

def k0_cond18 (i : grid0.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v11 : BitVec 32 := Scalar.muli c1_i32_3 v5
  let c1_i32_41_r0 : BitVec 32 := 1#32
  let v54_r0 : BitVec 32 := Scalar.subi v11 c1_i32_41_r0
  let c1_i32_42_r0 : BitVec 32 := 1#32
  let v55_r0 : BitVec 32 := Scalar.muli c1_i32_42_r0 v5
  let c1_i32_44_r0 : BitVec 32 := 1#32
  let v57_r0 : BitVec 32 := Scalar.subi v55_r0 c1_i32_44_r0
  let v58_r0 : BitVec 1 := Scalar.cmpi .eq v54_r0 v57_r0
  let v78_r0 : BitVec 32 := Scalar.extui v58_r0
  let c0_i32_56_r0 : BitVec 32 := 0#32
  let v79_r0 : BitVec 1 := Scalar.cmpi .ne v78_r0 c0_i32_56_r0
  v79_r0

def k0_off32 (v48_3_r0 : BitVec 32) : Fin 3 → Nat :=
  let c2_i32_57_r0 : BitVec 32 := 2#32
  let v80_r0 : BitVec 32 := Scalar.remui v48_3_r0 c2_i32_57_r0
  let c0_i32_58_r0 : BitVec 32 := 0#32
  let c0_i32_59_r0 : BitVec 32 := 0#32
  ![v80_r0.toNat, 0, 0]

def k0_off33 (i : grid0.Coords) (v48_4_r0 : BitVec 32) : Fin 2 → Nat :=
  let c128_i32_r0 : BitVec 32 := 128#32
  let true_38_r0 : BitVec 1 := 1#1
  let c1_i32_37_r0 : BitVec 32 := 1#32
  let v49_r0 : BitVec 32 := Scalar.subi v48_4_r0 c1_i32_37_r0
  let v50_r0 : BitVec 32 := Scalar.select true_38_r0 v49_r0 v48_4_r0
  let c_m1_i32_39_r0 : BitVec 32 := 4294967295#32
  let v51_r0 : BitVec 1 := Scalar.cmpi .eq v50_r0 c_m1_i32_39_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let c1_i32_40_r0 : BitVec 32 := 1#32
  let v52_r0 : BitVec 32 := Scalar.subi v5 c1_i32_40_r0
  let v53_r0 : BitVec 32 := Scalar.select v51_r0 v52_r0 v50_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v59_r0 : BitVec 32 := Scalar.addi v53_r0 v10
  let v81_r0 : BitVec 32 := Scalar.muli c128_i32_r0 v59_r0
  let c0_i32_60_r0 : BitVec 32 := 0#32
  ![v81_r0.toNat, 0]

def k0_chk8 (i : grid0.Coords) (v48_4_r0 : BitVec 32) : Prop :=
  (∀ (k0_h1 : k0_cond1 i = 1#1), ∀ (k0_h18 : k0_cond18 i = 1#1), ∀ a, (k0_off33 i v48_4_r0) a + S128x128.size a ≤ S160000x128.size a)
theorem k0_off33_inb : ∀ (i : grid0.Coords) (v48_4_r0 : BitVec 32) (k0_hw8 : k0_chk8 i v48_4_r0), ∀ (k0_h1 : k0_cond1 i = 1#1), ∀ (k0_h18 : k0_cond18 i = 1#1), ∀ a, (k0_off33 i v48_4_r0) a + S128x128.size a ≤ S160000x128.size a := fun i v48_4_r0 k0_hw8 k0_h1 k0_h18 => k0_hw8 k0_h1 k0_h18

def k0_off34 (v48_3_r0 : BitVec 32) : Fin 1 → Nat :=
  let c2_i32_57_r0 : BitVec 32 := 2#32
  let v80_r0 : BitVec 32 := Scalar.remui v48_3_r0 c2_i32_57_r0
  ![v80_r0.toNat]
def k0_off35 (v48_3_r0 : BitVec 32) : Fin 3 → Nat :=
  let c2_i32_57_r0 : BitVec 32 := 2#32
  let v80_r0 : BitVec 32 := Scalar.remui v48_3_r0 c2_i32_57_r0
  let c0_i32_62_r0 : BitVec 32 := 0#32
  let c0_i32_63_r0 : BitVec 32 := 0#32
  ![v80_r0.toNat, 0, 0]

def k0_chk7 (i : grid0.Coords) (v48_3_r0 : BitVec 32) : Prop :=
  (∀ (k0_h1 : k0_cond1 i = 1#1), ∀ (k0_h18 : k0_cond18 i = 1#1), ∀ a, (k0_off32 v48_3_r0) a + S1x128x128.size a ≤ S2x128x128.size a) ∧
  (∀ (k0_h1 : k0_cond1 i = 1#1), ∀ (k0_h18 : k0_cond18 i = 1#1), ∀ a, (k0_off34 v48_3_r0) a + S1.size a ≤ S2.size a) ∧
  (∀ (k0_h1 : k0_cond1 i = 1#1), ∀ (k0_h18 : k0_cond18 i = 1#1), ∀ a, (k0_off35 v48_3_r0) a + S1x128x128.size a ≤ S2x128x128.size a)
theorem k0_off32_inb : ∀ (i : grid0.Coords) (v48_3_r0 : BitVec 32) (k0_hw7 : k0_chk7 i v48_3_r0), ∀ (k0_h1 : k0_cond1 i = 1#1), ∀ (k0_h18 : k0_cond18 i = 1#1), ∀ a, (k0_off32 v48_3_r0) a + S1x128x128.size a ≤ S2x128x128.size a := fun i v48_3_r0 k0_hw7 k0_h1 k0_h18 => k0_hw7.1 k0_h1 k0_h18
theorem k0_off34_inb : ∀ (i : grid0.Coords) (v48_3_r0 : BitVec 32) (k0_hw7 : k0_chk7 i v48_3_r0), ∀ (k0_h1 : k0_cond1 i = 1#1), ∀ (k0_h18 : k0_cond18 i = 1#1), ∀ a, (k0_off34 v48_3_r0) a + S1.size a ≤ S2.size a := fun i v48_3_r0 k0_hw7 k0_h1 k0_h18 => k0_hw7.2.1 k0_h1 k0_h18
theorem k0_off35_inb : ∀ (i : grid0.Coords) (v48_3_r0 : BitVec 32) (k0_hw7 : k0_chk7 i v48_3_r0), ∀ (k0_h1 : k0_cond1 i = 1#1), ∀ (k0_h18 : k0_cond18 i = 1#1), ∀ a, (k0_off35 v48_3_r0) a + S1x128x128.size a ≤ S2x128x128.size a := fun i v48_3_r0 k0_hw7 k0_h1 k0_h18 => k0_hw7.2.2 k0_h1 k0_h18

abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x400x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x960 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S960x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S960x64 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S400x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨2, ![2, 16], ![false, false]⟩

def k2_cond1 (i : grid2.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v11 : BitVec 32 := Scalar.muli c1_i32_3 v5
  let c0_i32_5_r0 : BitVec 32 := 0#32
  let v14_r0 : BitVec 1 := Scalar.cmpi .sgt v11 c0_i32_5_r0
  let v15_r0 : BitVec 32 := Scalar.extui v14_r0
  let c0_i32_6_r0 : BitVec 32 := 0#32
  let v16_r0 : BitVec 1 := Scalar.cmpi .ne v15_r0 c0_i32_6_r0
  v16_r0

def k2_cond2 (i : grid2.Coords) : BitVec 1 :=
  let true_22_r0 : BitVec 1 := 1#1
  let c1_i32_7_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v17_r0 : BitVec 32 := Scalar.muli c1_i32_7_r0 v5
  let c0_i32_21_r0 : BitVec 32 := 0#32
  let v35_r0 : BitVec 1 := Scalar.cmpi .sgt v17_r0 c0_i32_21_r0
  let v36_r0 : BitVec 1 := Scalar.andi true_22_r0 v35_r0
  let true_23_r0 : BitVec 1 := 1#1
  let v37_r0 : BitVec 1 := Scalar.andi v36_r0 true_23_r0
  let v38_r0 : BitVec 32 := Scalar.extui v37_r0
  let c0_i32_25_r0 : BitVec 32 := 0#32
  let v39_r0 : BitVec 1 := Scalar.cmpi .ne v38_r0 c0_i32_25_r0
  v39_r0

def k2_off1 : Fin 3 → Nat :=
  let c0_i32_24_r0 : BitVec 32 := 0#32
  let c2_i32_57_r0 : BitVec 32 := 2#32
  let v80_r0 : BitVec 32 := Scalar.remui c0_i32_24_r0 c2_i32_57_r0
  let c0_i32_58_r0 : BitVec 32 := 0#32
  let c0_i32_59_r0 : BitVec 32 := 0#32
  ![v80_r0.toNat, 0, 0]
def k2_off2 (i : grid2.Coords) : Fin 2 → Nat :=
  let c0_i32_60_r0 : BitVec 32 := 0#32
  let c128_i32_r0 : BitVec 32 := 128#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v20_r0 : BitVec 32 := Scalar.addi c0_i32_10_r0 v10
  let v81_r0 : BitVec 32 := Scalar.muli c128_i32_r0 v20_r0
  ![0, v81_r0.toNat]
def k2_off3 : Fin 1 → Nat :=
  let c0_i32_24_r0 : BitVec 32 := 0#32
  let c2_i32_57_r0 : BitVec 32 := 2#32
  let v80_r0 : BitVec 32 := Scalar.remui c0_i32_24_r0 c2_i32_57_r0
  ![v80_r0.toNat]
@[reducible] def k2_t1_loop (i : grid2.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_35_r0 : BitVec 32 := 1#32
  ⟨c0_i32_29_r0, v46_r0, c1_i32_35_r0⟩
def k2_off4 (arg6_r0 : BitVec 32) : Fin 3 → Nat :=
  let c2_i32_102_r0 : BitVec 32 := 2#32
  let v167_r0 : BitVec 32 := Scalar.remui arg6_r0 c2_i32_102_r0
  let c0_i32_103_r0 : BitVec 32 := 0#32
  let c0_i32_104_r0 : BitVec 32 := 0#32
  ![v167_r0.toNat, 0, 0]
def k2_cond3 (i : grid2.Coords) (k2_t1 : Fin (k2_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k2_t1
  let c1_i32_57_r0 : BitVec 32 := 1#32
  let v80_r0 : BitVec 32 := Scalar.muli c1_i32_57_r0 v5
  let c2_i32_70_r0 : BitVec 32 := 2#32
  let v102_r0 : BitVec 32 := Scalar.subi v80_r0 c2_i32_70_r0
  let c1_i32_71_r0 : BitVec 32 := 1#32
  let v103_r0 : BitVec 32 := Scalar.addi v102_r0 c1_i32_71_r0
  let v104_r0 : BitVec 1 := Scalar.cmpi .sge arg5_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k2_off5 (i : grid2.Coords) (arg10_r0 : BitVec 32) : Fin 2 → Nat :=
  let c0_i32_105_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v93_r0 : BitVec 1 := Scalar.cmpi .eq v92_r0 v5
  let c0_i32_66_r0 : BitVec 32 := 0#32
  let v94_r0 : BitVec 32 := Scalar.select v93_r0 c0_i32_66_r0 v92_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k2_off6 (arg6_r0 : BitVec 32) : Fin 1 → Nat :=
  let c2_i32_102_r0 : BitVec 32 := 2#32
  let v167_r0 : BitVec 32 := Scalar.remui arg6_r0 c2_i32_102_r0
  ![v167_r0.toNat]
def k2_off7 (arg7_r0 : BitVec 32) : Fin 3 → Nat :=
  let c2_i32_102_r0 : BitVec 32 := 2#32
  let v168_r0 : BitVec 32 := Scalar.remui arg7_r0 c2_i32_102_r0
  let c0_i32_103_r0 : BitVec 32 := 0#32
  let c0_i32_104_r0 : BitVec 32 := 0#32
  ![v168_r0.toNat, 0, 0]
def k2_cond4 (i : grid2.Coords) (k2_t1 : Fin (k2_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k2_t1
  let c0_i32_58_r0 : BitVec 32 := 0#32
  let v81_r0 : BitVec 1 := Scalar.cmpi .eq arg5_r0 c0_i32_58_r0
  let v120_r0 : BitVec 1 := Scalar.ori v119_r0 v81_r0
  let c0_i32_80_r0 : BitVec 32 := 0#32
  let v121_r0 : BitVec 1 := Scalar.cmpi .sge arg5_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k2_off8 (i : grid2.Coords) (arg10_r0 : BitVec 32) : Fin 2 → Nat :=
  let c0_i32_105_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k2_off9 (arg7_r0 : BitVec 32) : Fin 1 → Nat :=
  let c2_i32_102_r0 : BitVec 32 := 2#32
  let v168_r0 : BitVec 32 := Scalar.remui arg7_r0 c2_i32_102_r0
  ![v168_r0.toNat]
def k2_off10 (arg8_r0 : BitVec 32) : Fin 3 → Nat :=
  let c2_i32_85_r0 : BitVec 32 := 2#32
  let v132_r0 : BitVec 32 := Scalar.remui arg8_r0 c2_i32_85_r0
  let c0_i32_102_r1 : BitVec 32 := 0#32
  let c0_i32_103_r1 : BitVec 32 := 0#32
  ![v132_r0.toNat, 0, 0]

def k2_chk2 (i : grid2.Coords) (arg8_r0 : BitVec 32) : Prop :=
  (∀ (k2_h1 : k2_cond1 i = 1#1), ∀ a, (k2_off10 arg8_r0) a + S1x128x128.size a ≤ S2x128x128.size a)
theorem k2_off10_inb : ∀ (i : grid2.Coords) (arg8_r0 : BitVec 32) (k2_hw2 : k2_chk2 i arg8_r0), ∀ (k2_h1 : k2_cond1 i = 1#1), ∀ a, (k2_off10 arg8_r0) a + S1x128x128.size a ≤ S2x128x128.size a := fun i arg8_r0 k2_hw2 k2_h1 => k2_hw2 k2_h1

def k2_off11 (arg7_r0 : BitVec 32) : Fin 3 → Nat :=
  let c2_i32_84_r0 : BitVec 32 := 2#32
  let v131_r0 : BitVec 32 := Scalar.remui arg7_r0 c2_i32_84_r0
  let c0_i32_104_r1 : BitVec 32 := 0#32
  let c0_i32_105_r1 : BitVec 32 := 0#32
  ![v131_r0.toNat, 0, 0]

def k2_chk3 (i : grid2.Coords) (arg7_r0 : BitVec 32) : Prop :=
  (∀ (k2_h1 : k2_cond1 i = 1#1), ∀ a, (k2_off11 arg7_r0) a + S1x1x128.size a ≤ S2x1x128.size a)
theorem k2_off11_inb : ∀ (i : grid2.Coords) (arg7_r0 : BitVec 32) (k2_hw3 : k2_chk3 i arg7_r0), ∀ (k2_h1 : k2_cond1 i = 1#1), ∀ a, (k2_off11 arg7_r0) a + S1x1x128.size a ≤ S2x1x128.size a := fun i arg7_r0 k2_hw3 k2_h1 => k2_hw3 k2_h1

def k2_off12 (arg8_r0 : BitVec 32) : Fin 3 → Nat :=
  let c2_i32_102_r0 : BitVec 32 := 2#32
  let v167_r0 : BitVec 32 := Scalar.remui arg8_r0 c2_i32_102_r0
  let c0_i32_103_r0 : BitVec 32 := 0#32
  let c0_i32_104_r0 : BitVec 32 := 0#32
  ![v167_r0.toNat, 0, 0]
def k2_cond7 (i : grid2.Coords) (k2_t1 : Fin (k2_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k2_t1
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_88_r0 : BitVec 32 := 0#32
  let v141_r0 : BitVec 1 := Scalar.cmpi .ne v140_r0 c0_i32_88_r0
  v141_r0

def k2_off13 (i : grid2.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let v168_r0 : BitVec 32 := Scalar.muli c128_i32_r0 v84_r0
  let c0_i32_105_r0 : BitVec 32 := 0#32
  ![v168_r0.toNat, 0]
def k2_off14 (arg8_r0 : BitVec 32) : Fin 1 → Nat :=
  let c2_i32_102_r0 : BitVec 32 := 2#32
  let v167_r0 : BitVec 32 := Scalar.remui arg8_r0 c2_i32_102_r0
  ![v167_r0.toNat]
def k2_off15 (arg9_r0 : BitVec 32) : Fin 3 → Nat :=
  let c2_i32_102_r0 : BitVec 32 := 2#32
  let v167_r0 : BitVec 32 := Scalar.remui arg9_r0 c2_i32_102_r0
  let c0_i32_103_r0 : BitVec 32 := 0#32
  let c0_i32_104_r0 : BitVec 32 := 0#32
  ![v167_r0.toNat, 0, 0]
def k2_cond9 (i : grid2.Coords) (k2_t1 : Fin (k2_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k2_t1
  let c0_i32_58_r0 : BitVec 32 := 0#32
  let v81_r0 : BitVec 1 := Scalar.cmpi .eq arg5_r0 c0_i32_58_r0
  let true_94_r0 : BitVec 1 := 1#1
  let v152_r0 : BitVec 1 := Scalar.xori v81_r0 true_94_r0
  let v153_r0 : BitVec 1 := Scalar.andi v151_r0 v152_r0
  let v154_r0 : BitVec 32 := Scalar.extui v153_r0
  let c0_i32_95_r0 : BitVec 32 := 0#32
  let v155_r0 : BitVec 1 := Scalar.cmpi .ne v154_r0 c0_i32_95_r0
  v155_r0

def k2_off16 (i : grid2.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let c1_i32_63_r0 : BitVec 32 := 1#32
  let v88_r0 : BitVec 32 := Scalar.subi v5 c1_i32_63_r0
  let v89_r0 : BitVec 32 := Scalar.select v87_r0 v88_r0 v86_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi v89_r0 v10
  let v168_r0 : BitVec 32 := Scalar.muli c128_i32_r0 v90_r0
  let c0_i32_105_r0 : BitVec 32 := 0#32
  ![v168_r0.toNat, 0]
def k2_off17 (arg9_r0 : BitVec 32) : Fin 1 → Nat :=
  let c2_i32_102_r0 : BitVec 32 := 2#32
  let v167_r0 : BitVec 32 := Scalar.remui arg9_r0 c2_i32_102_r0
  ![v167_r0.toNat]

def k2_chk1 (i : grid2.Coords) (k2_t1 : Fin (k2_t1_loop i).trips) (arg6_r0 : BitVec 32) (arg7_r0 : BitVec 32) (arg8_r0 : BitVec 32) (arg9_r0 : BitVec 32) (arg10_r0 : BitVec 32) : Prop :=
  (∀ (k2_h1 : k2_cond1 i = 1#1), ∀ (k2_h3 : k2_cond3 i k2_t1 arg10_r0 = 1#1), ∀ a, (k2_off4 arg6_r0) a + S1x1x128.size a ≤ S2x1x128.size a) ∧
  (∀ (k2_h1 : k2_cond1 i = 1#1), ∀ (k2_h3 : k2_cond3 i k2_t1 arg10_r0 = 1#1), ∀ a, (k2_off5 i arg10_r0) a + S1x128.size a ≤ S1x160000.size a) ∧
  (∀ (k2_h1 : k2_cond1 i = 1#1), ∀ (k2_h3 : k2_cond3 i k2_t1 arg10_r0 = 1#1), ∀ a, (k2_off6 arg6_r0) a + S1.size a ≤ S2.size a) ∧
  (∀ (k2_h1 : k2_cond1 i = 1#1), ∀ (k2_h4 : k2_cond4 i k2_t1 arg10_r0 = 1#1), ∀ a, (k2_off7 arg7_r0) a + S1x1x128.size a ≤ S2x1x128.size a) ∧
  (∀ (k2_h1 : k2_cond1 i = 1#1), ∀ (k2_h4 : k2_cond4 i k2_t1 arg10_r0 = 1#1), ∀ a, (k2_off8 i arg10_r0) a + S1x128.size a ≤ S1x160000.size a) ∧
  (∀ (k2_h1 : k2_cond1 i = 1#1), ∀ (k2_h4 : k2_cond4 i k2_t1 arg10_r0 = 1#1), ∀ a, (k2_off9 arg7_r0) a + S1.size a ≤ S2.size a) ∧
  (∀ (k2_h1 : k2_cond1 i = 1#1), ∀ (k2_h7 : k2_cond7 i k2_t1 arg10_r0 = 1#1), ∀ a, (k2_off12 arg8_r0) a + S1x128x128.size a ≤ S2x128x128.size a) ∧
  (∀ (k2_h1 : k2_cond1 i = 1#1), ∀ (k2_h7 : k2_cond7 i k2_t1 arg10_r0 = 1#1), ∀ a, (k2_off13 i arg10_r0) a + S128x128.size a ≤ S160000x128.size a) ∧
  (∀ (k2_h1 : k2_cond1 i = 1#1), ∀ (k2_h7 : k2_cond7 i k2_t1 arg10_r0 = 1#1), ∀ a, (k2_off14 arg8_r0) a + S1.size a ≤ S2.size a) ∧
  (∀ (k2_h1 : k2_cond1 i = 1#1), ∀ (k2_h9 : k2_cond9 i k2_t1 arg10_r0 = 1#1), ∀ a, (k2_off15 arg9_r0) a + S1x128x128.size a ≤ S2x128x128.size a) ∧
  (∀ (k2_h1 : k2_cond1 i = 1#1), ∀ (k2_h9 : k2_cond9 i k2_t1 arg10_r0 = 1#1), ∀ a, (k2_off16 i arg10_r0) a + S128x128.size a ≤ S160000x128.size a) ∧
  (∀ (k2_h1 : k2_cond1 i = 1#1), ∀ (k2_h9 : k2_cond9 i k2_t1 arg10_r0 = 1#1), ∀ a, (k2_off17 arg9_r0) a + S1.size a ≤ S2.size a)
theorem k2_off4_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h3 : k2_cond3 i k2_t1 arg10_r0 = 1#1), ∀ a, (k2_off4 arg6_r0) a + S1x1x128.size a ≤ S2x1x128.size a := fun i k2_t1 arg6_r0 arg7_r0 arg8_r0 arg9_r0 arg10_r0 k2_hw1 k2_h1 k2_h3 => k2_hw1.1 k2_h1 k2_h3
theorem k2_off5_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h3 : k2_cond3 i k2_t1 arg10_r0 = 1#1), ∀ a, (k2_off5 i arg10_r0) a + S1x128.size a ≤ S1x160000.size a := fun i k2_t1 arg6_r0 arg7_r0 arg8_r0 arg9_r0 arg10_r0 k2_hw1 k2_h1 k2_h3 => k2_hw1.2.1 k2_h1 k2_h3
theorem k2_off6_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h3 : k2_cond3 i k2_t1 arg10_r0 = 1#1), ∀ a, (k2_off6 arg6_r0) a + S1.size a ≤ S2.size a := fun i k2_t1 arg6_r0 arg7_r0 arg8_r0 arg9_r0 arg10_r0 k2_hw1 k2_h1 k2_h3 => k2_hw1.2.2.1 k2_h1 k2_h3
theorem k2_off7_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h4 : k2_cond4 i k2_t1 arg10_r0 = 1#1), ∀ a, (k2_off7 arg7_r0) a + S1x1x128.size a ≤ S2x1x128.size a := fun i k2_t1 arg6_r0 arg7_r0 arg8_r0 arg9_r0 arg10_r0 k2_hw1 k2_h1 k2_h4 => k2_hw1.2.2.2.1 k2_h1 k2_h4
theorem k2_off8_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h4 : k2_cond4 i k2_t1 arg10_r0 = 1#1), ∀ a, (k2_off8 i arg10_r0) a + S1x128.size a ≤ S1x160000.size a := fun i k2_t1 arg6_r0 arg7_r0 arg8_r0 arg9_r0 arg10_r0 k2_hw1 k2_h1 k2_h4 => k2_hw1.2.2.2.2.1 k2_h1 k2_h4
theorem k2_off9_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h4 : k2_cond4 i k2_t1 arg10_r0 = 1#1), ∀ a, (k2_off9 arg7_r0) a + S1.size a ≤ S2.size a := fun i k2_t1 arg6_r0 arg7_r0 arg8_r0 arg9_r0 arg10_r0 k2_hw1 k2_h1 k2_h4 => k2_hw1.2.2.2.2.2.1 k2_h1 k2_h4
theorem k2_off12_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h7 : k2_cond7 i k2_t1 arg10_r0 = 1#1), ∀ a, (k2_off12 arg8_r0) a + S1x128x128.size a ≤ S2x128x128.size a := fun i k2_t1 arg6_r0 arg7_r0 arg8_r0 arg9_r0 arg10_r0 k2_hw1 k2_h1 k2_h7 => k2_hw1.2.2.2.2.2.2.1 k2_h1 k2_h7
theorem k2_off13_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h7 : k2_cond7 i k2_t1 arg10_r0 = 1#1), ∀ a, (k2_off13 i arg10_r0) a + S128x128.size a ≤ S160000x128.size a := fun i k2_t1 arg6_r0 arg7_r0 arg8_r0 arg9_r0 arg10_r0 k2_hw1 k2_h1 k2_h7 => k2_hw1.2.2.2.2.2.2.2.1 k2_h1 k2_h7
theorem k2_off14_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h7 : k2_cond7 i k2_t1 arg10_r0 = 1#1), ∀ a, (k2_off14 arg8_r0) a + S1.size a ≤ S2.size a := fun i k2_t1 arg6_r0 arg7_r0 arg8_r0 arg9_r0 arg10_r0 k2_hw1 k2_h1 k2_h7 => k2_hw1.2.2.2.2.2.2.2.2.1 k2_h1 k2_h7
theorem k2_off15_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h9 : k2_cond9 i k2_t1 arg10_r0 = 1#1), ∀ a, (k2_off15 arg9_r0) a + S1x128x128.size a ≤ S2x128x128.size a := fun i k2_t1 arg6_r0 arg7_r0 arg8_r0 arg9_r0 arg10_r0 k2_hw1 k2_h1 k2_h9 => k2_hw1.2.2.2.2.2.2.2.2.2.1 k2_h1 k2_h9
theorem k2_off16_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h9 : k2_cond9 i k2_t1 arg10_r0 = 1#1), ∀ a, (k2_off16 i arg10_r0) a + S128x128.size a ≤ S160000x128.size a := fun i k2_t1 arg6_r0 arg7_r0 arg8_r0 arg9_r0 arg10_r0 k2_hw1 k2_h1 k2_h9 => k2_hw1.2.2.2.2.2.2.2.2.2.2.1 k2_h1 k2_h9
theorem k2_off17_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h9 : k2_cond9 i k2_t1 arg10_r0 = 1#1), ∀ a, (k2_off17 arg9_r0) a + S1.size a ≤ S2.size a := fun i k2_t1 arg6_r0 arg7_r0 arg8_r0 arg9_r0 arg10_r0 k2_hw1 k2_h1 k2_h9 => k2_hw1.2.2.2.2.2.2.2.2.2.2.2 k2_h1 k2_h9

@[reducible] def k2_t2_loop (i : grid2.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let v43_r0 : BitVec 32 := Scalar.addi c0_i32_29_r0 v42_r0
  let c1_i32_36_r0 : BitVec 32 := 1#32
  ⟨v46_r0, v43_r0, c1_i32_36_r0⟩
def k2_off18 (arg6_r0 : BitVec 32) : Fin 3 → Nat :=
  let c2_i32_102_r0 : BitVec 32 := 2#32
  let v167_r0 : BitVec 32 := Scalar.remui arg6_r0 c2_i32_102_r0
  let c0_i32_103_r0 : BitVec 32 := 0#32
  let c0_i32_104_r0 : BitVec 32 := 0#32
  ![v167_r0.toNat, 0, 0]
def k2_cond10 (i : grid2.Coords) (k2_t2 : Fin (k2_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k2_t2
  let c1_i32_57_r0 : BitVec 32 := 1#32
  let v80_r0 : BitVec 32 := Scalar.muli c1_i32_57_r0 v5
  let c2_i32_70_r0 : BitVec 32 := 2#32
  let v102_r0 : BitVec 32 := Scalar.subi v80_r0 c2_i32_70_r0
  let c1_i32_71_r0 : BitVec 32 := 1#32
  let v103_r0 : BitVec 32 := Scalar.addi v102_r0 c1_i32_71_r0
  let v104_r0 : BitVec 1 := Scalar.cmpi .sge arg5_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k2_off19 (i : grid2.Coords) (arg10_r0 : BitVec 32) : Fin 2 → Nat :=
  let c0_i32_105_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v93_r0 : BitVec 1 := Scalar.cmpi .eq v92_r0 v5
  let c0_i32_66_r0 : BitVec 32 := 0#32
  let v94_r0 : BitVec 32 := Scalar.select v93_r0 c0_i32_66_r0 v92_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k2_off20 (arg6_r0 : BitVec 32) : Fin 1 → Nat :=
  let c2_i32_102_r0 : BitVec 32 := 2#32
  let v167_r0 : BitVec 32 := Scalar.remui arg6_r0 c2_i32_102_r0
  ![v167_r0.toNat]
def k2_off21 (arg7_r0 : BitVec 32) : Fin 3 → Nat :=
  let c2_i32_102_r0 : BitVec 32 := 2#32
  let v168_r0 : BitVec 32 := Scalar.remui arg7_r0 c2_i32_102_r0
  let c0_i32_103_r0 : BitVec 32 := 0#32
  let c0_i32_104_r0 : BitVec 32 := 0#32
  ![v168_r0.toNat, 0, 0]
def k2_cond11 (i : grid2.Coords) (k2_t2 : Fin (k2_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k2_t2
  let c0_i32_58_r0 : BitVec 32 := 0#32
  let v81_r0 : BitVec 1 := Scalar.cmpi .eq arg5_r0 c0_i32_58_r0
  let v120_r0 : BitVec 1 := Scalar.ori v119_r0 v81_r0
  let c0_i32_80_r0 : BitVec 32 := 0#32
  let v121_r0 : BitVec 1 := Scalar.cmpi .sge arg5_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k2_off22 (i : grid2.Coords) (arg10_r0 : BitVec 32) : Fin 2 → Nat :=
  let c0_i32_105_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k2_off23 (arg7_r0 : BitVec 32) : Fin 1 → Nat :=
  let c2_i32_102_r0 : BitVec 32 := 2#32
  let v168_r0 : BitVec 32 := Scalar.remui arg7_r0 c2_i32_102_r0
  ![v168_r0.toNat]
def k2_off24 (arg8_r0 : BitVec 32) : Fin 3 → Nat :=
  let c2_i32_85_r0 : BitVec 32 := 2#32
  let v132_r0 : BitVec 32 := Scalar.remui arg8_r0 c2_i32_85_r0
  let c0_i32_102_r2 : BitVec 32 := 0#32
  let c0_i32_103_r2 : BitVec 32 := 0#32
  ![v132_r0.toNat, 0, 0]

def k2_chk5 (i : grid2.Coords) (k2_t2 : Fin (k2_t2_loop i).trips) (arg8_r0 : BitVec 32) : Prop :=
  (∀ (k2_h1 : k2_cond1 i = 1#1), ∀ a, (k2_off24 arg8_r0) a + S1x128x128.size a ≤ S2x128x128.size a)
theorem k2_off24_inb : ∀ (i : grid2.Coords) (k2_t2 : Fin (k2_t2_loop i).trips) (arg8_r0 : BitVec 32) (k2_hw5 : k2_chk5 i k2_t2 arg8_r0), ∀ (k2_h1 : k2_cond1 i = 1#1), ∀ a, (k2_off24 arg8_r0) a + S1x128x128.size a ≤ S2x128x128.size a := fun i k2_t2 arg8_r0 k2_hw5 k2_h1 => k2_hw5 k2_h1

def k2_off25 (arg7_r0 : BitVec 32) : Fin 3 → Nat :=
  let c2_i32_84_r0 : BitVec 32 := 2#32
  let v131_r0 : BitVec 32 := Scalar.remui arg7_r0 c2_i32_84_r0
  let c0_i32_104_r2 : BitVec 32 := 0#32
  let c0_i32_105_r2 : BitVec 32 := 0#32
  ![v131_r0.toNat, 0, 0]

def k2_chk6 (i : grid2.Coords) (k2_t2 : Fin (k2_t2_loop i).trips) (arg7_r0 : BitVec 32) : Prop :=
  (∀ (k2_h1 : k2_cond1 i = 1#1), ∀ a, (k2_off25 arg7_r0) a + S1x1x128.size a ≤ S2x1x128.size a)
theorem k2_off25_inb : ∀ (i : grid2.Coords) (k2_t2 : Fin (k2_t2_loop i).trips) (arg7_r0 : BitVec 32) (k2_hw6 : k2_chk6 i k2_t2 arg7_r0), ∀ (k2_h1 : k2_cond1 i = 1#1), ∀ a, (k2_off25 arg7_r0) a + S1x1x128.size a ≤ S2x1x128.size a := fun i k2_t2 arg7_r0 k2_hw6 k2_h1 => k2_hw6 k2_h1

def k2_off26 (arg8_r0 : BitVec 32) : Fin 3 → Nat :=
  let c2_i32_102_r0 : BitVec 32 := 2#32
  let v167_r0 : BitVec 32 := Scalar.remui arg8_r0 c2_i32_102_r0
  let c0_i32_103_r0 : BitVec 32 := 0#32
  let c0_i32_104_r0 : BitVec 32 := 0#32
  ![v167_r0.toNat, 0, 0]
def k2_cond14 (i : grid2.Coords) (k2_t2 : Fin (k2_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k2_t2
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_88_r0 : BitVec 32 := 0#32
  let v141_r0 : BitVec 1 := Scalar.cmpi .ne v140_r0 c0_i32_88_r0
  v141_r0

def k2_off27 (i : grid2.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let v168_r0 : BitVec 32 := Scalar.muli c128_i32_r0 v84_r0
  let c0_i32_105_r0 : BitVec 32 := 0#32
  ![v168_r0.toNat, 0]
def k2_off28 (arg8_r0 : BitVec 32) : Fin 1 → Nat :=
  let c2_i32_102_r0 : BitVec 32 := 2#32
  let v167_r0 : BitVec 32 := Scalar.remui arg8_r0 c2_i32_102_r0
  ![v167_r0.toNat]
def k2_off29 (arg9_r0 : BitVec 32) : Fin 3 → Nat :=
  let c2_i32_102_r0 : BitVec 32 := 2#32
  let v167_r0 : BitVec 32 := Scalar.remui arg9_r0 c2_i32_102_r0
  let c0_i32_103_r0 : BitVec 32 := 0#32
  let c0_i32_104_r0 : BitVec 32 := 0#32
  ![v167_r0.toNat, 0, 0]
def k2_cond16 (i : grid2.Coords) (k2_t2 : Fin (k2_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k2_t2
  let c0_i32_58_r0 : BitVec 32 := 0#32
  let v81_r0 : BitVec 1 := Scalar.cmpi .eq arg5_r0 c0_i32_58_r0
  let true_94_r0 : BitVec 1 := 1#1
  let v152_r0 : BitVec 1 := Scalar.xori v81_r0 true_94_r0
  let v153_r0 : BitVec 1 := Scalar.andi v151_r0 v152_r0
  let v154_r0 : BitVec 32 := Scalar.extui v153_r0
  let c0_i32_95_r0 : BitVec 32 := 0#32
  let v155_r0 : BitVec 1 := Scalar.cmpi .ne v154_r0 c0_i32_95_r0
  v155_r0

def k2_off30 (i : grid2.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let c1_i32_63_r0 : BitVec 32 := 1#32
  let v88_r0 : BitVec 32 := Scalar.subi v5 c1_i32_63_r0
  let v89_r0 : BitVec 32 := Scalar.select v87_r0 v88_r0 v86_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi v89_r0 v10
  let v168_r0 : BitVec 32 := Scalar.muli c128_i32_r0 v90_r0
  let c0_i32_105_r0 : BitVec 32 := 0#32
  ![v168_r0.toNat, 0]
def k2_off31 (arg9_r0 : BitVec 32) : Fin 1 → Nat :=
  let c2_i32_102_r0 : BitVec 32 := 2#32
  let v167_r0 : BitVec 32 := Scalar.remui arg9_r0 c2_i32_102_r0
  ![v167_r0.toNat]

def k2_chk4 (i : grid2.Coords) (k2_t2 : Fin (k2_t2_loop i).trips) (arg6_r0 : BitVec 32) (arg7_r0 : BitVec 32) (arg8_r0 : BitVec 32) (arg9_r0 : BitVec 32) (arg10_r0 : BitVec 32) : Prop :=
  (∀ (k2_h1 : k2_cond1 i = 1#1), ∀ (k2_h10 : k2_cond10 i k2_t2 arg10_r0 = 1#1), ∀ a, (k2_off18 arg6_r0) a + S1x1x128.size a ≤ S2x1x128.size a) ∧
  (∀ (k2_h1 : k2_cond1 i = 1#1), ∀ (k2_h10 : k2_cond10 i k2_t2 arg10_r0 = 1#1), ∀ a, (k2_off19 i arg10_r0) a + S1x128.size a ≤ S1x160000.size a) ∧
  (∀ (k2_h1 : k2_cond1 i = 1#1), ∀ (k2_h10 : k2_cond10 i k2_t2 arg10_r0 = 1#1), ∀ a, (k2_off20 arg6_r0) a + S1.size a ≤ S2.size a) ∧
  (∀ (k2_h1 : k2_cond1 i = 1#1), ∀ (k2_h11 : k2_cond11 i k2_t2 arg10_r0 = 1#1), ∀ a, (k2_off21 arg7_r0) a + S1x1x128.size a ≤ S2x1x128.size a) ∧
  (∀ (k2_h1 : k2_cond1 i = 1#1), ∀ (k2_h11 : k2_cond11 i k2_t2 arg10_r0 = 1#1), ∀ a, (k2_off22 i arg10_r0) a + S1x128.size a ≤ S1x160000.size a) ∧
  (∀ (k2_h1 : k2_cond1 i = 1#1), ∀ (k2_h11 : k2_cond11 i k2_t2 arg10_r0 = 1#1), ∀ a, (k2_off23 arg7_r0) a + S1.size a ≤ S2.size a) ∧
  (∀ (k2_h1 : k2_cond1 i = 1#1), ∀ (k2_h14 : k2_cond14 i k2_t2 arg10_r0 = 1#1), ∀ a, (k2_off26 arg8_r0) a + S1x128x128.size a ≤ S2x128x128.size a) ∧
  (∀ (k2_h1 : k2_cond1 i = 1#1), ∀ (k2_h14 : k2_cond14 i k2_t2 arg10_r0 = 1#1), ∀ a, (k2_off27 i arg10_r0) a + S128x128.size a ≤ S160000x128.size a) ∧
  (∀ (k2_h1 : k2_cond1 i = 1#1), ∀ (k2_h14 : k2_cond14 i k2_t2 arg10_r0 = 1#1), ∀ a, (k2_off28 arg8_r0) a + S1.size a ≤ S2.size a) ∧
  (∀ (k2_h1 : k2_cond1 i = 1#1), ∀ (k2_h16 : k2_cond16 i k2_t2 arg10_r0 = 1#1), ∀ a, (k2_off29 arg9_r0) a + S1x128x128.size a ≤ S2x128x128.size a) ∧
  (∀ (k2_h1 : k2_cond1 i = 1#1), ∀ (k2_h16 : k2_cond16 i k2_t2 arg10_r0 = 1#1), ∀ a, (k2_off30 i arg10_r0) a + S128x128.size a ≤ S160000x128.size a) ∧
  (∀ (k2_h1 : k2_cond1 i = 1#1), ∀ (k2_h16 : k2_cond16 i k2_t2 arg10_r0 = 1#1), ∀ a, (k2_off31 arg9_r0) a + S1.size a ≤ S2.size a)
theorem k2_off18_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h10 : k2_cond10 i k2_t2 arg10_r0 = 1#1), ∀ a, (k2_off18 arg6_r0) a + S1x1x128.size a ≤ S2x1x128.size a := fun i k2_t2 arg6_r0 arg7_r0 arg8_r0 arg9_r0 arg10_r0 k2_hw4 k2_h1 k2_h10 => k2_hw4.1 k2_h1 k2_h10
theorem k2_off19_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h10 : k2_cond10 i k2_t2 arg10_r0 = 1#1), ∀ a, (k2_off19 i arg10_r0) a + S1x128.size a ≤ S1x160000.size a := fun i k2_t2 arg6_r0 arg7_r0 arg8_r0 arg9_r0 arg10_r0 k2_hw4 k2_h1 k2_h10 => k2_hw4.2.1 k2_h1 k2_h10
theorem k2_off20_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h10 : k2_cond10 i k2_t2 arg10_r0 = 1#1), ∀ a, (k2_off20 arg6_r0) a + S1.size a ≤ S2.size a := fun i k2_t2 arg6_r0 arg7_r0 arg8_r0 arg9_r0 arg10_r0 k2_hw4 k2_h1 k2_h10 => k2_hw4.2.2.1 k2_h1 k2_h10
theorem k2_off21_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h11 : k2_cond11 i k2_t2 arg10_r0 = 1#1), ∀ a, (k2_off21 arg7_r0) a + S1x1x128.size a ≤ S2x1x128.size a := fun i k2_t2 arg6_r0 arg7_r0 arg8_r0 arg9_r0 arg10_r0 k2_hw4 k2_h1 k2_h11 => k2_hw4.2.2.2.1 k2_h1 k2_h11
theorem k2_off22_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h11 : k2_cond11 i k2_t2 arg10_r0 = 1#1), ∀ a, (k2_off22 i arg10_r0) a + S1x128.size a ≤ S1x160000.size a := fun i k2_t2 arg6_r0 arg7_r0 arg8_r0 arg9_r0 arg10_r0 k2_hw4 k2_h1 k2_h11 => k2_hw4.2.2.2.2.1 k2_h1 k2_h11
theorem k2_off23_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h11 : k2_cond11 i k2_t2 arg10_r0 = 1#1), ∀ a, (k2_off23 arg7_r0) a + S1.size a ≤ S2.size a := fun i k2_t2 arg6_r0 arg7_r0 arg8_r0 arg9_r0 arg10_r0 k2_hw4 k2_h1 k2_h11 => k2_hw4.2.2.2.2.2.1 k2_h1 k2_h11
theorem k2_off26_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h14 : k2_cond14 i k2_t2 arg10_r0 = 1#1), ∀ a, (k2_off26 arg8_r0) a + S1x128x128.size a ≤ S2x128x128.size a := fun i k2_t2 arg6_r0 arg7_r0 arg8_r0 arg9_r0 arg10_r0 k2_hw4 k2_h1 k2_h14 => k2_hw4.2.2.2.2.2.2.1 k2_h1 k2_h14
theorem k2_off27_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h14 : k2_cond14 i k2_t2 arg10_r0 = 1#1), ∀ a, (k2_off27 i arg10_r0) a + S128x128.size a ≤ S160000x128.size a := fun i k2_t2 arg6_r0 arg7_r0 arg8_r0 arg9_r0 arg10_r0 k2_hw4 k2_h1 k2_h14 => k2_hw4.2.2.2.2.2.2.2.1 k2_h1 k2_h14
theorem k2_off28_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h14 : k2_cond14 i k2_t2 arg10_r0 = 1#1), ∀ a, (k2_off28 arg8_r0) a + S1.size a ≤ S2.size a := fun i k2_t2 arg6_r0 arg7_r0 arg8_r0 arg9_r0 arg10_r0 k2_hw4 k2_h1 k2_h14 => k2_hw4.2.2.2.2.2.2.2.2.1 k2_h1 k2_h14
theorem k2_off29_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h16 : k2_cond16 i k2_t2 arg10_r0 = 1#1), ∀ a, (k2_off29 arg9_r0) a + S1x128x128.size a ≤ S2x128x128.size a := fun i k2_t2 arg6_r0 arg7_r0 arg8_r0 arg9_r0 arg10_r0 k2_hw4 k2_h1 k2_h16 => k2_hw4.2.2.2.2.2.2.2.2.2.1 k2_h1 k2_h16
theorem k2_off30_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h16 : k2_cond16 i k2_t2 arg10_r0 = 1#1), ∀ a, (k2_off30 i arg10_r0) a + S128x128.size a ≤ S160000x128.size a := fun i k2_t2 arg6_r0 arg7_r0 arg8_r0 arg9_r0 arg10_r0 k2_hw4 k2_h1 k2_h16 => k2_hw4.2.2.2.2.2.2.2.2.2.2.1 k2_h1 k2_h16
theorem k2_off31_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h16 : k2_cond16 i k2_t2 arg10_r0 = 1#1), ∀ a, (k2_off31 arg9_r0) a + S1.size a ≤ S2.size a := fun i k2_t2 arg6_r0 arg7_r0 arg8_r0 arg9_r0 arg10_r0 k2_hw4 k2_h1 k2_h16 => k2_hw4.2.2.2.2.2.2.2.2.2.2.2 k2_h1 k2_h16

def k2_cond18 (i : grid2.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v11 : BitVec 32 := Scalar.muli c1_i32_3 v5
  let c1_i32_41_r0 : BitVec 32 := 1#32
  let v54_r0 : BitVec 32 := Scalar.subi v11 c1_i32_41_r0
  let c1_i32_42_r0 : BitVec 32 := 1#32
  let v55_r0 : BitVec 32 := Scalar.muli c1_i32_42_r0 v5
  let c1_i32_44_r0 : BitVec 32 := 1#32
  let v57_r0 : BitVec 32 := Scalar.subi v55_r0 c1_i32_44_r0
  let v58_r0 : BitVec 1 := Scalar.cmpi .eq v54_r0 v57_r0
  let v78_r0 : BitVec 32 := Scalar.extui v58_r0
  let c0_i32_56_r0 : BitVec 32 := 0#32
  let v79_r0 : BitVec 1 := Scalar.cmpi .ne v78_r0 c0_i32_56_r0
  v79_r0

def k2_off32 (v48_3_r0 : BitVec 32) : Fin 3 → Nat :=
  let c2_i32_57_r0 : BitVec 32 := 2#32
  let v80_r0 : BitVec 32 := Scalar.remui v48_3_r0 c2_i32_57_r0
  let c0_i32_58_r0 : BitVec 32 := 0#32
  let c0_i32_59_r0 : BitVec 32 := 0#32
  ![v80_r0.toNat, 0, 0]

def k2_off33 (i : grid2.Coords) (v48_4_r0 : BitVec 32) : Fin 2 → Nat :=
  let c128_i32_r0 : BitVec 32 := 128#32
  let true_38_r0 : BitVec 1 := 1#1
  let c1_i32_37_r0 : BitVec 32 := 1#32
  let v49_r0 : BitVec 32 := Scalar.subi v48_4_r0 c1_i32_37_r0
  let v50_r0 : BitVec 32 := Scalar.select true_38_r0 v49_r0 v48_4_r0
  let c_m1_i32_39_r0 : BitVec 32 := 4294967295#32
  let v51_r0 : BitVec 1 := Scalar.cmpi .eq v50_r0 c_m1_i32_39_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let c1_i32_40_r0 : BitVec 32 := 1#32
  let v52_r0 : BitVec 32 := Scalar.subi v5 c1_i32_40_r0
  let v53_r0 : BitVec 32 := Scalar.select v51_r0 v52_r0 v50_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v59_r0 : BitVec 32 := Scalar.addi v53_r0 v10
  let v81_r0 : BitVec 32 := Scalar.muli c128_i32_r0 v59_r0
  let c0_i32_60_r0 : BitVec 32 := 0#32
  ![v81_r0.toNat, 0]

def k2_chk8 (i : grid2.Coords) (v48_4_r0 : BitVec 32) : Prop :=
  (∀ (k2_h1 : k2_cond1 i = 1#1), ∀ (k2_h18 : k2_cond18 i = 1#1), ∀ a, (k2_off33 i v48_4_r0) a + S128x128.size a ≤ S160000x128.size a)
theorem k2_off33_inb : ∀ (i : grid2.Coords) (v48_4_r0 : BitVec 32) (k2_hw8 : k2_chk8 i v48_4_r0), ∀ (k2_h1 : k2_cond1 i = 1#1), ∀ (k2_h18 : k2_cond18 i = 1#1), ∀ a, (k2_off33 i v48_4_r0) a + S128x128.size a ≤ S160000x128.size a := fun i v48_4_r0 k2_hw8 k2_h1 k2_h18 => k2_hw8 k2_h1 k2_h18

def k2_off34 (v48_3_r0 : BitVec 32) : Fin 1 → Nat :=
  let c2_i32_57_r0 : BitVec 32 := 2#32
  let v80_r0 : BitVec 32 := Scalar.remui v48_3_r0 c2_i32_57_r0
  ![v80_r0.toNat]
def k2_off35 (v48_3_r0 : BitVec 32) : Fin 3 → Nat :=
  let c2_i32_57_r0 : BitVec 32 := 2#32
  let v80_r0 : BitVec 32 := Scalar.remui v48_3_r0 c2_i32_57_r0
  let c0_i32_62_r0 : BitVec 32 := 0#32
  let c0_i32_63_r0 : BitVec 32 := 0#32
  ![v80_r0.toNat, 0, 0]

def k2_chk7 (i : grid2.Coords) (v48_3_r0 : BitVec 32) : Prop :=
  (∀ (k2_h1 : k2_cond1 i = 1#1), ∀ (k2_h18 : k2_cond18 i = 1#1), ∀ a, (k2_off32 v48_3_r0) a + S1x128x128.size a ≤ S2x128x128.size a) ∧
  (∀ (k2_h1 : k2_cond1 i = 1#1), ∀ (k2_h18 : k2_cond18 i = 1#1), ∀ a, (k2_off34 v48_3_r0) a + S1.size a ≤ S2.size a) ∧
  (∀ (k2_h1 : k2_cond1 i = 1#1), ∀ (k2_h18 : k2_cond18 i = 1#1), ∀ a, (k2_off35 v48_3_r0) a + S1x128x128.size a ≤ S2x128x128.size a)
theorem k2_off32_inb : ∀ (i : grid2.Coords) (v48_3_r0 : BitVec 32) (k2_hw7 : k2_chk7 i v48_3_r0), ∀ (k2_h1 : k2_cond1 i = 1#1), ∀ (k2_h18 : k2_cond18 i = 1#1), ∀ a, (k2_off32 v48_3_r0) a + S1x128x128.size a ≤ S2x128x128.size a := fun i v48_3_r0 k2_hw7 k2_h1 k2_h18 => k2_hw7.1 k2_h1 k2_h18
theorem k2_off34_inb : ∀ (i : grid2.Coords) (v48_3_r0 : BitVec 32) (k2_hw7 : k2_chk7 i v48_3_r0), ∀ (k2_h1 : k2_cond1 i = 1#1), ∀ (k2_h18 : k2_cond18 i = 1#1), ∀ a, (k2_off34 v48_3_r0) a + S1.size a ≤ S2.size a := fun i v48_3_r0 k2_hw7 k2_h1 k2_h18 => k2_hw7.2.1 k2_h1 k2_h18
theorem k2_off35_inb : ∀ (i : grid2.Coords) (v48_3_r0 : BitVec 32) (k2_hw7 : k2_chk7 i v48_3_r0), ∀ (k2_h1 : k2_cond1 i = 1#1), ∀ (k2_h18 : k2_cond18 i = 1#1), ∀ a, (k2_off35 v48_3_r0) a + S1x128x128.size a ≤ S2x128x128.size a := fun i v48_3_r0 k2_hw7 k2_h1 k2_h18 => k2_hw7.2.2 k2_h1 k2_h18

abbrev grid3 : Pipeline.Grid := ⟨1, ![25], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S16x400x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S400x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S16x960 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S960x64 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S960x64 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S400x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨2, ![2, 16], ![false, false]⟩

def k4_cond1 (i : grid4.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v11 : BitVec 32 := Scalar.muli c1_i32_3 v5
  let c0_i32_5_r0 : BitVec 32 := 0#32
  let v14_r0 : BitVec 1 := Scalar.cmpi .sgt v11 c0_i32_5_r0
  let v15_r0 : BitVec 32 := Scalar.extui v14_r0
  let c0_i32_6_r0 : BitVec 32 := 0#32
  let v16_r0 : BitVec 1 := Scalar.cmpi .ne v15_r0 c0_i32_6_r0
  v16_r0

def k4_cond2 (i : grid4.Coords) : BitVec 1 :=
  let true_22_r0 : BitVec 1 := 1#1
  let c1_i32_7_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v17_r0 : BitVec 32 := Scalar.muli c1_i32_7_r0 v5
  let c0_i32_21_r0 : BitVec 32 := 0#32
  let v35_r0 : BitVec 1 := Scalar.cmpi .sgt v17_r0 c0_i32_21_r0
  let v36_r0 : BitVec 1 := Scalar.andi true_22_r0 v35_r0
  let true_23_r0 : BitVec 1 := 1#1
  let v37_r0 : BitVec 1 := Scalar.andi v36_r0 true_23_r0
  let v38_r0 : BitVec 32 := Scalar.extui v37_r0
  let c0_i32_25_r0 : BitVec 32 := 0#32
  let v39_r0 : BitVec 1 := Scalar.cmpi .ne v38_r0 c0_i32_25_r0
  v39_r0

def k4_off1 : Fin 3 → Nat :=
  let c0_i32_24_r0 : BitVec 32 := 0#32
  let c2_i32_57_r0 : BitVec 32 := 2#32
  let v80_r0 : BitVec 32 := Scalar.remui c0_i32_24_r0 c2_i32_57_r0
  let c0_i32_58_r0 : BitVec 32 := 0#32
  let c0_i32_59_r0 : BitVec 32 := 0#32
  ![v80_r0.toNat, 0, 0]
def k4_off2 (i : grid4.Coords) : Fin 2 → Nat :=
  let c0_i32_60_r0 : BitVec 32 := 0#32
  let c128_i32_r0 : BitVec 32 := 128#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v20_r0 : BitVec 32 := Scalar.addi c0_i32_10_r0 v10
  let v81_r0 : BitVec 32 := Scalar.muli c128_i32_r0 v20_r0
  ![0, v81_r0.toNat]
def k4_off3 : Fin 1 → Nat :=
  let c0_i32_24_r0 : BitVec 32 := 0#32
  let c2_i32_57_r0 : BitVec 32 := 2#32
  let v80_r0 : BitVec 32 := Scalar.remui c0_i32_24_r0 c2_i32_57_r0
  ![v80_r0.toNat]
@[reducible] def k4_t1_loop (i : grid4.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_35_r0 : BitVec 32 := 1#32
  ⟨c0_i32_29_r0, v46_r0, c1_i32_35_r0⟩
def k4_off4 (arg6_r0 : BitVec 32) : Fin 3 → Nat :=
  let c2_i32_102_r0 : BitVec 32 := 2#32
  let v167_r0 : BitVec 32 := Scalar.remui arg6_r0 c2_i32_102_r0
  let c0_i32_103_r0 : BitVec 32 := 0#32
  let c0_i32_104_r0 : BitVec 32 := 0#32
  ![v167_r0.toNat, 0, 0]
def k4_cond3 (i : grid4.Coords) (k4_t1 : Fin (k4_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k4_t1
  let c1_i32_57_r0 : BitVec 32 := 1#32
  let v80_r0 : BitVec 32 := Scalar.muli c1_i32_57_r0 v5
  let c2_i32_70_r0 : BitVec 32 := 2#32
  let v102_r0 : BitVec 32 := Scalar.subi v80_r0 c2_i32_70_r0
  let c1_i32_71_r0 : BitVec 32 := 1#32
  let v103_r0 : BitVec 32 := Scalar.addi v102_r0 c1_i32_71_r0
  let v104_r0 : BitVec 1 := Scalar.cmpi .sge arg5_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k4_off5 (i : grid4.Coords) (arg10_r0 : BitVec 32) : Fin 2 → Nat :=
  let c0_i32_105_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v93_r0 : BitVec 1 := Scalar.cmpi .eq v92_r0 v5
  let c0_i32_66_r0 : BitVec 32 := 0#32
  let v94_r0 : BitVec 32 := Scalar.select v93_r0 c0_i32_66_r0 v92_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k4_off6 (arg6_r0 : BitVec 32) : Fin 1 → Nat :=
  let c2_i32_102_r0 : BitVec 32 := 2#32
  let v167_r0 : BitVec 32 := Scalar.remui arg6_r0 c2_i32_102_r0
  ![v167_r0.toNat]
def k4_off7 (arg7_r0 : BitVec 32) : Fin 3 → Nat :=
  let c2_i32_102_r0 : BitVec 32 := 2#32
  let v168_r0 : BitVec 32 := Scalar.remui arg7_r0 c2_i32_102_r0
  let c0_i32_103_r0 : BitVec 32 := 0#32
  let c0_i32_104_r0 : BitVec 32 := 0#32
  ![v168_r0.toNat, 0, 0]
def k4_cond4 (i : grid4.Coords) (k4_t1 : Fin (k4_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k4_t1
  let c0_i32_58_r0 : BitVec 32 := 0#32
  let v81_r0 : BitVec 1 := Scalar.cmpi .eq arg5_r0 c0_i32_58_r0
  let v120_r0 : BitVec 1 := Scalar.ori v119_r0 v81_r0
  let c0_i32_80_r0 : BitVec 32 := 0#32
  let v121_r0 : BitVec 1 := Scalar.cmpi .sge arg5_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k4_off8 (i : grid4.Coords) (arg10_r0 : BitVec 32) : Fin 2 → Nat :=
  let c0_i32_105_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k4_off9 (arg7_r0 : BitVec 32) : Fin 1 → Nat :=
  let c2_i32_102_r0 : BitVec 32 := 2#32
  let v168_r0 : BitVec 32 := Scalar.remui arg7_r0 c2_i32_102_r0
  ![v168_r0.toNat]
def k4_off10 (arg8_r0 : BitVec 32) : Fin 3 → Nat :=
  let c2_i32_85_r0 : BitVec 32 := 2#32
  let v132_r0 : BitVec 32 := Scalar.remui arg8_r0 c2_i32_85_r0
  let c0_i32_102_r1 : BitVec 32 := 0#32
  let c0_i32_103_r1 : BitVec 32 := 0#32
  ![v132_r0.toNat, 0, 0]

def k4_chk2 (i : grid4.Coords) (arg8_r0 : BitVec 32) : Prop :=
  (∀ (k4_h1 : k4_cond1 i = 1#1), ∀ a, (k4_off10 arg8_r0) a + S1x128x128.size a ≤ S2x128x128.size a)
theorem k4_off10_inb : ∀ (i : grid4.Coords) (arg8_r0 : BitVec 32) (k4_hw2 : k4_chk2 i arg8_r0), ∀ (k4_h1 : k4_cond1 i = 1#1), ∀ a, (k4_off10 arg8_r0) a + S1x128x128.size a ≤ S2x128x128.size a := fun i arg8_r0 k4_hw2 k4_h1 => k4_hw2 k4_h1

def k4_off11 (arg7_r0 : BitVec 32) : Fin 3 → Nat :=
  let c2_i32_84_r0 : BitVec 32 := 2#32
  let v131_r0 : BitVec 32 := Scalar.remui arg7_r0 c2_i32_84_r0
  let c0_i32_104_r1 : BitVec 32 := 0#32
  let c0_i32_105_r1 : BitVec 32 := 0#32
  ![v131_r0.toNat, 0, 0]

def k4_chk3 (i : grid4.Coords) (arg7_r0 : BitVec 32) : Prop :=
  (∀ (k4_h1 : k4_cond1 i = 1#1), ∀ a, (k4_off11 arg7_r0) a + S1x1x128.size a ≤ S2x1x128.size a)
theorem k4_off11_inb : ∀ (i : grid4.Coords) (arg7_r0 : BitVec 32) (k4_hw3 : k4_chk3 i arg7_r0), ∀ (k4_h1 : k4_cond1 i = 1#1), ∀ a, (k4_off11 arg7_r0) a + S1x1x128.size a ≤ S2x1x128.size a := fun i arg7_r0 k4_hw3 k4_h1 => k4_hw3 k4_h1

def k4_off12 (arg8_r0 : BitVec 32) : Fin 3 → Nat :=
  let c2_i32_102_r0 : BitVec 32 := 2#32
  let v167_r0 : BitVec 32 := Scalar.remui arg8_r0 c2_i32_102_r0
  let c0_i32_103_r0 : BitVec 32 := 0#32
  let c0_i32_104_r0 : BitVec 32 := 0#32
  ![v167_r0.toNat, 0, 0]
def k4_cond7 (i : grid4.Coords) (k4_t1 : Fin (k4_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k4_t1
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_88_r0 : BitVec 32 := 0#32
  let v141_r0 : BitVec 1 := Scalar.cmpi .ne v140_r0 c0_i32_88_r0
  v141_r0

def k4_off13 (i : grid4.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let v168_r0 : BitVec 32 := Scalar.muli c128_i32_r0 v84_r0
  let c0_i32_105_r0 : BitVec 32 := 0#32
  ![v168_r0.toNat, 0]
def k4_off14 (arg8_r0 : BitVec 32) : Fin 1 → Nat :=
  let c2_i32_102_r0 : BitVec 32 := 2#32
  let v167_r0 : BitVec 32 := Scalar.remui arg8_r0 c2_i32_102_r0
  ![v167_r0.toNat]
def k4_off15 (arg9_r0 : BitVec 32) : Fin 3 → Nat :=
  let c2_i32_102_r0 : BitVec 32 := 2#32
  let v167_r0 : BitVec 32 := Scalar.remui arg9_r0 c2_i32_102_r0
  let c0_i32_103_r0 : BitVec 32 := 0#32
  let c0_i32_104_r0 : BitVec 32 := 0#32
  ![v167_r0.toNat, 0, 0]
def k4_cond9 (i : grid4.Coords) (k4_t1 : Fin (k4_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k4_t1
  let c0_i32_58_r0 : BitVec 32 := 0#32
  let v81_r0 : BitVec 1 := Scalar.cmpi .eq arg5_r0 c0_i32_58_r0
  let true_94_r0 : BitVec 1 := 1#1
  let v152_r0 : BitVec 1 := Scalar.xori v81_r0 true_94_r0
  let v153_r0 : BitVec 1 := Scalar.andi v151_r0 v152_r0
  let v154_r0 : BitVec 32 := Scalar.extui v153_r0
  let c0_i32_95_r0 : BitVec 32 := 0#32
  let v155_r0 : BitVec 1 := Scalar.cmpi .ne v154_r0 c0_i32_95_r0
  v155_r0

def k4_off16 (i : grid4.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let c1_i32_63_r0 : BitVec 32 := 1#32
  let v88_r0 : BitVec 32 := Scalar.subi v5 c1_i32_63_r0
  let v89_r0 : BitVec 32 := Scalar.select v87_r0 v88_r0 v86_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi v89_r0 v10
  let v168_r0 : BitVec 32 := Scalar.muli c128_i32_r0 v90_r0
  let c0_i32_105_r0 : BitVec 32 := 0#32
  ![v168_r0.toNat, 0]
def k4_off17 (arg9_r0 : BitVec 32) : Fin 1 → Nat :=
  let c2_i32_102_r0 : BitVec 32 := 2#32
  let v167_r0 : BitVec 32 := Scalar.remui arg9_r0 c2_i32_102_r0
  ![v167_r0.toNat]

def k4_chk1 (i : grid4.Coords) (k4_t1 : Fin (k4_t1_loop i).trips) (arg6_r0 : BitVec 32) (arg7_r0 : BitVec 32) (arg8_r0 : BitVec 32) (arg9_r0 : BitVec 32) (arg10_r0 : BitVec 32) : Prop :=
  (∀ (k4_h1 : k4_cond1 i = 1#1), ∀ (k4_h3 : k4_cond3 i k4_t1 arg10_r0 = 1#1), ∀ a, (k4_off4 arg6_r0) a + S1x1x128.size a ≤ S2x1x128.size a) ∧
  (∀ (k4_h1 : k4_cond1 i = 1#1), ∀ (k4_h3 : k4_cond3 i k4_t1 arg10_r0 = 1#1), ∀ a, (k4_off5 i arg10_r0) a + S1x128.size a ≤ S1x160000.size a) ∧
  (∀ (k4_h1 : k4_cond1 i = 1#1), ∀ (k4_h3 : k4_cond3 i k4_t1 arg10_r0 = 1#1), ∀ a, (k4_off6 arg6_r0) a + S1.size a ≤ S2.size a) ∧
  (∀ (k4_h1 : k4_cond1 i = 1#1), ∀ (k4_h4 : k4_cond4 i k4_t1 arg10_r0 = 1#1), ∀ a, (k4_off7 arg7_r0) a + S1x1x128.size a ≤ S2x1x128.size a) ∧
  (∀ (k4_h1 : k4_cond1 i = 1#1), ∀ (k4_h4 : k4_cond4 i k4_t1 arg10_r0 = 1#1), ∀ a, (k4_off8 i arg10_r0) a + S1x128.size a ≤ S1x160000.size a) ∧
  (∀ (k4_h1 : k4_cond1 i = 1#1), ∀ (k4_h4 : k4_cond4 i k4_t1 arg10_r0 = 1#1), ∀ a, (k4_off9 arg7_r0) a + S1.size a ≤ S2.size a) ∧
  (∀ (k4_h1 : k4_cond1 i = 1#1), ∀ (k4_h7 : k4_cond7 i k4_t1 arg10_r0 = 1#1), ∀ a, (k4_off12 arg8_r0) a + S1x128x128.size a ≤ S2x128x128.size a) ∧
  (∀ (k4_h1 : k4_cond1 i = 1#1), ∀ (k4_h7 : k4_cond7 i k4_t1 arg10_r0 = 1#1), ∀ a, (k4_off13 i arg10_r0) a + S128x128.size a ≤ S160000x128.size a) ∧
  (∀ (k4_h1 : k4_cond1 i = 1#1), ∀ (k4_h7 : k4_cond7 i k4_t1 arg10_r0 = 1#1), ∀ a, (k4_off14 arg8_r0) a + S1.size a ≤ S2.size a) ∧
  (∀ (k4_h1 : k4_cond1 i = 1#1), ∀ (k4_h9 : k4_cond9 i k4_t1 arg10_r0 = 1#1), ∀ a, (k4_off15 arg9_r0) a + S1x128x128.size a ≤ S2x128x128.size a) ∧
  (∀ (k4_h1 : k4_cond1 i = 1#1), ∀ (k4_h9 : k4_cond9 i k4_t1 arg10_r0 = 1#1), ∀ a, (k4_off16 i arg10_r0) a + S128x128.size a ≤ S160000x128.size a) ∧
  (∀ (k4_h1 : k4_cond1 i = 1#1), ∀ (k4_h9 : k4_cond9 i k4_t1 arg10_r0 = 1#1), ∀ a, (k4_off17 arg9_r0) a + S1.size a ≤ S2.size a)
theorem k4_off4_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h3 : k4_cond3 i k4_t1 arg10_r0 = 1#1), ∀ a, (k4_off4 arg6_r0) a + S1x1x128.size a ≤ S2x1x128.size a := fun i k4_t1 arg6_r0 arg7_r0 arg8_r0 arg9_r0 arg10_r0 k4_hw1 k4_h1 k4_h3 => k4_hw1.1 k4_h1 k4_h3
theorem k4_off5_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h3 : k4_cond3 i k4_t1 arg10_r0 = 1#1), ∀ a, (k4_off5 i arg10_r0) a + S1x128.size a ≤ S1x160000.size a := fun i k4_t1 arg6_r0 arg7_r0 arg8_r0 arg9_r0 arg10_r0 k4_hw1 k4_h1 k4_h3 => k4_hw1.2.1 k4_h1 k4_h3
theorem k4_off6_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h3 : k4_cond3 i k4_t1 arg10_r0 = 1#1), ∀ a, (k4_off6 arg6_r0) a + S1.size a ≤ S2.size a := fun i k4_t1 arg6_r0 arg7_r0 arg8_r0 arg9_r0 arg10_r0 k4_hw1 k4_h1 k4_h3 => k4_hw1.2.2.1 k4_h1 k4_h3
theorem k4_off7_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h4 : k4_cond4 i k4_t1 arg10_r0 = 1#1), ∀ a, (k4_off7 arg7_r0) a + S1x1x128.size a ≤ S2x1x128.size a := fun i k4_t1 arg6_r0 arg7_r0 arg8_r0 arg9_r0 arg10_r0 k4_hw1 k4_h1 k4_h4 => k4_hw1.2.2.2.1 k4_h1 k4_h4
theorem k4_off8_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h4 : k4_cond4 i k4_t1 arg10_r0 = 1#1), ∀ a, (k4_off8 i arg10_r0) a + S1x128.size a ≤ S1x160000.size a := fun i k4_t1 arg6_r0 arg7_r0 arg8_r0 arg9_r0 arg10_r0 k4_hw1 k4_h1 k4_h4 => k4_hw1.2.2.2.2.1 k4_h1 k4_h4
theorem k4_off9_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h4 : k4_cond4 i k4_t1 arg10_r0 = 1#1), ∀ a, (k4_off9 arg7_r0) a + S1.size a ≤ S2.size a := fun i k4_t1 arg6_r0 arg7_r0 arg8_r0 arg9_r0 arg10_r0 k4_hw1 k4_h1 k4_h4 => k4_hw1.2.2.2.2.2.1 k4_h1 k4_h4
theorem k4_off12_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h7 : k4_cond7 i k4_t1 arg10_r0 = 1#1), ∀ a, (k4_off12 arg8_r0) a + S1x128x128.size a ≤ S2x128x128.size a := fun i k4_t1 arg6_r0 arg7_r0 arg8_r0 arg9_r0 arg10_r0 k4_hw1 k4_h1 k4_h7 => k4_hw1.2.2.2.2.2.2.1 k4_h1 k4_h7
theorem k4_off13_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h7 : k4_cond7 i k4_t1 arg10_r0 = 1#1), ∀ a, (k4_off13 i arg10_r0) a + S128x128.size a ≤ S160000x128.size a := fun i k4_t1 arg6_r0 arg7_r0 arg8_r0 arg9_r0 arg10_r0 k4_hw1 k4_h1 k4_h7 => k4_hw1.2.2.2.2.2.2.2.1 k4_h1 k4_h7
theorem k4_off14_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h7 : k4_cond7 i k4_t1 arg10_r0 = 1#1), ∀ a, (k4_off14 arg8_r0) a + S1.size a ≤ S2.size a := fun i k4_t1 arg6_r0 arg7_r0 arg8_r0 arg9_r0 arg10_r0 k4_hw1 k4_h1 k4_h7 => k4_hw1.2.2.2.2.2.2.2.2.1 k4_h1 k4_h7
theorem k4_off15_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h9 : k4_cond9 i k4_t1 arg10_r0 = 1#1), ∀ a, (k4_off15 arg9_r0) a + S1x128x128.size a ≤ S2x128x128.size a := fun i k4_t1 arg6_r0 arg7_r0 arg8_r0 arg9_r0 arg10_r0 k4_hw1 k4_h1 k4_h9 => k4_hw1.2.2.2.2.2.2.2.2.2.1 k4_h1 k4_h9
theorem k4_off16_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h9 : k4_cond9 i k4_t1 arg10_r0 = 1#1), ∀ a, (k4_off16 i arg10_r0) a + S128x128.size a ≤ S160000x128.size a := fun i k4_t1 arg6_r0 arg7_r0 arg8_r0 arg9_r0 arg10_r0 k4_hw1 k4_h1 k4_h9 => k4_hw1.2.2.2.2.2.2.2.2.2.2.1 k4_h1 k4_h9
theorem k4_off17_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h9 : k4_cond9 i k4_t1 arg10_r0 = 1#1), ∀ a, (k4_off17 arg9_r0) a + S1.size a ≤ S2.size a := fun i k4_t1 arg6_r0 arg7_r0 arg8_r0 arg9_r0 arg10_r0 k4_hw1 k4_h1 k4_h9 => k4_hw1.2.2.2.2.2.2.2.2.2.2.2 k4_h1 k4_h9

@[reducible] def k4_t2_loop (i : grid4.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let v43_r0 : BitVec 32 := Scalar.addi c0_i32_29_r0 v42_r0
  let c1_i32_36_r0 : BitVec 32 := 1#32
  ⟨v46_r0, v43_r0, c1_i32_36_r0⟩
def k4_off18 (arg6_r0 : BitVec 32) : Fin 3 → Nat :=
  let c2_i32_102_r0 : BitVec 32 := 2#32
  let v167_r0 : BitVec 32 := Scalar.remui arg6_r0 c2_i32_102_r0
  let c0_i32_103_r0 : BitVec 32 := 0#32
  let c0_i32_104_r0 : BitVec 32 := 0#32
  ![v167_r0.toNat, 0, 0]
def k4_cond10 (i : grid4.Coords) (k4_t2 : Fin (k4_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k4_t2
  let c1_i32_57_r0 : BitVec 32 := 1#32
  let v80_r0 : BitVec 32 := Scalar.muli c1_i32_57_r0 v5
  let c2_i32_70_r0 : BitVec 32 := 2#32
  let v102_r0 : BitVec 32 := Scalar.subi v80_r0 c2_i32_70_r0
  let c1_i32_71_r0 : BitVec 32 := 1#32
  let v103_r0 : BitVec 32 := Scalar.addi v102_r0 c1_i32_71_r0
  let v104_r0 : BitVec 1 := Scalar.cmpi .sge arg5_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k4_off19 (i : grid4.Coords) (arg10_r0 : BitVec 32) : Fin 2 → Nat :=
  let c0_i32_105_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v93_r0 : BitVec 1 := Scalar.cmpi .eq v92_r0 v5
  let c0_i32_66_r0 : BitVec 32 := 0#32
  let v94_r0 : BitVec 32 := Scalar.select v93_r0 c0_i32_66_r0 v92_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k4_off20 (arg6_r0 : BitVec 32) : Fin 1 → Nat :=
  let c2_i32_102_r0 : BitVec 32 := 2#32
  let v167_r0 : BitVec 32 := Scalar.remui arg6_r0 c2_i32_102_r0
  ![v167_r0.toNat]
def k4_off21 (arg7_r0 : BitVec 32) : Fin 3 → Nat :=
  let c2_i32_102_r0 : BitVec 32 := 2#32
  let v168_r0 : BitVec 32 := Scalar.remui arg7_r0 c2_i32_102_r0
  let c0_i32_103_r0 : BitVec 32 := 0#32
  let c0_i32_104_r0 : BitVec 32 := 0#32
  ![v168_r0.toNat, 0, 0]
def k4_cond11 (i : grid4.Coords) (k4_t2 : Fin (k4_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k4_t2
  let c0_i32_58_r0 : BitVec 32 := 0#32
  let v81_r0 : BitVec 1 := Scalar.cmpi .eq arg5_r0 c0_i32_58_r0
  let v120_r0 : BitVec 1 := Scalar.ori v119_r0 v81_r0
  let c0_i32_80_r0 : BitVec 32 := 0#32
  let v121_r0 : BitVec 1 := Scalar.cmpi .sge arg5_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k4_off22 (i : grid4.Coords) (arg10_r0 : BitVec 32) : Fin 2 → Nat :=
  let c0_i32_105_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k4_off23 (arg7_r0 : BitVec 32) : Fin 1 → Nat :=
  let c2_i32_102_r0 : BitVec 32 := 2#32
  let v168_r0 : BitVec 32 := Scalar.remui arg7_r0 c2_i32_102_r0
  ![v168_r0.toNat]
def k4_off24 (arg8_r0 : BitVec 32) : Fin 3 → Nat :=
  let c2_i32_85_r0 : BitVec 32 := 2#32
  let v132_r0 : BitVec 32 := Scalar.remui arg8_r0 c2_i32_85_r0
  let c0_i32_102_r2 : BitVec 32 := 0#32
  let c0_i32_103_r2 : BitVec 32 := 0#32
  ![v132_r0.toNat, 0, 0]

def k4_chk5 (i : grid4.Coords) (k4_t2 : Fin (k4_t2_loop i).trips) (arg8_r0 : BitVec 32) : Prop :=
  (∀ (k4_h1 : k4_cond1 i = 1#1), ∀ a, (k4_off24 arg8_r0) a + S1x128x128.size a ≤ S2x128x128.size a)
theorem k4_off24_inb : ∀ (i : grid4.Coords) (k4_t2 : Fin (k4_t2_loop i).trips) (arg8_r0 : BitVec 32) (k4_hw5 : k4_chk5 i k4_t2 arg8_r0), ∀ (k4_h1 : k4_cond1 i = 1#1), ∀ a, (k4_off24 arg8_r0) a + S1x128x128.size a ≤ S2x128x128.size a := fun i k4_t2 arg8_r0 k4_hw5 k4_h1 => k4_hw5 k4_h1

def k4_off25 (arg7_r0 : BitVec 32) : Fin 3 → Nat :=
  let c2_i32_84_r0 : BitVec 32 := 2#32
  let v131_r0 : BitVec 32 := Scalar.remui arg7_r0 c2_i32_84_r0
  let c0_i32_104_r2 : BitVec 32 := 0#32
  let c0_i32_105_r2 : BitVec 32 := 0#32
  ![v131_r0.toNat, 0, 0]

def k4_chk6 (i : grid4.Coords) (k4_t2 : Fin (k4_t2_loop i).trips) (arg7_r0 : BitVec 32) : Prop :=
  (∀ (k4_h1 : k4_cond1 i = 1#1), ∀ a, (k4_off25 arg7_r0) a + S1x1x128.size a ≤ S2x1x128.size a)
theorem k4_off25_inb : ∀ (i : grid4.Coords) (k4_t2 : Fin (k4_t2_loop i).trips) (arg7_r0 : BitVec 32) (k4_hw6 : k4_chk6 i k4_t2 arg7_r0), ∀ (k4_h1 : k4_cond1 i = 1#1), ∀ a, (k4_off25 arg7_r0) a + S1x1x128.size a ≤ S2x1x128.size a := fun i k4_t2 arg7_r0 k4_hw6 k4_h1 => k4_hw6 k4_h1

def k4_off26 (arg8_r0 : BitVec 32) : Fin 3 → Nat :=
  let c2_i32_102_r0 : BitVec 32 := 2#32
  let v167_r0 : BitVec 32 := Scalar.remui arg8_r0 c2_i32_102_r0
  let c0_i32_103_r0 : BitVec 32 := 0#32
  let c0_i32_104_r0 : BitVec 32 := 0#32
  ![v167_r0.toNat, 0, 0]
def k4_cond14 (i : grid4.Coords) (k4_t2 : Fin (k4_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k4_t2
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_88_r0 : BitVec 32 := 0#32
  let v141_r0 : BitVec 1 := Scalar.cmpi .ne v140_r0 c0_i32_88_r0
  v141_r0

def k4_off27 (i : grid4.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let v168_r0 : BitVec 32 := Scalar.muli c128_i32_r0 v84_r0
  let c0_i32_105_r0 : BitVec 32 := 0#32
  ![v168_r0.toNat, 0]
def k4_off28 (arg8_r0 : BitVec 32) : Fin 1 → Nat :=
  let c2_i32_102_r0 : BitVec 32 := 2#32
  let v167_r0 : BitVec 32 := Scalar.remui arg8_r0 c2_i32_102_r0
  ![v167_r0.toNat]
def k4_off29 (arg9_r0 : BitVec 32) : Fin 3 → Nat :=
  let c2_i32_102_r0 : BitVec 32 := 2#32
  let v167_r0 : BitVec 32 := Scalar.remui arg9_r0 c2_i32_102_r0
  let c0_i32_103_r0 : BitVec 32 := 0#32
  let c0_i32_104_r0 : BitVec 32 := 0#32
  ![v167_r0.toNat, 0, 0]
def k4_cond16 (i : grid4.Coords) (k4_t2 : Fin (k4_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k4_t2
  let c0_i32_58_r0 : BitVec 32 := 0#32
  let v81_r0 : BitVec 1 := Scalar.cmpi .eq arg5_r0 c0_i32_58_r0
  let true_94_r0 : BitVec 1 := 1#1
  let v152_r0 : BitVec 1 := Scalar.xori v81_r0 true_94_r0
  let v153_r0 : BitVec 1 := Scalar.andi v151_r0 v152_r0
  let v154_r0 : BitVec 32 := Scalar.extui v153_r0
  let c0_i32_95_r0 : BitVec 32 := 0#32
  let v155_r0 : BitVec 1 := Scalar.cmpi .ne v154_r0 c0_i32_95_r0
  v155_r0

def k4_off30 (i : grid4.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let c1_i32_63_r0 : BitVec 32 := 1#32
  let v88_r0 : BitVec 32 := Scalar.subi v5 c1_i32_63_r0
  let v89_r0 : BitVec 32 := Scalar.select v87_r0 v88_r0 v86_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi v89_r0 v10
  let v168_r0 : BitVec 32 := Scalar.muli c128_i32_r0 v90_r0
  let c0_i32_105_r0 : BitVec 32 := 0#32
  ![v168_r0.toNat, 0]
def k4_off31 (arg9_r0 : BitVec 32) : Fin 1 → Nat :=
  let c2_i32_102_r0 : BitVec 32 := 2#32
  let v167_r0 : BitVec 32 := Scalar.remui arg9_r0 c2_i32_102_r0
  ![v167_r0.toNat]

def k4_chk4 (i : grid4.Coords) (k4_t2 : Fin (k4_t2_loop i).trips) (arg6_r0 : BitVec 32) (arg7_r0 : BitVec 32) (arg8_r0 : BitVec 32) (arg9_r0 : BitVec 32) (arg10_r0 : BitVec 32) : Prop :=
  (∀ (k4_h1 : k4_cond1 i = 1#1), ∀ (k4_h10 : k4_cond10 i k4_t2 arg10_r0 = 1#1), ∀ a, (k4_off18 arg6_r0) a + S1x1x128.size a ≤ S2x1x128.size a) ∧
  (∀ (k4_h1 : k4_cond1 i = 1#1), ∀ (k4_h10 : k4_cond10 i k4_t2 arg10_r0 = 1#1), ∀ a, (k4_off19 i arg10_r0) a + S1x128.size a ≤ S1x160000.size a) ∧
  (∀ (k4_h1 : k4_cond1 i = 1#1), ∀ (k4_h10 : k4_cond10 i k4_t2 arg10_r0 = 1#1), ∀ a, (k4_off20 arg6_r0) a + S1.size a ≤ S2.size a) ∧
  (∀ (k4_h1 : k4_cond1 i = 1#1), ∀ (k4_h11 : k4_cond11 i k4_t2 arg10_r0 = 1#1), ∀ a, (k4_off21 arg7_r0) a + S1x1x128.size a ≤ S2x1x128.size a) ∧
  (∀ (k4_h1 : k4_cond1 i = 1#1), ∀ (k4_h11 : k4_cond11 i k4_t2 arg10_r0 = 1#1), ∀ a, (k4_off22 i arg10_r0) a + S1x128.size a ≤ S1x160000.size a) ∧
  (∀ (k4_h1 : k4_cond1 i = 1#1), ∀ (k4_h11 : k4_cond11 i k4_t2 arg10_r0 = 1#1), ∀ a, (k4_off23 arg7_r0) a + S1.size a ≤ S2.size a) ∧
  (∀ (k4_h1 : k4_cond1 i = 1#1), ∀ (k4_h14 : k4_cond14 i k4_t2 arg10_r0 = 1#1), ∀ a, (k4_off26 arg8_r0) a + S1x128x128.size a ≤ S2x128x128.size a) ∧
  (∀ (k4_h1 : k4_cond1 i = 1#1), ∀ (k4_h14 : k4_cond14 i k4_t2 arg10_r0 = 1#1), ∀ a, (k4_off27 i arg10_r0) a + S128x128.size a ≤ S160000x128.size a) ∧
  (∀ (k4_h1 : k4_cond1 i = 1#1), ∀ (k4_h14 : k4_cond14 i k4_t2 arg10_r0 = 1#1), ∀ a, (k4_off28 arg8_r0) a + S1.size a ≤ S2.size a) ∧
  (∀ (k4_h1 : k4_cond1 i = 1#1), ∀ (k4_h16 : k4_cond16 i k4_t2 arg10_r0 = 1#1), ∀ a, (k4_off29 arg9_r0) a + S1x128x128.size a ≤ S2x128x128.size a) ∧
  (∀ (k4_h1 : k4_cond1 i = 1#1), ∀ (k4_h16 : k4_cond16 i k4_t2 arg10_r0 = 1#1), ∀ a, (k4_off30 i arg10_r0) a + S128x128.size a ≤ S160000x128.size a) ∧
  (∀ (k4_h1 : k4_cond1 i = 1#1), ∀ (k4_h16 : k4_cond16 i k4_t2 arg10_r0 = 1#1), ∀ a, (k4_off31 arg9_r0) a + S1.size a ≤ S2.size a)
theorem k4_off18_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h10 : k4_cond10 i k4_t2 arg10_r0 = 1#1), ∀ a, (k4_off18 arg6_r0) a + S1x1x128.size a ≤ S2x1x128.size a := fun i k4_t2 arg6_r0 arg7_r0 arg8_r0 arg9_r0 arg10_r0 k4_hw4 k4_h1 k4_h10 => k4_hw4.1 k4_h1 k4_h10
theorem k4_off19_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h10 : k4_cond10 i k4_t2 arg10_r0 = 1#1), ∀ a, (k4_off19 i arg10_r0) a + S1x128.size a ≤ S1x160000.size a := fun i k4_t2 arg6_r0 arg7_r0 arg8_r0 arg9_r0 arg10_r0 k4_hw4 k4_h1 k4_h10 => k4_hw4.2.1 k4_h1 k4_h10
theorem k4_off20_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h10 : k4_cond10 i k4_t2 arg10_r0 = 1#1), ∀ a, (k4_off20 arg6_r0) a + S1.size a ≤ S2.size a := fun i k4_t2 arg6_r0 arg7_r0 arg8_r0 arg9_r0 arg10_r0 k4_hw4 k4_h1 k4_h10 => k4_hw4.2.2.1 k4_h1 k4_h10
theorem k4_off21_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h11 : k4_cond11 i k4_t2 arg10_r0 = 1#1), ∀ a, (k4_off21 arg7_r0) a + S1x1x128.size a ≤ S2x1x128.size a := fun i k4_t2 arg6_r0 arg7_r0 arg8_r0 arg9_r0 arg10_r0 k4_hw4 k4_h1 k4_h11 => k4_hw4.2.2.2.1 k4_h1 k4_h11
theorem k4_off22_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h11 : k4_cond11 i k4_t2 arg10_r0 = 1#1), ∀ a, (k4_off22 i arg10_r0) a + S1x128.size a ≤ S1x160000.size a := fun i k4_t2 arg6_r0 arg7_r0 arg8_r0 arg9_r0 arg10_r0 k4_hw4 k4_h1 k4_h11 => k4_hw4.2.2.2.2.1 k4_h1 k4_h11
theorem k4_off23_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h11 : k4_cond11 i k4_t2 arg10_r0 = 1#1), ∀ a, (k4_off23 arg7_r0) a + S1.size a ≤ S2.size a := fun i k4_t2 arg6_r0 arg7_r0 arg8_r0 arg9_r0 arg10_r0 k4_hw4 k4_h1 k4_h11 => k4_hw4.2.2.2.2.2.1 k4_h1 k4_h11
theorem k4_off26_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h14 : k4_cond14 i k4_t2 arg10_r0 = 1#1), ∀ a, (k4_off26 arg8_r0) a + S1x128x128.size a ≤ S2x128x128.size a := fun i k4_t2 arg6_r0 arg7_r0 arg8_r0 arg9_r0 arg10_r0 k4_hw4 k4_h1 k4_h14 => k4_hw4.2.2.2.2.2.2.1 k4_h1 k4_h14
theorem k4_off27_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h14 : k4_cond14 i k4_t2 arg10_r0 = 1#1), ∀ a, (k4_off27 i arg10_r0) a + S128x128.size a ≤ S160000x128.size a := fun i k4_t2 arg6_r0 arg7_r0 arg8_r0 arg9_r0 arg10_r0 k4_hw4 k4_h1 k4_h14 => k4_hw4.2.2.2.2.2.2.2.1 k4_h1 k4_h14
theorem k4_off28_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h14 : k4_cond14 i k4_t2 arg10_r0 = 1#1), ∀ a, (k4_off28 arg8_r0) a + S1.size a ≤ S2.size a := fun i k4_t2 arg6_r0 arg7_r0 arg8_r0 arg9_r0 arg10_r0 k4_hw4 k4_h1 k4_h14 => k4_hw4.2.2.2.2.2.2.2.2.1 k4_h1 k4_h14
theorem k4_off29_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h16 : k4_cond16 i k4_t2 arg10_r0 = 1#1), ∀ a, (k4_off29 arg9_r0) a + S1x128x128.size a ≤ S2x128x128.size a := fun i k4_t2 arg6_r0 arg7_r0 arg8_r0 arg9_r0 arg10_r0 k4_hw4 k4_h1 k4_h16 => k4_hw4.2.2.2.2.2.2.2.2.2.1 k4_h1 k4_h16
theorem k4_off30_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h16 : k4_cond16 i k4_t2 arg10_r0 = 1#1), ∀ a, (k4_off30 i arg10_r0) a + S128x128.size a ≤ S160000x128.size a := fun i k4_t2 arg6_r0 arg7_r0 arg8_r0 arg9_r0 arg10_r0 k4_hw4 k4_h1 k4_h16 => k4_hw4.2.2.2.2.2.2.2.2.2.2.1 k4_h1 k4_h16
theorem k4_off31_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h16 : k4_cond16 i k4_t2 arg10_r0 = 1#1), ∀ a, (k4_off31 arg9_r0) a + S1.size a ≤ S2.size a := fun i k4_t2 arg6_r0 arg7_r0 arg8_r0 arg9_r0 arg10_r0 k4_hw4 k4_h1 k4_h16 => k4_hw4.2.2.2.2.2.2.2.2.2.2.2 k4_h1 k4_h16

def k4_cond18 (i : grid4.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v11 : BitVec 32 := Scalar.muli c1_i32_3 v5
  let c1_i32_41_r0 : BitVec 32 := 1#32
  let v54_r0 : BitVec 32 := Scalar.subi v11 c1_i32_41_r0
  let c1_i32_42_r0 : BitVec 32 := 1#32
  let v55_r0 : BitVec 32 := Scalar.muli c1_i32_42_r0 v5
  let c1_i32_44_r0 : BitVec 32 := 1#32
  let v57_r0 : BitVec 32 := Scalar.subi v55_r0 c1_i32_44_r0
  let v58_r0 : BitVec 1 := Scalar.cmpi .eq v54_r0 v57_r0
  let v78_r0 : BitVec 32 := Scalar.extui v58_r0
  let c0_i32_56_r0 : BitVec 32 := 0#32
  let v79_r0 : BitVec 1 := Scalar.cmpi .ne v78_r0 c0_i32_56_r0
  v79_r0

def k4_off32 (v48_3_r0 : BitVec 32) : Fin 3 → Nat :=
  let c2_i32_57_r0 : BitVec 32 := 2#32
  let v80_r0 : BitVec 32 := Scalar.remui v48_3_r0 c2_i32_57_r0
  let c0_i32_58_r0 : BitVec 32 := 0#32
  let c0_i32_59_r0 : BitVec 32 := 0#32
  ![v80_r0.toNat, 0, 0]

def k4_off33 (i : grid4.Coords) (v48_4_r0 : BitVec 32) : Fin 2 → Nat :=
  let c128_i32_r0 : BitVec 32 := 128#32
  let true_38_r0 : BitVec 1 := 1#1
  let c1_i32_37_r0 : BitVec 32 := 1#32
  let v49_r0 : BitVec 32 := Scalar.subi v48_4_r0 c1_i32_37_r0
  let v50_r0 : BitVec 32 := Scalar.select true_38_r0 v49_r0 v48_4_r0
  let c_m1_i32_39_r0 : BitVec 32 := 4294967295#32
  let v51_r0 : BitVec 1 := Scalar.cmpi .eq v50_r0 c_m1_i32_39_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let c1_i32_40_r0 : BitVec 32 := 1#32
  let v52_r0 : BitVec 32 := Scalar.subi v5 c1_i32_40_r0
  let v53_r0 : BitVec 32 := Scalar.select v51_r0 v52_r0 v50_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v59_r0 : BitVec 32 := Scalar.addi v53_r0 v10
  let v81_r0 : BitVec 32 := Scalar.muli c128_i32_r0 v59_r0
  let c0_i32_60_r0 : BitVec 32 := 0#32
  ![v81_r0.toNat, 0]

def k4_chk8 (i : grid4.Coords) (v48_4_r0 : BitVec 32) : Prop :=
  (∀ (k4_h1 : k4_cond1 i = 1#1), ∀ (k4_h18 : k4_cond18 i = 1#1), ∀ a, (k4_off33 i v48_4_r0) a + S128x128.size a ≤ S160000x128.size a)
theorem k4_off33_inb : ∀ (i : grid4.Coords) (v48_4_r0 : BitVec 32) (k4_hw8 : k4_chk8 i v48_4_r0), ∀ (k4_h1 : k4_cond1 i = 1#1), ∀ (k4_h18 : k4_cond18 i = 1#1), ∀ a, (k4_off33 i v48_4_r0) a + S128x128.size a ≤ S160000x128.size a := fun i v48_4_r0 k4_hw8 k4_h1 k4_h18 => k4_hw8 k4_h1 k4_h18

def k4_off34 (v48_3_r0 : BitVec 32) : Fin 1 → Nat :=
  let c2_i32_57_r0 : BitVec 32 := 2#32
  let v80_r0 : BitVec 32 := Scalar.remui v48_3_r0 c2_i32_57_r0
  ![v80_r0.toNat]
def k4_off35 (v48_3_r0 : BitVec 32) : Fin 3 → Nat :=
  let c2_i32_57_r0 : BitVec 32 := 2#32
  let v80_r0 : BitVec 32 := Scalar.remui v48_3_r0 c2_i32_57_r0
  let c0_i32_62_r0 : BitVec 32 := 0#32
  let c0_i32_63_r0 : BitVec 32 := 0#32
  ![v80_r0.toNat, 0, 0]

def k4_chk7 (i : grid4.Coords) (v48_3_r0 : BitVec 32) : Prop :=
  (∀ (k4_h1 : k4_cond1 i = 1#1), ∀ (k4_h18 : k4_cond18 i = 1#1), ∀ a, (k4_off32 v48_3_r0) a + S1x128x128.size a ≤ S2x128x128.size a) ∧
  (∀ (k4_h1 : k4_cond1 i = 1#1), ∀ (k4_h18 : k4_cond18 i = 1#1), ∀ a, (k4_off34 v48_3_r0) a + S1.size a ≤ S2.size a) ∧
  (∀ (k4_h1 : k4_cond1 i = 1#1), ∀ (k4_h18 : k4_cond18 i = 1#1), ∀ a, (k4_off35 v48_3_r0) a + S1x128x128.size a ≤ S2x128x128.size a)
theorem k4_off32_inb : ∀ (i : grid4.Coords) (v48_3_r0 : BitVec 32) (k4_hw7 : k4_chk7 i v48_3_r0), ∀ (k4_h1 : k4_cond1 i = 1#1), ∀ (k4_h18 : k4_cond18 i = 1#1), ∀ a, (k4_off32 v48_3_r0) a + S1x128x128.size a ≤ S2x128x128.size a := fun i v48_3_r0 k4_hw7 k4_h1 k4_h18 => k4_hw7.1 k4_h1 k4_h18
theorem k4_off34_inb : ∀ (i : grid4.Coords) (v48_3_r0 : BitVec 32) (k4_hw7 : k4_chk7 i v48_3_r0), ∀ (k4_h1 : k4_cond1 i = 1#1), ∀ (k4_h18 : k4_cond18 i = 1#1), ∀ a, (k4_off34 v48_3_r0) a + S1.size a ≤ S2.size a := fun i v48_3_r0 k4_hw7 k4_h1 k4_h18 => k4_hw7.2.1 k4_h1 k4_h18
theorem k4_off35_inb : ∀ (i : grid4.Coords) (v48_3_r0 : BitVec 32) (k4_hw7 : k4_chk7 i v48_3_r0), ∀ (k4_h1 : k4_cond1 i = 1#1), ∀ (k4_h18 : k4_cond18 i = 1#1), ∀ a, (k4_off35 v48_3_r0) a + S1x128x128.size a ≤ S2x128x128.size a := fun i v48_3_r0 k4_hw7 k4_h1 k4_h18 => k4_hw7.2.2 k4_h1 k4_h18

abbrev grid5 : Pipeline.Grid := ⟨1, ![25], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S16x400x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S400x16 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S512x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S16x960 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S960x64 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S960x64 .bf16 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S400x64 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨2, ![2, 16], ![false, false]⟩

def k6_cond1 (i : grid6.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v11 : BitVec 32 := Scalar.muli c1_i32_3 v5
  let c0_i32_5_r0 : BitVec 32 := 0#32
  let v14_r0 : BitVec 1 := Scalar.cmpi .sgt v11 c0_i32_5_r0
  let v15_r0 : BitVec 32 := Scalar.extui v14_r0
  let c0_i32_6_r0 : BitVec 32 := 0#32
  let v16_r0 : BitVec 1 := Scalar.cmpi .ne v15_r0 c0_i32_6_r0
  v16_r0

def k6_cond2 (i : grid6.Coords) : BitVec 1 :=
  let true_22_r0 : BitVec 1 := 1#1
  let c1_i32_7_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v17_r0 : BitVec 32 := Scalar.muli c1_i32_7_r0 v5
  let c0_i32_21_r0 : BitVec 32 := 0#32
  let v35_r0 : BitVec 1 := Scalar.cmpi .sgt v17_r0 c0_i32_21_r0
  let v36_r0 : BitVec 1 := Scalar.andi true_22_r0 v35_r0
  let true_23_r0 : BitVec 1 := 1#1
  let v37_r0 : BitVec 1 := Scalar.andi v36_r0 true_23_r0
  let v38_r0 : BitVec 32 := Scalar.extui v37_r0
  let c0_i32_25_r0 : BitVec 32 := 0#32
  let v39_r0 : BitVec 1 := Scalar.cmpi .ne v38_r0 c0_i32_25_r0
  v39_r0

def k6_off1 : Fin 3 → Nat :=
  let c0_i32_24_r0 : BitVec 32 := 0#32
  let c2_i32_57_r0 : BitVec 32 := 2#32
  let v80_r0 : BitVec 32 := Scalar.remui c0_i32_24_r0 c2_i32_57_r0
  let c0_i32_58_r0 : BitVec 32 := 0#32
  let c0_i32_59_r0 : BitVec 32 := 0#32
  ![v80_r0.toNat, 0, 0]
def k6_off2 (i : grid6.Coords) : Fin 2 → Nat :=
  let c0_i32_60_r0 : BitVec 32 := 0#32
  let c128_i32_r0 : BitVec 32 := 128#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v20_r0 : BitVec 32 := Scalar.addi c0_i32_10_r0 v10
  let v81_r0 : BitVec 32 := Scalar.muli c128_i32_r0 v20_r0
  ![0, v81_r0.toNat]
def k6_off3 : Fin 1 → Nat :=
  let c0_i32_24_r0 : BitVec 32 := 0#32
  let c2_i32_57_r0 : BitVec 32 := 2#32
  let v80_r0 : BitVec 32 := Scalar.remui c0_i32_24_r0 c2_i32_57_r0
  ![v80_r0.toNat]
@[reducible] def k6_t1_loop (i : grid6.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_35_r0 : BitVec 32 := 1#32
  ⟨c0_i32_29_r0, v46_r0, c1_i32_35_r0⟩
def k6_off4 (arg6_r0 : BitVec 32) : Fin 3 → Nat :=
  let c2_i32_102_r0 : BitVec 32 := 2#32
  let v167_r0 : BitVec 32 := Scalar.remui arg6_r0 c2_i32_102_r0
  let c0_i32_103_r0 : BitVec 32 := 0#32
  let c0_i32_104_r0 : BitVec 32 := 0#32
  ![v167_r0.toNat, 0, 0]
def k6_cond3 (i : grid6.Coords) (k6_t1 : Fin (k6_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k6_t1
  let c1_i32_57_r0 : BitVec 32 := 1#32
  let v80_r0 : BitVec 32 := Scalar.muli c1_i32_57_r0 v5
  let c2_i32_70_r0 : BitVec 32 := 2#32
  let v102_r0 : BitVec 32 := Scalar.subi v80_r0 c2_i32_70_r0
  let c1_i32_71_r0 : BitVec 32 := 1#32
  let v103_r0 : BitVec 32 := Scalar.addi v102_r0 c1_i32_71_r0
  let v104_r0 : BitVec 1 := Scalar.cmpi .sge arg5_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k6_off5 (i : grid6.Coords) (arg10_r0 : BitVec 32) : Fin 2 → Nat :=
  let c0_i32_105_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v93_r0 : BitVec 1 := Scalar.cmpi .eq v92_r0 v5
  let c0_i32_66_r0 : BitVec 32 := 0#32
  let v94_r0 : BitVec 32 := Scalar.select v93_r0 c0_i32_66_r0 v92_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k6_off6 (arg6_r0 : BitVec 32) : Fin 1 → Nat :=
  let c2_i32_102_r0 : BitVec 32 := 2#32
  let v167_r0 : BitVec 32 := Scalar.remui arg6_r0 c2_i32_102_r0
  ![v167_r0.toNat]
def k6_off7 (arg7_r0 : BitVec 32) : Fin 3 → Nat :=
  let c2_i32_102_r0 : BitVec 32 := 2#32
  let v168_r0 : BitVec 32 := Scalar.remui arg7_r0 c2_i32_102_r0
  let c0_i32_103_r0 : BitVec 32 := 0#32
  let c0_i32_104_r0 : BitVec 32 := 0#32
  ![v168_r0.toNat, 0, 0]
def k6_cond4 (i : grid6.Coords) (k6_t1 : Fin (k6_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k6_t1
  let c0_i32_58_r0 : BitVec 32 := 0#32
  let v81_r0 : BitVec 1 := Scalar.cmpi .eq arg5_r0 c0_i32_58_r0
  let v120_r0 : BitVec 1 := Scalar.ori v119_r0 v81_r0
  let c0_i32_80_r0 : BitVec 32 := 0#32
  let v121_r0 : BitVec 1 := Scalar.cmpi .sge arg5_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k6_off8 (i : grid6.Coords) (arg10_r0 : BitVec 32) : Fin 2 → Nat :=
  let c0_i32_105_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k6_off9 (arg7_r0 : BitVec 32) : Fin 1 → Nat :=
  let c2_i32_102_r0 : BitVec 32 := 2#32
  let v168_r0 : BitVec 32 := Scalar.remui arg7_r0 c2_i32_102_r0
  ![v168_r0.toNat]
def k6_off10 (arg8_r0 : BitVec 32) : Fin 3 → Nat :=
  let c2_i32_85_r0 : BitVec 32 := 2#32
  let v132_r0 : BitVec 32 := Scalar.remui arg8_r0 c2_i32_85_r0
  let c0_i32_102_r1 : BitVec 32 := 0#32
  let c0_i32_103_r1 : BitVec 32 := 0#32
  ![v132_r0.toNat, 0, 0]

def k6_chk2 (i : grid6.Coords) (arg8_r0 : BitVec 32) : Prop :=
  (∀ (k6_h1 : k6_cond1 i = 1#1), ∀ a, (k6_off10 arg8_r0) a + S1x128x128.size a ≤ S2x128x128.size a)
theorem k6_off10_inb : ∀ (i : grid6.Coords) (arg8_r0 : BitVec 32) (k6_hw2 : k6_chk2 i arg8_r0), ∀ (k6_h1 : k6_cond1 i = 1#1), ∀ a, (k6_off10 arg8_r0) a + S1x128x128.size a ≤ S2x128x128.size a := fun i arg8_r0 k6_hw2 k6_h1 => k6_hw2 k6_h1

def k6_off11 (arg7_r0 : BitVec 32) : Fin 3 → Nat :=
  let c2_i32_84_r0 : BitVec 32 := 2#32
  let v131_r0 : BitVec 32 := Scalar.remui arg7_r0 c2_i32_84_r0
  let c0_i32_104_r1 : BitVec 32 := 0#32
  let c0_i32_105_r1 : BitVec 32 := 0#32
  ![v131_r0.toNat, 0, 0]

def k6_chk3 (i : grid6.Coords) (arg7_r0 : BitVec 32) : Prop :=
  (∀ (k6_h1 : k6_cond1 i = 1#1), ∀ a, (k6_off11 arg7_r0) a + S1x1x128.size a ≤ S2x1x128.size a)
theorem k6_off11_inb : ∀ (i : grid6.Coords) (arg7_r0 : BitVec 32) (k6_hw3 : k6_chk3 i arg7_r0), ∀ (k6_h1 : k6_cond1 i = 1#1), ∀ a, (k6_off11 arg7_r0) a + S1x1x128.size a ≤ S2x1x128.size a := fun i arg7_r0 k6_hw3 k6_h1 => k6_hw3 k6_h1

def k6_off12 (arg8_r0 : BitVec 32) : Fin 3 → Nat :=
  let c2_i32_102_r0 : BitVec 32 := 2#32
  let v167_r0 : BitVec 32 := Scalar.remui arg8_r0 c2_i32_102_r0
  let c0_i32_103_r0 : BitVec 32 := 0#32
  let c0_i32_104_r0 : BitVec 32 := 0#32
  ![v167_r0.toNat, 0, 0]
def k6_cond7 (i : grid6.Coords) (k6_t1 : Fin (k6_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k6_t1
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_88_r0 : BitVec 32 := 0#32
  let v141_r0 : BitVec 1 := Scalar.cmpi .ne v140_r0 c0_i32_88_r0
  v141_r0

def k6_off13 (i : grid6.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let v168_r0 : BitVec 32 := Scalar.muli c128_i32_r0 v84_r0
  let c0_i32_105_r0 : BitVec 32 := 0#32
  ![v168_r0.toNat, 0]
def k6_off14 (arg8_r0 : BitVec 32) : Fin 1 → Nat :=
  let c2_i32_102_r0 : BitVec 32 := 2#32
  let v167_r0 : BitVec 32 := Scalar.remui arg8_r0 c2_i32_102_r0
  ![v167_r0.toNat]
def k6_off15 (arg9_r0 : BitVec 32) : Fin 3 → Nat :=
  let c2_i32_102_r0 : BitVec 32 := 2#32
  let v167_r0 : BitVec 32 := Scalar.remui arg9_r0 c2_i32_102_r0
  let c0_i32_103_r0 : BitVec 32 := 0#32
  let c0_i32_104_r0 : BitVec 32 := 0#32
  ![v167_r0.toNat, 0, 0]
def k6_cond9 (i : grid6.Coords) (k6_t1 : Fin (k6_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k6_t1
  let c0_i32_58_r0 : BitVec 32 := 0#32
  let v81_r0 : BitVec 1 := Scalar.cmpi .eq arg5_r0 c0_i32_58_r0
  let true_94_r0 : BitVec 1 := 1#1
  let v152_r0 : BitVec 1 := Scalar.xori v81_r0 true_94_r0
  let v153_r0 : BitVec 1 := Scalar.andi v151_r0 v152_r0
  let v154_r0 : BitVec 32 := Scalar.extui v153_r0
  let c0_i32_95_r0 : BitVec 32 := 0#32
  let v155_r0 : BitVec 1 := Scalar.cmpi .ne v154_r0 c0_i32_95_r0
  v155_r0

def k6_off16 (i : grid6.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let c1_i32_63_r0 : BitVec 32 := 1#32
  let v88_r0 : BitVec 32 := Scalar.subi v5 c1_i32_63_r0
  let v89_r0 : BitVec 32 := Scalar.select v87_r0 v88_r0 v86_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi v89_r0 v10
  let v168_r0 : BitVec 32 := Scalar.muli c128_i32_r0 v90_r0
  let c0_i32_105_r0 : BitVec 32 := 0#32
  ![v168_r0.toNat, 0]
def k6_off17 (arg9_r0 : BitVec 32) : Fin 1 → Nat :=
  let c2_i32_102_r0 : BitVec 32 := 2#32
  let v167_r0 : BitVec 32 := Scalar.remui arg9_r0 c2_i32_102_r0
  ![v167_r0.toNat]

def k6_chk1 (i : grid6.Coords) (k6_t1 : Fin (k6_t1_loop i).trips) (arg6_r0 : BitVec 32) (arg7_r0 : BitVec 32) (arg8_r0 : BitVec 32) (arg9_r0 : BitVec 32) (arg10_r0 : BitVec 32) : Prop :=
  (∀ (k6_h1 : k6_cond1 i = 1#1), ∀ (k6_h3 : k6_cond3 i k6_t1 arg10_r0 = 1#1), ∀ a, (k6_off4 arg6_r0) a + S1x1x128.size a ≤ S2x1x128.size a) ∧
  (∀ (k6_h1 : k6_cond1 i = 1#1), ∀ (k6_h3 : k6_cond3 i k6_t1 arg10_r0 = 1#1), ∀ a, (k6_off5 i arg10_r0) a + S1x128.size a ≤ S1x160000.size a) ∧
  (∀ (k6_h1 : k6_cond1 i = 1#1), ∀ (k6_h3 : k6_cond3 i k6_t1 arg10_r0 = 1#1), ∀ a, (k6_off6 arg6_r0) a + S1.size a ≤ S2.size a) ∧
  (∀ (k6_h1 : k6_cond1 i = 1#1), ∀ (k6_h4 : k6_cond4 i k6_t1 arg10_r0 = 1#1), ∀ a, (k6_off7 arg7_r0) a + S1x1x128.size a ≤ S2x1x128.size a) ∧
  (∀ (k6_h1 : k6_cond1 i = 1#1), ∀ (k6_h4 : k6_cond4 i k6_t1 arg10_r0 = 1#1), ∀ a, (k6_off8 i arg10_r0) a + S1x128.size a ≤ S1x160000.size a) ∧
  (∀ (k6_h1 : k6_cond1 i = 1#1), ∀ (k6_h4 : k6_cond4 i k6_t1 arg10_r0 = 1#1), ∀ a, (k6_off9 arg7_r0) a + S1.size a ≤ S2.size a) ∧
  (∀ (k6_h1 : k6_cond1 i = 1#1), ∀ (k6_h7 : k6_cond7 i k6_t1 arg10_r0 = 1#1), ∀ a, (k6_off12 arg8_r0) a + S1x128x128.size a ≤ S2x128x128.size a) ∧
  (∀ (k6_h1 : k6_cond1 i = 1#1), ∀ (k6_h7 : k6_cond7 i k6_t1 arg10_r0 = 1#1), ∀ a, (k6_off13 i arg10_r0) a + S128x128.size a ≤ S160000x128.size a) ∧
  (∀ (k6_h1 : k6_cond1 i = 1#1), ∀ (k6_h7 : k6_cond7 i k6_t1 arg10_r0 = 1#1), ∀ a, (k6_off14 arg8_r0) a + S1.size a ≤ S2.size a) ∧
  (∀ (k6_h1 : k6_cond1 i = 1#1), ∀ (k6_h9 : k6_cond9 i k6_t1 arg10_r0 = 1#1), ∀ a, (k6_off15 arg9_r0) a + S1x128x128.size a ≤ S2x128x128.size a) ∧
  (∀ (k6_h1 : k6_cond1 i = 1#1), ∀ (k6_h9 : k6_cond9 i k6_t1 arg10_r0 = 1#1), ∀ a, (k6_off16 i arg10_r0) a + S128x128.size a ≤ S160000x128.size a) ∧
  (∀ (k6_h1 : k6_cond1 i = 1#1), ∀ (k6_h9 : k6_cond9 i k6_t1 arg10_r0 = 1#1), ∀ a, (k6_off17 arg9_r0) a + S1.size a ≤ S2.size a)
theorem k6_off4_inb : ∀ (i : grid6.Coords) (k6_t1 : Fin (k6_t1_loop i).trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h1 : k6_cond1 i = 1#1), ∀ (k6_h3 : k6_cond3 i k6_t1 arg10_r0 = 1#1), ∀ a, (k6_off4 arg6_r0) a + S1x1x128.size a ≤ S2x1x128.size a := fun i k6_t1 arg6_r0 arg7_r0 arg8_r0 arg9_r0 arg10_r0 k6_hw1 k6_h1 k6_h3 => k6_hw1.1 k6_h1 k6_h3
theorem k6_off5_inb : ∀ (i : grid6.Coords) (k6_t1 : Fin (k6_t1_loop i).trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h1 : k6_cond1 i = 1#1), ∀ (k6_h3 : k6_cond3 i k6_t1 arg10_r0 = 1#1), ∀ a, (k6_off5 i arg10_r0) a + S1x128.size a ≤ S1x160000.size a := fun i k6_t1 arg6_r0 arg7_r0 arg8_r0 arg9_r0 arg10_r0 k6_hw1 k6_h1 k6_h3 => k6_hw1.2.1 k6_h1 k6_h3
theorem k6_off6_inb : ∀ (i : grid6.Coords) (k6_t1 : Fin (k6_t1_loop i).trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h1 : k6_cond1 i = 1#1), ∀ (k6_h3 : k6_cond3 i k6_t1 arg10_r0 = 1#1), ∀ a, (k6_off6 arg6_r0) a + S1.size a ≤ S2.size a := fun i k6_t1 arg6_r0 arg7_r0 arg8_r0 arg9_r0 arg10_r0 k6_hw1 k6_h1 k6_h3 => k6_hw1.2.2.1 k6_h1 k6_h3
theorem k6_off7_inb : ∀ (i : grid6.Coords) (k6_t1 : Fin (k6_t1_loop i).trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h1 : k6_cond1 i = 1#1), ∀ (k6_h4 : k6_cond4 i k6_t1 arg10_r0 = 1#1), ∀ a, (k6_off7 arg7_r0) a + S1x1x128.size a ≤ S2x1x128.size a := fun i k6_t1 arg6_r0 arg7_r0 arg8_r0 arg9_r0 arg10_r0 k6_hw1 k6_h1 k6_h4 => k6_hw1.2.2.2.1 k6_h1 k6_h4
theorem k6_off8_inb : ∀ (i : grid6.Coords) (k6_t1 : Fin (k6_t1_loop i).trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h1 : k6_cond1 i = 1#1), ∀ (k6_h4 : k6_cond4 i k6_t1 arg10_r0 = 1#1), ∀ a, (k6_off8 i arg10_r0) a + S1x128.size a ≤ S1x160000.size a := fun i k6_t1 arg6_r0 arg7_r0 arg8_r0 arg9_r0 arg10_r0 k6_hw1 k6_h1 k6_h4 => k6_hw1.2.2.2.2.1 k6_h1 k6_h4
theorem k6_off9_inb : ∀ (i : grid6.Coords) (k6_t1 : Fin (k6_t1_loop i).trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h1 : k6_cond1 i = 1#1), ∀ (k6_h4 : k6_cond4 i k6_t1 arg10_r0 = 1#1), ∀ a, (k6_off9 arg7_r0) a + S1.size a ≤ S2.size a := fun i k6_t1 arg6_r0 arg7_r0 arg8_r0 arg9_r0 arg10_r0 k6_hw1 k6_h1 k6_h4 => k6_hw1.2.2.2.2.2.1 k6_h1 k6_h4
theorem k6_off12_inb : ∀ (i : grid6.Coords) (k6_t1 : Fin (k6_t1_loop i).trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h1 : k6_cond1 i = 1#1), ∀ (k6_h7 : k6_cond7 i k6_t1 arg10_r0 = 1#1), ∀ a, (k6_off12 arg8_r0) a + S1x128x128.size a ≤ S2x128x128.size a := fun i k6_t1 arg6_r0 arg7_r0 arg8_r0 arg9_r0 arg10_r0 k6_hw1 k6_h1 k6_h7 => k6_hw1.2.2.2.2.2.2.1 k6_h1 k6_h7
theorem k6_off13_inb : ∀ (i : grid6.Coords) (k6_t1 : Fin (k6_t1_loop i).trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h1 : k6_cond1 i = 1#1), ∀ (k6_h7 : k6_cond7 i k6_t1 arg10_r0 = 1#1), ∀ a, (k6_off13 i arg10_r0) a + S128x128.size a ≤ S160000x128.size a := fun i k6_t1 arg6_r0 arg7_r0 arg8_r0 arg9_r0 arg10_r0 k6_hw1 k6_h1 k6_h7 => k6_hw1.2.2.2.2.2.2.2.1 k6_h1 k6_h7
theorem k6_off14_inb : ∀ (i : grid6.Coords) (k6_t1 : Fin (k6_t1_loop i).trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h1 : k6_cond1 i = 1#1), ∀ (k6_h7 : k6_cond7 i k6_t1 arg10_r0 = 1#1), ∀ a, (k6_off14 arg8_r0) a + S1.size a ≤ S2.size a := fun i k6_t1 arg6_r0 arg7_r0 arg8_r0 arg9_r0 arg10_r0 k6_hw1 k6_h1 k6_h7 => k6_hw1.2.2.2.2.2.2.2.2.1 k6_h1 k6_h7
theorem k6_off15_inb : ∀ (i : grid6.Coords) (k6_t1 : Fin (k6_t1_loop i).trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h1 : k6_cond1 i = 1#1), ∀ (k6_h9 : k6_cond9 i k6_t1 arg10_r0 = 1#1), ∀ a, (k6_off15 arg9_r0) a + S1x128x128.size a ≤ S2x128x128.size a := fun i k6_t1 arg6_r0 arg7_r0 arg8_r0 arg9_r0 arg10_r0 k6_hw1 k6_h1 k6_h9 => k6_hw1.2.2.2.2.2.2.2.2.2.1 k6_h1 k6_h9
theorem k6_off16_inb : ∀ (i : grid6.Coords) (k6_t1 : Fin (k6_t1_loop i).trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h1 : k6_cond1 i = 1#1), ∀ (k6_h9 : k6_cond9 i k6_t1 arg10_r0 = 1#1), ∀ a, (k6_off16 i arg10_r0) a + S128x128.size a ≤ S160000x128.size a := fun i k6_t1 arg6_r0 arg7_r0 arg8_r0 arg9_r0 arg10_r0 k6_hw1 k6_h1 k6_h9 => k6_hw1.2.2.2.2.2.2.2.2.2.2.1 k6_h1 k6_h9
theorem k6_off17_inb : ∀ (i : grid6.Coords) (k6_t1 : Fin (k6_t1_loop i).trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h1 : k6_cond1 i = 1#1), ∀ (k6_h9 : k6_cond9 i k6_t1 arg10_r0 = 1#1), ∀ a, (k6_off17 arg9_r0) a + S1.size a ≤ S2.size a := fun i k6_t1 arg6_r0 arg7_r0 arg8_r0 arg9_r0 arg10_r0 k6_hw1 k6_h1 k6_h9 => k6_hw1.2.2.2.2.2.2.2.2.2.2.2 k6_h1 k6_h9

@[reducible] def k6_t2_loop (i : grid6.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let v43_r0 : BitVec 32 := Scalar.addi c0_i32_29_r0 v42_r0
  let c1_i32_36_r0 : BitVec 32 := 1#32
  ⟨v46_r0, v43_r0, c1_i32_36_r0⟩
def k6_off18 (arg6_r0 : BitVec 32) : Fin 3 → Nat :=
  let c2_i32_102_r0 : BitVec 32 := 2#32
  let v167_r0 : BitVec 32 := Scalar.remui arg6_r0 c2_i32_102_r0
  let c0_i32_103_r0 : BitVec 32 := 0#32
  let c0_i32_104_r0 : BitVec 32 := 0#32
  ![v167_r0.toNat, 0, 0]
def k6_cond10 (i : grid6.Coords) (k6_t2 : Fin (k6_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k6_t2
  let c1_i32_57_r0 : BitVec 32 := 1#32
  let v80_r0 : BitVec 32 := Scalar.muli c1_i32_57_r0 v5
  let c2_i32_70_r0 : BitVec 32 := 2#32
  let v102_r0 : BitVec 32 := Scalar.subi v80_r0 c2_i32_70_r0
  let c1_i32_71_r0 : BitVec 32 := 1#32
  let v103_r0 : BitVec 32 := Scalar.addi v102_r0 c1_i32_71_r0
  let v104_r0 : BitVec 1 := Scalar.cmpi .sge arg5_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k6_off19 (i : grid6.Coords) (arg10_r0 : BitVec 32) : Fin 2 → Nat :=
  let c0_i32_105_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v93_r0 : BitVec 1 := Scalar.cmpi .eq v92_r0 v5
  let c0_i32_66_r0 : BitVec 32 := 0#32
  let v94_r0 : BitVec 32 := Scalar.select v93_r0 c0_i32_66_r0 v92_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k6_off20 (arg6_r0 : BitVec 32) : Fin 1 → Nat :=
  let c2_i32_102_r0 : BitVec 32 := 2#32
  let v167_r0 : BitVec 32 := Scalar.remui arg6_r0 c2_i32_102_r0
  ![v167_r0.toNat]
def k6_off21 (arg7_r0 : BitVec 32) : Fin 3 → Nat :=
  let c2_i32_102_r0 : BitVec 32 := 2#32
  let v168_r0 : BitVec 32 := Scalar.remui arg7_r0 c2_i32_102_r0
  let c0_i32_103_r0 : BitVec 32 := 0#32
  let c0_i32_104_r0 : BitVec 32 := 0#32
  ![v168_r0.toNat, 0, 0]
def k6_cond11 (i : grid6.Coords) (k6_t2 : Fin (k6_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k6_t2
  let c0_i32_58_r0 : BitVec 32 := 0#32
  let v81_r0 : BitVec 1 := Scalar.cmpi .eq arg5_r0 c0_i32_58_r0
  let v120_r0 : BitVec 1 := Scalar.ori v119_r0 v81_r0
  let c0_i32_80_r0 : BitVec 32 := 0#32
  let v121_r0 : BitVec 1 := Scalar.cmpi .sge arg5_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k6_off22 (i : grid6.Coords) (arg10_r0 : BitVec 32) : Fin 2 → Nat :=
  let c0_i32_105_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k6_off23 (arg7_r0 : BitVec 32) : Fin 1 → Nat :=
  let c2_i32_102_r0 : BitVec 32 := 2#32
  let v168_r0 : BitVec 32 := Scalar.remui arg7_r0 c2_i32_102_r0
  ![v168_r0.toNat]
def k6_off24 (arg8_r0 : BitVec 32) : Fin 3 → Nat :=
  let c2_i32_85_r0 : BitVec 32 := 2#32
  let v132_r0 : BitVec 32 := Scalar.remui arg8_r0 c2_i32_85_r0
  let c0_i32_102_r2 : BitVec 32 := 0#32
  let c0_i32_103_r2 : BitVec 32 := 0#32
  ![v132_r0.toNat, 0, 0]

def k6_chk5 (i : grid6.Coords) (k6_t2 : Fin (k6_t2_loop i).trips) (arg8_r0 : BitVec 32) : Prop :=
  (∀ (k6_h1 : k6_cond1 i = 1#1), ∀ a, (k6_off24 arg8_r0) a + S1x128x128.size a ≤ S2x128x128.size a)
theorem k6_off24_inb : ∀ (i : grid6.Coords) (k6_t2 : Fin (k6_t2_loop i).trips) (arg8_r0 : BitVec 32) (k6_hw5 : k6_chk5 i k6_t2 arg8_r0), ∀ (k6_h1 : k6_cond1 i = 1#1), ∀ a, (k6_off24 arg8_r0) a + S1x128x128.size a ≤ S2x128x128.size a := fun i k6_t2 arg8_r0 k6_hw5 k6_h1 => k6_hw5 k6_h1

def k6_off25 (arg7_r0 : BitVec 32) : Fin 3 → Nat :=
  let c2_i32_84_r0 : BitVec 32 := 2#32
  let v131_r0 : BitVec 32 := Scalar.remui arg7_r0 c2_i32_84_r0
  let c0_i32_104_r2 : BitVec 32 := 0#32
  let c0_i32_105_r2 : BitVec 32 := 0#32
  ![v131_r0.toNat, 0, 0]

def k6_chk6 (i : grid6.Coords) (k6_t2 : Fin (k6_t2_loop i).trips) (arg7_r0 : BitVec 32) : Prop :=
  (∀ (k6_h1 : k6_cond1 i = 1#1), ∀ a, (k6_off25 arg7_r0) a + S1x1x128.size a ≤ S2x1x128.size a)
theorem k6_off25_inb : ∀ (i : grid6.Coords) (k6_t2 : Fin (k6_t2_loop i).trips) (arg7_r0 : BitVec 32) (k6_hw6 : k6_chk6 i k6_t2 arg7_r0), ∀ (k6_h1 : k6_cond1 i = 1#1), ∀ a, (k6_off25 arg7_r0) a + S1x1x128.size a ≤ S2x1x128.size a := fun i k6_t2 arg7_r0 k6_hw6 k6_h1 => k6_hw6 k6_h1

def k6_off26 (arg8_r0 : BitVec 32) : Fin 3 → Nat :=
  let c2_i32_102_r0 : BitVec 32 := 2#32
  let v167_r0 : BitVec 32 := Scalar.remui arg8_r0 c2_i32_102_r0
  let c0_i32_103_r0 : BitVec 32 := 0#32
  let c0_i32_104_r0 : BitVec 32 := 0#32
  ![v167_r0.toNat, 0, 0]
def k6_cond14 (i : grid6.Coords) (k6_t2 : Fin (k6_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k6_t2
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_88_r0 : BitVec 32 := 0#32
  let v141_r0 : BitVec 1 := Scalar.cmpi .ne v140_r0 c0_i32_88_r0
  v141_r0

def k6_off27 (i : grid6.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let v168_r0 : BitVec 32 := Scalar.muli c128_i32_r0 v84_r0
  let c0_i32_105_r0 : BitVec 32 := 0#32
  ![v168_r0.toNat, 0]
def k6_off28 (arg8_r0 : BitVec 32) : Fin 1 → Nat :=
  let c2_i32_102_r0 : BitVec 32 := 2#32
  let v167_r0 : BitVec 32 := Scalar.remui arg8_r0 c2_i32_102_r0
  ![v167_r0.toNat]
def k6_off29 (arg9_r0 : BitVec 32) : Fin 3 → Nat :=
  let c2_i32_102_r0 : BitVec 32 := 2#32
  let v167_r0 : BitVec 32 := Scalar.remui arg9_r0 c2_i32_102_r0
  let c0_i32_103_r0 : BitVec 32 := 0#32
  let c0_i32_104_r0 : BitVec 32 := 0#32
  ![v167_r0.toNat, 0, 0]
def k6_cond16 (i : grid6.Coords) (k6_t2 : Fin (k6_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k6_t2
  let c0_i32_58_r0 : BitVec 32 := 0#32
  let v81_r0 : BitVec 1 := Scalar.cmpi .eq arg5_r0 c0_i32_58_r0
  let true_94_r0 : BitVec 1 := 1#1
  let v152_r0 : BitVec 1 := Scalar.xori v81_r0 true_94_r0
  let v153_r0 : BitVec 1 := Scalar.andi v151_r0 v152_r0
  let v154_r0 : BitVec 32 := Scalar.extui v153_r0
  let c0_i32_95_r0 : BitVec 32 := 0#32
  let v155_r0 : BitVec 1 := Scalar.cmpi .ne v154_r0 c0_i32_95_r0
  v155_r0

def k6_off30 (i : grid6.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let c1_i32_63_r0 : BitVec 32 := 1#32
  let v88_r0 : BitVec 32 := Scalar.subi v5 c1_i32_63_r0
  let v89_r0 : BitVec 32 := Scalar.select v87_r0 v88_r0 v86_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi v89_r0 v10
  let v168_r0 : BitVec 32 := Scalar.muli c128_i32_r0 v90_r0
  let c0_i32_105_r0 : BitVec 32 := 0#32
  ![v168_r0.toNat, 0]
def k6_off31 (arg9_r0 : BitVec 32) : Fin 1 → Nat :=
  let c2_i32_102_r0 : BitVec 32 := 2#32
  let v167_r0 : BitVec 32 := Scalar.remui arg9_r0 c2_i32_102_r0
  ![v167_r0.toNat]

def k6_chk4 (i : grid6.Coords) (k6_t2 : Fin (k6_t2_loop i).trips) (arg6_r0 : BitVec 32) (arg7_r0 : BitVec 32) (arg8_r0 : BitVec 32) (arg9_r0 : BitVec 32) (arg10_r0 : BitVec 32) : Prop :=
  (∀ (k6_h1 : k6_cond1 i = 1#1), ∀ (k6_h10 : k6_cond10 i k6_t2 arg10_r0 = 1#1), ∀ a, (k6_off18 arg6_r0) a + S1x1x128.size a ≤ S2x1x128.size a) ∧
  (∀ (k6_h1 : k6_cond1 i = 1#1), ∀ (k6_h10 : k6_cond10 i k6_t2 arg10_r0 = 1#1), ∀ a, (k6_off19 i arg10_r0) a + S1x128.size a ≤ S1x160000.size a) ∧
  (∀ (k6_h1 : k6_cond1 i = 1#1), ∀ (k6_h10 : k6_cond10 i k6_t2 arg10_r0 = 1#1), ∀ a, (k6_off20 arg6_r0) a + S1.size a ≤ S2.size a) ∧
  (∀ (k6_h1 : k6_cond1 i = 1#1), ∀ (k6_h11 : k6_cond11 i k6_t2 arg10_r0 = 1#1), ∀ a, (k6_off21 arg7_r0) a + S1x1x128.size a ≤ S2x1x128.size a) ∧
  (∀ (k6_h1 : k6_cond1 i = 1#1), ∀ (k6_h11 : k6_cond11 i k6_t2 arg10_r0 = 1#1), ∀ a, (k6_off22 i arg10_r0) a + S1x128.size a ≤ S1x160000.size a) ∧
  (∀ (k6_h1 : k6_cond1 i = 1#1), ∀ (k6_h11 : k6_cond11 i k6_t2 arg10_r0 = 1#1), ∀ a, (k6_off23 arg7_r0) a + S1.size a ≤ S2.size a) ∧
  (∀ (k6_h1 : k6_cond1 i = 1#1), ∀ (k6_h14 : k6_cond14 i k6_t2 arg10_r0 = 1#1), ∀ a, (k6_off26 arg8_r0) a + S1x128x128.size a ≤ S2x128x128.size a) ∧
  (∀ (k6_h1 : k6_cond1 i = 1#1), ∀ (k6_h14 : k6_cond14 i k6_t2 arg10_r0 = 1#1), ∀ a, (k6_off27 i arg10_r0) a + S128x128.size a ≤ S160000x128.size a) ∧
  (∀ (k6_h1 : k6_cond1 i = 1#1), ∀ (k6_h14 : k6_cond14 i k6_t2 arg10_r0 = 1#1), ∀ a, (k6_off28 arg8_r0) a + S1.size a ≤ S2.size a) ∧
  (∀ (k6_h1 : k6_cond1 i = 1#1), ∀ (k6_h16 : k6_cond16 i k6_t2 arg10_r0 = 1#1), ∀ a, (k6_off29 arg9_r0) a + S1x128x128.size a ≤ S2x128x128.size a) ∧
  (∀ (k6_h1 : k6_cond1 i = 1#1), ∀ (k6_h16 : k6_cond16 i k6_t2 arg10_r0 = 1#1), ∀ a, (k6_off30 i arg10_r0) a + S128x128.size a ≤ S160000x128.size a) ∧
  (∀ (k6_h1 : k6_cond1 i = 1#1), ∀ (k6_h16 : k6_cond16 i k6_t2 arg10_r0 = 1#1), ∀ a, (k6_off31 arg9_r0) a + S1.size a ≤ S2.size a)
theorem k6_off18_inb : ∀ (i : grid6.Coords) (k6_t2 : Fin (k6_t2_loop i).trips) (arg6_r0 : BitVec 32) (arg7_r0 : BitVec 32) (arg8_r0 : BitVec 32) (arg9_r0 : BitVec 32) (arg10_r0 : BitVec 32) (k6_hw4 : k6_chk4 i k6_t2 arg6_r0 arg7_r0 arg8_r0 arg9_r0 arg10_r0), ∀ (k6_h1 : k6_cond1 i = 1#1), ∀ (k6_h10 : k6_cond10 i k6_t2 arg10_r0 = 1#1), ∀ a, (k6_off18 arg6_r0) a + S1x1x128.size a ≤ S2x1x128.size a := fun i k6_t2 arg6_r0 arg7_r0 arg8_r0 arg9_r0 arg10_r0 k6_hw4 k6_h1 k6_h10 => k6_hw4.1 k6_h1 k6_h10
theorem k6_off19_inb : ∀ (i : grid6.Coords) (k6_t2 : Fin (k6_t2_loop i).trips) (arg6_r0 : BitVec 32) (arg7_r0 : BitVec 32) (arg8_r0 : BitVec 32) (arg9_r0 : BitVec 32) (arg10_r0 : BitVec 32) (k6_hw4 : k6_chk4 i k6_t2 arg6_r0 arg7_r0 arg8_r0 arg9_r0 arg10_r0), ∀ (k6_h1 : k6_cond1 i = 1#1), ∀ (k6_h10 : k6_cond10 i k6_t2 arg10_r0 = 1#1), ∀ a, (k6_off19 i arg10_r0) a + S1x128.size a ≤ S1x160000.size a := fun i k6_t2 arg6_r0 arg7_r0 arg8_r0 arg9_r0 arg10_r0 k6_hw4 k6_h1 k6_h10 => k6_hw4.2.1 k6_h1 k6_h10
theorem k6_off20_inb : ∀ (i : grid6.Coords) (k6_t2 : Fin (k6_t2_loop i).trips) (arg6_r0 : BitVec 32) (arg7_r0 : BitVec 32) (arg8_r0 : BitVec 32) (arg9_r0 : BitVec 32) (arg10_r0 : BitVec 32) (k6_hw4 : k6_chk4 i k6_t2 arg6_r0 arg7_r0 arg8_r0 arg9_r0 arg10_r0), ∀ (k6_h1 : k6_cond1 i = 1#1), ∀ (k6_h10 : k6_cond10 i k6_t2 arg10_r0 = 1#1), ∀ a, (k6_off20 arg6_r0) a + S1.size a ≤ S2.size a := fun i k6_t2 arg6_r0 arg7_r0 arg8_r0 arg9_r0 arg10_r0 k6_hw4 k6_h1 k6_h10 => k6_hw4.2.2.1 k6_h1 k6_h10
theorem k6_off21_inb : ∀ (i : grid6.Coords) (k6_t2 : Fin (k6_t2_loop i).trips) (arg6_r0 : BitVec 32) (arg7_r0 : BitVec 32) (arg8_r0 : BitVec 32) (arg9_r0 : BitVec 32) (arg10_r0 : BitVec 32) (k6_hw4 : k6_chk4 i k6_t2 arg6_r0 arg7_r0 arg8_r0 arg9_r0 arg10_r0), ∀ (k6_h1 : k6_cond1 i = 1#1), ∀ (k6_h11 : k6_cond11 i k6_t2 arg10_r0 = 1#1), ∀ a, (k6_off21 arg7_r0) a + S1x1x128.size a ≤ S2x1x128.size a := fun i k6_t2 arg6_r0 arg7_r0 arg8_r0 arg9_r0 arg10_r0 k6_hw4 k6_h1 k6_h11 => k6_hw4.2.2.2.1 k6_h1 k6_h11
theorem k6_off22_inb : ∀ (i : grid6.Coords) (k6_t2 : Fin (k6_t2_loop i).trips) (arg6_r0 : BitVec 32) (arg7_r0 : BitVec 32) (arg8_r0 : BitVec 32) (arg9_r0 : BitVec 32) (arg10_r0 : BitVec 32) (k6_hw4 : k6_chk4 i k6_t2 arg6_r0 arg7_r0 arg8_r0 arg9_r0 arg10_r0), ∀ (k6_h1 : k6_cond1 i = 1#1), ∀ (k6_h11 : k6_cond11 i k6_t2 arg10_r0 = 1#1), ∀ a, (k6_off22 i arg10_r0) a + S1x128.size a ≤ S1x160000.size a := fun i k6_t2 arg6_r0 arg7_r0 arg8_r0 arg9_r0 arg10_r0 k6_hw4 k6_h1 k6_h11 => k6_hw4.2.2.2.2.1 k6_h1 k6_h11
theorem k6_off23_inb : ∀ (i : grid6.Coords) (k6_t2 : Fin (k6_t2_loop i).trips) (arg6_r0 : BitVec 32) (arg7_r0 : BitVec 32) (arg8_r0 : BitVec 32) (arg9_r0 : BitVec 32) (arg10_r0 : BitVec 32) (k6_hw4 : k6_chk4 i k6_t2 arg6_r0 arg7_r0 arg8_r0 arg9_r0 arg10_r0), ∀ (k6_h1 : k6_cond1 i = 1#1), ∀ (k6_h11 : k6_cond11 i k6_t2 arg10_r0 = 1#1), ∀ a, (k6_off23 arg7_r0) a + S1.size a ≤ S2.size a := fun i k6_t2 arg6_r0 arg7_r0 arg8_r0 arg9_r0 arg10_r0 k6_hw4 k6_h1 k6_h11 => k6_hw4.2.2.2.2.2.1 k6_h1 k6_h11
theorem k6_off26_inb : ∀ (i : grid6.Coords) (k6_t2 : Fin (k6_t2_loop i).trips) (arg6_r0 : BitVec 32) (arg7_r0 : BitVec 32) (arg8_r0 : BitVec 32) (arg9_r0 : BitVec 32) (arg10_r0 : BitVec 32) (k6_hw4 : k6_chk4 i k6_t2 arg6_r0 arg7_r0 arg8_r0 arg9_r0 arg10_r0), ∀ (k6_h1 : k6_cond1 i = 1#1), ∀ (k6_h14 : k6_cond14 i k6_t2 arg10_r0 = 1#1), ∀ a, (k6_off26 arg8_r0) a + S1x128x128.size a ≤ S2x128x128.size a := fun i k6_t2 arg6_r0 arg7_r0 arg8_r0 arg9_r0 arg10_r0 k6_hw4 k6_h1 k6_h14 => k6_hw4.2.2.2.2.2.2.1 k6_h1 k6_h14
theorem k6_off27_inb : ∀ (i : grid6.Coords) (k6_t2 : Fin (k6_t2_loop i).trips) (arg6_r0 : BitVec 32) (arg7_r0 : BitVec 32) (arg8_r0 : BitVec 32) (arg9_r0 : BitVec 32) (arg10_r0 : BitVec 32) (k6_hw4 : k6_chk4 i k6_t2 arg6_r0 arg7_r0 arg8_r0 arg9_r0 arg10_r0), ∀ (k6_h1 : k6_cond1 i = 1#1), ∀ (k6_h14 : k6_cond14 i k6_t2 arg10_r0 = 1#1), ∀ a, (k6_off27 i arg10_r0) a + S128x128.size a ≤ S160000x128.size a := fun i k6_t2 arg6_r0 arg7_r0 arg8_r0 arg9_r0 arg10_r0 k6_hw4 k6_h1 k6_h14 => k6_hw4.2.2.2.2.2.2.2.1 k6_h1 k6_h14
theorem k6_off28_inb : ∀ (i : grid6.Coords) (k6_t2 : Fin (k6_t2_loop i).trips) (arg6_r0 : BitVec 32) (arg7_r0 : BitVec 32) (arg8_r0 : BitVec 32) (arg9_r0 : BitVec 32) (arg10_r0 : BitVec 32) (k6_hw4 : k6_chk4 i k6_t2 arg6_r0 arg7_r0 arg8_r0 arg9_r0 arg10_r0), ∀ (k6_h1 : k6_cond1 i = 1#1), ∀ (k6_h14 : k6_cond14 i k6_t2 arg10_r0 = 1#1), ∀ a, (k6_off28 arg8_r0) a + S1.size a ≤ S2.size a := fun i k6_t2 arg6_r0 arg7_r0 arg8_r0 arg9_r0 arg10_r0 k6_hw4 k6_h1 k6_h14 => k6_hw4.2.2.2.2.2.2.2.2.1 k6_h1 k6_h14
theorem k6_off29_inb : ∀ (i : grid6.Coords) (k6_t2 : Fin (k6_t2_loop i).trips) (arg6_r0 : BitVec 32) (arg7_r0 : BitVec 32) (arg8_r0 : BitVec 32) (arg9_r0 : BitVec 32) (arg10_r0 : BitVec 32) (k6_hw4 : k6_chk4 i k6_t2 arg6_r0 arg7_r0 arg8_r0 arg9_r0 arg10_r0), ∀ (k6_h1 : k6_cond1 i = 1#1), ∀ (k6_h16 : k6_cond16 i k6_t2 arg10_r0 = 1#1), ∀ a, (k6_off29 arg9_r0) a + S1x128x128.size a ≤ S2x128x128.size a := fun i k6_t2 arg6_r0 arg7_r0 arg8_r0 arg9_r0 arg10_r0 k6_hw4 k6_h1 k6_h16 => k6_hw4.2.2.2.2.2.2.2.2.2.1 k6_h1 k6_h16
theorem k6_off30_inb : ∀ (i : grid6.Coords) (k6_t2 : Fin (k6_t2_loop i).trips) (arg6_r0 : BitVec 32) (arg7_r0 : BitVec 32) (arg8_r0 : BitVec 32) (arg9_r0 : BitVec 32) (arg10_r0 : BitVec 32) (k6_hw4 : k6_chk4 i k6_t2 arg6_r0 arg7_r0 arg8_r0 arg9_r0 arg10_r0), ∀ (k6_h1 : k6_cond1 i = 1#1), ∀ (k6_h16 : k6_cond16 i k6_t2 arg10_r0 = 1#1), ∀ a, (k6_off30 i arg10_r0) a + S128x128.size a ≤ S160000x128.size a := fun i k6_t2 arg6_r0 arg7_r0 arg8_r0 arg9_r0 arg10_r0 k6_hw4 k6_h1 k6_h16 => k6_hw4.2.2.2.2.2.2.2.2.2.2.1 k6_h1 k6_h16
theorem k6_off31_inb : ∀ (i : grid6.Coords) (k6_t2 : Fin (k6_t2_loop i).trips) (arg6_r0 : BitVec 32) (arg7_r0 : BitVec 32) (arg8_r0 : BitVec 32) (arg9_r0 : BitVec 32) (arg10_r0 : BitVec 32) (k6_hw4 : k6_chk4 i k6_t2 arg6_r0 arg7_r0 arg8_r0 arg9_r0 arg10_r0), ∀ (k6_h1 : k6_cond1 i = 1#1), ∀ (k6_h16 : k6_cond16 i k6_t2 arg10_r0 = 1#1), ∀ a, (k6_off31 arg9_r0) a + S1.size a ≤ S2.size a := fun i k6_t2 arg6_r0 arg7_r0 arg8_r0 arg9_r0 arg10_r0 k6_hw4 k6_h1 k6_h16 => k6_hw4.2.2.2.2.2.2.2.2.2.2.2 k6_h1 k6_h16

def k6_cond18 (i : grid6.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v11 : BitVec 32 := Scalar.muli c1_i32_3 v5
  let c1_i32_41_r0 : BitVec 32 := 1#32
  let v54_r0 : BitVec 32 := Scalar.subi v11 c1_i32_41_r0
  let c1_i32_42_r0 : BitVec 32 := 1#32
  let v55_r0 : BitVec 32 := Scalar.muli c1_i32_42_r0 v5
  let c1_i32_44_r0 : BitVec 32 := 1#32
  let v57_r0 : BitVec 32 := Scalar.subi v55_r0 c1_i32_44_r0
  let v58_r0 : BitVec 1 := Scalar.cmpi .eq v54_r0 v57_r0
  let v78_r0 : BitVec 32 := Scalar.extui v58_r0
  let c0_i32_56_r0 : BitVec 32 := 0#32
  let v79_r0 : BitVec 1 := Scalar.cmpi .ne v78_r0 c0_i32_56_r0
  v79_r0

def k6_off32 (v48_3_r0 : BitVec 32) : Fin 3 → Nat :=
  let c2_i32_57_r0 : BitVec 32 := 2#32
  let v80_r0 : BitVec 32 := Scalar.remui v48_3_r0 c2_i32_57_r0
  let c0_i32_58_r0 : BitVec 32 := 0#32
  let c0_i32_59_r0 : BitVec 32 := 0#32
  ![v80_r0.toNat, 0, 0]

def k6_off33 (i : grid6.Coords) (v48_4_r0 : BitVec 32) : Fin 2 → Nat :=
  let c128_i32_r0 : BitVec 32 := 128#32
  let true_38_r0 : BitVec 1 := 1#1
  let c1_i32_37_r0 : BitVec 32 := 1#32
  let v49_r0 : BitVec 32 := Scalar.subi v48_4_r0 c1_i32_37_r0
  let v50_r0 : BitVec 32 := Scalar.select true_38_r0 v49_r0 v48_4_r0
  let c_m1_i32_39_r0 : BitVec 32 := 4294967295#32
  let v51_r0 : BitVec 1 := Scalar.cmpi .eq v50_r0 c_m1_i32_39_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let c1_i32_40_r0 : BitVec 32 := 1#32
  let v52_r0 : BitVec 32 := Scalar.subi v5 c1_i32_40_r0
  let v53_r0 : BitVec 32 := Scalar.select v51_r0 v52_r0 v50_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v59_r0 : BitVec 32 := Scalar.addi v53_r0 v10
  let v81_r0 : BitVec 32 := Scalar.muli c128_i32_r0 v59_r0
  let c0_i32_60_r0 : BitVec 32 := 0#32
  ![v81_r0.toNat, 0]

def k6_chk8 (i : grid6.Coords) (v48_4_r0 : BitVec 32) : Prop :=
  (∀ (k6_h1 : k6_cond1 i = 1#1), ∀ (k6_h18 : k6_cond18 i = 1#1), ∀ a, (k6_off33 i v48_4_r0) a + S128x128.size a ≤ S160000x128.size a)
theorem k6_off33_inb : ∀ (i : grid6.Coords) (v48_4_r0 : BitVec 32) (k6_hw8 : k6_chk8 i v48_4_r0), ∀ (k6_h1 : k6_cond1 i = 1#1), ∀ (k6_h18 : k6_cond18 i = 1#1), ∀ a, (k6_off33 i v48_4_r0) a + S128x128.size a ≤ S160000x128.size a := fun i v48_4_r0 k6_hw8 k6_h1 k6_h18 => k6_hw8 k6_h1 k6_h18

def k6_off34 (v48_3_r0 : BitVec 32) : Fin 1 → Nat :=
  let c2_i32_57_r0 : BitVec 32 := 2#32
  let v80_r0 : BitVec 32 := Scalar.remui v48_3_r0 c2_i32_57_r0
  ![v80_r0.toNat]
def k6_off35 (v48_3_r0 : BitVec 32) : Fin 3 → Nat :=
  let c2_i32_57_r0 : BitVec 32 := 2#32
  let v80_r0 : BitVec 32 := Scalar.remui v48_3_r0 c2_i32_57_r0
  let c0_i32_62_r0 : BitVec 32 := 0#32
  let c0_i32_63_r0 : BitVec 32 := 0#32
  ![v80_r0.toNat, 0, 0]

def k6_chk7 (i : grid6.Coords) (v48_3_r0 : BitVec 32) : Prop :=
  (∀ (k6_h1 : k6_cond1 i = 1#1), ∀ (k6_h18 : k6_cond18 i = 1#1), ∀ a, (k6_off32 v48_3_r0) a + S1x128x128.size a ≤ S2x128x128.size a) ∧
  (∀ (k6_h1 : k6_cond1 i = 1#1), ∀ (k6_h18 : k6_cond18 i = 1#1), ∀ a, (k6_off34 v48_3_r0) a + S1.size a ≤ S2.size a) ∧
  (∀ (k6_h1 : k6_cond1 i = 1#1), ∀ (k6_h18 : k6_cond18 i = 1#1), ∀ a, (k6_off35 v48_3_r0) a + S1x128x128.size a ≤ S2x128x128.size a)
theorem k6_off32_inb : ∀ (i : grid6.Coords) (v48_3_r0 : BitVec 32) (k6_hw7 : k6_chk7 i v48_3_r0), ∀ (k6_h1 : k6_cond1 i = 1#1), ∀ (k6_h18 : k6_cond18 i = 1#1), ∀ a, (k6_off32 v48_3_r0) a + S1x128x128.size a ≤ S2x128x128.size a := fun i v48_3_r0 k6_hw7 k6_h1 k6_h18 => k6_hw7.1 k6_h1 k6_h18
theorem k6_off34_inb : ∀ (i : grid6.Coords) (v48_3_r0 : BitVec 32) (k6_hw7 : k6_chk7 i v48_3_r0), ∀ (k6_h1 : k6_cond1 i = 1#1), ∀ (k6_h18 : k6_cond18 i = 1#1), ∀ a, (k6_off34 v48_3_r0) a + S1.size a ≤ S2.size a := fun i v48_3_r0 k6_hw7 k6_h1 k6_h18 => k6_hw7.2.1 k6_h1 k6_h18
theorem k6_off35_inb : ∀ (i : grid6.Coords) (v48_3_r0 : BitVec 32) (k6_hw7 : k6_chk7 i v48_3_r0), ∀ (k6_h1 : k6_cond1 i = 1#1), ∀ (k6_h18 : k6_cond18 i = 1#1), ∀ a, (k6_off35 v48_3_r0) a + S1x128x128.size a ≤ S2x128x128.size a := fun i v48_3_r0 k6_hw7 k6_h1 k6_h18 => k6_hw7.2.2 k6_h1 k6_h18

abbrev grid7 : Pipeline.Grid := ⟨1, ![25], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S16x400x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S400x16 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S512x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S16x960 .bf16 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S960x64 .bf16 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S960x64 .bf16 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S400x64 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev grid8 : Pipeline.Grid := ⟨2, ![2, 16], ![false, false]⟩

def k8_cond1 (i : grid8.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v11 : BitVec 32 := Scalar.muli c1_i32_3 v5
  let c0_i32_5_r0 : BitVec 32 := 0#32
  let v14_r0 : BitVec 1 := Scalar.cmpi .sgt v11 c0_i32_5_r0
  let v15_r0 : BitVec 32 := Scalar.extui v14_r0
  let c0_i32_6_r0 : BitVec 32 := 0#32
  let v16_r0 : BitVec 1 := Scalar.cmpi .ne v15_r0 c0_i32_6_r0
  v16_r0

def k8_cond2 (i : grid8.Coords) : BitVec 1 :=
  let true_22_r0 : BitVec 1 := 1#1
  let c1_i32_7_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v17_r0 : BitVec 32 := Scalar.muli c1_i32_7_r0 v5
  let c0_i32_21_r0 : BitVec 32 := 0#32
  let v35_r0 : BitVec 1 := Scalar.cmpi .sgt v17_r0 c0_i32_21_r0
  let v36_r0 : BitVec 1 := Scalar.andi true_22_r0 v35_r0
  let true_23_r0 : BitVec 1 := 1#1
  let v37_r0 : BitVec 1 := Scalar.andi v36_r0 true_23_r0
  let v38_r0 : BitVec 32 := Scalar.extui v37_r0
  let c0_i32_25_r0 : BitVec 32 := 0#32
  let v39_r0 : BitVec 1 := Scalar.cmpi .ne v38_r0 c0_i32_25_r0
  v39_r0

def k8_off1 : Fin 3 → Nat :=
  let c0_i32_24_r0 : BitVec 32 := 0#32
  let c2_i32_57_r0 : BitVec 32 := 2#32
  let v80_r0 : BitVec 32 := Scalar.remui c0_i32_24_r0 c2_i32_57_r0
  let c0_i32_58_r0 : BitVec 32 := 0#32
  let c0_i32_59_r0 : BitVec 32 := 0#32
  ![v80_r0.toNat, 0, 0]
def k8_off2 (i : grid8.Coords) : Fin 2 → Nat :=
  let c0_i32_60_r0 : BitVec 32 := 0#32
  let c128_i32_r0 : BitVec 32 := 128#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v20_r0 : BitVec 32 := Scalar.addi c0_i32_10_r0 v10
  let v81_r0 : BitVec 32 := Scalar.muli c128_i32_r0 v20_r0
  ![0, v81_r0.toNat]
def k8_off3 : Fin 1 → Nat :=
  let c0_i32_24_r0 : BitVec 32 := 0#32
  let c2_i32_57_r0 : BitVec 32 := 2#32
  let v80_r0 : BitVec 32 := Scalar.remui c0_i32_24_r0 c2_i32_57_r0
  ![v80_r0.toNat]
@[reducible] def k8_t1_loop (i : grid8.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_35_r0 : BitVec 32 := 1#32
  ⟨c0_i32_29_r0, v46_r0, c1_i32_35_r0⟩
def k8_off4 (arg6_r0 : BitVec 32) : Fin 3 → Nat :=
  let c2_i32_102_r0 : BitVec 32 := 2#32
  let v167_r0 : BitVec 32 := Scalar.remui arg6_r0 c2_i32_102_r0
  let c0_i32_103_r0 : BitVec 32 := 0#32
  let c0_i32_104_r0 : BitVec 32 := 0#32
  ![v167_r0.toNat, 0, 0]
def k8_cond3 (i : grid8.Coords) (k8_t1 : Fin (k8_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k8_t1
  let c1_i32_57_r0 : BitVec 32 := 1#32
  let v80_r0 : BitVec 32 := Scalar.muli c1_i32_57_r0 v5
  let c2_i32_70_r0 : BitVec 32 := 2#32
  let v102_r0 : BitVec 32 := Scalar.subi v80_r0 c2_i32_70_r0
  let c1_i32_71_r0 : BitVec 32 := 1#32
  let v103_r0 : BitVec 32 := Scalar.addi v102_r0 c1_i32_71_r0
  let v104_r0 : BitVec 1 := Scalar.cmpi .sge arg5_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k8_off5 (i : grid8.Coords) (arg10_r0 : BitVec 32) : Fin 2 → Nat :=
  let c0_i32_105_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v93_r0 : BitVec 1 := Scalar.cmpi .eq v92_r0 v5
  let c0_i32_66_r0 : BitVec 32 := 0#32
  let v94_r0 : BitVec 32 := Scalar.select v93_r0 c0_i32_66_r0 v92_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k8_off6 (arg6_r0 : BitVec 32) : Fin 1 → Nat :=
  let c2_i32_102_r0 : BitVec 32 := 2#32
  let v167_r0 : BitVec 32 := Scalar.remui arg6_r0 c2_i32_102_r0
  ![v167_r0.toNat]
def k8_off7 (arg7_r0 : BitVec 32) : Fin 3 → Nat :=
  let c2_i32_102_r0 : BitVec 32 := 2#32
  let v168_r0 : BitVec 32 := Scalar.remui arg7_r0 c2_i32_102_r0
  let c0_i32_103_r0 : BitVec 32 := 0#32
  let c0_i32_104_r0 : BitVec 32 := 0#32
  ![v168_r0.toNat, 0, 0]
def k8_cond4 (i : grid8.Coords) (k8_t1 : Fin (k8_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k8_t1
  let c0_i32_58_r0 : BitVec 32 := 0#32
  let v81_r0 : BitVec 1 := Scalar.cmpi .eq arg5_r0 c0_i32_58_r0
  let v120_r0 : BitVec 1 := Scalar.ori v119_r0 v81_r0
  let c0_i32_80_r0 : BitVec 32 := 0#32
  let v121_r0 : BitVec 1 := Scalar.cmpi .sge arg5_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k8_off8 (i : grid8.Coords) (arg10_r0 : BitVec 32) : Fin 2 → Nat :=
  let c0_i32_105_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k8_off9 (arg7_r0 : BitVec 32) : Fin 1 → Nat :=
  let c2_i32_102_r0 : BitVec 32 := 2#32
  let v168_r0 : BitVec 32 := Scalar.remui arg7_r0 c2_i32_102_r0
  ![v168_r0.toNat]
def k8_off10 (arg8_r0 : BitVec 32) : Fin 3 → Nat :=
  let c2_i32_85_r0 : BitVec 32 := 2#32
  let v132_r0 : BitVec 32 := Scalar.remui arg8_r0 c2_i32_85_r0
  let c0_i32_102_r1 : BitVec 32 := 0#32
  let c0_i32_103_r1 : BitVec 32 := 0#32
  ![v132_r0.toNat, 0, 0]

def k8_chk2 (i : grid8.Coords) (arg8_r0 : BitVec 32) : Prop :=
  (∀ (k8_h1 : k8_cond1 i = 1#1), ∀ a, (k8_off10 arg8_r0) a + S1x128x128.size a ≤ S2x128x128.size a)
theorem k8_off10_inb : ∀ (i : grid8.Coords) (arg8_r0 : BitVec 32) (k8_hw2 : k8_chk2 i arg8_r0), ∀ (k8_h1 : k8_cond1 i = 1#1), ∀ a, (k8_off10 arg8_r0) a + S1x128x128.size a ≤ S2x128x128.size a := fun i arg8_r0 k8_hw2 k8_h1 => k8_hw2 k8_h1

def k8_off11 (arg7_r0 : BitVec 32) : Fin 3 → Nat :=
  let c2_i32_84_r0 : BitVec 32 := 2#32
  let v131_r0 : BitVec 32 := Scalar.remui arg7_r0 c2_i32_84_r0
  let c0_i32_104_r1 : BitVec 32 := 0#32
  let c0_i32_105_r1 : BitVec 32 := 0#32
  ![v131_r0.toNat, 0, 0]

def k8_chk3 (i : grid8.Coords) (arg7_r0 : BitVec 32) : Prop :=
  (∀ (k8_h1 : k8_cond1 i = 1#1), ∀ a, (k8_off11 arg7_r0) a + S1x1x128.size a ≤ S2x1x128.size a)
theorem k8_off11_inb : ∀ (i : grid8.Coords) (arg7_r0 : BitVec 32) (k8_hw3 : k8_chk3 i arg7_r0), ∀ (k8_h1 : k8_cond1 i = 1#1), ∀ a, (k8_off11 arg7_r0) a + S1x1x128.size a ≤ S2x1x128.size a := fun i arg7_r0 k8_hw3 k8_h1 => k8_hw3 k8_h1

def k8_off12 (arg8_r0 : BitVec 32) : Fin 3 → Nat :=
  let c2_i32_102_r0 : BitVec 32 := 2#32
  let v167_r0 : BitVec 32 := Scalar.remui arg8_r0 c2_i32_102_r0
  let c0_i32_103_r0 : BitVec 32 := 0#32
  let c0_i32_104_r0 : BitVec 32 := 0#32
  ![v167_r0.toNat, 0, 0]
def k8_cond7 (i : grid8.Coords) (k8_t1 : Fin (k8_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k8_t1
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_88_r0 : BitVec 32 := 0#32
  let v141_r0 : BitVec 1 := Scalar.cmpi .ne v140_r0 c0_i32_88_r0
  v141_r0

def k8_off13 (i : grid8.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let v168_r0 : BitVec 32 := Scalar.muli c128_i32_r0 v84_r0
  let c0_i32_105_r0 : BitVec 32 := 0#32
  ![v168_r0.toNat, 0]
def k8_off14 (arg8_r0 : BitVec 32) : Fin 1 → Nat :=
  let c2_i32_102_r0 : BitVec 32 := 2#32
  let v167_r0 : BitVec 32 := Scalar.remui arg8_r0 c2_i32_102_r0
  ![v167_r0.toNat]
def k8_off15 (arg9_r0 : BitVec 32) : Fin 3 → Nat :=
  let c2_i32_102_r0 : BitVec 32 := 2#32
  let v167_r0 : BitVec 32 := Scalar.remui arg9_r0 c2_i32_102_r0
  let c0_i32_103_r0 : BitVec 32 := 0#32
  let c0_i32_104_r0 : BitVec 32 := 0#32
  ![v167_r0.toNat, 0, 0]
def k8_cond9 (i : grid8.Coords) (k8_t1 : Fin (k8_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k8_t1
  let c0_i32_58_r0 : BitVec 32 := 0#32
  let v81_r0 : BitVec 1 := Scalar.cmpi .eq arg5_r0 c0_i32_58_r0
  let true_94_r0 : BitVec 1 := 1#1
  let v152_r0 : BitVec 1 := Scalar.xori v81_r0 true_94_r0
  let v153_r0 : BitVec 1 := Scalar.andi v151_r0 v152_r0
  let v154_r0 : BitVec 32 := Scalar.extui v153_r0
  let c0_i32_95_r0 : BitVec 32 := 0#32
  let v155_r0 : BitVec 1 := Scalar.cmpi .ne v154_r0 c0_i32_95_r0
  v155_r0

def k8_off16 (i : grid8.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let c1_i32_63_r0 : BitVec 32 := 1#32
  let v88_r0 : BitVec 32 := Scalar.subi v5 c1_i32_63_r0
  let v89_r0 : BitVec 32 := Scalar.select v87_r0 v88_r0 v86_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi v89_r0 v10
  let v168_r0 : BitVec 32 := Scalar.muli c128_i32_r0 v90_r0
  let c0_i32_105_r0 : BitVec 32 := 0#32
  ![v168_r0.toNat, 0]
def k8_off17 (arg9_r0 : BitVec 32) : Fin 1 → Nat :=
  let c2_i32_102_r0 : BitVec 32 := 2#32
  let v167_r0 : BitVec 32 := Scalar.remui arg9_r0 c2_i32_102_r0
  ![v167_r0.toNat]

def k8_chk1 (i : grid8.Coords) (k8_t1 : Fin (k8_t1_loop i).trips) (arg6_r0 : BitVec 32) (arg7_r0 : BitVec 32) (arg8_r0 : BitVec 32) (arg9_r0 : BitVec 32) (arg10_r0 : BitVec 32) : Prop :=
  (∀ (k8_h1 : k8_cond1 i = 1#1), ∀ (k8_h3 : k8_cond3 i k8_t1 arg10_r0 = 1#1), ∀ a, (k8_off4 arg6_r0) a + S1x1x128.size a ≤ S2x1x128.size a) ∧
  (∀ (k8_h1 : k8_cond1 i = 1#1), ∀ (k8_h3 : k8_cond3 i k8_t1 arg10_r0 = 1#1), ∀ a, (k8_off5 i arg10_r0) a + S1x128.size a ≤ S1x160000.size a) ∧
  (∀ (k8_h1 : k8_cond1 i = 1#1), ∀ (k8_h3 : k8_cond3 i k8_t1 arg10_r0 = 1#1), ∀ a, (k8_off6 arg6_r0) a + S1.size a ≤ S2.size a) ∧
  (∀ (k8_h1 : k8_cond1 i = 1#1), ∀ (k8_h4 : k8_cond4 i k8_t1 arg10_r0 = 1#1), ∀ a, (k8_off7 arg7_r0) a + S1x1x128.size a ≤ S2x1x128.size a) ∧
  (∀ (k8_h1 : k8_cond1 i = 1#1), ∀ (k8_h4 : k8_cond4 i k8_t1 arg10_r0 = 1#1), ∀ a, (k8_off8 i arg10_r0) a + S1x128.size a ≤ S1x160000.size a) ∧
  (∀ (k8_h1 : k8_cond1 i = 1#1), ∀ (k8_h4 : k8_cond4 i k8_t1 arg10_r0 = 1#1), ∀ a, (k8_off9 arg7_r0) a + S1.size a ≤ S2.size a) ∧
  (∀ (k8_h1 : k8_cond1 i = 1#1), ∀ (k8_h7 : k8_cond7 i k8_t1 arg10_r0 = 1#1), ∀ a, (k8_off12 arg8_r0) a + S1x128x128.size a ≤ S2x128x128.size a) ∧
  (∀ (k8_h1 : k8_cond1 i = 1#1), ∀ (k8_h7 : k8_cond7 i k8_t1 arg10_r0 = 1#1), ∀ a, (k8_off13 i arg10_r0) a + S128x128.size a ≤ S160000x128.size a) ∧
  (∀ (k8_h1 : k8_cond1 i = 1#1), ∀ (k8_h7 : k8_cond7 i k8_t1 arg10_r0 = 1#1), ∀ a, (k8_off14 arg8_r0) a + S1.size a ≤ S2.size a) ∧
  (∀ (k8_h1 : k8_cond1 i = 1#1), ∀ (k8_h9 : k8_cond9 i k8_t1 arg10_r0 = 1#1), ∀ a, (k8_off15 arg9_r0) a + S1x128x128.size a ≤ S2x128x128.size a) ∧
  (∀ (k8_h1 : k8_cond1 i = 1#1), ∀ (k8_h9 : k8_cond9 i k8_t1 arg10_r0 = 1#1), ∀ a, (k8_off16 i arg10_r0) a + S128x128.size a ≤ S160000x128.size a) ∧
  (∀ (k8_h1 : k8_cond1 i = 1#1), ∀ (k8_h9 : k8_cond9 i k8_t1 arg10_r0 = 1#1), ∀ a, (k8_off17 arg9_r0) a + S1.size a ≤ S2.size a)
theorem k8_off4_inb : ∀ (i : grid8.Coords) (k8_t1 : Fin (k8_t1_loop i).trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h1 : k8_cond1 i = 1#1), ∀ (k8_h3 : k8_cond3 i k8_t1 arg10_r0 = 1#1), ∀ a, (k8_off4 arg6_r0) a + S1x1x128.size a ≤ S2x1x128.size a := fun i k8_t1 arg6_r0 arg7_r0 arg8_r0 arg9_r0 arg10_r0 k8_hw1 k8_h1 k8_h3 => k8_hw1.1 k8_h1 k8_h3
theorem k8_off5_inb : ∀ (i : grid8.Coords) (k8_t1 : Fin (k8_t1_loop i).trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h1 : k8_cond1 i = 1#1), ∀ (k8_h3 : k8_cond3 i k8_t1 arg10_r0 = 1#1), ∀ a, (k8_off5 i arg10_r0) a + S1x128.size a ≤ S1x160000.size a := fun i k8_t1 arg6_r0 arg7_r0 arg8_r0 arg9_r0 arg10_r0 k8_hw1 k8_h1 k8_h3 => k8_hw1.2.1 k8_h1 k8_h3
theorem k8_off6_inb : ∀ (i : grid8.Coords) (k8_t1 : Fin (k8_t1_loop i).trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h1 : k8_cond1 i = 1#1), ∀ (k8_h3 : k8_cond3 i k8_t1 arg10_r0 = 1#1), ∀ a, (k8_off6 arg6_r0) a + S1.size a ≤ S2.size a := fun i k8_t1 arg6_r0 arg7_r0 arg8_r0 arg9_r0 arg10_r0 k8_hw1 k8_h1 k8_h3 => k8_hw1.2.2.1 k8_h1 k8_h3
theorem k8_off7_inb : ∀ (i : grid8.Coords) (k8_t1 : Fin (k8_t1_loop i).trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h1 : k8_cond1 i = 1#1), ∀ (k8_h4 : k8_cond4 i k8_t1 arg10_r0 = 1#1), ∀ a, (k8_off7 arg7_r0) a + S1x1x128.size a ≤ S2x1x128.size a := fun i k8_t1 arg6_r0 arg7_r0 arg8_r0 arg9_r0 arg10_r0 k8_hw1 k8_h1 k8_h4 => k8_hw1.2.2.2.1 k8_h1 k8_h4
theorem k8_off8_inb : ∀ (i : grid8.Coords) (k8_t1 : Fin (k8_t1_loop i).trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h1 : k8_cond1 i = 1#1), ∀ (k8_h4 : k8_cond4 i k8_t1 arg10_r0 = 1#1), ∀ a, (k8_off8 i arg10_r0) a + S1x128.size a ≤ S1x160000.size a := fun i k8_t1 arg6_r0 arg7_r0 arg8_r0 arg9_r0 arg10_r0 k8_hw1 k8_h1 k8_h4 => k8_hw1.2.2.2.2.1 k8_h1 k8_h4
theorem k8_off9_inb : ∀ (i : grid8.Coords) (k8_t1 : Fin (k8_t1_loop i).trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h1 : k8_cond1 i = 1#1), ∀ (k8_h4 : k8_cond4 i k8_t1 arg10_r0 = 1#1), ∀ a, (k8_off9 arg7_r0) a + S1.size a ≤ S2.size a := fun i k8_t1 arg6_r0 arg7_r0 arg8_r0 arg9_r0 arg10_r0 k8_hw1 k8_h1 k8_h4 => k8_hw1.2.2.2.2.2.1 k8_h1 k8_h4
theorem k8_off12_inb : ∀ (i : grid8.Coords) (k8_t1 : Fin (k8_t1_loop i).trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h1 : k8_cond1 i = 1#1), ∀ (k8_h7 : k8_cond7 i k8_t1 arg10_r0 = 1#1), ∀ a, (k8_off12 arg8_r0) a + S1x128x128.size a ≤ S2x128x128.size a := fun i k8_t1 arg6_r0 arg7_r0 arg8_r0 arg9_r0 arg10_r0 k8_hw1 k8_h1 k8_h7 => k8_hw1.2.2.2.2.2.2.1 k8_h1 k8_h7
theorem k8_off13_inb : ∀ (i : grid8.Coords) (k8_t1 : Fin (k8_t1_loop i).trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h1 : k8_cond1 i = 1#1), ∀ (k8_h7 : k8_cond7 i k8_t1 arg10_r0 = 1#1), ∀ a, (k8_off13 i arg10_r0) a + S128x128.size a ≤ S160000x128.size a := fun i k8_t1 arg6_r0 arg7_r0 arg8_r0 arg9_r0 arg10_r0 k8_hw1 k8_h1 k8_h7 => k8_hw1.2.2.2.2.2.2.2.1 k8_h1 k8_h7
theorem k8_off14_inb : ∀ (i : grid8.Coords) (k8_t1 : Fin (k8_t1_loop i).trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h1 : k8_cond1 i = 1#1), ∀ (k8_h7 : k8_cond7 i k8_t1 arg10_r0 = 1#1), ∀ a, (k8_off14 arg8_r0) a + S1.size a ≤ S2.size a := fun i k8_t1 arg6_r0 arg7_r0 arg8_r0 arg9_r0 arg10_r0 k8_hw1 k8_h1 k8_h7 => k8_hw1.2.2.2.2.2.2.2.2.1 k8_h1 k8_h7
theorem k8_off15_inb : ∀ (i : grid8.Coords) (k8_t1 : Fin (k8_t1_loop i).trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h1 : k8_cond1 i = 1#1), ∀ (k8_h9 : k8_cond9 i k8_t1 arg10_r0 = 1#1), ∀ a, (k8_off15 arg9_r0) a + S1x128x128.size a ≤ S2x128x128.size a := fun i k8_t1 arg6_r0 arg7_r0 arg8_r0 arg9_r0 arg10_r0 k8_hw1 k8_h1 k8_h9 => k8_hw1.2.2.2.2.2.2.2.2.2.1 k8_h1 k8_h9
theorem k8_off16_inb : ∀ (i : grid8.Coords) (k8_t1 : Fin (k8_t1_loop i).trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h1 : k8_cond1 i = 1#1), ∀ (k8_h9 : k8_cond9 i k8_t1 arg10_r0 = 1#1), ∀ a, (k8_off16 i arg10_r0) a + S128x128.size a ≤ S160000x128.size a := fun i k8_t1 arg6_r0 arg7_r0 arg8_r0 arg9_r0 arg10_r0 k8_hw1 k8_h1 k8_h9 => k8_hw1.2.2.2.2.2.2.2.2.2.2.1 k8_h1 k8_h9
theorem k8_off17_inb : ∀ (i : grid8.Coords) (k8_t1 : Fin (k8_t1_loop i).trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h1 : k8_cond1 i = 1#1), ∀ (k8_h9 : k8_cond9 i k8_t1 arg10_r0 = 1#1), ∀ a, (k8_off17 arg9_r0) a + S1.size a ≤ S2.size a := fun i k8_t1 arg6_r0 arg7_r0 arg8_r0 arg9_r0 arg10_r0 k8_hw1 k8_h1 k8_h9 => k8_hw1.2.2.2.2.2.2.2.2.2.2.2 k8_h1 k8_h9

@[reducible] def k8_t2_loop (i : grid8.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let v43_r0 : BitVec 32 := Scalar.addi c0_i32_29_r0 v42_r0
  let c1_i32_36_r0 : BitVec 32 := 1#32
  ⟨v46_r0, v43_r0, c1_i32_36_r0⟩
def k8_off18 (arg6_r0 : BitVec 32) : Fin 3 → Nat :=
  let c2_i32_102_r0 : BitVec 32 := 2#32
  let v167_r0 : BitVec 32 := Scalar.remui arg6_r0 c2_i32_102_r0
  let c0_i32_103_r0 : BitVec 32 := 0#32
  let c0_i32_104_r0 : BitVec 32 := 0#32
  ![v167_r0.toNat, 0, 0]
def k8_cond10 (i : grid8.Coords) (k8_t2 : Fin (k8_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k8_t2
  let c1_i32_57_r0 : BitVec 32 := 1#32
  let v80_r0 : BitVec 32 := Scalar.muli c1_i32_57_r0 v5
  let c2_i32_70_r0 : BitVec 32 := 2#32
  let v102_r0 : BitVec 32 := Scalar.subi v80_r0 c2_i32_70_r0
  let c1_i32_71_r0 : BitVec 32 := 1#32
  let v103_r0 : BitVec 32 := Scalar.addi v102_r0 c1_i32_71_r0
  let v104_r0 : BitVec 1 := Scalar.cmpi .sge arg5_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k8_off19 (i : grid8.Coords) (arg10_r0 : BitVec 32) : Fin 2 → Nat :=
  let c0_i32_105_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v93_r0 : BitVec 1 := Scalar.cmpi .eq v92_r0 v5
  let c0_i32_66_r0 : BitVec 32 := 0#32
  let v94_r0 : BitVec 32 := Scalar.select v93_r0 c0_i32_66_r0 v92_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k8_off20 (arg6_r0 : BitVec 32) : Fin 1 → Nat :=
  let c2_i32_102_r0 : BitVec 32 := 2#32
  let v167_r0 : BitVec 32 := Scalar.remui arg6_r0 c2_i32_102_r0
  ![v167_r0.toNat]
def k8_off21 (arg7_r0 : BitVec 32) : Fin 3 → Nat :=
  let c2_i32_102_r0 : BitVec 32 := 2#32
  let v168_r0 : BitVec 32 := Scalar.remui arg7_r0 c2_i32_102_r0
  let c0_i32_103_r0 : BitVec 32 := 0#32
  let c0_i32_104_r0 : BitVec 32 := 0#32
  ![v168_r0.toNat, 0, 0]
def k8_cond11 (i : grid8.Coords) (k8_t2 : Fin (k8_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k8_t2
  let c0_i32_58_r0 : BitVec 32 := 0#32
  let v81_r0 : BitVec 1 := Scalar.cmpi .eq arg5_r0 c0_i32_58_r0
  let v120_r0 : BitVec 1 := Scalar.ori v119_r0 v81_r0
  let c0_i32_80_r0 : BitVec 32 := 0#32
  let v121_r0 : BitVec 1 := Scalar.cmpi .sge arg5_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k8_off22 (i : grid8.Coords) (arg10_r0 : BitVec 32) : Fin 2 → Nat :=
  let c0_i32_105_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k8_off23 (arg7_r0 : BitVec 32) : Fin 1 → Nat :=
  let c2_i32_102_r0 : BitVec 32 := 2#32
  let v168_r0 : BitVec 32 := Scalar.remui arg7_r0 c2_i32_102_r0
  ![v168_r0.toNat]
def k8_off24 (arg8_r0 : BitVec 32) : Fin 3 → Nat :=
  let c2_i32_85_r0 : BitVec 32 := 2#32
  let v132_r0 : BitVec 32 := Scalar.remui arg8_r0 c2_i32_85_r0
  let c0_i32_102_r2 : BitVec 32 := 0#32
  let c0_i32_103_r2 : BitVec 32 := 0#32
  ![v132_r0.toNat, 0, 0]

def k8_chk5 (i : grid8.Coords) (k8_t2 : Fin (k8_t2_loop i).trips) (arg8_r0 : BitVec 32) : Prop :=
  (∀ (k8_h1 : k8_cond1 i = 1#1), ∀ a, (k8_off24 arg8_r0) a + S1x128x128.size a ≤ S2x128x128.size a)
theorem k8_off24_inb : ∀ (i : grid8.Coords) (k8_t2 : Fin (k8_t2_loop i).trips) (arg8_r0 : BitVec 32) (k8_hw5 : k8_chk5 i k8_t2 arg8_r0), ∀ (k8_h1 : k8_cond1 i = 1#1), ∀ a, (k8_off24 arg8_r0) a + S1x128x128.size a ≤ S2x128x128.size a := fun i k8_t2 arg8_r0 k8_hw5 k8_h1 => k8_hw5 k8_h1

def k8_off25 (arg7_r0 : BitVec 32) : Fin 3 → Nat :=
  let c2_i32_84_r0 : BitVec 32 := 2#32
  let v131_r0 : BitVec 32 := Scalar.remui arg7_r0 c2_i32_84_r0
  let c0_i32_104_r2 : BitVec 32 := 0#32
  let c0_i32_105_r2 : BitVec 32 := 0#32
  ![v131_r0.toNat, 0, 0]

def k8_chk6 (i : grid8.Coords) (k8_t2 : Fin (k8_t2_loop i).trips) (arg7_r0 : BitVec 32) : Prop :=
  (∀ (k8_h1 : k8_cond1 i = 1#1), ∀ a, (k8_off25 arg7_r0) a + S1x1x128.size a ≤ S2x1x128.size a)
theorem k8_off25_inb : ∀ (i : grid8.Coords) (k8_t2 : Fin (k8_t2_loop i).trips) (arg7_r0 : BitVec 32) (k8_hw6 : k8_chk6 i k8_t2 arg7_r0), ∀ (k8_h1 : k8_cond1 i = 1#1), ∀ a, (k8_off25 arg7_r0) a + S1x1x128.size a ≤ S2x1x128.size a := fun i k8_t2 arg7_r0 k8_hw6 k8_h1 => k8_hw6 k8_h1

def k8_off26 (arg8_r0 : BitVec 32) : Fin 3 → Nat :=
  let c2_i32_102_r0 : BitVec 32 := 2#32
  let v167_r0 : BitVec 32 := Scalar.remui arg8_r0 c2_i32_102_r0
  let c0_i32_103_r0 : BitVec 32 := 0#32
  let c0_i32_104_r0 : BitVec 32 := 0#32
  ![v167_r0.toNat, 0, 0]
def k8_cond14 (i : grid8.Coords) (k8_t2 : Fin (k8_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k8_t2
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_88_r0 : BitVec 32 := 0#32
  let v141_r0 : BitVec 1 := Scalar.cmpi .ne v140_r0 c0_i32_88_r0
  v141_r0

def k8_off27 (i : grid8.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let v168_r0 : BitVec 32 := Scalar.muli c128_i32_r0 v84_r0
  let c0_i32_105_r0 : BitVec 32 := 0#32
  ![v168_r0.toNat, 0]
def k8_off28 (arg8_r0 : BitVec 32) : Fin 1 → Nat :=
  let c2_i32_102_r0 : BitVec 32 := 2#32
  let v167_r0 : BitVec 32 := Scalar.remui arg8_r0 c2_i32_102_r0
  ![v167_r0.toNat]
def k8_off29 (arg9_r0 : BitVec 32) : Fin 3 → Nat :=
  let c2_i32_102_r0 : BitVec 32 := 2#32
  let v167_r0 : BitVec 32 := Scalar.remui arg9_r0 c2_i32_102_r0
  let c0_i32_103_r0 : BitVec 32 := 0#32
  let c0_i32_104_r0 : BitVec 32 := 0#32
  ![v167_r0.toNat, 0, 0]
def k8_cond16 (i : grid8.Coords) (k8_t2 : Fin (k8_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k8_t2
  let c0_i32_58_r0 : BitVec 32 := 0#32
  let v81_r0 : BitVec 1 := Scalar.cmpi .eq arg5_r0 c0_i32_58_r0
  let true_94_r0 : BitVec 1 := 1#1
  let v152_r0 : BitVec 1 := Scalar.xori v81_r0 true_94_r0
  let v153_r0 : BitVec 1 := Scalar.andi v151_r0 v152_r0
  let v154_r0 : BitVec 32 := Scalar.extui v153_r0
  let c0_i32_95_r0 : BitVec 32 := 0#32
  let v155_r0 : BitVec 1 := Scalar.cmpi .ne v154_r0 c0_i32_95_r0
  v155_r0

def k8_off30 (i : grid8.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let c1_i32_63_r0 : BitVec 32 := 1#32
  let v88_r0 : BitVec 32 := Scalar.subi v5 c1_i32_63_r0
  let v89_r0 : BitVec 32 := Scalar.select v87_r0 v88_r0 v86_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi v89_r0 v10
  let v168_r0 : BitVec 32 := Scalar.muli c128_i32_r0 v90_r0
  let c0_i32_105_r0 : BitVec 32 := 0#32
  ![v168_r0.toNat, 0]
def k8_off31 (arg9_r0 : BitVec 32) : Fin 1 → Nat :=
  let c2_i32_102_r0 : BitVec 32 := 2#32
  let v167_r0 : BitVec 32 := Scalar.remui arg9_r0 c2_i32_102_r0
  ![v167_r0.toNat]

def k8_chk4 (i : grid8.Coords) (k8_t2 : Fin (k8_t2_loop i).trips) (arg6_r0 : BitVec 32) (arg7_r0 : BitVec 32) (arg8_r0 : BitVec 32) (arg9_r0 : BitVec 32) (arg10_r0 : BitVec 32) : Prop :=
  (∀ (k8_h1 : k8_cond1 i = 1#1), ∀ (k8_h10 : k8_cond10 i k8_t2 arg10_r0 = 1#1), ∀ a, (k8_off18 arg6_r0) a + S1x1x128.size a ≤ S2x1x128.size a) ∧
  (∀ (k8_h1 : k8_cond1 i = 1#1), ∀ (k8_h10 : k8_cond10 i k8_t2 arg10_r0 = 1#1), ∀ a, (k8_off19 i arg10_r0) a + S1x128.size a ≤ S1x160000.size a) ∧
  (∀ (k8_h1 : k8_cond1 i = 1#1), ∀ (k8_h10 : k8_cond10 i k8_t2 arg10_r0 = 1#1), ∀ a, (k8_off20 arg6_r0) a + S1.size a ≤ S2.size a) ∧
  (∀ (k8_h1 : k8_cond1 i = 1#1), ∀ (k8_h11 : k8_cond11 i k8_t2 arg10_r0 = 1#1), ∀ a, (k8_off21 arg7_r0) a + S1x1x128.size a ≤ S2x1x128.size a) ∧
  (∀ (k8_h1 : k8_cond1 i = 1#1), ∀ (k8_h11 : k8_cond11 i k8_t2 arg10_r0 = 1#1), ∀ a, (k8_off22 i arg10_r0) a + S1x128.size a ≤ S1x160000.size a) ∧
  (∀ (k8_h1 : k8_cond1 i = 1#1), ∀ (k8_h11 : k8_cond11 i k8_t2 arg10_r0 = 1#1), ∀ a, (k8_off23 arg7_r0) a + S1.size a ≤ S2.size a) ∧
  (∀ (k8_h1 : k8_cond1 i = 1#1), ∀ (k8_h14 : k8_cond14 i k8_t2 arg10_r0 = 1#1), ∀ a, (k8_off26 arg8_r0) a + S1x128x128.size a ≤ S2x128x128.size a) ∧
  (∀ (k8_h1 : k8_cond1 i = 1#1), ∀ (k8_h14 : k8_cond14 i k8_t2 arg10_r0 = 1#1), ∀ a, (k8_off27 i arg10_r0) a + S128x128.size a ≤ S160000x128.size a) ∧
  (∀ (k8_h1 : k8_cond1 i = 1#1), ∀ (k8_h14 : k8_cond14 i k8_t2 arg10_r0 = 1#1), ∀ a, (k8_off28 arg8_r0) a + S1.size a ≤ S2.size a) ∧
  (∀ (k8_h1 : k8_cond1 i = 1#1), ∀ (k8_h16 : k8_cond16 i k8_t2 arg10_r0 = 1#1), ∀ a, (k8_off29 arg9_r0) a + S1x128x128.size a ≤ S2x128x128.size a) ∧
  (∀ (k8_h1 : k8_cond1 i = 1#1), ∀ (k8_h16 : k8_cond16 i k8_t2 arg10_r0 = 1#1), ∀ a, (k8_off30 i arg10_r0) a + S128x128.size a ≤ S160000x128.size a) ∧
  (∀ (k8_h1 : k8_cond1 i = 1#1), ∀ (k8_h16 : k8_cond16 i k8_t2 arg10_r0 = 1#1), ∀ a, (k8_off31 arg9_r0) a + S1.size a ≤ S2.size a)
theorem k8_off18_inb : ∀ (i : grid8.Coords) (k8_t2 : Fin (k8_t2_loop i).trips) (arg6_r0 : BitVec 32) (arg7_r0 : BitVec 32) (arg8_r0 : BitVec 32) (arg9_r0 : BitVec 32) (arg10_r0 : BitVec 32) (k8_hw4 : k8_chk4 i k8_t2 arg6_r0 arg7_r0 arg8_r0 arg9_r0 arg10_r0), ∀ (k8_h1 : k8_cond1 i = 1#1), ∀ (k8_h10 : k8_cond10 i k8_t2 arg10_r0 = 1#1), ∀ a, (k8_off18 arg6_r0) a + S1x1x128.size a ≤ S2x1x128.size a := fun i k8_t2 arg6_r0 arg7_r0 arg8_r0 arg9_r0 arg10_r0 k8_hw4 k8_h1 k8_h10 => k8_hw4.1 k8_h1 k8_h10
theorem k8_off19_inb : ∀ (i : grid8.Coords) (k8_t2 : Fin (k8_t2_loop i).trips) (arg6_r0 : BitVec 32) (arg7_r0 : BitVec 32) (arg8_r0 : BitVec 32) (arg9_r0 : BitVec 32) (arg10_r0 : BitVec 32) (k8_hw4 : k8_chk4 i k8_t2 arg6_r0 arg7_r0 arg8_r0 arg9_r0 arg10_r0), ∀ (k8_h1 : k8_cond1 i = 1#1), ∀ (k8_h10 : k8_cond10 i k8_t2 arg10_r0 = 1#1), ∀ a, (k8_off19 i arg10_r0) a + S1x128.size a ≤ S1x160000.size a := fun i k8_t2 arg6_r0 arg7_r0 arg8_r0 arg9_r0 arg10_r0 k8_hw4 k8_h1 k8_h10 => k8_hw4.2.1 k8_h1 k8_h10
theorem k8_off20_inb : ∀ (i : grid8.Coords) (k8_t2 : Fin (k8_t2_loop i).trips) (arg6_r0 : BitVec 32) (arg7_r0 : BitVec 32) (arg8_r0 : BitVec 32) (arg9_r0 : BitVec 32) (arg10_r0 : BitVec 32) (k8_hw4 : k8_chk4 i k8_t2 arg6_r0 arg7_r0 arg8_r0 arg9_r0 arg10_r0), ∀ (k8_h1 : k8_cond1 i = 1#1), ∀ (k8_h10 : k8_cond10 i k8_t2 arg10_r0 = 1#1), ∀ a, (k8_off20 arg6_r0) a + S1.size a ≤ S2.size a := fun i k8_t2 arg6_r0 arg7_r0 arg8_r0 arg9_r0 arg10_r0 k8_hw4 k8_h1 k8_h10 => k8_hw4.2.2.1 k8_h1 k8_h10
theorem k8_off21_inb : ∀ (i : grid8.Coords) (k8_t2 : Fin (k8_t2_loop i).trips) (arg6_r0 : BitVec 32) (arg7_r0 : BitVec 32) (arg8_r0 : BitVec 32) (arg9_r0 : BitVec 32) (arg10_r0 : BitVec 32) (k8_hw4 : k8_chk4 i k8_t2 arg6_r0 arg7_r0 arg8_r0 arg9_r0 arg10_r0), ∀ (k8_h1 : k8_cond1 i = 1#1), ∀ (k8_h11 : k8_cond11 i k8_t2 arg10_r0 = 1#1), ∀ a, (k8_off21 arg7_r0) a + S1x1x128.size a ≤ S2x1x128.size a := fun i k8_t2 arg6_r0 arg7_r0 arg8_r0 arg9_r0 arg10_r0 k8_hw4 k8_h1 k8_h11 => k8_hw4.2.2.2.1 k8_h1 k8_h11
theorem k8_off22_inb : ∀ (i : grid8.Coords) (k8_t2 : Fin (k8_t2_loop i).trips) (arg6_r0 : BitVec 32) (arg7_r0 : BitVec 32) (arg8_r0 : BitVec 32) (arg9_r0 : BitVec 32) (arg10_r0 : BitVec 32) (k8_hw4 : k8_chk4 i k8_t2 arg6_r0 arg7_r0 arg8_r0 arg9_r0 arg10_r0), ∀ (k8_h1 : k8_cond1 i = 1#1), ∀ (k8_h11 : k8_cond11 i k8_t2 arg10_r0 = 1#1), ∀ a, (k8_off22 i arg10_r0) a + S1x128.size a ≤ S1x160000.size a := fun i k8_t2 arg6_r0 arg7_r0 arg8_r0 arg9_r0 arg10_r0 k8_hw4 k8_h1 k8_h11 => k8_hw4.2.2.2.2.1 k8_h1 k8_h11
theorem k8_off23_inb : ∀ (i : grid8.Coords) (k8_t2 : Fin (k8_t2_loop i).trips) (arg6_r0 : BitVec 32) (arg7_r0 : BitVec 32) (arg8_r0 : BitVec 32) (arg9_r0 : BitVec 32) (arg10_r0 : BitVec 32) (k8_hw4 : k8_chk4 i k8_t2 arg6_r0 arg7_r0 arg8_r0 arg9_r0 arg10_r0), ∀ (k8_h1 : k8_cond1 i = 1#1), ∀ (k8_h11 : k8_cond11 i k8_t2 arg10_r0 = 1#1), ∀ a, (k8_off23 arg7_r0) a + S1.size a ≤ S2.size a := fun i k8_t2 arg6_r0 arg7_r0 arg8_r0 arg9_r0 arg10_r0 k8_hw4 k8_h1 k8_h11 => k8_hw4.2.2.2.2.2.1 k8_h1 k8_h11
theorem k8_off26_inb : ∀ (i : grid8.Coords) (k8_t2 : Fin (k8_t2_loop i).trips) (arg6_r0 : BitVec 32) (arg7_r0 : BitVec 32) (arg8_r0 : BitVec 32) (arg9_r0 : BitVec 32) (arg10_r0 : BitVec 32) (k8_hw4 : k8_chk4 i k8_t2 arg6_r0 arg7_r0 arg8_r0 arg9_r0 arg10_r0), ∀ (k8_h1 : k8_cond1 i = 1#1), ∀ (k8_h14 : k8_cond14 i k8_t2 arg10_r0 = 1#1), ∀ a, (k8_off26 arg8_r0) a + S1x128x128.size a ≤ S2x128x128.size a := fun i k8_t2 arg6_r0 arg7_r0 arg8_r0 arg9_r0 arg10_r0 k8_hw4 k8_h1 k8_h14 => k8_hw4.2.2.2.2.2.2.1 k8_h1 k8_h14
theorem k8_off27_inb : ∀ (i : grid8.Coords) (k8_t2 : Fin (k8_t2_loop i).trips) (arg6_r0 : BitVec 32) (arg7_r0 : BitVec 32) (arg8_r0 : BitVec 32) (arg9_r0 : BitVec 32) (arg10_r0 : BitVec 32) (k8_hw4 : k8_chk4 i k8_t2 arg6_r0 arg7_r0 arg8_r0 arg9_r0 arg10_r0), ∀ (k8_h1 : k8_cond1 i = 1#1), ∀ (k8_h14 : k8_cond14 i k8_t2 arg10_r0 = 1#1), ∀ a, (k8_off27 i arg10_r0) a + S128x128.size a ≤ S160000x128.size a := fun i k8_t2 arg6_r0 arg7_r0 arg8_r0 arg9_r0 arg10_r0 k8_hw4 k8_h1 k8_h14 => k8_hw4.2.2.2.2.2.2.2.1 k8_h1 k8_h14
theorem k8_off28_inb : ∀ (i : grid8.Coords) (k8_t2 : Fin (k8_t2_loop i).trips) (arg6_r0 : BitVec 32) (arg7_r0 : BitVec 32) (arg8_r0 : BitVec 32) (arg9_r0 : BitVec 32) (arg10_r0 : BitVec 32) (k8_hw4 : k8_chk4 i k8_t2 arg6_r0 arg7_r0 arg8_r0 arg9_r0 arg10_r0), ∀ (k8_h1 : k8_cond1 i = 1#1), ∀ (k8_h14 : k8_cond14 i k8_t2 arg10_r0 = 1#1), ∀ a, (k8_off28 arg8_r0) a + S1.size a ≤ S2.size a := fun i k8_t2 arg6_r0 arg7_r0 arg8_r0 arg9_r0 arg10_r0 k8_hw4 k8_h1 k8_h14 => k8_hw4.2.2.2.2.2.2.2.2.1 k8_h1 k8_h14
theorem k8_off29_inb : ∀ (i : grid8.Coords) (k8_t2 : Fin (k8_t2_loop i).trips) (arg6_r0 : BitVec 32) (arg7_r0 : BitVec 32) (arg8_r0 : BitVec 32) (arg9_r0 : BitVec 32) (arg10_r0 : BitVec 32) (k8_hw4 : k8_chk4 i k8_t2 arg6_r0 arg7_r0 arg8_r0 arg9_r0 arg10_r0), ∀ (k8_h1 : k8_cond1 i = 1#1), ∀ (k8_h16 : k8_cond16 i k8_t2 arg10_r0 = 1#1), ∀ a, (k8_off29 arg9_r0) a + S1x128x128.size a ≤ S2x128x128.size a := fun i k8_t2 arg6_r0 arg7_r0 arg8_r0 arg9_r0 arg10_r0 k8_hw4 k8_h1 k8_h16 => k8_hw4.2.2.2.2.2.2.2.2.2.1 k8_h1 k8_h16
theorem k8_off30_inb : ∀ (i : grid8.Coords) (k8_t2 : Fin (k8_t2_loop i).trips) (arg6_r0 : BitVec 32) (arg7_r0 : BitVec 32) (arg8_r0 : BitVec 32) (arg9_r0 : BitVec 32) (arg10_r0 : BitVec 32) (k8_hw4 : k8_chk4 i k8_t2 arg6_r0 arg7_r0 arg8_r0 arg9_r0 arg10_r0), ∀ (k8_h1 : k8_cond1 i = 1#1), ∀ (k8_h16 : k8_cond16 i k8_t2 arg10_r0 = 1#1), ∀ a, (k8_off30 i arg10_r0) a + S128x128.size a ≤ S160000x128.size a := fun i k8_t2 arg6_r0 arg7_r0 arg8_r0 arg9_r0 arg10_r0 k8_hw4 k8_h1 k8_h16 => k8_hw4.2.2.2.2.2.2.2.2.2.2.1 k8_h1 k8_h16
theorem k8_off31_inb : ∀ (i : grid8.Coords) (k8_t2 : Fin (k8_t2_loop i).trips) (arg6_r0 : BitVec 32) (arg7_r0 : BitVec 32) (arg8_r0 : BitVec 32) (arg9_r0 : BitVec 32) (arg10_r0 : BitVec 32) (k8_hw4 : k8_chk4 i k8_t2 arg6_r0 arg7_r0 arg8_r0 arg9_r0 arg10_r0), ∀ (k8_h1 : k8_cond1 i = 1#1), ∀ (k8_h16 : k8_cond16 i k8_t2 arg10_r0 = 1#1), ∀ a, (k8_off31 arg9_r0) a + S1.size a ≤ S2.size a := fun i k8_t2 arg6_r0 arg7_r0 arg8_r0 arg9_r0 arg10_r0 k8_hw4 k8_h1 k8_h16 => k8_hw4.2.2.2.2.2.2.2.2.2.2.2 k8_h1 k8_h16

def k8_cond18 (i : grid8.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v11 : BitVec 32 := Scalar.muli c1_i32_3 v5
  let c1_i32_41_r0 : BitVec 32 := 1#32
  let v54_r0 : BitVec 32 := Scalar.subi v11 c1_i32_41_r0
  let c1_i32_42_r0 : BitVec 32 := 1#32
  let v55_r0 : BitVec 32 := Scalar.muli c1_i32_42_r0 v5
  let c1_i32_44_r0 : BitVec 32 := 1#32
  let v57_r0 : BitVec 32 := Scalar.subi v55_r0 c1_i32_44_r0
  let v58_r0 : BitVec 1 := Scalar.cmpi .eq v54_r0 v57_r0
  let v78_r0 : BitVec 32 := Scalar.extui v58_r0
  let c0_i32_56_r0 : BitVec 32 := 0#32
  let v79_r0 : BitVec 1 := Scalar.cmpi .ne v78_r0 c0_i32_56_r0
  v79_r0

def k8_off32 (v48_3_r0 : BitVec 32) : Fin 3 → Nat :=
  let c2_i32_57_r0 : BitVec 32 := 2#32
  let v80_r0 : BitVec 32 := Scalar.remui v48_3_r0 c2_i32_57_r0
  let c0_i32_58_r0 : BitVec 32 := 0#32
  let c0_i32_59_r0 : BitVec 32 := 0#32
  ![v80_r0.toNat, 0, 0]

def k8_off33 (i : grid8.Coords) (v48_4_r0 : BitVec 32) : Fin 2 → Nat :=
  let c128_i32_r0 : BitVec 32 := 128#32
  let true_38_r0 : BitVec 1 := 1#1
  let c1_i32_37_r0 : BitVec 32 := 1#32
  let v49_r0 : BitVec 32 := Scalar.subi v48_4_r0 c1_i32_37_r0
  let v50_r0 : BitVec 32 := Scalar.select true_38_r0 v49_r0 v48_4_r0
  let c_m1_i32_39_r0 : BitVec 32 := 4294967295#32
  let v51_r0 : BitVec 1 := Scalar.cmpi .eq v50_r0 c_m1_i32_39_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let c1_i32_40_r0 : BitVec 32 := 1#32
  let v52_r0 : BitVec 32 := Scalar.subi v5 c1_i32_40_r0
  let v53_r0 : BitVec 32 := Scalar.select v51_r0 v52_r0 v50_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v59_r0 : BitVec 32 := Scalar.addi v53_r0 v10
  let v81_r0 : BitVec 32 := Scalar.muli c128_i32_r0 v59_r0
  let c0_i32_60_r0 : BitVec 32 := 0#32
  ![v81_r0.toNat, 0]

def k8_chk8 (i : grid8.Coords) (v48_4_r0 : BitVec 32) : Prop :=
  (∀ (k8_h1 : k8_cond1 i = 1#1), ∀ (k8_h18 : k8_cond18 i = 1#1), ∀ a, (k8_off33 i v48_4_r0) a + S128x128.size a ≤ S160000x128.size a)
theorem k8_off33_inb : ∀ (i : grid8.Coords) (v48_4_r0 : BitVec 32) (k8_hw8 : k8_chk8 i v48_4_r0), ∀ (k8_h1 : k8_cond1 i = 1#1), ∀ (k8_h18 : k8_cond18 i = 1#1), ∀ a, (k8_off33 i v48_4_r0) a + S128x128.size a ≤ S160000x128.size a := fun i v48_4_r0 k8_hw8 k8_h1 k8_h18 => k8_hw8 k8_h1 k8_h18

def k8_off34 (v48_3_r0 : BitVec 32) : Fin 1 → Nat :=
  let c2_i32_57_r0 : BitVec 32 := 2#32
  let v80_r0 : BitVec 32 := Scalar.remui v48_3_r0 c2_i32_57_r0
  ![v80_r0.toNat]
def k8_off35 (v48_3_r0 : BitVec 32) : Fin 3 → Nat :=
  let c2_i32_57_r0 : BitVec 32 := 2#32
  let v80_r0 : BitVec 32 := Scalar.remui v48_3_r0 c2_i32_57_r0
  let c0_i32_62_r0 : BitVec 32 := 0#32
  let c0_i32_63_r0 : BitVec 32 := 0#32
  ![v80_r0.toNat, 0, 0]

def k8_chk7 (i : grid8.Coords) (v48_3_r0 : BitVec 32) : Prop :=
  (∀ (k8_h1 : k8_cond1 i = 1#1), ∀ (k8_h18 : k8_cond18 i = 1#1), ∀ a, (k8_off32 v48_3_r0) a + S1x128x128.size a ≤ S2x128x128.size a) ∧
  (∀ (k8_h1 : k8_cond1 i = 1#1), ∀ (k8_h18 : k8_cond18 i = 1#1), ∀ a, (k8_off34 v48_3_r0) a + S1.size a ≤ S2.size a) ∧
  (∀ (k8_h1 : k8_cond1 i = 1#1), ∀ (k8_h18 : k8_cond18 i = 1#1), ∀ a, (k8_off35 v48_3_r0) a + S1x128x128.size a ≤ S2x128x128.size a)
theorem k8_off32_inb : ∀ (i : grid8.Coords) (v48_3_r0 : BitVec 32) (k8_hw7 : k8_chk7 i v48_3_r0), ∀ (k8_h1 : k8_cond1 i = 1#1), ∀ (k8_h18 : k8_cond18 i = 1#1), ∀ a, (k8_off32 v48_3_r0) a + S1x128x128.size a ≤ S2x128x128.size a := fun i v48_3_r0 k8_hw7 k8_h1 k8_h18 => k8_hw7.1 k8_h1 k8_h18
theorem k8_off34_inb : ∀ (i : grid8.Coords) (v48_3_r0 : BitVec 32) (k8_hw7 : k8_chk7 i v48_3_r0), ∀ (k8_h1 : k8_cond1 i = 1#1), ∀ (k8_h18 : k8_cond18 i = 1#1), ∀ a, (k8_off34 v48_3_r0) a + S1.size a ≤ S2.size a := fun i v48_3_r0 k8_hw7 k8_h1 k8_h18 => k8_hw7.2.1 k8_h1 k8_h18
theorem k8_off35_inb : ∀ (i : grid8.Coords) (v48_3_r0 : BitVec 32) (k8_hw7 : k8_chk7 i v48_3_r0), ∀ (k8_h1 : k8_cond1 i = 1#1), ∀ (k8_h18 : k8_cond18 i = 1#1), ∀ a, (k8_off35 v48_3_r0) a + S1x128x128.size a ≤ S2x128x128.size a := fun i v48_3_r0 k8_hw7 k8_h1 k8_h18 => k8_hw7.2.2 k8_h1 k8_h18

abbrev grid9 : Pipeline.Grid := ⟨1, ![25], ![false]⟩

def cc9_transform_0 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S16x400x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S400x16 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S512x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x256 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S16x960 .bf16 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S960x64 .bf16 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S960x64 .bf16 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S400x64 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev scKind : Fin 5 → Kind := fun | 0 => .scVector | 1 => .scVector | 2 => .scVector | 3 => .scVector | 4 => .scVector | ⟨_ + 5, h⟩ => absurd h (Nat.not_lt.2 (Nat.le_add_left _ _))
abbrev scNCore : Fin 5 → Nat := fun | 0 => 2 | 1 => 2 | 2 => 2 | 3 => 2 | 4 => 2 | ⟨_ + 5, h⟩ => absurd h (Nat.not_lt.2 (Nat.le_add_left _ _))
abbrev scNSub : Fin 5 → Nat := fun | 0 => 16 | 1 => 16 | 2 => 16 | 3 => 16 | 4 => 16 | ⟨_ + 5, h⟩ => absurd h (Nat.not_lt.2 (Nat.le_add_left _ _))
-- ==== ReferenceIdeal.lean ====
abbrev S50000x64 : Shape := ⟨2, ![50000, 64]⟩
abbrev S50000x3 : Shape := ⟨2, ![50000, 3]⟩
abbrev S50000x16 : Shape := ⟨2, ![50000, 16]⟩
abbrev S15x64x64 : Shape := ⟨3, ![15, 64, 64]⟩
abbrev S15x3 : Shape := ⟨2, ![15, 3]⟩
abbrev S_ : Shape := ⟨0, ![]⟩
abbrev S1x3 : Shape := ⟨2, ![1, 3]⟩
abbrev S50001x3 : Shape := ⟨2, ![50001, 3]⟩
abbrev S50000x16x1 : Shape := ⟨3, ![50000, 16, 1]⟩
abbrev S1 : Shape := ⟨1, ![1]⟩
abbrev S1x1x1 : Shape := ⟨3, ![1, 1, 1]⟩
abbrev S50000x16x3 : Shape := ⟨3, ![50000, 16, 3]⟩
abbrev S50000x1x3 : Shape := ⟨3, ![50000, 1, 3]⟩
abbrev S50000x16x1x3 : Shape := ⟨4, ![50000, 16, 1, 3]⟩
abbrev S1x1x15x3 : Shape := ⟨4, ![1, 1, 15, 3]⟩
abbrev S50000x16x15x3 : Shape := ⟨4, ![50000, 16, 15, 3]⟩
abbrev S50000x16x15 : Shape := ⟨3, ![50000, 16, 15]⟩
abbrev S50000x15x16 : Shape := ⟨3, ![50000, 15, 16]⟩
abbrev S1x64 : Shape := ⟨2, ![1, 64]⟩
abbrev S50001x64 : Shape := ⟨2, ![50001, 64]⟩
abbrev S50000x16x64 : Shape := ⟨3, ![50000, 16, 64]⟩
abbrev S50000x15x64 : Shape := ⟨3, ![50000, 15, 64]⟩
abbrev S50000 : Shape := ⟨1, ![50000]⟩
abbrev S50000x1 : Shape := ⟨2, ![50000, 1]⟩

abbrev nBuf : Space → Nat
  | .hbm => 96
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x3, .f32⟩
  | .hbm, ⟨2, _⟩ => ⟨S50000x3, .f32⟩
  | .hbm, ⟨3, _⟩ => ⟨S50000x16, .i32⟩
  | .hbm, ⟨4, _⟩ => ⟨S15x64x64, .f32⟩
  | .hbm, ⟨5, _⟩ => ⟨S15x3, .f32⟩
  | .hbm, ⟨6, _⟩ => ⟨S_, .f32⟩
  | .hbm, ⟨7, _⟩ => ⟨S1x3, .f32⟩
  | .hbm, ⟨8, _⟩ => ⟨S50001x3, .f32⟩
  | .hbm, ⟨9, _⟩ => ⟨S_, .i32⟩
  | .hbm, ⟨10, _⟩ => ⟨S50000x16, .i32⟩
  | .hbm, ⟨11, _⟩ => ⟨S50000x16, .i1⟩
  | .hbm, ⟨12, _⟩ => ⟨S_, .i32⟩
  | .hbm, ⟨13, _⟩ => ⟨S50000x16, .i32⟩
  | .hbm, ⟨14, _⟩ => ⟨S50000x16, .i32⟩
  | .hbm, ⟨15, _⟩ => ⟨S50000x16, .i32⟩
  | .hbm, ⟨16, _⟩ => ⟨S50000x16x1, .i32⟩
  | .hbm, ⟨17, _⟩ => ⟨S1, .i32⟩
  | .hbm, ⟨18, _⟩ => ⟨S_, .i32⟩
  | .hbm, ⟨19, _⟩ => ⟨S50000x16x1, .i32⟩
  | .hbm, ⟨20, _⟩ => ⟨S50000x16x1, .i1⟩
  | .hbm, ⟨21, _⟩ => ⟨S1x1x1, .i32⟩
  | .hbm, ⟨22, _⟩ => ⟨S50000x16x1, .i32⟩
  | .hbm, ⟨23, _⟩ => ⟨S50000x16x1, .i1⟩
  | .hbm, ⟨24, _⟩ => ⟨S50000x16x1, .i1⟩
  | .hbm, ⟨25, _⟩ => ⟨S_, .i1⟩
  | .hbm, ⟨26, _⟩ => ⟨S50000x16, .i1⟩
  | .hbm, ⟨27, _⟩ => ⟨S50000x16x3, .f32⟩
  | .hbm, ⟨28, _⟩ => ⟨S50000x16x3, .i1⟩
  | .hbm, ⟨29, _⟩ => ⟨S_, .f32⟩
  | .hbm, ⟨30, _⟩ => ⟨S50000x16x3, .f32⟩
  | .hbm, ⟨31, _⟩ => ⟨S50000x16x3, .f32⟩
  | .hbm, ⟨32, _⟩ => ⟨S50000x1x3, .f32⟩
  | .hbm, ⟨33, _⟩ => ⟨S50000x16x3, .f32⟩
  | .hbm, ⟨34, _⟩ => ⟨S50000x16x3, .f32⟩
  | .hbm, ⟨35, _⟩ => ⟨S50000x16x1x3, .f32⟩
  | .hbm, ⟨36, _⟩ => ⟨S1x1x15x3, .f32⟩
  | .hbm, ⟨37, _⟩ => ⟨S50000x16x15x3, .f32⟩
  | .hbm, ⟨38, _⟩ => ⟨S50000x16x15x3, .f32⟩
  | .hbm, ⟨39, _⟩ => ⟨S50000x16x15x3, .f32⟩
  | .hbm, ⟨40, _⟩ => ⟨S50000x16x15x3, .f32⟩
  | .hbm, ⟨41, _⟩ => ⟨S_, .f32⟩
  | .hbm, ⟨42, _⟩ => ⟨S50000x16x15, .f32⟩
  | .hbm, ⟨43, _⟩ => ⟨S50000x16x15, .f32⟩
  | .hbm, ⟨44, _⟩ => ⟨S_, .f32⟩
  | .hbm, ⟨45, _⟩ => ⟨S50000x16x15, .f32⟩
  | .hbm, ⟨46, _⟩ => ⟨S50000x16x15, .f32⟩
  | .hbm, ⟨47, _⟩ => ⟨S_, .f32⟩
  | .hbm, ⟨48, _⟩ => ⟨S50000x16x15, .f32⟩
  | .hbm, ⟨49, _⟩ => ⟨S50000x16x15, .f32⟩
  | .hbm, ⟨50, _⟩ => ⟨S_, .f32⟩
  | .hbm, ⟨51, _⟩ => ⟨S50000x16x15, .f32⟩
  | .hbm, ⟨52, _⟩ => ⟨S50000x16x15, .f32⟩
  | .hbm, ⟨53, _⟩ => ⟨S50000x15x16, .f32⟩
  | .hbm, ⟨54, _⟩ => ⟨S_, .f32⟩
  | .hbm, ⟨55, _⟩ => ⟨S1x64, .f32⟩
  | .hbm, ⟨56, _⟩ => ⟨S50001x64, .f32⟩
  | .hbm, ⟨57, _⟩ => ⟨S_, .i32⟩
  | .hbm, ⟨58, _⟩ => ⟨S50000x16, .i32⟩
  | .hbm, ⟨59, _⟩ => ⟨S50000x16, .i1⟩
  | .hbm, ⟨60, _⟩ => ⟨S_, .i32⟩
  | .hbm, ⟨61, _⟩ => ⟨S50000x16, .i32⟩
  | .hbm, ⟨62, _⟩ => ⟨S50000x16, .i32⟩
  | .hbm, ⟨63, _⟩ => ⟨S50000x16, .i32⟩
  | .hbm, ⟨64, _⟩ => ⟨S50000x16x1, .i32⟩
  | .hbm, ⟨65, _⟩ => ⟨S1, .i32⟩
  | .hbm, ⟨66, _⟩ => ⟨S_, .i32⟩
  | .hbm, ⟨67, _⟩ => ⟨S50000x16x1, .i32⟩
  | .hbm, ⟨68, _⟩ => ⟨S50000x16x1, .i1⟩
  | .hbm, ⟨69, _⟩ => ⟨S1x1x1, .i32⟩
  | .hbm, ⟨70, _⟩ => ⟨S50000x16x1, .i32⟩
  | .hbm, ⟨71, _⟩ => ⟨S50000x16x1, .i1⟩
  | .hbm, ⟨72, _⟩ => ⟨S50000x16x1, .i1⟩
  | .hbm, ⟨73, _⟩ => ⟨S_, .i1⟩
  | .hbm, ⟨74, _⟩ => ⟨S50000x16, .i1⟩
  | .hbm, ⟨75, _⟩ => ⟨S50000x16x64, .f32⟩
  | .hbm, ⟨76, _⟩ => ⟨S50000x16x64, .i1⟩
  | .hbm, ⟨77, _⟩ => ⟨S_, .f32⟩
  | .hbm, ⟨78, _⟩ => ⟨S50000x16x64, .f32⟩
  | .hbm, ⟨79, _⟩ => ⟨S50000x16x64, .f32⟩
  | .hbm, ⟨80, _⟩ => ⟨S50000x15x64, .f32⟩
  | .hbm, ⟨81, _⟩ => ⟨S50000x64, .f32⟩
  | .hbm, ⟨82, _⟩ => ⟨S_, .f32⟩
  | .hbm, ⟨83, _⟩ => ⟨S50000x16, .f32⟩
  | .hbm, ⟨84, _⟩ => ⟨S_, .f32⟩
  | .hbm, ⟨85, _⟩ => ⟨S50000x16, .f32⟩
  | .hbm, ⟨86, _⟩ => ⟨S50000x16, .i1⟩
  | .hbm, ⟨87, _⟩ => ⟨S50000x16, .f32⟩
  | .hbm, ⟨88, _⟩ => ⟨S_, .f32⟩
  | .hbm, ⟨89, _⟩ => ⟨S50000, .f32⟩
  | .hbm, ⟨90, _⟩ => ⟨S_, .f32⟩
  | .hbm, ⟨91, _⟩ => ⟨S50000, .f32⟩
  | .hbm, ⟨92, _⟩ => ⟨S50000, .f32⟩
  | .hbm, ⟨93, _⟩ => ⟨S50000x1, .f32⟩
  | .hbm, ⟨94, _⟩ => ⟨S50000x64, .f32⟩
  | .hbm, ⟨95, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst_0 : Ref sig .tc := ⟨.hbm, 41, rfl⟩
abbrev main_v12 : Ref sig .tc := ⟨.hbm, 42, rfl⟩
abbrev main_v13 : Ref sig .tc := ⟨.hbm, 43, rfl⟩
abbrev main_cst_1 : Ref sig .tc := ⟨.hbm, 44, rfl⟩
abbrev main_v14 : Ref sig .tc := ⟨.hbm, 45, rfl⟩
abbrev main_v15 : Ref sig .tc := ⟨.hbm, 46, rfl⟩
abbrev main_cst_2 : Ref sig .tc := ⟨.hbm, 47, rfl⟩
abbrev main_v16 : Ref sig .tc := ⟨.hbm, 48, rfl⟩
abbrev main_v17 : Ref sig .tc := ⟨.hbm, 49, rfl⟩
abbrev main_cst_3 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_4 : Ref sig .tc := ⟨.hbm, 54, rfl⟩
abbrev main_v21 : Ref sig .tc := ⟨.hbm, 55, rfl⟩
abbrev main_v22 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_call1_cst : Ref sig .tc := ⟨.hbm, 77, rfl⟩
abbrev main_call1_v15 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_cst_5 : Ref sig .tc := ⟨.hbm, 82, rfl⟩
abbrev main_v26 : Ref sig .tc := ⟨.hbm, 83, rfl⟩
abbrev main_cst_6 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_cst_7 : Ref sig .tc := ⟨.hbm, 88, rfl⟩
abbrev main_v30 : Ref sig .tc := ⟨.hbm, 89, rfl⟩
abbrev main_cst_8 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩

abbrev nD : Nat := 1
abbrev τ : Topo := Topo.v7x

variable {F : FTy → Type} [FloatOps F]
-- ==== Proof.Words.lean ====
/- The words that the gather kernel computes with, one tile at a time: how many blocks of 128 rows a tile gathers, at which block it
   starts, and what the loop's counters, conditions and offsets come to at each of its trips. -/
module

public import proofs.«01_k».proof.Defs
public import proofs.«01_k».proof.Proof.Gen.KernelIdeal

@[expose] public section

namespace Cert.Proof.Words

open Idealize.ShloMosaic Cert.KernelIdeal Cert.KernelIdeal.Gen

/-- The coordinates of tile `j` of SparseCore `c`. -/
def at' (c : Fin 2) (j : Fin 16) : grid0.Coords :=
  fun | 0 => c | 1 => j | ⟨_ + 2, h⟩ => absurd h (Nat.not_lt.2 (Nat.le_add_left _ _))

theorem eq_at (i : grid0.Coords) : i = at' (i 0) (i 1) := by
  funext a
  match a with
  | 0 => rfl
  | 1 => rfl

/-- A tile's number among the 32. -/
def tile (i : grid0.Coords) : ℕ := (i 1).val + 16 * (i 0).val
/-- How many blocks a tile gathers: 1250 = 2 · 40 + 30 · 39. -/
def cnt (i : grid0.Coords) : ℕ := if tile i < 2 then 40 else 39
/-- A tile's first block. -/
def st (i : grid0.Coords) : ℕ := if tile i < 2 then 40 * tile i else 39 * tile i + 2

/-- The five words carried into trip `k` by a tile of `n` blocks. -/
def w6 (n k : ℕ) : BitVec 32 := BitVec.ofNat 32 (min (k + 1) n)
def w7 (k : ℕ) : BitVec 32 := BitVec.ofNat 32 k
def w9 (k : ℕ) : BitVec 32 := BitVec.ofNat 32 (k - 1)
def w10 (n k : ℕ) : BitVec 32 := if k = n then 0#32 else BitVec.ofNat 32 k

/-- A loop's trip number is below the tile's count. -/
theorem trips_at : ∀ c j, (k0_t1_loop (at' c j)).trips = cnt (at' c j) := by decide +kernel
theorem trips_eq (i : grid0.Coords) : (k0_t1_loop i).trips = cnt i := by rw [eq_at i]; exact trips_at _ _
theorem trip_lt {i : grid0.Coords} (t : Fin (k0_t1_loop i).trips) : t.val < cnt i := trips_eq i ▸ t.isLt
theorem trips2_at : ∀ c j, (k0_t2_loop (at' c j)).trips = 0 := by decide +kernel
/-- The second loop, the remainder of a step of one, makes no trip. -/
theorem trips2_eq (i : grid0.Coords) : (k0_t2_loop i).trips = 0 := by rw [eq_at i]; exact trips2_at _ _

theorem cnt_pos (i : grid0.Coords) : 0 < cnt i := by unfold cnt; split <;> decide
theorem tile_lt (i : grid0.Coords) : tile i < 32 := by
  have h0 : (i 0).val < 2 := (i 0).isLt
  have h1 : (i 1).val < 16 := (i 1).isLt
  unfold tile; omega
/-- A tile's blocks lie among the 1250. -/
theorem st_add_cnt (i : grid0.Coords) : st i + cnt i ≤ 1250 := by
  have := tile_lt i
  unfold st cnt; split <;> omega

set_option maxRecDepth 100000

theorem cond1_at : ∀ c j, k0_cond1 (at' c j) = 1#1 := by decide +kernel
/-- Every tile has blocks to gather. -/
theorem cond1 (i : grid0.Coords) : k0_cond1 i = 1#1 := by
  rw [eq_at i]; exact cond1_at _ _
theorem cond2_at : ∀ c j, k0_cond2 (at' c j) = 1#1 := by decide +kernel
theorem cond2 (i : grid0.Coords) : k0_cond2 i = 1#1 := by
  rw [eq_at i]; exact cond2_at _ _
theorem cond18_at : ∀ c j, k0_cond18 (at' c j) = 1#1 := by decide +kernel
theorem cond18 (i : grid0.Coords) : k0_cond18 i = 1#1 := by
  rw [eq_at i]; exact cond18_at _ _
theorem cond3_at : ∀ c j, ∀ t : Fin (k0_t1_loop (at' c j)).trips, (k0_cond3 (at' c j) t (w10 (cnt (at' c j)) t) = 1#1 ↔ t.val + 1 < cnt (at' c j)) := by decide +kernel
/-- The next block's indices are sent for while there is a next block. -/
theorem cond3 (i : grid0.Coords) (t : Fin (k0_t1_loop i).trips) : (k0_cond3 i t (w10 (cnt i) t) = 1#1 ↔ t.val + 1 < cnt i) := by
  revert t; rw [eq_at i]; exact cond3_at _ _
theorem cond4_at : ∀ c j, ∀ t : Fin (k0_t1_loop (at' c j)).trips, k0_cond4 (at' c j) t (w10 (cnt (at' c j)) t) = 1#1 := by decide +kernel
theorem cond4 (i : grid0.Coords) (t : Fin (k0_t1_loop i).trips) : k0_cond4 i t (w10 (cnt i) t) = 1#1 := by
  revert t; rw [eq_at i]; exact cond4_at _ _
theorem cond7_at : ∀ c j, ∀ t : Fin (k0_t1_loop (at' c j)).trips, k0_cond7 (at' c j) t (w10 (cnt (at' c j)) t) = 1#1 := by decide +kernel
theorem cond7 (i : grid0.Coords) (t : Fin (k0_t1_loop i).trips) : k0_cond7 i t (w10 (cnt i) t) = 1#1 := by
  revert t; rw [eq_at i]; exact cond7_at _ _
theorem cond9_at : ∀ c j, ∀ t : Fin (k0_t1_loop (at' c j)).trips, (k0_cond9 (at' c j) t (w10 (cnt (at' c j)) t) = 1#1 ↔ 0 < t.val) := by decide +kernel
/-- The block before is waited for from the second trip on. -/
theorem cond9 (i : grid0.Coords) (t : Fin (k0_t1_loop i).trips) : (k0_cond9 i t (w10 (cnt i) t) = 1#1 ↔ 0 < t.val) := by
  revert t; rw [eq_at i]; exact cond9_at _ _
theorem chk1_at : ∀ c j, ∀ t : Fin (k0_t1_loop (at' c j)).trips, k0_chk1 (at' c j) t (w6 (cnt (at' c j)) t) (w7 t) (w7 t) (w9 t) (w10 (cnt (at' c j)) t) := by decide +kernel
theorem chk1 (i : grid0.Coords) (t : Fin (k0_t1_loop i).trips) : k0_chk1 i t (w6 (cnt i) t) (w7 t) (w7 t) (w9 t) (w10 (cnt i) t) := by
  revert t; rw [eq_at i]; exact chk1_at _ _
theorem chk2_at : ∀ c j, ∀ t : Fin (k0_t1_loop (at' c j)).trips, k0_chk2 (at' c j) (w7 t) := by decide +kernel
theorem chk2 (i : grid0.Coords) (t : Fin (k0_t1_loop i).trips) : k0_chk2 i (w7 t) := by
  revert t; rw [eq_at i]; exact chk2_at _ _
theorem chk3_at : ∀ c j, ∀ t : Fin (k0_t1_loop (at' c j)).trips, k0_chk3 (at' c j) (w7 t) := by decide +kernel
theorem chk3 (i : grid0.Coords) (t : Fin (k0_t1_loop i).trips) : k0_chk3 i (w7 t) := by
  revert t; rw [eq_at i]; exact chk3_at _ _
theorem chk8_at : ∀ c j, k0_chk8 (at' c j) (w10 (cnt (at' c j)) (cnt (at' c j))) := by decide +kernel
theorem chk8 (i : grid0.Coords) : k0_chk8 i (w10 (cnt i) (cnt i)) := by
  rw [eq_at i]; exact chk8_at _ _
theorem chk7_at : ∀ c j, k0_chk7 (at' c j) (w9 (cnt (at' c j))) := by decide +kernel
theorem chk7 (i : grid0.Coords) : k0_chk7 i (w9 (cnt i)) := by
  rw [eq_at i]; exact chk7_at _ _
theorem off2_at : ∀ c j, k0_off2 (at' c j) = ![0, 128 * st (at' c j)] := by decide +kernel
theorem off2 (i : grid0.Coords) : k0_off2 i = ![0, 128 * st i] := by
  rw [eq_at i]; exact off2_at _ _
theorem off4_at : ∀ c j, ∀ t : Fin (k0_t1_loop (at' c j)).trips, (t.val + 1 < cnt (at' c j) → k0_off4 (w6 (cnt (at' c j)) t) = ![(t.val + 1) % 2, 0, 0]) := by decide +kernel
theorem off4 (i : grid0.Coords) (t : Fin (k0_t1_loop i).trips) : (t.val + 1 < cnt i → k0_off4 (w6 (cnt i) t) = ![(t.val + 1) % 2, 0, 0]) := by
  revert t; rw [eq_at i]; exact off4_at _ _
theorem off5_at : ∀ c j, ∀ t : Fin (k0_t1_loop (at' c j)).trips, (t.val + 1 < cnt (at' c j) → k0_off5 (at' c j) (w10 (cnt (at' c j)) t) = ![0, 128 * (st (at' c j) + (t.val + 1))]) := by decide +kernel
theorem off5 (i : grid0.Coords) (t : Fin (k0_t1_loop i).trips) : (t.val + 1 < cnt i → k0_off5 i (w10 (cnt i) t) = ![0, 128 * (st i + (t.val + 1))]) := by
  revert t; rw [eq_at i]; exact off5_at _ _
theorem off6_at : ∀ c j, ∀ t : Fin (k0_t1_loop (at' c j)).trips, (t.val + 1 < cnt (at' c j) → k0_off6 (w6 (cnt (at' c j)) t) = ![(t.val + 1) % 2]) := by decide +kernel
theorem off6 (i : grid0.Coords) (t : Fin (k0_t1_loop i).trips) : (t.val + 1 < cnt i → k0_off6 (w6 (cnt i) t) = ![(t.val + 1) % 2]) := by
  revert t; rw [eq_at i]; exact off6_at _ _
theorem off10_at : ∀ c j, ∀ t : Fin (k0_t1_loop (at' c j)).trips, k0_off10 (w7 t) = ![t.val % 2, 0, 0] := by decide +kernel
theorem off10 (i : grid0.Coords) (t : Fin (k0_t1_loop i).trips) : k0_off10 (w7 t) = ![t.val % 2, 0, 0] := by
  revert t; rw [eq_at i]; exact off10_at _ _
theorem off11_at : ∀ c j, ∀ t : Fin (k0_t1_loop (at' c j)).trips, k0_off11 (w7 t) = ![t.val % 2, 0, 0] := by decide +kernel
theorem off11 (i : grid0.Coords) (t : Fin (k0_t1_loop i).trips) : k0_off11 (w7 t) = ![t.val % 2, 0, 0] := by
  revert t; rw [eq_at i]; exact off11_at _ _
theorem off12_at : ∀ c j, ∀ t : Fin (k0_t1_loop (at' c j)).trips, k0_off12 (w7 t) = ![t.val % 2, 0, 0] := by decide +kernel
theorem off12 (i : grid0.Coords) (t : Fin (k0_t1_loop i).trips) : k0_off12 (w7 t) = ![t.val % 2, 0, 0] := by
  revert t; rw [eq_at i]; exact off12_at _ _
theorem off9_at : ∀ c j, ∀ t : Fin (k0_t1_loop (at' c j)).trips, k0_off9 (w7 t) = ![t.val % 2] := by decide +kernel
theorem off9 (i : grid0.Coords) (t : Fin (k0_t1_loop i).trips) : k0_off9 (w7 t) = ![t.val % 2] := by
  revert t; rw [eq_at i]; exact off9_at _ _
theorem off14_at : ∀ c j, ∀ t : Fin (k0_t1_loop (at' c j)).trips, k0_off14 (w7 t) = ![t.val % 2] := by decide +kernel
theorem off14 (i : grid0.Coords) (t : Fin (k0_t1_loop i).trips) : k0_off14 (w7 t) = ![t.val % 2] := by
  revert t; rw [eq_at i]; exact off14_at _ _
theorem off13_at : ∀ c j, ∀ t : Fin (k0_t1_loop (at' c j)).trips, k0_off13 (at' c j) (w10 (cnt (at' c j)) t) = ![128 * (st (at' c j) + t.val), 0] := by decide +kernel
theorem off13 (i : grid0.Coords) (t : Fin (k0_t1_loop i).trips) : k0_off13 i (w10 (cnt i) t) = ![128 * (st i + t.val), 0] := by
  revert t; rw [eq_at i]; exact off13_at _ _
theorem off17_at : ∀ c j, ∀ t : Fin (k0_t1_loop (at' c j)).trips, k0_off17 (w9 t) = ![(t.val - 1) % 2] := by decide +kernel
theorem off17 (i : grid0.Coords) (t : Fin (k0_t1_loop i).trips) : k0_off17 (w9 t) = ![(t.val - 1) % 2] := by
  revert t; rw [eq_at i]; exact off17_at _ _
theorem off34_at : ∀ c j, k0_off34 (w9 (cnt (at' c j))) = ![(cnt (at' c j) - 1) % 2] := by decide +kernel
theorem off34 (i : grid0.Coords) : k0_off34 (w9 (cnt i)) = ![(cnt i - 1) % 2] := by
  rw [eq_at i]; exact off34_at _ _

theorem off1 : k0_off1 = ![0, 0, 0] := by decide +kernel
theorem off3 : k0_off3 = ![0] := by decide +kernel

/-! ## The words a trip carries on -/

/-- A tile's count and first block as the words the program computes. -/
def v5 (i : grid0.Coords) : BitVec 32 :=
  Scalar.select (Scalar.cmpi .slt (Scalar.addi (Scalar.addi 0#32 (Scalar.muli (BitVec.ofNat 32 (i 1).val) 1#32)) (Scalar.muli (BitVec.ofNat 32 (i 0).val) 16#32)) 2#32) 40#32 39#32
def v10 (i : grid0.Coords) : BitVec 32 :=
  let v3 := Scalar.addi (Scalar.addi 0#32 (Scalar.muli (BitVec.ofNat 32 (i 1).val) 1#32)) (Scalar.muli (BitVec.ofNat 32 (i 0).val) 16#32)
  Scalar.select (Scalar.cmpi .slt v3 2#32) (Scalar.muli v3 (v5 i)) (Scalar.addi (Scalar.muli v3 39#32) 2#32)

/-- The five words a trip yields, from the five it is entered with. -/
def next (i : grid0.Coords) (t : Fin (k0_t1_loop i).trips) (a6 a7 a8 a9 a10 : BitVec 32) : BitVec 32 × BitVec 32 × BitVec 32 × BitVec 32 × BitVec 32 :=
  let a5 := Scf.iv 0#32 1#32 t
  let v80 := Scalar.muli 1#32 (v5 i)
  let v81 := Scalar.cmpi .eq a5 0#32
  let v83 := Scalar.cmpi .eq a5 (Scalar.subi v80 1#32)
  let v84 := Scalar.addi a10 (v10 i)
  let v86 := Scalar.select 1#1 (Scalar.subi a10 1#32) a10
  let v90 := Scalar.addi (Scalar.select (Scalar.cmpi .eq v86 4294967295#32) (Scalar.subi (v5 i) 1#32) v86) (v10 i)
  let v92 := Scalar.select 1#1 (Scalar.addi a10 1#32) a10
  let v95 := Scalar.addi (Scalar.select (Scalar.cmpi .eq v92 (v5 i)) 0#32 v92) (v10 i)
  let v106 := Scalar.andi (Scalar.cmpi .ne v84 v95) (Scalar.xori (Scalar.cmpi .sge a5 (Scalar.addi (Scalar.subi v80 2#32) 1#32)) 1#1)
  let v112 := Scalar.select (Scalar.andi v106 1#1) (Scalar.addi a6 1#32) a6
  let v139 := Scalar.ori (Scalar.cmpi .ne v84 v95) v83
  let v153 := Scalar.andi (Scalar.cmpi .ne v84 v90) (Scalar.xori v81 1#1)
  let v164 := Scalar.select 1#1 (Scalar.addi a10 1#32) a10
  (v112, Scalar.select v139 (Scalar.addi a7 1#32) a7, Scalar.select (Scalar.andi v139 1#1) (Scalar.addi a8 1#32) a8,
    Scalar.select (Scalar.andi v153 1#1) (Scalar.addi a9 1#32) a9, Scalar.select (Scalar.cmpi .eq v164 (v5 i)) 0#32 v164)

/-- The words before trip `k`. -/
def words (i : grid0.Coords) (k : ℕ) : BitVec 32 × BitVec 32 × BitVec 32 × BitVec 32 × BitVec 32 :=
  (w6 (cnt i) k, w7 k, w7 k, w9 k, w10 (cnt i) k)

theorem next_at : ∀ c j, ∀ t : Fin (k0_t1_loop (at' c j)).trips,
    next (at' c j) t (w6 (cnt (at' c j)) t) (w7 t) (w7 t) (w9 t) (w10 (cnt (at' c j)) t) = words (at' c j) (t.val + 1) := by decide +kernel
/-- A trip carries the words on. -/
theorem next_eq (i : grid0.Coords) (t : Fin (k0_t1_loop i).trips) :
    next i t (w6 (cnt i) t) (w7 t) (w7 t) (w9 t) (w10 (cnt i) t) = words i (t.val + 1) := by
  revert t; rw [eq_at i]; exact next_at _ _

theorem start_at : ∀ c j, (Scalar.select (Scalar.andi 1#1 (Scalar.cmpi .sgt (Scalar.muli 1#32 (v5 (at' c j))) 0#32)) (Scalar.addi 0#32 1#32) 0#32, 0#32, 0#32, 0#32, 0#32)
    = words (at' c j) 0 := by decide +kernel
/-- The words the loop is entered with. -/
theorem start_eq (i : grid0.Coords) :
    (Scalar.select (Scalar.andi 1#1 (Scalar.cmpi .sgt (Scalar.muli 1#32 (v5 i)) 0#32)) (Scalar.addi 0#32 1#32) 0#32, 0#32, 0#32, 0#32, 0#32) = words i 0 := by
  rw [eq_at i]; exact start_at _ _

end Cert.Proof.Words

end
-- ==== Proof.Steps.lean ====
/- The five memory operations of the gather kernel's pipeline, each at the slot and the block it addresses: the copy of a block of
   indices into a slot and its wait, the indirect gather of the rows those indices name, the copy of the rows out to their block of
   the result and its wait. A step is stated at whatever offsets the program computes, given what they come to. -/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.VecWindow
public import Idealize.ShloMosaic.Lib.Tactic
public import proofs.«01_k».proof.Proof.Gen.KernelIdeal
public import proofs.«01_k».proof.Proof.Gen.KernelIdeal.Skeleton

@[expose] public section

noncomputable section

namespace Cert.Proof.Steps

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

/-! ## Slots and blocks -/

theorem inb_in (p : Fin 2) : ∀ a, (![p.val, 0, 0] : Fin 3 → ℕ) a + S1x1x128.size a ≤ S2x1x128.size a := by
  revert p; decide
theorem inb_out (p : Fin 2) : ∀ a, (![p.val, 0, 0] : Fin 3 → ℕ) a + S1x128x128.size a ≤ S2x128x128.size a := by
  revert p; decide
theorem inb_sem (p : Fin 2) : ∀ a, (![p.val] : Fin 1 → ℕ) a + S1.size a ≤ S2.size a := by
  revert p; decide
theorem inb_idx (b : Fin 1250) : ∀ a, (![0, 128 * b.val] : Fin 2 → ℕ) a + S1x128.size a ≤ S1x160000.size a := by
  intro a
  match a with
  | 0 => exact le_refl 1
  | 1 => show 128 * b.val + 128 ≤ 160000; omega
theorem inb_res (b : Fin 1250) : ∀ a, (![128 * b.val, 0] : Fin 2 → ℕ) a + S128x128.size a ≤ S160000x128.size a := by
  intro a
  match a with
  | 0 => show 128 * b.val + 128 ≤ 160000; omega
  | 1 => exact le_refl 128

/-- Slot `p` of the index buffer. -/
abbrev inSlot (a : Memref sig .scVector .vmem S2x1x128 .i32) (p : Fin 2) : Memref sig .scVector .vmem S1x128 .i32 :=
  (a.slice (Rect.unit (s := S2x1x128) ![p.val, 0, 0] S1x1x128.size (inb_in p)) (fun _ => rfl)).squeeze S1x128 squeezes_S1x1x128_S1x128
/-- Slot `p` of the row buffer. -/
abbrev outSlot (a : Memref sig .scVector .vmem S2x128x128 .f32) (p : Fin 2) : Memref sig .scVector .vmem S128x128 .f32 :=
  (a.slice (Rect.unit (s := S2x128x128) ![p.val, 0, 0] S1x128x128.size (inb_out p)) (fun _ => rfl)).squeeze S128x128 squeezes_S1x128x128_S128x128
/-- Block `b` of the indices: 128 of them. -/
abbrev idxBlk (a : Memref sig .scVector .hbm S1x160000 .i32) (b : Fin 1250) : Memref sig .scVector .hbm S1x128 .i32 :=
  a.slice (Rect.unit (s := S1x160000) ![0, 128 * b.val] S1x128.size (inb_idx b)) (fun _ => rfl)
/-- Block `b` of the result: 128 rows. -/
abbrev resBlk (a : Memref sig .scVector .hbm S160000x128 .f32) (b : Fin 1250) : Memref sig .scVector .hbm S128x128 .f32 :=
  a.slice (Rect.unit (s := S160000x128) ![128 * b.val, 0] S128x128.size (inb_res b)) (fun _ => rfl)
/-- All of the table. -/
abbrev table (a : Memref sig .scVector .hbm S50000x128 .f32) : Memref sig .scVector .hbm S50000x128 .f32 :=
  a.slice (Rect.unit (s := S50000x128) ![0, 0] S50000x128.size inb_S50000x128_S50000x128_0_0) (fun _ => rfl)
/-- Slot `p` of the index buffer as the gather's list of 128 offsets. -/
abbrev offs (a : Memref sig .scVector .vmem S2x1x128 .i32) (p : Fin 2) : Memref sig .scVector .vmem S128 .i32 :=
  ((inSlot a p).slice (Rect.unit (s := S1x128) ![0, 0] S1x128.size inb_S1x128_S1x128_0_0) (fun _ => rfl)).squeeze S128 squeezes_S1x128_S128
/-- Semaphore `p` of a pair. -/
abbrev semAt (v : DmaSems sig S2) (p : Fin 2) : DmaSem sig :=
  ((v.slice (Rect.unit (s := S2) ![p.val] S1.size (inb_sem p))).squeeze S_ squeezes_S1_S_).sem

variable {F : FTy → Type} [FloatOps F] {Ix : Type} [DecidableEq Ix] {Name : Type} [DecidableEq Name] [Infinite Name]
variable {U : Type} [URA U] {Lvl : Type} [Preorder Lvl]
variable {defs : Defs nD τ sig (Elt F) Λ₀} (EC : UEmb Counters (MT nD τ sig Ix (Elt F) Name U Lvl)) [EC.LandsIn (upEmb : UEmb _ (MT nD τ sig Ix (Elt F) Name U Lvl))]
variable (𝒱 : Variants) (bd : Option 𝒱.V)

local notation "𝕄" => MT nD τ sig Ix (Elt F) Name U Lvl

variable (d : Dev nD) (i : grid0.Coords) (ι : Ix)

/-- The thread of the tile at coordinates `i`. -/
abbrev thr (d : Dev nD) (i : grid0.Coords) : Thread nD τ := (d, .scVector ((i 0).castLE hcore0) ((i 1).castLE hsub0))

/-- What a memref's elements hold, at a share. -/
abbrev pts {sp : Space} {s : Shape} {e : EltTy} (v : Memref sig .scVector sp s e) (q : PosShare TreeShare) (f : Buf (Elt F) (v.view.loc (thr d i))) : sProp 𝕄 :=
  v.view.loc (thr d i) ↦[v.view.set]{q} f

/-- A memref's elements, some of their contents overwritten with `w` all over. -/
abbrev ptsW {sp : Space} {s : Shape} {e : EltTy} (v : Memref sig .scVector sp s e) (w : s.Idx → Elt F e) : sProp 𝕄 :=
  iprop(∃ f : Buf (Elt F) (v.view.loc (thr d i)), pts d i v fullShare (v.view.write (Elt F) f w Finset.univ))

/-- A memref's elements at contents unsaid. -/
abbrev ptsE {sp : Space} {s : Shape} {e : EltTy} (v : Memref sig .scVector sp s e) : sProp 𝕄 :=
  iprop(∃ f : Buf (Elt F) (v.view.loc (thr d i)), pts d i v fullShare f)

abbrev sem0 (s : DmaSem sig) : sProp 𝕄 := semVal (thr d i, SemLoc.dma s) 0

/-- What the thread owes, every wait it has made since `W` being one of the class `ι`. -/
abbrev owing (O : CellTallies nD τ sig Ix) (W : Waits sig Ix) : sProp 𝕄 :=
  iprop(∃ W', ⌜∀ p ∈ W', p ∈ W ∨ p.2 = ι⌝ ∗ owes (thr d i) O W')

/-- A copy in flight on `sm` of as many bits as `s` elements of type `e` have, delivering `D`. -/
abbrev fly (s : Shape) (e : EltTy) (sm : DmaSem sig) (D : sProp 𝕄) : sProp 𝕄 :=
  Transfers.Flight EC (thr d i) (.dma sm) ι (s.numel * e.bits) D

/-- A copy of one memref over another, on a semaphore held at zero. -/
theorem wp_copy {sp sp' : Space} {s : Shape} {e : EltTy} {src : Memref sig .scVector sp s e} {dst : Memref sig .scVector sp' s e} {sm : DmaSem sig}
    {hsrc : src.view.WordExact} {hdst : dst.view.WordExact} {hsem : DmaTarget.Typed (nD := nD) (p := (thr d i).2) sp (.dma sm) (.here dst)}
    {Q : PUnit → sProp 𝕄} {q : PosShare TreeShare} {fs : Buf (Elt F) (src.view.loc (thr d i))} (hs : 0 < s.numel) :
    iprop(pts d i src q fs ∗ ptsE d i dst ∗ sem0 d i sm)
      ⊢ iprop((fly EC d i ι s e sm iprop(ptsW d i dst (src.view.read (Elt F) fs) ∗ pts d i src q fs) -∗ Q ⟨⟩)
          -∗ wp frame (wpE defs 𝒱 (thr d i) bd) Set.univ
            (Prog.lift (TpuEff.enqueueDma (p := (thr d i).2) src (.here dst) (.dma sm) hsrc hdst hsem)) Q : sProp 𝕄) := by
  iintro ⟨Hs, ⟨%fd, Hd⟩, Hv⟩ Hk
  iapply (Transfers.wp_dmaLocal (c := thr d i) EC 𝒱 bd ι (s.numel * e.bits) rfl (View.dmaCredit_pos dst.view hs) subset_rfl) $$ [Hs Hd Hv]
  · isplitl [Hs]; · iexact Hs
    isplitl [Hd] <;> iassumption
  iintro Hf
  rw [wp_ret]; imodintro
  iapply Hk
  iapply (Transfers.Flight_mono EC (thr d i) (show iprop((dst.view.loc (thr d i) ↦[dst.view.set]{fullShare} (dst.view.write (Elt F) fd (src.view.read (Elt F) fs) Finset.univ)) ∗ (src.view.loc (thr d i) ↦[src.view.set]{q} fs)) ⊢ iprop(ptsW d i dst (src.view.read (Elt F) fs) ∗ pts d i src q fs) from by
    iintro ⟨Hd, Hs⟩
    isplitl [Hd]
    · iexists fd; iexact Hd
    · iexact Hs)) $$ Hf

/-- The same, of a memref written with `w` whose own contents after the copy are left unsaid. -/
theorem wp_copyOut {sp sp' : Space} {s : Shape} {e : EltTy} {src : Memref sig .scVector sp s e} {dst : Memref sig .scVector sp' s e} {sm : DmaSem sig}
    {hsrc : src.view.WordExact} {hdst : dst.view.WordExact} {hsem : DmaTarget.Typed (nD := nD) (p := (thr d i).2) sp (.dma sm) (.here dst)}
    {Q : PUnit → sProp 𝕄} {w : s.Idx → Elt F e} (hs : 0 < s.numel) :
    iprop(ptsW d i src w ∗ ptsE d i dst ∗ sem0 d i sm)
      ⊢ iprop((fly EC d i ι s e sm iprop(ptsW d i dst w ∗ ptsE d i src) -∗ Q ⟨⟩)
          -∗ wp frame (wpE defs 𝒱 (thr d i) bd) Set.univ
            (Prog.lift (TpuEff.enqueueDma (p := (thr d i).2) src (.here dst) (.dma sm) hsrc hdst hsem)) Q : sProp 𝕄) := by
  iintro ⟨⟨%fs, Hs⟩, Hd, Hv⟩ Hk
  iapply (wp_copy EC 𝒱 bd d i ι (src := src) (dst := dst) hs) $$ [Hs Hd Hv]
  · isplitl [Hs]; · iexact Hs
    isplitl [Hd] <;> iassumption
  iintro Hf
  iapply Hk
  iapply (Transfers.Flight_mono EC (thr d i) (show iprop(ptsW d i dst (src.view.read (Elt F) (src.view.write (Elt F) fs w Finset.univ)) ∗ pts d i src fullShare (src.view.write (Elt F) fs w Finset.univ)) ⊢ iprop(ptsW d i dst w ∗ ptsE d i src) from by
    rw [View.read_write_univ]
    iintro ⟨Hd, Hs⟩
    isplitl [Hd]; · iexact Hd
    iexists _; iexact Hs)) $$ Hf

/-- The wait for a copy, its evidence at hand. -/
theorem wp_await {sp sp' : Space} {s s' : Shape} {e e' : EltTy} {src : Memref sig .scVector sp' s' e'} {dst : Memref sig .scVector sp s e} {sm : DmaSem sig}
    {hsrc : src.view.WordExact} {hdst : dst.view.WordExact} {D : sProp 𝕄}
    {Q : PUnit → sProp 𝕄} {O : CellTallies nD τ sig Ix} {W : Waits sig Ix} :
    iprop(fly EC d i ι s e sm D ∗ owing d i ι O W ∗ Transfers.MayWaits (thr d i) ι O)
      ⊢ iprop((iprop(D ∗ sem0 d i sm ∗ owing d i ι O W) -∗ Q ⟨⟩)
          -∗ wp frame (wpE defs 𝒱 (thr d i) bd) Set.univ (Prog.lift (TpuEff.waitDma2 (p := (thr d i).2) sm src dst hsrc hdst)) Q : sProp 𝕄) := by
  iintro ⟨Hf, ⟨%W', %hW, HO⟩, Hm⟩ Hk
  ihave Hm' := (Transfers.MayWaits.elim (SemLoc.dma sm)) $$ Hm
  iapply (Transfers.wp_waitLocalO (c := thr d i) EC 𝒱 bd ι (dstw := dst) (rfl : dst.view.dmaCredit = s.numel * e.bits)) $$ [Hf HO Hm']
  · isplitl [Hf]; · iexact Hf
    isplitl [HO] <;> iassumption
  iintro ⟨HD, Hs, HO⟩
  rw [wp_ret]; imodintro
  iapply Hk
  isplitl [HD]; · iexact HD
  isplitl [Hs]; · iexact Hs
  iexists _; isplitr
  swap; · iexact HO
  ipureintro; intro p hp
  rcases Finset.mem_insert.mp hp with hp | hp
  · exact .inr (hp ▸ rfl)
  · exact hW p hp

/-- A side condition that holds. -/
theorem wp_check {P : Prop} {dec : Decidable P} (h : P) {Q : PLift P → sProp 𝕄} :
    Q ⟨h⟩ ⊢ (wp frame (wpE defs 𝒱 (thr d i) bd) Set.univ (Prog.lift (TpuEff.assume (p := (thr d i).2) P dec)) Q : sProp 𝕄) := by
  refine BI.Entails.trans ?_ (wp_assume 𝒱 (thr d i) bd Set.univ h)
  rw [wp_ret]
  show iprop(Q ⟨h⟩) ⊢ _
  iintro H; imodintro; iexact H

/-- The index of slot element `x` of the offset list. -/
def offIx : S128.Idx → S1x128.Idx := Shape.reshapeEquiv (Shape.Squeezes.numel_eq squeezes_S1x128_S128)

/-- The rows of the table that 128 words name, all of them in range. -/
def rowsOf (tb : S50000x128.Idx → Elt F .f32) (w : S1x128.Idx → Elt F .i32) (hw : ∀ x, (w x).toNat < 50000) : S128x128.Idx → Elt F .f32 :=
  SparseCore.gatherPayload gathers_S50000x128_S128x128 tb
    (SparseCore.rows (si := S128) (fun x => w (offIx x)) rfl (fun x => hw (offIx x)))

theorem rows_congr {g g' : S128.Idx → Elt F .i32} (h : g = g') (hg : ∀ x, (g x).toNat < 50000) (hg' : ∀ x, (g' x).toNat < 50000) :
    SparseCore.rows (o := 128) (si := S128) g rfl hg = SparseCore.rows g' rfl hg' := by
  subst h; rfl

theorem offs_set (a : Memref sig .scVector .vmem S2x1x128 .i32) (p : Fin 2) : (offs a p).view.set = (inSlot a p).view.set := by
  show ((((inSlot a p).view.slice _).reshape S128 _)).set = _
  rw [View.set_reshape, View.set_slice]
  unfold View.set
  congr 1

/-- The offset list of a slot written with `w` reads the words of `w` in order. -/
theorem offs_read (a : Memref sig .scVector .vmem S2x1x128 .i32) (p : Fin 2) (f : Buf (Elt F) ((inSlot a p).view.loc (thr d i))) (w : S1x128.Idx → Elt F .i32) :
    (offs a p).view.read (Elt F) ((inSlot a p).view.write (Elt F) f w Finset.univ) = fun x => w (offIx x) := by
  refine (Memref.read_squeeze_full (inSlot a p) inb_S1x128_S1x128_0_0 squeezes_S1x128_S128 _).trans ?_
  funext x
  rw [View.read_write_univ]; rfl

/-- The whole table as one memref reads what the table holds. -/
theorem table_read (a : Memref sig .scVector .hbm S50000x128 .f32) (f : Buf (Elt F) (a.view.loc (thr d i))) :
    (table a).view.read (Elt F) f = a.view.read (Elt F) f := by
  funext x
  show a.view.read (Elt F) f ((Rect.unit (s := S50000x128) ![0, 0] S50000x128.size inb_S50000x128_S50000x128_0_0).emb x) = _
  rw [Rect.emb_unit_full]

/-- The indirect gather at the head of a program: the rows that the slot's words name, into a slot of the row buffer. -/
theorem wp_gather_bind (a2 : Memref sig .scVector .hbm S50000x128 .f32) (a : Memref sig .scVector .vmem S2x1x128 .i32) (b : Memref sig .scVector .vmem S2x128x128 .f32)
    (p p' : Fin 2) {sm : DmaSem sig} {hsrc : (table a2).view.WordExact} {hr : S50000x128.StreamRows 0}
    {k : PUnit → Prog (TpuEff nD τ sig (Elt F) Λ₀ (thr d i).2) PUnit} {Q : PUnit → sProp 𝕄} {q : PosShare TreeShare} {fs : Buf (Elt F) (a2.view.loc (thr d i))}
    (w : S1x128.Idx → Elt F .i32) (hw : ∀ x, (w x).toNat < 50000) :
    iprop(pts d i (table a2) q fs ∗ ptsE d i (outSlot b p') ∗ ptsW d i (inSlot a p) w ∗ sem0 d i sm)
      ⊢ iprop((fly EC d i ι S128x128 .f32 sm iprop(ptsW d i (outSlot b p') (rowsOf (a2.view.read (Elt F) fs) w hw) ∗ pts d i (table a2) q fs ∗ ptsE d i (inSlot a p))
              -∗ wp frame (wpE defs 𝒱 (thr d i) bd) Set.univ (k ⟨⟩) Q)
          -∗ wp frame (wpE defs 𝒱 (thr d i) bd) Set.univ (SparseCore.enqueueIndirectGather (p := (thr d i).2) rfl (table a2) (outSlot b p') gathers_S50000x128_S128x128 (offs a p) rfl sm hsrc rfl (Or.inl rfl) hr >>= k) Q : sProp 𝕄) := by
  iintro ⟨Ht, ⟨%fd, Hd⟩, ⟨%fi, Hi⟩, Hv⟩ Hk
  have hin : ∀ x, ((offs a p).view.read (Elt F) ((inSlot a p).view.write (Elt F) fi w Finset.univ) x).toNat < 50000 := by
    intro x; rw [offs_read d i a p fi w]; exact hw _
  iapply (SparseCore.wp_indirectGatherLocal (c := thr d i) EC 𝒱 bd (src := table a2) (dst := outSlot b p') (offs := offs a p) (hg := gathers_S50000x128_S128x128)
    (fo := (inSlot a p).view.write (Elt F) fi w Finset.univ) ι (S128x128.numel * EltTy.f32.bits)
    ((SparseCore.sum_rowCredit_eq_dmaCredit (outSlot b p') _ (fun _ => rfl)).trans rfl) (by decide) hin) $$ [Ht Hd Hi Hv]
  · isplitl [Ht]; · iexact Ht
    isplitl [Hd]; · iexact Hd
    isplitl [Hi]
    · rw [offs_set]; iexact Hi
    · iexact Hv
  iintro Hf
  iapply Hk
  have hrow : SparseCore.gatherPayload gathers_S50000x128_S128x128 ((table a2).view.read (Elt F) fs)
      (SparseCore.rows ((offs a p).view.read (Elt F) ((inSlot a p).view.write (Elt F) fi w Finset.univ)) rfl hin)
      = rowsOf (a2.view.read (Elt F) fs) w hw := by
    unfold rowsOf
    rw [table_read d i]
    exact congrArg _ (rows_congr (offs_read d i a p fi w) _ _)
  iapply (Transfers.Flight_mono EC (thr d i) (show iprop(((outSlot b p').view.loc (thr d i) ↦[(outSlot b p').view.set]{fullShare} ((outSlot b p').view.write (Elt F) fd
        (SparseCore.gatherPayload gathers_S50000x128_S128x128 ((table a2).view.read (Elt F) fs)
          (SparseCore.rows ((offs a p).view.read (Elt F) ((inSlot a p).view.write (Elt F) fi w Finset.univ)) rfl hin)) Finset.univ))
      ∗ ((table a2).view.loc (thr d i) ↦[(table a2).view.set]{q} fs)
      ∗ ((offs a p).view.loc (thr d i) ↦[(offs a p).view.set]{fullShare} ((inSlot a p).view.write (Elt F) fi w Finset.univ)))
      ⊢ iprop(ptsW d i (outSlot b p') (rowsOf (a2.view.read (Elt F) fs) w hw) ∗ pts d i (table a2) q fs ∗ ptsE d i (inSlot a p)) from by
    rw [hrow, offs_set]
    iintro ⟨Hd, Hs, Ho⟩
    isplitl [Hd]; · iexists fd; iexact Hd
    isplitl [Hs]; · iexact Hs
    iexists _; iexact Ho)) $$ Hf

/-- The indirect gather: the rows that the slot's words name, into a slot of the row buffer. -/
theorem wp_gather (a2 : Memref sig .scVector .hbm S50000x128 .f32) (a : Memref sig .scVector .vmem S2x1x128 .i32) (b : Memref sig .scVector .vmem S2x128x128 .f32)
    (p p' : Fin 2) {sm : DmaSem sig} {hsrc : (table a2).view.WordExact} {hr : S50000x128.StreamRows 0}
    {Q : PUnit → sProp 𝕄} {q : PosShare TreeShare} {fs : Buf (Elt F) (a2.view.loc (thr d i))}
    (w : S1x128.Idx → Elt F .i32) (hw : ∀ x, (w x).toNat < 50000) :
    iprop(pts d i (table a2) q fs ∗ ptsE d i (outSlot b p') ∗ ptsW d i (inSlot a p) w ∗ sem0 d i sm)
      ⊢ iprop((fly EC d i ι S128x128 .f32 sm iprop(ptsW d i (outSlot b p') (rowsOf (a2.view.read (Elt F) fs) w hw) ∗ pts d i (table a2) q fs ∗ ptsE d i (inSlot a p))
              -∗ Q ⟨⟩)
          -∗ wp frame (wpE defs 𝒱 (thr d i) bd) Set.univ (SparseCore.enqueueIndirectGather (p := (thr d i).2) rfl (table a2) (outSlot b p') gathers_S50000x128_S128x128 (offs a p) rfl sm hsrc rfl (Or.inl rfl) hr) Q : sProp 𝕄) := by
  have h := wp_gather_bind EC 𝒱 bd d i ι a2 a b p p' (defs := defs) (sm := sm) (hsrc := hsrc) (hr := hr) (k := .ret) (Q := Q) (q := q) (fs := fs) w hw
  rw [show ∀ g : Prog (TpuEff nD τ sig (Elt F) Λ₀ (thr d i).2) PUnit, (g >>= Prog.ret) = g from bind_pure] at h
  refine h.trans ?_
  iintro H Hk
  iapply H
  iintro Hf
  rw [wp_ret]; imodintro
  iapply Hk; iexact Hf

/-! ## The steps at the program's offsets -/

section At
variable {Q : PUnit → sProp (MT nD τ sig Ix (Elt F) Name U Lvl)} (a2 : Memref sig .scVector .hbm S50000x128 .f32) (a3 : Memref sig .scVector .hbm S1x160000 .i32)
variable (a4 : Memref sig .scVector .hbm S160000x128 .f32) (ain : Memref sig .scVector .vmem S2x1x128 .i32) (aout : Memref sig .scVector .vmem S2x128x128 .f32)
variable (v : DmaSems sig S2)

/-- The copy of block `b` of the indices into slot `p`. -/
theorem step_fetch {o5 : Fin 2 → ℕ} {o4 : Fin 3 → ℕ} {o6 : Fin 1 → ℕ} (b : Fin 1250) (p : Fin 2) (h5 : o5 = ![0, 128 * b.val]) (h4 : o4 = ![p.val, 0, 0])
    (h6 : o6 = ![p.val]) {i5 : ∀ x, o5 x + S1x128.size x ≤ S1x160000.size x} {i4 : ∀ x, o4 x + S1x1x128.size x ≤ S2x1x128.size x} {i6 : ∀ x, o6 x + S1.size x ≤ S2.size x}
    {hsrc : (a3.slice (Rect.unit (s := S1x160000) o5 S1x128.size i5) (fun _ => rfl)).view.WordExact}
    {hdst : ((ain.slice (Rect.unit (s := S2x1x128) o4 S1x1x128.size i4) (fun _ => rfl)).squeeze S1x128 squeezes_S1x1x128_S1x128).view.WordExact} {hsem}
    {q : PosShare TreeShare} {fs : Buf (Elt F) ((idxBlk a3 b).view.loc (thr d i))} :
    iprop(pts d i (idxBlk a3 b) q fs ∗ ptsE d i (inSlot ain p) ∗ sem0 d i (semAt v p))
      ⊢ iprop((fly EC d i ι S1x128 .i32 (semAt v p) iprop(ptsW d i (inSlot ain p) ((idxBlk a3 b).view.read (Elt F) fs) ∗ pts d i (idxBlk a3 b) q fs) -∗ Q ⟨⟩)
          -∗ wp frame (wpE defs 𝒱 (thr d i) bd) Set.univ
            (Prog.lift (TpuEff.enqueueDma (p := (thr d i).2) (a3.slice (Rect.unit (s := S1x160000) o5 S1x128.size i5) (fun _ => rfl))
              (.here ((ain.slice (Rect.unit (s := S2x1x128) o4 S1x1x128.size i4) (fun _ => rfl)).squeeze S1x128 squeezes_S1x1x128_S1x128))
              (.dma ((v.slice (Rect.unit (s := S2) o6 S1.size i6)).squeeze S_ squeezes_S1_S_).sem) hsrc hdst hsem)) Q : sProp 𝕄) := by
  subst h5 h4 h6
  exact wp_copy EC 𝒱 bd d i ι (by decide)

/-- The copy of slot `p` of the rows out to block `b` of the result. -/
theorem step_out {o13 : Fin 2 → ℕ} {o12 : Fin 3 → ℕ} {o14 : Fin 1 → ℕ} (b : Fin 1250) (p : Fin 2) (h13 : o13 = ![128 * b.val, 0]) (h12 : o12 = ![p.val, 0, 0])
    (h14 : o14 = ![p.val]) {i13 : ∀ x, o13 x + S128x128.size x ≤ S160000x128.size x} {i12 : ∀ x, o12 x + S1x128x128.size x ≤ S2x128x128.size x} {i14 : ∀ x, o14 x + S1.size x ≤ S2.size x}
    {hdst : (a4.slice (Rect.unit (s := S160000x128) o13 S128x128.size i13) (fun _ => rfl)).view.WordExact}
    {hsrc : ((aout.slice (Rect.unit (s := S2x128x128) o12 S1x128x128.size i12) (fun _ => rfl)).squeeze S128x128 squeezes_S1x128x128_S128x128).view.WordExact} {hsem}
    {w : S128x128.Idx → Elt F .f32} :
    iprop(ptsW d i (outSlot aout p) w ∗ ptsE d i (resBlk a4 b) ∗ sem0 d i (semAt v p))
      ⊢ iprop((fly EC d i ι S128x128 .f32 (semAt v p) iprop(ptsW d i (resBlk a4 b) w ∗ ptsE d i (outSlot aout p)) -∗ Q ⟨⟩)
          -∗ wp frame (wpE defs 𝒱 (thr d i) bd) Set.univ
            (Prog.lift (TpuEff.enqueueDma (p := (thr d i).2)
              ((aout.slice (Rect.unit (s := S2x128x128) o12 S1x128x128.size i12) (fun _ => rfl)).squeeze S128x128 squeezes_S1x128x128_S128x128)
              (.here (a4.slice (Rect.unit (s := S160000x128) o13 S128x128.size i13) (fun _ => rfl)))
              (.dma ((v.slice (Rect.unit (s := S2) o14 S1.size i14)).squeeze S_ squeezes_S1_S_).sem) hsrc hdst hsem)) Q : sProp 𝕄) := by
  subst h13 h12 h14
  exact wp_copyOut EC 𝒱 bd d i ι (by decide)

/-- The wait on semaphore `p` of a pair. -/
theorem step_await {sp sp' : Space} {s s' : Shape} {e e' : EltTy} {src : Memref sig .scVector sp' s' e'} {dst : Memref sig .scVector sp s e}
    {o : Fin 1 → ℕ} (p : Fin 2) (h : o = ![p.val]) {inb : ∀ x, o x + S1.size x ≤ S2.size x}
    {hsrc : src.view.WordExact} {hdst : dst.view.WordExact} {D : sProp 𝕄} {O : CellTallies nD τ sig Ix} {W : Waits sig Ix} :
    iprop(fly EC d i ι s e (semAt v p) D ∗ owing d i ι O W ∗ Transfers.MayWaits (thr d i) ι O)
      ⊢ iprop((iprop(D ∗ sem0 d i (semAt v p) ∗ owing d i ι O W) -∗ Q ⟨⟩)
          -∗ wp frame (wpE defs 𝒱 (thr d i) bd) Set.univ
            (Prog.lift (TpuEff.waitDma2 (p := (thr d i).2) ((v.slice (Rect.unit (s := S2) o S1.size inb)).squeeze S_ squeezes_S1_S_).sem src dst hsrc hdst)) Q : sProp 𝕄) := by
  subst h
  exact wp_await EC 𝒱 bd d i ι

/-- The gather of the rows that slot `p` of the indices names into slot `p'` of the rows. -/
theorem step_gather {o10 o11 : Fin 3 → ℕ} (p p' : Fin 2) (h10 : o10 = ![p'.val, 0, 0]) (h11 : o11 = ![p.val, 0, 0])
    {i10 : ∀ x, o10 x + S1x128x128.size x ≤ S2x128x128.size x} {i11 : ∀ x, o11 x + S1x1x128.size x ≤ S2x1x128.size x}
    {sm : DmaSem sig} {hsrc : (table a2).view.WordExact} {hr : S50000x128.StreamRows 0} {q : PosShare TreeShare} {fs : Buf (Elt F) (a2.view.loc (thr d i))}
    (w : S1x128.Idx → Elt F .i32) (hw : ∀ x, (w x).toNat < 50000) :
    iprop(pts d i (table a2) q fs ∗ ptsE d i (outSlot aout p') ∗ ptsW d i (inSlot ain p) w ∗ sem0 d i sm)
      ⊢ iprop((fly EC d i ι S128x128 .f32 sm iprop(ptsW d i (outSlot aout p') (rowsOf (a2.view.read (Elt F) fs) w hw) ∗ pts d i (table a2) q fs ∗ ptsE d i (inSlot ain p)) -∗ Q ⟨⟩)
          -∗ wp frame (wpE defs 𝒱 (thr d i) bd) Set.univ
            (SparseCore.enqueueIndirectGather (p := (thr d i).2) rfl (table a2)
              ((aout.slice (Rect.unit (s := S2x128x128) o10 S1x128x128.size i10) (fun _ => rfl)).squeeze S128x128 squeezes_S1x128x128_S128x128)
              gathers_S50000x128_S128x128
              ((((ain.slice (Rect.unit (s := S2x1x128) o11 S1x1x128.size i11) (fun _ => rfl)).squeeze S1x128 squeezes_S1x1x128_S1x128).slice
                (Rect.unit (s := S1x128) ![0, 0] S1x128.size inb_S1x128_S1x128_0_0) (fun _ => rfl)).squeeze S128 squeezes_S1x128_S128)
              rfl sm hsrc rfl (Or.inl rfl) hr) Q : sProp 𝕄) := by
  subst h10 h11
  exact wp_gather EC 𝒱 bd d i ι a2 ain aout p p' w hw

end At

end Cert.Proof.Steps

end
-- ==== Proof.Families.lean ====
/- Two families of resources over a tile's blocks, as the pipeline's trips move through them: the blocks of indices, of which one is
   out with the copy in flight, and the blocks of the result, of which those written are told from those not yet. -/
module

public import Idealize.ShloMosaic.Lib.SparseCore.Cells
public import Idealize.ShloMosaic.Lib.Tactic

@[expose] public section

noncomputable section

namespace Cert.Proof.Families

open Idealize.SL Idealize.SL.RA Idealize.SL.BI
open scoped Idealize.SL.BI
open Idealize.SL.BI.BIBase Idealize.SL.BI.Laws Idealize.SL.ProofMode
open Idealize.ShloMosaic Finset

variable {M : Type} [URA M] (n : ℕ)

/-- All of a family but the member at `k`. -/
def without (Φ : ℕ → sProp M) (k j : ℕ) : sProp M := if j = k then iprop(emp) else Φ j

/-- Before trip `k`: the members written, those to be written, and nothing for the one in flight. -/
def written (A B : ℕ → sProp M) (k j : ℕ) : sProp M := if j + 1 = k then iprop(emp) else if j < k then A j else B j

variable {n} {Φ A B : ℕ → sProp M} {k : ℕ}

theorem without_congr {s : Finset ℕ} (h : k ∉ s) : bigSep s (without Φ k) = bigSep s Φ :=
  bigSep_congr fun j hj => by
    unfold without; rw [if_neg]; rintro rfl; exact h hj

theorem without_start : bigSep (range n) Φ ⊢ iprop(bigSep (range n) (without Φ n)) := by
  rw [without_congr (by simp)]

theorem without_end : iprop(bigSep (range n) (without Φ n)) ⊢ bigSep (range n) Φ := by
  rw [without_congr (by simp)]

theorem without_first (h : 0 < n) : bigSep (range n) Φ ⊢ iprop(Φ 0 ∗ bigSep (range n) (without Φ 0)) := by
  rw [SparseCore.bigSep_erase' (mem_range.2 h) (Φ := Φ), SparseCore.bigSep_erase' (mem_range.2 h) (Φ := without Φ 0), without_congr (by simp)]
  iintro ⟨H, H'⟩
  isplitl [H]; · iexact H
  isplitr; · unfold without; rw [if_pos rfl]; iempintro
  iexact H'

/-- The next member taken. -/
theorem without_take (h : k + 1 < n) :
    iprop(bigSep (range n) (without Φ k)) ⊢ iprop(Φ (k + 1) ∗ bigSep (((range n).erase k).erase (k + 1)) Φ) := by
  rw [SparseCore.bigSep_erase' (mem_range.2 (by omega : k < n)) (Φ := without Φ k), without_congr (by simp),
    SparseCore.bigSep_erase' (s := (range n).erase k) (i := k + 1) (by simp; omega)]
  iintro ⟨-, H⟩
  iexact H

/-- The member that was out put back, the next one left out. -/
theorem without_put (h : k + 1 < n) :
    iprop(Φ k ∗ bigSep (((range n).erase k).erase (k + 1)) Φ) ⊢ iprop(bigSep (range n) (without Φ (k + 1))) := by
  rw [SparseCore.bigSep_erase' (s := range n) (i := k + 1) (by simp; omega) (Φ := without Φ (k + 1)), without_congr (by simp),
    SparseCore.bigSep_erase' (s := (range n).erase (k + 1)) (i := k) (by simp; omega), erase_right_comm]
  iintro ⟨H, H'⟩
  isplitr; · unfold without; rw [if_pos rfl]; iempintro
  isplitl [H] <;> iassumption

/-- The last member put back. -/
theorem without_last (h : k + 1 = n) :
    iprop(Φ k ∗ bigSep (range n) (without Φ k)) ⊢ iprop(bigSep (range n) (without Φ (k + 1))) := by
  rw [SparseCore.bigSep_erase' (s := range n) (i := k) (by simp; omega) (Φ := without Φ k), without_congr (by simp),
    without_congr (k := k + 1) (by simp; omega), SparseCore.bigSep_erase' (s := range n) (i := k) (by simp; omega) (Φ := Φ)]
  iintro ⟨H, -, H'⟩
  isplitl [H] <;> iassumption

theorem written_start : bigSep (range n) B ⊢ iprop(bigSep (range n) (written A B 0)) := by
  rw [bigSep_congr (Ψ := written A B 0) (Φ := B) fun j _ => by simp [written]]

/-- The member at `k`, to be written. -/
theorem written_take (h : k < n) :
    iprop(bigSep (range n) (written A B k)) ⊢ iprop(B k ∗ bigSep ((range n).erase k) (written A B k)) := by
  rw [SparseCore.bigSep_erase' (mem_range.2 h) (Φ := written A B k),
    show written A B k k = B k by unfold written; rw [if_neg (by omega), if_neg (by omega)]]

/-- The member at `k` in flight, the one before it written. -/
theorem written_put (h : k < n) (h0 : 0 < k) :
    iprop(A (k - 1) ∗ bigSep ((range n).erase k) (written A B k)) ⊢ iprop(bigSep (range n) (written A B (k + 1))) := by
  rw [SparseCore.bigSep_erase' (mem_range.2 h) (Φ := written A B (k + 1)),
    SparseCore.bigSep_erase' (s := (range n).erase k) (i := k - 1) (by simp; omega) (Φ := written A B k),
    SparseCore.bigSep_erase' (s := (range n).erase k) (i := k - 1) (by simp; omega) (Φ := written A B (k + 1)),
    bigSep_congr (Φ := written A B (k + 1)) (Ψ := written A B k) (s := ((range n).erase k).erase (k - 1)) fun j hj => by
      simp at hj
      unfold written
      rw [if_neg (by omega), if_neg (c := j + 1 = k) (by omega)]
      by_cases hk : j < k
      · rw [if_pos (by omega), if_pos hk]
      · rw [if_neg (by omega), if_neg hk],
    show written A B (k + 1) (k - 1) = A (k - 1) by unfold written; rw [if_neg (by omega), if_pos (by omega)]]
  iintro ⟨H, -, H'⟩
  isplitr; · unfold written; rw [if_pos rfl]; iempintro
  isplitl [H] <;> iassumption

theorem written_put0 (h : 0 < n) :
    iprop(bigSep ((range n).erase 0) (written A B 0)) ⊢ iprop(bigSep (range n) (written A B 1)) := by
  rw [SparseCore.bigSep_erase' (mem_range.2 h) (Φ := written A B 1),
    bigSep_congr (Φ := written A B 1) (Ψ := written A B 0) (s := (range n).erase 0) fun j hj => by
      simp at hj
      unfold written
      rw [if_neg (by omega), if_neg (by omega), if_neg (by omega), if_neg (by omega)]]
  iintro H
  isplitr; · unfold written; rw [if_pos rfl]; iempintro
  iexact H

/-- All written. -/
theorem written_end (h : 0 < n) :
    iprop(A (n - 1) ∗ bigSep (range n) (written A B n)) ⊢ bigSep (range n) A := by
  rw [SparseCore.bigSep_erase' (s := range n) (i := n - 1) (by simp; omega) (Φ := written A B n),
    SparseCore.bigSep_erase' (s := range n) (i := n - 1) (by simp; omega) (Φ := A),
    bigSep_congr (Φ := written A B n) (Ψ := A) (s := (range n).erase (n - 1)) fun j hj => by
      simp at hj
      unfold written
      rw [if_neg (by omega), if_pos (by omega)]]
  iintro ⟨H, -, H'⟩
  isplitl [H] <;> iassumption

end Cert.Proof.Families

end
-- ==== Proof.Body.lean ====
/- The gather kernel on one tile: every block of the result that is the tile's comes out as the rows that its block of indices
   names. Two slots for indices and two for rows; before trip `k` the indices of block `k` are on their way in and the rows of
   block `k − 1` on their way out. -/
module

public import proofs.«01_k».proof.Proof.Words
public import proofs.«01_k».proof.Proof.Steps
public import proofs.«01_k».proof.Proof.Families

@[expose] public section

noncomputable section

namespace Cert.Proof.Body

open Cert.KernelIdeal Cert.KernelIdeal.Gen
open Cert.Proof.Words Cert.Proof.Steps Cert.Proof.Families

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] {Ix : Type} [DecidableEq Ix] {Name : Type} [DecidableEq Name] [Infinite Name]
variable {U : Type} [URA U] {Lvl : Type} [Preorder Lvl]
variable {defs : Defs nD τ sig (Elt F) Λ₀} (EC : UEmb Counters (MT nD τ sig Ix (Elt F) Name U Lvl)) [EC.LandsIn (upEmb : UEmb _ (MT nD τ sig Ix (Elt F) Name U Lvl))]
variable (𝒱 : Variants) (bd : Option 𝒱.V)

local notation "𝕄" => MT nD τ sig Ix (Elt F) Name U Lvl

variable (d : Dev nD) (i : grid0.Coords) (ι : Ix)

/-! ## What a trip is entered with -/

/-- The slot of block `k`. -/
def slot (k : ℕ) : Fin 2 := ⟨k % 2, Nat.mod_lt _ (by decide)⟩
/-- The tile's block `j`, among the 1250. -/
def blk (i : grid0.Coords) (j : ℕ) : Fin 1250 := ⟨(st i + j) % 1250, Nat.mod_lt _ (by decide)⟩

theorem blk_val {j : ℕ} (h : j < cnt i) : (blk i j).val = st i + j :=
  Nat.mod_eq_of_lt (by have := st_add_cnt i; omega)
theorem slot_add_two (k : ℕ) : slot (k + 1 + 1) = slot k := Fin.ext (by show (k + 1 + 1) % 2 = k % 2; omega)
theorem slot_pred {k : ℕ} (h : 0 < k) : slot (k - 1) = slot (k + 1) := Fin.ext (by show (k - 1) % 2 = (k + 1) % 2; omega)

/-- The operands of the kernel, the tile's scratch, and what the table and the indices hold. -/
structure Ops (F : FTy → Type) (d : Dev nD) (i : grid0.Coords) where
  a2 : Memref sig .scVector .hbm S50000x128 .f32
  a3 : Memref sig .scVector .hbm S1x160000 .i32
  a4 : Memref sig .scVector .hbm S160000x128 .f32
  ain : Memref sig .scVector .vmem S2x1x128 .i32
  aout : Memref sig .scVector .vmem S2x128x128 .f32
  vin : DmaSems sig S2
  vout : DmaSems sig S2
  vg : DmaSems sig S_
  vg' : DmaSems sig S_
  ft : Buf (Elt F) (a2.view.loc (thr d i))
  fi : Buf (Elt F) (a3.view.loc (thr d i))
  q : PosShare TreeShare
  /-- Every index names a row of the table. -/
  hidx : ∀ (b : Fin 1250) (x : S1x128.Idx), ((idxBlk a3 b).view.read (Elt F) fi x).toNat < 50000

variable (V : Ops F d i)

/-- The words of block `j` of the indices. -/
abbrev Ops.w (j : ℕ) : S1x128.Idx → Elt F .i32 := (idxBlk V.a3 (blk i j)).view.read (Elt F) V.fi
/-- The rows they name. -/
abbrev Ops.rows (j : ℕ) : S128x128.Idx → Elt F .f32 := rowsOf (V.a2.view.read (Elt F) V.ft) (V.w d i j) (V.hidx _)
/-- Block `j` of the indices. -/
abbrev Ops.idx (j : ℕ) : sProp 𝕄 := pts d i (idxBlk V.a3 (blk i j)) fullShare V.fi
/-- Block `j` of the result, not yet written. -/
abbrev Ops.todo (j : ℕ) : sProp 𝕄 := ptsE d i (resBlk V.a4 (blk i j))
/-- Block `j` of the result, written. -/
abbrev Ops.done (j : ℕ) : sProp 𝕄 := ptsW d i (resBlk V.a4 (blk i j)) (V.rows d i j)
/-- A slot of the indices and its semaphore, with nothing on the way. -/
abbrev Ops.inFree (p : Fin 2) : sProp 𝕄 := iprop(ptsE d i (inSlot V.ain p) ∗ sem0 d i (semAt V.vin p))
/-- The same of the rows. -/
abbrev Ops.outFree (p : Fin 2) : sProp 𝕄 := iprop(ptsE d i (outSlot V.aout p) ∗ sem0 d i (semAt V.vout p))
/-- Block `k`'s indices on their way in. -/
abbrev Ops.inFly (k : ℕ) : sProp 𝕄 :=
  fly EC d i ι S1x128 .i32 (semAt V.vin (slot k)) iprop(ptsW d i (inSlot V.ain (slot k)) (V.w d i k) ∗ V.idx d i k)
/-- Block `k`'s rows on their way out. -/
abbrev Ops.outFly (k : ℕ) : sProp 𝕄 :=
  fly EC d i ι S128x128 .f32 (semAt V.vout (slot k)) iprop(V.done d i k ∗ ptsE d i (outSlot V.aout (slot k)))
/-- The slot of the indices that block `k` comes to: on its way while there is a block `k`. -/
def Ops.inRes (k : ℕ) : sProp 𝕄 := if k < cnt i then V.inFly EC d i ι k else V.inFree d i (slot k)
/-- The other slot of the rows: block `k − 1` on its way out of it once there is one. -/
def Ops.outRes (k : ℕ) : sProp 𝕄 := if 0 < k then V.outFly EC d i ι (k - 1) else V.outFree d i (slot (k + 1))

/-- What trip `k` is entered with. -/
def Inv (O : CellTallies nD τ sig Ix) (W : Waits sig Ix) (k : ℕ) : sProp 𝕄 :=
  iprop(bigSep (Finset.range (cnt i)) (without (V.idx d i) k) ∗ bigSep (Finset.range (cnt i)) (written (V.done d i) (V.todo d i) k)
    ∗ V.inRes EC d i ι k ∗ V.inFree d i (slot (k + 1)) ∗ V.outRes EC d i ι k ∗ V.outFree d i (slot k)
    ∗ pts d i (table V.a2) V.q V.ft ∗ sem0 d i V.vg.sem ∗ owing d i ι O W ∗ Transfers.MayWaits (thr d i) ι O)

/-- A step taken under a condition, run to `B` whether it is taken or not, then on from it. -/
theorem wp_opt {α : Type} {c : Prop} [Decidable c] {e : c → Prog (TpuEff nD τ sig (Elt F) Λ₀ (thr d i).2) PUnit} {rest : Prog (TpuEff nD τ sig (Elt F) Λ₀ (thr d i).2) α}
    {A B : sProp 𝕄} {Q : α → sProp 𝕄}
    (ht : ∀ h : c, A ⊢ wp frame (wpE defs 𝒱 (thr d i) bd) Set.univ (e h) fun _ => B) (hf : ¬ c → A ⊢ B) :
    A ⊢ iprop((B -∗ wp frame (wpE defs 𝒱 (thr d i) bd) Set.univ rest Q)
      -∗ wp frame (wpE defs 𝒱 (thr d i) bd) Set.univ (if h : c then e h >>= fun _ => rest else rest) Q) := by
  by_cases h : c
  · rw [dif_pos h, wp_bind]
    refine (ht h).trans ?_
    iintro H Hk
    iapply (wp_wand _ _ _) $$ H
    iintro %a HB
    iapply Hk; iexact HB
  · rw [dif_neg h]
    refine (hf h).trans ?_
    iintro H Hk
    iapply Hk; iexact H

theorem wp_value {α : Type} {a : α} {Q : α → sProp 𝕄} :
    Q a ⊢ (wp frame (wpE defs 𝒱 (thr d i) bd) Set.univ (pure a : Prog (TpuEff nD τ sig (Elt F) Λ₀ (thr d i).2) α) Q : sProp 𝕄) := by
  show Q a ⊢ iprop(|={Set.univ}=> Q a)
  iintro H; imodintro; iexact H

/-- The indices of the block after `k`, once sent for. -/
def Ops.mid (k : ℕ) : sProp 𝕄 :=
  if k + 1 < cnt i then iprop(bigSep (((Finset.range (cnt i)).erase k).erase (k + 1)) (V.idx d i) ∗ V.inFly EC d i ι (k + 1))
  else iprop(bigSep (Finset.range (cnt i)) (without (V.idx d i) k) ∗ V.inFree d i (slot (k + 1)))

theorem mid_next {k : ℕ} (h : k < cnt i) :
    iprop(V.mid EC d i ι k ∗ V.idx d i k) ⊢ iprop(bigSep (Finset.range (cnt i)) (without (V.idx d i) (k + 1)) ∗ V.inRes EC d i ι (k + 1)) := by
  unfold Ops.mid Ops.inRes
  by_cases hk : k + 1 < cnt i
  · rw [if_pos hk, if_pos hk]
    iintro ⟨⟨Hr, Hf⟩, Hi⟩
    isplitl [Hr Hi]
    · iapply (without_put hk); isplitl [Hi] <;> iassumption
    · iexact Hf
  · rw [if_neg hk, if_neg hk]
    iintro ⟨⟨Hr, Hf⟩, Hi⟩
    isplitl [Hr Hi]
    · iapply (without_last (by omega : k + 1 = cnt i)); isplitl [Hi] <;> iassumption
    · iexact Hf

set_option maxHeartbeats 1000000 in
theorem trip (h2 : V.a2.IsWhole) (h3 : V.a3.IsWhole) (h4 : V.a4.IsWhole) (hin : V.ain.IsWhole) (hout : V.aout.IsWhole) (h1 : k0_cond1 i = 1#1)
    (O : CellTallies nD τ sig Ix) (W : Waits sig Ix) (t : Fin (k0_t1_loop i).trips) (x y z : BitVec 32) :
    Inv EC d i ι V O W t.val
      ⊢ (wp frame (wpE defs 𝒱 (thr d i) bd) Set.univ
          (k0_t1_body i V.a2 h2 V.a3 h3 V.a4 h4 V.ain hin V.vin V.aout hout V.vout V.vg V.vg' (v5 i) (v10 i) x h1 y 0#32 0#32 0#32 0#32 0#32 z t
            (w6 (cnt i) t, w7 t, w7 t, w9 t, w10 (cnt i) t))
          fun acc => iprop(⌜acc = words i (t.val + 1)⌝ ∗ Inv EC d i ι V O W (t.val + 1)) : sProp 𝕄) := by
  unfold k0_t1_body
  rw [k0_part1_eq_skeleton, k0_part2_eq_skeleton]
  unfold k0_part1_skel k0_part2_skel
  simp only [ite_self, dif_pos (cond4 i t), dif_pos (cond7 i t)]
  simp only [wp_bind]
  have ht := trip_lt t
  have hb := blk_val i ht
  unfold Inv
  rw [show V.inRes EC d i ι t.val = V.inFly EC d i ι t.val from if_pos ht]
  iintro ⟨Hidx, Hres, Hin, Hin', Hout', ⟨Hout, Hso⟩, Ht, Hg, HO, #Hm⟩
  iapply (wp_check 𝒱 bd d i (chk3 i t))
  iapply (wp_check 𝒱 bd d i (chk2 i t))
  iapply (wp_check 𝒱 bd d i (chk1 i t))
  -- the next block's indices sent for
  iapply (wp_opt 𝒱 bd d i (A := iprop(bigSep (Finset.range (cnt i)) (without (V.idx d i) t.val) ∗ V.inFree d i (slot (t.val + 1)))) (B := V.mid EC d i ι t.val)
    (fun h => ?_) (fun h => ?_)) $$ [Hidx Hin']
  rotate_left
  rotate_left
  · isplitl [Hidx] <;> iassumption
  · iintro Hmid
    iapply (wp_value 𝒱 bd d i)
    dsimp only
    -- block `t`'s indices are in
    iapply (step_await EC 𝒱 bd d i ι V.vin (slot t.val) (off9 i t)) $$ [Hin HO]
    · isplitl [Hin]; · iexact Hin
      isplitl [HO]; · iexact HO
      iexact Hm
    iintro ⟨⟨Hw, Hidx⟩, Hsi, HO⟩
    -- the rows they name gathered
    iapply (step_gather EC 𝒱 bd d i ι V.a2 V.ain V.aout (slot t.val) (slot t.val) (off10 i t) (off11 i t) (V.w d i t.val) (V.hidx _)) $$ [Ht Hout Hw Hg]
    · isplitl [Ht]; · iexact Ht
      isplitl [Hout]; · iexact Hout
      isplitl [Hw]; · iexact Hw
      iexact Hg
    iintro Hf
    iapply (wp_await EC 𝒱 bd d i ι) $$ [Hf HO]
    · isplitl [Hf]; · iexact Hf
      isplitl [HO]; · iexact HO
      iexact Hm
    iintro ⟨⟨Hrows, Ht, Hw⟩, Hg, HO⟩
    iapply (wp_value 𝒱 bd d i)
    -- the rows sent out to their block
    ihave Hres' := (written_take ht) $$ Hres
    icases Hres' with ⟨Htodo, Hres⟩
    iapply (step_out EC 𝒱 bd d i ι V.a4 V.aout V.vout (blk i t.val) (slot t.val) ((off13 i t).trans (by rw [hb])) (off12 i t) (off14 i t)
      (w := V.rows d i t.val)) $$ [Hrows Htodo Hso]
    · isplitl [Hrows]; · iexact Hrows
      isplitl [Htodo]; · iexact Htodo
      iexact Hso
    iintro Hfo
    -- the rows of the block before are out
    iapply (wp_opt 𝒱 bd d i (A := iprop(V.outRes EC d i ι t.val ∗ owing d i ι O W ∗ bigSep ((Finset.range (cnt i)).erase t.val) (written (V.done d i) (V.todo d i) t.val)
        ∗ Transfers.MayWaits (thr d i) ι O))
      (B := iprop(V.outFree d i (slot (t.val + 1)) ∗ owing d i ι O W ∗ bigSep (Finset.range (cnt i)) (written (V.done d i) (V.todo d i) (t.val + 1))))
      (fun h => ?_) (fun h => ?_)) $$ [Hout' HO Hres]
    rotate_left
    rotate_left
    · isplitl [Hout']; · iexact Hout'
      isplitl [HO]; · iexact HO
      isplitl [Hres]; · iexact Hres
      iexact Hm
    · iintro ⟨Hfree, HO, Hres⟩
      iapply (wp_value 𝒱 bd d i)
      isplitr
      · ipureintro; exact next_eq i t
      ihave Hn := (mid_next EC d i ι V ht) $$ [Hmid Hidx]
      · isplitl [Hmid] <;> iassumption
      icases Hn with ⟨Hidx, Hin⟩
      isplitl [Hidx]; · iexact Hidx
      isplitl [Hres]; · iexact Hres
      isplitl [Hin]; · iexact Hin
      isplitl [Hw Hsi]
      · rw [slot_add_two]
        isplitl [Hw]; · iexact Hw
        iexact Hsi
      isplitl [Hfo]
      · rw [show V.outRes EC d i ι (t.val + 1) = V.outFly EC d i ι t.val from if_pos (Nat.succ_pos _)]
        iexact Hfo
      isplitl [Hfree]; · iexact Hfree
      isplitl [Ht]; · iexact Ht
      isplitl [Hg]; · iexact Hg
      isplitl [HO]; · iexact HO
      iexact Hm
    · have h0 : 0 < t.val := (cond9 i t).1 h
      rw [show V.outRes EC d i ι t.val = V.outFly EC d i ι (t.val - 1) from if_pos h0]
      iintro ⟨Hf, HO, Hres, #Hm⟩
      iapply (step_await EC 𝒱 bd d i ι V.vout (slot (t.val - 1)) (off17 i t)) $$ [Hf HO]
      · isplitl [Hf]; · iexact Hf
        isplitl [HO]; · iexact HO
        iexact Hm
      iintro ⟨⟨Hd, Ho⟩, Hs, HO⟩
      rw [← slot_pred h0]
      isplitl [Ho Hs]; · isplitl [Ho] <;> iassumption
      isplitl [HO]; · iexact HO
      iapply (written_put ht h0); isplitl [Hd] <;> iassumption
    · have h0 : t.val = 0 := by
        by_contra hc
        exact h ((cond9 i t).2 (Nat.pos_of_ne_zero hc))
      rw [show V.outRes EC d i ι t.val = V.outFree d i (slot (t.val + 1)) from if_neg (by omega), h0]
      iintro ⟨Hf, HO, Hres, -⟩
      isplitl [Hf]; · iexact Hf
      isplitl [HO]; · iexact HO
      iapply (written_put0 (cnt_pos i)); iexact Hres
  · have hk : t.val + 1 < cnt i := (cond3 i t).1 h
    rw [show V.mid EC d i ι t.val = _ from if_pos hk]
    iintro ⟨Hidx, Hs, Hv⟩
    ihave Hn := (without_take hk) $$ Hidx
    icases Hn with ⟨Hi, Hidx⟩
    iapply (step_fetch EC 𝒱 bd d i ι V.a3 V.ain V.vin (blk i (t.val + 1)) (slot (t.val + 1)) ((off5 i t hk).trans (by rw [blk_val i hk])) (off4 i t hk) (off6 i t hk)) $$ [Hi Hs Hv]
    · isplitl [Hi]; · iexact Hi
      isplitl [Hs] <;> iassumption
    iintro Hf
    isplitl [Hidx] <;> iassumption
  · have hk : ¬ t.val + 1 < cnt i := fun hk => h ((cond3 i t).2 hk)
    rw [show V.mid EC d i ι t.val = _ from if_neg hk]

/-! ## The whole kernel on a tile -/

/-- Two slots named by consecutive numbers are the two slots. -/
theorem both (P : Fin 2 → sProp 𝕄) (k : ℕ) : iprop(P (slot k) ∗ P (slot (k + 1))) ⊢ iprop(P 0 ∗ P 1) := by
  rcases Nat.mod_two_eq_zero_or_one k with h | h
  · rw [show slot k = 0 from Fin.ext h, show slot (k + 1) = 1 from Fin.ext (by show (k + 1) % 2 = 1; omega)]
  · rw [show slot k = 1 from Fin.ext h, show slot (k + 1) = 0 from Fin.ext (by show (k + 1) % 2 = 0; omega)]
    iintro ⟨H, H'⟩
    isplitl [H'] <;> iassumption

/-- The slots and semaphores of a tile, all free. -/
def Ops.free : sProp 𝕄 :=
  iprop((V.inFree d i 0 ∗ V.inFree d i 1) ∗ (V.outFree d i 0 ∗ V.outFree d i 1) ∗ sem0 d i V.vg.sem)

/-- What the loop starts from, once the first block's indices are sent for. -/
theorem enter (O : CellTallies nD τ sig Ix) (W : Waits sig Ix) :
    iprop(bigSep (Finset.range (cnt i)) (without (V.idx d i) 0) ∗ bigSep (Finset.range (cnt i)) (V.todo d i) ∗ V.inFly EC d i ι 0 ∗ V.inFree d i 1
      ∗ (V.outFree d i 0 ∗ V.outFree d i 1) ∗ pts d i (table V.a2) V.q V.ft ∗ sem0 d i V.vg.sem ∗ owing d i ι O W ∗ Transfers.MayWaits (thr d i) ι O)
    ⊢ Inv EC d i ι V O W 0 := by
  unfold Inv
  rw [show V.inRes EC d i ι 0 = V.inFly EC d i ι 0 from if_pos (cnt_pos i), show V.outRes EC d i ι 0 = V.outFree d i (slot 1) from if_neg (by omega)]
  iintro ⟨Hi, Hr, Hf, Hin, ⟨Ho0, Ho1⟩, Ht, Hg, HO, Hm⟩
  isplitl [Hi]; · iexact Hi
  isplitl [Hr]; · iapply written_start; iexact Hr
  isplitl [Hf]; · iexact Hf
  isplitl [Hin]; · iexact Hin
  isplitl [Ho1]; · iexact Ho1
  isplitl [Ho0]; · iexact Ho0
  isplitl [Ht]; · iexact Ht
  isplitl [Hg]; · iexact Hg
  isplitl [HO] <;> iassumption

/-- What the loop leaves: the last block on its way out, all else free. -/
theorem leave (O : CellTallies nD τ sig Ix) (W : Waits sig Ix) :
    Inv EC d i ι V O W (cnt i)
    ⊢ iprop(bigSep (Finset.range (cnt i)) (V.idx d i) ∗ bigSep (Finset.range (cnt i)) (written (V.done d i) (V.todo d i) (cnt i))
      ∗ (V.inFree d i 0 ∗ V.inFree d i 1) ∗ V.outFly EC d i ι (cnt i - 1) ∗ V.outFree d i (slot (cnt i)) ∗ pts d i (table V.a2) V.q V.ft ∗ sem0 d i V.vg.sem
      ∗ owing d i ι O W) := by
  unfold Inv
  rw [show V.inRes EC d i ι (cnt i) = V.inFree d i (slot (cnt i)) from if_neg (lt_irrefl _), show V.outRes EC d i ι (cnt i) = V.outFly EC d i ι (cnt i - 1) from if_pos (cnt_pos i)]
  iintro ⟨Hi, Hr, Hin, Hin', Hf, Ho, Ht, Hg, HO, -⟩
  isplitl [Hi]; · iapply without_end; iexact Hi
  isplitl [Hr]; · iexact Hr
  isplitl [Hin Hin']; · iapply (both (V.inFree d i) (cnt i)); isplitl [Hin] <;> iassumption
  isplitl [Hf]; · iexact Hf
  isplitl [Ho]; · iexact Ho
  isplitl [Ht]; · iexact Ht
  isplitl [Hg] <;> iassumption

/-- The last block's slot and the other one are the two slots. -/
theorem last_both (P : Fin 2 → sProp 𝕄) : iprop(P (slot (cnt i - 1)) ∗ P (slot (cnt i))) ⊢ iprop(P 0 ∗ P 1) := by
  have h := both P (cnt i - 1)
  rwa [Nat.sub_add_cancel (cnt_pos i)] at h

include EC in
set_option maxHeartbeats 1000000 in
/-- The tile's blocks of the result come out as the rows its blocks of indices name; all else is as it was. -/
theorem body (h2 : V.a2.IsWhole) (h3 : V.a3.IsWhole) (h4 : V.a4.IsWhole) (hin : V.ain.IsWhole) (hout : V.aout.IsWhole)
    (O : CellTallies nD τ sig Ix) (W : Waits sig Ix) :
    iprop(bigSep (Finset.range (cnt i)) (V.idx d i) ∗ bigSep (Finset.range (cnt i)) (V.todo d i) ∗ V.free d i ∗ pts d i (table V.a2) V.q V.ft
        ∗ owing d i ι O W ∗ Transfers.MayWaits (thr d i) ι O)
      ⊢ (wp frame (wpE defs 𝒱 (thr d i) bd) Set.univ
          (cc0_gather_kernel i V.a2 h2 V.a3 h3 V.a4 h4 V.ain hin V.vin V.aout hout V.vout V.vg V.vg')
          fun _ => iprop(bigSep (Finset.range (cnt i)) (V.idx d i) ∗ bigSep (Finset.range (cnt i)) (V.done d i) ∗ V.free d i ∗ pts d i (table V.a2) V.q V.ft
            ∗ owing d i ι O W) : sProp 𝕄) := by
  have h1 := cond1 i
  rw [cc0_gather_kernel_eq_skeleton]
  unfold cc0_gather_kernel_skel
  simp only [dif_pos h1]
  rw [k0_part5_eq_skeleton, k0_part6_eq_skeleton]
  unfold k0_part5_skel k0_part6_skel
  simp only [dif_pos (cond2 i), ite_self, dite_eq_ite, dif_pos (cond18 i)]
  simp only [wp_bind]
  unfold Ops.free
  iintro ⟨Hidx, Hres, ⟨⟨⟨Hi0, Hs0⟩, Hin1⟩, Hout, Hg⟩, Ht, HO, #Hm⟩
  ihave Hn := (without_first (cnt_pos i)) $$ Hidx
  icases Hn with ⟨Hb, Hidx⟩
  iapply (step_fetch EC 𝒱 bd d i ι V.a3 V.ain V.vin (blk i 0) 0 ((off2 i).trans (by rw [blk_val i (cnt_pos i)]; rfl)) off1 off3) $$ [Hb Hi0 Hs0]
  · isplitl [Hb]; · iexact Hb
    isplitl [Hi0] <;> iassumption
  iintro Hf
  iapply (wp_value 𝒱 bd d i)
  ihave HI := (enter EC d i ι V O W) $$ [Hidx Hres Hf Hin1 Hout Ht Hg HO]
  · isplitl [Hidx]; · iexact Hidx
    isplitl [Hres]; · iexact Hres
    isplitl [Hf]; · iexact Hf
    isplitl [Hin1]; · iexact Hin1
    isplitl [Hout]; · iexact Hout
    isplitl [Ht]; · iexact Ht
    isplitl [Hg]; · iexact Hg
    isplitl [HO]; · iexact HO
    iexact Hm
  iapply (Scf.wp_for frame (wpE defs 𝒱 (thr d i) bd) Set.univ _ _ _ _ _ _ (fun k acc => iprop(⌜acc = words i k⌝ ∗ Inv EC d i ι V O W k)) (fun t acc => ?_))
  rotate_left
  · isplitl [HI]
    · isplitr
      · ipureintro; exact start_eq i
      · iexact HI
    iintro %acc ⟨%hacc, HI⟩
    ihave HI' := (Entails.of_eq (show Inv EC d i ι V O W (k0_t1_loop i).trips = Inv EC d i ι V O W (cnt i) by rw [trips_eq])) $$ HI
    have hacc' : acc = words i (cnt i) := by rw [← trips_eq]; exact hacc
    iapply (Scf.wp_for frame (wpE defs 𝒱 (thr d i) bd) Set.univ _ _ _ _ _ _ (fun _ acc => iprop(⌜acc = words i (cnt i)⌝ ∗ Inv EC d i ι V O W (cnt i)))
      (fun t acc => absurd t.isLt (by have := trips2_eq i; unfold Scf.Loop.trips at this; omega)))
    isplitl [HI']
    · isplitr
      · ipureintro; exact hacc'
      · iexact HI'
    iintro %acc ⟨%hacc, HI⟩
    subst hacc
    unfold words
    beta_reduce
    iapply (wp_check 𝒱 bd d i (chk8 i))
    iapply (wp_check 𝒱 bd d i (chk7 i))
    ihave Hn := (leave EC d i ι V O W) $$ HI
    icases Hn with ⟨Hi, Hr, Hin, Hf, Ho, Ht, Hg, HO⟩
    iapply (step_await EC 𝒱 bd d i ι V.vout (slot (cnt i - 1)) (off34 i)) $$ [Hf HO]
    · isplitl [Hf]; · iexact Hf
      isplitl [HO]; · iexact HO
      iexact Hm
    iintro ⟨⟨Hd, Ho'⟩, Hs, HO⟩
    iapply (wp_value 𝒱 bd d i)
    iapply (wp_value 𝒱 bd d i)
    isplitl [Hi]; · iexact Hi
    isplitl [Hr Hd]; · iapply (written_end (cnt_pos i)); isplitl [Hd] <;> iassumption
    isplitr [Ht HO]
    · isplitl [Hin]; · iexact Hin
      isplitr [Hg]
      · iapply (last_both i (V.outFree d i))
        isplitr [Ho]
        · isplitl [Ho'] <;> iassumption
        · iexact Ho
      · iexact Hg
    isplitl [Ht] <;> iassumption
  · iintro ⟨%hacc, HI⟩
    subst hacc
    iapply (trip EC 𝒱 bd d i ι V h2 h3 h4 hin hout h1 O W t)
    iexact HI

end Cert.Proof.Body

end
-- ==== Proof.Split.lean ====
/- How a call's operands are dealt out to its 32 tiles and put together again: the indices and the result block by block, a tile's
   blocks one after the other; the table by shares; and a tile's scratch buffers into their two slots. -/
module

public import proofs.«01_k».proof.Proof.Body

@[expose] public section

noncomputable section

namespace Cert.Proof.Split

open Cert.KernelIdeal Cert.KernelIdeal.Gen
open Cert.Proof.Words Cert.Proof.Steps Cert.Proof.Families Cert.Proof.Body

open Idealize.ShloMosaic
open Idealize.SL Idealize.SL.RA Idealize.SL.BI
open scoped Idealize.SL.BI
open Idealize.SL.BI.BIBase Idealize.SL.BI.Laws Idealize.SL.ProofMode Idealize.SL.Sem

/-! ## Families over consecutive numbers -/

section Range
variable {M : Type} [URA M]

theorem range_add (a b : ℕ) (Φ : ℕ → sProp M) :
    bigSep (Finset.range (a + b)) Φ = iprop(bigSep (Finset.range a) Φ ∗ bigSep (Finset.range b) fun j => Φ (a + j)) := by
  rw [Finset.range_add, BI.bigSep_union (Finset.disjoint_range_addLeftEmbedding a _), BI.bigSep_map]
  rfl

/-- A family cut into consecutive stretches, the `t`-th of `c t` members from `s t` on. -/
theorem range_cut (c s : ℕ → ℕ) (h0 : s 0 = 0) (hs : ∀ t, s (t + 1) = s t + c t) (Φ : ℕ → sProp M) (n : ℕ) :
    bigSep (Finset.range (s n)) Φ = bigSep (Finset.range n) fun t => bigSep (Finset.range (c t)) fun j => Φ (s t + j) := by
  induction n with
  | zero => rw [h0]; rfl
  | succ n ih =>
    rw [hs, range_add, ih, range_add n 1, show Finset.range 1 = {0} from rfl, BI.bigSep_singleton]
    rfl

theorem range_fin (n : ℕ) (Φ : ℕ → sProp M) : bigSep (Finset.range n) Φ = bigSep Finset.univ fun i : Fin n => Φ i.val := by
  rw [← Nat.Iio_eq_range, ← Fin.map_valEmbedding_univ, BI.bigSep_map]; rfl

/-- A family over the tiles by number is one over the SparseCores and their tiles. -/
theorem tiles (Φ : ℕ → sProp M) :
    bigSep (Finset.range 32) Φ = bigSep Finset.univ fun c : Fin 2 => bigSep Finset.univ fun j : Fin 16 => Φ (tile (at' c j)) := by
  rw [show (32 : ℕ) = (fun t => 16 * t) 2 from rfl, range_cut (fun _ => 16) (fun t => 16 * t) rfl (fun t => by show 16 * (t + 1) = 16 * t + 16; omega), range_fin]
  refine bigSep_congr fun c _ => ?_
  rw [range_fin]
  refine bigSep_congr fun j _ => ?_
  show Φ (16 * c.val + j.val) = Φ (j.val + 16 * c.val)
  rw [Nat.add_comm]

/-- A family over the 1250 blocks is one over the tiles and their blocks. -/
theorem blocks (Φ : ℕ → sProp M) :
    bigSep (Finset.range 1250) Φ
      = bigSep Finset.univ fun c : Fin 2 => bigSep Finset.univ fun j : Fin 16 => bigSep (Finset.range (cnt (at' c j))) fun k => Φ (st (at' c j) + k) := by
  have h := range_cut (fun t => if t < 2 then 40 else 39) (fun t => if t < 2 then 40 * t else 39 * t + 2) rfl
    (fun t => by
      show (if t + 1 < 2 then 40 * (t + 1) else 39 * (t + 1) + 2) = (if t < 2 then 40 * t else 39 * t + 2) + (if t < 2 then 40 else 39)
      split <;> split <;> omega) Φ 32
  have h2 := tiles (fun t => bigSep (Finset.range (if t < 2 then 40 else 39)) fun k => Φ ((if t < 2 then 40 * t else 39 * t + 2) + k))
  exact h.trans h2

end Range

/-! ## A buffer by its blocks -/

variable {F : FTy → Type} [FloatOps F] {Ix : Type} [DecidableEq Ix] {Name : Type} [DecidableEq Name] [Infinite Name]
variable {U : Type} [URA U] {Lvl : Type} [Preorder Lvl]

local notation "𝕄" => MT nD τ sig Ix (Elt F) Name U Lvl

/-- Block number `n`, among the 1250. -/
abbrev bk (n : ℕ) : Fin 1250 := ⟨n % 1250, Nat.mod_lt _ (by decide)⟩

variable (d : Dev nD) (i : grid0.Coords)

theorem idxBlk_set (a : Memref sig .scVector .hbm S1x160000 .i32) (b : Fin 1250) :
    (idxBlk a b).view.set = (Rect.unit (s := S1x160000) ![0, 128 * b.val] S1x128.size (inb_idx b)).set.map a.view.emb := View.set_slice _ _
theorem resBlk_set (a : Memref sig .scVector .hbm S160000x128 .f32) (b : Fin 1250) :
    (resBlk a b).view.set = (Rect.unit (s := S160000x128) ![128 * b.val, 0] S128x128.size (inb_res b)).set.map a.view.emb := View.set_slice _ _
theorem inSlot_set (a : Memref sig .scVector .vmem S2x1x128 .i32) (p : Fin 2) :
    (inSlot a p).view.set = (Rect.unit (s := S2x1x128) ![p.val, 0, 0] S1x1x128.size (inb_in p)).set.map a.view.emb :=
  (View.set_reshape _ _).trans (View.set_slice _ _)
theorem outSlot_set (a : Memref sig .scVector .vmem S2x128x128 .f32) (p : Fin 2) :
    (outSlot a p).view.set = (Rect.unit (s := S2x128x128) ![p.val, 0, 0] S1x128x128.size (inb_out p)).set.map a.view.emb :=
  (View.set_reshape _ _).trans (View.set_slice _ _)

theorem idx_cover (a : Memref sig .scVector .hbm S1x160000 .i32) (h : a.IsWhole) :
    ((Finset.range 1250).biUnion (fun n => (idxBlk a (bk n)).view.set) : Finset a.view.ty.Idx) = Finset.univ := by
  rw [← h.set_eq_univ]
  ext y
  simp only [Finset.mem_biUnion, Finset.mem_range]
  constructor
  · rintro ⟨n, -, hn⟩; exact View.set_slice_subset _ _ hn
  · intro hy
    obtain ⟨x, -, rfl⟩ := Finset.mem_map.mp hy
    have hx : (x 1).val < 160000 := (x 1).isLt
    have hx0 : (x 0).val < 1 := (x 0).isLt
    refine ⟨(x 1).val / 128, by omega, ?_⟩
    rw [View.set_slice]
    refine Finset.mem_map_of_mem _ (Rect.mem_set_unit.mpr fun c => ?_)
    match c with
    | 0 => exact ⟨Nat.zero_le _, by show (x 0).val < 0 + 1; omega⟩
    | 1 =>
      show 128 * ((x 1).val / 128 % 1250) ≤ (x 1).val ∧ (x 1).val < 128 * ((x 1).val / 128 % 1250) + 128
      omega

theorem idx_disjoint (a : Memref sig .scVector .hbm S1x160000 .i32) :
    ∀ n ∈ Finset.range 1250, ∀ n' ∈ Finset.range 1250, n ≠ n' → Disjoint (idxBlk a (bk n)).view.set (idxBlk a (bk n')).view.set := by
  intro n hn n' hn' hne
  have hn := Finset.mem_range.mp hn
  have hn' := Finset.mem_range.mp hn'
  rw [idxBlk_set, idxBlk_set, Finset.disjoint_map]
  refine Rect.unit_disjoint 1 ?_
  show 128 * (n % 1250) + 128 ≤ 128 * (n' % 1250) ∨ 128 * (n' % 1250) + 128 ≤ 128 * (n % 1250)
  omega

theorem res_cover (a : Memref sig .scVector .hbm S160000x128 .f32) (h : a.IsWhole) :
    ((Finset.range 1250).biUnion (fun n => (resBlk a (bk n)).view.set) : Finset a.view.ty.Idx) = Finset.univ := by
  rw [← h.set_eq_univ]
  ext y
  simp only [Finset.mem_biUnion, Finset.mem_range]
  constructor
  · rintro ⟨n, -, hn⟩; exact View.set_slice_subset _ _ hn
  · intro hy
    obtain ⟨x, -, rfl⟩ := Finset.mem_map.mp hy
    have hx : (x 0).val < 160000 := (x 0).isLt
    have hx1 : (x 1).val < 128 := (x 1).isLt
    refine ⟨(x 0).val / 128, by omega, ?_⟩
    rw [View.set_slice]
    refine Finset.mem_map_of_mem _ (Rect.mem_set_unit.mpr fun c => ?_)
    match c with
    | 0 =>
      show 128 * ((x 0).val / 128 % 1250) ≤ (x 0).val ∧ (x 0).val < 128 * ((x 0).val / 128 % 1250) + 128
      omega
    | 1 => exact ⟨Nat.zero_le _, by show (x 1).val < 0 + 128; omega⟩

theorem res_disjoint (a : Memref sig .scVector .hbm S160000x128 .f32) :
    ∀ n ∈ Finset.range 1250, ∀ n' ∈ Finset.range 1250, n ≠ n' → Disjoint (resBlk a (bk n)).view.set (resBlk a (bk n')).view.set := by
  intro n hn n' hn' hne
  have hn := Finset.mem_range.mp hn
  have hn' := Finset.mem_range.mp hn'
  rw [resBlk_set, resBlk_set, Finset.disjoint_map]
  refine Rect.unit_disjoint 0 ?_
  show 128 * (n % 1250) + 128 ≤ 128 * (n' % 1250) ∨ 128 * (n' % 1250) + 128 ≤ 128 * (n % 1250)
  omega

/-- The indices, all of them, are the tiles' blocks of them. -/
theorem idx_split (a : Memref sig .scVector .hbm S1x160000 .i32) (h : a.IsWhole) (f : Buf (Elt F) (a.view.loc (thr d i))) :
    (a.view.loc (thr d i) ↦{fullShare} f : sProp 𝕄)
      = bigSep Finset.univ fun c : Fin 2 => bigSep Finset.univ fun j : Fin 16 =>
          bigSep (Finset.range (cnt (at' c j))) fun k => a.view.loc (thr d i) ↦[(idxBlk a (blk (at' c j) k)).view.set]{fullShare} f :=
  (show _ = _ by
    rw [← pointsTo_biUnion (Finset.range 1250) (ℓ := a.view.loc (thr d i)) (fun n => (idxBlk a (bk n)).view.set) (idx_disjoint a), idx_cover a h] :
      _ = bigSep (Finset.range 1250) fun n => (a.view.loc (thr d i) ↦[(idxBlk a (bk n)).view.set]{fullShare} f : sProp 𝕄)).trans (blocks _)

/-- The result, all of it, is the tiles' blocks of it. -/
theorem res_split (a : Memref sig .scVector .hbm S160000x128 .f32) (h : a.IsWhole) (f : Buf (Elt F) (a.view.loc (thr d i))) :
    (a.view.loc (thr d i) ↦{fullShare} f : sProp 𝕄)
      = bigSep Finset.univ fun c : Fin 2 => bigSep Finset.univ fun j : Fin 16 =>
          bigSep (Finset.range (cnt (at' c j))) fun k => a.view.loc (thr d i) ↦[(resBlk a (blk (at' c j) k)).view.set]{fullShare} f :=
  (show _ = _ by
    rw [← pointsTo_biUnion (Finset.range 1250) (ℓ := a.view.loc (thr d i)) (fun n => (resBlk a (bk n)).view.set) (res_disjoint a), res_cover a h] :
      _ = bigSep (Finset.range 1250) fun n => (a.view.loc (thr d i) ↦[(resBlk a (bk n)).view.set]{fullShare} f : sProp 𝕄)).trans (blocks _)

theorem table_set (a : Memref sig .scVector .hbm S50000x128 .f32) (h : a.IsWhole) : (table a).view.set = Finset.univ := by
  rw [← h.set_eq_univ]
  refine (View.set_slice _ _).trans (congrArg (Finset.map a.view.emb) (Finset.eq_univ_of_forall fun x => Rect.mem_set_unit.mpr fun c => ?_))
  have h0 : (x 0).val < 50000 := (x 0).isLt
  have h1 : (x 1).val < 128 := (x 1).isLt
  match c with
  | 0 => exact ⟨Nat.zero_le _, by show (x 0).val < 0 + 50000; omega⟩
  | 1 => exact ⟨Nat.zero_le _, by show (x 1).val < 0 + 128; omega⟩

/-- A tile's share of the table. -/
abbrev share (i : grid0.Coords) : PosShare TreeShare := Transfers.shareTokN fullShare (tile i)

/-- The table, all of it, is the tiles' shares of it and what is left of the share. -/
theorem table_split (a : Memref sig .scVector .hbm S50000x128 .f32) (f : Buf (Elt F) (a.view.loc (thr d i))) :
    (a.view.loc (thr d i) ↦{fullShare} f : sProp 𝕄)
      = iprop((a.view.loc (thr d i) ↦{Transfers.shareDrop fullShare 32} f)
        ∗ bigSep Finset.univ fun c : Fin 2 => bigSep Finset.univ fun j : Fin 16 => a.view.loc (thr d i) ↦{share (at' c j)} f) := by
  rw [BI.Entails.antisymm (Transfers.pointsTo_toks_range (ℓ := a.view.loc (thr d i)) (S := Finset.univ) (f := f) fullShare 32).1
    (Transfers.pointsTo_toks_range (ℓ := a.view.loc (thr d i)) (S := Finset.univ) (f := f) fullShare 32).2]
  rw [tiles (fun t => (a.view.loc (thr d i) ↦{Transfers.shareTokN fullShare t} f : sProp 𝕄))]

/-! ## A block written -/

/-- Contents that read as what was written. -/
theorem written_as {sp : Space} {s : Shape} {e : EltTy} (v : Memref sig .scVector sp s e) (w : s.Idx → Elt F e) (G : Buf (Elt F) (v.view.loc (thr d i)))
    (h : v.view.read (Elt F) G = w) : ptsW d i v w ⊢ (pts d i v fullShare G : sProp 𝕄) := by
  iintro ⟨%f, H⟩
  iapply (Entails.of_eq (pointsTo_congr (ℓ := v.view.loc (thr d i)) (fun y hy => ?_))) $$ H
  obtain ⟨x, -, rfl⟩ := Finset.mem_map.mp hy
  subst h
  rw [View.write_emb_of_mem _ _ (Finset.mem_univ _), View.read_apply, cast_cast, cast_eq]

/-! ## Scratch by its slots -/

theorem two_split {ℓ : Loc nD τ sig} {S A B : Finset (Idx ℓ)} (h : S = A ∪ B) (hd : Disjoint A B) :
    iprop(∃ f : Buf (Elt F) ℓ, ℓ ↦[S]{fullShare} f) ⊢ (iprop((∃ f : Buf (Elt F) ℓ, ℓ ↦[A]{fullShare} f) ∗ ∃ f : Buf (Elt F) ℓ, ℓ ↦[B]{fullShare} f) : sProp 𝕄) := by
  subst h
  iintro ⟨%f, H⟩
  ihave H' := (pointsTo_union (q := fullShare) (f := f) hd).1 $$ H
  icases H' with ⟨HA, HB⟩
  isplitl [HA]; · iexists f; iexact HA
  iexists f; iexact HB

theorem two_join {ℓ : Loc nD τ sig} {S A B : Finset (Idx ℓ)} (h : S = A ∪ B) (hd : Disjoint A B) :
    (iprop((∃ f : Buf (Elt F) ℓ, ℓ ↦[A]{fullShare} f) ∗ ∃ f : Buf (Elt F) ℓ, ℓ ↦[B]{fullShare} f) : sProp 𝕄) ⊢ iprop(∃ f : Buf (Elt F) ℓ, ℓ ↦[S]{fullShare} f) := by
  subst h
  iintro ⟨⟨%f, HA⟩, %g, HB⟩
  iexists _
  iapply (pointsTo_join (q := fullShare) (f := f) (g := g) hd)
  isplitl [HA] <;> iassumption

theorem in_union (a : Memref sig .scVector .vmem S2x1x128 .i32) : a.view.set = (inSlot a 0).view.set ∪ (inSlot a 1).view.set := by
  rw [inSlot_set, inSlot_set, ← Finset.map_union]
  refine congrArg (Finset.map a.view.emb) (Finset.eq_univ_of_forall fun x => Finset.mem_union.mpr ?_).symm
  rw [Rect.mem_set_unit, Rect.mem_set_unit]
  have h0 : (x 0).val < 2 := (x 0).isLt
  have h1 : (x 1).val < 1 := (x 1).isLt
  have h2 : (x 2).val < 128 := (x 2).isLt
  by_cases h : (x 0).val = 0
  · left; intro c
    match c with
    | 0 => exact ⟨Nat.zero_le _, by show (x 0).val < 0 + 1; omega⟩
    | 1 => exact ⟨Nat.zero_le _, by show (x 1).val < 0 + 1; omega⟩
    | 2 => exact ⟨Nat.zero_le _, by show (x 2).val < 0 + 128; omega⟩
  · right; intro c
    match c with
    | 0 => exact ⟨by show 1 ≤ (x 0).val; omega, by show (x 0).val < 1 + 1; omega⟩
    | 1 => exact ⟨Nat.zero_le _, by show (x 1).val < 0 + 1; omega⟩
    | 2 => exact ⟨Nat.zero_le _, by show (x 2).val < 0 + 128; omega⟩

theorem in_disjoint (a : Memref sig .scVector .vmem S2x1x128 .i32) : Disjoint (inSlot a 0).view.set (inSlot a 1).view.set := by
  rw [inSlot_set, inSlot_set, Finset.disjoint_map]
  exact Rect.unit_disjoint 0 (.inl (le_refl 1))

theorem out_union (a : Memref sig .scVector .vmem S2x128x128 .f32) : a.view.set = (outSlot a 0).view.set ∪ (outSlot a 1).view.set := by
  rw [outSlot_set, outSlot_set, ← Finset.map_union]
  refine congrArg (Finset.map a.view.emb) (Finset.eq_univ_of_forall fun x => Finset.mem_union.mpr ?_).symm
  rw [Rect.mem_set_unit, Rect.mem_set_unit]
  have h0 : (x 0).val < 2 := (x 0).isLt
  have h1 : (x 1).val < 128 := (x 1).isLt
  have h2 : (x 2).val < 128 := (x 2).isLt
  by_cases h : (x 0).val = 0
  · left; intro c
    match c with
    | 0 => exact ⟨Nat.zero_le _, by show (x 0).val < 0 + 1; omega⟩
    | 1 => exact ⟨Nat.zero_le _, by show (x 1).val < 0 + 128; omega⟩
    | 2 => exact ⟨Nat.zero_le _, by show (x 2).val < 0 + 128; omega⟩
  · right; intro c
    match c with
    | 0 => exact ⟨by show 1 ≤ (x 0).val; omega, by show (x 0).val < 1 + 1; omega⟩
    | 1 => exact ⟨Nat.zero_le _, by show (x 1).val < 0 + 128; omega⟩
    | 2 => exact ⟨Nat.zero_le _, by show (x 2).val < 0 + 128; omega⟩

theorem out_disjoint (a : Memref sig .scVector .vmem S2x128x128 .f32) : Disjoint (outSlot a 0).view.set (outSlot a 1).view.set := by
  rw [outSlot_set, outSlot_set, Finset.disjoint_map]
  exact Rect.unit_disjoint 0 (.inl (le_refl 1))

end Cert.Proof.Split

end
-- ==== Proof.Rows.lean ====
/- What a gather leaves: row `k` of the result is the row of the table that index `k` names. A block of it is what its tile gathers. -/
module

public import proofs.«01_k».proof.Proof.Split

@[expose] public section

noncomputable section

namespace Cert.Proof.Rows

open Cert.KernelIdeal Cert.KernelIdeal.Gen
open Cert.Proof.Words Cert.Proof.Steps Cert.Proof.Families Cert.Proof.Body Cert.Proof.Split

open Idealize.ShloMosaic

variable {F : FTy → Type} [FloatOps F]

/-- The rows of a table that a list of 160000 words names, in order. -/
def gathered {α : Type} (tb : S50000x128.Idx → α) (w : S1x160000.Idx → BitVec 32) : S160000x128.Idx → α :=
  fun x => tb (fun | 0 => ⟨(w (fun | 0 => ⟨0, Nat.one_pos⟩ | 1 => x 0)).toNat % 50000, Nat.mod_lt _ (by decide)⟩ | 1 => x 1)

theorem offIx_eq (y : S128.Idx) : offIx y = (fun | 0 => ⟨0, Nat.one_pos⟩ | 1 => y 0) := by
  refine Shape.reshapeEquiv_eq_of_rowMajor _ ?_
  rw [Shape.rowMajor_val_two, Shape.rowMajor_val_one]
  show 0 * 128 + (y 0).val = (y 0).val
  omega

/-- The gathered row of a block, entry by entry. -/
theorem rowsOf_apply (tb : S50000x128.Idx → Elt F .f32) (w : S1x128.Idx → Elt F .i32) (hw : ∀ x, (w x).toNat < 50000) (x : S128x128.Idx) :
    rowsOf tb w hw x = tb (fun | 0 => ⟨(w (fun | 0 => ⟨0, Nat.one_pos⟩ | 1 => x 0)).toNat, hw _⟩ | 1 => x 1) := by
  unfold rowsOf SparseCore.gatherPayload
  congr 1
  funext b
  match b with
  | 0 =>
    refine Fin.ext ?_
    show (w (offIx (S128.rowMajor.symm _))).toNat = (w _).toNat
    rw [offIx_eq]
    congr 2
    funext c
    match c with
    | 0 => rfl
    | 1 =>
      refine Fin.ext ?_
      have h := Shape.rowMajor_val_one (d := ![128]) (S128.rowMajor.symm (Fin.cast (by decide) (x 0)))
      rw [show (⟨1, ![128]⟩ : Shape).rowMajor (S128.rowMajor.symm (Fin.cast (by decide) (x 0))) = Fin.cast (by decide) (x 0) from Equiv.apply_symm_apply _ _] at h
      exact h.symm
  | 1 => rfl

variable {d : Dev nD} {i : grid0.Coords}

/-- Block `j` of the whole result is what the tile gathers for it. -/
theorem block_rows (V : Ops F d i) (G : Buf (Elt F) (V.a4.view.loc (thr d i)))
    (hG : V.a4.view.read (Elt F) G = gathered (V.a2.view.read (Elt F) V.ft) (V.a3.view.read (Elt F) V.fi)) (j : ℕ) :
    (resBlk V.a4 (blk i j)).view.read (Elt F) G = V.rows d i j := by
  funext x
  rw [show (resBlk V.a4 (blk i j)).view.read (Elt F) G x
    = V.a4.view.read (Elt F) G ((Rect.unit (s := S160000x128) ![128 * (blk i j).val, 0] S128x128.size (inb_res _)).emb x) from rfl, hG]
  show _ = rowsOf _ _ _ x
  rw [rowsOf_apply]
  unfold gathered
  congr 1
  funext b
  match b with
  | 0 =>
    refine Fin.ext ?_
    have h := V.hidx (blk i j) (fun | 0 => ⟨0, Nat.one_pos⟩ | 1 => x 0)
    have e : (idxBlk V.a3 (blk i j)).view.read (Elt F) V.fi (fun | 0 => ⟨0, Nat.one_pos⟩ | 1 => x 0)
        = V.a3.view.read (Elt F) V.fi (fun | 0 => ⟨0, Nat.one_pos⟩ | 1 => (Rect.unit (s := S160000x128) ![128 * (blk i j).val, 0] S128x128.size (inb_res _)).emb x 0) := by
      show V.a3.view.read (Elt F) V.fi _ = _
      congr 1
      funext c
      match c with
      | 0 => rfl
      | 1 => rfl
    show BitVec.toNat _ % 50000 = BitVec.toNat _
    rw [← e]
    exact Nat.mod_eq_of_lt h
  | 1 =>
    refine Fin.ext ?_
    show 0 + 1 * (x 1).val = (x 1).val
    omega

end Cert.Proof.Rows

end
-- ==== Proof.Call.lean ====
/- One tile's run of the gather kernel, from what its SparseCore hands it to what it hands back: the tile's scratch buffers and
   semaphores are lent to the kernel and come back, its blocks of the result hold the rows gathered. -/
module

public import proofs.«01_k».proof.Proof.Rows

@[expose] public section

noncomputable section

namespace Cert.Proof.Call

open Cert.KernelIdeal Cert.KernelIdeal.Gen
open Cert.Proof.Words Cert.Proof.Steps Cert.Proof.Families Cert.Proof.Body Cert.Proof.Split Cert.Proof.Rows

open Idealize.ShloMosaic
open Idealize.ShloMosaic.SparseCore.Cfg (ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem

/-- The members of a duplicate-free list, taken out of a family one by one. -/
theorem lend {M : Type} [URA M] {I : Type} [DecidableEq I] (Φ : I → sProp M) :
    ∀ (l : List I) (S : Finset I), l.Nodup → (∀ x ∈ l, x ∈ S) →
      bigSep S Φ = l.foldr (fun x P => iprop(Φ x ∗ P)) (bigSep (l.foldl Finset.erase S) Φ)
  | [], _, _, _ => rfl
  | x :: l, S, hn, hm => by
    obtain ⟨hx, hl⟩ := List.nodup_cons.mp hn
    rw [SparseCore.bigSep_erase' (hm x List.mem_cons_self),
      lend Φ l (S.erase x) hl fun y hy => Finset.mem_erase.mpr ⟨fun e => hx (e ▸ hy), hm y (List.mem_cons_of_mem _ hy)⟩]
    rfl

variable {F : FTy → Type} [FloatOps F] {Ix : Type} [DecidableEq Ix] {Name : Type} [DecidableEq Name] [Infinite Name]
variable {U : Type} [URA U] {Lvl : Type} [Preorder Lvl]
variable {defs : Defs nD τ sig (Elt F) Λ₀} (EC : UEmb Counters (MT nD τ sig Ix (Elt F) Name U Lvl)) [EC.LandsIn (upEmb : UEmb _ (MT nD τ sig Ix (Elt F) Name U Lvl))]
variable (𝒱 : Variants) (bd : Option 𝒱.V)

local notation "𝕄" => MT nD τ sig Ix (Elt F) Name U Lvl

variable (d : Dev nD) (i : grid0.Coords) (ι : Ix)

/-- The five semaphores that the kernel uses. -/
abbrev cells (V : Ops F d i) : List (DmaSem sig) := [semAt V.vin 0, semAt V.vin 1, semAt V.vout 0, semAt V.vout 1, V.vg.sem]

/-- A tile's semaphores at zero are the kernel's five and the others. -/
theorem lend_sems (V : Ops F d i) (hn : (cells d i V).Nodup) (hs : ∀ s ∈ cells d i V, (SemLoc.dma s : SemLoc sig).isScoped .scVector = true) :
    ∃ R : sProp 𝕄, (ownSems0 (thr d i) : sProp 𝕄)
      = iprop(sem0 d i (semAt V.vin 0) ∗ sem0 d i (semAt V.vin 1) ∗ sem0 d i (semAt V.vout 0) ∗ sem0 d i (semAt V.vout 1) ∗ sem0 d i V.vg.sem ∗ R) := by
  refine ⟨_, lend (fun g : GSem nD τ sig => (semVal g 0 : sProp 𝕄)) ((cells d i V).map fun s => (thr d i, SemLoc.dma s)) _ ?_ ?_⟩
  · refine hn.map fun s s' h => ?_
    injection h with _ h
    injection h
  · intro g hg
    obtain ⟨s, hm, rfl⟩ := List.mem_map.mp hg
    exact mem_ownCells.mpr ⟨rfl, hs s hm⟩

/-- A tile's scratch is the kernel's two buffers and the others. -/
theorem lend_bufs (V : Ops F d i) (hne : V.ain.view.ref ≠ V.aout.view.ref)
    (hi : (thr d i).2.devRef V.ain.view.ref ∈ ownRefs (τ := τ) (thr d i).2) (ho : (thr d i).2.devRef V.aout.view.ref ∈ ownRefs (τ := τ) (thr d i).2) :
    ∃ R : sProp 𝕄, (ownBufs (thr d i) : sProp 𝕄)
      = iprop((∃ f : Buf (Elt F) (V.ain.view.loc (thr d i)), V.ain.view.loc (thr d i) ↦{fullShare} f)
        ∗ (∃ f : Buf (Elt F) (V.aout.view.loc (thr d i)), V.aout.view.loc (thr d i) ↦{fullShare} f) ∗ R) := by
  refine ⟨_, lend (fun b : DevRef τ sig => (iprop(∃ f, ((d, b) : Loc nD τ sig) ↦{fullShare} f) : sProp 𝕄))
    [(thr d i).2.devRef V.ain.view.ref, (thr d i).2.devRef V.aout.view.ref] _ ?_ ?_⟩
  · simp only [List.nodup_cons, List.mem_singleton, List.not_mem_nil, not_false_eq_true, List.nodup_nil, and_true]
    exact fun e => hne (Proc.devRef_injective _ e)
  · intro b hb
    rcases List.mem_cons.mp hb with rfl | hb
    · exact hi
    · rw [List.mem_singleton.mp hb]; exact ho

/-- The two index slots are the buffer. -/
theorem in_split (V : Ops F d i) (h : V.ain.IsWhole) :
    iprop(∃ f : Buf (Elt F) (V.ain.view.loc (thr d i)), V.ain.view.loc (thr d i) ↦{fullShare} f)
      ⊢ (iprop(ptsE d i (inSlot V.ain 0) ∗ ptsE d i (inSlot V.ain 1)) : sProp 𝕄) :=
  two_split (h.set_eq_univ.symm.trans (in_union V.ain)) (in_disjoint V.ain)
theorem in_join (V : Ops F d i) (h : V.ain.IsWhole) :
    (iprop(ptsE d i (inSlot V.ain 0) ∗ ptsE d i (inSlot V.ain 1)) : sProp 𝕄)
      ⊢ iprop(∃ f : Buf (Elt F) (V.ain.view.loc (thr d i)), V.ain.view.loc (thr d i) ↦{fullShare} f) :=
  two_join (h.set_eq_univ.symm.trans (in_union V.ain)) (in_disjoint V.ain)
/-- The two row slots are the buffer. -/
theorem out_split (V : Ops F d i) (h : V.aout.IsWhole) :
    iprop(∃ f : Buf (Elt F) (V.aout.view.loc (thr d i)), V.aout.view.loc (thr d i) ↦{fullShare} f)
      ⊢ (iprop(ptsE d i (outSlot V.aout 0) ∗ ptsE d i (outSlot V.aout 1)) : sProp 𝕄) :=
  two_split (h.set_eq_univ.symm.trans (out_union V.aout)) (out_disjoint V.aout)
theorem out_join (V : Ops F d i) (h : V.aout.IsWhole) :
    (iprop(ptsE d i (outSlot V.aout 0) ∗ ptsE d i (outSlot V.aout 1)) : sProp 𝕄)
      ⊢ iprop(∃ f : Buf (Elt F) (V.aout.view.loc (thr d i)), V.aout.view.loc (thr d i) ↦{fullShare} f) :=
  two_join (h.set_eq_univ.symm.trans (out_union V.aout)) (out_disjoint V.aout)

theorem block_todo {sp : Space} {s : Shape} {e : EltTy} (v : Memref sig .scVector sp s e) (f : Buf (Elt F) (v.view.loc (thr d i))) :
    pts d i v fullShare f ⊢ (ptsE d i v : sProp 𝕄) := by
  iintro H; iexists f; iexact H

/-- The blocks of the result at some contents are blocks to be written. -/
theorem blocks_todo (V : Ops F d i) (f : Buf (Elt F) (V.a4.view.loc (thr d i))) :
    (bigSep (Finset.range (cnt i)) fun j => pts d i (resBlk V.a4 (blk i j)) fullShare f)
      ⊢ (bigSep (Finset.range (cnt i)) (V.todo d i) : sProp 𝕄) :=
  BI.bigSep_mono fun j _ => block_todo d i (resBlk V.a4 (blk i j)) f

/-- The blocks written are the blocks of the rows gathered. -/
theorem blocks_done (V : Ops F d i) (G : Buf (Elt F) (V.a4.view.loc (thr d i)))
    (hG : V.a4.view.read (Elt F) G = gathered (V.a2.view.read (Elt F) V.ft) (V.a3.view.read (Elt F) V.fi)) :
    bigSep (Finset.range (cnt i)) (V.done d i)
      ⊢ (bigSep (Finset.range (cnt i)) fun j => pts d i (resBlk V.a4 (blk i j)) fullShare G : sProp 𝕄) :=
  BI.bigSep_mono fun j _ => written_as d i (resBlk V.a4 (blk i j)) (V.rows d i j) G (block_rows V G hG j)

/-- A tile's blocks of the indices and of the result, the latter at contents `f`, and its share of the table. -/
abbrev held (V : Ops F d i) (f : Buf (Elt F) (V.a4.view.loc (thr d i))) : sProp 𝕄 :=
  iprop(bigSep (Finset.range (cnt i)) (V.idx d i) ∗ (bigSep (Finset.range (cnt i)) fun j => pts d i (resBlk V.a4 (blk i j)) fullShare f)
    ∗ V.a2.view.loc (thr d i) ↦{V.q} V.ft)

instance held_storable (V : Ops F d i) (f : Buf (Elt F) (V.a4.view.loc (thr d i))) : BI.Storable (upEmb : UEmb _ 𝕄) (held d i V f) :=
  have h1 (j : ℕ) : BI.Storable (upEmb : UEmb _ 𝕄) (V.idx d i j) := inferInstance
  have h2 (j : ℕ) : BI.Storable (upEmb : UEmb _ 𝕄) (pts d i (resBlk V.a4 (blk i j)) fullShare f) := inferInstance
  have h3 : BI.Storable (upEmb : UEmb _ 𝕄) (V.a2.view.loc (thr d i) ↦{V.q} V.ft) := inferInstance
  inferInstance

set_option maxHeartbeats 1000000 in
include EC in
theorem tile_run (V : Ops F d i) (h2 : V.a2.IsWhole) (h3 : V.a3.IsWhole) (h4 : V.a4.IsWhole) (hin : V.ain.IsWhole) (hout : V.aout.IsWhole)
    (hn : (cells d i V).Nodup) (hs : ∀ s ∈ cells d i V, (SemLoc.dma s : SemLoc sig).isScoped .scVector = true)
    (hne : V.ain.view.ref ≠ V.aout.view.ref) (hbi : (thr d i).2.devRef V.ain.view.ref ∈ ownRefs (τ := τ) (thr d i).2)
    (hbo : (thr d i).2.devRef V.aout.view.ref ∈ ownRefs (τ := τ) (thr d i).2) (f G : Buf (Elt F) (V.a4.view.loc (thr d i)))
    (hG : V.a4.view.read (Elt F) G = gathered (V.a2.view.read (Elt F) V.ft) (V.a3.view.read (Elt F) V.fi))
    (O : CellTallies nD τ sig Ix) (W : Waits sig Ix) :
    iprop(Transfers.MayWaits (thr d i) ι O ∗ held d i V f ∗ ownBufs (thr d i) ∗ ownSems0 (thr d i) ∗ owes (thr d i) O W)
      ⊢ (wp frame (wpE defs 𝒱 (thr d i) bd) Set.univ
          (cc0_gather_kernel i V.a2 h2 V.a3 h3 V.a4 h4 V.ain hin V.vin V.aout hout V.vout V.vg V.vg')
          fun _ => iprop(held d i V G ∗ ownBufs (thr d i) ∗ ownSems0 (thr d i) ∗ owing d i ι O W) : sProp 𝕄) := by
  obtain ⟨Rs, hRs⟩ := lend_sems (Ix := Ix) (Name := Name) (U := U) (Lvl := Lvl) d i V hn hs
  obtain ⟨Rb, hRb⟩ := lend_bufs (Ix := Ix) (Name := Name) (U := U) (Lvl := Lvl) d i V hne hbi hbo
  rw [hRs, hRb]
  have ht := table_set V.a2 h2
  have hte : (V.a2.view.loc (thr d i) ↦{V.q} V.ft : sProp 𝕄) = pts d i (table V.a2) V.q V.ft := by
    show _ = (V.a2.view.loc (thr d i) ↦[(table V.a2).view.set]{V.q} V.ft : sProp 𝕄)
    rw [ht]
  have hB := body (defs := defs) EC 𝒱 bd d i ι V h2 h3 h4 hin hout O W
  unfold held
  rw [hte]
  iintro ⟨Hm, ⟨Hidx, Hres, Ht⟩, ⟨Hbi, Hbo, HRb⟩, ⟨Ha, Hb, Hc, Hd, He, HRs⟩, HO⟩
  ihave Hbi' := (in_split d i V hin) $$ Hbi
  icases Hbi' with ⟨Hi0, Hi1⟩
  ihave Hbo' := (out_split d i V hout) $$ Hbo
  icases Hbo' with ⟨Ho0, Ho1⟩
  ihave Hres' := (blocks_todo d i V f) $$ Hres
  iapply (wp_wand _ _ _) $$ [Hm Hidx Hres' Ht Hi0 Hi1 Ho0 Ho1 Ha Hb Hc Hd He HO]
  · iapply hB
    isplitl [Hidx]; · iexact Hidx
    isplitl [Hres']; · iexact Hres'
    isplitl [Hi0 Hi1 Ho0 Ho1 Ha Hb Hc Hd He]
    · unfold Ops.free
      isplitl [Hi0 Hi1 Ha Hb]
      · isplitl [Hi0 Ha]
        · isplitl [Hi0] <;> iassumption
        · isplitl [Hi1] <;> iassumption
      isplitl [Ho0 Ho1 Hc Hd]
      · isplitl [Ho0 Hc]
        · isplitl [Ho0] <;> iassumption
        · isplitl [Ho1] <;> iassumption
      iexact He
    isplitl [Ht]; · iexact Ht
    isplitl [HO]
    · iexists W; isplitr
      · ipureintro; exact fun p hp => .inl hp
      · iexact HO
    iexact Hm
  iintro %_ ⟨Hidx, Hdone, Hfree, Ht, HO⟩
  unfold Ops.free
  icases Hfree with ⟨⟨⟨Hi0, Ha⟩, Hi1, Hb⟩, ⟨⟨Ho0, Hc⟩, Ho1, Hd⟩, He⟩
  isplitl [Hidx Hdone Ht]
  · isplitl [Hidx]; · iexact Hidx
    isplitl [Hdone]
    · iapply (blocks_done d i V G hG); iexact Hdone
    iexact Ht
  isplitl [Hi0 Hi1 Ho0 Ho1 HRb]
  · isplitl [Hi0 Hi1]
    · iapply (in_join d i V hin); isplitl [Hi0] <;> iassumption
    isplitl [Ho0 Ho1]
    · iapply (out_join d i V hout); isplitl [Ho0] <;> iassumption
    iexact HRb
  isplitl [Ha Hb Hc Hd He HRs]
  · isplitl [Ha]; · iexact Ha
    isplitl [Hb]; · iexact Hb
    isplitl [Hc]; · iexact Hc
    isplitl [Hd]; · iexact Hd
    isplitl [He]; · iexact He
    iexact HRs
  iexact HO

end Cert.Proof.Call

end
-- ==== Proof.Launch.lean ====
/- The launch: five SparseCore calls, each a gather on the 32 tiles, and the names of what runs and what is owned while they run. -/
module

public import proofs.«01_k».proof.Proof.Call
public import Idealize.ShloMosaic.Lib.SparseCore.Quiescent
public import Idealize.ShloMosaic.Lib.StableHlo.Run
public import Idealize.ShloMosaic.Lib.Pipeline.Kit

@[expose] public section

noncomputable section

namespace Cert.Proof.Launch

open Cert.KernelIdeal Cert.KernelIdeal.Gen
open Cert.Proof.Words Cert.Proof.Steps Cert.Proof.Body Cert.Proof.Split Cert.Proof.Rows Cert.Proof.Call

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 5) fun p => (pcfgs (F := F) p).Adm
abbrev K : SparseCore.Cfg τ sig (ΛP (F := F)) 5 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × (URounds (GSem nD τ sig) Unit × Counters)

local notation "𝕄" => MT nD τ sig (HIx 5) (Elt F) ℕ UU ℕ

abbrev EH : Emb UH (MT nD τ sig (HIx 5) (Elt F) ℕ UU ℕ) := embL

/-- The TensorCore's name for a buffer. -/
abbrev ref (b : Ref sig .tc) : DevRef τ sig := Proc.devRef (τ := τ) .tc b

/-- Waits of the thread's own are allowed, whatever other waits are. -/
theorem waits_own {thr : Thread nD τ} {A B C : sProp 𝕄} {O : CellTallies nD τ sig (HIx 5)} {W : Waits sig (HIx 5)} (X : HIx 5 → Prop) :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ X p.2⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem turn {M : Type} [URA M] {A B C E : sProp M} : iprop((A ∗ B) ∗ C ∗ E) ⊢ (iprop(A ∗ C ∗ E ∗ B) : sProp M) := by
  iintro ⟨⟨HA, HB⟩, HC, HE⟩
  isplitl [HA]; · iexact HA
  isplitl [HC]; · iexact HC
  isplitl [HE] <;> iassumption
theorem turn_back {M : Type} [URA M] {A B C E : sProp M} : iprop(A ∗ C ∗ E ∗ B) ⊢ (iprop((A ∗ B) ∗ C ∗ E) : sProp M) := by
  iintro ⟨HA, HC, HE, HB⟩
  isplitl [HA HB]
  · isplitl [HA] <;> iassumption
  isplitl [HC] <;> iassumption

end Cert.Proof.Launch

end
-- ==== Proof.Tiles0.lean ====
/- SparseCore call 0: what each tile is handed and hands back, its run, and the call's effect on the TensorCore's buffers. -/
module

public import proofs.«01_k».proof.Proof.Launch

@[expose] public section

noncomputable section

namespace Cert.Proof.Tiles0

open Cert.KernelIdeal Cert.KernelIdeal.Gen
open Cert.Proof.Words Cert.Proof.Steps Cert.Proof.Body Cert.Proof.Split Cert.Proof.Rows Cert.Proof.Call Cert.Proof.Launch

open Idealize.ShloMosaic
open Idealize.ShloMosaic.SparseCore.Cfg (HIx ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 5) (Elt F) ℕ UU ℕ

abbrev tLoc (d : Dev nD) : Loc nD τ sig := (SparseCore.T d).loc main_v3
abbrev iLoc (d : Dev nD) : Loc nD τ sig := (SparseCore.T d).loc main_v40
abbrev rLoc (d : Dev nD) : Loc nD τ sig := (SparseCore.T d).loc main_v41

/-- Every index names a row of the table. -/
def InRange (V : Valuation τ sig (Elt F)) : Prop := ∀ x : S1x160000.Idx, BitVec.toNat (V (ref main_v40) x : BitVec 32) < 50000

/-- The rows gathered. -/
def rows (V : Valuation τ sig (Elt F)) : (ref main_v41).ty.Contents (Elt F) := gathered (α := Elt F .f32) (V (ref main_v3)) (V (ref main_v40))

/-- The call as one operation on the buffers: the rows gathered are put in the result. -/
def step : HloOp τ sig (Elt F) :=
  StableHlo.binary main_v3 main_v40 main_v41 (fun t w => (gathered (α := Elt F .f32) t w : (⟨S160000x128, .f32⟩ : BufTy).Contents (Elt F)))

variable [FloatOps F] (V : Valuation τ sig (Elt F)) (hV : InRange V)

/-- The kernel's operands on one tile. -/
def ops (d : Dev nD) (i : grid0.Coords) : Ops F d i where
  a2 := Memref.whole main_v3_scv
  a3 := Memref.whole main_v40_scv
  a4 := Memref.whole main_v41_scv
  ain := Memref.whole cc0_scoped0
  aout := Memref.whole cc0_scoped2
  vin := cc0_scoped1
  vout := cc0_scoped3
  vg := cc0_scoped4
  vg' := cc0_scoped5
  ft := V (ref main_v3)
  fi := V (ref main_v40)
  q := share i
  hidx _ _ := hV _

/-- What a tile is handed, and hands back, the result at contents `f`. -/
def hand (d : Dev nD) (i : grid0.Coords) (f : Buf (Elt F) (rLoc d)) : sProp 𝕄 := held d i (ops V hV d i) f

/-- Table, indices and result are the tiles' blocks and shares, and what is left of the table's share. -/
theorem deal (d : Dev nD) (f : Buf (Elt F) (rLoc d)) :
    (iprop((tLoc d ↦{fullShare} V (ref main_v3)) ∗ (iLoc d ↦{fullShare} V (ref main_v40)) ∗ rLoc d ↦{fullShare} f) : sProp 𝕄)
      = iprop((tLoc d ↦{Transfers.shareDrop fullShare 32} V (ref main_v3))
        ∗ bigSep Finset.univ fun c : Fin 2 => bigSep Finset.univ fun j : Fin 16 => hand V hV d (at' c j) f) := by
  have ht := table_split (F := F) (Ix := HIx 5) (Name := ℕ) (U := UU) (Lvl := ℕ) d (at' 0 0) (Memref.whole main_v3_scv) (V (ref main_v3))
  have hi := idx_split (F := F) (Ix := HIx 5) (Name := ℕ) (U := UU) (Lvl := ℕ) d (at' 0 0) (Memref.whole main_v40_scv) (Memref.isWhole_whole _) (V (ref main_v40))
  have hr := res_split (F := F) (Ix := HIx 5) (Name := ℕ) (U := UU) (Lvl := ℕ) d (at' 0 0) (Memref.whole main_v41_scv) (Memref.isWhole_whole _) f
  unfold hand held
  rw [show (tLoc d ↦{fullShare} V (ref main_v3) : sProp 𝕄) = _ from ht, show (iLoc d ↦{fullShare} V (ref main_v40) : sProp 𝕄) = _ from hi,
    show (rLoc d ↦{fullShare} f : sProp 𝕄) = _ from hr]
  simp only [bigSep_sep']
  exact BI.Entails.antisymm turn turn_back

/-! ## What the handshakes carry -/

theorem nCore_eq : (K (F := F)).nCore 0 = 2 := rfl
theorem nSub_eq : (K (F := F)).nSub 0 = 16 := rfl

/-- The coordinates of the call's tile. -/
abbrev co (c : Fin ((K (F := F)).nCore 0)) (i : Fin ((K (F := F)).nSub 0)) : grid0.Coords := at' (Fin.cast nCore_eq c) (Fin.cast nSub_eq i)

/-- The core's tiles' hands. -/
def hands (d : Dev nD) (c : Fin ((K (F := F)).nCore 0)) (f : Buf (Elt F) (rLoc d)) : sProp 𝕄 :=
  bigSep Finset.univ fun i : Fin ((K (F := F)).nSub 0) => hand V hV d (co c i) f

instance hand_storable (d : Dev nD) (i : grid0.Coords) (f : Buf (Elt F) (rLoc d)) : BI.Storable (upEmb : UEmb _ 𝕄) (hand V hV d i f) :=
  held_storable d i (ops V hV d i) f
instance hands_storable (d : Dev nD) (c : Fin ((K (F := F)).nCore 0)) (f : Buf (Elt F) (rLoc d)) : BI.Storable (upEmb : UEmb _ 𝕄) (hands V hV d c f) :=
  BI.Storable.bigSep _ _ _

/-! ## A tile's obligation -/

theorem vector_defs (c : Fin τ.nSC) (s : Fin τ.nSub) :
    defs₀ (F := F) (.scVector c s) 0 ()
      = SparseCore.onTile hcore0 hsub0 (fun c s => cc0_gather_kernel (at' c s) (Memref.whole main_v3_scv) (Memref.isWhole_whole _)
          (Memref.whole main_v40_scv) (Memref.isWhole_whole _) (Memref.whole main_v41_scv) (Memref.isWhole_whole _)
          (Memref.whole cc0_scoped0) (Memref.isWhole_whole _) cc0_scoped1 (Memref.whole cc0_scoped2) (Memref.isWhole_whole _) cc0_scoped3
          cc0_scoped4 cc0_scoped5) ⟨⟩ c s := rfl

theorem scratch_ne : (cc0_scoped0 : Ref sig .scVector) ≠ cc0_scoped2 := by decide
theorem cells_nodup : [semAt cc0_scoped1 0, semAt cc0_scoped1 1, semAt cc0_scoped3 0, semAt cc0_scoped3 1, cc0_scoped4.sem].Nodup := by decide
theorem cells_scoped : ∀ s ∈ [semAt cc0_scoped1 0, semAt cc0_scoped1 1, semAt cc0_scoped3 0, semAt cc0_scoped3 1, cc0_scoped4.sem],
    (SemLoc.dma s : SemLoc sig).isScoped .scVector = true := by decide
theorem scratch_own (d : Dev nD) (i : grid0.Coords) : (thr d i).2.devRef (cc0_scoped0 : Ref sig .scVector) ∈ SparseCore.Cfg.ownRefs (τ := τ) (thr d i).2 :=
  SparseCore.Cfg.mem_ownRefs_of_owner rfl
theorem scratch_own' (d : Dev nD) (i : grid0.Coords) : (thr d i).2.devRef (cc0_scoped2 : Ref sig .scVector) ∈ SparseCore.Cfg.ownRefs (τ := τ) (thr d i).2 :=
  SparseCore.Cfg.mem_ownRefs_of_owner rfl

set_option maxHeartbeats 1000000 in
theorem tile_task (d : Dev nD) (i : grid0.Coords) (f : Buf (Elt F) (rLoc d)) (O : CellTallies nD τ sig (HIx 5)) (W : Waits sig (HIx 5)) (hO : ∀ g, O g none = 0) :
    iprop(levAts (K (F := F)).L (K (F := F)).lev ∗ emp ∗ hand V hV d i f
        ∗ scopedBufs (thr d i) ∗ scopedSems0 (thr d i) ∗ owes (thr d i) O W)
      ⊢ (wp frame (wpE (defs₀ (F := F)) 𝒱₀ (thr d i) none) Set.univ
          (cc0_gather_kernel i (Memref.whole main_v3_scv) (Memref.isWhole_whole _)
            (Memref.whole main_v40_scv) (Memref.isWhole_whole _) (Memref.whole main_v41_scv) (Memref.isWhole_whole _)
            (Memref.whole cc0_scoped0) (Memref.isWhole_whole _) cc0_scoped1 (Memref.whole cc0_scoped2) (Memref.isWhole_whole _) cc0_scoped3
            cc0_scoped4 cc0_scoped5)
          fun _ => iprop(hand V hV d i (rows V) ∗ scopedBufs (thr d i) ∗ scopedSems0 (thr d i)
            ∗ ∃ W', ⌜∀ p ∈ W', p ∈ W ∨ p.2 = none⌝ ∗ owes (thr d i) O W') : sProp 𝕄) := by
  rw [(K (F := F)).scopedBufs_V facts d _ _, SparseCore.Cfg.scopedSems0_V (Val := Elt F) d _ _]
  unfold hand
  iintro ⟨#Hlv, -, Hh, Hb, Hs, HO⟩
  ihave Hmw := (show levAts (K (F := F)).L (K (F := F)).lev ⊢ (Transfers.MayWaits (thr d i) (none : HIx 5) O : sProp 𝕄) from
    (K (F := F)).mayWaits_none (thr := thr d i) hO) $$ Hlv
  iapply (wp_wand _ _ _) $$ [Hmw Hh Hb Hs HO]
  · iapply (tile_run (defs := defs₀ (F := F)) countersEmb 𝒱₀ none d i (none : HIx 5) (ops V hV d i) (Memref.isWhole_whole _) (Memref.isWhole_whole _)
      (Memref.isWhole_whole _) (Memref.isWhole_whole _) (Memref.isWhole_whole _)
      cells_nodup cells_scoped scratch_ne (scratch_own d i) (scratch_own' d i) f (rows V) rfl O W)
    isplitl [Hmw]; · iexact Hmw
    isplitl [Hh]; · iexact Hh
    isplitl [Hb]; · iexact Hb
    isplitl [Hs]; · iexact Hs
    iexact HO
  iintro %_ H; iexact H

attribute [local irreducible] cc0_gather_kernel in
set_option maxRecDepth 16384 in
set_option maxHeartbeats 1000000 in
/-- A tile's task: from its hand with the result at any contents to its hand with the rows gathered. -/
theorem tile_ends (d : Dev nD) (c : Fin ((K (F := F)).nCore 0)) (i : Fin ((K (F := F)).nSub 0)) (f : Buf (Elt F) (rLoc d))
    (O : CellTallies nD τ sig (HIx 5)) (W : Waits sig (HIx 5)) (hO : ∀ g, O g none = 0) (X : HIx 5 → Prop) :
    iprop(levAts (K (F := F)).L (K (F := F)).lev ∗ emp ∗ hand V hV d (co c i) f
        ∗ scopedBufs (SparseCore.V d ((K (F := F)).core 0 c) ((K (F := F)).sub 0 i)) ∗ scopedSems0 (SparseCore.V d ((K (F := F)).core 0 c) ((K (F := F)).sub 0 i))
        ∗ owes (SparseCore.V d ((K (F := F)).core 0 c) ((K (F := F)).sub 0 i)) O W)
      ⊢ (wp frame (wpE (D (F := F)) 𝒱 (SparseCore.V d ((K (F := F)).core 0 c) ((K (F := F)).sub 0 i)) (some v₀)) Set.univ
          (D (F := F) (.scVector ((K (F := F)).core 0 c) ((K (F := F)).sub 0 i)) ((K (F := F)).body 0) ((K (F := F)).args 0)) fun _ =>
          iprop(hand V hV d (co c i) (rows V) ∗ scopedBufs (SparseCore.V d ((K (F := F)).core 0 c) ((K (F := F)).sub 0 i))
            ∗ scopedSems0 (SparseCore.V d ((K (F := F)).core 0 c) ((K (F := F)).sub 0 i))
            ∗ ∃ W', ⌜∀ p ∈ W', p ∈ W ∨ p.2 = none ∨ X p.2⌝ ∗ owes (SparseCore.V d ((K (F := F)).core 0 c) ((K (F := F)).sub 0 i)) O W') : sProp 𝕄) := by
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [vector_defs]; simp only [SparseCore.onTile, hci, and_self, ↓reduceDIte]
  exact (tile_task V hV d (at' ⟨_, hci.1⟩ ⟨_, hci.2⟩) f O W hO).trans (wp_mono frame _ _ fun _ => waits_own _)

/-! ## The call, between the TensorCore's operations -/

theorem cores (d : Dev nD) (f : Buf (Elt F) (rLoc d)) :
    (bigSep Finset.univ fun c : Fin ((K (F := F)).nCore 0) => hands V hV d c f : sProp 𝕄)
      = bigSep Finset.univ fun c : Fin 2 => bigSep Finset.univ fun j : Fin 16 => hand V hV d (at' c j) f := rfl

/-- The call's three buffers. -/
def three : Finset (DevRef τ sig) := {ref main_v3, ref main_v40, ref main_v41}

theorem three_sub : three ⊆ Pipeline.ucRefs τ sig := by decide

theorem three_held (d : Dev nD) (W : Valuation τ sig (Elt F)) :
    (StableHlo.held (SparseCore.T d) three W : sProp 𝕄)
      = iprop((tLoc d ↦{fullShare} W (ref main_v3)) ∗ (iLoc d ↦{fullShare} W (ref main_v40)) ∗ rLoc d ↦{fullShare} W (ref main_v41)) := by
  unfold StableHlo.held three
  rw [SparseCore.bigSep_insert' (by decide), SparseCore.bigSep_insert' (by decide), bigSep_singleton]

theorem step_tab : (step (F := F)).result V (ref main_v3) = V (ref main_v3) := StableHlo.binary_result_ne _ _ _ _ _ _ _ V (by decide)
theorem step_ix : (step (F := F)).result V (ref main_v40) = V (ref main_v40) := StableHlo.binary_result_ne _ _ _ _ _ _ _ V (by decide)
theorem step_res : (step (F := F)).result V (ref main_v41) = rows V := StableHlo.binary_result _ _ _ _ _ _ _ V

/-- The buffers held are the cores' hands and the rest; once the rows are in the hands, they are the buffers after the call. -/
theorem around (d : Dev nD) :
    (StableHlo.held (SparseCore.T d) (Pipeline.ucRefs τ sig) V : sProp 𝕄)
      ⊢ iprop((bigSep Finset.univ fun c : Fin ((K (F := F)).nCore 0) => hands V hV d c (V (ref main_v41)))
        ∗ ((bigSep Finset.univ fun c : Fin ((K (F := F)).nCore 0) => hands V hV d c (rows V))
          -∗ StableHlo.held (SparseCore.T d) (Pipeline.ucRefs τ sig) ((step (F := F)).result V))) := by
  have hrest : (StableHlo.held (SparseCore.T d) (Pipeline.ucRefs τ sig \ three) V : sProp 𝕄)
      = StableHlo.held (SparseCore.T d) (Pipeline.ucRefs τ sig \ three) ((step (F := F)).result V) := by
    refine StableHlo.held_congr _ fun b hb => ((step (F := F)).result_of_not_mem V ?_).symm
    intro hw
    have hw' : b ∈ ({ref main_v41} : Finset (DevRef τ sig)) := hw
    rw [Finset.mem_singleton.mp hw'] at hb
    exact (Finset.mem_sdiff.mp hb).2 (by decide)
  rw [StableHlo.held_sub_split _ three_sub V, StableHlo.held_sub_split _ three_sub ((step (F := F)).result V), three_held, three_held, ← hrest,
    step_tab, step_ix, step_res, deal V hV, deal V hV, cores, cores]
  iintro ⟨⟨Ht, Hh⟩, Hr⟩
  isplitl [Hh]; · iexact Hh
  iintro Hh
  isplitr [Hr]
  · isplitl [Ht] <;> iassumption
  iexact Hr

end Cert.Proof.Tiles0

end
-- ==== Proof.Tiles1.lean ====
/- SparseCore call 1: what each tile is handed and hands back, its run, and the call's effect on the TensorCore's buffers. -/
module

public import proofs.«01_k».proof.Proof.Launch

@[expose] public section

noncomputable section

namespace Cert.Proof.Tiles1

open Cert.KernelIdeal Cert.KernelIdeal.Gen
open Cert.Proof.Words Cert.Proof.Steps Cert.Proof.Body Cert.Proof.Split Cert.Proof.Rows Cert.Proof.Call Cert.Proof.Launch

open Idealize.ShloMosaic
open Idealize.ShloMosaic.SparseCore.Cfg (HIx ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 5) (Elt F) ℕ UU ℕ

abbrev tLoc (d : Dev nD) : Loc nD τ sig := (SparseCore.T d).loc main_v3
abbrev iLoc (d : Dev nD) : Loc nD τ sig := (SparseCore.T d).loc main_v46
abbrev rLoc (d : Dev nD) : Loc nD τ sig := (SparseCore.T d).loc main_v47

/-- Every index names a row of the table. -/
def InRange (V : Valuation τ sig (Elt F)) : Prop := ∀ x : S1x160000.Idx, BitVec.toNat (V (ref main_v46) x : BitVec 32) < 50000

/-- The rows gathered. -/
def rows (V : Valuation τ sig (Elt F)) : (ref main_v47).ty.Contents (Elt F) := gathered (α := Elt F .f32) (V (ref main_v3)) (V (ref main_v46))

/-- The call as one operation on the buffers: the rows gathered are put in the result. -/
def step : HloOp τ sig (Elt F) :=
  StableHlo.binary main_v3 main_v46 main_v47 (fun t w => (gathered (α := Elt F .f32) t w : (⟨S160000x128, .f32⟩ : BufTy).Contents (Elt F)))

variable [FloatOps F] (V : Valuation τ sig (Elt F)) (hV : InRange V)

/-- The kernel's operands on one tile. -/
def ops (d : Dev nD) (i : grid0.Coords) : Ops F d i where
  a2 := Memref.whole main_v3_scv
  a3 := Memref.whole main_v46_scv
  a4 := Memref.whole main_v47_scv
  ain := Memref.whole cc2_scoped0
  aout := Memref.whole cc2_scoped2
  vin := cc2_scoped1
  vout := cc2_scoped3
  vg := cc2_scoped4
  vg' := cc2_scoped5
  ft := V (ref main_v3)
  fi := V (ref main_v46)
  q := share i
  hidx _ _ := hV _

/-- What a tile is handed, and hands back, the result at contents `f`. -/
def hand (d : Dev nD) (i : grid0.Coords) (f : Buf (Elt F) (rLoc d)) : sProp 𝕄 := held d i (ops V hV d i) f

/-- Table, indices and result are the tiles' blocks and shares, and what is left of the table's share. -/
theorem deal (d : Dev nD) (f : Buf (Elt F) (rLoc d)) :
    (iprop((tLoc d ↦{fullShare} V (ref main_v3)) ∗ (iLoc d ↦{fullShare} V (ref main_v46)) ∗ rLoc d ↦{fullShare} f) : sProp 𝕄)
      = iprop((tLoc d ↦{Transfers.shareDrop fullShare 32} V (ref main_v3))
        ∗ bigSep Finset.univ fun c : Fin 2 => bigSep Finset.univ fun j : Fin 16 => hand V hV d (at' c j) f) := by
  have ht := table_split (F := F) (Ix := HIx 5) (Name := ℕ) (U := UU) (Lvl := ℕ) d (at' 0 0) (Memref.whole main_v3_scv) (V (ref main_v3))
  have hi := idx_split (F := F) (Ix := HIx 5) (Name := ℕ) (U := UU) (Lvl := ℕ) d (at' 0 0) (Memref.whole main_v46_scv) (Memref.isWhole_whole _) (V (ref main_v46))
  have hr := res_split (F := F) (Ix := HIx 5) (Name := ℕ) (U := UU) (Lvl := ℕ) d (at' 0 0) (Memref.whole main_v47_scv) (Memref.isWhole_whole _) f
  unfold hand held
  rw [show (tLoc d ↦{fullShare} V (ref main_v3) : sProp 𝕄) = _ from ht, show (iLoc d ↦{fullShare} V (ref main_v46) : sProp 𝕄) = _ from hi,
    show (rLoc d ↦{fullShare} f : sProp 𝕄) = _ from hr]
  simp only [bigSep_sep']
  exact BI.Entails.antisymm turn turn_back

/-! ## What the handshakes carry -/

theorem nCore_eq : (K (F := F)).nCore 1 = 2 := rfl
theorem nSub_eq : (K (F := F)).nSub 1 = 16 := rfl

/-- The coordinates of the call's tile. -/
abbrev co (c : Fin ((K (F := F)).nCore 1)) (i : Fin ((K (F := F)).nSub 1)) : grid0.Coords := at' (Fin.cast nCore_eq c) (Fin.cast nSub_eq i)

/-- The core's tiles' hands. -/
def hands (d : Dev nD) (c : Fin ((K (F := F)).nCore 1)) (f : Buf (Elt F) (rLoc d)) : sProp 𝕄 :=
  bigSep Finset.univ fun i : Fin ((K (F := F)).nSub 1) => hand V hV d (co c i) f

instance hand_storable (d : Dev nD) (i : grid0.Coords) (f : Buf (Elt F) (rLoc d)) : BI.Storable (upEmb : UEmb _ 𝕄) (hand V hV d i f) :=
  held_storable d i (ops V hV d i) f
instance hands_storable (d : Dev nD) (c : Fin ((K (F := F)).nCore 1)) (f : Buf (Elt F) (rLoc d)) : BI.Storable (upEmb : UEmb _ 𝕄) (hands V hV d c f) :=
  BI.Storable.bigSep _ _ _

/-! ## A tile's obligation -/

theorem kernel_eq : @cc2_gather_kernel F _ = @cc0_gather_kernel F _ := rfl

theorem vector_defs (c : Fin τ.nSC) (s : Fin τ.nSub) :
    defs₀ (F := F) (.scVector c s) 2 ()
      = SparseCore.onTile hcore0 hsub0 (fun c s => cc2_gather_kernel (at' c s) (Memref.whole main_v3_scv) (Memref.isWhole_whole _)
          (Memref.whole main_v46_scv) (Memref.isWhole_whole _) (Memref.whole main_v47_scv) (Memref.isWhole_whole _)
          (Memref.whole cc2_scoped0) (Memref.isWhole_whole _) cc2_scoped1 (Memref.whole cc2_scoped2) (Memref.isWhole_whole _) cc2_scoped3
          cc2_scoped4 cc2_scoped5) ⟨⟩ c s := rfl

theorem scratch_ne : (cc2_scoped0 : Ref sig .scVector) ≠ cc2_scoped2 := by decide
theorem cells_nodup : [semAt cc2_scoped1 0, semAt cc2_scoped1 1, semAt cc2_scoped3 0, semAt cc2_scoped3 1, cc2_scoped4.sem].Nodup := by decide
theorem cells_scoped : ∀ s ∈ [semAt cc2_scoped1 0, semAt cc2_scoped1 1, semAt cc2_scoped3 0, semAt cc2_scoped3 1, cc2_scoped4.sem],
    (SemLoc.dma s : SemLoc sig).isScoped .scVector = true := by decide
theorem scratch_own (d : Dev nD) (i : grid0.Coords) : (thr d i).2.devRef (cc2_scoped0 : Ref sig .scVector) ∈ SparseCore.Cfg.ownRefs (τ := τ) (thr d i).2 :=
  SparseCore.Cfg.mem_ownRefs_of_owner rfl
theorem scratch_own' (d : Dev nD) (i : grid0.Coords) : (thr d i).2.devRef (cc2_scoped2 : Ref sig .scVector) ∈ SparseCore.Cfg.ownRefs (τ := τ) (thr d i).2 :=
  SparseCore.Cfg.mem_ownRefs_of_owner rfl

set_option maxHeartbeats 1000000 in
theorem tile_task (d : Dev nD) (i : grid0.Coords) (f : Buf (Elt F) (rLoc d)) (O : CellTallies nD τ sig (HIx 5)) (W : Waits sig (HIx 5)) (hO : ∀ g, O g none = 0) :
    iprop(levAts (K (F := F)).L (K (F := F)).lev ∗ emp ∗ hand V hV d i f
        ∗ scopedBufs (thr d i) ∗ scopedSems0 (thr d i) ∗ owes (thr d i) O W)
      ⊢ (wp frame (wpE (defs₀ (F := F)) 𝒱₀ (thr d i) none) Set.univ
          (cc0_gather_kernel i (Memref.whole main_v3_scv) (Memref.isWhole_whole _)
            (Memref.whole main_v46_scv) (Memref.isWhole_whole _) (Memref.whole main_v47_scv) (Memref.isWhole_whole _)
            (Memref.whole cc2_scoped0) (Memref.isWhole_whole _) cc2_scoped1 (Memref.whole cc2_scoped2) (Memref.isWhole_whole _) cc2_scoped3
            cc2_scoped4 cc2_scoped5)
          fun _ => iprop(hand V hV d i (rows V) ∗ scopedBufs (thr d i) ∗ scopedSems0 (thr d i)
            ∗ ∃ W', ⌜∀ p ∈ W', p ∈ W ∨ p.2 = none⌝ ∗ owes (thr d i) O W') : sProp 𝕄) := by
  rw [(K (F := F)).scopedBufs_V facts d _ _, SparseCore.Cfg.scopedSems0_V (Val := Elt F) d _ _]
  unfold hand
  iintro ⟨#Hlv, -, Hh, Hb, Hs, HO⟩
  ihave Hmw := (show levAts (K (F := F)).L (K (F := F)).lev ⊢ (Transfers.MayWaits (thr d i) (none : HIx 5) O : sProp 𝕄) from
    (K (F := F)).mayWaits_none (thr := thr d i) hO) $$ Hlv
  iapply (wp_wand _ _ _) $$ [Hmw Hh Hb Hs HO]
  · iapply (tile_run (defs := defs₀ (F := F)) countersEmb 𝒱₀ none d i (none : HIx 5) (ops V hV d i) (Memref.isWhole_whole _) (Memref.isWhole_whole _)
      (Memref.isWhole_whole _) (Memref.isWhole_whole _) (Memref.isWhole_whole _)
      cells_nodup cells_scoped scratch_ne (scratch_own d i) (scratch_own' d i) f (rows V) rfl O W)
    isplitl [Hmw]; · iexact Hmw
    isplitl [Hh]; · iexact Hh
    isplitl [Hb]; · iexact Hb
    isplitl [Hs]; · iexact Hs
    iexact HO
  iintro %_ H; iexact H

attribute [local irreducible] cc0_gather_kernel in
set_option maxRecDepth 16384 in
set_option maxHeartbeats 1000000 in
/-- A tile's task: from its hand with the result at any contents to its hand with the rows gathered. -/
theorem tile_ends (d : Dev nD) (c : Fin ((K (F := F)).nCore 1)) (i : Fin ((K (F := F)).nSub 1)) (f : Buf (Elt F) (rLoc d))
    (O : CellTallies nD τ sig (HIx 5)) (W : Waits sig (HIx 5)) (hO : ∀ g, O g none = 0) (X : HIx 5 → Prop) :
    iprop(levAts (K (F := F)).L (K (F := F)).lev ∗ emp ∗ hand V hV d (co c i) f
        ∗ scopedBufs (SparseCore.V d ((K (F := F)).core 1 c) ((K (F := F)).sub 1 i)) ∗ scopedSems0 (SparseCore.V d ((K (F := F)).core 1 c) ((K (F := F)).sub 1 i))
        ∗ owes (SparseCore.V d ((K (F := F)).core 1 c) ((K (F := F)).sub 1 i)) O W)
      ⊢ (wp frame (wpE (D (F := F)) 𝒱 (SparseCore.V d ((K (F := F)).core 1 c) ((K (F := F)).sub 1 i)) (some v₀)) Set.univ
          (D (F := F) (.scVector ((K (F := F)).core 1 c) ((K (F := F)).sub 1 i)) ((K (F := F)).body 1) ((K (F := F)).args 1)) fun _ =>
          iprop(hand V hV d (co c i) (rows V) ∗ scopedBufs (SparseCore.V d ((K (F := F)).core 1 c) ((K (F := F)).sub 1 i))
            ∗ scopedSems0 (SparseCore.V d ((K (F := F)).core 1 c) ((K (F := F)).sub 1 i))
            ∗ ∃ W', ⌜∀ p ∈ W', p ∈ W ∨ p.2 = none ∨ X p.2⌝ ∗ owes (SparseCore.V d ((K (F := F)).core 1 c) ((K (F := F)).sub 1 i)) O W') : sProp 𝕄) := by
  have hci : ((K (F := F)).core 1 c).val < grid0.bound 0 ∧ ((K (F := F)).sub 1 i).val < grid0.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [vector_defs, kernel_eq]; simp only [SparseCore.onTile, hci, and_self, ↓reduceDIte]
  exact (tile_task V hV d (at' ⟨_, hci.1⟩ ⟨_, hci.2⟩) f O W hO).trans (wp_mono frame _ _ fun _ => waits_own _)

/-! ## The call, between the TensorCore's operations -/

theorem cores (d : Dev nD) (f : Buf (Elt F) (rLoc d)) :
    (bigSep Finset.univ fun c : Fin ((K (F := F)).nCore 1) => hands V hV d c f : sProp 𝕄)
      = bigSep Finset.univ fun c : Fin 2 => bigSep Finset.univ fun j : Fin 16 => hand V hV d (at' c j) f := rfl

/-- The call's three buffers. -/
def three : Finset (DevRef τ sig) := {ref main_v3, ref main_v46, ref main_v47}

theorem three_sub : three ⊆ Pipeline.ucRefs τ sig := by decide

theorem three_held (d : Dev nD) (W : Valuation τ sig (Elt F)) :
    (StableHlo.held (SparseCore.T d) three W : sProp 𝕄)
      = iprop((tLoc d ↦{fullShare} W (ref main_v3)) ∗ (iLoc d ↦{fullShare} W (ref main_v46)) ∗ rLoc d ↦{fullShare} W (ref main_v47)) := by
  unfold StableHlo.held three
  rw [SparseCore.bigSep_insert' (by decide), SparseCore.bigSep_insert' (by decide), bigSep_singleton]

theorem step_tab : (step (F := F)).result V (ref main_v3) = V (ref main_v3) := StableHlo.binary_result_ne _ _ _ _ _ _ _ V (by decide)
theorem step_ix : (step (F := F)).result V (ref main_v46) = V (ref main_v46) := StableHlo.binary_result_ne _ _ _ _ _ _ _ V (by decide)
theorem step_res : (step (F := F)).result V (ref main_v47) = rows V := StableHlo.binary_result _ _ _ _ _ _ _ V

/-- The buffers held are the cores' hands and the rest; once the rows are in the hands, they are the buffers after the call. -/
theorem around (d : Dev nD) :
    (StableHlo.held (SparseCore.T d) (Pipeline.ucRefs τ sig) V : sProp 𝕄)
      ⊢ iprop((bigSep Finset.univ fun c : Fin ((K (F := F)).nCore 1) => hands V hV d c (V (ref main_v47)))
        ∗ ((bigSep Finset.univ fun c : Fin ((K (F := F)).nCore 1) => hands V hV d c (rows V))
          -∗ StableHlo.held (SparseCore.T d) (Pipeline.ucRefs τ sig) ((step (F := F)).result V))) := by
  have hrest : (StableHlo.held (SparseCore.T d) (Pipeline.ucRefs τ sig \ three) V : sProp 𝕄)
      = StableHlo.held (SparseCore.T d) (Pipeline.ucRefs τ sig \ three) ((step (F := F)).result V) := by
    refine StableHlo.held_congr _ fun b hb => ((step (F := F)).result_of_not_mem V ?_).symm
    intro hw
    have hw' : b ∈ ({ref main_v47} : Finset (DevRef τ sig)) := hw
    rw [Finset.mem_singleton.mp hw'] at hb
    exact (Finset.mem_sdiff.mp hb).2 (by decide)
  rw [StableHlo.held_sub_split _ three_sub V, StableHlo.held_sub_split _ three_sub ((step (F := F)).result V), three_held, three_held, ← hrest,
    step_tab, step_ix, step_res, deal V hV, deal V hV, cores, cores]
  iintro ⟨⟨Ht, Hh⟩, Hr⟩
  isplitl [Hh]; · iexact Hh
  iintro Hh
  isplitr [Hr]
  · isplitl [Ht] <;> iassumption
  iexact Hr

end Cert.Proof.Tiles1

end
-- ==== Proof.Tiles2.lean ====
/- SparseCore call 2: what each tile is handed and hands back, its run, and the call's effect on the TensorCore's buffers. -/
module

public import proofs.«01_k».proof.Proof.Launch

@[expose] public section

noncomputable section

namespace Cert.Proof.Tiles2

open Cert.KernelIdeal Cert.KernelIdeal.Gen
open Cert.Proof.Words Cert.Proof.Steps Cert.Proof.Body Cert.Proof.Split Cert.Proof.Rows Cert.Proof.Call Cert.Proof.Launch

open Idealize.ShloMosaic
open Idealize.ShloMosaic.SparseCore.Cfg (HIx ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 5) (Elt F) ℕ UU ℕ

abbrev tLoc (d : Dev nD) : Loc nD τ sig := (SparseCore.T d).loc main_v3
abbrev iLoc (d : Dev nD) : Loc nD τ sig := (SparseCore.T d).loc main_v52
abbrev rLoc (d : Dev nD) : Loc nD τ sig := (SparseCore.T d).loc main_v53

/-- Every index names a row of the table. -/
def InRange (V : Valuation τ sig (Elt F)) : Prop := ∀ x : S1x160000.Idx, BitVec.toNat (V (ref main_v52) x : BitVec 32) < 50000

/-- The rows gathered. -/
def rows (V : Valuation τ sig (Elt F)) : (ref main_v53).ty.Contents (Elt F) := gathered (α := Elt F .f32) (V (ref main_v3)) (V (ref main_v52))

/-- The call as one operation on the buffers: the rows gathered are put in the result. -/
def step : HloOp τ sig (Elt F) :=
  StableHlo.binary main_v3 main_v52 main_v53 (fun t w => (gathered (α := Elt F .f32) t w : (⟨S160000x128, .f32⟩ : BufTy).Contents (Elt F)))

variable [FloatOps F] (V : Valuation τ sig (Elt F)) (hV : InRange V)

/-- The kernel's operands on one tile. -/
def ops (d : Dev nD) (i : grid0.Coords) : Ops F d i where
  a2 := Memref.whole main_v3_scv
  a3 := Memref.whole main_v52_scv
  a4 := Memref.whole main_v53_scv
  ain := Memref.whole cc4_scoped0
  aout := Memref.whole cc4_scoped2
  vin := cc4_scoped1
  vout := cc4_scoped3
  vg := cc4_scoped4
  vg' := cc4_scoped5
  ft := V (ref main_v3)
  fi := V (ref main_v52)
  q := share i
  hidx _ _ := hV _

/-- What a tile is handed, and hands back, the result at contents `f`. -/
def hand (d : Dev nD) (i : grid0.Coords) (f : Buf (Elt F) (rLoc d)) : sProp 𝕄 := held d i (ops V hV d i) f

/-- Table, indices and result are the tiles' blocks and shares, and what is left of the table's share. -/
theorem deal (d : Dev nD) (f : Buf (Elt F) (rLoc d)) :
    (iprop((tLoc d ↦{fullShare} V (ref main_v3)) ∗ (iLoc d ↦{fullShare} V (ref main_v52)) ∗ rLoc d ↦{fullShare} f) : sProp 𝕄)
      = iprop((tLoc d ↦{Transfers.shareDrop fullShare 32} V (ref main_v3))
        ∗ bigSep Finset.univ fun c : Fin 2 => bigSep Finset.univ fun j : Fin 16 => hand V hV d (at' c j) f) := by
  have ht := table_split (F := F) (Ix := HIx 5) (Name := ℕ) (U := UU) (Lvl := ℕ) d (at' 0 0) (Memref.whole main_v3_scv) (V (ref main_v3))
  have hi := idx_split (F := F) (Ix := HIx 5) (Name := ℕ) (U := UU) (Lvl := ℕ) d (at' 0 0) (Memref.whole main_v52_scv) (Memref.isWhole_whole _) (V (ref main_v52))
  have hr := res_split (F := F) (Ix := HIx 5) (Name := ℕ) (U := UU) (Lvl := ℕ) d (at' 0 0) (Memref.whole main_v53_scv) (Memref.isWhole_whole _) f
  unfold hand held
  rw [show (tLoc d ↦{fullShare} V (ref main_v3) : sProp 𝕄) = _ from ht, show (iLoc d ↦{fullShare} V (ref main_v52) : sProp 𝕄) = _ from hi,
    show (rLoc d ↦{fullShare} f : sProp 𝕄) = _ from hr]
  simp only [bigSep_sep']
  exact BI.Entails.antisymm turn turn_back

/-! ## What the handshakes carry -/

theorem nCore_eq : (K (F := F)).nCore 2 = 2 := rfl
theorem nSub_eq : (K (F := F)).nSub 2 = 16 := rfl

/-- The coordinates of the call's tile. -/
abbrev co (c : Fin ((K (F := F)).nCore 2)) (i : Fin ((K (F := F)).nSub 2)) : grid0.Coords := at' (Fin.cast nCore_eq c) (Fin.cast nSub_eq i)

/-- The core's tiles' hands. -/
def hands (d : Dev nD) (c : Fin ((K (F := F)).nCore 2)) (f : Buf (Elt F) (rLoc d)) : sProp 𝕄 :=
  bigSep Finset.univ fun i : Fin ((K (F := F)).nSub 2) => hand V hV d (co c i) f

instance hand_storable (d : Dev nD) (i : grid0.Coords) (f : Buf (Elt F) (rLoc d)) : BI.Storable (upEmb : UEmb _ 𝕄) (hand V hV d i f) :=
  held_storable d i (ops V hV d i) f
instance hands_storable (d : Dev nD) (c : Fin ((K (F := F)).nCore 2)) (f : Buf (Elt F) (rLoc d)) : BI.Storable (upEmb : UEmb _ 𝕄) (hands V hV d c f) :=
  BI.Storable.bigSep _ _ _

/-! ## A tile's obligation -/

theorem kernel_eq : @cc4_gather_kernel F _ = @cc0_gather_kernel F _ := rfl

theorem vector_defs (c : Fin τ.nSC) (s : Fin τ.nSub) :
    defs₀ (F := F) (.scVector c s) 4 ()
      = SparseCore.onTile hcore0 hsub0 (fun c s => cc4_gather_kernel (at' c s) (Memref.whole main_v3_scv) (Memref.isWhole_whole _)
          (Memref.whole main_v52_scv) (Memref.isWhole_whole _) (Memref.whole main_v53_scv) (Memref.isWhole_whole _)
          (Memref.whole cc4_scoped0) (Memref.isWhole_whole _) cc4_scoped1 (Memref.whole cc4_scoped2) (Memref.isWhole_whole _) cc4_scoped3
          cc4_scoped4 cc4_scoped5) ⟨⟩ c s := rfl

theorem scratch_ne : (cc4_scoped0 : Ref sig .scVector) ≠ cc4_scoped2 := by decide
theorem cells_nodup : [semAt cc4_scoped1 0, semAt cc4_scoped1 1, semAt cc4_scoped3 0, semAt cc4_scoped3 1, cc4_scoped4.sem].Nodup := by decide
theorem cells_scoped : ∀ s ∈ [semAt cc4_scoped1 0, semAt cc4_scoped1 1, semAt cc4_scoped3 0, semAt cc4_scoped3 1, cc4_scoped4.sem],
    (SemLoc.dma s : SemLoc sig).isScoped .scVector = true := by decide
theorem scratch_own (d : Dev nD) (i : grid0.Coords) : (thr d i).2.devRef (cc4_scoped0 : Ref sig .scVector) ∈ SparseCore.Cfg.ownRefs (τ := τ) (thr d i).2 :=
  SparseCore.Cfg.mem_ownRefs_of_owner rfl
theorem scratch_own' (d : Dev nD) (i : grid0.Coords) : (thr d i).2.devRef (cc4_scoped2 : Ref sig .scVector) ∈ SparseCore.Cfg.ownRefs (τ := τ) (thr d i).2 :=
  SparseCore.Cfg.mem_ownRefs_of_owner rfl

set_option maxHeartbeats 1000000 in
theorem tile_task (d : Dev nD) (i : grid0.Coords) (f : Buf (Elt F) (rLoc d)) (O : CellTallies nD τ sig (HIx 5)) (W : Waits sig (HIx 5)) (hO : ∀ g, O g none = 0) :
    iprop(levAts (K (F := F)).L (K (F := F)).lev ∗ emp ∗ hand V hV d i f
        ∗ scopedBufs (thr d i) ∗ scopedSems0 (thr d i) ∗ owes (thr d i) O W)
      ⊢ (wp frame (wpE (defs₀ (F := F)) 𝒱₀ (thr d i) none) Set.univ
          (cc0_gather_kernel i (Memref.whole main_v3_scv) (Memref.isWhole_whole _)
            (Memref.whole main_v52_scv) (Memref.isWhole_whole _) (Memref.whole main_v53_scv) (Memref.isWhole_whole _)
            (Memref.whole cc4_scoped0) (Memref.isWhole_whole _) cc4_scoped1 (Memref.whole cc4_scoped2) (Memref.isWhole_whole _) cc4_scoped3
            cc4_scoped4 cc4_scoped5)
          fun _ => iprop(hand V hV d i (rows V) ∗ scopedBufs (thr d i) ∗ scopedSems0 (thr d i)
            ∗ ∃ W', ⌜∀ p ∈ W', p ∈ W ∨ p.2 = none⌝ ∗ owes (thr d i) O W') : sProp 𝕄) := by
  rw [(K (F := F)).scopedBufs_V facts d _ _, SparseCore.Cfg.scopedSems0_V (Val := Elt F) d _ _]
  unfold hand
  iintro ⟨#Hlv, -, Hh, Hb, Hs, HO⟩
  ihave Hmw := (show levAts (K (F := F)).L (K (F := F)).lev ⊢ (Transfers.MayWaits (thr d i) (none : HIx 5) O : sProp 𝕄) from
    (K (F := F)).mayWaits_none (thr := thr d i) hO) $$ Hlv
  iapply (wp_wand _ _ _) $$ [Hmw Hh Hb Hs HO]
  · iapply (tile_run (defs := defs₀ (F := F)) countersEmb 𝒱₀ none d i (none : HIx 5) (ops V hV d i) (Memref.isWhole_whole _) (Memref.isWhole_whole _)
      (Memref.isWhole_whole _) (Memref.isWhole_whole _) (Memref.isWhole_whole _)
      cells_nodup cells_scoped scratch_ne (scratch_own d i) (scratch_own' d i) f (rows V) rfl O W)
    isplitl [Hmw]; · iexact Hmw
    isplitl [Hh]; · iexact Hh
    isplitl [Hb]; · iexact Hb
    isplitl [Hs]; · iexact Hs
    iexact HO
  iintro %_ H; iexact H

attribute [local irreducible] cc0_gather_kernel in
set_option maxRecDepth 16384 in
set_option maxHeartbeats 1000000 in
/-- A tile's task: from its hand with the result at any contents to its hand with the rows gathered. -/
theorem tile_ends (d : Dev nD) (c : Fin ((K (F := F)).nCore 2)) (i : Fin ((K (F := F)).nSub 2)) (f : Buf (Elt F) (rLoc d))
    (O : CellTallies nD τ sig (HIx 5)) (W : Waits sig (HIx 5)) (hO : ∀ g, O g none = 0) (X : HIx 5 → Prop) :
    iprop(levAts (K (F := F)).L (K (F := F)).lev ∗ emp ∗ hand V hV d (co c i) f
        ∗ scopedBufs (SparseCore.V d ((K (F := F)).core 2 c) ((K (F := F)).sub 2 i)) ∗ scopedSems0 (SparseCore.V d ((K (F := F)).core 2 c) ((K (F := F)).sub 2 i))
        ∗ owes (SparseCore.V d ((K (F := F)).core 2 c) ((K (F := F)).sub 2 i)) O W)
      ⊢ (wp frame (wpE (D (F := F)) 𝒱 (SparseCore.V d ((K (F := F)).core 2 c) ((K (F := F)).sub 2 i)) (some v₀)) Set.univ
          (D (F := F) (.scVector ((K (F := F)).core 2 c) ((K (F := F)).sub 2 i)) ((K (F := F)).body 2) ((K (F := F)).args 2)) fun _ =>
          iprop(hand V hV d (co c i) (rows V) ∗ scopedBufs (SparseCore.V d ((K (F := F)).core 2 c) ((K (F := F)).sub 2 i))
            ∗ scopedSems0 (SparseCore.V d ((K (F := F)).core 2 c) ((K (F := F)).sub 2 i))
            ∗ ∃ W', ⌜∀ p ∈ W', p ∈ W ∨ p.2 = none ∨ X p.2⌝ ∗ owes (SparseCore.V d ((K (F := F)).core 2 c) ((K (F := F)).sub 2 i)) O W') : sProp 𝕄) := by
  have hci : ((K (F := F)).core 2 c).val < grid0.bound 0 ∧ ((K (F := F)).sub 2 i).val < grid0.bound 1 := ⟨c.isLt, i.isLt⟩
  change _ ⊢ wp _ _ _ (Pipeline.liftProg (defs₀ (F := F) (.scVector ((K (F := F)).core 2 c) ((K (F := F)).sub 2 i)) 4 ())) _
  refine BI.Entails.trans ?_ (Pipeline.wp_liftProg (D (F := F)) (Pipeline.defs_kernel pcfgs defs₀) 𝒱₀ _ Set.univ none _ _)
  rw [vector_defs, kernel_eq]; simp only [SparseCore.onTile, hci, and_self, ↓reduceDIte]
  exact (tile_task V hV d (at' ⟨_, hci.1⟩ ⟨_, hci.2⟩) f O W hO).trans (wp_mono frame _ _ fun _ => waits_own _)

/-! ## The call, between the TensorCore's operations -/

theorem cores (d : Dev nD) (f : Buf (Elt F) (rLoc d)) :
    (bigSep Finset.univ fun c : Fin ((K (F := F)).nCore 2) => hands V hV d c f : sProp 𝕄)
      = bigSep Finset.univ fun c : Fin 2 => bigSep Finset.univ fun j : Fin 16 => hand V hV d (at' c j) f := rfl

/-- The call's three buffers. -/
def three : Finset (DevRef τ sig) := {ref main_v3, ref main_v52, ref main_v53}

theorem three_sub : three ⊆ Pipeline.ucRefs τ sig := by decide

theorem three_held (d : Dev nD) (W : Valuation τ sig (Elt F)) :
    (StableHlo.held (SparseCore.T d) three W : sProp 𝕄)
      = iprop((tLoc d ↦{fullShare} W (ref main_v3)) ∗ (iLoc d ↦{fullShare} W (ref main_v52)) ∗ rLoc d ↦{fullShare} W (ref main_v53)) := by
  unfold StableHlo.held three
  rw [SparseCore.bigSep_insert' (by decide), SparseCore.bigSep_insert' (by decide), bigSep_singleton]

theorem step_tab : (step (F := F)).result V (ref main_v3) = V (ref main_v3) := StableHlo.binary_result_ne _ _ _ _ _ _ _ V (by decide)
theorem step_ix : (step (F := F)).result V (ref main_v52) = V (ref main_v52) := StableHlo.binary_result_ne _ _ _ _ _ _ _ V (by decide)
theorem step_res : (step (F := F)).result V (ref main_v53) = rows V := StableHlo.binary_result _ _ _ _ _ _ _ V

/-- The buffers held are the cores' hands and the rest; once the rows are in the hands, they are the buffers after the call. -/
theorem around (d : Dev nD) :
    (StableHlo.held (SparseCore.T d) (Pipeline.ucRefs τ sig) V : sProp 𝕄)
      ⊢ iprop((bigSep Finset.univ fun c : Fin ((K (F := F)).nCore 2) => hands V hV d c (V (ref main_v53)))
        ∗ ((bigSep Finset.univ fun c : Fin ((K (F := F)).nCore 2) => hands V hV d c (rows V))
          -∗ StableHlo.held (SparseCore.T d) (Pipeline.ucRefs τ sig) ((step (F := F)).result V))) := by
  have hrest : (StableHlo.held (SparseCore.T d) (Pipeline.ucRefs τ sig \ three) V : sProp 𝕄)
      = StableHlo.held (SparseCore.T d) (Pipeline.ucRefs τ sig \ three) ((step (F := F)).result V) := by
    refine StableHlo.held_congr _ fun b hb => ((step (F := F)).result_of_not_mem V ?_).symm
    intro hw
    have hw' : b ∈ ({ref main_v53} : Finset (DevRef τ sig)) := hw
    rw [Finset.mem_singleton.mp hw'] at hb
    exact (Finset.mem_sdiff.mp hb).2 (by decide)
  rw [StableHlo.held_sub_split _ three_sub V, StableHlo.held_sub_split _ three_sub ((step (F := F)).result V), three_held, three_held, ← hrest,
    step_tab, step_ix, step_res, deal V hV, deal V hV, cores, cores]
  iintro ⟨⟨Ht, Hh⟩, Hr⟩
  isplitl [Hh]; · iexact Hh
  iintro Hh
  isplitr [Hr]
  · isplitl [Ht] <;> iassumption
  iexact Hr

end Cert.Proof.Tiles2

end
-- ==== Proof.Tiles3.lean ====
/- SparseCore call 3: what each tile is handed and hands back, its run, and the call's effect on the TensorCore's buffers. -/
module

public import proofs.«01_k».proof.Proof.Launch

@[expose] public section

noncomputable section

namespace Cert.Proof.Tiles3

open Cert.KernelIdeal Cert.KernelIdeal.Gen
open Cert.Proof.Words Cert.Proof.Steps Cert.Proof.Body Cert.Proof.Split Cert.Proof.Rows Cert.Proof.Call Cert.Proof.Launch

open Idealize.ShloMosaic
open Idealize.ShloMosaic.SparseCore.Cfg (HIx ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 5) (Elt F) ℕ UU ℕ

abbrev tLoc (d : Dev nD) : Loc nD τ sig := (SparseCore.T d).loc main_v3
abbrev iLoc (d : Dev nD) : Loc nD τ sig := (SparseCore.T d).loc main_v58
abbrev rLoc (d : Dev nD) : Loc nD τ sig := (SparseCore.T d).loc main_v59

/-- Every index names a row of the table. -/
def InRange (V : Valuation τ sig (Elt F)) : Prop := ∀ x : S1x160000.Idx, BitVec.toNat (V (ref main_v58) x : BitVec 32) < 50000

/-- The rows gathered. -/
def rows (V : Valuation τ sig (Elt F)) : (ref main_v59).ty.Contents (Elt F) := gathered (α := Elt F .f32) (V (ref main_v3)) (V (ref main_v58))

/-- The call as one operation on the buffers: the rows gathered are put in the result. -/
def step : HloOp τ sig (Elt F) :=
  StableHlo.binary main_v3 main_v58 main_v59 (fun t w => (gathered (α := Elt F .f32) t w : (⟨S160000x128, .f32⟩ : BufTy).Contents (Elt F)))

variable [FloatOps F] (V : Valuation τ sig (Elt F)) (hV : InRange V)

/-- The kernel's operands on one tile. -/
def ops (d : Dev nD) (i : grid0.Coords) : Ops F d i where
  a2 := Memref.whole main_v3_scv
  a3 := Memref.whole main_v58_scv
  a4 := Memref.whole main_v59_scv
  ain := Memref.whole cc6_scoped0
  aout := Memref.whole cc6_scoped2
  vin := cc6_scoped1
  vout := cc6_scoped3
  vg := cc6_scoped4
  vg' := cc6_scoped5
  ft := V (ref main_v3)
  fi := V (ref main_v58)
  q := share i
  hidx _ _ := hV _

/-- What a tile is handed, and hands back, the result at contents `f`. -/
def hand (d : Dev nD) (i : grid0.Coords) (f : Buf (Elt F) (rLoc d)) : sProp 𝕄 := held d i (ops V hV d i) f

/-- Table, indices and result are the tiles' blocks and shares, and what is left of the table's share. -/
theorem deal (d : Dev nD) (f : Buf (Elt F) (rLoc d)) :
    (iprop((tLoc d ↦{fullShare} V (ref main_v3)) ∗ (iLoc d ↦{fullShare} V (ref main_v58)) ∗ rLoc d ↦{fullShare} f) : sProp 𝕄)
      = iprop((tLoc d ↦{Transfers.shareDrop fullShare 32} V (ref main_v3))
        ∗ bigSep Finset.univ fun c : Fin 2 => bigSep Finset.univ fun j : Fin 16 => hand V hV d (at' c j) f) := by
  have ht := table_split (F := F) (Ix := HIx 5) (Name := ℕ) (U := UU) (Lvl := ℕ) d (at' 0 0) (Memref.whole main_v3_scv) (V (ref main_v3))
  have hi := idx_split (F := F) (Ix := HIx 5) (Name := ℕ) (U := UU) (Lvl := ℕ) d (at' 0 0) (Memref.whole main_v58_scv) (Memref.isWhole_whole _) (V (ref main_v58))
  have hr := res_split (F := F) (Ix := HIx 5) (Name := ℕ) (U := UU) (Lvl := ℕ) d (at' 0 0) (Memref.whole main_v59_scv) (Memref.isWhole_whole _) f
  unfold hand held
  rw [show (tLoc d ↦{fullShare} V (ref main_v3) : sProp 𝕄) = _ from ht, show (iLoc d ↦{fullShare} V (ref main_v58) : sProp 𝕄) = _ from hi,
    show (rLoc d ↦{fullShare} f : sProp 𝕄) = _ from hr]
  simp only [bigSep_sep']
  exact BI.Entails.antisymm turn turn_back

/-! ## What the handshakes carry -/

theorem nCore_eq : (K (F := F)).nCore 3 = 2 := rfl
theorem nSub_eq : (K (F := F)).nSub 3 = 16 := rfl

/-- The coordinates of the call's tile. -/
abbrev co (c : Fin ((K (F := F)).nCore 3)) (i : Fin ((K (F := F)).nSub 3)) : grid0.Coords := at' (Fin.cast nCore_eq c) (Fin.cast nSub_eq i)

/-- The core's tiles' hands. -/
def hands (d : Dev nD) (c : Fin ((K (F := F)).nCore 3)) (f : Buf (Elt F) (rLoc d)) : sProp 𝕄 :=
  bigSep Finset.univ fun i : Fin ((K (F := F)).nSub 3) => hand V hV d (co c i) f

instance hand_storable (d : Dev nD) (i : grid0.Coords) (f : Buf (Elt F) (rLoc d)) : BI.Storable (upEmb : UEmb _ 𝕄) (hand V hV d i f) :=
  held_storable d i (ops V hV d i) f
instance hands_storable (d : Dev nD) (c : Fin ((K (F := F)).nCore 3)) (f : Buf (Elt F) (rLoc d)) : BI.Storable (upEmb : UEmb _ 𝕄) (hands V hV d c f) :=
  BI.Storable.bigSep _ _ _

/-! ## A tile's obligation -/

theorem kernel_eq : @cc6_gather_kernel F _ = @cc0_gather_kernel F _ := rfl

theorem vector_defs (c : Fin τ.nSC) (s : Fin τ.nSub) :
    defs₀ (F := F) (.scVector c s) 6 ()
      = SparseCore.onTile hcore0 hsub0 (fun c s => cc6_gather_kernel (at' c s) (Memref.whole main_v3_scv) (Memref.isWhole_whole _)
          (Memref.whole main_v58_scv) (Memref.isWhole_whole _) (Memref.whole main_v59_scv) (Memref.isWhole_whole _)
          (Memref.whole cc6_scoped0) (Memref.isWhole_whole _) cc6_scoped1 (Memref.whole cc6_scoped2) (Memref.isWhole_whole _) cc6_scoped3
          cc6_scoped4 cc6_scoped5) ⟨⟩ c s := rfl

theorem scratch_ne : (cc6_scoped0 : Ref sig .scVector) ≠ cc6_scoped2 := by decide
theorem cells_nodup : [semAt cc6_scoped1 0, semAt cc6_scoped1 1, semAt cc6_scoped3 0, semAt cc6_scoped3 1, cc6_scoped4.sem].Nodup := by decide
theorem cells_scoped : ∀ s ∈ [semAt cc6_scoped1 0, semAt cc6_scoped1 1, semAt cc6_scoped3 0, semAt cc6_scoped3 1, cc6_scoped4.sem],
    (SemLoc.dma s : SemLoc sig).isScoped .scVector = true := by decide
theorem scratch_own (d : Dev nD) (i : grid0.Coords) : (thr d i).2.devRef (cc6_scoped0 : Ref sig .scVector) ∈ SparseCore.Cfg.ownRefs (τ := τ) (thr d i).2 :=
  SparseCore.Cfg.mem_ownRefs_of_owner rfl
theorem scratch_own' (d : Dev nD) (i : grid0.Coords) : (thr d i).2.devRef (cc6_scoped2 : Ref sig .scVector) ∈ SparseCore.Cfg.ownRefs (τ := τ) (thr d i).2 :=
  SparseCore.Cfg.mem_ownRefs_of_owner rfl

set_option maxHeartbeats 1000000 in
theorem tile_task (d : Dev nD) (i : grid0.Coords) (f : Buf (Elt F) (rLoc d)) (O : CellTallies nD τ sig (HIx 5)) (W : Waits sig (HIx 5)) (hO : ∀ g, O g none = 0) :
    iprop(levAts (K (F := F)).L (K (F := F)).lev ∗ emp ∗ hand V hV d i f
        ∗ scopedBufs (thr d i) ∗ scopedSems0 (thr d i) ∗ owes (thr d i) O W)
      ⊢ (wp frame (wpE (defs₀ (F := F)) 𝒱₀ (thr d i) none) Set.univ
          (cc0_gather_kernel i (Memref.whole main_v3_scv) (Memref.isWhole_whole _)
            (Memref.whole main_v58_scv) (Memref.isWhole_whole _) (Memref.whole main_v59_scv) (Memref.isWhole_whole _)
            (Memref.whole cc6_scoped0) (Memref.isWhole_whole _) cc6_scoped1 (Memref.whole cc6_scoped2) (Memref.isWhole_whole _) cc6_scoped3
            cc6_scoped4 cc6_scoped5)
          fun _ => iprop(hand V hV d i (rows V) ∗ scopedBufs (thr d i) ∗ scopedSems0 (thr d i)
            ∗ ∃ W', ⌜∀ p ∈ W', p ∈ W ∨ p.2 = none⌝ ∗ owes (thr d i) O W') : sProp 𝕄) := by
  rw [(K (F := F)).scopedBufs_V facts d _ _, SparseCore.Cfg.scopedSems0_V (Val := Elt F) d _ _]
  unfold hand
  iintro ⟨#Hlv, -, Hh, Hb, Hs, HO⟩
  ihave Hmw := (show levAts (K (F := F)).L (K (F := F)).lev ⊢ (Transfers.MayWaits (thr d i) (none : HIx 5) O : sProp 𝕄) from
    (K (F := F)).mayWaits_none (thr := thr d i) hO) $$ Hlv
  iapply (wp_wand _ _ _) $$ [Hmw Hh Hb Hs HO]
  · iapply (tile_run (defs := defs₀ (F := F)) countersEmb 𝒱₀ none d i (none : HIx 5) (ops V hV d i) (Memref.isWhole_whole _) (Memref.isWhole_whole _)
      (Memref.isWhole_whole _) (Memref.isWhole_whole _) (Memref.isWhole_whole _)
      cells_nodup cells_scoped scratch_ne (scratch_own d i) (scratch_own' d i) f (rows V) rfl O W)
    isplitl [Hmw]; · iexact Hmw
    isplitl [Hh]; · iexact Hh
    isplitl [Hb]; · iexact Hb
    isplitl [Hs]; · iexact Hs
    iexact HO
  iintro %_ H; iexact H

attribute [local irreducible] cc0_gather_kernel in
set_option maxRecDepth 16384 in
set_option maxHeartbeats 1000000 in
/-- A tile's task: from its hand with the result at any contents to its hand with the rows gathered. -/
theorem tile_ends (d : Dev nD) (c : Fin ((K (F := F)).nCore 3)) (i : Fin ((K (F := F)).nSub 3)) (f : Buf (Elt F) (rLoc d))
    (O : CellTallies nD τ sig (HIx 5)) (W : Waits sig (HIx 5)) (hO : ∀ g, O g none = 0) (X : HIx 5 → Prop) :
    iprop(levAts (K (F := F)).L (K (F := F)).lev ∗ emp ∗ hand V hV d (co c i) f
        ∗ scopedBufs (SparseCore.V d ((K (F := F)).core 3 c) ((K (F := F)).sub 3 i)) ∗ scopedSems0 (SparseCore.V d ((K (F := F)).core 3 c) ((K (F := F)).sub 3 i))
        ∗ owes (SparseCore.V d ((K (F := F)).core 3 c) ((K (F := F)).sub 3 i)) O W)
      ⊢ (wp frame (wpE (D (F := F)) 𝒱 (SparseCore.V d ((K (F := F)).core 3 c) ((K (F := F)).sub 3 i)) (some v₀)) Set.univ
          (D (F := F) (.scVector ((K (F := F)).core 3 c) ((K (F := F)).sub 3 i)) ((K (F := F)).body 3) ((K (F := F)).args 3)) fun _ =>
          iprop(hand V hV d (co c i) (rows V) ∗ scopedBufs (SparseCore.V d ((K (F := F)).core 3 c) ((K (F := F)).sub 3 i))
            ∗ scopedSems0 (SparseCore.V d ((K (F := F)).core 3 c) ((K (F := F)).sub 3 i))
            ∗ ∃ W', ⌜∀ p ∈ W', p ∈ W ∨ p.2 = none ∨ X p.2⌝ ∗ owes (SparseCore.V d ((K (F := F)).core 3 c) ((K (F := F)).sub 3 i)) O W') : sProp 𝕄) := by
  have hci : ((K (F := F)).core 3 c).val < grid0.bound 0 ∧ ((K (F := F)).sub 3 i).val < grid0.bound 1 := ⟨c.isLt, i.isLt⟩
  change _ ⊢ wp _ _ _ (Pipeline.liftProg (defs₀ (F := F) (.scVector ((K (F := F)).core 3 c) ((K (F := F)).sub 3 i)) 6 ())) _
  refine BI.Entails.trans ?_ (Pipeline.wp_liftProg (D (F := F)) (Pipeline.defs_kernel pcfgs defs₀) 𝒱₀ _ Set.univ none _ _)
  rw [vector_defs, kernel_eq]; simp only [SparseCore.onTile, hci, and_self, ↓reduceDIte]
  exact (tile_task V hV d (at' ⟨_, hci.1⟩ ⟨_, hci.2⟩) f O W hO).trans (wp_mono frame _ _ fun _ => waits_own _)

/-! ## The call, between the TensorCore's operations -/

theorem cores (d : Dev nD) (f : Buf (Elt F) (rLoc d)) :
    (bigSep Finset.univ fun c : Fin ((K (F := F)).nCore 3) => hands V hV d c f : sProp 𝕄)
      = bigSep Finset.univ fun c : Fin 2 => bigSep Finset.univ fun j : Fin 16 => hand V hV d (at' c j) f := rfl

/-- The call's three buffers. -/
def three : Finset (DevRef τ sig) := {ref main_v3, ref main_v58, ref main_v59}

theorem three_sub : three ⊆ Pipeline.ucRefs τ sig := by decide

theorem three_held (d : Dev nD) (W : Valuation τ sig (Elt F)) :
    (StableHlo.held (SparseCore.T d) three W : sProp 𝕄)
      = iprop((tLoc d ↦{fullShare} W (ref main_v3)) ∗ (iLoc d ↦{fullShare} W (ref main_v58)) ∗ rLoc d ↦{fullShare} W (ref main_v59)) := by
  unfold StableHlo.held three
  rw [SparseCore.bigSep_insert' (by decide), SparseCore.bigSep_insert' (by decide), bigSep_singleton]

theorem step_tab : (step (F := F)).result V (ref main_v3) = V (ref main_v3) := StableHlo.binary_result_ne _ _ _ _ _ _ _ V (by decide)
theorem step_ix : (step (F := F)).result V (ref main_v58) = V (ref main_v58) := StableHlo.binary_result_ne _ _ _ _ _ _ _ V (by decide)
theorem step_res : (step (F := F)).result V (ref main_v59) = rows V := StableHlo.binary_result _ _ _ _ _ _ _ V

/-- The buffers held are the cores' hands and the rest; once the rows are in the hands, they are the buffers after the call. -/
theorem around (d : Dev nD) :
    (StableHlo.held (SparseCore.T d) (Pipeline.ucRefs τ sig) V : sProp 𝕄)
      ⊢ iprop((bigSep Finset.univ fun c : Fin ((K (F := F)).nCore 3) => hands V hV d c (V (ref main_v59)))
        ∗ ((bigSep Finset.univ fun c : Fin ((K (F := F)).nCore 3) => hands V hV d c (rows V))
          -∗ StableHlo.held (SparseCore.T d) (Pipeline.ucRefs τ sig) ((step (F := F)).result V))) := by
  have hrest : (StableHlo.held (SparseCore.T d) (Pipeline.ucRefs τ sig \ three) V : sProp 𝕄)
      = StableHlo.held (SparseCore.T d) (Pipeline.ucRefs τ sig \ three) ((step (F := F)).result V) := by
    refine StableHlo.held_congr _ fun b hb => ((step (F := F)).result_of_not_mem V ?_).symm
    intro hw
    have hw' : b ∈ ({ref main_v59} : Finset (DevRef τ sig)) := hw
    rw [Finset.mem_singleton.mp hw'] at hb
    exact (Finset.mem_sdiff.mp hb).2 (by decide)
  rw [StableHlo.held_sub_split _ three_sub V, StableHlo.held_sub_split _ three_sub ((step (F := F)).result V), three_held, three_held, ← hrest,
    step_tab, step_ix, step_res, deal V hV, deal V hV, cores, cores]
  iintro ⟨⟨Ht, Hh⟩, Hr⟩
  isplitl [Hh]; · iexact Hh
  iintro Hh
  isplitr [Hr]
  · isplitl [Ht] <;> iassumption
  iexact Hr

end Cert.Proof.Tiles3

end
-- ==== Proof.Tiles4.lean ====
/- SparseCore call 4: what each tile is handed and hands back, its run, and the call's effect on the TensorCore's buffers. -/
module

public import proofs.«01_k».proof.Proof.Launch

@[expose] public section

noncomputable section

namespace Cert.Proof.Tiles4

open Cert.KernelIdeal Cert.KernelIdeal.Gen
open Cert.Proof.Words Cert.Proof.Steps Cert.Proof.Body Cert.Proof.Split Cert.Proof.Rows Cert.Proof.Call Cert.Proof.Launch

open Idealize.ShloMosaic
open Idealize.ShloMosaic.SparseCore.Cfg (HIx ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 5) (Elt F) ℕ UU ℕ

abbrev tLoc (d : Dev nD) : Loc nD τ sig := (SparseCore.T d).loc main_v3
abbrev iLoc (d : Dev nD) : Loc nD τ sig := (SparseCore.T d).loc main_v64
abbrev rLoc (d : Dev nD) : Loc nD τ sig := (SparseCore.T d).loc main_v65

/-- Every index names a row of the table. -/
def InRange (V : Valuation τ sig (Elt F)) : Prop := ∀ x : S1x160000.Idx, BitVec.toNat (V (ref main_v64) x : BitVec 32) < 50000

/-- The rows gathered. -/
def rows (V : Valuation τ sig (Elt F)) : (ref main_v65).ty.Contents (Elt F) := gathered (α := Elt F .f32) (V (ref main_v3)) (V (ref main_v64))

/-- The call as one operation on the buffers: the rows gathered are put in the result. -/
def step : HloOp τ sig (Elt F) :=
  StableHlo.binary main_v3 main_v64 main_v65 (fun t w => (gathered (α := Elt F .f32) t w : (⟨S160000x128, .f32⟩ : BufTy).Contents (Elt F)))

variable [FloatOps F] (V : Valuation τ sig (Elt F)) (hV : InRange V)

/-- The kernel's operands on one tile. -/
def ops (d : Dev nD) (i : grid0.Coords) : Ops F d i where
  a2 := Memref.whole main_v3_scv
  a3 := Memref.whole main_v64_scv
  a4 := Memref.whole main_v65_scv
  ain := Memref.whole cc8_scoped0
  aout := Memref.whole cc8_scoped2
  vin := cc8_scoped1
  vout := cc8_scoped3
  vg := cc8_scoped4
  vg' := cc8_scoped5
  ft := V (ref main_v3)
  fi := V (ref main_v64)
  q := share i
  hidx _ _ := hV _

/-- What a tile is handed, and hands back, the result at contents `f`. -/
def hand (d : Dev nD) (i : grid0.Coords) (f : Buf (Elt F) (rLoc d)) : sProp 𝕄 := held d i (ops V hV d i) f

/-- Table, indices and result are the tiles' blocks and shares, and what is left of the table's share. -/
theorem deal (d : Dev nD) (f : Buf (Elt F) (rLoc d)) :
    (iprop((tLoc d ↦{fullShare} V (ref main_v3)) ∗ (iLoc d ↦{fullShare} V (ref main_v64)) ∗ rLoc d ↦{fullShare} f) : sProp 𝕄)
      = iprop((tLoc d ↦{Transfers.shareDrop fullShare 32} V (ref main_v3))
        ∗ bigSep Finset.univ fun c : Fin 2 => bigSep Finset.univ fun j : Fin 16 => hand V hV d (at' c j) f) := by
  have ht := table_split (F := F) (Ix := HIx 5) (Name := ℕ) (U := UU) (Lvl := ℕ) d (at' 0 0) (Memref.whole main_v3_scv) (V (ref main_v3))
  have hi := idx_split (F := F) (Ix := HIx 5) (Name := ℕ) (U := UU) (Lvl := ℕ) d (at' 0 0) (Memref.whole main_v64_scv) (Memref.isWhole_whole _) (V (ref main_v64))
  have hr := res_split (F := F) (Ix := HIx 5) (Name := ℕ) (U := UU) (Lvl := ℕ) d (at' 0 0) (Memref.whole main_v65_scv) (Memref.isWhole_whole _) f
  unfold hand held
  rw [show (tLoc d ↦{fullShare} V (ref main_v3) : sProp 𝕄) = _ from ht, show (iLoc d ↦{fullShare} V (ref main_v64) : sProp 𝕄) = _ from hi,
    show (rLoc d ↦{fullShare} f : sProp 𝕄) = _ from hr]
  simp only [bigSep_sep']
  exact BI.Entails.antisymm turn turn_back

/-! ## What the handshakes carry -/

theorem nCore_eq : (K (F := F)).nCore 4 = 2 := rfl
theorem nSub_eq : (K (F := F)).nSub 4 = 16 := rfl

/-- The coordinates of the call's tile. -/
abbrev co (c : Fin ((K (F := F)).nCore 4)) (i : Fin ((K (F := F)).nSub 4)) : grid0.Coords := at' (Fin.cast nCore_eq c) (Fin.cast nSub_eq i)

/-- The core's tiles' hands. -/
def hands (d : Dev nD) (c : Fin ((K (F := F)).nCore 4)) (f : Buf (Elt F) (rLoc d)) : sProp 𝕄 :=
  bigSep Finset.univ fun i : Fin ((K (F := F)).nSub 4) => hand V hV d (co c i) f

instance hand_storable (d : Dev nD) (i : grid0.Coords) (f : Buf (Elt F) (rLoc d)) : BI.Storable (upEmb : UEmb _ 𝕄) (hand V hV d i f) :=
  held_storable d i (ops V hV d i) f
instance hands_storable (d : Dev nD) (c : Fin ((K (F := F)).nCore 4)) (f : Buf (Elt F) (rLoc d)) : BI.Storable (upEmb : UEmb _ 𝕄) (hands V hV d c f) :=
  BI.Storable.bigSep _ _ _

/-! ## A tile's obligation -/

theorem kernel_eq : @cc8_gather_kernel F _ = @cc0_gather_kernel F _ := rfl

theorem vector_defs (c : Fin τ.nSC) (s : Fin τ.nSub) :
    defs₀ (F := F) (.scVector c s) 8 ()
      = SparseCore.onTile hcore0 hsub0 (fun c s => cc8_gather_kernel (at' c s) (Memref.whole main_v3_scv) (Memref.isWhole_whole _)
          (Memref.whole main_v64_scv) (Memref.isWhole_whole _) (Memref.whole main_v65_scv) (Memref.isWhole_whole _)
          (Memref.whole cc8_scoped0) (Memref.isWhole_whole _) cc8_scoped1 (Memref.whole cc8_scoped2) (Memref.isWhole_whole _) cc8_scoped3
          cc8_scoped4 cc8_scoped5) ⟨⟩ c s := rfl

theorem scratch_ne : (cc8_scoped0 : Ref sig .scVector) ≠ cc8_scoped2 := by decide
theorem cells_nodup : [semAt cc8_scoped1 0, semAt cc8_scoped1 1, semAt cc8_scoped3 0, semAt cc8_scoped3 1, cc8_scoped4.sem].Nodup := by decide
theorem cells_scoped : ∀ s ∈ [semAt cc8_scoped1 0, semAt cc8_scoped1 1, semAt cc8_scoped3 0, semAt cc8_scoped3 1, cc8_scoped4.sem],
    (SemLoc.dma s : SemLoc sig).isScoped .scVector = true := by decide
theorem scratch_own (d : Dev nD) (i : grid0.Coords) : (thr d i).2.devRef (cc8_scoped0 : Ref sig .scVector) ∈ SparseCore.Cfg.ownRefs (τ := τ) (thr d i).2 :=
  SparseCore.Cfg.mem_ownRefs_of_owner rfl
theorem scratch_own' (d : Dev nD) (i : grid0.Coords) : (thr d i).2.devRef (cc8_scoped2 : Ref sig .scVector) ∈ SparseCore.Cfg.ownRefs (τ := τ) (thr d i).2 :=
  SparseCore.Cfg.mem_ownRefs_of_owner rfl

set_option maxHeartbeats 1000000 in
theorem tile_task (d : Dev nD) (i : grid0.Coords) (f : Buf (Elt F) (rLoc d)) (O : CellTallies nD τ sig (HIx 5)) (W : Waits sig (HIx 5)) (hO : ∀ g, O g none = 0) :
    iprop(levAts (K (F := F)).L (K (F := F)).lev ∗ emp ∗ hand V hV d i f
        ∗ scopedBufs (thr d i) ∗ scopedSems0 (thr d i) ∗ owes (thr d i) O W)
      ⊢ (wp frame (wpE (defs₀ (F := F)) 𝒱₀ (thr d i) none) Set.univ
          (cc0_gather_kernel i (Memref.whole main_v3_scv) (Memref.isWhole_whole _)
            (Memref.whole main_v64_scv) (Memref.isWhole_whole _) (Memref.whole main_v65_scv) (Memref.isWhole_whole _)
            (Memref.whole cc8_scoped0) (Memref.isWhole_whole _) cc8_scoped1 (Memref.whole cc8_scoped2) (Memref.isWhole_whole _) cc8_scoped3
            cc8_scoped4 cc8_scoped5)
          fun _ => iprop(hand V hV d i (rows V) ∗ scopedBufs (thr d i) ∗ scopedSems0 (thr d i)
            ∗ ∃ W', ⌜∀ p ∈ W', p ∈ W ∨ p.2 = none⌝ ∗ owes (thr d i) O W') : sProp 𝕄) := by
  rw [(K (F := F)).scopedBufs_V facts d _ _, SparseCore.Cfg.scopedSems0_V (Val := Elt F) d _ _]
  unfold hand
  iintro ⟨#Hlv, -, Hh, Hb, Hs, HO⟩
  ihave Hmw := (show levAts (K (F := F)).L (K (F := F)).lev ⊢ (Transfers.MayWaits (thr d i) (none : HIx 5) O : sProp 𝕄) from
    (K (F := F)).mayWaits_none (thr := thr d i) hO) $$ Hlv
  iapply (wp_wand _ _ _) $$ [Hmw Hh Hb Hs HO]
  · iapply (tile_run (defs := defs₀ (F := F)) countersEmb 𝒱₀ none d i (none : HIx 5) (ops V hV d i) (Memref.isWhole_whole _) (Memref.isWhole_whole _)
      (Memref.isWhole_whole _) (Memref.isWhole_whole _) (Memref.isWhole_whole _)
      cells_nodup cells_scoped scratch_ne (scratch_own d i) (scratch_own' d i) f (rows V) rfl O W)
    isplitl [Hmw]; · iexact Hmw
    isplitl [Hh]; · iexact Hh
    isplitl [Hb]; · iexact Hb
    isplitl [Hs]; · iexact Hs
    iexact HO
  iintro %_ H; iexact H

attribute [local irreducible] cc0_gather_kernel in
set_option maxRecDepth 16384 in
set_option maxHeartbeats 1000000 in
/-- A tile's task: from its hand with the result at any contents to its hand with the rows gathered. -/
theorem tile_ends (d : Dev nD) (c : Fin ((K (F := F)).nCore 4)) (i : Fin ((K (F := F)).nSub 4)) (f : Buf (Elt F) (rLoc d))
    (O : CellTallies nD τ sig (HIx 5)) (W : Waits sig (HIx 5)) (hO : ∀ g, O g none = 0) (X : HIx 5 → Prop) :
    iprop(levAts (K (F := F)).L (K (F := F)).lev ∗ emp ∗ hand V hV d (co c i) f
        ∗ scopedBufs (SparseCore.V d ((K (F := F)).core 4 c) ((K (F := F)).sub 4 i)) ∗ scopedSems0 (SparseCore.V d ((K (F := F)).core 4 c) ((K (F := F)).sub 4 i))
        ∗ owes (SparseCore.V d ((K (F := F)).core 4 c) ((K (F := F)).sub 4 i)) O W)
      ⊢ (wp frame (wpE (D (F := F)) 𝒱 (SparseCore.V d ((K (F := F)).core 4 c) ((K (F := F)).sub 4 i)) (some v₀)) Set.univ
          (D (F := F) (.scVector ((K (F := F)).core 4 c) ((K (F := F)).sub 4 i)) ((K (F := F)).body 4) ((K (F := F)).args 4)) fun _ =>
          iprop(hand V hV d (co c i) (rows V) ∗ scopedBufs (SparseCore.V d ((K (F := F)).core 4 c) ((K (F := F)).sub 4 i))
            ∗ scopedSems0 (SparseCore.V d ((K (F := F)).core 4 c) ((K (F := F)).sub 4 i))
            ∗ ∃ W', ⌜∀ p ∈ W', p ∈ W ∨ p.2 = none ∨ X p.2⌝ ∗ owes (SparseCore.V d ((K (F := F)).core 4 c) ((K (F := F)).sub 4 i)) O W') : sProp 𝕄) := by
  have hci : ((K (F := F)).core 4 c).val < grid0.bound 0 ∧ ((K (F := F)).sub 4 i).val < grid0.bound 1 := ⟨c.isLt, i.isLt⟩
  change _ ⊢ wp _ _ _ (Pipeline.liftProg (defs₀ (F := F) (.scVector ((K (F := F)).core 4 c) ((K (F := F)).sub 4 i)) 8 ())) _
  refine BI.Entails.trans ?_ (Pipeline.wp_liftProg (D (F := F)) (Pipeline.defs_kernel pcfgs defs₀) 𝒱₀ _ Set.univ none _ _)
  rw [vector_defs, kernel_eq]; simp only [SparseCore.onTile, hci, and_self, ↓reduceDIte]
  exact (tile_task V hV d (at' ⟨_, hci.1⟩ ⟨_, hci.2⟩) f O W hO).trans (wp_mono frame _ _ fun _ => waits_own _)

/-! ## The call, between the TensorCore's operations -/

theorem cores (d : Dev nD) (f : Buf (Elt F) (rLoc d)) :
    (bigSep Finset.univ fun c : Fin ((K (F := F)).nCore 4) => hands V hV d c f : sProp 𝕄)
      = bigSep Finset.univ fun c : Fin 2 => bigSep Finset.univ fun j : Fin 16 => hand V hV d (at' c j) f := rfl

/-- The call's three buffers. -/
def three : Finset (DevRef τ sig) := {ref main_v3, ref main_v64, ref main_v65}

theorem three_sub : three ⊆ Pipeline.ucRefs τ sig := by decide

theorem three_held (d : Dev nD) (W : Valuation τ sig (Elt F)) :
    (StableHlo.held (SparseCore.T d) three W : sProp 𝕄)
      = iprop((tLoc d ↦{fullShare} W (ref main_v3)) ∗ (iLoc d ↦{fullShare} W (ref main_v64)) ∗ rLoc d ↦{fullShare} W (ref main_v65)) := by
  unfold StableHlo.held three
  rw [SparseCore.bigSep_insert' (by decide), SparseCore.bigSep_insert' (by decide), bigSep_singleton]

theorem step_tab : (step (F := F)).result V (ref main_v3) = V (ref main_v3) := StableHlo.binary_result_ne _ _ _ _ _ _ _ V (by decide)
theorem step_ix : (step (F := F)).result V (ref main_v64) = V (ref main_v64) := StableHlo.binary_result_ne _ _ _ _ _ _ _ V (by decide)
theorem step_res : (step (F := F)).result V (ref main_v65) = rows V := StableHlo.binary_result _ _ _ _ _ _ _ V

/-- The buffers held are the cores' hands and the rest; once the rows are in the hands, they are the buffers after the call. -/
theorem around (d : Dev nD) :
    (StableHlo.held (SparseCore.T d) (Pipeline.ucRefs τ sig) V : sProp 𝕄)
      ⊢ iprop((bigSep Finset.univ fun c : Fin ((K (F := F)).nCore 4) => hands V hV d c (V (ref main_v65)))
        ∗ ((bigSep Finset.univ fun c : Fin ((K (F := F)).nCore 4) => hands V hV d c (rows V))
          -∗ StableHlo.held (SparseCore.T d) (Pipeline.ucRefs τ sig) ((step (F := F)).result V))) := by
  have hrest : (StableHlo.held (SparseCore.T d) (Pipeline.ucRefs τ sig \ three) V : sProp 𝕄)
      = StableHlo.held (SparseCore.T d) (Pipeline.ucRefs τ sig \ three) ((step (F := F)).result V) := by
    refine StableHlo.held_congr _ fun b hb => ((step (F := F)).result_of_not_mem V ?_).symm
    intro hw
    have hw' : b ∈ ({ref main_v65} : Finset (DevRef τ sig)) := hw
    rw [Finset.mem_singleton.mp hw'] at hb
    exact (Finset.mem_sdiff.mp hb).2 (by decide)
  rw [StableHlo.held_sub_split _ three_sub V, StableHlo.held_sub_split _ three_sub ((step (F := F)).result V), three_held, three_held, ← hrest,
    step_tab, step_ix, step_res, deal V hV, deal V hV, cores, cores]
  iintro ⟨⟨Ht, Hh⟩, Hr⟩
  isplitl [Hh]; · iexact Hh
  iintro Hh
  isplitr [Hr]
  · isplitl [Ht] <;> iassumption
  iexact Hr

end Cert.Proof.Tiles4

end
-- ==== Proof.TcBody.lean ====
/- The body of the TensorCore's calls: what it stores, spelt out over the blocks it reads, and its triple. -/
module

public import proofs.«01_k».proof.Proof.Launch
public import proofs.«01_k».proof.Proof.Gen.KernelIdeal.Skeleton
public import Idealize.ShloMosaic.Lib.Pipeline.FrameBody
public import Idealize.ShloMosaic.Lib.Tactic

@[expose] public section

set_option maxRecDepth 16384

noncomputable section

namespace Cert.Proof.TcBody

open Cert.KernelIdeal Cert.KernelIdeal.Gen
open Cert.Proof.Launch

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 5) (Elt F) ℕ UU ℕ

/-! ## What the body computes -/

theorem inb_slab (h : ℕ) (hh : h < 16) : ∀ a, (![h, 0, 0] : Fin 3 → ℕ) a + S1x400x128.size a ≤ S16x400x128.size a := by
  intro a; fin_cases a
  · show h + 1 ≤ 16; omega
  · show 0 + 400 ≤ 400; omega
  · show 0 + 128 ≤ 128; omega

/-- The gathered rows of neighbor `h` of each query of the block. -/
def slab (x0 : Vec F S16x400x128 .f32) (h : ℕ) (hh : h < 16) : FVec F S400x128 .f32 :=
  shapeCast S400x128 (View.ld x0 (Rect.unit (s := S16x400x128) ![h, 0, 0] S1x400x128.size (inb_slab h hh))) shapeCasts_S1x400x128_S400x128

abbrev r_q : Rect S400x16 := Rect.unit (s := S400x16) ![0, 0] S400x16.size inb_S400x16_S400x16_0_0
abbrev r_e : Rect S16x960 := Rect.unit (s := S16x960) ![0, 0] S16x960.size inb_S16x960_S16x960_0_0
abbrev r_m : Rect S512x256 := Rect.unit (s := S512x256) ![0, 0] S512x256.size inb_S512x256_S512x256_0_0
abbrev r_k : Rect S1x256 := Rect.unit (s := S1x256) ![0, 0] S1x256.size inb_S1x256_S1x256_0_0
abbrev r_a : Rect S960x64 := Rect.unit (s := S960x64) ![0, 0] S960x64.size inb_S960x64_S960x64_0_0
abbrev r_o : Rect S400x64 := Rect.unit (s := S400x64) ![0, 0] S400x64.size inb_S400x64_S400x64_0_0

/-- Neighbor `h`'s point less the query's. -/
def diff (x0 : Vec F S16x400x128 .f32) (x1 : Vec F S400x16 .f32) (h : ℕ) (hh : h < 16) : FVec F S400x16 .f32 :=
  subf (extractStridedSlice S400x16 ![0, 64] (slab x0 h hh) slices_S400x128_o0_64_S400x16) (shapeCast S400x16 (View.ld x1 r_q) shapeCasts_S400x16_S400x16)

/-- Neighbor `h`'s features. -/
def feat (x0 : Vec F S16x400x128 .f32) (h : ℕ) (hh : h < 16) : FVec F S400x64 .f32 :=
  extractStridedSlice S400x64 ![0, 0] (slab x0 h hh) slices_S400x128_o0_0_S400x64

/-- The sixteen differences side by side. -/
def diffs (x0 : Vec F S16x400x128 .f32) (x1 : Vec F S400x16 .f32) : FVec F S400x256 .f32 :=
  concatenate S400x256 1 [⟨S400x16, diff x0 x1 0 (by decide)⟩, ⟨S400x16, diff x0 x1 1 (by decide)⟩, ⟨S400x16, diff x0 x1 2 (by decide)⟩, ⟨S400x16, diff x0 x1 3 (by decide)⟩, ⟨S400x16, diff x0 x1 4 (by decide)⟩, ⟨S400x16, diff x0 x1 5 (by decide)⟩, ⟨S400x16, diff x0 x1 6 (by decide)⟩, ⟨S400x16, diff x0 x1 7 (by decide)⟩, ⟨S400x16, diff x0 x1 8 (by decide)⟩, ⟨S400x16, diff x0 x1 9 (by decide)⟩, ⟨S400x16, diff x0 x1 10 (by decide)⟩, ⟨S400x16, diff x0 x1 11 (by decide)⟩, ⟨S400x16, diff x0 x1 12 (by decide)⟩, ⟨S400x16, diff x0 x1 13 (by decide)⟩, ⟨S400x16, diff x0 x1 14 (by decide)⟩, ⟨S400x16, diff x0 x1 15 (by decide)⟩] concatenates_S400x16_S400x16_S400x16_S400x16_S400x16_S400x16_S400x16_S400x16_S400x16_S400x16_S400x16_S400x16_S400x16_S400x16_S400x16_S400x16_S400x256_d1

/-- The differences, then their squares. -/
def both (x0 : Vec F S16x400x128 .f32) (x1 : Vec F S400x16 .f32) : FVec F S400x512 .f32 :=
  concatenate S400x512 1 [⟨S400x256, diffs x0 x1⟩, ⟨S400x256, mulf (diffs x0 x1) (diffs x0 x1)⟩] concatenates_S400x256_S400x256_S400x512_d1

/-- The squared distances to the kernel points. -/
def sqd (x0 : Vec F S16x400x128 .f32) (x1 : Vec F S400x16 .f32) (x2 : Vec F S512x256 .f32) (x3 : Vec F S1x256 .f32) : FVec F S400x256 .f32 :=
  maximumf (addf (matmul dot_S400x512_S512x256_S400x256_1_0_0_1_n_n (some .fp32) (both x0 x1) (shapeCast S512x256 (View.ld x2 r_m) shapeCasts_S512x256_S512x256) (constant S400x256 .f32 0x00000000#32))
    (broadcastTo S400x256 (shapeCast S1x256 (View.ld x3 r_k) shapeCasts_S1x256_S1x256) broadcasts_S1x256_S400x256)) (broadcast S400x256 (Scalar.ofBits .f32 0x00000000#32))

/-- The influences. -/
def infl (x0 : Vec F S16x400x128 .f32) (x1 : Vec F S400x16 .f32) (x2 : Vec F S512x256 .f32) (x3 : Vec F S1x256 .f32) : FVec F S400x256 .f32 :=
  maximumf (subf (broadcast S400x256 (Scalar.ofBits .f32 0x3F800000#32)) (mulf (sqrt (sqd x0 x1 x2 x3)) (broadcast S400x256 (Scalar.ofBits .f32 0x3F000000#32)))) (broadcast S400x256 (Scalar.ofBits .f32 0x00000000#32))

/-- Neighbor `h`'s influences, each as wide as the features. -/
def wide (w : FVec F S400x256 .f32) (x4 : Vec F S16x960 .bf16) (o : ℕ) (ho : S400x256.Slices ![0, o] S400x16) : FVec F S400x960 .f32 :=
  matmul dot_S400x16_S16x960_S400x960_1_0_0_1_n_n none (truncf .bf16 (extractStridedSlice S400x16 ![0, o] w ho) bitsLt_bf16_f32)
    (shapeCast S16x960 (View.ld x4 r_e) shapeCasts_S16x960_S16x960) (constant S400x960 .f32 0x00000000#32)

/-- The features, fifteen times side by side. -/
def tiled (f : FVec F S400x64 .f32) : FVec F S400x960 .f32 :=
  concatenate S400x960 1 [⟨S400x64, f⟩, ⟨S400x64, f⟩, ⟨S400x64, f⟩, ⟨S400x64, f⟩, ⟨S400x64, f⟩, ⟨S400x64, f⟩, ⟨S400x64, f⟩, ⟨S400x64, f⟩, ⟨S400x64, f⟩, ⟨S400x64, f⟩, ⟨S400x64, f⟩, ⟨S400x64, f⟩, ⟨S400x64, f⟩, ⟨S400x64, f⟩, ⟨S400x64, f⟩] concatenates_S400x64_S400x64_S400x64_S400x64_S400x64_S400x64_S400x64_S400x64_S400x64_S400x64_S400x64_S400x64_S400x64_S400x64_S400x64_S400x960_d1

/-- Whether the features add up to more than zero, as a number. -/
def pos (f : FVec F S400x64 .f32) : FVec F S400x1 .f32 :=
  sitofp .f32 (extui 32 (cmpf .ogt (shapeCast S400x1 (multiReduction .add [1] S400 f 0x00000000#32 reduces_S400x64_S400 (.inl rfl) rfl) shapeCasts_S400_S400x1) (broadcast S400x1 (Scalar.ofBits .f32 0x00000000#32))) natLt_1_32)

theorem slices_w (h : ℕ) (hh : h < 16) : S400x256.Slices ![0, 16 * h] S400x16 :=
  ⟨rfl, fun a => by
    fin_cases a
    · show 0 + 400 ≤ 400; omega
    · show 16 * h + 16 ≤ 256; omega⟩

/-- Neighbor `h`'s part of the weighted features. -/
def part (x0 : Vec F S16x400x128 .f32) (w : FVec F S400x256 .f32) (x4 : Vec F S16x960 .bf16) (h : ℕ) (hh : h < 16) : FVec F S400x960 .f32 :=
  mulf (wide w x4 (16 * h) (slices_w h hh)) (tiled (feat x0 h hh))

/-- The weighted features, added up over the neighbors. -/
def wsum (x0 : Vec F S16x400x128 .f32) (w : FVec F S400x256 .f32) (x4 : Vec F S16x960 .bf16) : FVec F S400x960 .f32 :=
  addf (addf (addf (addf (addf (addf (addf (addf (addf (addf (addf (addf (addf (addf (addf (addf (broadcast S400x960 (Scalar.ofBits .f32 0x00000000#32)) (part x0 w x4 0 (by decide))) (part x0 w x4 1 (by decide))) (part x0 w x4 2 (by decide))) (part x0 w x4 3 (by decide))) (part x0 w x4 4 (by decide))) (part x0 w x4 5 (by decide))) (part x0 w x4 6 (by decide))) (part x0 w x4 7 (by decide))) (part x0 w x4 8 (by decide))) (part x0 w x4 9 (by decide))) (part x0 w x4 10 (by decide))) (part x0 w x4 11 (by decide))) (part x0 w x4 12 (by decide))) (part x0 w x4 13 (by decide))) (part x0 w x4 14 (by decide))) (part x0 w x4 15 (by decide))

/-- How many neighbors' features add up to more than zero. -/
def count (x0 : Vec F S16x400x128 .f32) : FVec F S400x1 .f32 :=
  addf (addf (addf (addf (addf (addf (addf (addf (addf (addf (addf (addf (addf (addf (addf (addf (broadcast S400x1 (Scalar.ofBits .f32 0x00000000#32)) (pos (feat x0 0 (by decide)))) (pos (feat x0 1 (by decide)))) (pos (feat x0 2 (by decide)))) (pos (feat x0 3 (by decide)))) (pos (feat x0 4 (by decide)))) (pos (feat x0 5 (by decide)))) (pos (feat x0 6 (by decide)))) (pos (feat x0 7 (by decide)))) (pos (feat x0 8 (by decide)))) (pos (feat x0 9 (by decide)))) (pos (feat x0 10 (by decide)))) (pos (feat x0 11 (by decide)))) (pos (feat x0 12 (by decide)))) (pos (feat x0 13 (by decide)))) (pos (feat x0 14 (by decide)))) (pos (feat x0 15 (by decide)))

/-- The product with the kernel's weights, in three parts. -/
def prod (v : FVec F S400x960 .f32) (x5 x6 : Vec F S960x64 .bf16) : FVec F S400x64 .f32 :=
  addf (addf (matmul dot_S400x960_S960x64_S400x64_1_0_0_1_n_n none (truncf .bf16 v bitsLt_bf16_f32) (shapeCast S960x64 (View.ld x5 r_a) shapeCasts_S960x64_S960x64) (constant S400x64 .f32 0x00000000#32))
      (matmul dot_S400x960_S960x64_S400x64_1_0_0_1_n_n none (truncf .bf16 v bitsLt_bf16_f32) (shapeCast S960x64 (View.ld x6 r_a) shapeCasts_S960x64_S960x64) (constant S400x64 .f32 0x00000000#32)))
    (matmul dot_S400x960_S960x64_S400x64_1_0_0_1_n_n none (truncf .bf16 (subf v (extf .f32 (truncf .bf16 v bitsLt_bf16_f32) bitsLt_bf16_f32)) bitsLt_bf16_f32) (shapeCast S960x64 (View.ld x5 r_a) shapeCasts_S960x64_S960x64) (constant S400x64 .f32 0x00000000#32))

/-- What the body stores. -/
def out (x0 : Vec F S16x400x128 .f32) (x1 : Vec F S400x16 .f32) (x2 : Vec F S512x256 .f32) (x3 : Vec F S1x256 .f32) (x4 : Vec F S16x960 .bf16) (x5 x6 : Vec F S960x64 .bf16) : FVec F S400x64 .f32 :=
  divf (prod (wsum x0 (infl x0 x1 x2 x3) x4) x5 x6)
    (broadcastTo S400x64 (maximumf (count x0) (broadcast S400x1 (Scalar.ofBits .f32 0x3F800000#32))) broadcasts_S400x1_S400x64)

/-- What it leaves in the output's staging buffer. -/
def left (x0 : Vec F S16x400x128 .f32) (x1 : Vec F S400x16 .f32) (x2 : Vec F S512x256 .f32) (x3 : Vec F S1x256 .f32) (x4 : Vec F S16x960 .bf16) (x5 x6 : Vec F S960x64 .bf16) : Vec F S400x64 .f32 :=
  View.canon [⟨r_o, out x0 x1 x2 x3 x4 x5 x6⟩]

theorem cover (p : Vec F S400x64 .f32) (y : S400x64.Idx) : ∃ pc ∈ ([⟨r_o, p⟩] : List (View.Piece (Elt F) S400x64 .f32)), y ∈ pc.1.set :=
  View.cover_of_tiled [⟨r_o, p⟩] S400x64.size (by rfl) y

/-! ## The triple -/

set_option maxHeartbeats 4000000 in
/-- The body runs on its staging buffers: the inputs stay and the output holds `left` of them. -/
theorem body_run (c : Dev nD) (E : Set ℕ) (i : grid1.Coords) (M0 : Memref sig .tc .vmem S16x400x128 .f32) (h0 : M0.IsWhole) (M1 : Memref sig .tc .vmem S400x16 .f32) (h1 : M1.IsWhole) (M2 : Memref sig .tc .vmem S512x256 .f32) (h2 : M2.IsWhole) (M3 : Memref sig .tc .vmem S1x256 .f32) (h3 : M3.IsWhole) (M4 : Memref sig .tc .vmem S16x960 .bf16) (h4 : M4.IsWhole) (M5 : Memref sig .tc .vmem S960x64 .bf16) (h5 : M5.IsWhole) (M6 : Memref sig .tc .vmem S960x64 .bf16) (h6 : M6.IsWhole) (M7 : Memref sig .tc .vmem S400x64 .f32) (h7 : M7.IsWhole)
    (x0 : Vec F S16x400x128 .f32) (x1 : Vec F S400x16 .f32) (x2 : Vec F S512x256 .f32) (x3 : Vec F S1x256 .f32) (x4 : Vec F S16x960 .bf16) (x5 : Vec F S960x64 .bf16) (x6 : Vec F S960x64 .bf16) (Q : PUnit → sProp 𝕄) :
    iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ (∃ d, owns (c : Thread nD τ) M7 fullShare d)
        ∗ (iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare (left x0 x1 x2 x3 x4 x5 x6)) -∗ Q ⟨⟩))
      ⊢ wp frame (wpE (defs₀ (F := F)) Variants.none c none) E (cc1__tc_body i M0 h0 M1 h1 M2 h2 M3 h3 M4 h4 M5 h5 M6 h6 M7 h7) Q := by
  simp only [cc1__tc_body_eq_skeleton]; unfold cc1__tc_body_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk

  isplitl [H0]
  · iexists f0; isplitr; · ipureintro; rfl
    iexact H0

  isplitl [H1]
  · iexists f1; isplitr; · ipureintro; rfl
    iexact H1

  isplitl [H2]
  · iexists f2; isplitr; · ipureintro; rfl
    iexact H2

  isplitl [H3]
  · iexists f3; isplitr; · ipureintro; rfl
    iexact H3

  isplitl [H4]
  · iexists f4; isplitr; · ipureintro; rfl
    iexact H4

  isplitl [H5]
  · iexists f5; isplitr; · ipureintro; rfl
    iexact H5

  isplitl [H6]
  · iexists f6; isplitr; · ipureintro; rfl
    iexact H6

  iexists _; isplitr
  swap; · iexact H7
  ipureintro
  refine (View.read_writes_eq_canon _ _ _ (cover _)).trans ?_
  rfl

set_option maxRecDepth 65536 in
theorem body3_eq (i : grid3.Coords) (M0 : Memref sig .tc .vmem S16x400x128 .f32) (h0 : M0.IsWhole) (M1 : Memref sig .tc .vmem S400x16 .f32) (h1 : M1.IsWhole) (M2 : Memref sig .tc .vmem S512x256 .f32) (h2 : M2.IsWhole) (M3 : Memref sig .tc .vmem S1x256 .f32) (h3 : M3.IsWhole) (M4 : Memref sig .tc .vmem S16x960 .bf16) (h4 : M4.IsWhole) (M5 : Memref sig .tc .vmem S960x64 .bf16) (h5 : M5.IsWhole) (M6 : Memref sig .tc .vmem S960x64 .bf16) (h6 : M6.IsWhole) (M7 : Memref sig .tc .vmem S400x64 .f32) (h7 : M7.IsWhole) : cc3__tc_body (F := F) i M0 h0 M1 h1 M2 h2 M3 h3 M4 h4 M5 h5 M6 h6 M7 h7 = cc1__tc_body i M0 h0 M1 h1 M2 h2 M3 h3 M4 h4 M5 h5 M6 h6 M7 h7 := rfl

set_option maxRecDepth 65536 in
theorem body5_eq (i : grid5.Coords) (M0 : Memref sig .tc .vmem S16x400x128 .f32) (h0 : M0.IsWhole) (M1 : Memref sig .tc .vmem S400x16 .f32) (h1 : M1.IsWhole) (M2 : Memref sig .tc .vmem S512x256 .f32) (h2 : M2.IsWhole) (M3 : Memref sig .tc .vmem S1x256 .f32) (h3 : M3.IsWhole) (M4 : Memref sig .tc .vmem S16x960 .bf16) (h4 : M4.IsWhole) (M5 : Memref sig .tc .vmem S960x64 .bf16) (h5 : M5.IsWhole) (M6 : Memref sig .tc .vmem S960x64 .bf16) (h6 : M6.IsWhole) (M7 : Memref sig .tc .vmem S400x64 .f32) (h7 : M7.IsWhole) : cc5__tc_body (F := F) i M0 h0 M1 h1 M2 h2 M3 h3 M4 h4 M5 h5 M6 h6 M7 h7 = cc1__tc_body i M0 h0 M1 h1 M2 h2 M3 h3 M4 h4 M5 h5 M6 h6 M7 h7 := rfl

set_option maxRecDepth 65536 in
theorem body7_eq (i : grid7.Coords) (M0 : Memref sig .tc .vmem S16x400x128 .f32) (h0 : M0.IsWhole) (M1 : Memref sig .tc .vmem S400x16 .f32) (h1 : M1.IsWhole) (M2 : Memref sig .tc .vmem S512x256 .f32) (h2 : M2.IsWhole) (M3 : Memref sig .tc .vmem S1x256 .f32) (h3 : M3.IsWhole) (M4 : Memref sig .tc .vmem S16x960 .bf16) (h4 : M4.IsWhole) (M5 : Memref sig .tc .vmem S960x64 .bf16) (h5 : M5.IsWhole) (M6 : Memref sig .tc .vmem S960x64 .bf16) (h6 : M6.IsWhole) (M7 : Memref sig .tc .vmem S400x64 .f32) (h7 : M7.IsWhole) : cc7__tc_body (F := F) i M0 h0 M1 h1 M2 h2 M3 h3 M4 h4 M5 h5 M6 h6 M7 h7 = cc1__tc_body i M0 h0 M1 h1 M2 h2 M3 h3 M4 h4 M5 h5 M6 h6 M7 h7 := rfl

set_option maxRecDepth 65536 in
theorem body9_eq (i : grid9.Coords) (M0 : Memref sig .tc .vmem S16x400x128 .f32) (h0 : M0.IsWhole) (M1 : Memref sig .tc .vmem S400x16 .f32) (h1 : M1.IsWhole) (M2 : Memref sig .tc .vmem S512x256 .f32) (h2 : M2.IsWhole) (M3 : Memref sig .tc .vmem S1x256 .f32) (h3 : M3.IsWhole) (M4 : Memref sig .tc .vmem S16x960 .bf16) (h4 : M4.IsWhole) (M5 : Memref sig .tc .vmem S960x64 .bf16) (h5 : M5.IsWhole) (M6 : Memref sig .tc .vmem S960x64 .bf16) (h6 : M6.IsWhole) (M7 : Memref sig .tc .vmem S400x64 .f32) (h7 : M7.IsWhole) : cc9__tc_body (F := F) i M0 h0 M1 h1 M2 h2 M3 h3 M4 h4 M5 h5 M6 h6 M7 h7 = cc1__tc_body i M0 h0 M1 h1 M2 h2 M3 h3 M4 h4 M5 h5 M6 h6 M7 h7 := rfl

end Cert.Proof.TcBody

end
-- ==== Proof.Stage.lean ====
/- The TensorCore's calls: what each makes of whole arrays, and what the five share. -/
module

public import proofs.«01_k».proof.Proof.TcBody
public import Idealize.ShloMosaic.Lib.ValueIdx

@[expose] public section

noncomputable section

namespace Cert.Proof.Stage

open Cert.KernelIdeal Cert.KernelIdeal.Gen
open Cert.Proof.Launch

open Idealize.ShloMosaic
open Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 5) (Elt F) ℕ UU ℕ

/-- Where the pipelines' ghost state lies. -/
def EP : Emb (URounds (GSem nD τ sig) Unit) (MT nD τ sig (HIx 5) (Elt F) ℕ UU ℕ) :=
  (Emb.inl : Emb (URounds (GSem nD τ sig) Unit) (URounds (GSem nD τ sig) Unit × Counters)).trans embR

instance EP_landsIn : (EP (F := F)).LandsIn (upEmb : UEmb _ 𝕄) := by unfold EP; infer_instance

/-- No pipeline has a prefetched table. -/
abbrev adm : (p : Fin 5) → (pcfgs (F := F) p).Adm := fun p => (cfgs p).toPCfg_adm

/-- Proof data of a pipeline that is not looked at. -/
def unused [∀ e, Nonempty (Elt F e)] {cfg : Pipeline.Cfg sig Λ₀} (c : Dev nD) : Pipeline.Dat τ (Elt F) (HIx 5) ℕ UU ℕ cfg c where
  A _ := fun _ => Classical.arbitrary _
  after _ _ := fun _ => Classical.arbitrary _
  Φ _ := BI.emp
  q _ := fullShare
  owed _ := 0

/-- What the TensorCore owes the SparseCores it owes at calls, so waits of no call are free. -/
theorem owed_none (d : Dev nD) (n : ℕ) (g : GSem nD τ sig) : (K (F := F)).Otc (N := 5) d n g none = 0 := by
  by_contra h
  have := (K (F := F)).lev_of_Otc_pos (Nat.pos_of_ne_zero h)
  rw [SparseCore.Cfg.lev_none] at this
  omega

/-! ## The result of a call -/

/-- The points of block `t`, in every neighbor's rows. -/
def rowBlock (g : Vec F S16x10000x128 .f32) (t : Fin 25) : Vec F S16x400x128 .f32 := fun y =>
  g (ix3 ⟨(y 0).val, (y 0).isLt⟩ ⟨400 * t.val + (y 1).val, by have h : (y 1).val < 400 := (y 1).isLt; omega⟩ ⟨(y 2).val, (y 2).isLt⟩)

/-- The query points of block `t`. -/
def queryBlock (q : Vec F S10000x16 .f32) (t : Fin 25) : Vec F S400x16 .f32 := fun y =>
  q (ix2 ⟨400 * t.val + (y 0).val, by have h : (y 0).val < 400 := (y 0).isLt; omega⟩ ⟨(y 1).val, (y 1).isLt⟩)

/-- The blocks' results, one below the other. -/
def staged (g : Vec F S16x10000x128 .f32) (q : Vec F S10000x16 .f32) (x2 : Vec F S512x256 .f32) (x3 : Vec F S1x256 .f32) (x4 : Vec F S16x960 .bf16) (x5 x6 : Vec F S960x64 .bf16) :
    Vec F S10000x64 .f32 := fun j =>
  TcBody.left (rowBlock g ⟨(j 0).val / 400, by have h : (j 0).val < 10000 := (j 0).isLt; omega⟩) (queryBlock q ⟨(j 0).val / 400, by have h : (j 0).val < 10000 := (j 0).isLt; omega⟩)
    x2 x3 x4 x5 x6 (ix2 ⟨(j 0).val % 400, by omega⟩ ⟨(j 1).val, (j 1).isLt⟩)

/-- The result at a point of block `t`. -/
theorem staged_at (g : Vec F S16x10000x128 .f32) (q : Vec F S10000x16 .f32) (x2 : Vec F S512x256 .f32) (x3 : Vec F S1x256 .f32) (x4 : Vec F S16x960 .bf16) (x5 x6 : Vec F S960x64 .bf16)
    (t : Fin 25) (y : S400x64.Idx) (j : S10000x64.Idx) (h0 : (j 0).val = t.val * 400 + (y 0).val) (h1 : (j 1).val = (y 1).val) :
    staged g q x2 x3 x4 x5 x6 j = TcBody.left (rowBlock g t) (queryBlock q t) x2 x3 x4 x5 x6 y := by
  have hy0 : (y 0).val < 400 := (y 0).isLt
  have ht : (⟨(j 0).val / 400, by have h : (j 0).val < 10000 := (j 0).isLt; omega⟩ : Fin 25) = t := Fin.ext (by show (j 0).val / 400 = t.val; omega)
  have hy : (ix2 ⟨(j 0).val % 400, by omega⟩ ⟨(j 1).val, (j 1).isLt⟩ : S400x64.Idx) = y := by
    funext a; fin_cases a
    · exact Fin.ext (by show (j 0).val % 400 = (y 0).val; omega)
    · exact Fin.ext h1
  unfold staged
  rw [ht, hy]

end Cert.Proof.Stage

end
-- ==== Proof.Region0.lean ====
/- TensorCore call 0: its region, over the buffers, from the launch's state between two SparseCore calls to the same state with the result written. -/
module

public import proofs.«01_k».proof.Proof.Stage
public import proofs.«01_k».proof.Proof.Gen.KernelIdeal.Launch
public import proofs.«01_k».proof.Proof.Gen.KernelIdeal.Points
public import Idealize.ShloMosaic.Lib.Pipeline.Regions
public import Idealize.ShloMosaic.Lib.Pipeline.ValueKit

@[expose] public section

set_option maxRecDepth 16384
set_option maxHeartbeats 1000000

noncomputable section

namespace Cert.Proof.Region0

open Cert.KernelIdeal Cert.KernelIdeal.Gen
open Cert.Proof.Launch Cert.Proof.Stage

open Idealize.ShloMosaic Idealize.ShloMosaic.TcCoe
open Idealize.ShloMosaic.ValueIdx
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 5) (Elt F) ℕ UU ℕ

variable (V : Valuation τ sig (Elt F)) (n : ℕ)

/-- Window `w`'s block at point `t`. -/
def iblk (w : Fin cfg1.W) (t : Fin cfg1.N) : ((cfg1.win w).xblock (cfg1.grid.coords t)).Idx → Elt F (cfg1.win w).elt :=
  ((cfg1.win w).blk t).view.read (Elt F) (V (ref (Pipeline.arrRef spec1 w)))

/-- What the thread's waits may have been on when `n` calls are over. -/
def waited (d : Dev nD) : Set (SemLoc sig × HIx 5) := {p | (K (F := F)).lev (SparseCore.T d, p.1) p.2 ≤ 8 * n}

/-- The pipeline's arrays, and what the body leaves at each point. -/
def dat (c : Dev nD) : Dat τ (Elt F) (HIx 5) ℕ UU ℕ cfg1 c where
  A w := V (ref (Pipeline.arrRef spec1 w))
  after w t := match w with
    | ⟨0, _⟩ => iblk V 0 t
    | ⟨1, _⟩ => iblk V 1 t
    | ⟨2, _⟩ => iblk V 2 t
    | ⟨3, _⟩ => iblk V 3 t
    | ⟨4, _⟩ => iblk V 4 t
    | ⟨5, _⟩ => iblk V 5 t
    | ⟨6, _⟩ => iblk V 6 t
    | ⟨7, _⟩ => TcBody.left (iblk V 0 t) (iblk V 1 t) (iblk V 2 t) (iblk V 3 t) (iblk V 4 t) (iblk V 5 t) (iblk V 6 t)
  Φ _ := Pipeline.scopedRest (Ix := HIx 5) (Name := ℕ) (U := UU) (Lvl := ℕ) (Val := Elt F) spec1 c
  q _ := fullShare
  owed _ := (K (F := F)).Otc c n
  recorded _ := waited (F := F) n c

theorem A_eq (c : Dev nD) (w : Fin cfg1.W) : (dat V n c).A w = V (ref (Pipeline.arrRef spec1 w)) := by dsimp only [dat]

theorem after0 (c : Dev nD) (t : Fin cfg1.N) : (dat V n c).after 0 t = iblk V 0 t := by dsimp only [dat]
theorem after1 (c : Dev nD) (t : Fin cfg1.N) : (dat V n c).after 1 t = iblk V 1 t := by dsimp only [dat]
theorem after2 (c : Dev nD) (t : Fin cfg1.N) : (dat V n c).after 2 t = iblk V 2 t := by dsimp only [dat]
theorem after3 (c : Dev nD) (t : Fin cfg1.N) : (dat V n c).after 3 t = iblk V 3 t := by dsimp only [dat]
theorem after4 (c : Dev nD) (t : Fin cfg1.N) : (dat V n c).after 4 t = iblk V 4 t := by dsimp only [dat]
theorem after5 (c : Dev nD) (t : Fin cfg1.N) : (dat V n c).after 5 t = iblk V 5 t := by dsimp only [dat]
theorem after6 (c : Dev nD) (t : Fin cfg1.N) : (dat V n c).after 6 t = iblk V 6 t := by dsimp only [dat]
theorem after7 (c : Dev nD) (t : Fin cfg1.N) : (dat V n c).after 7 t
    = TcBody.left (iblk V 0 t) (iblk V 1 t) (iblk V 2 t) (iblk V 3 t) (iblk V 4 t) (iblk V 5 t) (iblk V 6 t) := by dsimp only [dat]

theorem before0 (c : Dev nD) (t : Fin cfg1.N) (d) : (dat V n c).before 0 t d = iblk V 0 t :=
  ((dat V n c).before_in_eq_fetched 0 rfl (fun _ => rfl) (fun _ _ _ => rfl) (fun t => by rw [after0]; unfold Dat.blockOf iblk; rw [A_eq]) t d).trans
    (by unfold Dat.fetched Dat.blockOf iblk; rw [A_eq]; rfl)
theorem before1 (c : Dev nD) (t : Fin cfg1.N) (d) : (dat V n c).before 1 t d = iblk V 1 t :=
  ((dat V n c).before_in_eq_fetched 1 rfl (fun _ => rfl) (fun _ _ _ => rfl) (fun t => by rw [after1]; unfold Dat.blockOf iblk; rw [A_eq]) t d).trans
    (by unfold Dat.fetched Dat.blockOf iblk; rw [A_eq]; rfl)
theorem before2 (c : Dev nD) (t : Fin cfg1.N) (d) : (dat V n c).before 2 t d = iblk V 2 t :=
  ((dat V n c).before_in_eq_fetched 2 rfl (fun _ => rfl) (fun _ _ _ => rfl) (fun t => by rw [after2]; unfold Dat.blockOf iblk; rw [A_eq]) t d).trans
    (by unfold Dat.fetched Dat.blockOf iblk; rw [A_eq]; rfl)
theorem before3 (c : Dev nD) (t : Fin cfg1.N) (d) : (dat V n c).before 3 t d = iblk V 3 t :=
  ((dat V n c).before_in_eq_fetched 3 rfl (fun _ => rfl) (fun _ _ _ => rfl) (fun t => by rw [after3]; unfold Dat.blockOf iblk; rw [A_eq]) t d).trans
    (by unfold Dat.fetched Dat.blockOf iblk; rw [A_eq]; rfl)
theorem before4 (c : Dev nD) (t : Fin cfg1.N) (d) : (dat V n c).before 4 t d = iblk V 4 t :=
  ((dat V n c).before_in_eq_fetched 4 rfl (fun _ => rfl) (fun _ _ _ => rfl) (fun t => by rw [after4]; unfold Dat.blockOf iblk; rw [A_eq]) t d).trans
    (by unfold Dat.fetched Dat.blockOf iblk; rw [A_eq]; rfl)
theorem before5 (c : Dev nD) (t : Fin cfg1.N) (d) : (dat V n c).before 5 t d = iblk V 5 t :=
  ((dat V n c).before_in_eq_fetched 5 rfl (fun _ => rfl) (fun _ _ _ => rfl) (fun t => by rw [after5]; unfold Dat.blockOf iblk; rw [A_eq]) t d).trans
    (by unfold Dat.fetched Dat.blockOf iblk; rw [A_eq]; rfl)
theorem before6 (c : Dev nD) (t : Fin cfg1.N) (d) : (dat V n c).before 6 t d = iblk V 6 t :=
  ((dat V n c).before_in_eq_fetched 6 rfl (fun _ => rfl) (fun _ _ _ => rfl) (fun t => by rw [after6]; unfold Dat.blockOf iblk; rw [A_eq]) t d).trans
    (by unfold Dat.fetched Dat.blockOf iblk; rw [A_eq]; rfl)

theorem row_eq (t : Fin cfg1.N) : defs₀ (F := F) .tc cfg1.body (cfg1.bodyArgs t (cfg1.slots t)) = bodyAt1 t := by
  unfold defs₀; rfl

/-- The body at a point, on its staging buffers. -/
theorem body_at (c : Dev nD) (t : Fin cfg1.N) :
    iprop((dat V n c).Φ t.castSucc ∗ (dat V n c).owesAt none t.castSucc
        ∗ (∃ d, owns (c : Thread nD τ) (st1_0 t) fullShare ((dat V n c).before 0 t d)) ∗ (∃ d, owns (c : Thread nD τ) (st1_1 t) fullShare ((dat V n c).before 1 t d))
        ∗ (∃ d, owns (c : Thread nD τ) (st1_2 t) fullShare ((dat V n c).before 2 t d)) ∗ (∃ d, owns (c : Thread nD τ) (st1_3 t) fullShare ((dat V n c).before 3 t d))
        ∗ (∃ d, owns (c : Thread nD τ) (st1_4 t) fullShare ((dat V n c).before 4 t d)) ∗ (∃ d, owns (c : Thread nD τ) (st1_5 t) fullShare ((dat V n c).before 5 t d))
        ∗ (∃ d, owns (c : Thread nD τ) (st1_6 t) fullShare ((dat V n c).before 6 t d)) ∗ (∃ d, owns (c : Thread nD τ) (st1_7 t) fullShare ((dat V n c).before 7 t d)))
      ⊢ wp frame (wpE (defs₀ (F := F)) Variants.none c none) Set.univ (bodyAt1 t) fun _ =>
        iprop((dat V n c).Φ t.succ ∗ (dat V n c).owesAt none t.succ
        ∗ owns (c : Thread nD τ) (st1_0 t) fullShare ((dat V n c).after 0 t) ∗ owns (c : Thread nD τ) (st1_1 t) fullShare ((dat V n c).after 1 t)
        ∗ owns (c : Thread nD τ) (st1_2 t) fullShare ((dat V n c).after 2 t) ∗ owns (c : Thread nD τ) (st1_3 t) fullShare ((dat V n c).after 3 t)
        ∗ owns (c : Thread nD τ) (st1_4 t) fullShare ((dat V n c).after 4 t) ∗ owns (c : Thread nD τ) (st1_5 t) fullShare ((dat V n c).after 5 t)
        ∗ owns (c : Thread nD τ) (st1_6 t) fullShare ((dat V n c).after 6 t) ∗ owns (c : Thread nD τ) (st1_7 t) fullShare ((dat V n c).after 7 t)) := by
  unfold bodyAt1

  simp only [before0, before1, before2, before3, before4, before5, before6]
  rw [show (dat V n c).Φ t.succ = (dat V n c).Φ t.castSucc from rfl, show (dat V n c).owesAt none t.succ = (dat V n c).owesAt none t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (TcBody.body_run c Set.univ (grid1.coords t) _ _ _ _ _ _ _ _ _ _ _ _ _ _ _ _ (iblk V 0 t) (iblk V 1 t) (iblk V 2 t) (iblk V 3 t) (iblk V 4 t) (iblk V 5 t) (iblk V 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem obligation (c : Dev nD) : BodyObligation (dat V n c) (defs₀ (F := F)) Variants.none none Set.univ := fun t => by
  rw [bigSep_W1, bigSep_W1, row_eq]
  exact triple_restated (body_at V n c t) rfl .rfl fun _ => .rfl

/-! ## The result -/

theorem index0 : ∀ t : Fin cfg1.N, (cfg1.win 0).index t = ![0, t.val, 0] := by decide +kernel
theorem index1 : ∀ t : Fin cfg1.N, (cfg1.win 1).index t = ![t.val, 0] := by decide +kernel
theorem index7 : ∀ t : Fin cfg1.N, (cfg1.win 7).index t = ![t.val, 0] := by decide +kernel

theorem iblk0 (t : Fin cfg1.N) : iblk V 0 t = rowBlock (V (ref main_v42)) ⟨t.val, t.isLt.trans_eq N_1⟩ := by
  funext y; unfold iblk; blk_simp; unfold rowBlock
  have h := index0 t
  congr 1; funext a; fin_cases a <;> apply Fin.ext <;> blk_simp
  · simp [show win1_0.index t 0 = 0 from congrFun h 0]
  · simp [show win1_0.index t 1 = t.val from congrFun h 1, mul_comm]
  · simp [show win1_0.index t 2 = 0 from congrFun h 2]
theorem iblk1 (t : Fin cfg1.N) : iblk V 1 t = queryBlock (V (ref main_v43)) ⟨t.val, t.isLt.trans_eq N_1⟩ := by
  funext y; unfold iblk; blk_simp; unfold queryBlock
  have h := index1 t
  congr 1; funext a; fin_cases a <;> apply Fin.ext <;> blk_simp
  · simp [show win1_1.index t 0 = t.val from congrFun h 0, mul_comm]
  · simp [show win1_1.index t 1 = 0 from congrFun h 1]
theorem iblk2 (t : Fin cfg1.N) : iblk V 2 t = V (ref main_v27) := by
  funext y; unfold iblk; blk_simp
  congr 1; funext a; fin_cases a <;> apply Fin.ext <;> blk_simp
  · first | done | simp [show win1_2.index t 0 = 0 from rfl]
  · simp [show win1_2.index t 1 = 0 from rfl]
theorem iblk3 (t : Fin cfg1.N) : iblk V 3 t = V (ref main_v33) := by
  funext y; unfold iblk; blk_simp
  congr 1; funext a; fin_cases a <;> apply Fin.ext <;> blk_simp
  · first | done | simp [show win1_3.index t 0 = 0 from rfl]
  · simp [show win1_3.index t 1 = 0 from rfl]
theorem iblk4 (t : Fin cfg1.N) : iblk V 4 t = V (ref main_v15) := by
  funext y; unfold iblk; blk_simp
  congr 1; funext a; fin_cases a <;> apply Fin.ext <;> blk_simp
  · first | done | simp [show win1_4.index t 0 = 0 from rfl]
  · simp [show win1_4.index t 1 = 0 from rfl]
theorem iblk5 (t : Fin cfg1.N) : iblk V 5 t = V (ref main_v35) := by
  funext y; unfold iblk; blk_simp
  congr 1; funext a; fin_cases a <;> apply Fin.ext <;> blk_simp
  · first | done | simp [show win1_5.index t 0 = 0 from rfl]
  · simp [show win1_5.index t 1 = 0 from rfl]
theorem iblk6 (t : Fin cfg1.N) : iblk V 6 t = V (ref main_v38) := by
  funext y; unfold iblk; blk_simp
  congr 1; funext a; fin_cases a <;> apply Fin.ext <;> blk_simp
  · first | done | simp [show win1_6.index t 0 = 0 from rfl]
  · simp [show win1_6.index t 1 = 0 from rfl]

/-- The call as one operation on the buffers. -/
def step : HloOp τ sig (Elt F) :=
  StableHlo.nary ![main_v42, main_v43, main_v27, main_v33, main_v15, main_v35, main_v38] main_v44 (fun u =>
    (staged (u 0 : Vec F S16x10000x128 .f32) (u 1 : Vec F S10000x16 .f32) (u 2 : Vec F S512x256 .f32) (u 3 : Vec F S1x256 .f32) (u 4 : Vec F S16x960 .bf16) (u 5 : Vec F S960x64 .bf16) (u 6 : Vec F S960x64 .bf16) :
      (⟨S10000x64, .f32⟩ : BufTy).Contents (Elt F)))

theorem step_res : (step (F := F)).result V (ref main_v44) = staged (V (ref main_v42)) (V (ref main_v43)) (V (ref main_v27)) (V (ref main_v33)) (V (ref main_v15)) (V (ref main_v35)) (V (ref main_v38)) :=
  StableHlo.nary_result _ _ _ _ _ V
theorem step_ne {r : Ref sig .tc} (h : r ≠ main_v44) : (step (F := F)).result V (ref r) = V (ref r) := StableHlo.nary_result_ne _ _ _ _ _ V h

theorem arr_out (c : Dev nD) : (dat V n c).arrAt 7 cfg1.N = (step (F := F)).result V (ref main_v44) := by
  rw [step_res]
  refine (dat V n c).arrAt_eq_of_covers 7 _ (by decide +kernel) fun t hf y => ?_
  blk_simp
  rw [after7, iblk0, iblk1, iblk2, iblk3, iblk4, iblk5, iblk6]
  refine (staged_at _ _ _ _ _ _ _ ⟨t.val, t.isLt.trans_eq N_1⟩ y _ ?_ ?_).symm
  · blk_simp; simp [show win1_7.index t 0 = t.val from congrFun (index7 t) 0]
  · blk_simp; simp [show win1_7.index t 1 = 0 from congrFun (index7 t) 1]

variable [∀ e, Nonempty (Elt F e)]

/-- The data of all pipelines, only this one's looked at. -/
def dats : (p : Fin 5) → (c : Dev nD) → Dat τ (Elt F) (HIx 5) ℕ UU ℕ (Pipeline.pin (pcfgs (F := F)) adm p) c
  | ⟨0, _⟩ => fun c => dat V n c
  | ⟨1, _⟩ => fun c => unused c
  | ⟨2, _⟩ => fun c => unused c
  | ⟨3, _⟩ => fun c => unused c
  | ⟨4, _⟩ => fun c => unused c

set_option backward.isDefEq.respectTransparency.types false in
/-- The region: entered with the buffers at `V`, left with the result in them. -/
def region : Pipeline.RegionSeg (pcfgs (F := F)) adm (dats V n) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (obligation V n c).loose
  hwaits c := Pipeline.cellsWaits_intro _ _ _ _ c fun w s t => (K (F := F)).mayWait_none _ (owed_none c n)
  pre c := iprop(unscopedBufs c (fun b => V (ref b)) ∗ ∃ W, ⌜(K (F := F)).WBelow (SparseCore.T c) W (8 * n)⌝ ∗ owes (SparseCore.T c) ((K (F := F)).Otc c n) W)
  post c := iprop(unscopedBufs c (fun b => (step (F := F)).result V (ref b)) ∗ ∃ W, ⌜(K (F := F)).WBelow (SparseCore.T c) W (8 * n)⌝ ∗ owes (SparseCore.T c) ((K (F := F)).Otc c n) W)
  X _ := BI.emp
  Y _ := BI.emp
  Z c := Pipeline.unscopedRest (Ix := HIx 5) (Name := ℕ) (U := UU) (Lvl := ℕ) spec1 c (fun b => V (ref b))
  hentry c := by
    rw [Pipeline.ownSems0_none]
    have hsplit := Pipeline.arrays_of_unscopedBufs (p := 0) (pcfgs (F := F)) adm (dats V n) launch1.win launch1.arr_whole c
      ((dats V n 0 c).share_full fun _ => rfl) (fun b => V (ref b)) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (dats V n 0 c).Φ 0 = Pipeline.scopedRest (Ix := HIx 5) (Name := ℕ) (U := UU) (Lvl := ℕ) (Val := Elt F) spec1 c from rfl]
    iintro ⟨-, -, Hr⟩; iexact Hr
  hout c := by
    rw [Pipeline.ownSems0_none, show (dats V n 0 c).Φ (Fin.last _) = Pipeline.scopedRest (Ix := HIx 5) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 5) (Name := ℕ) (U := UU) (Lvl := ℕ) launch1.win launch1.arr_whole c
      (dats V n) ((dats V n 0 c).share_full fun _ => rfl) (fun b => V (ref b)) (fun b => (step (F := F)).result V (ref b)) ((dats V n 0 c).arrAt · cfg1.N)
      (fun w => by
        fin_cases w
        · exact ((dats V n 0 c).arrAt_in 0 rfl _).trans (step_ne V (r := main_v42) (by decide)).symm
        · exact ((dats V n 0 c).arrAt_in 1 rfl _).trans (step_ne V (r := main_v43) (by decide)).symm
        · exact ((dats V n 0 c).arrAt_in 2 rfl _).trans (step_ne V (r := main_v27) (by decide)).symm
        · exact ((dats V n 0 c).arrAt_in 3 rfl _).trans (step_ne V (r := main_v33) (by decide)).symm
        · exact ((dats V n 0 c).arrAt_in 4 rfl _).trans (step_ne V (r := main_v15) (by decide)).symm
        · exact ((dats V n 0 c).arrAt_in 5 rfl _).trans (step_ne V (r := main_v35) (by decide)).symm
        · exact ((dats V n 0 c).arrAt_in 6 rfl _).trans (step_ne V (r := main_v38) (by decide)).symm
        · exact arr_out V n c)
      (fun b hb => step_ne V fun h => hb (h ▸ Finset.mem_image.mpr ⟨7, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, h⟩
      · exact h
      · rw [h]; exact Nat.zero_le _
    iexact HO

/-- The call, in a program: from the buffers at `V` to the buffers with the result. -/
theorem call (c : Dev nD) (k : PUnit → Prog (TpuEff nD τ sig (Elt F) (ΛP (F := F)) .tc) PUnit) (Q : PUnit → sProp 𝕄) :
    iprop((iprop(boundary (SparseCore.T c) ∗ unscopedBufs c (fun b => (step (F := F)).result V (ref b)) ∗ ∃ W, ⌜(K (F := F)).WBelow (SparseCore.T c) W (8 * n)⌝ ∗ owes (SparseCore.T c) ((K (F := F)).Otc c n) W)
          -∗ wp frame (wpE (D (F := F)) 𝒱 (SparseCore.T c) none) Set.univ (k ⟨⟩) Q)
        ∗ boundary (SparseCore.T c)
        ∗ iprop(unscopedBufs c (fun b => V (ref b)) ∗ ∃ W, ⌜(K (F := F)).WBelow (SparseCore.T c) W (8 * n)⌝ ∗ owes (SparseCore.T c) ((K (F := F)).Otc c n) W)
        ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE (D (F := F)) 𝒱 (SparseCore.T c) none) Set.univ (.op (.customCall (Pipeline.entry 0) ()) k) Q :=
  Pipeline.RegionSeg.wp pcfgs adm (dats V n) none cellOf_inj EP defs₀ 𝒱₀ (K (F := F)).L (K (F := F)).lev (region V n) c none (fun _ h => nomatch h) k Q

end Cert.Proof.Region0

end
-- ==== Proof.Region1.lean ====
/- TensorCore call 1: its region, over the buffers, from the launch's state between two SparseCore calls to the same state with the result written. -/
module

public import proofs.«01_k».proof.Proof.Stage
public import proofs.«01_k».proof.Proof.Gen.KernelIdeal.Launch
public import proofs.«01_k».proof.Proof.Gen.KernelIdeal.Points
public import Idealize.ShloMosaic.Lib.Pipeline.Regions
public import Idealize.ShloMosaic.Lib.Pipeline.ValueKit

@[expose] public section

set_option maxRecDepth 16384
set_option maxHeartbeats 1000000

noncomputable section

namespace Cert.Proof.Region1

open Cert.KernelIdeal Cert.KernelIdeal.Gen
open Cert.Proof.Launch Cert.Proof.Stage

open Idealize.ShloMosaic Idealize.ShloMosaic.TcCoe
open Idealize.ShloMosaic.ValueIdx
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 5) (Elt F) ℕ UU ℕ

variable (V : Valuation τ sig (Elt F)) (n : ℕ)

/-- Window `w`'s block at point `t`. -/
def iblk (w : Fin cfg3.W) (t : Fin cfg3.N) : ((cfg3.win w).xblock (cfg3.grid.coords t)).Idx → Elt F (cfg3.win w).elt :=
  ((cfg3.win w).blk t).view.read (Elt F) (V (ref (Pipeline.arrRef spec3 w)))

/-- What the thread's waits may have been on when `n` calls are over. -/
def waited (d : Dev nD) : Set (SemLoc sig × HIx 5) := {p | (K (F := F)).lev (SparseCore.T d, p.1) p.2 ≤ 8 * n}

/-- The pipeline's arrays, and what the body leaves at each point. -/
def dat (c : Dev nD) : Dat τ (Elt F) (HIx 5) ℕ UU ℕ cfg3 c where
  A w := V (ref (Pipeline.arrRef spec3 w))
  after w t := match w with
    | ⟨0, _⟩ => iblk V 0 t
    | ⟨1, _⟩ => iblk V 1 t
    | ⟨2, _⟩ => iblk V 2 t
    | ⟨3, _⟩ => iblk V 3 t
    | ⟨4, _⟩ => iblk V 4 t
    | ⟨5, _⟩ => iblk V 5 t
    | ⟨6, _⟩ => iblk V 6 t
    | ⟨7, _⟩ => TcBody.left (iblk V 0 t) (iblk V 1 t) (iblk V 2 t) (iblk V 3 t) (iblk V 4 t) (iblk V 5 t) (iblk V 6 t)
  Φ _ := Pipeline.scopedRest (Ix := HIx 5) (Name := ℕ) (U := UU) (Lvl := ℕ) (Val := Elt F) spec3 c
  q _ := fullShare
  owed _ := (K (F := F)).Otc c n
  recorded _ := waited (F := F) n c

theorem A_eq (c : Dev nD) (w : Fin cfg3.W) : (dat V n c).A w = V (ref (Pipeline.arrRef spec3 w)) := by dsimp only [dat]

theorem after0 (c : Dev nD) (t : Fin cfg3.N) : (dat V n c).after 0 t = iblk V 0 t := by dsimp only [dat]
theorem after1 (c : Dev nD) (t : Fin cfg3.N) : (dat V n c).after 1 t = iblk V 1 t := by dsimp only [dat]
theorem after2 (c : Dev nD) (t : Fin cfg3.N) : (dat V n c).after 2 t = iblk V 2 t := by dsimp only [dat]
theorem after3 (c : Dev nD) (t : Fin cfg3.N) : (dat V n c).after 3 t = iblk V 3 t := by dsimp only [dat]
theorem after4 (c : Dev nD) (t : Fin cfg3.N) : (dat V n c).after 4 t = iblk V 4 t := by dsimp only [dat]
theorem after5 (c : Dev nD) (t : Fin cfg3.N) : (dat V n c).after 5 t = iblk V 5 t := by dsimp only [dat]
theorem after6 (c : Dev nD) (t : Fin cfg3.N) : (dat V n c).after 6 t = iblk V 6 t := by dsimp only [dat]
theorem after7 (c : Dev nD) (t : Fin cfg3.N) : (dat V n c).after 7 t
    = TcBody.left (iblk V 0 t) (iblk V 1 t) (iblk V 2 t) (iblk V 3 t) (iblk V 4 t) (iblk V 5 t) (iblk V 6 t) := by dsimp only [dat]

theorem before0 (c : Dev nD) (t : Fin cfg3.N) (d) : (dat V n c).before 0 t d = iblk V 0 t :=
  ((dat V n c).before_in_eq_fetched 0 rfl (fun _ => rfl) (fun _ _ _ => rfl) (fun t => by rw [after0]; unfold Dat.blockOf iblk; rw [A_eq]) t d).trans
    (by unfold Dat.fetched Dat.blockOf iblk; rw [A_eq]; rfl)
theorem before1 (c : Dev nD) (t : Fin cfg3.N) (d) : (dat V n c).before 1 t d = iblk V 1 t :=
  ((dat V n c).before_in_eq_fetched 1 rfl (fun _ => rfl) (fun _ _ _ => rfl) (fun t => by rw [after1]; unfold Dat.blockOf iblk; rw [A_eq]) t d).trans
    (by unfold Dat.fetched Dat.blockOf iblk; rw [A_eq]; rfl)
theorem before2 (c : Dev nD) (t : Fin cfg3.N) (d) : (dat V n c).before 2 t d = iblk V 2 t :=
  ((dat V n c).before_in_eq_fetched 2 rfl (fun _ => rfl) (fun _ _ _ => rfl) (fun t => by rw [after2]; unfold Dat.blockOf iblk; rw [A_eq]) t d).trans
    (by unfold Dat.fetched Dat.blockOf iblk; rw [A_eq]; rfl)
theorem before3 (c : Dev nD) (t : Fin cfg3.N) (d) : (dat V n c).before 3 t d = iblk V 3 t :=
  ((dat V n c).before_in_eq_fetched 3 rfl (fun _ => rfl) (fun _ _ _ => rfl) (fun t => by rw [after3]; unfold Dat.blockOf iblk; rw [A_eq]) t d).trans
    (by unfold Dat.fetched Dat.blockOf iblk; rw [A_eq]; rfl)
theorem before4 (c : Dev nD) (t : Fin cfg3.N) (d) : (dat V n c).before 4 t d = iblk V 4 t :=
  ((dat V n c).before_in_eq_fetched 4 rfl (fun _ => rfl) (fun _ _ _ => rfl) (fun t => by rw [after4]; unfold Dat.blockOf iblk; rw [A_eq]) t d).trans
    (by unfold Dat.fetched Dat.blockOf iblk; rw [A_eq]; rfl)
theorem before5 (c : Dev nD) (t : Fin cfg3.N) (d) : (dat V n c).before 5 t d = iblk V 5 t :=
  ((dat V n c).before_in_eq_fetched 5 rfl (fun _ => rfl) (fun _ _ _ => rfl) (fun t => by rw [after5]; unfold Dat.blockOf iblk; rw [A_eq]) t d).trans
    (by unfold Dat.fetched Dat.blockOf iblk; rw [A_eq]; rfl)
theorem before6 (c : Dev nD) (t : Fin cfg3.N) (d) : (dat V n c).before 6 t d = iblk V 6 t :=
  ((dat V n c).before_in_eq_fetched 6 rfl (fun _ => rfl) (fun _ _ _ => rfl) (fun t => by rw [after6]; unfold Dat.blockOf iblk; rw [A_eq]) t d).trans
    (by unfold Dat.fetched Dat.blockOf iblk; rw [A_eq]; rfl)

theorem row_eq (t : Fin cfg3.N) : defs₀ (F := F) .tc cfg3.body (cfg3.bodyArgs t (cfg3.slots t)) = bodyAt3 t := by
  unfold defs₀; rfl

/-- The body at a point, on its staging buffers. -/
theorem body_at (c : Dev nD) (t : Fin cfg3.N) :
    iprop((dat V n c).Φ t.castSucc ∗ (dat V n c).owesAt none t.castSucc
        ∗ (∃ d, owns (c : Thread nD τ) (st3_0 t) fullShare ((dat V n c).before 0 t d)) ∗ (∃ d, owns (c : Thread nD τ) (st3_1 t) fullShare ((dat V n c).before 1 t d))
        ∗ (∃ d, owns (c : Thread nD τ) (st3_2 t) fullShare ((dat V n c).before 2 t d)) ∗ (∃ d, owns (c : Thread nD τ) (st3_3 t) fullShare ((dat V n c).before 3 t d))
        ∗ (∃ d, owns (c : Thread nD τ) (st3_4 t) fullShare ((dat V n c).before 4 t d)) ∗ (∃ d, owns (c : Thread nD τ) (st3_5 t) fullShare ((dat V n c).before 5 t d))
        ∗ (∃ d, owns (c : Thread nD τ) (st3_6 t) fullShare ((dat V n c).before 6 t d)) ∗ (∃ d, owns (c : Thread nD τ) (st3_7 t) fullShare ((dat V n c).before 7 t d)))
      ⊢ wp frame (wpE (defs₀ (F := F)) Variants.none c none) Set.univ (bodyAt3 t) fun _ =>
        iprop((dat V n c).Φ t.succ ∗ (dat V n c).owesAt none t.succ
        ∗ owns (c : Thread nD τ) (st3_0 t) fullShare ((dat V n c).after 0 t) ∗ owns (c : Thread nD τ) (st3_1 t) fullShare ((dat V n c).after 1 t)
        ∗ owns (c : Thread nD τ) (st3_2 t) fullShare ((dat V n c).after 2 t) ∗ owns (c : Thread nD τ) (st3_3 t) fullShare ((dat V n c).after 3 t)
        ∗ owns (c : Thread nD τ) (st3_4 t) fullShare ((dat V n c).after 4 t) ∗ owns (c : Thread nD τ) (st3_5 t) fullShare ((dat V n c).after 5 t)
        ∗ owns (c : Thread nD τ) (st3_6 t) fullShare ((dat V n c).after 6 t) ∗ owns (c : Thread nD τ) (st3_7 t) fullShare ((dat V n c).after 7 t)) := by
  unfold bodyAt3
  rw [TcBody.body3_eq]
  simp only [before0, before1, before2, before3, before4, before5, before6]
  rw [show (dat V n c).Φ t.succ = (dat V n c).Φ t.castSucc from rfl, show (dat V n c).owesAt none t.succ = (dat V n c).owesAt none t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (TcBody.body_run c Set.univ (grid3.coords t) _ _ _ _ _ _ _ _ _ _ _ _ _ _ _ _ (iblk V 0 t) (iblk V 1 t) (iblk V 2 t) (iblk V 3 t) (iblk V 4 t) (iblk V 5 t) (iblk V 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem obligation (c : Dev nD) : BodyObligation (dat V n c) (defs₀ (F := F)) Variants.none none Set.univ := fun t => by
  rw [bigSep_W3, bigSep_W3, row_eq]
  exact triple_restated (body_at V n c t) rfl .rfl fun _ => .rfl

/-! ## The result -/

theorem index0 : ∀ t : Fin cfg3.N, (cfg3.win 0).index t = ![0, t.val, 0] := by decide +kernel
theorem index1 : ∀ t : Fin cfg3.N, (cfg3.win 1).index t = ![t.val, 0] := by decide +kernel
theorem index7 : ∀ t : Fin cfg3.N, (cfg3.win 7).index t = ![t.val, 0] := by decide +kernel

theorem iblk0 (t : Fin cfg3.N) : iblk V 0 t = rowBlock (V (ref main_v48)) ⟨t.val, t.isLt.trans_eq N_3⟩ := by
  funext y; unfold iblk; blk_simp; unfold rowBlock
  have h := index0 t
  congr 1; funext a; fin_cases a <;> apply Fin.ext <;> blk_simp
  · simp [show win3_0.index t 0 = 0 from congrFun h 0]
  · simp [show win3_0.index t 1 = t.val from congrFun h 1, mul_comm]
  · simp [show win3_0.index t 2 = 0 from congrFun h 2]
theorem iblk1 (t : Fin cfg3.N) : iblk V 1 t = queryBlock (V (ref main_v49)) ⟨t.val, t.isLt.trans_eq N_3⟩ := by
  funext y; unfold iblk; blk_simp; unfold queryBlock
  have h := index1 t
  congr 1; funext a; fin_cases a <;> apply Fin.ext <;> blk_simp
  · simp [show win3_1.index t 0 = t.val from congrFun h 0, mul_comm]
  · simp [show win3_1.index t 1 = 0 from congrFun h 1]
theorem iblk2 (t : Fin cfg3.N) : iblk V 2 t = V (ref main_v27) := by
  funext y; unfold iblk; blk_simp
  congr 1; funext a; fin_cases a <;> apply Fin.ext <;> blk_simp
  · first | done | simp [show win3_2.index t 0 = 0 from rfl]
  · simp [show win3_2.index t 1 = 0 from rfl]
theorem iblk3 (t : Fin cfg3.N) : iblk V 3 t = V (ref main_v33) := by
  funext y; unfold iblk; blk_simp
  congr 1; funext a; fin_cases a <;> apply Fin.ext <;> blk_simp
  · first | done | simp [show win3_3.index t 0 = 0 from rfl]
  · simp [show win3_3.index t 1 = 0 from rfl]
theorem iblk4 (t : Fin cfg3.N) : iblk V 4 t = V (ref main_v15) := by
  funext y; unfold iblk; blk_simp
  congr 1; funext a; fin_cases a <;> apply Fin.ext <;> blk_simp
  · first | done | simp [show win3_4.index t 0 = 0 from rfl]
  · simp [show win3_4.index t 1 = 0 from rfl]
theorem iblk5 (t : Fin cfg3.N) : iblk V 5 t = V (ref main_v35) := by
  funext y; unfold iblk; blk_simp
  congr 1; funext a; fin_cases a <;> apply Fin.ext <;> blk_simp
  · first | done | simp [show win3_5.index t 0 = 0 from rfl]
  · simp [show win3_5.index t 1 = 0 from rfl]
theorem iblk6 (t : Fin cfg3.N) : iblk V 6 t = V (ref main_v38) := by
  funext y; unfold iblk; blk_simp
  congr 1; funext a; fin_cases a <;> apply Fin.ext <;> blk_simp
  · first | done | simp [show win3_6.index t 0 = 0 from rfl]
  · simp [show win3_6.index t 1 = 0 from rfl]

/-- The call as one operation on the buffers. -/
def step : HloOp τ sig (Elt F) :=
  StableHlo.nary ![main_v48, main_v49, main_v27, main_v33, main_v15, main_v35, main_v38] main_v50 (fun u =>
    (staged (u 0 : Vec F S16x10000x128 .f32) (u 1 : Vec F S10000x16 .f32) (u 2 : Vec F S512x256 .f32) (u 3 : Vec F S1x256 .f32) (u 4 : Vec F S16x960 .bf16) (u 5 : Vec F S960x64 .bf16) (u 6 : Vec F S960x64 .bf16) :
      (⟨S10000x64, .f32⟩ : BufTy).Contents (Elt F)))

theorem step_res : (step (F := F)).result V (ref main_v50) = staged (V (ref main_v48)) (V (ref main_v49)) (V (ref main_v27)) (V (ref main_v33)) (V (ref main_v15)) (V (ref main_v35)) (V (ref main_v38)) :=
  StableHlo.nary_result _ _ _ _ _ V
theorem step_ne {r : Ref sig .tc} (h : r ≠ main_v50) : (step (F := F)).result V (ref r) = V (ref r) := StableHlo.nary_result_ne _ _ _ _ _ V h

theorem arr_out (c : Dev nD) : (dat V n c).arrAt 7 cfg3.N = (step (F := F)).result V (ref main_v50) := by
  rw [step_res]
  refine (dat V n c).arrAt_eq_of_covers 7 _ (by decide +kernel) fun t hf y => ?_
  blk_simp
  rw [after7, iblk0, iblk1, iblk2, iblk3, iblk4, iblk5, iblk6]
  refine (staged_at _ _ _ _ _ _ _ ⟨t.val, t.isLt.trans_eq N_3⟩ y _ ?_ ?_).symm
  · blk_simp; simp [show win3_7.index t 0 = t.val from congrFun (index7 t) 0]
  · blk_simp; simp [show win3_7.index t 1 = 0 from congrFun (index7 t) 1]

variable [∀ e, Nonempty (Elt F e)]

/-- The data of all pipelines, only this one's looked at. -/
def dats : (p : Fin 5) → (c : Dev nD) → Dat τ (Elt F) (HIx 5) ℕ UU ℕ (Pipeline.pin (pcfgs (F := F)) adm p) c
  | ⟨0, _⟩ => fun c => unused c
  | ⟨1, _⟩ => fun c => dat V n c
  | ⟨2, _⟩ => fun c => unused c
  | ⟨3, _⟩ => fun c => unused c
  | ⟨4, _⟩ => fun c => unused c

set_option backward.isDefEq.respectTransparency.types false in
/-- The region: entered with the buffers at `V`, left with the result in them. -/
def region : Pipeline.RegionSeg (pcfgs (F := F)) adm (dats V n) none defs₀ 𝒱₀ (K (F := F)).L (K (F := F)).lev 1 where
  win := launch3.win.to₀
  block_pos := launch3.block_pos
  stage_whole := launch3.stage_whole
  K := PEmpty
  osem k := k.elim
  ho := Pipeline.OwnSemFacts.none _
  hbody c := (obligation V n c).loose
  hwaits c := Pipeline.cellsWaits_intro _ _ _ _ c fun w s t => (K (F := F)).mayWait_none _ (owed_none c n)
  pre c := iprop(unscopedBufs c (fun b => V (ref b)) ∗ ∃ W, ⌜(K (F := F)).WBelow (SparseCore.T c) W (8 * n)⌝ ∗ owes (SparseCore.T c) ((K (F := F)).Otc c n) W)
  post c := iprop(unscopedBufs c (fun b => (step (F := F)).result V (ref b)) ∗ ∃ W, ⌜(K (F := F)).WBelow (SparseCore.T c) W (8 * n)⌝ ∗ owes (SparseCore.T c) ((K (F := F)).Otc c n) W)
  X _ := BI.emp
  Y _ := BI.emp
  Z c := Pipeline.unscopedRest (Ix := HIx 5) (Name := ℕ) (U := UU) (Lvl := ℕ) spec3 c (fun b => V (ref b))
  hentry c := by
    rw [Pipeline.ownSems0_none]
    have hsplit := Pipeline.arrays_of_unscopedBufs (p := 1) (pcfgs (F := F)) adm (dats V n) launch3.win launch3.arr_whole c
      ((dats V n 1 c).share_full fun _ => rfl) (fun b => V (ref b)) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (dats V n 1 c).Φ 0 = Pipeline.scopedRest (Ix := HIx 5) (Name := ℕ) (U := UU) (Lvl := ℕ) (Val := Elt F) spec3 c from rfl]
    iintro ⟨-, -, Hr⟩; iexact Hr
  hout c := by
    rw [Pipeline.ownSems0_none, show (dats V n 1 c).Φ (Fin.last _) = Pipeline.scopedRest (Ix := HIx 5) (Name := ℕ) (U := UU) (Lvl := ℕ) (Val := Elt F) spec3 c from rfl]
    iintro Hr
    isplitr; · iempintro
    isplitr; · iempintro
    iexact Hr
  hexit c := by
    have hjoin := Pipeline.unscopedBufs_of_arrays (p := 1) (pcfgs (F := F)) adm (Ix := HIx 5) (Name := ℕ) (U := UU) (Lvl := ℕ) launch3.win launch3.arr_whole c
      (dats V n) ((dats V n 1 c).share_full fun _ => rfl) (fun b => V (ref b)) (fun b => (step (F := F)).result V (ref b)) ((dats V n 1 c).arrAt · cfg3.N)
      (fun w => by
        fin_cases w
        · exact ((dats V n 1 c).arrAt_in 0 rfl _).trans (step_ne V (r := main_v48) (by decide)).symm
        · exact ((dats V n 1 c).arrAt_in 1 rfl _).trans (step_ne V (r := main_v49) (by decide)).symm
        · exact ((dats V n 1 c).arrAt_in 2 rfl _).trans (step_ne V (r := main_v27) (by decide)).symm
        · exact ((dats V n 1 c).arrAt_in 3 rfl _).trans (step_ne V (r := main_v33) (by decide)).symm
        · exact ((dats V n 1 c).arrAt_in 4 rfl _).trans (step_ne V (r := main_v15) (by decide)).symm
        · exact ((dats V n 1 c).arrAt_in 5 rfl _).trans (step_ne V (r := main_v35) (by decide)).symm
        · exact ((dats V n 1 c).arrAt_in 6 rfl _).trans (step_ne V (r := main_v38) (by decide)).symm
        · exact arr_out V n c)
      (fun b hb => step_ne V fun h => hb (h ▸ Finset.mem_image.mpr ⟨7, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, h⟩
      · exact h
      · rw [h]; exact Nat.zero_le _
    iexact HO

/-- The call, in a program: from the buffers at `V` to the buffers with the result. -/
theorem call (c : Dev nD) (k : PUnit → Prog (TpuEff nD τ sig (Elt F) (ΛP (F := F)) .tc) PUnit) (Q : PUnit → sProp 𝕄) :
    iprop((iprop(boundary (SparseCore.T c) ∗ unscopedBufs c (fun b => (step (F := F)).result V (ref b)) ∗ ∃ W, ⌜(K (F := F)).WBelow (SparseCore.T c) W (8 * n)⌝ ∗ owes (SparseCore.T c) ((K (F := F)).Otc c n) W)
          -∗ wp frame (wpE (D (F := F)) 𝒱 (SparseCore.T c) none) Set.univ (k ⟨⟩) Q)
        ∗ boundary (SparseCore.T c)
        ∗ iprop(unscopedBufs c (fun b => V (ref b)) ∗ ∃ W, ⌜(K (F := F)).WBelow (SparseCore.T c) W (8 * n)⌝ ∗ owes (SparseCore.T c) ((K (F := F)).Otc c n) W)
        ∗ levAts (K (F := F)).L (K (F := F)).lev
        ∗ Pipeline.cellsGhost (Pipeline.pin (pcfgs (F := F)) adm) EP 1 c ∗ Pipeline.toksInit (Pipeline.pin (pcfgs (F := F)) adm) EP 1 c)
      ⊢ wp frame (wpE (D (F := F)) 𝒱 (SparseCore.T c) none) Set.univ (.op (.customCall (Pipeline.entry 1) ()) k) Q :=
  Pipeline.RegionSeg.wp pcfgs adm (dats V n) none cellOf_inj EP defs₀ 𝒱₀ (K (F := F)).L (K (F := F)).lev (region V n) c none (fun _ h => nomatch h) k Q

end Cert.Proof.Region1

end
-- ==== Proof.Region2.lean ====
/- TensorCore call 2: its region, over the buffers, from the launch's state between two SparseCore calls to the same state with the result written. -/
module

public import proofs.«01_k».proof.Proof.Stage
public import proofs.«01_k».proof.Proof.Gen.KernelIdeal.Launch
public import proofs.«01_k».proof.Proof.Gen.KernelIdeal.Points
public import Idealize.ShloMosaic.Lib.Pipeline.Regions
public import Idealize.ShloMosaic.Lib.Pipeline.ValueKit

@[expose] public section

set_option maxRecDepth 16384
set_option maxHeartbeats 1000000

noncomputable section

namespace Cert.Proof.Region2

open Cert.KernelIdeal Cert.KernelIdeal.Gen
open Cert.Proof.Launch Cert.Proof.Stage

open Idealize.ShloMosaic Idealize.ShloMosaic.TcCoe
open Idealize.ShloMosaic.ValueIdx
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 5) (Elt F) ℕ UU ℕ

variable (V : Valuation τ sig (Elt F)) (n : ℕ)

/-- Window `w`'s block at point `t`. -/
def iblk (w : Fin cfg5.W) (t : Fin cfg5.N) : ((cfg5.win w).xblock (cfg5.grid.coords t)).Idx → Elt F (cfg5.win w).elt :=
  ((cfg5.win w).blk t).view.read (Elt F) (V (ref (Pipeline.arrRef spec5 w)))

/-- What the thread's waits may have been on when `n` calls are over. -/
def waited (d : Dev nD) : Set (SemLoc sig × HIx 5) := {p | (K (F := F)).lev (SparseCore.T d, p.1) p.2 ≤ 8 * n}

/-- The pipeline's arrays, and what the body leaves at each point. -/
def dat (c : Dev nD) : Dat τ (Elt F) (HIx 5) ℕ UU ℕ cfg5 c where
  A w := V (ref (Pipeline.arrRef spec5 w))
  after w t := match w with
    | ⟨0, _⟩ => iblk V 0 t
    | ⟨1, _⟩ => iblk V 1 t
    | ⟨2, _⟩ => iblk V 2 t
    | ⟨3, _⟩ => iblk V 3 t
    | ⟨4, _⟩ => iblk V 4 t
    | ⟨5, _⟩ => iblk V 5 t
    | ⟨6, _⟩ => iblk V 6 t
    | ⟨7, _⟩ => TcBody.left (iblk V 0 t) (iblk V 1 t) (iblk V 2 t) (iblk V 3 t) (iblk V 4 t) (iblk V 5 t) (iblk V 6 t)
  Φ _ := Pipeline.scopedRest (Ix := HIx 5) (Name := ℕ) (U := UU) (Lvl := ℕ) (Val := Elt F) spec5 c
  q _ := fullShare
  owed _ := (K (F := F)).Otc c n
  recorded _ := waited (F := F) n c

theorem A_eq (c : Dev nD) (w : Fin cfg5.W) : (dat V n c).A w = V (ref (Pipeline.arrRef spec5 w)) := by dsimp only [dat]

theorem after0 (c : Dev nD) (t : Fin cfg5.N) : (dat V n c).after 0 t = iblk V 0 t := by dsimp only [dat]
theorem after1 (c : Dev nD) (t : Fin cfg5.N) : (dat V n c).after 1 t = iblk V 1 t := by dsimp only [dat]
theorem after2 (c : Dev nD) (t : Fin cfg5.N) : (dat V n c).after 2 t = iblk V 2 t := by dsimp only [dat]
theorem after3 (c : Dev nD) (t : Fin cfg5.N) : (dat V n c).after 3 t = iblk V 3 t := by dsimp only [dat]
theorem after4 (c : Dev nD) (t : Fin cfg5.N) : (dat V n c).after 4 t = iblk V 4 t := by dsimp only [dat]
theorem after5 (c : Dev nD) (t : Fin cfg5.N) : (dat V n c).after 5 t = iblk V 5 t := by dsimp only [dat]
theorem after6 (c : Dev nD) (t : Fin cfg5.N) : (dat V n c).after 6 t = iblk V 6 t := by dsimp only [dat]
theorem after7 (c : Dev nD) (t : Fin cfg5.N) : (dat V n c).after 7 t
    = TcBody.left (iblk V 0 t) (iblk V 1 t) (iblk V 2 t) (iblk V 3 t) (iblk V 4 t) (iblk V 5 t) (iblk V 6 t) := by dsimp only [dat]

theorem before0 (c : Dev nD) (t : Fin cfg5.N) (d) : (dat V n c).before 0 t d = iblk V 0 t :=
  ((dat V n c).before_in_eq_fetched 0 rfl (fun _ => rfl) (fun _ _ _ => rfl) (fun t => by rw [after0]; unfold Dat.blockOf iblk; rw [A_eq]) t d).trans
    (by unfold Dat.fetched Dat.blockOf iblk; rw [A_eq]; rfl)
theorem before1 (c : Dev nD) (t : Fin cfg5.N) (d) : (dat V n c).before 1 t d = iblk V 1 t :=
  ((dat V n c).before_in_eq_fetched 1 rfl (fun _ => rfl) (fun _ _ _ => rfl) (fun t => by rw [after1]; unfold Dat.blockOf iblk; rw [A_eq]) t d).trans
    (by unfold Dat.fetched Dat.blockOf iblk; rw [A_eq]; rfl)
theorem before2 (c : Dev nD) (t : Fin cfg5.N) (d) : (dat V n c).before 2 t d = iblk V 2 t :=
  ((dat V n c).before_in_eq_fetched 2 rfl (fun _ => rfl) (fun _ _ _ => rfl) (fun t => by rw [after2]; unfold Dat.blockOf iblk; rw [A_eq]) t d).trans
    (by unfold Dat.fetched Dat.blockOf iblk; rw [A_eq]; rfl)
theorem before3 (c : Dev nD) (t : Fin cfg5.N) (d) : (dat V n c).before 3 t d = iblk V 3 t :=
  ((dat V n c).before_in_eq_fetched 3 rfl (fun _ => rfl) (fun _ _ _ => rfl) (fun t => by rw [after3]; unfold Dat.blockOf iblk; rw [A_eq]) t d).trans
    (by unfold Dat.fetched Dat.blockOf iblk; rw [A_eq]; rfl)
theorem before4 (c : Dev nD) (t : Fin cfg5.N) (d) : (dat V n c).before 4 t d = iblk V 4 t :=
  ((dat V n c).before_in_eq_fetched 4 rfl (fun _ => rfl) (fun _ _ _ => rfl) (fun t => by rw [after4]; unfold Dat.blockOf iblk; rw [A_eq]) t d).trans
    (by unfold Dat.fetched Dat.blockOf iblk; rw [A_eq]; rfl)
theorem before5 (c : Dev nD) (t : Fin cfg5.N) (d) : (dat V n c).before 5 t d = iblk V 5 t :=
  ((dat V n c).before_in_eq_fetched 5 rfl (fun _ => rfl) (fun _ _ _ => rfl) (fun t => by rw [after5]; unfold Dat.blockOf iblk; rw [A_eq]) t d).trans
    (by unfold Dat.fetched Dat.blockOf iblk; rw [A_eq]; rfl)
theorem before6 (c : Dev nD) (t : Fin cfg5.N) (d) : (dat V n c).before 6 t d = iblk V 6 t :=
  ((dat V n c).before_in_eq_fetched 6 rfl (fun _ => rfl) (fun _ _ _ => rfl) (fun t => by rw [after6]; unfold Dat.blockOf iblk; rw [A_eq]) t d).trans
    (by unfold Dat.fetched Dat.blockOf iblk; rw [A_eq]; rfl)

theorem row_eq (t : Fin cfg5.N) : defs₀ (F := F) .tc cfg5.body (cfg5.bodyArgs t (cfg5.slots t)) = bodyAt5 t := by
  unfold defs₀; rfl

/-- The body at a point, on its staging buffers. -/
theorem body_at (c : Dev nD) (t : Fin cfg5.N) :
    iprop((dat V n c).Φ t.castSucc ∗ (dat V n c).owesAt none t.castSucc
        ∗ (∃ d, owns (c : Thread nD τ) (st5_0 t) fullShare ((dat V n c).before 0 t d)) ∗ (∃ d, owns (c : Thread nD τ) (st5_1 t) fullShare ((dat V n c).before 1 t d))
        ∗ (∃ d, owns (c : Thread nD τ) (st5_2 t) fullShare ((dat V n c).before 2 t d)) ∗ (∃ d, owns (c : Thread nD τ) (st5_3 t) fullShare ((dat V n c).before 3 t d))
        ∗ (∃ d, owns (c : Thread nD τ) (st5_4 t) fullShare ((dat V n c).before 4 t d)) ∗ (∃ d, owns (c : Thread nD τ) (st5_5 t) fullShare ((dat V n c).before 5 t d))
        ∗ (∃ d, owns (c : Thread nD τ) (st5_6 t) fullShare ((dat V n c).before 6 t d)) ∗ (∃ d, owns (c : Thread nD τ) (st5_7 t) fullShare ((dat V n c).before 7 t d)))
      ⊢ wp frame (wpE (defs₀ (F := F)) Variants.none c none) Set.univ (bodyAt5 t) fun _ =>
        iprop((dat V n c).Φ t.succ ∗ (dat V n c).owesAt none t.succ
        ∗ owns (c : Thread nD τ) (st5_0 t) fullShare ((dat V n c).after 0 t) ∗ owns (c : Thread nD τ) (st5_1 t) fullShare ((dat V n c).after 1 t)
        ∗ owns (c : Thread nD τ) (st5_2 t) fullShare ((dat V n c).after 2 t) ∗ owns (c : Thread nD τ) (st5_3 t) fullShare ((dat V n c).after 3 t)
        ∗ owns (c : Thread nD τ) (st5_4 t) fullShare ((dat V n c).after 4 t) ∗ owns (c : Thread nD τ) (st5_5 t) fullShare ((dat V n c).after 5 t)
        ∗ owns (c : Thread nD τ) (st5_6 t) fullShare ((dat V n c).after 6 t) ∗ owns (c : Thread nD τ) (st5_7 t) fullShare ((dat V n c).after 7 t)) := by
  unfold bodyAt5
  rw [TcBody.body5_eq]
  simp only [before0, before1, before2, before3, before4, before5, before6]
  rw [show (dat V n c).Φ t.succ = (dat V n c).Φ t.castSucc from rfl, show (dat V n c).owesAt none t.succ = (dat V n c).owesAt none t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (TcBody.body_run c Set.univ (grid5.coords t) _ _ _ _ _ _ _ _ _ _ _ _ _ _ _ _ (iblk V 0 t) (iblk V 1 t) (iblk V 2 t) (iblk V 3 t) (iblk V 4 t) (iblk V 5 t) (iblk V 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem obligation (c : Dev nD) : BodyObligation (dat V n c) (defs₀ (F := F)) Variants.none none Set.univ := fun t => by
  rw [bigSep_W5, bigSep_W5, row_eq]
  exact triple_restated (body_at V n c t) rfl .rfl fun _ => .rfl

/-! ## The result -/

theorem index0 : ∀ t : Fin cfg5.N, (cfg5.win 0).index t = ![0, t.val, 0] := by decide +kernel
theorem index1 : ∀ t : Fin cfg5.N, (cfg5.win 1).index t = ![t.val, 0] := by decide +kernel
theorem index7 : ∀ t : Fin cfg5.N, (cfg5.win 7).index t = ![t.val, 0] := by decide +kernel

theorem iblk0 (t : Fin cfg5.N) : iblk V 0 t = rowBlock (V (ref main_v54)) ⟨t.val, t.isLt.trans_eq N_5⟩ := by
  funext y; unfold iblk; blk_simp; unfold rowBlock
  have h := index0 t
  congr 1; funext a; fin_cases a <;> apply Fin.ext <;> blk_simp
  · simp [show win5_0.index t 0 = 0 from congrFun h 0]
  · simp [show win5_0.index t 1 = t.val from congrFun h 1, mul_comm]
  · simp [show win5_0.index t 2 = 0 from congrFun h 2]
theorem iblk1 (t : Fin cfg5.N) : iblk V 1 t = queryBlock (V (ref main_v55)) ⟨t.val, t.isLt.trans_eq N_5⟩ := by
  funext y; unfold iblk; blk_simp; unfold queryBlock
  have h := index1 t
  congr 1; funext a; fin_cases a <;> apply Fin.ext <;> blk_simp
  · simp [show win5_1.index t 0 = t.val from congrFun h 0, mul_comm]
  · simp [show win5_1.index t 1 = 0 from congrFun h 1]
theorem iblk2 (t : Fin cfg5.N) : iblk V 2 t = V (ref main_v27) := by
  funext y; unfold iblk; blk_simp
  congr 1; funext a; fin_cases a <;> apply Fin.ext <;> blk_simp
  · first | done | simp [show win5_2.index t 0 = 0 from rfl]
  · simp [show win5_2.index t 1 = 0 from rfl]
theorem iblk3 (t : Fin cfg5.N) : iblk V 3 t = V (ref main_v33) := by
  funext y; unfold iblk; blk_simp
  congr 1; funext a; fin_cases a <;> apply Fin.ext <;> blk_simp
  · first | done | simp [show win5_3.index t 0 = 0 from rfl]
  · simp [show win5_3.index t 1 = 0 from rfl]
theorem iblk4 (t : Fin cfg5.N) : iblk V 4 t = V (ref main_v15) := by
  funext y; unfold iblk; blk_simp
  congr 1; funext a; fin_cases a <;> apply Fin.ext <;> blk_simp
  · first | done | simp [show win5_4.index t 0 = 0 from rfl]
  · simp [show win5_4.index t 1 = 0 from rfl]
theorem iblk5 (t : Fin cfg5.N) : iblk V 5 t = V (ref main_v35) := by
  funext y; unfold iblk; blk_simp
  congr 1; funext a; fin_cases a <;> apply Fin.ext <;> blk_simp
  · first | done | simp [show win5_5.index t 0 = 0 from rfl]
  · simp [show win5_5.index t 1 = 0 from rfl]
theorem iblk6 (t : Fin cfg5.N) : iblk V 6 t = V (ref main_v38) := by
  funext y; unfold iblk; blk_simp
  congr 1; funext a; fin_cases a <;> apply Fin.ext <;> blk_simp
  · first | done | simp [show win5_6.index t 0 = 0 from rfl]
  · simp [show win5_6.index t 1 = 0 from rfl]

/-- The call as one operation on the buffers. -/
def step : HloOp τ sig (Elt F) :=
  StableHlo.nary ![main_v54, main_v55, main_v27, main_v33, main_v15, main_v35, main_v38] main_v56 (fun u =>
    (staged (u 0 : Vec F S16x10000x128 .f32) (u 1 : Vec F S10000x16 .f32) (u 2 : Vec F S512x256 .f32) (u 3 : Vec F S1x256 .f32) (u 4 : Vec F S16x960 .bf16) (u 5 : Vec F S960x64 .bf16) (u 6 : Vec F S960x64 .bf16) :
      (⟨S10000x64, .f32⟩ : BufTy).Contents (Elt F)))

theorem step_res : (step (F := F)).result V (ref main_v56) = staged (V (ref main_v54)) (V (ref main_v55)) (V (ref main_v27)) (V (ref main_v33)) (V (ref main_v15)) (V (ref main_v35)) (V (ref main_v38)) :=
  StableHlo.nary_result _ _ _ _ _ V
theorem step_ne {r : Ref sig .tc} (h : r ≠ main_v56) : (step (F := F)).result V (ref r) = V (ref r) := StableHlo.nary_result_ne _ _ _ _ _ V h

theorem arr_out (c : Dev nD) : (dat V n c).arrAt 7 cfg5.N = (step (F := F)).result V (ref main_v56) := by
  rw [step_res]
  refine (dat V n c).arrAt_eq_of_covers 7 _ (by decide +kernel) fun t hf y => ?_
  blk_simp
  rw [after7, iblk0, iblk1, iblk2, iblk3, iblk4, iblk5, iblk6]
  refine (staged_at _ _ _ _ _ _ _ ⟨t.val, t.isLt.trans_eq N_5⟩ y _ ?_ ?_).symm
  · blk_simp; simp [show win5_7.index t 0 = t.val from congrFun (index7 t) 0]
  · blk_simp; simp [show win5_7.index t 1 = 0 from congrFun (index7 t) 1]

variable [∀ e, Nonempty (Elt F e)]

/-- The data of all pipelines, only this one's looked at. -/
def dats : (p : Fin 5) → (c : Dev nD) → Dat τ (Elt F) (HIx 5) ℕ UU ℕ (Pipeline.pin (pcfgs (F := F)) adm p) c
  | ⟨0, _⟩ => fun c => unused c
  | ⟨1, _⟩ => fun c => unused c
  | ⟨2, _⟩ => fun c => dat V n c
  | ⟨3, _⟩ => fun c => unused c
  | ⟨4, _⟩ => fun c => unused c

set_option backward.isDefEq.respectTransparency.types false in
/-- The region: entered with the buffers at `V`, left with the result in them. -/
def region : Pipeline.RegionSeg (pcfgs (F := F)) adm (dats V n) none defs₀ 𝒱₀ (K (F := F)).L (K (F := F)).lev 2 where
  win := launch5.win.to₀
  block_pos := launch5.block_pos
  stage_whole := launch5.stage_whole
  K := PEmpty
  osem k := k.elim
  ho := Pipeline.OwnSemFacts.none _
  hbody c := (obligation V n c).loose
  hwaits c := Pipeline.cellsWaits_intro _ _ _ _ c fun w s t => (K (F := F)).mayWait_none _ (owed_none c n)
  pre c := iprop(unscopedBufs c (fun b => V (ref b)) ∗ ∃ W, ⌜(K (F := F)).WBelow (SparseCore.T c) W (8 * n)⌝ ∗ owes (SparseCore.T c) ((K (F := F)).Otc c n) W)
  post c := iprop(unscopedBufs c (fun b => (step (F := F)).result V (ref b)) ∗ ∃ W, ⌜(K (F := F)).WBelow (SparseCore.T c) W (8 * n)⌝ ∗ owes (SparseCore.T c) ((K (F := F)).Otc c n) W)
  X _ := BI.emp
  Y _ := BI.emp
  Z c := Pipeline.unscopedRest (Ix := HIx 5) (Name := ℕ) (U := UU) (Lvl := ℕ) spec5 c (fun b => V (ref b))
  hentry c := by
    rw [Pipeline.ownSems0_none]
    have hsplit := Pipeline.arrays_of_unscopedBufs (p := 2) (pcfgs (F := F)) adm (dats V n) launch5.win launch5.arr_whole c
      ((dats V n 2 c).share_full fun _ => rfl) (fun b => V (ref b)) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (dats V n 2 c).Φ 0 = Pipeline.scopedRest (Ix := HIx 5) (Name := ℕ) (U := UU) (Lvl := ℕ) (Val := Elt F) spec5 c from rfl]
    iintro ⟨-, -, Hr⟩; iexact Hr
  hout c := by
    rw [Pipeline.ownSems0_none, show (dats V n 2 c).Φ (Fin.last _) = Pipeline.scopedRest (Ix := HIx 5) (Name := ℕ) (U := UU) (Lvl := ℕ) (Val := Elt F) spec5 c from rfl]
    iintro Hr
    isplitr; · iempintro
    isplitr; · iempintro
    iexact Hr
  hexit c := by
    have hjoin := Pipeline.unscopedBufs_of_arrays (p := 2) (pcfgs (F := F)) adm (Ix := HIx 5) (Name := ℕ) (U := UU) (Lvl := ℕ) launch5.win launch5.arr_whole c
      (dats V n) ((dats V n 2 c).share_full fun _ => rfl) (fun b => V (ref b)) (fun b => (step (F := F)).result V (ref b)) ((dats V n 2 c).arrAt · cfg5.N)
      (fun w => by
        fin_cases w
        · exact ((dats V n 2 c).arrAt_in 0 rfl _).trans (step_ne V (r := main_v54) (by decide)).symm
        · exact ((dats V n 2 c).arrAt_in 1 rfl _).trans (step_ne V (r := main_v55) (by decide)).symm
        · exact ((dats V n 2 c).arrAt_in 2 rfl _).trans (step_ne V (r := main_v27) (by decide)).symm
        · exact ((dats V n 2 c).arrAt_in 3 rfl _).trans (step_ne V (r := main_v33) (by decide)).symm
        · exact ((dats V n 2 c).arrAt_in 4 rfl _).trans (step_ne V (r := main_v15) (by decide)).symm
        · exact ((dats V n 2 c).arrAt_in 5 rfl _).trans (step_ne V (r := main_v35) (by decide)).symm
        · exact ((dats V n 2 c).arrAt_in 6 rfl _).trans (step_ne V (r := main_v38) (by decide)).symm
        · exact arr_out V n c)
      (fun b hb => step_ne V fun h => hb (h ▸ Finset.mem_image.mpr ⟨7, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, h⟩
      · exact h
      · rw [h]; exact Nat.zero_le _
    iexact HO

/-- The call, in a program: from the buffers at `V` to the buffers with the result. -/
theorem call (c : Dev nD) (k : PUnit → Prog (TpuEff nD τ sig (Elt F) (ΛP (F := F)) .tc) PUnit) (Q : PUnit → sProp 𝕄) :
    iprop((iprop(boundary (SparseCore.T c) ∗ unscopedBufs c (fun b => (step (F := F)).result V (ref b)) ∗ ∃ W, ⌜(K (F := F)).WBelow (SparseCore.T c) W (8 * n)⌝ ∗ owes (SparseCore.T c) ((K (F := F)).Otc c n) W)
          -∗ wp frame (wpE (D (F := F)) 𝒱 (SparseCore.T c) none) Set.univ (k ⟨⟩) Q)
        ∗ boundary (SparseCore.T c)
        ∗ iprop(unscopedBufs c (fun b => V (ref b)) ∗ ∃ W, ⌜(K (F := F)).WBelow (SparseCore.T c) W (8 * n)⌝ ∗ owes (SparseCore.T c) ((K (F := F)).Otc c n) W)
        ∗ levAts (K (F := F)).L (K (F := F)).lev
        ∗ Pipeline.cellsGhost (Pipeline.pin (pcfgs (F := F)) adm) EP 2 c ∗ Pipeline.toksInit (Pipeline.pin (pcfgs (F := F)) adm) EP 2 c)
      ⊢ wp frame (wpE (D (F := F)) 𝒱 (SparseCore.T c) none) Set.univ (.op (.customCall (Pipeline.entry 2) ()) k) Q :=
  Pipeline.RegionSeg.wp pcfgs adm (dats V n) none cellOf_inj EP defs₀ 𝒱₀ (K (F := F)).L (K (F := F)).lev (region V n) c none (fun _ h => nomatch h) k Q

end Cert.Proof.Region2

end
-- ==== Proof.Region3.lean ====
/- TensorCore call 3: its region, over the buffers, from the launch's state between two SparseCore calls to the same state with the result written. -/
module

public import proofs.«01_k».proof.Proof.Stage
public import proofs.«01_k».proof.Proof.Gen.KernelIdeal.Launch
public import proofs.«01_k».proof.Proof.Gen.KernelIdeal.Points
public import Idealize.ShloMosaic.Lib.Pipeline.Regions
public import Idealize.ShloMosaic.Lib.Pipeline.ValueKit

@[expose] public section

set_option maxRecDepth 16384
set_option maxHeartbeats 1000000

noncomputable section

namespace Cert.Proof.Region3

open Cert.KernelIdeal Cert.KernelIdeal.Gen
open Cert.Proof.Launch Cert.Proof.Stage

open Idealize.ShloMosaic Idealize.ShloMosaic.TcCoe
open Idealize.ShloMosaic.ValueIdx
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 5) (Elt F) ℕ UU ℕ

variable (V : Valuation τ sig (Elt F)) (n : ℕ)

/-- Window `w`'s block at point `t`. -/
def iblk (w : Fin cfg7.W) (t : Fin cfg7.N) : ((cfg7.win w).xblock (cfg7.grid.coords t)).Idx → Elt F (cfg7.win w).elt :=
  ((cfg7.win w).blk t).view.read (Elt F) (V (ref (Pipeline.arrRef spec7 w)))

/-- What the thread's waits may have been on when `n` calls are over. -/
def waited (d : Dev nD) : Set (SemLoc sig × HIx 5) := {p | (K (F := F)).lev (SparseCore.T d, p.1) p.2 ≤ 8 * n}

/-- The pipeline's arrays, and what the body leaves at each point. -/
def dat (c : Dev nD) : Dat τ (Elt F) (HIx 5) ℕ UU ℕ cfg7 c where
  A w := V (ref (Pipeline.arrRef spec7 w))
  after w t := match w with
    | ⟨0, _⟩ => iblk V 0 t
    | ⟨1, _⟩ => iblk V 1 t
    | ⟨2, _⟩ => iblk V 2 t
    | ⟨3, _⟩ => iblk V 3 t
    | ⟨4, _⟩ => iblk V 4 t
    | ⟨5, _⟩ => iblk V 5 t
    | ⟨6, _⟩ => iblk V 6 t
    | ⟨7, _⟩ => TcBody.left (iblk V 0 t) (iblk V 1 t) (iblk V 2 t) (iblk V 3 t) (iblk V 4 t) (iblk V 5 t) (iblk V 6 t)
  Φ _ := Pipeline.scopedRest (Ix := HIx 5) (Name := ℕ) (U := UU) (Lvl := ℕ) (Val := Elt F) spec7 c
  q _ := fullShare
  owed _ := (K (F := F)).Otc c n
  recorded _ := waited (F := F) n c

theorem A_eq (c : Dev nD) (w : Fin cfg7.W) : (dat V n c).A w = V (ref (Pipeline.arrRef spec7 w)) := by dsimp only [dat]

theorem after0 (c : Dev nD) (t : Fin cfg7.N) : (dat V n c).after 0 t = iblk V 0 t := by dsimp only [dat]
theorem after1 (c : Dev nD) (t : Fin cfg7.N) : (dat V n c).after 1 t = iblk V 1 t := by dsimp only [dat]
theorem after2 (c : Dev nD) (t : Fin cfg7.N) : (dat V n c).after 2 t = iblk V 2 t := by dsimp only [dat]
theorem after3 (c : Dev nD) (t : Fin cfg7.N) : (dat V n c).after 3 t = iblk V 3 t := by dsimp only [dat]
theorem after4 (c : Dev nD) (t : Fin cfg7.N) : (dat V n c).after 4 t = iblk V 4 t := by dsimp only [dat]
theorem after5 (c : Dev nD) (t : Fin cfg7.N) : (dat V n c).after 5 t = iblk V 5 t := by dsimp only [dat]
theorem after6 (c : Dev nD) (t : Fin cfg7.N) : (dat V n c).after 6 t = iblk V 6 t := by dsimp only [dat]
theorem after7 (c : Dev nD) (t : Fin cfg7.N) : (dat V n c).after 7 t
    = TcBody.left (iblk V 0 t) (iblk V 1 t) (iblk V 2 t) (iblk V 3 t) (iblk V 4 t) (iblk V 5 t) (iblk V 6 t) := by dsimp only [dat]

theorem before0 (c : Dev nD) (t : Fin cfg7.N) (d) : (dat V n c).before 0 t d = iblk V 0 t :=
  ((dat V n c).before_in_eq_fetched 0 rfl (fun _ => rfl) (fun _ _ _ => rfl) (fun t => by rw [after0]; unfold Dat.blockOf iblk; rw [A_eq]) t d).trans
    (by unfold Dat.fetched Dat.blockOf iblk; rw [A_eq]; rfl)
theorem before1 (c : Dev nD) (t : Fin cfg7.N) (d) : (dat V n c).before 1 t d = iblk V 1 t :=
  ((dat V n c).before_in_eq_fetched 1 rfl (fun _ => rfl) (fun _ _ _ => rfl) (fun t => by rw [after1]; unfold Dat.blockOf iblk; rw [A_eq]) t d).trans
    (by unfold Dat.fetched Dat.blockOf iblk; rw [A_eq]; rfl)
theorem before2 (c : Dev nD) (t : Fin cfg7.N) (d) : (dat V n c).before 2 t d = iblk V 2 t :=
  ((dat V n c).before_in_eq_fetched 2 rfl (fun _ => rfl) (fun _ _ _ => rfl) (fun t => by rw [after2]; unfold Dat.blockOf iblk; rw [A_eq]) t d).trans
    (by unfold Dat.fetched Dat.blockOf iblk; rw [A_eq]; rfl)
theorem before3 (c : Dev nD) (t : Fin cfg7.N) (d) : (dat V n c).before 3 t d = iblk V 3 t :=
  ((dat V n c).before_in_eq_fetched 3 rfl (fun _ => rfl) (fun _ _ _ => rfl) (fun t => by rw [after3]; unfold Dat.blockOf iblk; rw [A_eq]) t d).trans
    (by unfold Dat.fetched Dat.blockOf iblk; rw [A_eq]; rfl)
theorem before4 (c : Dev nD) (t : Fin cfg7.N) (d) : (dat V n c).before 4 t d = iblk V 4 t :=
  ((dat V n c).before_in_eq_fetched 4 rfl (fun _ => rfl) (fun _ _ _ => rfl) (fun t => by rw [after4]; unfold Dat.blockOf iblk; rw [A_eq]) t d).trans
    (by unfold Dat.fetched Dat.blockOf iblk; rw [A_eq]; rfl)
theorem before5 (c : Dev nD) (t : Fin cfg7.N) (d) : (dat V n c).before 5 t d = iblk V 5 t :=
  ((dat V n c).before_in_eq_fetched 5 rfl (fun _ => rfl) (fun _ _ _ => rfl) (fun t => by rw [after5]; unfold Dat.blockOf iblk; rw [A_eq]) t d).trans
    (by unfold Dat.fetched Dat.blockOf iblk; rw [A_eq]; rfl)
theorem before6 (c : Dev nD) (t : Fin cfg7.N) (d) : (dat V n c).before 6 t d = iblk V 6 t :=
  ((dat V n c).before_in_eq_fetched 6 rfl (fun _ => rfl) (fun _ _ _ => rfl) (fun t => by rw [after6]; unfold Dat.blockOf iblk; rw [A_eq]) t d).trans
    (by unfold Dat.fetched Dat.blockOf iblk; rw [A_eq]; rfl)

theorem row_eq (t : Fin cfg7.N) : defs₀ (F := F) .tc cfg7.body (cfg7.bodyArgs t (cfg7.slots t)) = bodyAt7 t := by
  unfold defs₀; rfl

/-- The body at a point, on its staging buffers. -/
theorem body_at (c : Dev nD) (t : Fin cfg7.N) :
    iprop((dat V n c).Φ t.castSucc ∗ (dat V n c).owesAt none t.castSucc
        ∗ (∃ d, owns (c : Thread nD τ) (st7_0 t) fullShare ((dat V n c).before 0 t d)) ∗ (∃ d, owns (c : Thread nD τ) (st7_1 t) fullShare ((dat V n c).before 1 t d))
        ∗ (∃ d, owns (c : Thread nD τ) (st7_2 t) fullShare ((dat V n c).before 2 t d)) ∗ (∃ d, owns (c : Thread nD τ) (st7_3 t) fullShare ((dat V n c).before 3 t d))
        ∗ (∃ d, owns (c : Thread nD τ) (st7_4 t) fullShare ((dat V n c).before 4 t d)) ∗ (∃ d, owns (c : Thread nD τ) (st7_5 t) fullShare ((dat V n c).before 5 t d))
        ∗ (∃ d, owns (c : Thread nD τ) (st7_6 t) fullShare ((dat V n c).before 6 t d)) ∗ (∃ d, owns (c : Thread nD τ) (st7_7 t) fullShare ((dat V n c).before 7 t d)))
      ⊢ wp frame (wpE (defs₀ (F := F)) Variants.none c none) Set.univ (bodyAt7 t) fun _ =>
        iprop((dat V n c).Φ t.succ ∗ (dat V n c).owesAt none t.succ
        ∗ owns (c : Thread nD τ) (st7_0 t) fullShare ((dat V n c).after 0 t) ∗ owns (c : Thread nD τ) (st7_1 t) fullShare ((dat V n c).after 1 t)
        ∗ owns (c : Thread nD τ) (st7_2 t) fullShare ((dat V n c).after 2 t) ∗ owns (c : Thread nD τ) (st7_3 t) fullShare ((dat V n c).after 3 t)
        ∗ owns (c : Thread nD τ) (st7_4 t) fullShare ((dat V n c).after 4 t) ∗ owns (c : Thread nD τ) (st7_5 t) fullShare ((dat V n c).after 5 t)
        ∗ owns (c : Thread nD τ) (st7_6 t) fullShare ((dat V n c).after 6 t) ∗ owns (c : Thread nD τ) (st7_7 t) fullShare ((dat V n c).after 7 t)) := by
  unfold bodyAt7
  rw [TcBody.body7_eq]
  simp only [before0, before1, before2, before3, before4, before5, before6]
  rw [show (dat V n c).Φ t.succ = (dat V n c).Φ t.castSucc from rfl, show (dat V n c).owesAt none t.succ = (dat V n c).owesAt none t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (TcBody.body_run c Set.univ (grid7.coords t) _ _ _ _ _ _ _ _ _ _ _ _ _ _ _ _ (iblk V 0 t) (iblk V 1 t) (iblk V 2 t) (iblk V 3 t) (iblk V 4 t) (iblk V 5 t) (iblk V 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem obligation (c : Dev nD) : BodyObligation (dat V n c) (defs₀ (F := F)) Variants.none none Set.univ := fun t => by
  rw [bigSep_W7, bigSep_W7, row_eq]
  exact triple_restated (body_at V n c t) rfl .rfl fun _ => .rfl

/-! ## The result -/

theorem index0 : ∀ t : Fin cfg7.N, (cfg7.win 0).index t = ![0, t.val, 0] := by decide +kernel
theorem index1 : ∀ t : Fin cfg7.N, (cfg7.win 1).index t = ![t.val, 0] := by decide +kernel
theorem index7 : ∀ t : Fin cfg7.N, (cfg7.win 7).index t = ![t.val, 0] := by decide +kernel

theorem iblk0 (t : Fin cfg7.N) : iblk V 0 t = rowBlock (V (ref main_v60)) ⟨t.val, t.isLt.trans_eq N_7⟩ := by
  funext y; unfold iblk; blk_simp; unfold rowBlock
  have h := index0 t
  congr 1; funext a; fin_cases a <;> apply Fin.ext <;> blk_simp
  · simp [show win7_0.index t 0 = 0 from congrFun h 0]
  · simp [show win7_0.index t 1 = t.val from congrFun h 1, mul_comm]
  · simp [show win7_0.index t 2 = 0 from congrFun h 2]
theorem iblk1 (t : Fin cfg7.N) : iblk V 1 t = queryBlock (V (ref main_v61)) ⟨t.val, t.isLt.trans_eq N_7⟩ := by
  funext y; unfold iblk; blk_simp; unfold queryBlock
  have h := index1 t
  congr 1; funext a; fin_cases a <;> apply Fin.ext <;> blk_simp
  · simp [show win7_1.index t 0 = t.val from congrFun h 0, mul_comm]
  · simp [show win7_1.index t 1 = 0 from congrFun h 1]
theorem iblk2 (t : Fin cfg7.N) : iblk V 2 t = V (ref main_v27) := by
  funext y; unfold iblk; blk_simp
  congr 1; funext a; fin_cases a <;> apply Fin.ext <;> blk_simp
  · first | done | simp [show win7_2.index t 0 = 0 from rfl]
  · simp [show win7_2.index t 1 = 0 from rfl]
theorem iblk3 (t : Fin cfg7.N) : iblk V 3 t = V (ref main_v33) := by
  funext y; unfold iblk; blk_simp
  congr 1; funext a; fin_cases a <;> apply Fin.ext <;> blk_simp
  · first | done | simp [show win7_3.index t 0 = 0 from rfl]
  · simp [show win7_3.index t 1 = 0 from rfl]
theorem iblk4 (t : Fin cfg7.N) : iblk V 4 t = V (ref main_v15) := by
  funext y; unfold iblk; blk_simp
  congr 1; funext a; fin_cases a <;> apply Fin.ext <;> blk_simp
  · first | done | simp [show win7_4.index t 0 = 0 from rfl]
  · simp [show win7_4.index t 1 = 0 from rfl]
theorem iblk5 (t : Fin cfg7.N) : iblk V 5 t = V (ref main_v35) := by
  funext y; unfold iblk; blk_simp
  congr 1; funext a; fin_cases a <;> apply Fin.ext <;> blk_simp
  · first | done | simp [show win7_5.index t 0 = 0 from rfl]
  · simp [show win7_5.index t 1 = 0 from rfl]
theorem iblk6 (t : Fin cfg7.N) : iblk V 6 t = V (ref main_v38) := by
  funext y; unfold iblk; blk_simp
  congr 1; funext a; fin_cases a <;> apply Fin.ext <;> blk_simp
  · first | done | simp [show win7_6.index t 0 = 0 from rfl]
  · simp [show win7_6.index t 1 = 0 from rfl]

/-- The call as one operation on the buffers. -/
def step : HloOp τ sig (Elt F) :=
  StableHlo.nary ![main_v60, main_v61, main_v27, main_v33, main_v15, main_v35, main_v38] main_v62 (fun u =>
    (staged (u 0 : Vec F S16x10000x128 .f32) (u 1 : Vec F S10000x16 .f32) (u 2 : Vec F S512x256 .f32) (u 3 : Vec F S1x256 .f32) (u 4 : Vec F S16x960 .bf16) (u 5 : Vec F S960x64 .bf16) (u 6 : Vec F S960x64 .bf16) :
      (⟨S10000x64, .f32⟩ : BufTy).Contents (Elt F)))

theorem step_res : (step (F := F)).result V (ref main_v62) = staged (V (ref main_v60)) (V (ref main_v61)) (V (ref main_v27)) (V (ref main_v33)) (V (ref main_v15)) (V (ref main_v35)) (V (ref main_v38)) :=
  StableHlo.nary_result _ _ _ _ _ V
theorem step_ne {r : Ref sig .tc} (h : r ≠ main_v62) : (step (F := F)).result V (ref r) = V (ref r) := StableHlo.nary_result_ne _ _ _ _ _ V h

theorem arr_out (c : Dev nD) : (dat V n c).arrAt 7 cfg7.N = (step (F := F)).result V (ref main_v62) := by
  rw [step_res]
  refine (dat V n c).arrAt_eq_of_covers 7 _ (by decide +kernel) fun t hf y => ?_
  blk_simp
  rw [after7, iblk0, iblk1, iblk2, iblk3, iblk4, iblk5, iblk6]
  refine (staged_at _ _ _ _ _ _ _ ⟨t.val, t.isLt.trans_eq N_7⟩ y _ ?_ ?_).symm
  · blk_simp; simp [show win7_7.index t 0 = t.val from congrFun (index7 t) 0]
  · blk_simp; simp [show win7_7.index t 1 = 0 from congrFun (index7 t) 1]

variable [∀ e, Nonempty (Elt F e)]

/-- The data of all pipelines, only this one's looked at. -/
def dats : (p : Fin 5) → (c : Dev nD) → Dat τ (Elt F) (HIx 5) ℕ UU ℕ (Pipeline.pin (pcfgs (F := F)) adm p) c
  | ⟨0, _⟩ => fun c => unused c
  | ⟨1, _⟩ => fun c => unused c
  | ⟨2, _⟩ => fun c => unused c
  | ⟨3, _⟩ => fun c => dat V n c
  | ⟨4, _⟩ => fun c => unused c

set_option backward.isDefEq.respectTransparency.types false in
/-- The region: entered with the buffers at `V`, left with the result in them. -/
def region : Pipeline.RegionSeg (pcfgs (F := F)) adm (dats V n) none defs₀ 𝒱₀ (K (F := F)).L (K (F := F)).lev 3 where
  win := launch7.win.to₀
  block_pos := launch7.block_pos
  stage_whole := launch7.stage_whole
  K := PEmpty
  osem k := k.elim
  ho := Pipeline.OwnSemFacts.none _
  hbody c := (obligation V n c).loose
  hwaits c := Pipeline.cellsWaits_intro _ _ _ _ c fun w s t => (K (F := F)).mayWait_none _ (owed_none c n)
  pre c := iprop(unscopedBufs c (fun b => V (ref b)) ∗ ∃ W, ⌜(K (F := F)).WBelow (SparseCore.T c) W (8 * n)⌝ ∗ owes (SparseCore.T c) ((K (F := F)).Otc c n) W)
  post c := iprop(unscopedBufs c (fun b => (step (F := F)).result V (ref b)) ∗ ∃ W, ⌜(K (F := F)).WBelow (SparseCore.T c) W (8 * n)⌝ ∗ owes (SparseCore.T c) ((K (F := F)).Otc c n) W)
  X _ := BI.emp
  Y _ := BI.emp
  Z c := Pipeline.unscopedRest (Ix := HIx 5) (Name := ℕ) (U := UU) (Lvl := ℕ) spec7 c (fun b => V (ref b))
  hentry c := by
    rw [Pipeline.ownSems0_none]
    have hsplit := Pipeline.arrays_of_unscopedBufs (p := 3) (pcfgs (F := F)) adm (dats V n) launch7.win launch7.arr_whole c
      ((dats V n 3 c).share_full fun _ => rfl) (fun b => V (ref b)) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (dats V n 3 c).Φ 0 = Pipeline.scopedRest (Ix := HIx 5) (Name := ℕ) (U := UU) (Lvl := ℕ) (Val := Elt F) spec7 c from rfl]
    iintro ⟨-, -, Hr⟩; iexact Hr
  hout c := by
    rw [Pipeline.ownSems0_none, show (dats V n 3 c).Φ (Fin.last _) = Pipeline.scopedRest (Ix := HIx 5) (Name := ℕ) (U := UU) (Lvl := ℕ) (Val := Elt F) spec7 c from rfl]
    iintro Hr
    isplitr; · iempintro
    isplitr; · iempintro
    iexact Hr
  hexit c := by
    have hjoin := Pipeline.unscopedBufs_of_arrays (p := 3) (pcfgs (F := F)) adm (Ix := HIx 5) (Name := ℕ) (U := UU) (Lvl := ℕ) launch7.win launch7.arr_whole c
      (dats V n) ((dats V n 3 c).share_full fun _ => rfl) (fun b => V (ref b)) (fun b => (step (F := F)).result V (ref b)) ((dats V n 3 c).arrAt · cfg7.N)
      (fun w => by
        fin_cases w
        · exact ((dats V n 3 c).arrAt_in 0 rfl _).trans (step_ne V (r := main_v60) (by decide)).symm
        · exact ((dats V n 3 c).arrAt_in 1 rfl _).trans (step_ne V (r := main_v61) (by decide)).symm
        · exact ((dats V n 3 c).arrAt_in 2 rfl _).trans (step_ne V (r := main_v27) (by decide)).symm
        · exact ((dats V n 3 c).arrAt_in 3 rfl _).trans (step_ne V (r := main_v33) (by decide)).symm
        · exact ((dats V n 3 c).arrAt_in 4 rfl _).trans (step_ne V (r := main_v15) (by decide)).symm
        · exact ((dats V n 3 c).arrAt_in 5 rfl _).trans (step_ne V (r := main_v35) (by decide)).symm
        · exact ((dats V n 3 c).arrAt_in 6 rfl _).trans (step_ne V (r := main_v38) (by decide)).symm
        · exact arr_out V n c)
      (fun b hb => step_ne V fun h => hb (h ▸ Finset.mem_image.mpr ⟨7, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, h⟩
      · exact h
      · rw [h]; exact Nat.zero_le _
    iexact HO

/-- The call, in a program: from the buffers at `V` to the buffers with the result. -/
theorem call (c : Dev nD) (k : PUnit → Prog (TpuEff nD τ sig (Elt F) (ΛP (F := F)) .tc) PUnit) (Q : PUnit → sProp 𝕄) :
    iprop((iprop(boundary (SparseCore.T c) ∗ unscopedBufs c (fun b => (step (F := F)).result V (ref b)) ∗ ∃ W, ⌜(K (F := F)).WBelow (SparseCore.T c) W (8 * n)⌝ ∗ owes (SparseCore.T c) ((K (F := F)).Otc c n) W)
          -∗ wp frame (wpE (D (F := F)) 𝒱 (SparseCore.T c) none) Set.univ (k ⟨⟩) Q)
        ∗ boundary (SparseCore.T c)
        ∗ iprop(unscopedBufs c (fun b => V (ref b)) ∗ ∃ W, ⌜(K (F := F)).WBelow (SparseCore.T c) W (8 * n)⌝ ∗ owes (SparseCore.T c) ((K (F := F)).Otc c n) W)
        ∗ levAts (K (F := F)).L (K (F := F)).lev
        ∗ Pipeline.cellsGhost (Pipeline.pin (pcfgs (F := F)) adm) EP 3 c ∗ Pipeline.toksInit (Pipeline.pin (pcfgs (F := F)) adm) EP 3 c)
      ⊢ wp frame (wpE (D (F := F)) 𝒱 (SparseCore.T c) none) Set.univ (.op (.customCall (Pipeline.entry 3) ()) k) Q :=
  Pipeline.RegionSeg.wp pcfgs adm (dats V n) none cellOf_inj EP defs₀ 𝒱₀ (K (F := F)).L (K (F := F)).lev (region V n) c none (fun _ h => nomatch h) k Q

end Cert.Proof.Region3

end
-- ==== Proof.Region4.lean ====
/- TensorCore call 4: its region, over the buffers, from the launch's state between two SparseCore calls to the same state with the result written. -/
module

public import proofs.«01_k».proof.Proof.Stage
public import proofs.«01_k».proof.Proof.Gen.KernelIdeal.Launch
public import proofs.«01_k».proof.Proof.Gen.KernelIdeal.Points
public import Idealize.ShloMosaic.Lib.Pipeline.Regions
public import Idealize.ShloMosaic.Lib.Pipeline.ValueKit

@[expose] public section

set_option maxRecDepth 16384
set_option maxHeartbeats 1000000

noncomputable section

namespace Cert.Proof.Region4

open Cert.KernelIdeal Cert.KernelIdeal.Gen
open Cert.Proof.Launch Cert.Proof.Stage

open Idealize.ShloMosaic Idealize.ShloMosaic.TcCoe
open Idealize.ShloMosaic.ValueIdx
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 5) (Elt F) ℕ UU ℕ

variable (V : Valuation τ sig (Elt F)) (n : ℕ)

/-- Window `w`'s block at point `t`. -/
def iblk (w : Fin cfg9.W) (t : Fin cfg9.N) : ((cfg9.win w).xblock (cfg9.grid.coords t)).Idx → Elt F (cfg9.win w).elt :=
  ((cfg9.win w).blk t).view.read (Elt F) (V (ref (Pipeline.arrRef spec9 w)))

/-- What the thread's waits may have been on when `n` calls are over. -/
def waited (d : Dev nD) : Set (SemLoc sig × HIx 5) := {p | (K (F := F)).lev (SparseCore.T d, p.1) p.2 ≤ 8 * n}

/-- The pipeline's arrays, and what the body leaves at each point. -/
def dat (c : Dev nD) : Dat τ (Elt F) (HIx 5) ℕ UU ℕ cfg9 c where
  A w := V (ref (Pipeline.arrRef spec9 w))
  after w t := match w with
    | ⟨0, _⟩ => iblk V 0 t
    | ⟨1, _⟩ => iblk V 1 t
    | ⟨2, _⟩ => iblk V 2 t
    | ⟨3, _⟩ => iblk V 3 t
    | ⟨4, _⟩ => iblk V 4 t
    | ⟨5, _⟩ => iblk V 5 t
    | ⟨6, _⟩ => iblk V 6 t
    | ⟨7, _⟩ => TcBody.left (iblk V 0 t) (iblk V 1 t) (iblk V 2 t) (iblk V 3 t) (iblk V 4 t) (iblk V 5 t) (iblk V 6 t)
  Φ _ := Pipeline.scopedRest (Ix := HIx 5) (Name := ℕ) (U := UU) (Lvl := ℕ) (Val := Elt F) spec9 c
  q _ := fullShare
  owed _ := (K (F := F)).Otc c n
  recorded _ := waited (F := F) n c

theorem A_eq (c : Dev nD) (w : Fin cfg9.W) : (dat V n c).A w = V (ref (Pipeline.arrRef spec9 w)) := by dsimp only [dat]

theorem after0 (c : Dev nD) (t : Fin cfg9.N) : (dat V n c).after 0 t = iblk V 0 t := by dsimp only [dat]
theorem after1 (c : Dev nD) (t : Fin cfg9.N) : (dat V n c).after 1 t = iblk V 1 t := by dsimp only [dat]
theorem after2 (c : Dev nD) (t : Fin cfg9.N) : (dat V n c).after 2 t = iblk V 2 t := by dsimp only [dat]
theorem after3 (c : Dev nD) (t : Fin cfg9.N) : (dat V n c).after 3 t = iblk V 3 t := by dsimp only [dat]
theorem after4 (c : Dev nD) (t : Fin cfg9.N) : (dat V n c).after 4 t = iblk V 4 t := by dsimp only [dat]
theorem after5 (c : Dev nD) (t : Fin cfg9.N) : (dat V n c).after 5 t = iblk V 5 t := by dsimp only [dat]
theorem after6 (c : Dev nD) (t : Fin cfg9.N) : (dat V n c).after 6 t = iblk V 6 t := by dsimp only [dat]
theorem after7 (c : Dev nD) (t : Fin cfg9.N) : (dat V n c).after 7 t
    = TcBody.left (iblk V 0 t) (iblk V 1 t) (iblk V 2 t) (iblk V 3 t) (iblk V 4 t) (iblk V 5 t) (iblk V 6 t) := by dsimp only [dat]

theorem before0 (c : Dev nD) (t : Fin cfg9.N) (d) : (dat V n c).before 0 t d = iblk V 0 t :=
  ((dat V n c).before_in_eq_fetched 0 rfl (fun _ => rfl) (fun _ _ _ => rfl) (fun t => by rw [after0]; unfold Dat.blockOf iblk; rw [A_eq]) t d).trans
    (by unfold Dat.fetched Dat.blockOf iblk; rw [A_eq]; rfl)
theorem before1 (c : Dev nD) (t : Fin cfg9.N) (d) : (dat V n c).before 1 t d = iblk V 1 t :=
  ((dat V n c).before_in_eq_fetched 1 rfl (fun _ => rfl) (fun _ _ _ => rfl) (fun t => by rw [after1]; unfold Dat.blockOf iblk; rw [A_eq]) t d).trans
    (by unfold Dat.fetched Dat.blockOf iblk; rw [A_eq]; rfl)
theorem before2 (c : Dev nD) (t : Fin cfg9.N) (d) : (dat V n c).before 2 t d = iblk V 2 t :=
  ((dat V n c).before_in_eq_fetched 2 rfl (fun _ => rfl) (fun _ _ _ => rfl) (fun t => by rw [after2]; unfold Dat.blockOf iblk; rw [A_eq]) t d).trans
    (by unfold Dat.fetched Dat.blockOf iblk; rw [A_eq]; rfl)
theorem before3 (c : Dev nD) (t : Fin cfg9.N) (d) : (dat V n c).before 3 t d = iblk V 3 t :=
  ((dat V n c).before_in_eq_fetched 3 rfl (fun _ => rfl) (fun _ _ _ => rfl) (fun t => by rw [after3]; unfold Dat.blockOf iblk; rw [A_eq]) t d).trans
    (by unfold Dat.fetched Dat.blockOf iblk; rw [A_eq]; rfl)
theorem before4 (c : Dev nD) (t : Fin cfg9.N) (d) : (dat V n c).before 4 t d = iblk V 4 t :=
  ((dat V n c).before_in_eq_fetched 4 rfl (fun _ => rfl) (fun _ _ _ => rfl) (fun t => by rw [after4]; unfold Dat.blockOf iblk; rw [A_eq]) t d).trans
    (by unfold Dat.fetched Dat.blockOf iblk; rw [A_eq]; rfl)
theorem before5 (c : Dev nD) (t : Fin cfg9.N) (d) : (dat V n c).before 5 t d = iblk V 5 t :=
  ((dat V n c).before_in_eq_fetched 5 rfl (fun _ => rfl) (fun _ _ _ => rfl) (fun t => by rw [after5]; unfold Dat.blockOf iblk; rw [A_eq]) t d).trans
    (by unfold Dat.fetched Dat.blockOf iblk; rw [A_eq]; rfl)
theorem before6 (c : Dev nD) (t : Fin cfg9.N) (d) : (dat V n c).before 6 t d = iblk V 6 t :=
  ((dat V n c).before_in_eq_fetched 6 rfl (fun _ => rfl) (fun _ _ _ => rfl) (fun t => by rw [after6]; unfold Dat.blockOf iblk; rw [A_eq]) t d).trans
    (by unfold Dat.fetched Dat.blockOf iblk; rw [A_eq]; rfl)

theorem row_eq (t : Fin cfg9.N) : defs₀ (F := F) .tc cfg9.body (cfg9.bodyArgs t (cfg9.slots t)) = bodyAt9 t := by
  unfold defs₀; rfl

/-- The body at a point, on its staging buffers. -/
theorem body_at (c : Dev nD) (t : Fin cfg9.N) :
    iprop((dat V n c).Φ t.castSucc ∗ (dat V n c).owesAt none t.castSucc
        ∗ (∃ d, owns (c : Thread nD τ) (st9_0 t) fullShare ((dat V n c).before 0 t d)) ∗ (∃ d, owns (c : Thread nD τ) (st9_1 t) fullShare ((dat V n c).before 1 t d))
        ∗ (∃ d, owns (c : Thread nD τ) (st9_2 t) fullShare ((dat V n c).before 2 t d)) ∗ (∃ d, owns (c : Thread nD τ) (st9_3 t) fullShare ((dat V n c).before 3 t d))
        ∗ (∃ d, owns (c : Thread nD τ) (st9_4 t) fullShare ((dat V n c).before 4 t d)) ∗ (∃ d, owns (c : Thread nD τ) (st9_5 t) fullShare ((dat V n c).before 5 t d))
        ∗ (∃ d, owns (c : Thread nD τ) (st9_6 t) fullShare ((dat V n c).before 6 t d)) ∗ (∃ d, owns (c : Thread nD τ) (st9_7 t) fullShare ((dat V n c).before 7 t d)))
      ⊢ wp frame (wpE (defs₀ (F := F)) Variants.none c none) Set.univ (bodyAt9 t) fun _ =>
        iprop((dat V n c).Φ t.succ ∗ (dat V n c).owesAt none t.succ
        ∗ owns (c : Thread nD τ) (st9_0 t) fullShare ((dat V n c).after 0 t) ∗ owns (c : Thread nD τ) (st9_1 t) fullShare ((dat V n c).after 1 t)
        ∗ owns (c : Thread nD τ) (st9_2 t) fullShare ((dat V n c).after 2 t) ∗ owns (c : Thread nD τ) (st9_3 t) fullShare ((dat V n c).after 3 t)
        ∗ owns (c : Thread nD τ) (st9_4 t) fullShare ((dat V n c).after 4 t) ∗ owns (c : Thread nD τ) (st9_5 t) fullShare ((dat V n c).after 5 t)
        ∗ owns (c : Thread nD τ) (st9_6 t) fullShare ((dat V n c).after 6 t) ∗ owns (c : Thread nD τ) (st9_7 t) fullShare ((dat V n c).after 7 t)) := by
  unfold bodyAt9
  rw [TcBody.body9_eq]
  simp only [before0, before1, before2, before3, before4, before5, before6]
  rw [show (dat V n c).Φ t.succ = (dat V n c).Φ t.castSucc from rfl, show (dat V n c).owesAt none t.succ = (dat V n c).owesAt none t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (TcBody.body_run c Set.univ (grid9.coords t) _ _ _ _ _ _ _ _ _ _ _ _ _ _ _ _ (iblk V 0 t) (iblk V 1 t) (iblk V 2 t) (iblk V 3 t) (iblk V 4 t) (iblk V 5 t) (iblk V 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem obligation (c : Dev nD) : BodyObligation (dat V n c) (defs₀ (F := F)) Variants.none none Set.univ := fun t => by
  rw [bigSep_W9, bigSep_W9, row_eq]
  exact triple_restated (body_at V n c t) rfl .rfl fun _ => .rfl

/-! ## The result -/

theorem index0 : ∀ t : Fin cfg9.N, (cfg9.win 0).index t = ![0, t.val, 0] := by decide +kernel
theorem index1 : ∀ t : Fin cfg9.N, (cfg9.win 1).index t = ![t.val, 0] := by decide +kernel
theorem index7 : ∀ t : Fin cfg9.N, (cfg9.win 7).index t = ![t.val, 0] := by decide +kernel

theorem iblk0 (t : Fin cfg9.N) : iblk V 0 t = rowBlock (V (ref main_v66)) ⟨t.val, t.isLt.trans_eq N_9⟩ := by
  funext y; unfold iblk; blk_simp; unfold rowBlock
  have h := index0 t
  congr 1; funext a; fin_cases a <;> apply Fin.ext <;> blk_simp
  · simp [show win9_0.index t 0 = 0 from congrFun h 0]
  · simp [show win9_0.index t 1 = t.val from congrFun h 1, mul_comm]
  · simp [show win9_0.index t 2 = 0 from congrFun h 2]
theorem iblk1 (t : Fin cfg9.N) : iblk V 1 t = queryBlock (V (ref main_v67)) ⟨t.val, t.isLt.trans_eq N_9⟩ := by
  funext y; unfold iblk; blk_simp; unfold queryBlock
  have h := index1 t
  congr 1; funext a; fin_cases a <;> apply Fin.ext <;> blk_simp
  · simp [show win9_1.index t 0 = t.val from congrFun h 0, mul_comm]
  · simp [show win9_1.index t 1 = 0 from congrFun h 1]
theorem iblk2 (t : Fin cfg9.N) : iblk V 2 t = V (ref main_v27) := by
  funext y; unfold iblk; blk_simp
  congr 1; funext a; fin_cases a <;> apply Fin.ext <;> blk_simp
  · first | done | simp [show win9_2.index t 0 = 0 from rfl]
  · simp [show win9_2.index t 1 = 0 from rfl]
theorem iblk3 (t : Fin cfg9.N) : iblk V 3 t = V (ref main_v33) := by
  funext y; unfold iblk; blk_simp
  congr 1; funext a; fin_cases a <;> apply Fin.ext <;> blk_simp
  · first | done | simp [show win9_3.index t 0 = 0 from rfl]
  · simp [show win9_3.index t 1 = 0 from rfl]
theorem iblk4 (t : Fin cfg9.N) : iblk V 4 t = V (ref main_v15) := by
  funext y; unfold iblk; blk_simp
  congr 1; funext a; fin_cases a <;> apply Fin.ext <;> blk_simp
  · first | done | simp [show win9_4.index t 0 = 0 from rfl]
  · simp [show win9_4.index t 1 = 0 from rfl]
theorem iblk5 (t : Fin cfg9.N) : iblk V 5 t = V (ref main_v35) := by
  funext y; unfold iblk; blk_simp
  congr 1; funext a; fin_cases a <;> apply Fin.ext <;> blk_simp
  · first | done | simp [show win9_5.index t 0 = 0 from rfl]
  · simp [show win9_5.index t 1 = 0 from rfl]
theorem iblk6 (t : Fin cfg9.N) : iblk V 6 t = V (ref main_v38) := by
  funext y; unfold iblk; blk_simp
  congr 1; funext a; fin_cases a <;> apply Fin.ext <;> blk_simp
  · first | done | simp [show win9_6.index t 0 = 0 from rfl]
  · simp [show win9_6.index t 1 = 0 from rfl]

/-- The call as one operation on the buffers. -/
def step : HloOp τ sig (Elt F) :=
  StableHlo.nary ![main_v66, main_v67, main_v27, main_v33, main_v15, main_v35, main_v38] main_v68 (fun u =>
    (staged (u 0 : Vec F S16x10000x128 .f32) (u 1 : Vec F S10000x16 .f32) (u 2 : Vec F S512x256 .f32) (u 3 : Vec F S1x256 .f32) (u 4 : Vec F S16x960 .bf16) (u 5 : Vec F S960x64 .bf16) (u 6 : Vec F S960x64 .bf16) :
      (⟨S10000x64, .f32⟩ : BufTy).Contents (Elt F)))

theorem step_res : (step (F := F)).result V (ref main_v68) = staged (V (ref main_v66)) (V (ref main_v67)) (V (ref main_v27)) (V (ref main_v33)) (V (ref main_v15)) (V (ref main_v35)) (V (ref main_v38)) :=
  StableHlo.nary_result _ _ _ _ _ V
theorem step_ne {r : Ref sig .tc} (h : r ≠ main_v68) : (step (F := F)).result V (ref r) = V (ref r) := StableHlo.nary_result_ne _ _ _ _ _ V h

theorem arr_out (c : Dev nD) : (dat V n c).arrAt 7 cfg9.N = (step (F := F)).result V (ref main_v68) := by
  rw [step_res]
  refine (dat V n c).arrAt_eq_of_covers 7 _ (by decide +kernel) fun t hf y => ?_
  blk_simp
  rw [after7, iblk0, iblk1, iblk2, iblk3, iblk4, iblk5, iblk6]
  refine (staged_at _ _ _ _ _ _ _ ⟨t.val, t.isLt.trans_eq N_9⟩ y _ ?_ ?_).symm
  · blk_simp; simp [show win9_7.index t 0 = t.val from congrFun (index7 t) 0]
  · blk_simp; simp [show win9_7.index t 1 = 0 from congrFun (index7 t) 1]

variable [∀ e, Nonempty (Elt F e)]

/-- The data of all pipelines, only this one's looked at. -/
def dats : (p : Fin 5) → (c : Dev nD) → Dat τ (Elt F) (HIx 5) ℕ UU ℕ (Pipeline.pin (pcfgs (F := F)) adm p) c
  | ⟨0, _⟩ => fun c => unused c
  | ⟨1, _⟩ => fun c => unused c
  | ⟨2, _⟩ => fun c => unused c
  | ⟨3, _⟩ => fun c => unused c
  | ⟨4, _⟩ => fun c => dat V n c

set_option backward.isDefEq.respectTransparency.types false in
/-- The region: entered with the buffers at `V`, left with the result in them. -/
def region : Pipeline.RegionSeg (pcfgs (F := F)) adm (dats V n) none defs₀ 𝒱₀ (K (F := F)).L (K (F := F)).lev 4 where
  win := launch9.win.to₀
  block_pos := launch9.block_pos
  stage_whole := launch9.stage_whole
  K := PEmpty
  osem k := k.elim
  ho := Pipeline.OwnSemFacts.none _
  hbody c := (obligation V n c).loose
  hwaits c := Pipeline.cellsWaits_intro _ _ _ _ c fun w s t => (K (F := F)).mayWait_none _ (owed_none c n)
  pre c := iprop(unscopedBufs c (fun b => V (ref b)) ∗ ∃ W, ⌜(K (F := F)).WBelow (SparseCore.T c) W (8 * n)⌝ ∗ owes (SparseCore.T c) ((K (F := F)).Otc c n) W)
  post c := iprop(unscopedBufs c (fun b => (step (F := F)).result V (ref b)) ∗ ∃ W, ⌜(K (F := F)).WBelow (SparseCore.T c) W (8 * n)⌝ ∗ owes (SparseCore.T c) ((K (F := F)).Otc c n) W)
  X _ := BI.emp
  Y _ := BI.emp
  Z c := Pipeline.unscopedRest (Ix := HIx 5) (Name := ℕ) (U := UU) (Lvl := ℕ) spec9 c (fun b => V (ref b))
  hentry c := by
    rw [Pipeline.ownSems0_none]
    have hsplit := Pipeline.arrays_of_unscopedBufs (p := 4) (pcfgs (F := F)) adm (dats V n) launch9.win launch9.arr_whole c
      ((dats V n 4 c).share_full fun _ => rfl) (fun b => V (ref b)) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (dats V n 4 c).Φ 0 = Pipeline.scopedRest (Ix := HIx 5) (Name := ℕ) (U := UU) (Lvl := ℕ) (Val := Elt F) spec9 c from rfl]
    iintro ⟨-, -, Hr⟩; iexact Hr
  hout c := by
    rw [Pipeline.ownSems0_none, show (dats V n 4 c).Φ (Fin.last _) = Pipeline.scopedRest (Ix := HIx 5) (Name := ℕ) (U := UU) (Lvl := ℕ) (Val := Elt F) spec9 c from rfl]
    iintro Hr
    isplitr; · iempintro
    isplitr; · iempintro
    iexact Hr
  hexit c := by
    have hjoin := Pipeline.unscopedBufs_of_arrays (p := 4) (pcfgs (F := F)) adm (Ix := HIx 5) (Name := ℕ) (U := UU) (Lvl := ℕ) launch9.win launch9.arr_whole c
      (dats V n) ((dats V n 4 c).share_full fun _ => rfl) (fun b => V (ref b)) (fun b => (step (F := F)).result V (ref b)) ((dats V n 4 c).arrAt · cfg9.N)
      (fun w => by
        fin_cases w
        · exact ((dats V n 4 c).arrAt_in 0 rfl _).trans (step_ne V (r := main_v66) (by decide)).symm
        · exact ((dats V n 4 c).arrAt_in 1 rfl _).trans (step_ne V (r := main_v67) (by decide)).symm
        · exact ((dats V n 4 c).arrAt_in 2 rfl _).trans (step_ne V (r := main_v27) (by decide)).symm
        · exact ((dats V n 4 c).arrAt_in 3 rfl _).trans (step_ne V (r := main_v33) (by decide)).symm
        · exact ((dats V n 4 c).arrAt_in 4 rfl _).trans (step_ne V (r := main_v15) (by decide)).symm
        · exact ((dats V n 4 c).arrAt_in 5 rfl _).trans (step_ne V (r := main_v35) (by decide)).symm
        · exact ((dats V n 4 c).arrAt_in 6 rfl _).trans (step_ne V (r := main_v38) (by decide)).symm
        · exact arr_out V n c)
      (fun b hb => step_ne V fun h => hb (h ▸ Finset.mem_image.mpr ⟨7, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, h⟩
      · exact h
      · rw [h]; exact Nat.zero_le _
    iexact HO

/-- The call, in a program: from the buffers at `V` to the buffers with the result. -/
theorem call (c : Dev nD) (k : PUnit → Prog (TpuEff nD τ sig (Elt F) (ΛP (F := F)) .tc) PUnit) (Q : PUnit → sProp 𝕄) :
    iprop((iprop(boundary (SparseCore.T c) ∗ unscopedBufs c (fun b => (step (F := F)).result V (ref b)) ∗ ∃ W, ⌜(K (F := F)).WBelow (SparseCore.T c) W (8 * n)⌝ ∗ owes (SparseCore.T c) ((K (F := F)).Otc c n) W)
          -∗ wp frame (wpE (D (F := F)) 𝒱 (SparseCore.T c) none) Set.univ (k ⟨⟩) Q)
        ∗ boundary (SparseCore.T c)
        ∗ iprop(unscopedBufs c (fun b => V (ref b)) ∗ ∃ W, ⌜(K (F := F)).WBelow (SparseCore.T c) W (8 * n)⌝ ∗ owes (SparseCore.T c) ((K (F := F)).Otc c n) W)
        ∗ levAts (K (F := F)).L (K (F := F)).lev
        ∗ Pipeline.cellsGhost (Pipeline.pin (pcfgs (F := F)) adm) EP 4 c ∗ Pipeline.toksInit (Pipeline.pin (pcfgs (F := F)) adm) EP 4 c)
      ⊢ wp frame (wpE (D (F := F)) 𝒱 (SparseCore.T c) none) Set.univ (.op (.customCall (Pipeline.entry 4) ()) k) Q :=
  Pipeline.RegionSeg.wp pcfgs adm (dats V n) none cellOf_inj EP defs₀ 𝒱₀ (K (F := F)).L (K (F := F)).lev (region V n) c none (fun _ h => nomatch h) k Q

end Cert.Proof.Region4

end
-- ==== Proof.Host.lean ====
/- The TensorCore's operations around the calls: what they make for the calls, and what the result is. -/
module

public import proofs.«01_k».proof.Proof.Tiles0
public import proofs.«01_k».proof.Proof.Tiles1
public import proofs.«01_k».proof.Proof.Tiles2
public import proofs.«01_k».proof.Proof.Tiles3
public import proofs.«01_k».proof.Proof.Tiles4
public import proofs.«01_k».proof.Proof.Region0
public import proofs.«01_k».proof.Proof.Region1
public import proofs.«01_k».proof.Proof.Region2
public import proofs.«01_k».proof.Proof.Region3
public import proofs.«01_k».proof.Proof.Region4

@[expose] public section

noncomputable section

namespace Cert.Proof.Host

open Cert.KernelIdeal Cert.KernelIdeal.Gen
open Cert.Proof.Rows Cert.Proof.Launch

open Idealize.ShloMosaic
open Idealize.ShloMosaic.SparseCore.Cfg (HIx)
open Idealize.SL Idealize.SL.Sem
open Idealize.ShloMosaic.StableHlo

variable {F : FTy → Type} [FloatOps F]

/-- The operations before the first call. -/
def ops0 : List (HloOp τ sig (Elt F)) :=
  [StableHlo.unary main_arg3 main_v0 ((transpose S16x50000 [1, 0] · transposes_S50000x16_S16x50000_1_0) : (⟨S50000x16, .i32⟩ : BufTy).Contents (Elt F) → (⟨S16x50000, .i32⟩ : BufTy).Contents (Elt F)),
    StableHlo.nullary main_c (constantI S_ 32 0#32),
    StableHlo.TRef.unary (StableHlo.TRef.of (T := ⟨S_, .i32⟩) main_c) (StableHlo.TRef.of (T := ⟨S_, .f32⟩) main_call0_v0) (sitofp .f32),
    StableHlo.TRef.binary (StableHlo.TRef.of (T := ⟨S50000x3, .f32⟩) main_arg2) (StableHlo.TRef.of (T := ⟨S_, .f32⟩) main_call0_v0) (StableHlo.TRef.of (T := ⟨S50000x16, .f32⟩) main_v1) (fun x v => pad S50000x16 ![0, 0] ![0, 13] ![0, 0] x v pads_S50000x3_S50000x16_000_0130 h_S_),
    StableHlo.nullary main_cst (constant S_ .f32 0x00000000#32),
    StableHlo.unary main_cst main_v2 (broadcastInDim S50000x48 ![] bcast_S_S50000x48 : (⟨S_, .f32⟩ : BufTy).Contents (Elt F) → (⟨S50000x48, .f32⟩ : BufTy).Contents (Elt F)),
    StableHlo.nary ![main_arg0, main_v1, main_v2] main_v3 (fun u => (concatenate S50000x128 1 [⟨S50000x64, (u 0 : (⟨S50000x64, .f32⟩ : BufTy).Contents (Elt F))⟩, ⟨S50000x16, (u 1 : (⟨S50000x16, .f32⟩ : BufTy).Contents (Elt F))⟩, ⟨S50000x48, (u 2 : (⟨S50000x48, .f32⟩ : BufTy).Contents (Elt F))⟩] concatenates_S50000x64_S50000x16_S50000x48_S50000x128_d1 : (⟨S50000x128, .f32⟩ : BufTy).Contents (Elt F))),
    StableHlo.nullary main_c_0 (constantI S_ 32 0#32),
    StableHlo.TRef.unary (StableHlo.TRef.of (T := ⟨S_, .i32⟩) main_c_0) (StableHlo.TRef.of (T := ⟨S_, .f32⟩) main_call1_v0) (sitofp .f32),
    StableHlo.TRef.binary (StableHlo.TRef.of (T := ⟨S50000x3, .f32⟩) main_arg1) (StableHlo.TRef.of (T := ⟨S_, .f32⟩) main_call1_v0) (StableHlo.TRef.of (T := ⟨S50000x16, .f32⟩) main_v4) (fun x v => pad S50000x16 ![0, 0] ![0, 13] ![0, 0] x v pads_S50000x3_S50000x16_000_0130 h_S_),
    StableHlo.nullary main_c_1 (constantI S_ 32 0#32),
    StableHlo.TRef.unary (StableHlo.TRef.of (T := ⟨S_, .i32⟩) main_c_1) (StableHlo.TRef.of (T := ⟨S_, .f32⟩) main_call2_v0) (sitofp .f32),
    StableHlo.TRef.binary (StableHlo.TRef.of (T := ⟨S15x3, .f32⟩) main_arg5) (StableHlo.TRef.of (T := ⟨S_, .f32⟩) main_call2_v0) (StableHlo.TRef.of (T := ⟨S16x16, .f32⟩) main_v5) (fun x v => pad S16x16 ![0, 0] ![1, 13] ![0, 0] x v pads_S15x3_S16x16_010_0130 h_S_),
    StableHlo.unary main_v5 main_v6 ((transpose S16x16 [1, 0] · transposes_S16x16_S16x16_1_0) : (⟨S16x16, .f32⟩ : BufTy).Contents (Elt F) → (⟨S16x16, .f32⟩ : BufTy).Contents (Elt F)),
    StableHlo.nullary main_v7 (iotaInDim S16x15 32 0),
    StableHlo.nullary main_v8 (iotaInDim S16x15 32 1),
    StableHlo.nullary main_c_2 (constantI S_ 32 0#32),
    StableHlo.unary main_c_2 main_v9 (broadcastInDim S16x15 ![] bcast_S_S16x15 : (⟨S_, .i32⟩ : BufTy).Contents (Elt F) → (⟨S16x15, .i32⟩ : BufTy).Contents (Elt F)),
    StableHlo.binary main_v7 main_v9 main_v10 (addi : (⟨S16x15, .i32⟩ : BufTy).Contents (Elt F) → (⟨S16x15, .i32⟩ : BufTy).Contents (Elt F) → (⟨S16x15, .i32⟩ : BufTy).Contents (Elt F)),
    StableHlo.binary main_v10 main_v8 main_v11 (cmpi .eq : (⟨S16x15, .i32⟩ : BufTy).Contents (Elt F) → (⟨S16x15, .i32⟩ : BufTy).Contents (Elt F) → (⟨S16x15, .i1⟩ : BufTy).Contents (Elt F)),
    StableHlo.unary main_v11 main_v12 (uitofp .f32 : (⟨S16x15, .i1⟩ : BufTy).Contents (Elt F) → (⟨S16x15, .f32⟩ : BufTy).Contents (Elt F)),
    StableHlo.nullary main_cst_3 (constant S_ .f32 0x3F800000#32),
    StableHlo.unary main_cst_3 main_v13 (broadcastInDim S1x64 ![] bcast_S_S1x64 : (⟨S_, .f32⟩ : BufTy).Contents (Elt F) → (⟨S1x64, .f32⟩ : BufTy).Contents (Elt F)),
    StableHlo.TRef.unary (StableHlo.TRef.of (T := ⟨S16x15, .f32⟩) main_v12) (StableHlo.TRef.of (T := ⟨S16x1x15x1, .f32⟩) main_call3_v0) (broadcastInDim S16x1x15x1 ![0, 2] bcast_S16x15_S16x1x15x1_0_2),
    StableHlo.TRef.unary (StableHlo.TRef.of (T := ⟨S1x64, .f32⟩) main_v13) (StableHlo.TRef.of (T := ⟨S1x1x1x64, .f32⟩) main_call3_v1) (broadcastInDim S1x1x1x64 ![1, 3] bcast_S1x64_S1x1x1x64_1_3),
    StableHlo.TRef.unary (StableHlo.TRef.of (T := ⟨S16x1x15x1, .f32⟩) main_call3_v0) (StableHlo.TRef.of (T := ⟨S16x1x15x64, .f32⟩) main_call3_v2) (broadcastInDim S16x1x15x64 ![0, 1, 2, 3] bcast_S16x1x15x1_S16x1x15x64_0_1_2_3),
    StableHlo.TRef.unary (StableHlo.TRef.of (T := ⟨S1x1x1x64, .f32⟩) main_call3_v1) (StableHlo.TRef.of (T := ⟨S16x1x15x64, .f32⟩) main_call3_v3) (broadcastInDim S16x1x15x64 ![0, 1, 2, 3] bcast_S1x1x1x64_S16x1x15x64_0_1_2_3),
    StableHlo.TRef.binary (StableHlo.TRef.of (T := ⟨S16x1x15x64, .f32⟩) main_call3_v2) (StableHlo.TRef.of (T := ⟨S16x1x15x64, .f32⟩) main_call3_v3) (StableHlo.TRef.of (T := ⟨S16x1x15x64, .f32⟩) main_call3_v4) mulf,
    StableHlo.TRef.reshape (StableHlo.TRef.of (T := ⟨S16x1x15x64, .f32⟩) main_call3_v4) (StableHlo.TRef.of (T := ⟨S16x960, .f32⟩) main_v14) (rfl : (.f32 : EltTy) = .f32) shapeCasts_S16x1x15x64_S16x960,
    StableHlo.unary main_v14 main_v15 ((truncf .bf16 · bitsLt_bf16_f32) : (⟨S16x960, .f32⟩ : BufTy).Contents (Elt F) → (⟨S16x960, .bf16⟩ : BufTy).Contents (Elt F)),
    StableHlo.nullary main_v16 (iotaInDim S16x16 32 0),
    StableHlo.nullary main_v17 (iotaInDim S16x16 32 1),
    StableHlo.nullary main_c_4 (constantI S_ 32 0#32),
    StableHlo.unary main_c_4 main_v18 (broadcastInDim S16x16 ![] bcast_S_S16x16 : (⟨S_, .i32⟩ : BufTy).Contents (Elt F) → (⟨S16x16, .i32⟩ : BufTy).Contents (Elt F)),
    StableHlo.binary main_v16 main_v18 main_v19 (addi : (⟨S16x16, .i32⟩ : BufTy).Contents (Elt F) → (⟨S16x16, .i32⟩ : BufTy).Contents (Elt F) → (⟨S16x16, .i32⟩ : BufTy).Contents (Elt F)),
    StableHlo.binary main_v19 main_v17 main_v20 (cmpi .eq : (⟨S16x16, .i32⟩ : BufTy).Contents (Elt F) → (⟨S16x16, .i32⟩ : BufTy).Contents (Elt F) → (⟨S16x16, .i1⟩ : BufTy).Contents (Elt F)),
    StableHlo.unary main_v20 main_v21 (uitofp .f32 : (⟨S16x16, .i1⟩ : BufTy).Contents (Elt F) → (⟨S16x16, .f32⟩ : BufTy).Contents (Elt F)),
    StableHlo.nullary main_cst_5 (constant S_ .f32 0xC0000000#32),
    StableHlo.unary main_cst_5 main_v22 (broadcastInDim S16x16 ![] bcast_S_S16x16 : (⟨S_, .f32⟩ : BufTy).Contents (Elt F) → (⟨S16x16, .f32⟩ : BufTy).Contents (Elt F)),
    StableHlo.binary main_v22 main_v6 main_v23 (mulf : (⟨S16x16, .f32⟩ : BufTy).Contents (Elt F) → (⟨S16x16, .f32⟩ : BufTy).Contents (Elt F) → (⟨S16x16, .f32⟩ : BufTy).Contents (Elt F)),
    StableHlo.TRef.unary (StableHlo.TRef.of (T := ⟨S16x16, .f32⟩) main_v21) (StableHlo.TRef.of (T := ⟨S16x1x16x1, .f32⟩) main_call4_v0) (broadcastInDim S16x1x16x1 ![0, 2] bcast_S16x16_S16x1x16x1_0_2),
    StableHlo.TRef.unary (StableHlo.TRef.of (T := ⟨S16x16, .f32⟩) main_v23) (StableHlo.TRef.of (T := ⟨S1x16x1x16, .f32⟩) main_call4_v1) (broadcastInDim S1x16x1x16 ![1, 3] bcast_S16x16_S1x16x1x16_1_3),
    StableHlo.TRef.unary (StableHlo.TRef.of (T := ⟨S16x1x16x1, .f32⟩) main_call4_v0) (StableHlo.TRef.of (T := ⟨S16x16x16x16, .f32⟩) main_call4_v2) (broadcastInDim S16x16x16x16 ![0, 1, 2, 3] bcast_S16x1x16x1_S16x16x16x16_0_1_2_3),
    StableHlo.TRef.unary (StableHlo.TRef.of (T := ⟨S1x16x1x16, .f32⟩) main_call4_v1) (StableHlo.TRef.of (T := ⟨S16x16x16x16, .f32⟩) main_call4_v3) (broadcastInDim S16x16x16x16 ![0, 1, 2, 3] bcast_S1x16x1x16_S16x16x16x16_0_1_2_3),
    StableHlo.TRef.binary (StableHlo.TRef.of (T := ⟨S16x16x16x16, .f32⟩) main_call4_v2) (StableHlo.TRef.of (T := ⟨S16x16x16x16, .f32⟩) main_call4_v3) (StableHlo.TRef.of (T := ⟨S16x16x16x16, .f32⟩) main_call4_v4) mulf,
    StableHlo.TRef.reshape (StableHlo.TRef.of (T := ⟨S16x16x16x16, .f32⟩) main_call4_v4) (StableHlo.TRef.of (T := ⟨S256x256, .f32⟩) main_v24) (rfl : (.f32 : EltTy) = .f32) shapeCasts_S16x16x16x16_S256x256,
    StableHlo.nullary main_cst_6 (constant S_ .f32 0x3F800000#32),
    StableHlo.unary main_cst_6 main_v25 (broadcastInDim S16x16 ![] bcast_S_S16x16 : (⟨S_, .f32⟩ : BufTy).Contents (Elt F) → (⟨S16x16, .f32⟩ : BufTy).Contents (Elt F)),
    StableHlo.TRef.unary (StableHlo.TRef.of (T := ⟨S16x16, .f32⟩) main_v21) (StableHlo.TRef.of (T := ⟨S16x1x16x1, .f32⟩) main_call5_v0) (broadcastInDim S16x1x16x1 ![0, 2] bcast_S16x16_S16x1x16x1_0_2),
    StableHlo.TRef.unary (StableHlo.TRef.of (T := ⟨S16x16, .f32⟩) main_v25) (StableHlo.TRef.of (T := ⟨S1x16x1x16, .f32⟩) main_call5_v1) (broadcastInDim S1x16x1x16 ![1, 3] bcast_S16x16_S1x16x1x16_1_3),
    StableHlo.TRef.unary (StableHlo.TRef.of (T := ⟨S16x1x16x1, .f32⟩) main_call5_v0) (StableHlo.TRef.of (T := ⟨S16x16x16x16, .f32⟩) main_call5_v2) (broadcastInDim S16x16x16x16 ![0, 1, 2, 3] bcast_S16x1x16x1_S16x16x16x16_0_1_2_3),
    StableHlo.TRef.unary (StableHlo.TRef.of (T := ⟨S1x16x1x16, .f32⟩) main_call5_v1) (StableHlo.TRef.of (T := ⟨S16x16x16x16, .f32⟩) main_call5_v3) (broadcastInDim S16x16x16x16 ![0, 1, 2, 3] bcast_S1x16x1x16_S16x16x16x16_0_1_2_3),
    StableHlo.TRef.binary (StableHlo.TRef.of (T := ⟨S16x16x16x16, .f32⟩) main_call5_v2) (StableHlo.TRef.of (T := ⟨S16x16x16x16, .f32⟩) main_call5_v3) (StableHlo.TRef.of (T := ⟨S16x16x16x16, .f32⟩) main_call5_v4) mulf,
    StableHlo.TRef.reshape (StableHlo.TRef.of (T := ⟨S16x16x16x16, .f32⟩) main_call5_v4) (StableHlo.TRef.of (T := ⟨S256x256, .f32⟩) main_v26) (rfl : (.f32 : EltTy) = .f32) shapeCasts_S16x16x16x16_S256x256,
    StableHlo.binary main_v24 main_v26 main_v27 ((fun a b => concatenate S512x256 0 [⟨S256x256, a⟩, ⟨S256x256, b⟩] concatenates_S256x256_S256x256_S512x256_d0) : (⟨S256x256, .f32⟩ : BufTy).Contents (Elt F) → (⟨S256x256, .f32⟩ : BufTy).Contents (Elt F) → (⟨S512x256, .f32⟩ : BufTy).Contents (Elt F)),
    StableHlo.binary main_v6 main_v6 main_v28 (mulf : (⟨S16x16, .f32⟩ : BufTy).Contents (Elt F) → (⟨S16x16, .f32⟩ : BufTy).Contents (Elt F) → (⟨S16x16, .f32⟩ : BufTy).Contents (Elt F)),
    StableHlo.nullary main_cst_7 (constant S_ .f32 0x00000000#32),
    StableHlo.binary main_v28 main_cst_7 main_v29 ((fun x v => Host.reduceAdd x v reducesTo_S16x16_S16_d0 h_S_) : (⟨S16x16, .f32⟩ : BufTy).Contents (Elt F) → (⟨S_, .f32⟩ : BufTy).Contents (Elt F) → (⟨S16, .f32⟩ : BufTy).Contents (Elt F)),
    StableHlo.unary main_v29 main_v30 (broadcastInDim S1x16 ![1] bcast_S16_S1x16_1 : (⟨S16, .f32⟩ : BufTy).Contents (Elt F) → (⟨S1x16, .f32⟩ : BufTy).Contents (Elt F)),
    StableHlo.reshape main_v30 main_v31 (rfl : (.f32 : EltTy) = .f32) shapeCasts_S1x16_S1x1x1x16,
    StableHlo.unary main_v31 main_v32 (broadcastInDim S1x1x16x16 ![0, 1, 2, 3] bcast_S1x1x1x16_S1x1x16x16_0_1_2_3 : (⟨S1x1x1x16, .f32⟩ : BufTy).Contents (Elt F) → (⟨S1x1x16x16, .f32⟩ : BufTy).Contents (Elt F)),
    StableHlo.reshape main_v32 main_v33 (rfl : (.f32 : EltTy) = .f32) shapeCasts_S1x1x16x16_S1x256,
    StableHlo.reshape main_arg4 main_v34 (rfl : (.f32 : EltTy) = .f32) shapeCasts_S15x64x64_S960x64,
    StableHlo.unary main_v34 main_v35 ((truncf .bf16 · bitsLt_bf16_f32) : (⟨S960x64, .f32⟩ : BufTy).Contents (Elt F) → (⟨S960x64, .bf16⟩ : BufTy).Contents (Elt F)),
    StableHlo.unary main_v35 main_v36 ((extf .f32 · bitsLt_bf16_f32) : (⟨S960x64, .bf16⟩ : BufTy).Contents (Elt F) → (⟨S960x64, .f32⟩ : BufTy).Contents (Elt F)),
    StableHlo.binary main_v34 main_v36 main_v37 (subf : (⟨S960x64, .f32⟩ : BufTy).Contents (Elt F) → (⟨S960x64, .f32⟩ : BufTy).Contents (Elt F) → (⟨S960x64, .f32⟩ : BufTy).Contents (Elt F)),
    StableHlo.unary main_v37 main_v38 ((truncf .bf16 · bitsLt_bf16_f32) : (⟨S960x64, .f32⟩ : BufTy).Contents (Elt F) → (⟨S960x64, .bf16⟩ : BufTy).Contents (Elt F)),
    StableHlo.unary main_v0 main_v39 ((extractStridedSlice S16x10000 ![0, 0] · slices_S16x50000_S16x10000_0_0) : (⟨S16x50000, .i32⟩ : BufTy).Contents (Elt F) → (⟨S16x10000, .i32⟩ : BufTy).Contents (Elt F)),
    StableHlo.reshape main_v39 main_v40 (rfl : (.i32 : EltTy) = .i32) shapeCasts_S16x10000_S1x160000]

/-- The operations between SparseCore call 0 and TensorCore call 0. -/
def mid0 : List (HloOp τ sig (Elt F)) :=
  [StableHlo.reshape main_v41 main_v42 (rfl : (.f32 : EltTy) = .f32) shapeCasts_S160000x128_S16x10000x128,
    StableHlo.unary main_v4 main_v43 ((extractStridedSlice S10000x16 ![0, 0] · slices_S50000x16_S10000x16_0_0) : (⟨S50000x16, .f32⟩ : BufTy).Contents (Elt F) → (⟨S10000x16, .f32⟩ : BufTy).Contents (Elt F))]

/-- The operations between TensorCore call 0 and SparseCore call 1. -/
def ops1 : List (HloOp τ sig (Elt F)) :=
  [StableHlo.unary main_v0 main_v45 ((extractStridedSlice S16x10000 ![0, 10000] · slices_S16x50000_S16x10000_0_10000) : (⟨S16x50000, .i32⟩ : BufTy).Contents (Elt F) → (⟨S16x10000, .i32⟩ : BufTy).Contents (Elt F)),
    StableHlo.reshape main_v45 main_v46 (rfl : (.i32 : EltTy) = .i32) shapeCasts_S16x10000_S1x160000]

/-- The operations between SparseCore call 1 and TensorCore call 1. -/
def mid1 : List (HloOp τ sig (Elt F)) :=
  [StableHlo.reshape main_v47 main_v48 (rfl : (.f32 : EltTy) = .f32) shapeCasts_S160000x128_S16x10000x128,
    StableHlo.unary main_v4 main_v49 ((extractStridedSlice S10000x16 ![10000, 0] · slices_S50000x16_S10000x16_10000_0) : (⟨S50000x16, .f32⟩ : BufTy).Contents (Elt F) → (⟨S10000x16, .f32⟩ : BufTy).Contents (Elt F))]

/-- The operations between TensorCore call 1 and SparseCore call 2. -/
def ops2 : List (HloOp τ sig (Elt F)) :=
  [StableHlo.unary main_v0 main_v51 ((extractStridedSlice S16x10000 ![0, 20000] · slices_S16x50000_S16x10000_0_20000) : (⟨S16x50000, .i32⟩ : BufTy).Contents (Elt F) → (⟨S16x10000, .i32⟩ : BufTy).Contents (Elt F)),
    StableHlo.reshape main_v51 main_v52 (rfl : (.i32 : EltTy) = .i32) shapeCasts_S16x10000_S1x160000]

/-- The operations between SparseCore call 2 and TensorCore call 2. -/
def mid2 : List (HloOp τ sig (Elt F)) :=
  [StableHlo.reshape main_v53 main_v54 (rfl : (.f32 : EltTy) = .f32) shapeCasts_S160000x128_S16x10000x128,
    StableHlo.unary main_v4 main_v55 ((extractStridedSlice S10000x16 ![20000, 0] · slices_S50000x16_S10000x16_20000_0) : (⟨S50000x16, .f32⟩ : BufTy).Contents (Elt F) → (⟨S10000x16, .f32⟩ : BufTy).Contents (Elt F))]

/-- The operations between TensorCore call 2 and SparseCore call 3. -/
def ops3 : List (HloOp τ sig (Elt F)) :=
  [StableHlo.unary main_v0 main_v57 ((extractStridedSlice S16x10000 ![0, 30000] · slices_S16x50000_S16x10000_0_30000) : (⟨S16x50000, .i32⟩ : BufTy).Contents (Elt F) → (⟨S16x10000, .i32⟩ : BufTy).Contents (Elt F)),
    StableHlo.reshape main_v57 main_v58 (rfl : (.i32 : EltTy) = .i32) shapeCasts_S16x10000_S1x160000]

/-- The operations between SparseCore call 3 and TensorCore call 3. -/
def mid3 : List (HloOp τ sig (Elt F)) :=
  [StableHlo.reshape main_v59 main_v60 (rfl : (.f32 : EltTy) = .f32) shapeCasts_S160000x128_S16x10000x128,
    StableHlo.unary main_v4 main_v61 ((extractStridedSlice S10000x16 ![30000, 0] · slices_S50000x16_S10000x16_30000_0) : (⟨S50000x16, .f32⟩ : BufTy).Contents (Elt F) → (⟨S10000x16, .f32⟩ : BufTy).Contents (Elt F))]

/-- The operations between TensorCore call 3 and SparseCore call 4. -/
def ops4 : List (HloOp τ sig (Elt F)) :=
  [StableHlo.unary main_v0 main_v63 ((extractStridedSlice S16x10000 ![0, 40000] · slices_S16x50000_S16x10000_0_40000) : (⟨S16x50000, .i32⟩ : BufTy).Contents (Elt F) → (⟨S16x10000, .i32⟩ : BufTy).Contents (Elt F)),
    StableHlo.reshape main_v63 main_v64 (rfl : (.i32 : EltTy) = .i32) shapeCasts_S16x10000_S1x160000]

/-- The operations between SparseCore call 4 and TensorCore call 4. -/
def mid4 : List (HloOp τ sig (Elt F)) :=
  [StableHlo.reshape main_v65 main_v66 (rfl : (.f32 : EltTy) = .f32) shapeCasts_S160000x128_S16x10000x128,
    StableHlo.unary main_v4 main_v67 ((extractStridedSlice S10000x16 ![40000, 0] · slices_S50000x16_S10000x16_40000_0) : (⟨S50000x16, .f32⟩ : BufTy).Contents (Elt F) → (⟨S10000x16, .f32⟩ : BufTy).Contents (Elt F))]

/-- The operation after the last call. -/
def ops5 : List (HloOp τ sig (Elt F)) :=
  [StableHlo.nary ![main_v44, main_v50, main_v56, main_v62, main_v68] main_v69 (fun u => (concatenate S50000x64 0 [⟨S10000x64, (u 0 : (⟨S10000x64, .f32⟩ : BufTy).Contents (Elt F))⟩, ⟨S10000x64, (u 1 : (⟨S10000x64, .f32⟩ : BufTy).Contents (Elt F))⟩, ⟨S10000x64, (u 2 : (⟨S10000x64, .f32⟩ : BufTy).Contents (Elt F))⟩, ⟨S10000x64, (u 3 : (⟨S10000x64, .f32⟩ : BufTy).Contents (Elt F))⟩, ⟨S10000x64, (u 4 : (⟨S10000x64, .f32⟩ : BufTy).Contents (Elt F))⟩] concatenates_S10000x64_S10000x64_S10000x64_S10000x64_S10000x64_S50000x64_d0 : (⟨S50000x64, .f32⟩ : BufTy).Contents (Elt F)))]

theorem ops0_tc : (ops0 : List (HloOp τ sig (Elt F))).Forall fun op => op.bufs ⊆ tcRefs τ sig :=
  ⟨unary_bufs_sub .., nullary_bufs_sub .., unary_bufs_sub .., binary_bufs_sub .., nullary_bufs_sub .., unary_bufs_sub .., nary_bufs_sub .., nullary_bufs_sub .., unary_bufs_sub .., binary_bufs_sub .., nullary_bufs_sub .., unary_bufs_sub .., binary_bufs_sub .., unary_bufs_sub .., nullary_bufs_sub .., nullary_bufs_sub .., nullary_bufs_sub .., unary_bufs_sub .., binary_bufs_sub .., binary_bufs_sub .., unary_bufs_sub .., nullary_bufs_sub .., unary_bufs_sub .., unary_bufs_sub .., unary_bufs_sub .., unary_bufs_sub .., unary_bufs_sub .., binary_bufs_sub .., reshape_bufs_sub .., unary_bufs_sub .., nullary_bufs_sub .., nullary_bufs_sub .., nullary_bufs_sub .., unary_bufs_sub .., binary_bufs_sub .., binary_bufs_sub .., unary_bufs_sub .., nullary_bufs_sub .., unary_bufs_sub .., binary_bufs_sub .., unary_bufs_sub .., unary_bufs_sub .., unary_bufs_sub .., unary_bufs_sub .., binary_bufs_sub .., reshape_bufs_sub .., nullary_bufs_sub .., unary_bufs_sub .., unary_bufs_sub .., unary_bufs_sub .., unary_bufs_sub .., unary_bufs_sub .., binary_bufs_sub .., reshape_bufs_sub .., binary_bufs_sub .., binary_bufs_sub .., nullary_bufs_sub .., binary_bufs_sub .., unary_bufs_sub .., reshape_bufs_sub .., unary_bufs_sub .., reshape_bufs_sub .., reshape_bufs_sub .., unary_bufs_sub .., unary_bufs_sub .., binary_bufs_sub .., unary_bufs_sub .., unary_bufs_sub .., reshape_bufs_sub ..⟩
theorem ops0_sub : ∀ op ∈ (ops0 : List (HloOp τ sig (Elt F))), op.bufs ⊆ Pipeline.ucRefs τ sig :=
  fun op h => Pipeline.sub_ucRefs op (List.forall_iff_forall_mem.mp ops0_tc op h)
theorem ops0_fresh : ∀ op ∈ (ops0 : List (HloOp τ sig (Elt F))), op.fresh = ∅ := by
  intro _ h; (repeat (cases h with | head => rfl | tail _ h => ?_)); exact nomatch h
theorem mid0_tc : (mid0 : List (HloOp τ sig (Elt F))).Forall fun op => op.bufs ⊆ tcRefs τ sig :=
  ⟨reshape_bufs_sub .., unary_bufs_sub ..⟩
theorem mid0_sub : ∀ op ∈ (mid0 : List (HloOp τ sig (Elt F))), op.bufs ⊆ Pipeline.ucRefs τ sig :=
  fun op h => Pipeline.sub_ucRefs op (List.forall_iff_forall_mem.mp mid0_tc op h)
theorem mid0_fresh : ∀ op ∈ (mid0 : List (HloOp τ sig (Elt F))), op.fresh = ∅ := by
  intro _ h; (repeat (cases h with | head => rfl | tail _ h => ?_)); exact nomatch h
theorem ops1_tc : (ops1 : List (HloOp τ sig (Elt F))).Forall fun op => op.bufs ⊆ tcRefs τ sig :=
  ⟨unary_bufs_sub .., reshape_bufs_sub ..⟩
theorem ops1_sub : ∀ op ∈ (ops1 : List (HloOp τ sig (Elt F))), op.bufs ⊆ Pipeline.ucRefs τ sig :=
  fun op h => Pipeline.sub_ucRefs op (List.forall_iff_forall_mem.mp ops1_tc op h)
theorem ops1_fresh : ∀ op ∈ (ops1 : List (HloOp τ sig (Elt F))), op.fresh = ∅ := by
  intro _ h; (repeat (cases h with | head => rfl | tail _ h => ?_)); exact nomatch h
theorem mid1_tc : (mid1 : List (HloOp τ sig (Elt F))).Forall fun op => op.bufs ⊆ tcRefs τ sig :=
  ⟨reshape_bufs_sub .., unary_bufs_sub ..⟩
theorem mid1_sub : ∀ op ∈ (mid1 : List (HloOp τ sig (Elt F))), op.bufs ⊆ Pipeline.ucRefs τ sig :=
  fun op h => Pipeline.sub_ucRefs op (List.forall_iff_forall_mem.mp mid1_tc op h)
theorem mid1_fresh : ∀ op ∈ (mid1 : List (HloOp τ sig (Elt F))), op.fresh = ∅ := by
  intro _ h; (repeat (cases h with | head => rfl | tail _ h => ?_)); exact nomatch h
theorem ops2_tc : (ops2 : List (HloOp τ sig (Elt F))).Forall fun op => op.bufs ⊆ tcRefs τ sig :=
  ⟨unary_bufs_sub .., reshape_bufs_sub ..⟩
theorem ops2_sub : ∀ op ∈ (ops2 : List (HloOp τ sig (Elt F))), op.bufs ⊆ Pipeline.ucRefs τ sig :=
  fun op h => Pipeline.sub_ucRefs op (List.forall_iff_forall_mem.mp ops2_tc op h)
theorem ops2_fresh : ∀ op ∈ (ops2 : List (HloOp τ sig (Elt F))), op.fresh = ∅ := by
  intro _ h; (repeat (cases h with | head => rfl | tail _ h => ?_)); exact nomatch h
theorem mid2_tc : (mid2 : List (HloOp τ sig (Elt F))).Forall fun op => op.bufs ⊆ tcRefs τ sig :=
  ⟨reshape_bufs_sub .., unary_bufs_sub ..⟩
theorem mid2_sub : ∀ op ∈ (mid2 : List (HloOp τ sig (Elt F))), op.bufs ⊆ Pipeline.ucRefs τ sig :=
  fun op h => Pipeline.sub_ucRefs op (List.forall_iff_forall_mem.mp mid2_tc op h)
theorem mid2_fresh : ∀ op ∈ (mid2 : List (HloOp τ sig (Elt F))), op.fresh = ∅ := by
  intro _ h; (repeat (cases h with | head => rfl | tail _ h => ?_)); exact nomatch h
theorem ops3_tc : (ops3 : List (HloOp τ sig (Elt F))).Forall fun op => op.bufs ⊆ tcRefs τ sig :=
  ⟨unary_bufs_sub .., reshape_bufs_sub ..⟩
theorem ops3_sub : ∀ op ∈ (ops3 : List (HloOp τ sig (Elt F))), op.bufs ⊆ Pipeline.ucRefs τ sig :=
  fun op h => Pipeline.sub_ucRefs op (List.forall_iff_forall_mem.mp ops3_tc op h)
theorem ops3_fresh : ∀ op ∈ (ops3 : List (HloOp τ sig (Elt F))), op.fresh = ∅ := by
  intro _ h; (repeat (cases h with | head => rfl | tail _ h => ?_)); exact nomatch h
theorem mid3_tc : (mid3 : List (HloOp τ sig (Elt F))).Forall fun op => op.bufs ⊆ tcRefs τ sig :=
  ⟨reshape_bufs_sub .., unary_bufs_sub ..⟩
theorem mid3_sub : ∀ op ∈ (mid3 : List (HloOp τ sig (Elt F))), op.bufs ⊆ Pipeline.ucRefs τ sig :=
  fun op h => Pipeline.sub_ucRefs op (List.forall_iff_forall_mem.mp mid3_tc op h)
theorem mid3_fresh : ∀ op ∈ (mid3 : List (HloOp τ sig (Elt F))), op.fresh = ∅ := by
  intro _ h; (repeat (cases h with | head => rfl | tail _ h => ?_)); exact nomatch h
theorem ops4_tc : (ops4 : List (HloOp τ sig (Elt F))).Forall fun op => op.bufs ⊆ tcRefs τ sig :=
  ⟨unary_bufs_sub .., reshape_bufs_sub ..⟩
theorem ops4_sub : ∀ op ∈ (ops4 : List (HloOp τ sig (Elt F))), op.bufs ⊆ Pipeline.ucRefs τ sig :=
  fun op h => Pipeline.sub_ucRefs op (List.forall_iff_forall_mem.mp ops4_tc op h)
theorem ops4_fresh : ∀ op ∈ (ops4 : List (HloOp τ sig (Elt F))), op.fresh = ∅ := by
  intro _ h; (repeat (cases h with | head => rfl | tail _ h => ?_)); exact nomatch h
theorem mid4_tc : (mid4 : List (HloOp τ sig (Elt F))).Forall fun op => op.bufs ⊆ tcRefs τ sig :=
  ⟨reshape_bufs_sub .., unary_bufs_sub ..⟩
theorem mid4_sub : ∀ op ∈ (mid4 : List (HloOp τ sig (Elt F))), op.bufs ⊆ Pipeline.ucRefs τ sig :=
  fun op h => Pipeline.sub_ucRefs op (List.forall_iff_forall_mem.mp mid4_tc op h)
theorem mid4_fresh : ∀ op ∈ (mid4 : List (HloOp τ sig (Elt F))), op.fresh = ∅ := by
  intro _ h; (repeat (cases h with | head => rfl | tail _ h => ?_)); exact nomatch h
theorem ops5_tc : (ops5 : List (HloOp τ sig (Elt F))).Forall fun op => op.bufs ⊆ tcRefs τ sig :=
  nary_bufs_sub ..
theorem ops5_sub : ∀ op ∈ (ops5 : List (HloOp τ sig (Elt F))), op.bufs ⊆ Pipeline.ucRefs τ sig :=
  fun op h => Pipeline.sub_ucRefs op (List.forall_iff_forall_mem.mp ops5_tc op h)
theorem ops5_fresh : ∀ op ∈ (ops5 : List (HloOp τ sig (Elt F))), op.fresh = ∅ := by
  intro _ h; (repeat (cases h with | head => rfl | tail _ h => ?_)); exact nomatch h

set_option maxRecDepth 65536 in
set_option maxHeartbeats 4000000 in
/-- The program is these operations with the calls between them. -/
theorem main_eq (d : Dev nD) : main (F := F) d = (seq ops0 >>= fun _ => (K (F := F)).run d 0 >>= fun _ => seq mid0 >>= fun _ =>
    Prog.lift (.customCall (SparseCore.inner (Pipeline.entry 0)) ()) >>= fun _ => seq ops1 >>= fun _ => (K (F := F)).run d 1 >>= fun _ => seq mid1 >>= fun _ =>
    Prog.lift (.customCall (SparseCore.inner (Pipeline.entry 1)) ()) >>= fun _ => seq ops2 >>= fun _ => (K (F := F)).run d 2 >>= fun _ => seq mid2 >>= fun _ =>
    Prog.lift (.customCall (SparseCore.inner (Pipeline.entry 2)) ()) >>= fun _ => seq ops3 >>= fun _ => (K (F := F)).run d 3 >>= fun _ => seq mid3 >>= fun _ =>
    Prog.lift (.customCall (SparseCore.inner (Pipeline.entry 3)) ()) >>= fun _ => seq ops4 >>= fun _ => (K (F := F)).run d 4 >>= fun _ => seq mid4 >>= fun _ =>
    Prog.lift (.customCall (SparseCore.inner (Pipeline.entry 4)) ()) >>= fun _ => seq ops5 >>= fun _ => pure ⟨⟩) := rfl

/-! ## The buffers along the program -/

variable (V : Valuation τ sig (Elt F))

/-- Through the calls numbered 0. -/
def half0 : Valuation τ sig (Elt F) := after mid0 ((Tiles0.step (F := F)).result V)
def next0 : Valuation τ sig (Elt F) := after ops1 ((Region0.step (F := F)).result (half0 V))
/-- Through the calls numbered 1. -/
def half1 : Valuation τ sig (Elt F) := after mid1 ((Tiles1.step (F := F)).result V)
def next1 : Valuation τ sig (Elt F) := after ops2 ((Region1.step (F := F)).result (half1 V))
/-- Through the calls numbered 2. -/
def half2 : Valuation τ sig (Elt F) := after mid2 ((Tiles2.step (F := F)).result V)
def next2 : Valuation τ sig (Elt F) := after ops3 ((Region2.step (F := F)).result (half2 V))
/-- Through the calls numbered 3. -/
def half3 : Valuation τ sig (Elt F) := after mid3 ((Tiles3.step (F := F)).result V)
def next3 : Valuation τ sig (Elt F) := after ops4 ((Region3.step (F := F)).result (half3 V))
/-- Through the calls numbered 4. -/
def half4 : Valuation τ sig (Elt F) := after mid4 ((Tiles4.step (F := F)).result V)
def next4 : Valuation τ sig (Elt F) := after ops5 ((Region4.step (F := F)).result (half4 V))

def at0 : Valuation τ sig (Elt F) := after ops0 V
def at1 : Valuation τ sig (Elt F) := next0 (at0 V)
def at2 : Valuation τ sig (Elt F) := next1 (at1 V)
def at3 : Valuation τ sig (Elt F) := next2 (at2 V)
def at4 : Valuation τ sig (Elt F) := next3 (at3 V)
def at5 : Valuation τ sig (Elt F) := next4 (at4 V)

/-! ### What the operations before the first call make -/

/-- The table: a row per support point, its features, its coordinates, zeros. -/
def table (a0 : FVec F S50000x64 .f32) (a2 : FVec F S50000x3 .f32) : FVec F S50000x128 .f32 :=
  concatenate S50000x128 1 [⟨S50000x64, a0⟩,
    ⟨S50000x16, pad S50000x16 ![0, 0] ![0, 13] ![0, 0] a2 (sitofp (F := F) .f32 (constantI S_ 32 0#32)) pads_S50000x3_S50000x16_000_0130 h_S_⟩,
    ⟨S50000x48, broadcastInDim S50000x48 ![] bcast_S_S50000x48 (constant (F := F) S_ .f32 0x00000000#32)⟩] concatenates_S50000x64_S50000x16_S50000x48_S50000x128_d1

/-- The neighbors, by neighbor. -/
def byNeighbor (a3 : IVec S50000x16 32) : IVec S16x50000 32 := transpose S16x50000 [1, 0] a3 transposes_S50000x16_S16x50000_1_0

/-- The query points, padded. -/
def queries (a1 : FVec F S50000x3 .f32) : FVec F S50000x16 .f32 :=
  pad S50000x16 ![0, 0] ![0, 13] ![0, 0] a1 (sitofp (F := F) .f32 (constantI S_ 32 0#32)) pads_S50000x3_S50000x16_000_0130 h_S_

/-- The kernel points, padded, a column each. -/
def kpts (a5 : FVec F S15x3 .f32) : FVec F S16x16 .f32 :=
  transpose S16x16 [1, 0] (pad S16x16 ![0, 0] ![1, 13] ![0, 0] a5 (sitofp (F := F) .f32 (constantI S_ 32 0#32)) pads_S15x3_S16x16_010_0130 h_S_) transposes_S16x16_S16x16_1_0

/-- The Kronecker product of two square tables. -/
def kron (a b : FVec F S16x16 .f32) : FVec F S256x256 .f32 :=
  shapeCast S256x256 (mulf (broadcastInDim S16x16x16x16 ![0, 1, 2, 3] bcast_S16x1x16x1_S16x16x16x16_0_1_2_3 (broadcastInDim S16x1x16x1 ![0, 2] bcast_S16x16_S16x1x16x1_0_2 a))
    (broadcastInDim S16x16x16x16 ![0, 1, 2, 3] bcast_S1x16x1x16_S16x16x16x16_0_1_2_3 (broadcastInDim S1x16x1x16 ![1, 3] bcast_S16x16_S1x16x1x16_1_3 b))) shapeCasts_S16x16x16x16_S256x256

/-- The identity table. -/
def eye : FVec F S16x16 .f32 :=
  uitofp .f32 (cmpi .eq (addi (iotaInDim S16x16 32 0) (broadcastInDim S16x16 ![] bcast_S_S16x16 (constantI S_ 32 0#32))) (iotaInDim S16x16 32 1))

/-- What spreads a neighbor's influences over the features. -/
def spread : FVec F S16x960 .bf16 :=
  truncf .bf16 (shapeCast S16x960 (mulf (broadcastInDim S16x1x15x64 ![0, 1, 2, 3] bcast_S16x1x15x1_S16x1x15x64_0_1_2_3 (broadcastInDim S16x1x15x1 ![0, 2] bcast_S16x15_S16x1x15x1_0_2
      (uitofp (F := F) .f32 (cmpi .eq (addi (iotaInDim S16x15 32 0) (broadcastInDim S16x15 ![] bcast_S_S16x15 (constantI S_ 32 0#32))) (iotaInDim S16x15 32 1)))))
    (broadcastInDim S16x1x15x64 ![0, 1, 2, 3] bcast_S1x1x1x64_S16x1x15x64_0_1_2_3 (broadcastInDim S1x1x1x64 ![1, 3] bcast_S1x64_S1x1x1x64_1_3
      (broadcastInDim S1x64 ![] bcast_S_S1x64 (constant (F := F) S_ .f32 0x3F800000#32))))) shapeCasts_S16x1x15x64_S16x960) bitsLt_bf16_f32

/-- What makes squared distances, less the kernel points' squares, of differences and their squares. -/
def expand (a5 : FVec F S15x3 .f32) : FVec F S512x256 .f32 :=
  concatenate S512x256 0 [⟨S256x256, kron eye (mulf (broadcastInDim S16x16 ![] bcast_S_S16x16 (constant (F := F) S_ .f32 0xC0000000#32)) (kpts a5))⟩,
    ⟨S256x256, kron eye (broadcastInDim S16x16 ![] bcast_S_S16x16 (constant (F := F) S_ .f32 0x3F800000#32))⟩] concatenates_S256x256_S256x256_S512x256_d0

/-- The kernel points' squares, for every neighbor. -/
def squares (a5 : FVec F S15x3 .f32) : FVec F S1x256 .f32 :=
  shapeCast S1x256 (broadcastInDim S1x1x16x16 ![0, 1, 2, 3] bcast_S1x1x1x16_S1x1x16x16_0_1_2_3 (shapeCast S1x1x1x16 (broadcastInDim S1x16 ![1] bcast_S16_S1x16_1
    (Host.reduceAdd (mulf (kpts a5) (kpts a5)) (constant (F := F) S_ .f32 0x00000000#32) reducesTo_S16x16_S16_d0 h_S_)) shapeCasts_S1x16_S1x1x1x16)) shapeCasts_S1x1x16x16_S1x256

/-- The weights, their leading part. -/
def lead (a4 : FVec F S15x64x64 .f32) : FVec F S960x64 .bf16 := truncf .bf16 (shapeCast S960x64 a4 shapeCasts_S15x64x64_S960x64) bitsLt_bf16_f32

/-- The weights, the rest. -/
def trail (a4 : FVec F S15x64x64 .f32) : FVec F S960x64 .bf16 :=
  truncf .bf16 (subf (shapeCast S960x64 a4 shapeCasts_S15x64x64_S960x64) (extf .f32 (lead a4) bitsLt_bf16_f32)) bitsLt_bf16_f32

/-- A fifth of the neighbors, by neighbor, in a row. -/
def fifth (off : ℕ) (h : S16x50000.Slices ![0, off] S16x10000) (i : IVec S16x50000 32) : IVec S1x160000 32 :=
  shapeCast S1x160000 (extractStridedSlice S16x10000 ![0, off] i h) shapeCasts_S16x10000_S1x160000

/-- A fifth of the result. -/
def part (off : ℕ) (h : S16x50000.Slices ![0, off] S16x10000) (h' : S50000x16.Slices ![off, 0] S10000x16) (tab : FVec F S50000x128 .f32) (i : IVec S16x50000 32) (q : FVec F S50000x16 .f32)
    (x2 : FVec F S512x256 .f32) (x3 : FVec F S1x256 .f32) (x4 : FVec F S16x960 .bf16) (x5 x6 : FVec F S960x64 .bf16) : FVec F S10000x64 .f32 :=
  Stage.staged (shapeCast S16x10000x128 (gathered (α := Elt F .f32) tab (fifth off h i)) shapeCasts_S160000x128_S16x10000x128) (extractStridedSlice S10000x16 ![off, 0] q h') x2 x3 x4 x5 x6

set_option maxHeartbeats 4000000 in
theorem at0_nbr : at0 V (ref main_v0) = byNeighbor (V (ref main_arg3)) := by
  simp only [at0, ops0, TRef.binary, TRef.unary, TRef.reshape, TRef.toBuf, TRef.ofBuf, cast_eq]
  after_results_simp <;> (try dsimp only [Matrix.cons_val]) <;> (try after_results_simp) <;> rfl
set_option maxHeartbeats 4000000 in
theorem at0_tab : at0 V (ref main_v3) = table (V (ref main_arg0)) (V (ref main_arg2)) := by
  simp only [at0, ops0, TRef.binary, TRef.unary, TRef.reshape, TRef.toBuf, TRef.ofBuf, cast_eq]
  after_results_simp <;> (try dsimp only [Matrix.cons_val]) <;> (try after_results_simp) <;> rfl
set_option maxHeartbeats 4000000 in
theorem at0_qry : at0 V (ref main_v4) = queries (V (ref main_arg1)) := by
  simp only [at0, ops0, TRef.binary, TRef.unary, TRef.reshape, TRef.toBuf, TRef.ofBuf, cast_eq]
  after_results_simp <;> (try dsimp only [Matrix.cons_val]) <;> (try after_results_simp) <;> rfl
set_option maxHeartbeats 4000000 in
theorem at0_spread : at0 V (ref main_v15) = spread := by
  simp only [at0, ops0, TRef.binary, TRef.unary, TRef.reshape, TRef.toBuf, TRef.ofBuf, cast_eq]
  after_results_simp <;> (try dsimp only [Matrix.cons_val]) <;> (try after_results_simp) <;> rfl
set_option maxHeartbeats 4000000 in
theorem at0_expand : at0 V (ref main_v27) = expand (V (ref main_arg5)) := by
  simp only [at0, ops0, TRef.binary, TRef.unary, TRef.reshape, TRef.toBuf, TRef.ofBuf, cast_eq]
  after_results_simp <;> (try dsimp only [Matrix.cons_val]) <;> (try after_results_simp) <;> rfl
set_option maxHeartbeats 4000000 in
theorem at0_squares : at0 V (ref main_v33) = squares (V (ref main_arg5)) := by
  simp only [at0, ops0, TRef.binary, TRef.unary, TRef.reshape, TRef.toBuf, TRef.ofBuf, cast_eq]
  after_results_simp <;> (try dsimp only [Matrix.cons_val]) <;> (try after_results_simp) <;> rfl
set_option maxHeartbeats 4000000 in
theorem at0_lead : at0 V (ref main_v35) = lead (V (ref main_arg4)) := by
  simp only [at0, ops0, TRef.binary, TRef.unary, TRef.reshape, TRef.toBuf, TRef.ofBuf, cast_eq]
  after_results_simp <;> (try dsimp only [Matrix.cons_val]) <;> (try after_results_simp) <;> rfl
set_option maxHeartbeats 4000000 in
theorem at0_trail : at0 V (ref main_v38) = trail (V (ref main_arg4)) := by
  simp only [at0, ops0, TRef.binary, TRef.unary, TRef.reshape, TRef.toBuf, TRef.ofBuf, cast_eq]
  after_results_simp <;> (try dsimp only [Matrix.cons_val]) <;> (try after_results_simp) <;> rfl
set_option maxHeartbeats 4000000 in
theorem at0_ix : at0 V (ref main_v40) = fifth 0 slices_S16x50000_S16x10000_0_0 (byNeighbor (V (ref main_arg3))) := by
  simp only [at0, ops0, TRef.binary, TRef.unary, TRef.reshape, TRef.toBuf, TRef.ofBuf, cast_eq]
  after_results_simp <;> (try dsimp only [Matrix.cons_val]) <;> (try after_results_simp) <;> rfl
theorem at0_nbr_ix : at0 V (ref main_v40) = fifth 0 slices_S16x50000_S16x10000_0_0 (at0 V (ref main_v0)) := by rw [at0_ix, at0_nbr]
set_option maxHeartbeats 4000000 in
theorem at0_arg0 : at0 V (ref main_arg0) = V (ref main_arg0) := by
  simp only [at0, ops0, TRef.binary, TRef.unary, TRef.reshape, TRef.toBuf, TRef.ofBuf, cast_eq]
  after_results_simp
set_option maxHeartbeats 4000000 in
theorem at0_arg1 : at0 V (ref main_arg1) = V (ref main_arg1) := by
  simp only [at0, ops0, TRef.binary, TRef.unary, TRef.reshape, TRef.toBuf, TRef.ofBuf, cast_eq]
  after_results_simp
set_option maxHeartbeats 4000000 in
theorem at0_arg2 : at0 V (ref main_arg2) = V (ref main_arg2) := by
  simp only [at0, ops0, TRef.binary, TRef.unary, TRef.reshape, TRef.toBuf, TRef.ofBuf, cast_eq]
  after_results_simp
set_option maxHeartbeats 4000000 in
theorem at0_arg3 : at0 V (ref main_arg3) = V (ref main_arg3) := by
  simp only [at0, ops0, TRef.binary, TRef.unary, TRef.reshape, TRef.toBuf, TRef.ofBuf, cast_eq]
  after_results_simp
set_option maxHeartbeats 4000000 in
theorem at0_arg4 : at0 V (ref main_arg4) = V (ref main_arg4) := by
  simp only [at0, ops0, TRef.binary, TRef.unary, TRef.reshape, TRef.toBuf, TRef.ofBuf, cast_eq]
  after_results_simp
set_option maxHeartbeats 4000000 in
theorem at0_arg5 : at0 V (ref main_arg5) = V (ref main_arg5) := by
  simp only [at0, ops0, TRef.binary, TRef.unary, TRef.reshape, TRef.toBuf, TRef.ofBuf, cast_eq]
  after_results_simp

/-! ### Through the calls -/

theorem half0_keep {r : Ref sig .tc} (h41 : r ≠ main_v41) (h42 : r ≠ main_v42) (h43 : r ≠ main_v43) : half0 V (ref r) = V (ref r) := by
  unfold half0 mid0 Tiles0.step
  simp only [after_cons, after_nil]
  exact (unary_result_ne (h := h43) ..).trans ((reshape_result_ne (h := h42) ..).trans (binary_result_ne (h := h41) ..))
theorem next0_keep {r : Ref sig .tc} (h41 : r ≠ main_v41) (h42 : r ≠ main_v42) (h43 : r ≠ main_v43) (h44 : r ≠ main_v44) (h45 : r ≠ main_v45) (h46 : r ≠ main_v46) : next0 V (ref r) = V (ref r) := by
  unfold next0 ops1
  simp only [after_cons, after_nil]
  refine (reshape_result_ne (h := h46) ..).trans ((unary_result_ne (h := h45) ..).trans ?_)
  exact (Region0.step_ne _ h44).trans (half0_keep V h41 h42 h43)
theorem next0_ix : next0 V (ref main_v46) = fifth 10000 slices_S16x50000_S16x10000_0_10000 (V (ref main_v0)) := by
  unfold next0 ops1
  after_results_simp
  rw [Region0.step_ne _ (by decide), half0_keep V (by decide) (by decide) (by decide)]
  rfl
theorem next0_res (h : V (ref main_v40) = fifth 0 slices_S16x50000_S16x10000_0_0 (V (ref main_v0))) : (Region0.step (F := F)).result (half0 V) (ref main_v44)
    = part 0 slices_S16x50000_S16x10000_0_0 slices_S50000x16_S10000x16_0_0 (V (ref main_v3)) (V (ref main_v0)) (V (ref main_v4)) (V (ref main_v27)) (V (ref main_v33)) (V (ref main_v15)) (V (ref main_v35)) (V (ref main_v38)) := by
  rw [Region0.step_res, half0_keep V (r := main_v27) (by decide) (by decide) (by decide), half0_keep V (r := main_v33) (by decide) (by decide) (by decide), half0_keep V (r := main_v15) (by decide) (by decide) (by decide),
    half0_keep V (r := main_v35) (by decide) (by decide) (by decide), half0_keep V (r := main_v38) (by decide) (by decide) (by decide)]
  have hg : half0 V (ref main_v42) = shapeCast S16x10000x128 (gathered (α := Elt F .f32) (V (ref main_v3)) (fifth 0 slices_S16x50000_S16x10000_0_0 (V (ref main_v0)))) shapeCasts_S160000x128_S16x10000x128 := by
    rw [← h]
    unfold half0 mid0 Tiles0.step
    after_results_simp
    rfl
  have hq : half0 V (ref main_v43) = extractStridedSlice S10000x16 ![0, 0] (V (ref main_v4)) slices_S50000x16_S10000x16_0_0 := by
    unfold half0 mid0 Tiles0.step
    after_results_simp
  rw [hg, hq]
  rfl
theorem next0_out (h : V (ref main_v40) = fifth 0 slices_S16x50000_S16x10000_0_0 (V (ref main_v0))) : next0 V (ref main_v44)
    = part 0 slices_S16x50000_S16x10000_0_0 slices_S50000x16_S10000x16_0_0 (V (ref main_v3)) (V (ref main_v0)) (V (ref main_v4)) (V (ref main_v27)) (V (ref main_v33)) (V (ref main_v15)) (V (ref main_v35)) (V (ref main_v38)) := by
  rw [← next0_res V h]
  unfold next0 ops1
  simp only [after_cons, after_nil]
  exact (reshape_result_ne (r := main_v44) (h := by decide) ..).trans (unary_result_ne (r := main_v44) (h := by decide) ..)
theorem half1_keep {r : Ref sig .tc} (h47 : r ≠ main_v47) (h48 : r ≠ main_v48) (h49 : r ≠ main_v49) : half1 V (ref r) = V (ref r) := by
  unfold half1 mid1 Tiles1.step
  simp only [after_cons, after_nil]
  exact (unary_result_ne (h := h49) ..).trans ((reshape_result_ne (h := h48) ..).trans (binary_result_ne (h := h47) ..))
theorem next1_keep {r : Ref sig .tc} (h47 : r ≠ main_v47) (h48 : r ≠ main_v48) (h49 : r ≠ main_v49) (h50 : r ≠ main_v50) (h51 : r ≠ main_v51) (h52 : r ≠ main_v52) : next1 V (ref r) = V (ref r) := by
  unfold next1 ops2
  simp only [after_cons, after_nil]
  refine (reshape_result_ne (h := h52) ..).trans ((unary_result_ne (h := h51) ..).trans ?_)
  exact (Region1.step_ne _ h50).trans (half1_keep V h47 h48 h49)
theorem next1_ix : next1 V (ref main_v52) = fifth 20000 slices_S16x50000_S16x10000_0_20000 (V (ref main_v0)) := by
  unfold next1 ops2
  after_results_simp
  rw [Region1.step_ne _ (by decide), half1_keep V (by decide) (by decide) (by decide)]
  rfl
theorem next1_res (h : V (ref main_v46) = fifth 10000 slices_S16x50000_S16x10000_0_10000 (V (ref main_v0))) : (Region1.step (F := F)).result (half1 V) (ref main_v50)
    = part 10000 slices_S16x50000_S16x10000_0_10000 slices_S50000x16_S10000x16_10000_0 (V (ref main_v3)) (V (ref main_v0)) (V (ref main_v4)) (V (ref main_v27)) (V (ref main_v33)) (V (ref main_v15)) (V (ref main_v35)) (V (ref main_v38)) := by
  rw [Region1.step_res, half1_keep V (r := main_v27) (by decide) (by decide) (by decide), half1_keep V (r := main_v33) (by decide) (by decide) (by decide), half1_keep V (r := main_v15) (by decide) (by decide) (by decide),
    half1_keep V (r := main_v35) (by decide) (by decide) (by decide), half1_keep V (r := main_v38) (by decide) (by decide) (by decide)]
  have hg : half1 V (ref main_v48) = shapeCast S16x10000x128 (gathered (α := Elt F .f32) (V (ref main_v3)) (fifth 10000 slices_S16x50000_S16x10000_0_10000 (V (ref main_v0)))) shapeCasts_S160000x128_S16x10000x128 := by
    rw [← h]
    unfold half1 mid1 Tiles1.step
    after_results_simp
    rfl
  have hq : half1 V (ref main_v49) = extractStridedSlice S10000x16 ![10000, 0] (V (ref main_v4)) slices_S50000x16_S10000x16_10000_0 := by
    unfold half1 mid1 Tiles1.step
    after_results_simp
  rw [hg, hq]
  rfl
theorem next1_out (h : V (ref main_v46) = fifth 10000 slices_S16x50000_S16x10000_0_10000 (V (ref main_v0))) : next1 V (ref main_v50)
    = part 10000 slices_S16x50000_S16x10000_0_10000 slices_S50000x16_S10000x16_10000_0 (V (ref main_v3)) (V (ref main_v0)) (V (ref main_v4)) (V (ref main_v27)) (V (ref main_v33)) (V (ref main_v15)) (V (ref main_v35)) (V (ref main_v38)) := by
  rw [← next1_res V h]
  unfold next1 ops2
  simp only [after_cons, after_nil]
  exact (reshape_result_ne (r := main_v50) (h := by decide) ..).trans (unary_result_ne (r := main_v50) (h := by decide) ..)
theorem half2_keep {r : Ref sig .tc} (h53 : r ≠ main_v53) (h54 : r ≠ main_v54) (h55 : r ≠ main_v55) : half2 V (ref r) = V (ref r) := by
  unfold half2 mid2 Tiles2.step
  simp only [after_cons, after_nil]
  exact (unary_result_ne (h := h55) ..).trans ((reshape_result_ne (h := h54) ..).trans (binary_result_ne (h := h53) ..))
theorem next2_keep {r : Ref sig .tc} (h53 : r ≠ main_v53) (h54 : r ≠ main_v54) (h55 : r ≠ main_v55) (h56 : r ≠ main_v56) (h57 : r ≠ main_v57) (h58 : r ≠ main_v58) : next2 V (ref r) = V (ref r) := by
  unfold next2 ops3
  simp only [after_cons, after_nil]
  refine (reshape_result_ne (h := h58) ..).trans ((unary_result_ne (h := h57) ..).trans ?_)
  exact (Region2.step_ne _ h56).trans (half2_keep V h53 h54 h55)
theorem next2_ix : next2 V (ref main_v58) = fifth 30000 slices_S16x50000_S16x10000_0_30000 (V (ref main_v0)) := by
  unfold next2 ops3
  after_results_simp
  rw [Region2.step_ne _ (by decide), half2_keep V (by decide) (by decide) (by decide)]
  rfl
theorem next2_res (h : V (ref main_v52) = fifth 20000 slices_S16x50000_S16x10000_0_20000 (V (ref main_v0))) : (Region2.step (F := F)).result (half2 V) (ref main_v56)
    = part 20000 slices_S16x50000_S16x10000_0_20000 slices_S50000x16_S10000x16_20000_0 (V (ref main_v3)) (V (ref main_v0)) (V (ref main_v4)) (V (ref main_v27)) (V (ref main_v33)) (V (ref main_v15)) (V (ref main_v35)) (V (ref main_v38)) := by
  rw [Region2.step_res, half2_keep V (r := main_v27) (by decide) (by decide) (by decide), half2_keep V (r := main_v33) (by decide) (by decide) (by decide), half2_keep V (r := main_v15) (by decide) (by decide) (by decide),
    half2_keep V (r := main_v35) (by decide) (by decide) (by decide), half2_keep V (r := main_v38) (by decide) (by decide) (by decide)]
  have hg : half2 V (ref main_v54) = shapeCast S16x10000x128 (gathered (α := Elt F .f32) (V (ref main_v3)) (fifth 20000 slices_S16x50000_S16x10000_0_20000 (V (ref main_v0)))) shapeCasts_S160000x128_S16x10000x128 := by
    rw [← h]
    unfold half2 mid2 Tiles2.step
    after_results_simp
    rfl
  have hq : half2 V (ref main_v55) = extractStridedSlice S10000x16 ![20000, 0] (V (ref main_v4)) slices_S50000x16_S10000x16_20000_0 := by
    unfold half2 mid2 Tiles2.step
    after_results_simp
  rw [hg, hq]
  rfl
theorem next2_out (h : V (ref main_v52) = fifth 20000 slices_S16x50000_S16x10000_0_20000 (V (ref main_v0))) : next2 V (ref main_v56)
    = part 20000 slices_S16x50000_S16x10000_0_20000 slices_S50000x16_S10000x16_20000_0 (V (ref main_v3)) (V (ref main_v0)) (V (ref main_v4)) (V (ref main_v27)) (V (ref main_v33)) (V (ref main_v15)) (V (ref main_v35)) (V (ref main_v38)) := by
  rw [← next2_res V h]
  unfold next2 ops3
  simp only [after_cons, after_nil]
  exact (reshape_result_ne (r := main_v56) (h := by decide) ..).trans (unary_result_ne (r := main_v56) (h := by decide) ..)
theorem half3_keep {r : Ref sig .tc} (h59 : r ≠ main_v59) (h60 : r ≠ main_v60) (h61 : r ≠ main_v61) : half3 V (ref r) = V (ref r) := by
  unfold half3 mid3 Tiles3.step
  simp only [after_cons, after_nil]
  exact (unary_result_ne (h := h61) ..).trans ((reshape_result_ne (h := h60) ..).trans (binary_result_ne (h := h59) ..))
theorem next3_keep {r : Ref sig .tc} (h59 : r ≠ main_v59) (h60 : r ≠ main_v60) (h61 : r ≠ main_v61) (h62 : r ≠ main_v62) (h63 : r ≠ main_v63) (h64 : r ≠ main_v64) : next3 V (ref r) = V (ref r) := by
  unfold next3 ops4
  simp only [after_cons, after_nil]
  refine (reshape_result_ne (h := h64) ..).trans ((unary_result_ne (h := h63) ..).trans ?_)
  exact (Region3.step_ne _ h62).trans (half3_keep V h59 h60 h61)
theorem next3_ix : next3 V (ref main_v64) = fifth 40000 slices_S16x50000_S16x10000_0_40000 (V (ref main_v0)) := by
  unfold next3 ops4
  after_results_simp
  rw [Region3.step_ne _ (by decide), half3_keep V (by decide) (by decide) (by decide)]
  rfl
theorem next3_res (h : V (ref main_v58) = fifth 30000 slices_S16x50000_S16x10000_0_30000 (V (ref main_v0))) : (Region3.step (F := F)).result (half3 V) (ref main_v62)
    = part 30000 slices_S16x50000_S16x10000_0_30000 slices_S50000x16_S10000x16_30000_0 (V (ref main_v3)) (V (ref main_v0)) (V (ref main_v4)) (V (ref main_v27)) (V (ref main_v33)) (V (ref main_v15)) (V (ref main_v35)) (V (ref main_v38)) := by
  rw [Region3.step_res, half3_keep V (r := main_v27) (by decide) (by decide) (by decide), half3_keep V (r := main_v33) (by decide) (by decide) (by decide), half3_keep V (r := main_v15) (by decide) (by decide) (by decide),
    half3_keep V (r := main_v35) (by decide) (by decide) (by decide), half3_keep V (r := main_v38) (by decide) (by decide) (by decide)]
  have hg : half3 V (ref main_v60) = shapeCast S16x10000x128 (gathered (α := Elt F .f32) (V (ref main_v3)) (fifth 30000 slices_S16x50000_S16x10000_0_30000 (V (ref main_v0)))) shapeCasts_S160000x128_S16x10000x128 := by
    rw [← h]
    unfold half3 mid3 Tiles3.step
    after_results_simp
    rfl
  have hq : half3 V (ref main_v61) = extractStridedSlice S10000x16 ![30000, 0] (V (ref main_v4)) slices_S50000x16_S10000x16_30000_0 := by
    unfold half3 mid3 Tiles3.step
    after_results_simp
  rw [hg, hq]
  rfl
theorem next3_out (h : V (ref main_v58) = fifth 30000 slices_S16x50000_S16x10000_0_30000 (V (ref main_v0))) : next3 V (ref main_v62)
    = part 30000 slices_S16x50000_S16x10000_0_30000 slices_S50000x16_S10000x16_30000_0 (V (ref main_v3)) (V (ref main_v0)) (V (ref main_v4)) (V (ref main_v27)) (V (ref main_v33)) (V (ref main_v15)) (V (ref main_v35)) (V (ref main_v38)) := by
  rw [← next3_res V h]
  unfold next3 ops4
  simp only [after_cons, after_nil]
  exact (reshape_result_ne (r := main_v62) (h := by decide) ..).trans (unary_result_ne (r := main_v62) (h := by decide) ..)
theorem half4_keep {r : Ref sig .tc} (h65 : r ≠ main_v65) (h66 : r ≠ main_v66) (h67 : r ≠ main_v67) : half4 V (ref r) = V (ref r) := by
  unfold half4 mid4 Tiles4.step
  simp only [after_cons, after_nil]
  exact (unary_result_ne (h := h67) ..).trans ((reshape_result_ne (h := h66) ..).trans (binary_result_ne (h := h65) ..))
theorem next4_keep {r : Ref sig .tc} (h65 : r ≠ main_v65) (h66 : r ≠ main_v66) (h67 : r ≠ main_v67) (h68 : r ≠ main_v68) (h69 : r ≠ main_v69) : next4 V (ref r) = V (ref r) := by
  unfold next4 ops5
  simp only [after_cons, after_nil]
  refine (nary_result_ne (h := h69) ..).trans ?_
  exact (Region4.step_ne _ h68).trans (half4_keep V h65 h66 h67)
theorem next4_res (h : V (ref main_v64) = fifth 40000 slices_S16x50000_S16x10000_0_40000 (V (ref main_v0))) : (Region4.step (F := F)).result (half4 V) (ref main_v68)
    = part 40000 slices_S16x50000_S16x10000_0_40000 slices_S50000x16_S10000x16_40000_0 (V (ref main_v3)) (V (ref main_v0)) (V (ref main_v4)) (V (ref main_v27)) (V (ref main_v33)) (V (ref main_v15)) (V (ref main_v35)) (V (ref main_v38)) := by
  rw [Region4.step_res, half4_keep V (r := main_v27) (by decide) (by decide) (by decide), half4_keep V (r := main_v33) (by decide) (by decide) (by decide), half4_keep V (r := main_v15) (by decide) (by decide) (by decide),
    half4_keep V (r := main_v35) (by decide) (by decide) (by decide), half4_keep V (r := main_v38) (by decide) (by decide) (by decide)]
  have hg : half4 V (ref main_v66) = shapeCast S16x10000x128 (gathered (α := Elt F .f32) (V (ref main_v3)) (fifth 40000 slices_S16x50000_S16x10000_0_40000 (V (ref main_v0)))) shapeCasts_S160000x128_S16x10000x128 := by
    rw [← h]
    unfold half4 mid4 Tiles4.step
    after_results_simp
    rfl
  have hq : half4 V (ref main_v67) = extractStridedSlice S10000x16 ![40000, 0] (V (ref main_v4)) slices_S50000x16_S10000x16_40000_0 := by
    unfold half4 mid4 Tiles4.step
    after_results_simp
  rw [hg, hq]
  rfl
theorem at1_nbr : at1 V (ref main_v0) = at0 V (ref main_v0) := (next0_keep _ (r := main_v0) (by decide) (by decide) (by decide) (by decide) (by decide) (by decide)).trans rfl
theorem at1_tab : at1 V (ref main_v3) = at0 V (ref main_v3) := (next0_keep _ (r := main_v3) (by decide) (by decide) (by decide) (by decide) (by decide) (by decide)).trans rfl
theorem at1_qry : at1 V (ref main_v4) = at0 V (ref main_v4) := (next0_keep _ (r := main_v4) (by decide) (by decide) (by decide) (by decide) (by decide) (by decide)).trans rfl
theorem at1_expand : at1 V (ref main_v27) = at0 V (ref main_v27) := (next0_keep _ (r := main_v27) (by decide) (by decide) (by decide) (by decide) (by decide) (by decide)).trans rfl
theorem at1_squares : at1 V (ref main_v33) = at0 V (ref main_v33) := (next0_keep _ (r := main_v33) (by decide) (by decide) (by decide) (by decide) (by decide) (by decide)).trans rfl
theorem at1_spread : at1 V (ref main_v15) = at0 V (ref main_v15) := (next0_keep _ (r := main_v15) (by decide) (by decide) (by decide) (by decide) (by decide) (by decide)).trans rfl
theorem at1_lead : at1 V (ref main_v35) = at0 V (ref main_v35) := (next0_keep _ (r := main_v35) (by decide) (by decide) (by decide) (by decide) (by decide) (by decide)).trans rfl
theorem at1_trail : at1 V (ref main_v38) = at0 V (ref main_v38) := (next0_keep _ (r := main_v38) (by decide) (by decide) (by decide) (by decide) (by decide) (by decide)).trans rfl
theorem at1_nbr_ix : at1 V (ref main_v46) = fifth 10000 slices_S16x50000_S16x10000_0_10000 (at1 V (ref main_v0)) := (next0_ix (at0 V)).trans (congrArg _ (next0_keep _ (r := main_v0) (by decide) (by decide) (by decide) (by decide) (by decide) (by decide)).symm)
theorem at1_ix : at1 V (ref main_v46) = fifth 10000 slices_S16x50000_S16x10000_0_10000 (byNeighbor (V (ref main_arg3))) := by rw [at1_nbr_ix, at1_nbr, at0_nbr]
theorem at2_nbr : at2 V (ref main_v0) = at0 V (ref main_v0) := (next1_keep _ (r := main_v0) (by decide) (by decide) (by decide) (by decide) (by decide) (by decide)).trans (at1_nbr V)
theorem at2_tab : at2 V (ref main_v3) = at0 V (ref main_v3) := (next1_keep _ (r := main_v3) (by decide) (by decide) (by decide) (by decide) (by decide) (by decide)).trans (at1_tab V)
theorem at2_qry : at2 V (ref main_v4) = at0 V (ref main_v4) := (next1_keep _ (r := main_v4) (by decide) (by decide) (by decide) (by decide) (by decide) (by decide)).trans (at1_qry V)
theorem at2_expand : at2 V (ref main_v27) = at0 V (ref main_v27) := (next1_keep _ (r := main_v27) (by decide) (by decide) (by decide) (by decide) (by decide) (by decide)).trans (at1_expand V)
theorem at2_squares : at2 V (ref main_v33) = at0 V (ref main_v33) := (next1_keep _ (r := main_v33) (by decide) (by decide) (by decide) (by decide) (by decide) (by decide)).trans (at1_squares V)
theorem at2_spread : at2 V (ref main_v15) = at0 V (ref main_v15) := (next1_keep _ (r := main_v15) (by decide) (by decide) (by decide) (by decide) (by decide) (by decide)).trans (at1_spread V)
theorem at2_lead : at2 V (ref main_v35) = at0 V (ref main_v35) := (next1_keep _ (r := main_v35) (by decide) (by decide) (by decide) (by decide) (by decide) (by decide)).trans (at1_lead V)
theorem at2_trail : at2 V (ref main_v38) = at0 V (ref main_v38) := (next1_keep _ (r := main_v38) (by decide) (by decide) (by decide) (by decide) (by decide) (by decide)).trans (at1_trail V)
theorem at2_nbr_ix : at2 V (ref main_v52) = fifth 20000 slices_S16x50000_S16x10000_0_20000 (at2 V (ref main_v0)) := (next1_ix (at1 V)).trans (congrArg _ (next1_keep _ (r := main_v0) (by decide) (by decide) (by decide) (by decide) (by decide) (by decide)).symm)
theorem at2_ix : at2 V (ref main_v52) = fifth 20000 slices_S16x50000_S16x10000_0_20000 (byNeighbor (V (ref main_arg3))) := by rw [at2_nbr_ix, at2_nbr, at0_nbr]
theorem at3_nbr : at3 V (ref main_v0) = at0 V (ref main_v0) := (next2_keep _ (r := main_v0) (by decide) (by decide) (by decide) (by decide) (by decide) (by decide)).trans (at2_nbr V)
theorem at3_tab : at3 V (ref main_v3) = at0 V (ref main_v3) := (next2_keep _ (r := main_v3) (by decide) (by decide) (by decide) (by decide) (by decide) (by decide)).trans (at2_tab V)
theorem at3_qry : at3 V (ref main_v4) = at0 V (ref main_v4) := (next2_keep _ (r := main_v4) (by decide) (by decide) (by decide) (by decide) (by decide) (by decide)).trans (at2_qry V)
theorem at3_expand : at3 V (ref main_v27) = at0 V (ref main_v27) := (next2_keep _ (r := main_v27) (by decide) (by decide) (by decide) (by decide) (by decide) (by decide)).trans (at2_expand V)
theorem at3_squares : at3 V (ref main_v33) = at0 V (ref main_v33) := (next2_keep _ (r := main_v33) (by decide) (by decide) (by decide) (by decide) (by decide) (by decide)).trans (at2_squares V)
theorem at3_spread : at3 V (ref main_v15) = at0 V (ref main_v15) := (next2_keep _ (r := main_v15) (by decide) (by decide) (by decide) (by decide) (by decide) (by decide)).trans (at2_spread V)
theorem at3_lead : at3 V (ref main_v35) = at0 V (ref main_v35) := (next2_keep _ (r := main_v35) (by decide) (by decide) (by decide) (by decide) (by decide) (by decide)).trans (at2_lead V)
theorem at3_trail : at3 V (ref main_v38) = at0 V (ref main_v38) := (next2_keep _ (r := main_v38) (by decide) (by decide) (by decide) (by decide) (by decide) (by decide)).trans (at2_trail V)
theorem at3_nbr_ix : at3 V (ref main_v58) = fifth 30000 slices_S16x50000_S16x10000_0_30000 (at3 V (ref main_v0)) := (next2_ix (at2 V)).trans (congrArg _ (next2_keep _ (r := main_v0) (by decide) (by decide) (by decide) (by decide) (by decide) (by decide)).symm)
theorem at3_ix : at3 V (ref main_v58) = fifth 30000 slices_S16x50000_S16x10000_0_30000 (byNeighbor (V (ref main_arg3))) := by rw [at3_nbr_ix, at3_nbr, at0_nbr]
theorem at4_nbr : at4 V (ref main_v0) = at0 V (ref main_v0) := (next3_keep _ (r := main_v0) (by decide) (by decide) (by decide) (by decide) (by decide) (by decide)).trans (at3_nbr V)
theorem at4_tab : at4 V (ref main_v3) = at0 V (ref main_v3) := (next3_keep _ (r := main_v3) (by decide) (by decide) (by decide) (by decide) (by decide) (by decide)).trans (at3_tab V)
theorem at4_qry : at4 V (ref main_v4) = at0 V (ref main_v4) := (next3_keep _ (r := main_v4) (by decide) (by decide) (by decide) (by decide) (by decide) (by decide)).trans (at3_qry V)
theorem at4_expand : at4 V (ref main_v27) = at0 V (ref main_v27) := (next3_keep _ (r := main_v27) (by decide) (by decide) (by decide) (by decide) (by decide) (by decide)).trans (at3_expand V)
theorem at4_squares : at4 V (ref main_v33) = at0 V (ref main_v33) := (next3_keep _ (r := main_v33) (by decide) (by decide) (by decide) (by decide) (by decide) (by decide)).trans (at3_squares V)
theorem at4_spread : at4 V (ref main_v15) = at0 V (ref main_v15) := (next3_keep _ (r := main_v15) (by decide) (by decide) (by decide) (by decide) (by decide) (by decide)).trans (at3_spread V)
theorem at4_lead : at4 V (ref main_v35) = at0 V (ref main_v35) := (next3_keep _ (r := main_v35) (by decide) (by decide) (by decide) (by decide) (by decide) (by decide)).trans (at3_lead V)
theorem at4_trail : at4 V (ref main_v38) = at0 V (ref main_v38) := (next3_keep _ (r := main_v38) (by decide) (by decide) (by decide) (by decide) (by decide) (by decide)).trans (at3_trail V)
theorem at4_nbr_ix : at4 V (ref main_v64) = fifth 40000 slices_S16x50000_S16x10000_0_40000 (at4 V (ref main_v0)) := (next3_ix (at3 V)).trans (congrArg _ (next3_keep _ (r := main_v0) (by decide) (by decide) (by decide) (by decide) (by decide) (by decide)).symm)
theorem at4_ix : at4 V (ref main_v64) = fifth 40000 slices_S16x50000_S16x10000_0_40000 (byNeighbor (V (ref main_arg3))) := by rw [at4_nbr_ix, at4_nbr, at0_nbr]
theorem at5_arg0 : at5 V (ref main_arg0) = V (ref main_arg0) := (next4_keep _ (r := main_arg0) (by decide) (by decide) (by decide) (by decide) (by decide)).trans ((next3_keep _ (r := main_arg0) (by decide) (by decide) (by decide) (by decide) (by decide) (by decide)).trans ((next2_keep _ (r := main_arg0) (by decide) (by decide) (by decide) (by decide) (by decide) (by decide)).trans ((next1_keep _ (r := main_arg0) (by decide) (by decide) (by decide) (by decide) (by decide) (by decide)).trans ((next0_keep _ (r := main_arg0) (by decide) (by decide) (by decide) (by decide) (by decide) (by decide)).trans (at0_arg0 V)))))
theorem at5_arg1 : at5 V (ref main_arg1) = V (ref main_arg1) := (next4_keep _ (r := main_arg1) (by decide) (by decide) (by decide) (by decide) (by decide)).trans ((next3_keep _ (r := main_arg1) (by decide) (by decide) (by decide) (by decide) (by decide) (by decide)).trans ((next2_keep _ (r := main_arg1) (by decide) (by decide) (by decide) (by decide) (by decide) (by decide)).trans ((next1_keep _ (r := main_arg1) (by decide) (by decide) (by decide) (by decide) (by decide) (by decide)).trans ((next0_keep _ (r := main_arg1) (by decide) (by decide) (by decide) (by decide) (by decide) (by decide)).trans (at0_arg1 V)))))
theorem at5_arg2 : at5 V (ref main_arg2) = V (ref main_arg2) := (next4_keep _ (r := main_arg2) (by decide) (by decide) (by decide) (by decide) (by decide)).trans ((next3_keep _ (r := main_arg2) (by decide) (by decide) (by decide) (by decide) (by decide) (by decide)).trans ((next2_keep _ (r := main_arg2) (by decide) (by decide) (by decide) (by decide) (by decide) (by decide)).trans ((next1_keep _ (r := main_arg2) (by decide) (by decide) (by decide) (by decide) (by decide) (by decide)).trans ((next0_keep _ (r := main_arg2) (by decide) (by decide) (by decide) (by decide) (by decide) (by decide)).trans (at0_arg2 V)))))
theorem at5_arg3 : at5 V (ref main_arg3) = V (ref main_arg3) := (next4_keep _ (r := main_arg3) (by decide) (by decide) (by decide) (by decide) (by decide)).trans ((next3_keep _ (r := main_arg3) (by decide) (by decide) (by decide) (by decide) (by decide) (by decide)).trans ((next2_keep _ (r := main_arg3) (by decide) (by decide) (by decide) (by decide) (by decide) (by decide)).trans ((next1_keep _ (r := main_arg3) (by decide) (by decide) (by decide) (by decide) (by decide) (by decide)).trans ((next0_keep _ (r := main_arg3) (by decide) (by decide) (by decide) (by decide) (by decide) (by decide)).trans (at0_arg3 V)))))
theorem at5_arg4 : at5 V (ref main_arg4) = V (ref main_arg4) := (next4_keep _ (r := main_arg4) (by decide) (by decide) (by decide) (by decide) (by decide)).trans ((next3_keep _ (r := main_arg4) (by decide) (by decide) (by decide) (by decide) (by decide) (by decide)).trans ((next2_keep _ (r := main_arg4) (by decide) (by decide) (by decide) (by decide) (by decide) (by decide)).trans ((next1_keep _ (r := main_arg4) (by decide) (by decide) (by decide) (by decide) (by decide) (by decide)).trans ((next0_keep _ (r := main_arg4) (by decide) (by decide) (by decide) (by decide) (by decide) (by decide)).trans (at0_arg4 V)))))
theorem at5_arg5 : at5 V (ref main_arg5) = V (ref main_arg5) := (next4_keep _ (r := main_arg5) (by decide) (by decide) (by decide) (by decide) (by decide)).trans ((next3_keep _ (r := main_arg5) (by decide) (by decide) (by decide) (by decide) (by decide) (by decide)).trans ((next2_keep _ (r := main_arg5) (by decide) (by decide) (by decide) (by decide) (by decide) (by decide)).trans ((next1_keep _ (r := main_arg5) (by decide) (by decide) (by decide) (by decide) (by decide) (by decide)).trans ((next0_keep _ (r := main_arg5) (by decide) (by decide) (by decide) (by decide) (by decide) (by decide)).trans (at0_arg5 V)))))

/-- A fifth of the result, of the arguments. -/
def fifthOut (off : ℕ) (h : S16x50000.Slices ![0, off] S16x10000) (h' : S50000x16.Slices ![off, 0] S10000x16) (a0 : FVec F S50000x64 .f32) (a1 a2 : FVec F S50000x3 .f32) (a3 : IVec S50000x16 32)
    (a4 : FVec F S15x64x64 .f32) (a5 : FVec F S15x3 .f32) : FVec F S10000x64 .f32 :=
  part off h h' (table a0 a2) (byNeighbor a3) (queries a1) (expand a5) (squares a5) spread (lead a4) (trail a4)

/-- The result, of the arguments. -/
def result (a0 : FVec F S50000x64 .f32) (a1 a2 : FVec F S50000x3 .f32) (a3 : IVec S50000x16 32) (a4 : FVec F S15x64x64 .f32) (a5 : FVec F S15x3 .f32) : FVec F S50000x64 .f32 :=
  concatenate S50000x64 0 [⟨S10000x64, fifthOut 0 slices_S16x50000_S16x10000_0_0 slices_S50000x16_S10000x16_0_0 a0 a1 a2 a3 a4 a5⟩,
    ⟨S10000x64, fifthOut 10000 slices_S16x50000_S16x10000_0_10000 slices_S50000x16_S10000x16_10000_0 a0 a1 a2 a3 a4 a5⟩,
    ⟨S10000x64, fifthOut 20000 slices_S16x50000_S16x10000_0_20000 slices_S50000x16_S10000x16_20000_0 a0 a1 a2 a3 a4 a5⟩,
    ⟨S10000x64, fifthOut 30000 slices_S16x50000_S16x10000_0_30000 slices_S50000x16_S10000x16_30000_0 a0 a1 a2 a3 a4 a5⟩,
    ⟨S10000x64, fifthOut 40000 slices_S16x50000_S16x10000_0_40000 slices_S50000x16_S10000x16_40000_0 a0 a1 a2 a3 a4 a5⟩] concatenates_S10000x64_S10000x64_S10000x64_S10000x64_S10000x64_S50000x64_d0

theorem out0_1 : at1 V (ref main_v44) = fifthOut 0 slices_S16x50000_S16x10000_0_0 slices_S50000x16_S10000x16_0_0 (V (ref main_arg0)) (V (ref main_arg1)) (V (ref main_arg2)) (V (ref main_arg3)) (V (ref main_arg4)) (V (ref main_arg5)) := by
  unfold fifthOut
  refine (next0_out (at0 V) (at0_nbr_ix V)).trans ?_
  rw [at0_nbr, at0_tab, at0_qry, at0_expand, at0_squares, at0_spread, at0_lead, at0_trail]
theorem out0_2 : at2 V (ref main_v44) = fifthOut 0 slices_S16x50000_S16x10000_0_0 slices_S50000x16_S10000x16_0_0 (V (ref main_arg0)) (V (ref main_arg1)) (V (ref main_arg2)) (V (ref main_arg3)) (V (ref main_arg4)) (V (ref main_arg5)) := (next1_keep _ (r := main_v44) (by decide) (by decide) (by decide) (by decide) (by decide) (by decide)).trans (out0_1 V)
theorem out0_3 : at3 V (ref main_v44) = fifthOut 0 slices_S16x50000_S16x10000_0_0 slices_S50000x16_S10000x16_0_0 (V (ref main_arg0)) (V (ref main_arg1)) (V (ref main_arg2)) (V (ref main_arg3)) (V (ref main_arg4)) (V (ref main_arg5)) := (next2_keep _ (r := main_v44) (by decide) (by decide) (by decide) (by decide) (by decide) (by decide)).trans (out0_2 V)
theorem out0_4 : at4 V (ref main_v44) = fifthOut 0 slices_S16x50000_S16x10000_0_0 slices_S50000x16_S10000x16_0_0 (V (ref main_arg0)) (V (ref main_arg1)) (V (ref main_arg2)) (V (ref main_arg3)) (V (ref main_arg4)) (V (ref main_arg5)) := (next3_keep _ (r := main_v44) (by decide) (by decide) (by decide) (by decide) (by decide) (by decide)).trans (out0_3 V)
theorem out1_2 : at2 V (ref main_v50) = fifthOut 10000 slices_S16x50000_S16x10000_0_10000 slices_S50000x16_S10000x16_10000_0 (V (ref main_arg0)) (V (ref main_arg1)) (V (ref main_arg2)) (V (ref main_arg3)) (V (ref main_arg4)) (V (ref main_arg5)) := by
  unfold fifthOut
  refine (next1_out (at1 V) (at1_nbr_ix V)).trans ?_
  rw [at1_nbr, at1_tab, at1_qry, at1_expand, at1_squares, at1_spread, at1_lead, at1_trail, at0_nbr, at0_tab, at0_qry, at0_expand, at0_squares, at0_spread, at0_lead, at0_trail]
theorem out1_3 : at3 V (ref main_v50) = fifthOut 10000 slices_S16x50000_S16x10000_0_10000 slices_S50000x16_S10000x16_10000_0 (V (ref main_arg0)) (V (ref main_arg1)) (V (ref main_arg2)) (V (ref main_arg3)) (V (ref main_arg4)) (V (ref main_arg5)) := (next2_keep _ (r := main_v50) (by decide) (by decide) (by decide) (by decide) (by decide) (by decide)).trans (out1_2 V)
theorem out1_4 : at4 V (ref main_v50) = fifthOut 10000 slices_S16x50000_S16x10000_0_10000 slices_S50000x16_S10000x16_10000_0 (V (ref main_arg0)) (V (ref main_arg1)) (V (ref main_arg2)) (V (ref main_arg3)) (V (ref main_arg4)) (V (ref main_arg5)) := (next3_keep _ (r := main_v50) (by decide) (by decide) (by decide) (by decide) (by decide) (by decide)).trans (out1_3 V)
theorem out2_3 : at3 V (ref main_v56) = fifthOut 20000 slices_S16x50000_S16x10000_0_20000 slices_S50000x16_S10000x16_20000_0 (V (ref main_arg0)) (V (ref main_arg1)) (V (ref main_arg2)) (V (ref main_arg3)) (V (ref main_arg4)) (V (ref main_arg5)) := by
  unfold fifthOut
  refine (next2_out (at2 V) (at2_nbr_ix V)).trans ?_
  rw [at2_nbr, at2_tab, at2_qry, at2_expand, at2_squares, at2_spread, at2_lead, at2_trail, at0_nbr, at0_tab, at0_qry, at0_expand, at0_squares, at0_spread, at0_lead, at0_trail]
theorem out2_4 : at4 V (ref main_v56) = fifthOut 20000 slices_S16x50000_S16x10000_0_20000 slices_S50000x16_S10000x16_20000_0 (V (ref main_arg0)) (V (ref main_arg1)) (V (ref main_arg2)) (V (ref main_arg3)) (V (ref main_arg4)) (V (ref main_arg5)) := (next3_keep _ (r := main_v56) (by decide) (by decide) (by decide) (by decide) (by decide) (by decide)).trans (out2_3 V)
theorem out3_4 : at4 V (ref main_v62) = fifthOut 30000 slices_S16x50000_S16x10000_0_30000 slices_S50000x16_S10000x16_30000_0 (V (ref main_arg0)) (V (ref main_arg1)) (V (ref main_arg2)) (V (ref main_arg3)) (V (ref main_arg4)) (V (ref main_arg5)) := by
  unfold fifthOut
  refine (next3_out (at3 V) (at3_nbr_ix V)).trans ?_
  rw [at3_nbr, at3_tab, at3_qry, at3_expand, at3_squares, at3_spread, at3_lead, at3_trail, at0_nbr, at0_tab, at0_qry, at0_expand, at0_squares, at0_spread, at0_lead, at0_trail]
theorem out4_5 : (Region4.step (F := F)).result (half4 (at4 V)) (ref main_v68) = fifthOut 40000 slices_S16x50000_S16x10000_0_40000 slices_S50000x16_S10000x16_40000_0 (V (ref main_arg0)) (V (ref main_arg1)) (V (ref main_arg2)) (V (ref main_arg3)) (V (ref main_arg4)) (V (ref main_arg5)) := by
  unfold fifthOut
  refine (next4_res (at4 V) (at4_nbr_ix V)).trans ?_
  rw [at4_nbr, at4_tab, at4_qry, at4_expand, at4_squares, at4_spread, at4_lead, at4_trail, at0_nbr, at0_tab, at0_qry, at0_expand, at0_squares, at0_spread, at0_lead, at0_trail]

theorem at5_res : at5 V (ref main_v69) = result (V (ref main_arg0)) (V (ref main_arg1)) (V (ref main_arg2)) (V (ref main_arg3)) (V (ref main_arg4)) (V (ref main_arg5)) := by
  unfold result
  rw [← out0_4, ← out1_4, ← out2_4, ← out3_4, ← out4_5]
  unfold at5 next4 ops5
  simp only [after_cons, after_nil]
  rw [nary_result]
  dsimp only [Matrix.cons_val]
  rw [show (Region4.step (F := F)).result (half4 (at4 V)) (ref main_v44) = at4 V (ref main_v44) from (Region4.step_ne _ (by decide)).trans (half4_keep _ (by decide) (by decide) (by decide))]
  rw [show (Region4.step (F := F)).result (half4 (at4 V)) (ref main_v50) = at4 V (ref main_v50) from (Region4.step_ne _ (by decide)).trans (half4_keep _ (by decide) (by decide) (by decide))]
  rw [show (Region4.step (F := F)).result (half4 (at4 V)) (ref main_v56) = at4 V (ref main_v56) from (Region4.step_ne _ (by decide)).trans (half4_keep _ (by decide) (by decide) (by decide))]
  rw [show (Region4.step (F := F)).result (half4 (at4 V)) (ref main_v62) = at4 V (ref main_v62) from (Region4.step_ne _ (by decide)).trans (half4_keep _ (by decide) (by decide) (by decide))]

end Cert.Proof.Host

end
-- ==== Proof.Run.lean ====
/- The whole program: the TensorCore's operations and the ten calls between them. The buffers end as `Host.at5` says. -/
module

public import proofs.«01_k».proof.Proof.Host

@[expose] public section

noncomputable section

namespace Cert.Proof.Run

open Cert.KernelIdeal Cert.KernelIdeal.Gen
open Cert.Proof.Launch Cert.Proof.Host Cert.Proof.Stage

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo

variable {F : FTy → Type} [FloatOps F] [∀ e, Nonempty (Elt F e)]

local notation "𝕄" => MT nD τ sig (HIx 5) (Elt F) ℕ UU ℕ

variable (m : (ℓ : Loc nD τ sig) → Buf (Elt F) ℓ) (ρ : Dev nD → PrngReg)

/-- The buffers on device `d` at the start. -/
abbrev V (d : Dev nD) : Valuation τ sig (Elt F) := launchContents m d

/-- Every neighbor index is a row number of the table. -/
def InRange : Prop := ∀ (d : Dev nD) (x : S50000x16.Idx), BitVec.toNat (V m d (ref main_arg3) x : BitVec 32) < 50000

theorem fifth_lt (off : ℕ) (h : S16x50000.Slices ![0, off] S16x10000) (a2 : IVec S50000x16 32) (ha : ∀ x, (a2 x).toNat < 50000) (x : S1x160000.Idx) :
    (fifth off h (byNeighbor a2) x).toNat < 50000 := by
  unfold fifth byNeighbor shapeCast extractStridedSlice transpose
  exact ha _

variable (hm : InRange m)

include hm in
theorem in0 (d : Dev nD) : Tiles0.InRange (at0 (V m d)) := fun x => by rw [at0_ix]; exact fifth_lt _ _ _ (hm d) x
include hm in
theorem in1 (d : Dev nD) : Tiles1.InRange (at1 (V m d)) := fun x => by rw [at1_ix]; exact fifth_lt _ _ _ (hm d) x
include hm in
theorem in2 (d : Dev nD) : Tiles2.InRange (at2 (V m d)) := fun x => by rw [at2_ix]; exact fifth_lt _ _ _ (hm d) x
include hm in
theorem in3 (d : Dev nD) : Tiles3.InRange (at3 (V m d)) := fun x => by rw [at3_ix]; exact fifth_lt _ _ _ (hm d) x
include hm in
theorem in4 (d : Dev nD) : Tiles4.InRange (at4 (V m d)) := fun x => by rw [at4_ix]; exact fifth_lt _ _ _ (hm d) x

/-! ## What the handshakes carry -/

def P : (K (F := F)).Pay (nD := nD) (Val := Elt F) (Name := ℕ) (U := UU) where
  st := fun q d c => match q with
    | 0 => Tiles0.hands (at0 (V m d)) (in0 m hm d) d c (at0 (V m d) (ref main_v41))
    | 1 => Tiles1.hands (at1 (V m d)) (in1 m hm d) d c (at1 (V m d) (ref main_v47))
    | 2 => Tiles2.hands (at2 (V m d)) (in2 m hm d) d c (at2 (V m d) (ref main_v53))
    | 3 => Tiles3.hands (at3 (V m d)) (in3 m hm d) d c (at3 (V m d) (ref main_v59))
    | 4 => Tiles4.hands (at4 (V m d)) (in4 m hm d) d c (at4 (V m d) (ref main_v65))
  dn := fun q d c => match q with
    | 0 => Tiles0.hands (at0 (V m d)) (in0 m hm d) d c (Tiles0.rows (at0 (V m d)))
    | 1 => Tiles1.hands (at1 (V m d)) (in1 m hm d) d c (Tiles1.rows (at1 (V m d)))
    | 2 => Tiles2.hands (at2 (V m d)) (in2 m hm d) d c (Tiles2.rows (at2 (V m d)))
    | 3 => Tiles3.hands (at3 (V m d)) (in3 m hm d) d c (Tiles3.rows (at3 (V m d)))
    | 4 => Tiles4.hands (at4 (V m d)) (in4 m hm d) d c (Tiles4.rows (at4 (V m d)))
  go := fun q d c i => match q with
    | 0 => Tiles0.hand (at0 (V m d)) (in0 m hm d) d (Tiles0.co (F := F) c i) (at0 (V m d) (ref main_v41))
    | 1 => Tiles1.hand (at1 (V m d)) (in1 m hm d) d (Tiles1.co (F := F) c i) (at1 (V m d) (ref main_v47))
    | 2 => Tiles2.hand (at2 (V m d)) (in2 m hm d) d (Tiles2.co (F := F) c i) (at2 (V m d) (ref main_v53))
    | 3 => Tiles3.hand (at3 (V m d)) (in3 m hm d) d (Tiles3.co (F := F) c i) (at3 (V m d) (ref main_v59))
    | 4 => Tiles4.hand (at4 (V m d)) (in4 m hm d) d (Tiles4.co (F := F) c i) (at4 (V m d) (ref main_v65))
  td := fun q d c i => match q with
    | 0 => Tiles0.hand (at0 (V m d)) (in0 m hm d) d (Tiles0.co (F := F) c i) (Tiles0.rows (at0 (V m d)))
    | 1 => Tiles1.hand (at1 (V m d)) (in1 m hm d) d (Tiles1.co (F := F) c i) (Tiles1.rows (at1 (V m d)))
    | 2 => Tiles2.hand (at2 (V m d)) (in2 m hm d) d (Tiles2.co (F := F) c i) (Tiles2.rows (at2 (V m d)))
    | 3 => Tiles3.hand (at3 (V m d)) (in3 m hm d) d (Tiles3.co (F := F) c i) (Tiles3.rows (at3 (V m d)))
    | 4 => Tiles4.hand (at4 (V m d)) (in4 m hm d) d (Tiles4.co (F := F) c i) (Tiles4.rows (at4 (V m d)))
  x := fun _ _ => iprop(emp)

instance P_storable : (P (F := F) m hm).IsStorable where
  st q d c := match q with
    | 0 => Tiles0.hands_storable (at0 (V m d)) (in0 m hm d) d c (at0 (V m d) (ref main_v41))
    | 1 => Tiles1.hands_storable (at1 (V m d)) (in1 m hm d) d c (at1 (V m d) (ref main_v47))
    | 2 => Tiles2.hands_storable (at2 (V m d)) (in2 m hm d) d c (at2 (V m d) (ref main_v53))
    | 3 => Tiles3.hands_storable (at3 (V m d)) (in3 m hm d) d c (at3 (V m d) (ref main_v59))
    | 4 => Tiles4.hands_storable (at4 (V m d)) (in4 m hm d) d c (at4 (V m d) (ref main_v65))
  dn q d c := match q with
    | 0 => Tiles0.hands_storable (at0 (V m d)) (in0 m hm d) d c (Tiles0.rows (at0 (V m d)))
    | 1 => Tiles1.hands_storable (at1 (V m d)) (in1 m hm d) d c (Tiles1.rows (at1 (V m d)))
    | 2 => Tiles2.hands_storable (at2 (V m d)) (in2 m hm d) d c (Tiles2.rows (at2 (V m d)))
    | 3 => Tiles3.hands_storable (at3 (V m d)) (in3 m hm d) d c (Tiles3.rows (at3 (V m d)))
    | 4 => Tiles4.hands_storable (at4 (V m d)) (in4 m hm d) d c (Tiles4.rows (at4 (V m d)))
  go q d c i := match q with
    | 0 => Tiles0.hand_storable (at0 (V m d)) (in0 m hm d) d (Tiles0.co (F := F) c i) (at0 (V m d) (ref main_v41))
    | 1 => Tiles1.hand_storable (at1 (V m d)) (in1 m hm d) d (Tiles1.co (F := F) c i) (at1 (V m d) (ref main_v47))
    | 2 => Tiles2.hand_storable (at2 (V m d)) (in2 m hm d) d (Tiles2.co (F := F) c i) (at2 (V m d) (ref main_v53))
    | 3 => Tiles3.hand_storable (at3 (V m d)) (in3 m hm d) d (Tiles3.co (F := F) c i) (at3 (V m d) (ref main_v59))
    | 4 => Tiles4.hand_storable (at4 (V m d)) (in4 m hm d) d (Tiles4.co (F := F) c i) (at4 (V m d) (ref main_v65))
  td q d c i := match q with
    | 0 => Tiles0.hand_storable (at0 (V m d)) (in0 m hm d) d (Tiles0.co (F := F) c i) (Tiles0.rows (at0 (V m d)))
    | 1 => Tiles1.hand_storable (at1 (V m d)) (in1 m hm d) d (Tiles1.co (F := F) c i) (Tiles1.rows (at1 (V m d)))
    | 2 => Tiles2.hand_storable (at2 (V m d)) (in2 m hm d) d (Tiles2.co (F := F) c i) (Tiles2.rows (at2 (V m d)))
    | 3 => Tiles3.hand_storable (at3 (V m d)) (in3 m hm d) d (Tiles3.co (F := F) c i) (Tiles3.rows (at3 (V m d)))
    | 4 => Tiles4.hand_storable (at4 (V m d)) (in4 m hm d) d (Tiles4.co (F := F) c i) (Tiles4.rows (at4 (V m d)))

theorem tileObl (q : Fin 5) : (K (F := F)).TileObl (D (F := F)) 𝒱 (P m hm) v₀ q := by
  intro d c i O W hO _ _
  simp only [show (P m hm).ox = fun _ _ => 0 from rfl, add_zero]
  match q with
  | 0 => exact Tiles0.tile_ends (at0 (V m d)) (in0 m hm d) d c i (at0 (V m d) (ref main_v41)) O W hO _
  | 1 => exact Tiles1.tile_ends (at1 (V m d)) (in1 m hm d) d c i (at1 (V m d) (ref main_v47)) O W hO _
  | 2 => exact Tiles2.tile_ends (at2 (V m d)) (in2 m hm d) d c i (at2 (V m d) (ref main_v53)) O W hO _
  | 3 => exact Tiles3.tile_ends (at3 (V m d)) (in3 m hm d) d c i (at3 (V m d) (ref main_v59)) O W hO _
  | 4 => exact Tiles4.tile_ends (at4 (V m d)) (in4 m hm d) d c i (at4 (V m d) (ref main_v65)) O W hO _

/-- A core hands on to its tiles what it was handed, and back what they hand back. -/
theorem vecSplit (q : Fin 5) : (K (F := F)).VecSplit' (P m hm) q := by
  intro d c
  match q with
  | 0 =>
    show Tiles0.hands (at0 (V m d)) (in0 m hm d) d c (at0 (V m d) (ref main_v41)) ⊢ |={Set.univ}=> iprop(Tiles0.hands (at0 (V m d)) (in0 m hm d) d c (at0 (V m d) (ref main_v41))
      ∗ (Tiles0.hands (at0 (V m d)) (in0 m hm d) d c (Tiles0.rows (at0 (V m d))) -∗ Tiles0.hands (at0 (V m d)) (in0 m hm d) d c (Tiles0.rows (at0 (V m d)))))
    iintro H; imodintro
    isplitl [H]; · iexact H
    iintro H; iexact H
  | 1 =>
    show Tiles1.hands (at1 (V m d)) (in1 m hm d) d c (at1 (V m d) (ref main_v47)) ⊢ |={Set.univ}=> iprop(Tiles1.hands (at1 (V m d)) (in1 m hm d) d c (at1 (V m d) (ref main_v47))
      ∗ (Tiles1.hands (at1 (V m d)) (in1 m hm d) d c (Tiles1.rows (at1 (V m d))) -∗ Tiles1.hands (at1 (V m d)) (in1 m hm d) d c (Tiles1.rows (at1 (V m d)))))
    iintro H; imodintro
    isplitl [H]; · iexact H
    iintro H; iexact H
  | 2 =>
    show Tiles2.hands (at2 (V m d)) (in2 m hm d) d c (at2 (V m d) (ref main_v53)) ⊢ |={Set.univ}=> iprop(Tiles2.hands (at2 (V m d)) (in2 m hm d) d c (at2 (V m d) (ref main_v53))
      ∗ (Tiles2.hands (at2 (V m d)) (in2 m hm d) d c (Tiles2.rows (at2 (V m d))) -∗ Tiles2.hands (at2 (V m d)) (in2 m hm d) d c (Tiles2.rows (at2 (V m d)))))
    iintro H; imodintro
    isplitl [H]; · iexact H
    iintro H; iexact H
  | 3 =>
    show Tiles3.hands (at3 (V m d)) (in3 m hm d) d c (at3 (V m d) (ref main_v59)) ⊢ |={Set.univ}=> iprop(Tiles3.hands (at3 (V m d)) (in3 m hm d) d c (at3 (V m d) (ref main_v59))
      ∗ (Tiles3.hands (at3 (V m d)) (in3 m hm d) d c (Tiles3.rows (at3 (V m d))) -∗ Tiles3.hands (at3 (V m d)) (in3 m hm d) d c (Tiles3.rows (at3 (V m d)))))
    iintro H; imodintro
    isplitl [H]; · iexact H
    iintro H; iexact H
  | 4 =>
    show Tiles4.hands (at4 (V m d)) (in4 m hm d) d c (at4 (V m d) (ref main_v65)) ⊢ |={Set.univ}=> iprop(Tiles4.hands (at4 (V m d)) (in4 m hm d) d c (at4 (V m d) (ref main_v65))
      ∗ (Tiles4.hands (at4 (V m d)) (in4 m hm d) d c (Tiles4.rows (at4 (V m d))) -∗ Tiles4.hands (at4 (V m d)) (in4 m hm d) d c (Tiles4.rows (at4 (V m d)))))
    iintro H; imodintro
    isplitl [H]; · iexact H
    iintro H; iexact H

/-- The pipelines' ghost state on device `d`, pipeline by pipeline. -/
abbrev pend (d : Dev nD) : sProp 𝕄 := bigSep Finset.univ fun p : Fin 5 => iprop(Pipeline.cellsGhost (Pipeline.pin (pcfgs (F := F)) adm) EP p d ∗ Pipeline.toksInit (Pipeline.pin (pcfgs (F := F)) adm) EP p d)

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem fund : (BI.own (embR ((initOf (Pipeline.cells (Pipeline.pin (pcfgs (F := F)) adm) cellOf_inj) (Pipeline.launchToks (Pipeline.pin (pcfgs (F := F)) adm) cellOf_inj), (1 : Counters)) :
      URounds (GSem nD τ sig) Unit × Counters)) : sProp 𝕄)
    ⊢ |==> ((bigSep Finset.univ fun c : Dev nD => bigSep Finset.univ fun p => Pipeline.cellsGhost (Pipeline.pin (pcfgs (F := F)) adm) EP p c)
        ∗ (bigSep Finset.univ fun c : Dev nD => bigSep Finset.univ fun p => Pipeline.toksInit (Pipeline.pin (pcfgs (F := F)) adm) EP p c)) :=
  Pipeline.fund_ghost (Pipeline.pin (pcfgs (F := F)) adm) EP cellOf_inj

theorem no_parts {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => pend d)
        ∗ bigSep Finset.univ fun thr : Thread nD τ => bigSep Finset.univ fun q : Fin 5 => (P m hm).x q thr) := by
  unfold u₀
  iintro Hu
  ihave H := (ownU_pair (initOf (K (F := F)).hsCells (K (F := F)).hsToks)
    ((initOf (Pipeline.cells (Pipeline.pin (pcfgs (F := F)) adm) cellOf_inj) (Pipeline.launchToks (Pipeline.pin (pcfgs (F := F)) adm) cellOf_inj), (1 : Counters)))) $$ Hu
  icases H with ⟨HH, HP⟩
  imod (fund (F := F)) $$ HP with ⟨Hc, Ht⟩
  imodintro
  isplitl [HH]; · iexact HH
  isplitl [Hc Ht]
  · rw [show (bigSep Finset.univ fun d : Dev nD => (pend d : sProp 𝕄)) = bigSep Finset.univ fun d : Dev nD =>
        iprop((bigSep Finset.univ fun p => Pipeline.cellsGhost (Pipeline.pin (pcfgs (F := F)) adm) EP p d) ∗ (bigSep Finset.univ fun p => Pipeline.toksInit (Pipeline.pin (pcfgs (F := F)) adm) EP p d)) from
      bigSep_congr fun _ _ => bigSep_sep' .., bigSep_sep']
    isplitl [Hc] <;> iassumption
  rw [show (bigSep Finset.univ fun thr : Thread nD τ => bigSep Finset.univ fun q : Fin 5 => (P (F := F) m hm).x q thr) = bigSep Finset.univ fun _ => iprop(emp) from
    bigSep_congr fun _ _ => no_parts _, no_parts]
  iempintro

/-! ## The program on the TensorCore -/

section Steps
variable (κ : GSem nD τ sig → ℕ) (d : Dev nD)

abbrev wpM (p : Prog (TpuEff nD τ sig (Elt F) (SparseCore.Sig (ΛP (F := F)) 5) .tc) PUnit) (Φ : PUnit → sProp 𝕄) : sProp 𝕄 :=
  wp frame (wpE ((K (F := F)).defs (D (F := F))) 𝒱 (SparseCore.T d) none) Set.univ p Φ

/-- Call `q` and the operations after it. -/
theorem call_ops (q : Fin 5) (W W' : Valuation τ sig (Elt F))
    (h : (held (SparseCore.T d) (Pipeline.ucRefs τ sig) W : sProp 𝕄)
      ⊢ iprop((bigSep Finset.univ fun c : Fin ((K (F := F)).nCore q) => (P m hm).st q d c)
        ∗ ((bigSep Finset.univ fun c : Fin ((K (F := F)).nCore q) => (P m hm).dn q d c) -∗ held (SparseCore.T d) (Pipeline.ucRefs τ sig) W')))
    (ops : List (HloOp τ sig (Elt F))) (hS : ∀ op ∈ ops, op.bufs ⊆ Pipeline.ucRefs τ sig) (hf : ∀ op ∈ ops, op.fresh = ∅)
    (k : Prog (TpuEff nD τ sig (Elt F) (SparseCore.Sig (ΛP (F := F)) 5) .tc) PUnit) (Φ : PUnit → sProp 𝕄) :
    iprop((K (F := F)).ctx EH (P m hm) κ ∗ (K (F := F)).tcSt EH d q.val ∗ boundary (SparseCore.T d) ∗ held (SparseCore.T d) (Pipeline.ucRefs τ sig) W
        ∗ (((K (F := F)).tcSt EH d (q.val + 1) ∗ boundary (SparseCore.T d) ∗ held (SparseCore.T d) (Pipeline.ucRefs τ sig) (after ops W')) -∗ wpM d k Φ))
      ⊢ wpM d ((K (F := F)).run d q >>= fun _ => seq ops >>= fun _ => k) Φ := by
  unfold wpM
  rw [wp_bind]
  iintro ⟨#Hctx, Hst, Hb, Hh, Hk⟩
  ihave Hh' := h $$ Hh
  icases Hh' with ⟨Hs, Hback⟩
  iapply ((K (F := F)).wp_run (D (F := F)) 𝒱 (EH := EH) (P := P m hm) κ d q) $$ [Hst Hs Hback Hb Hk]
  isplitr; · iexact Hctx
  isplitl [Hst]; · iexact Hst
  isplitl [Hs]; · iexact Hs
  iintro ⟨Hst, Hdn⟩
  ihave Hh := Hback $$ Hdn
  iapply (wp_seq 𝒱 none Set.univ d (Pipeline.ucRefs τ sig) (fun _ => k) ops hS hf W') $$ [Hb Hh]
  · isplitl [Hb] <;> iassumption
  iintro ⟨Hb, Hh⟩
  iapply Hk
  isplitl [Hst]; · iexact Hst
  isplitl [Hb] <;> iassumption

/-- The TensorCore's call `p` and the operations after it. -/
theorem region_ops (p : Fin 5) (n : ℕ) (W W' : Valuation τ sig (Elt F))
    (h : ∀ (k : PUnit → Prog (TpuEff nD τ sig (Elt F) (ΛP (F := F)) .tc) PUnit) (Q : PUnit → sProp 𝕄),
      iprop((iprop(boundary (SparseCore.T d) ∗ unscopedBufs d (fun b => W' (ref b)) ∗ ∃ X, ⌜(K (F := F)).WBelow (SparseCore.T d) X (8 * n)⌝ ∗ owes (SparseCore.T d) ((K (F := F)).Otc d n) X)
          -∗ wp frame (wpE (D (F := F)) 𝒱 (SparseCore.T d) none) Set.univ (k ⟨⟩) Q)
        ∗ boundary (SparseCore.T d)
        ∗ iprop(unscopedBufs d (fun b => W (ref b)) ∗ ∃ X, ⌜(K (F := F)).WBelow (SparseCore.T d) X (8 * n)⌝ ∗ owes (SparseCore.T d) ((K (F := F)).Otc d n) X)
        ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE (D (F := F)) 𝒱 (SparseCore.T d) none) Set.univ (.op (.customCall (Pipeline.entry p) ()) k) Q)
    (ops : List (HloOp τ sig (Elt F))) (hS : ∀ op ∈ ops, op.bufs ⊆ Pipeline.ucRefs τ sig) (hf : ∀ op ∈ ops, op.fresh = ∅)
    (k : Prog (TpuEff nD τ sig (Elt F) (SparseCore.Sig (ΛP (F := F)) 5) .tc) PUnit) (Φ : PUnit → sProp 𝕄) :
    iprop((K (F := F)).ctx EH (P m hm) κ ∗ (K (F := F)).tcSt EH d n ∗ boundary (SparseCore.T d) ∗ held (SparseCore.T d) (Pipeline.ucRefs τ sig) W
        ∗ iprop(Pipeline.cellsGhost (Pipeline.pin (pcfgs (F := F)) adm) EP p d ∗ Pipeline.toksInit (Pipeline.pin (pcfgs (F := F)) adm) EP p d)
        ∗ (((K (F := F)).tcSt EH d n ∗ boundary (SparseCore.T d) ∗ held (SparseCore.T d) (Pipeline.ucRefs τ sig) (after ops W')) -∗ wpM d k Φ))
      ⊢ wpM d (Prog.lift (.customCall (SparseCore.inner (Pipeline.entry p)) ()) >>= fun _ => seq ops >>= fun _ => k) Φ := by
  unfold wpM
  rw [wp_bind, ← Pipeline.unscopedBufs_held d W]
  unfold SparseCore.Cfg.tcSt
  iintro ⟨#Hctx, ⟨HO, Hst⟩, Hb, Hh, ⟨HC, HT⟩, Hk⟩
  ihave #Hlev := ((K (F := F)).ctx_levAts κ) $$ Hctx
  iapply ((K (F := F)).wp_liftProg (D (F := F)) 𝒱 (SparseCore.T d) Set.univ none (.op (.customCall (Pipeline.entry p) ()) .ret) _) $$ [HO Hst Hb Hh HC HT Hk]
  iapply (h .ret _) $$ [HO Hst Hb Hh HC HT Hk]
  isplitr [HO Hb Hh HC HT]
  · iintro ⟨Hb, Hh, HO⟩
    rw [wp_ret]
    imodintro
    ihave Hh := (show (unscopedBufs d (fun b => W' (ref b)) : sProp 𝕄) ⊢ held (SparseCore.T d) (Pipeline.ucRefs τ sig) W' from Entails.of_eq (Pipeline.unscopedBufs_held d W')) $$ Hh
    iapply (wp_seq 𝒱 none Set.univ d (Pipeline.ucRefs τ sig) (fun _ => k) ops hS hf W') $$ [Hb Hh]
    · isplitl [Hb] <;> iassumption
    iintro ⟨Hb, Hh⟩
    iapply Hk
    isplitl [HO Hst]
    · isplitl [HO] <;> iassumption
    isplitl [Hb] <;> iassumption
  isplitl [Hb]; · iexact Hb
  isplitl [Hh HO]
  · isplitl [Hh] <;> iassumption
  isplitr; · iexact Hlev
  isplitl [HC] <;> iassumption

end Steps

abbrev FIN (d : Dev nD) : sProp 𝕄 := held (SparseCore.T d) (Pipeline.ucRefs τ sig) (at5 (V m d))

theorem five (Φ : Fin 5 → sProp 𝕄) : bigSep Finset.univ Φ ⊢ iprop(Φ 0 ∗ Φ 1 ∗ Φ 2 ∗ Φ 3 ∗ Φ 4) := by
  rw [show (Finset.univ : Finset (Fin 5)) = insert 0 (insert 1 (insert 2 (insert 3 {4}))) from by decide,
    bigSep_insert (by decide), bigSep_insert (by decide), bigSep_insert (by decide), bigSep_insert (by decide), bigSep_singleton]
  exact BI.Entails.refl _

theorem hmain (κ : GSem nD τ sig → ℕ) (d : Dev nD) :
    iprop((K (F := F)).ctx EH (P m hm) κ ∗ (K (F := F)).tcSt EH d 0 ∗ (K (F := F)).tcRes m ρ d ∗ pend d)
      ⊢ wp frame (wpE ((K (F := F)).defs (D (F := F))) 𝒱 (SparseCore.T d) none) Set.univ (main d)
          fun _ => iprop((K (F := F)).tcSt EH d 5 ∗ FIN m d ∗ (K (F := F)).tcEnd d) := by
  unfold SparseCore.Cfg.tcRes SparseCore.Cfg.tcEnd
  rw [main_eq, show (unscopedBufs d fun b => m ((SparseCore.T d).loc b) : sProp 𝕄) = held (SparseCore.T d) (Pipeline.ucRefs τ sig) (V m d) from
    Pipeline.unscopedBufs_held d (V m d)]
  iintro ⟨#Hctx, Hst, ⟨Hb, Hh, Hts, -⟩, HP⟩
  ihave HP5 := (five _) $$ HP
  icases HP5 with ⟨P0, P1, P2, P3, P4⟩
  iapply (wp_seq 𝒱 none Set.univ d (Pipeline.ucRefs τ sig) _ ops0 ops0_sub ops0_fresh (V m d)) $$ [Hb Hh]
  · isplitl [Hb] <;> iassumption
  iintro ⟨Hb, Hh⟩
  iapply (call_ops m hm κ d 0 (at0 (V m d)) ((Tiles0.step (F := F)).result (at0 (V m d))) (Tiles0.around (at0 (V m d)) (in0 m hm d) d) mid0 mid0_sub mid0_fresh _ _) $$ [Hst Hb Hh Hts P0 P1 P2 P3 P4]
  isplitr; · iexact Hctx
  isplitl [Hst]; · iexact Hst
  isplitl [Hb]; · iexact Hb
  isplitl [Hh]; · iexact Hh
  iintro ⟨Hst, Hb, Hh⟩
  iapply (region_ops m hm κ d 0 1 (half0 (at0 (V m d))) ((Region0.step (F := F)).result (half0 (at0 (V m d)))) (Region0.call (half0 (at0 (V m d))) 1 d) ops1 ops1_sub ops1_fresh _ _) $$ [Hst Hb Hh Hts P0 P1 P2 P3 P4]
  isplitr; · iexact Hctx
  isplitl [Hst]; · iexact Hst
  isplitl [Hb]; · iexact Hb
  isplitl [Hh]; · iexact Hh
  isplitl [P0]; · iexact P0
  iintro ⟨Hst, Hb, Hh⟩
  iapply (call_ops m hm κ d 1 (at1 (V m d)) ((Tiles1.step (F := F)).result (at1 (V m d))) (Tiles1.around (at1 (V m d)) (in1 m hm d) d) mid1 mid1_sub mid1_fresh _ _) $$ [Hst Hb Hh Hts P1 P2 P3 P4]
  isplitr; · iexact Hctx
  isplitl [Hst]; · iexact Hst
  isplitl [Hb]; · iexact Hb
  isplitl [Hh]; · iexact Hh
  iintro ⟨Hst, Hb, Hh⟩
  iapply (region_ops m hm κ d 1 2 (half1 (at1 (V m d))) ((Region1.step (F := F)).result (half1 (at1 (V m d)))) (Region1.call (half1 (at1 (V m d))) 2 d) ops2 ops2_sub ops2_fresh _ _) $$ [Hst Hb Hh Hts P1 P2 P3 P4]
  isplitr; · iexact Hctx
  isplitl [Hst]; · iexact Hst
  isplitl [Hb]; · iexact Hb
  isplitl [Hh]; · iexact Hh
  isplitl [P1]; · iexact P1
  iintro ⟨Hst, Hb, Hh⟩
  iapply (call_ops m hm κ d 2 (at2 (V m d)) ((Tiles2.step (F := F)).result (at2 (V m d))) (Tiles2.around (at2 (V m d)) (in2 m hm d) d) mid2 mid2_sub mid2_fresh _ _) $$ [Hst Hb Hh Hts P2 P3 P4]
  isplitr; · iexact Hctx
  isplitl [Hst]; · iexact Hst
  isplitl [Hb]; · iexact Hb
  isplitl [Hh]; · iexact Hh
  iintro ⟨Hst, Hb, Hh⟩
  iapply (region_ops m hm κ d 2 3 (half2 (at2 (V m d))) ((Region2.step (F := F)).result (half2 (at2 (V m d)))) (Region2.call (half2 (at2 (V m d))) 3 d) ops3 ops3_sub ops3_fresh _ _) $$ [Hst Hb Hh Hts P2 P3 P4]
  isplitr; · iexact Hctx
  isplitl [Hst]; · iexact Hst
  isplitl [Hb]; · iexact Hb
  isplitl [Hh]; · iexact Hh
  isplitl [P2]; · iexact P2
  iintro ⟨Hst, Hb, Hh⟩
  iapply (call_ops m hm κ d 3 (at3 (V m d)) ((Tiles3.step (F := F)).result (at3 (V m d))) (Tiles3.around (at3 (V m d)) (in3 m hm d) d) mid3 mid3_sub mid3_fresh _ _) $$ [Hst Hb Hh Hts P3 P4]
  isplitr; · iexact Hctx
  isplitl [Hst]; · iexact Hst
  isplitl [Hb]; · iexact Hb
  isplitl [Hh]; · iexact Hh
  iintro ⟨Hst, Hb, Hh⟩
  iapply (region_ops m hm κ d 3 4 (half3 (at3 (V m d))) ((Region3.step (F := F)).result (half3 (at3 (V m d)))) (Region3.call (half3 (at3 (V m d))) 4 d) ops4 ops4_sub ops4_fresh _ _) $$ [Hst Hb Hh Hts P3 P4]
  isplitr; · iexact Hctx
  isplitl [Hst]; · iexact Hst
  isplitl [Hb]; · iexact Hb
  isplitl [Hh]; · iexact Hh
  isplitl [P3]; · iexact P3
  iintro ⟨Hst, Hb, Hh⟩
  iapply (call_ops m hm κ d 4 (at4 (V m d)) ((Tiles4.step (F := F)).result (at4 (V m d))) (Tiles4.around (at4 (V m d)) (in4 m hm d) d) mid4 mid4_sub mid4_fresh _ _) $$ [Hst Hb Hh Hts P4]
  isplitr; · iexact Hctx
  isplitl [Hst]; · iexact Hst
  isplitl [Hb]; · iexact Hb
  isplitl [Hh]; · iexact Hh
  iintro ⟨Hst, Hb, Hh⟩
  iapply (region_ops m hm κ d 4 5 (half4 (at4 (V m d))) ((Region4.step (F := F)).result (half4 (at4 (V m d)))) (Region4.call (half4 (at4 (V m d))) 5 d) ops5 ops5_sub ops5_fresh _ _) $$ [Hst Hb Hh Hts P4]
  isplitr; · iexact Hctx
  isplitl [Hst]; · iexact Hst
  isplitl [Hb]; · iexact Hb
  isplitl [Hh]; · iexact Hh
  isplitl [P4]; · iexact P4
  iintro ⟨Hst, Hb, Hh⟩
  unfold wpM
  rw [wp_pure]
  imodintro
  isplitl [Hst]; · iexact Hst
  isplitl [Hh]; · iexact Hh
  isplitl [Hb] <;> iassumption

def fq (d : Dev nD) (s' : Phys nD τ sig (Elt F)) : Prop := ∀ b ∈ Pipeline.ucRefs τ sig, s'.mem.mem (d, b) = at5 (V m d) b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (Pipeline.ucRefs τ sig)) $$ [HSI H]
  · isplitl [HSI]; · iexact HSI
    iexact H
  ipureintro
  exact h

def QC : PUnit × MemSt nD τ sig (Elt F) → Prop := fun r =>
  (∀ (d : Dev nD) (b : Ref sig .tc), ref b ∈ Pipeline.ucRefs τ sig → r.2.mem ((d.tc : Thread nD τ).loc b) = at5 (V m d) (ref b)) ∧ r.2.sem = fun _ => 0

include hm in
/-- The program ends, its buffers as `Host.at5` says and every semaphore back at zero. -/
theorem run_main :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m hm) (A := ∅) facts v₀
    (fun q hq => match q with | 0 => nomatch hq | 1 => nomatch hq | 2 => nomatch hq | 3 => nomatch hq | 4 => nomatch hq)
    (fun q _ => tileObl m hm q)
    (fun q _ => SparseCore.Cfg.VecSplit.of_plain (vecSplit m hm q))
    m ρ main (fun d => pend d) (FIN m) (u₀ (F := F)) (sep_elim_left.trans (hu₀ m hm)) (hmain m ρ hm) (fq m) (hfin m) (QC m)
    (fun _ h hz => ⟨fun d b hb => h d _ hb, hz⟩)

/-- The program's result and arguments at its end. -/
def Ends (r : PUnit × MemSt nD τ sig (Elt F)) (d : Dev nD) : Prop :=
  r.2.mem ((d.tc : Thread nD τ).loc main_v69) = result (V m d (ref main_arg0)) (V m d (ref main_arg1)) (V m d (ref main_arg2)) (V m d (ref main_arg3)) (V m d (ref main_arg4)) (V m d (ref main_arg5))
  ∧ r.2.mem ((d.tc : Thread nD τ).loc main_arg0) = m ((d.tc : Thread nD τ).loc main_arg0)
  ∧ r.2.mem ((d.tc : Thread nD τ).loc main_arg1) = m ((d.tc : Thread nD τ).loc main_arg1)
  ∧ r.2.mem ((d.tc : Thread nD τ).loc main_arg2) = m ((d.tc : Thread nD τ).loc main_arg2)
  ∧ r.2.mem ((d.tc : Thread nD τ).loc main_arg3) = m ((d.tc : Thread nD τ).loc main_arg3)
  ∧ r.2.mem ((d.tc : Thread nD τ).loc main_arg4) = m ((d.tc : Thread nD τ).loc main_arg4)
  ∧ r.2.mem ((d.tc : Thread nD τ).loc main_arg5) = m ((d.tc : Thread nD τ).loc main_arg5)

theorem ends_of (r : PUnit × MemSt nD τ sig (Elt F)) (h : QC m r) (d : Dev nD) : Ends m r d :=
  ⟨(h.1 d main_v69 (by decide)).trans (at5_res (V m d)), (h.1 d main_arg0 (by decide)).trans (at5_arg0 (V m d)), (h.1 d main_arg1 (by decide)).trans (at5_arg1 (V m d)), (h.1 d main_arg2 (by decide)).trans (at5_arg2 (V m d)), (h.1 d main_arg3 (by decide)).trans (at5_arg3 (V m d)), (h.1 d main_arg4 (by decide)).trans (at5_arg4 (V m d)), (h.1 d main_arg5 (by decide)).trans (at5_arg5 (V m d))⟩

end Cert.Proof.Run

end
-- ==== Proof.Reals.lean ====
/- The convolution in real numbers, and the real numbers among the extended ones. -/
module

public import Idealize.ShloMosaic.Lib.ValueIdx
public import Idealize.ShloMosaic.PureOps.Ideal.Laws

@[expose] public section

noncomputable section

namespace Cert.Proof.Reals

open Idealize.ShloMosaic
open scoped BigOperators

/-! ## Real numbers among the extended ones -/

/-- A finite sum of real numbers is the sum of them as extended ones. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) := EReal.coe_strictMono.monotone.map_max

/-- Zero's bits. -/
theorem ofBits_zero : Ideal.ofBits .f32 0x00000000#32 = ((0 : ℝ) : EReal) := by simp [Ideal.ofBits, Ideal.ieee]
/-- One's bits. -/
theorem ofBits_one : Ideal.ofBits .f32 0x3F800000#32 = ((1 : ℝ) : EReal) := by
  simp [Ideal.ofBits, Ideal.ieee]
  rw [← EReal.coe_mul]; norm_num
/-- One half's bits. -/
theorem ofBits_half : Ideal.ofBits .f32 0x3F000000#32 = ((1 / 2 : ℝ) : EReal) := by
  simp [Ideal.ofBits, Ideal.ieee]
  rw [← EReal.coe_mul]; norm_num
/-- Two's bits. -/
theorem ofBits_two : Ideal.ofBits .f32 0x40000000#32 = ((2 : ℝ) : EReal) := by
  simp [Ideal.ofBits, Ideal.ieee]
  rw [← EReal.coe_mul]; norm_num
/-- Minus two's bits. -/
theorem ofBits_neg_two : Ideal.ofBits .f32 0xC0000000#32 = ((-2 : ℝ) : EReal) := by
  simp [Ideal.ofBits, Ideal.ieee]
  rw [← EReal.coe_mul]; norm_num

theorem sqrt_coe_nonneg {r : ℝ} (h : 0 ≤ r) : Ideal.sqrt (r : EReal) = ((Real.sqrt r : ℝ) : EReal) := by
  rw [Ideal.sqrt_coe, if_neg (not_lt.mpr h)]

theorem div_coe_coe (x : ℝ) {y : ℝ} (h : y ≠ 0) : Ideal.div (x : EReal) (y : EReal) = ((x / y : ℝ) : EReal) := by
  rw [Ideal.div_coe h, ← EReal.coe_mul, mul_one_div]

/-- Whether a real number is more than zero, as a number. -/
theorem cmp_pos (a : ℝ) : ((((Ideal.cmp .ogt (a : EReal) ((0 : ℝ) : EReal)).toNat : ℝ)) : EReal) = (((if 0 < a then 1 else 0 : ℝ)) : EReal) := by
  unfold Ideal.cmp
  by_cases h : 0 < a
  · have h' : ((0 : ℝ) : EReal) < (a : EReal) := EReal.coe_lt_coe_iff.mpr h
    simp [h]
  · have h' : ¬ ((0 : ℝ) : EReal) < (a : EReal) := fun e => h (EReal.coe_lt_coe_iff.mp e)
    simp [h]

/-! ## Sums in blocks -/

/-- A sum over `m * n` places is the sum over `m` blocks of `n`. -/
theorem sum_blocks {M : Type*} [AddCommMonoid M] (m n N : ℕ) (hN : N = m * n) (g : Fin N → M) :
    ∑ l, g l = ∑ a : Fin m, ∑ b : Fin n, g ⟨n * a.val + b.val, by
      subst hN
      calc n * a.val + b.val < n * a.val + n := Nat.add_lt_add_left b.isLt _
        _ = n * (a.val + 1) := rfl
        _ ≤ n * m := Nat.mul_le_mul_left _ a.isLt
        _ = m * n := Nat.mul_comm _ _⟩ := by
  subst hN
  rw [← Equiv.sum_comp finProdFinEquiv, Fintype.sum_prod_type]
  refine Finset.sum_congr rfl fun a _ => Finset.sum_congr rfl fun b _ => congrArg g (Fin.ext ?_)
  show b.val + n * a.val = n * a.val + b.val
  exact Nat.add_comm _ _

/-- Sixteen terms added up one after the other. -/
theorem sum16 {M : Type*} [AddCommMonoid M] (g : Fin 16 → M) :
    0 + g 0 + g 1 + g 2 + g 3 + g 4 + g 5 + g 6 + g 7 + g 8 + g 9 + g 10 + g 11 + g 12 + g 13 + g 14 + g 15 = ∑ h, g h := by
  simp only [Fin.sum_univ_castSucc, Finset.univ_eq_empty, Finset.sum_empty]
  rfl

/-! ## The convolution -/

/-- The squared distance of two points, expanded, and never below zero. -/
def dist2 (d k : Fin 16 → ℝ) : ℝ := max (∑ c, d c * (-2 * k c) + ∑ c, d c * d c * 1 + ∑ c, k c * k c) 0

/-- The squared distance of two points. -/
def sqdist (d k : Fin 3 → ℝ) : ℝ := ∑ c, (d c - k c) * (d c - k c)

theorem sqdist_nonneg (d k : Fin 3 → ℝ) : 0 ≤ sqdist d k := Finset.sum_nonneg fun _ _ => mul_self_nonneg _

theorem dist2_nonneg (d k : Fin 16 → ℝ) : 0 ≤ dist2 d k := le_max_right _ _

/-- The influence of a kernel point on a point at a squared distance. -/
def infl (s : ℝ) : ℝ := max (1 - Real.sqrt s * (1 / 2)) 0

/-- A convolution's entry: the features, weighted by the influences and the weights, over how many neighbors have some. -/
def conv (w : Fin 16 → Fin 15 → ℝ) (f : Fin 16 → Fin 64 → ℝ) (a : Fin 15 → Fin 64 → ℝ) : ℝ :=
  (∑ k, ∑ c, (∑ h, w h k * f h c) * a k c) / max (∑ h, if 0 < ∑ c, f h c then 1 else 0) 1

/-- Coordinates, filled up with zeros. -/
def fill {n : ℕ} (x : Fin n → ℝ) (c : Fin 16) : ℝ := if h : c.val < n then x ⟨c.val, h⟩ else 0

/-- The expanded squared distance is the squared distance. -/
theorem dist2_fill (d k : Fin 3 → ℝ) : dist2 (fill d) (fill k) = sqdist d k := by
  unfold dist2
  have e : ∑ c : Fin 16, fill d c * (-2 * fill k c) + ∑ c : Fin 16, fill d c * fill d c * 1 + ∑ c : Fin 16, fill k c * fill k c = sqdist d k := by
    rw [← Finset.sum_add_distrib, ← Finset.sum_add_distrib]
    rw [← sum16]
    unfold sqdist
    simp only [Fin.sum_univ_three]
    simp [fill]
    ring
  rw [e]
  exact max_eq_left (sqdist_nonneg d k)

/-- A filled up difference. -/
theorem fill_sub (a b : Fin 3 → ℝ) : (fun c => fill a c - fill b c) = fill fun c => a c - b c := by
  funext c
  unfold fill
  by_cases h : c.val < 3
  · rw [dif_pos h, dif_pos h, dif_pos h]
  · rw [dif_neg h, dif_neg h, dif_neg h, sub_zero]

/-- The result's entry: of the features `r0`, the query points `r1`, the support points `r2`, the neighbors `nb`, the weights `r4` and the
    kernel points `r5`. -/
def entry (r0 : Fin 50000 → Fin 64 → ℝ) (r1 r2 : Fin 50000 → Fin 3 → ℝ) (nb : Fin 50000 → Fin 16 → Fin 50000) (r4 : Fin 15 → Fin 64 → Fin 64 → ℝ)
    (r5 : Fin 15 → Fin 3 → ℝ) (n : Fin 50000) (o : Fin 64) : ℝ :=
  conv (fun h k => infl (sqdist (fun c => r2 (nb n h) c - r1 n c) (r5 k))) (fun h => r0 (nb n h)) (fun k c => r4 k c o)

end Cert.Proof.Reals

end
-- ==== Proof.BodyValue.lean ====
/- What the TensorCore's body computes, in real numbers. -/
module

public import proofs.«01_k».proof.Proof.TcBody
public import proofs.«01_k».proof.Proof.Reals
public import Idealize.ShloMosaic.Lib.ValueIdx
public import Idealize.ShloMosaic.Lib.MatmulPlain
public import Idealize.ShloMosaic.Lib.Pipeline.Value
public import Idealize.ShloMosaic.Lib.Pipeline.ValueKit.Basic
public import Idealize.ShloMosaic.Lib.Pipeline.ValueKit.Tiles

@[expose] public section

noncomputable section

namespace Cert.Proof.TcBody

open Cert.KernelIdeal Cert.KernelIdeal.Gen
open Cert.Proof.Reals
open Idealize.ShloMosaic
open Idealize.ShloMosaic.ValueIdx
open scoped BigOperators

/-- Place `k` of neighbor `h`'s sixteen. -/
abbrev at16 (h : Fin 16) (k : Fin 16) : Fin 256 := ⟨16 * h.val + k.val, by omega⟩
/-- Feature `c` of kernel point `k`'s sixty-four. -/
abbrev at64 (k : Fin 15) (c : Fin 64) : Fin 960 := ⟨64 * k.val + c.val, by omega⟩

/-! ## Loads -/

section Loads
variable {F : FTy → Type} [FloatOps F]

/-- A row of neighbor `h`'s slab. -/
theorem slab_apply (x0 : Vec F S16x400x128 .f32) (h : ℕ) (hh : h < 16) (r : Fin 400) (l : Fin 128) :
    slab x0 h hh (ix2 r l) = x0 (ix3 ⟨h, hh⟩ r l) := by
  unfold slab
  refine (shapeCast_apply _ _ (ix2 r l) (ix3 (0 : Fin 1) r l) ?_).trans ?_
  · rw [Shape.rowMajor_val_three, Shape.rowMajor_val_two]
    show (0 * 400 + r.val) * 128 + l.val = r.val * 128 + l.val
    omega
  · refine View.ld_unit_apply_of x0 _ _ _ _ _ fun a => ?_
    match a with
    | ⟨0, _⟩ => rfl
    | ⟨1, _⟩ => exact (Nat.zero_add _).symm
    | ⟨2, _⟩ => exact (Nat.zero_add _).symm

theorem ld_q (x : Vec F S400x16 .f32) (h : S400x16.ShapeCasts S400x16) : shapeCast S400x16 (View.ld x r_q) h = x := by
  refine (shapeCast_self (s := S400x16) _ h).trans (View.ld_unit_lit _ x fun a => ?_)
  match a with
  | ⟨0, _⟩ => rfl
  | ⟨1, _⟩ => rfl

theorem ld_e (x : Vec F S16x960 .bf16) (h : S16x960.ShapeCasts S16x960) : shapeCast S16x960 (View.ld x r_e) h = x := by
  refine (shapeCast_self (s := S16x960) _ h).trans (View.ld_unit_lit _ x fun a => ?_)
  match a with
  | ⟨0, _⟩ => rfl
  | ⟨1, _⟩ => rfl

theorem ld_m (x : Vec F S512x256 .f32) (h : S512x256.ShapeCasts S512x256) : shapeCast S512x256 (View.ld x r_m) h = x := by
  refine (shapeCast_self (s := S512x256) _ h).trans (View.ld_unit_lit _ x fun a => ?_)
  match a with
  | ⟨0, _⟩ => rfl
  | ⟨1, _⟩ => rfl

theorem ld_k (x : Vec F S1x256 .f32) (h : S1x256.ShapeCasts S1x256) : shapeCast S1x256 (View.ld x r_k) h = x := by
  refine (shapeCast_self (s := S1x256) _ h).trans (View.ld_unit_lit _ x fun a => ?_)
  match a with
  | ⟨0, _⟩ => rfl
  | ⟨1, _⟩ => rfl

theorem ld_a (x : Vec F S960x64 .bf16) (h : S960x64.ShapeCasts S960x64) : shapeCast S960x64 (View.ld x r_a) h = x := by
  refine (shapeCast_self (s := S960x64) _ h).trans (View.ld_unit_lit _ x fun a => ?_)
  match a with
  | ⟨0, _⟩ => rfl
  | ⟨1, _⟩ => rfl

/-- What the body leaves is what it stores. -/
theorem left_eq [∀ e, Nonempty (Elt F e)] (x0 : Vec F S16x400x128 .f32) (x1 : Vec F S400x16 .f32) (x2 : Vec F S512x256 .f32) (x3 : Vec F S1x256 .f32) (x4 : Vec F S16x960 .bf16) (x5 x6 : Vec F S960x64 .bf16) :
    left x0 x1 x2 x3 x4 x5 x6 = out x0 x1 x2 x3 x4 x5 x6 := by
  unfold left
  refine View.canon_cons_unit_lit _ _ [] fun a => ?_
  match a with
  | ⟨0, _⟩ => rfl
  | ⟨1, _⟩ => rfl

/-- The differences, neighbor by neighbor. -/
theorem diffs_apply (x0 : Vec F S16x400x128 .f32) (x1 : Vec F S400x16 .f32) (r : Fin 400) (h : Fin 16) (c : Fin 16) :
    diffs x0 x1 (ix2 r (at16 h c)) = diff x0 x1 h.val h.isLt (ix2 r c) := by
  unfold diffs
  obtain ⟨h, hh⟩ := h
  match h, hh with
  | 0, hh =>
    refine concatenate_apply_piece (t := S400x256) 1 _ _ _ 0 ?_ S400x16 (diff x0 x1 0 hh) ?_ ?_ 0 ?_ (ix2 r c) ?_ ?_
    · simp
    · rfl
    · rfl
    · simp
    · intro b hb
      match b with
      | ⟨0, _⟩ => rfl
      | ⟨1, _⟩ => exact absurd rfl hb
    · rfl
  | 1, hh =>
    refine concatenate_apply_piece (t := S400x256) 1 _ _ _ 1 ?_ S400x16 (diff x0 x1 1 hh) ?_ ?_ 16 ?_ (ix2 r c) ?_ ?_
    · simp
    · rfl
    · rfl
    · simp
    · intro b hb
      match b with
      | ⟨0, _⟩ => rfl
      | ⟨1, _⟩ => exact absurd rfl hb
    · rfl
  | 2, hh =>
    refine concatenate_apply_piece (t := S400x256) 1 _ _ _ 2 ?_ S400x16 (diff x0 x1 2 hh) ?_ ?_ 32 ?_ (ix2 r c) ?_ ?_
    · simp
    · rfl
    · rfl
    · simp
    · intro b hb
      match b with
      | ⟨0, _⟩ => rfl
      | ⟨1, _⟩ => exact absurd rfl hb
    · rfl
  | 3, hh =>
    refine concatenate_apply_piece (t := S400x256) 1 _ _ _ 3 ?_ S400x16 (diff x0 x1 3 hh) ?_ ?_ 48 ?_ (ix2 r c) ?_ ?_
    · simp
    · rfl
    · rfl
    · simp
    · intro b hb
      match b with
      | ⟨0, _⟩ => rfl
      | ⟨1, _⟩ => exact absurd rfl hb
    · rfl
  | 4, hh =>
    refine concatenate_apply_piece (t := S400x256) 1 _ _ _ 4 ?_ S400x16 (diff x0 x1 4 hh) ?_ ?_ 64 ?_ (ix2 r c) ?_ ?_
    · simp
    · rfl
    · rfl
    · simp
    · intro b hb
      match b with
      | ⟨0, _⟩ => rfl
      | ⟨1, _⟩ => exact absurd rfl hb
    · rfl
  | 5, hh =>
    refine concatenate_apply_piece (t := S400x256) 1 _ _ _ 5 ?_ S400x16 (diff x0 x1 5 hh) ?_ ?_ 80 ?_ (ix2 r c) ?_ ?_
    · simp
    · rfl
    · rfl
    · simp
    · intro b hb
      match b with
      | ⟨0, _⟩ => rfl
      | ⟨1, _⟩ => exact absurd rfl hb
    · rfl
  | 6, hh =>
    refine concatenate_apply_piece (t := S400x256) 1 _ _ _ 6 ?_ S400x16 (diff x0 x1 6 hh) ?_ ?_ 96 ?_ (ix2 r c) ?_ ?_
    · simp
    · rfl
    · rfl
    · simp
    · intro b hb
      match b with
      | ⟨0, _⟩ => rfl
      | ⟨1, _⟩ => exact absurd rfl hb
    · rfl
  | 7, hh =>
    refine concatenate_apply_piece (t := S400x256) 1 _ _ _ 7 ?_ S400x16 (diff x0 x1 7 hh) ?_ ?_ 112 ?_ (ix2 r c) ?_ ?_
    · simp
    · rfl
    · rfl
    · simp
    · intro b hb
      match b with
      | ⟨0, _⟩ => rfl
      | ⟨1, _⟩ => exact absurd rfl hb
    · rfl
  | 8, hh =>
    refine concatenate_apply_piece (t := S400x256) 1 _ _ _ 8 ?_ S400x16 (diff x0 x1 8 hh) ?_ ?_ 128 ?_ (ix2 r c) ?_ ?_
    · simp
    · rfl
    · rfl
    · simp
    · intro b hb
      match b with
      | ⟨0, _⟩ => rfl
      | ⟨1, _⟩ => exact absurd rfl hb
    · rfl
  | 9, hh =>
    refine concatenate_apply_piece (t := S400x256) 1 _ _ _ 9 ?_ S400x16 (diff x0 x1 9 hh) ?_ ?_ 144 ?_ (ix2 r c) ?_ ?_
    · simp
    · rfl
    · rfl
    · simp
    · intro b hb
      match b with
      | ⟨0, _⟩ => rfl
      | ⟨1, _⟩ => exact absurd rfl hb
    · rfl
  | 10, hh =>
    refine concatenate_apply_piece (t := S400x256) 1 _ _ _ 10 ?_ S400x16 (diff x0 x1 10 hh) ?_ ?_ 160 ?_ (ix2 r c) ?_ ?_
    · simp
    · rfl
    · rfl
    · simp
    · intro b hb
      match b with
      | ⟨0, _⟩ => rfl
      | ⟨1, _⟩ => exact absurd rfl hb
    · rfl
  | 11, hh =>
    refine concatenate_apply_piece (t := S400x256) 1 _ _ _ 11 ?_ S400x16 (diff x0 x1 11 hh) ?_ ?_ 176 ?_ (ix2 r c) ?_ ?_
    · simp
    · rfl
    · rfl
    · simp
    · intro b hb
      match b with
      | ⟨0, _⟩ => rfl
      | ⟨1, _⟩ => exact absurd rfl hb
    · rfl
  | 12, hh =>
    refine concatenate_apply_piece (t := S400x256) 1 _ _ _ 12 ?_ S400x16 (diff x0 x1 12 hh) ?_ ?_ 192 ?_ (ix2 r c) ?_ ?_
    · simp
    · rfl
    · rfl
    · simp
    · intro b hb
      match b with
      | ⟨0, _⟩ => rfl
      | ⟨1, _⟩ => exact absurd rfl hb
    · rfl
  | 13, hh =>
    refine concatenate_apply_piece (t := S400x256) 1 _ _ _ 13 ?_ S400x16 (diff x0 x1 13 hh) ?_ ?_ 208 ?_ (ix2 r c) ?_ ?_
    · simp
    · rfl
    · rfl
    · simp
    · intro b hb
      match b with
      | ⟨0, _⟩ => rfl
      | ⟨1, _⟩ => exact absurd rfl hb
    · rfl
  | 14, hh =>
    refine concatenate_apply_piece (t := S400x256) 1 _ _ _ 14 ?_ S400x16 (diff x0 x1 14 hh) ?_ ?_ 224 ?_ (ix2 r c) ?_ ?_
    · simp
    · rfl
    · rfl
    · simp
    · intro b hb
      match b with
      | ⟨0, _⟩ => rfl
      | ⟨1, _⟩ => exact absurd rfl hb
    · rfl
  | 15, hh =>
    refine concatenate_apply_piece (t := S400x256) 1 _ _ _ 15 ?_ S400x16 (diff x0 x1 15 hh) ?_ ?_ 240 ?_ (ix2 r c) ?_ ?_
    · simp
    · rfl
    · rfl
    · simp
    · intro b hb
      match b with
      | ⟨0, _⟩ => rfl
      | ⟨1, _⟩ => exact absurd rfl hb
    · rfl
  | n + 16, hh => exact absurd hh (by omega)

/-- The features, kernel point by kernel point. -/
theorem tiled_apply (f : FVec F S400x64 .f32) (r : Fin 400) (k : Fin 15) (c : Fin 64) : tiled f (ix2 r (at64 k c)) = f (ix2 r c) := by
  unfold tiled
  obtain ⟨k, hk⟩ := k
  match k, hk with
  | 0, hk =>
    refine concatenate_apply_piece (t := S400x960) 1 _ _ _ 0 ?_ S400x64 (f) ?_ ?_ 0 ?_ (ix2 r c) ?_ ?_
    · simp
    · rfl
    · rfl
    · simp
    · intro b hb
      match b with
      | ⟨0, _⟩ => rfl
      | ⟨1, _⟩ => exact absurd rfl hb
    · rfl
  | 1, hk =>
    refine concatenate_apply_piece (t := S400x960) 1 _ _ _ 1 ?_ S400x64 (f) ?_ ?_ 64 ?_ (ix2 r c) ?_ ?_
    · simp
    · rfl
    · rfl
    · simp
    · intro b hb
      match b with
      | ⟨0, _⟩ => rfl
      | ⟨1, _⟩ => exact absurd rfl hb
    · rfl
  | 2, hk =>
    refine concatenate_apply_piece (t := S400x960) 1 _ _ _ 2 ?_ S400x64 (f) ?_ ?_ 128 ?_ (ix2 r c) ?_ ?_
    · simp
    · rfl
    · rfl
    · simp
    · intro b hb
      match b with
      | ⟨0, _⟩ => rfl
      | ⟨1, _⟩ => exact absurd rfl hb
    · rfl
  | 3, hk =>
    refine concatenate_apply_piece (t := S400x960) 1 _ _ _ 3 ?_ S400x64 (f) ?_ ?_ 192 ?_ (ix2 r c) ?_ ?_
    · simp
    · rfl
    · rfl
    · simp
    · intro b hb
      match b with
      | ⟨0, _⟩ => rfl
      | ⟨1, _⟩ => exact absurd rfl hb
    · rfl
  | 4, hk =>
    refine concatenate_apply_piece (t := S400x960) 1 _ _ _ 4 ?_ S400x64 (f) ?_ ?_ 256 ?_ (ix2 r c) ?_ ?_
    · simp
    · rfl
    · rfl
    · simp
    · intro b hb
      match b with
      | ⟨0, _⟩ => rfl
      | ⟨1, _⟩ => exact absurd rfl hb
    · rfl
  | 5, hk =>
    refine concatenate_apply_piece (t := S400x960) 1 _ _ _ 5 ?_ S400x64 (f) ?_ ?_ 320 ?_ (ix2 r c) ?_ ?_
    · simp
    · rfl
    · rfl
    · simp
    · intro b hb
      match b with
      | ⟨0, _⟩ => rfl
      | ⟨1, _⟩ => exact absurd rfl hb
    · rfl
  | 6, hk =>
    refine concatenate_apply_piece (t := S400x960) 1 _ _ _ 6 ?_ S400x64 (f) ?_ ?_ 384 ?_ (ix2 r c) ?_ ?_
    · simp
    · rfl
    · rfl
    · simp
    · intro b hb
      match b with
      | ⟨0, _⟩ => rfl
      | ⟨1, _⟩ => exact absurd rfl hb
    · rfl
  | 7, hk =>
    refine concatenate_apply_piece (t := S400x960) 1 _ _ _ 7 ?_ S400x64 (f) ?_ ?_ 448 ?_ (ix2 r c) ?_ ?_
    · simp
    · rfl
    · rfl
    · simp
    · intro b hb
      match b with
      | ⟨0, _⟩ => rfl
      | ⟨1, _⟩ => exact absurd rfl hb
    · rfl
  | 8, hk =>
    refine concatenate_apply_piece (t := S400x960) 1 _ _ _ 8 ?_ S400x64 (f) ?_ ?_ 512 ?_ (ix2 r c) ?_ ?_
    · simp
    · rfl
    · rfl
    · simp
    · intro b hb
      match b with
      | ⟨0, _⟩ => rfl
      | ⟨1, _⟩ => exact absurd rfl hb
    · rfl
  | 9, hk =>
    refine concatenate_apply_piece (t := S400x960) 1 _ _ _ 9 ?_ S400x64 (f) ?_ ?_ 576 ?_ (ix2 r c) ?_ ?_
    · simp
    · rfl
    · rfl
    · simp
    · intro b hb
      match b with
      | ⟨0, _⟩ => rfl
      | ⟨1, _⟩ => exact absurd rfl hb
    · rfl
  | 10, hk =>
    refine concatenate_apply_piece (t := S400x960) 1 _ _ _ 10 ?_ S400x64 (f) ?_ ?_ 640 ?_ (ix2 r c) ?_ ?_
    · simp
    · rfl
    · rfl
    · simp
    · intro b hb
      match b with
      | ⟨0, _⟩ => rfl
      | ⟨1, _⟩ => exact absurd rfl hb
    · rfl
  | 11, hk =>
    refine concatenate_apply_piece (t := S400x960) 1 _ _ _ 11 ?_ S400x64 (f) ?_ ?_ 704 ?_ (ix2 r c) ?_ ?_
    · simp
    · rfl
    · rfl
    · simp
    · intro b hb
      match b with
      | ⟨0, _⟩ => rfl
      | ⟨1, _⟩ => exact absurd rfl hb
    · rfl
  | 12, hk =>
    refine concatenate_apply_piece (t := S400x960) 1 _ _ _ 12 ?_ S400x64 (f) ?_ ?_ 768 ?_ (ix2 r c) ?_ ?_
    · simp
    · rfl
    · rfl
    · simp
    · intro b hb
      match b with
      | ⟨0, _⟩ => rfl
      | ⟨1, _⟩ => exact absurd rfl hb
    · rfl
  | 13, hk =>
    refine concatenate_apply_piece (t := S400x960) 1 _ _ _ 13 ?_ S400x64 (f) ?_ ?_ 832 ?_ (ix2 r c) ?_ ?_
    · simp
    · rfl
    · rfl
    · simp
    · intro b hb
      match b with
      | ⟨0, _⟩ => rfl
      | ⟨1, _⟩ => exact absurd rfl hb
    · rfl
  | 14, hk =>
    refine concatenate_apply_piece (t := S400x960) 1 _ _ _ 14 ?_ S400x64 (f) ?_ ?_ 896 ?_ (ix2 r c) ?_ ?_
    · simp
    · rfl
    · rfl
    · simp
    · intro b hb
      match b with
      | ⟨0, _⟩ => rfl
      | ⟨1, _⟩ => exact absurd rfl hb
    · rfl
  | n + 15, hk => exact absurd hk (by omega)

theorem feat_apply (x0 : Vec F S16x400x128 .f32) (h : ℕ) (hh : h < 16) (r : Fin 400) (c : Fin 64) :
    feat x0 h hh (ix2 r c) = x0 (ix3 ⟨h, hh⟩ r ⟨c.val, by omega⟩) := by
  unfold feat
  refine (extractStridedSlice_apply _ _ _ _ (ix2 r (⟨c.val, by omega⟩ : Fin 128)) fun a => ?_).trans (slab_apply x0 h hh r _)
  match a with
  | ⟨0, _⟩ => exact (Nat.zero_add _).symm
  | ⟨1, _⟩ => exact (Nat.zero_add _).symm

end Loads

/-! ## In real numbers -/

variable {x0 : Vec Ideal S16x400x128 .f32} {x1 : Vec Ideal S400x16 .f32} {x2 : Vec Ideal S512x256 .f32} {x3 : Vec Ideal S1x256 .f32}
  {x4 : Vec Ideal S16x960 .bf16} {x5 x6 : Vec Ideal S960x64 .bf16}
  {f : Fin 16 → Fin 64 → ℝ} {p : Fin 16 → Fin 16 → ℝ} {q : Fin 16 → ℝ} {kp : Fin 16 → Fin 16 → ℝ} {A : Fin 15 → Fin 64 → Fin 64 → ℝ} {r : Fin 400}

theorem diff_apply (hp : ∀ h c, x0 (ix3 h r ⟨64 + c.val, by omega⟩) = ((p h c : ℝ) : EReal)) (hq : ∀ c, x1 (ix2 r c) = ((q c : ℝ) : EReal))
    (h : ℕ) (hh : h < 16) (c : Fin 16) : diff x0 x1 h hh (ix2 r c) = ((p ⟨h, hh⟩ c - q c : ℝ) : EReal) := by
  unfold diff
  rw [ld_q, subf_apply]
  rw [show extractStridedSlice S400x16 ![0, 64] (slab x0 h hh) slices_S400x128_o0_64_S400x16 (ix2 r c) = slab x0 h hh (ix2 r (⟨64 + c.val, by omega⟩ : Fin 128)) from
    extractStridedSlice_apply _ _ _ _ _ fun a => by
      match a with
      | ⟨0, _⟩ => exact (Nat.zero_add _).symm
      | ⟨1, _⟩ => rfl]
  rw [slab_apply, hp, hq, EReal.coe_sub]

/-- The first half of `both` are the differences. -/
theorem both_lo (r : Fin 400) (h c : Fin 16) : both x0 x1 (ix2 r (⟨16 * h.val + c.val, by omega⟩ : Fin 512)) = diff x0 x1 h.val h.isLt (ix2 r c) := by
  unfold both
  refine (concatenate_apply_piece (t := S400x512) 1 _ _ _ 0 (by simp) S400x256 _ rfl rfl 0 rfl (ix2 r (at16 h c)) (fun b hb => by
    match b with
    | ⟨0, _⟩ => rfl
    | ⟨1, _⟩ => exact absurd rfl hb) (Nat.zero_add _)).trans (diffs_apply x0 x1 r h c)

/-- The second half are their squares. -/
theorem both_hi (r : Fin 400) (h c : Fin 16) : both x0 x1 (ix2 r (⟨256 + (16 * h.val + c.val), by omega⟩ : Fin 512))
    = diff x0 x1 h.val h.isLt (ix2 r c) * diff x0 x1 h.val h.isLt (ix2 r c) := by
  unfold both
  refine (concatenate_apply_piece (t := S400x512) 1 _ _ _ 1 (by simp) S400x256 _ rfl rfl 256 rfl (ix2 r (at16 h c)) (fun b hb => by
    match b with
    | ⟨0, _⟩ => rfl
    | ⟨1, _⟩ => exact absurd rfl hb) rfl).trans ?_
  rw [mulf_apply, diffs_apply]

/-- The squared distances. -/
theorem sqd_apply (hp : ∀ h c, x0 (ix3 h r ⟨64 + c.val, by omega⟩) = ((p h c : ℝ) : EReal)) (hq : ∀ c, x1 (ix2 r c) = ((q c : ℝ) : EReal))
    (hlo : ∀ (h' c h k : Fin 16), x2 (ix2 (⟨16 * h'.val + c.val, by omega⟩ : Fin 512) (at16 h k)) = (((if h' = h then -2 * kp k c else 0 : ℝ)) : EReal))
    (hhi : ∀ (h' c h k : Fin 16), x2 (ix2 (⟨256 + (16 * h'.val + c.val), by omega⟩ : Fin 512) (at16 h k)) = (((if h' = h then 1 else 0 : ℝ)) : EReal))
    (hs : ∀ h k, x3 (ix2 (0 : Fin 1) (at16 h k)) = ((∑ c, kp k c * kp k c : ℝ) : EReal)) (h k : Fin 16) :
    sqd x0 x1 x2 x3 (ix2 r (at16 h k)) = ((dist2 (fun c => p h c - q c) (kp k) : ℝ) : EReal) := by
  unfold sqd
  rw [ld_m, ld_k, maximumf_apply, addf_apply]
  rw [show broadcastTo S400x256 x3 broadcasts_S1x256_S400x256 (ix2 r (at16 h k)) = x3 (ix2 (0 : Fin 1) (at16 h k)) from
    broadcastTo_apply _ _ _ _ fun a => by
      match a with
      | ⟨0, _⟩ => rfl
      | ⟨1, _⟩ => rfl]
  rw [hs]
  have hm : matmul (φ₁ := .f32) (φ₂ := .f32) dot_S400x512_S512x256_S400x256_1_0_0_1_n_n (some .fp32) (both x0 x1) x2 (constant S400x256 .f32 0x00000000#32) (ix2 r (at16 h k))
      = ((∑ c, (p h c - q c) * (-2 * kp k c) + ∑ c, (p h c - q c) * (p h c - q c) * 1 : ℝ) : EReal) := by
    simp only [matmul]
    refine (Ideal.matmul_plain_apply (M := 400) (K := 512) (N := 256) _ _ _ _ r (at16 h k)).trans ?_
    rw [constant_apply, ofBits_zero, EReal.coe_zero, zero_add, sum_blocks 2 256 512 rfl, Fin.sum_univ_two, sum_blocks 16 16 256 rfl, sum_blocks 16 16 256 rfl]
    rw [EReal.coe_add]
    congr 1
    · have e : ∀ h' c : Fin 16, both x0 x1 (ix2 r (⟨256 * (0 : Fin 2).val + (16 * h'.val + c.val), by show 256 * 0 + (16 * h'.val + c.val) < 512; omega⟩ : Fin 512))
          * x2 (ix2 (⟨256 * (0 : Fin 2).val + (16 * h'.val + c.val), by show 256 * 0 + (16 * h'.val + c.val) < 512; omega⟩ : Fin 512) (at16 h k))
          = (((p h' c - q c) * (if h' = h then -2 * kp k c else 0) : ℝ) : EReal) := by
        intro h' c
        rw [show (⟨256 * (0 : Fin 2).val + (16 * h'.val + c.val), by show 256 * 0 + (16 * h'.val + c.val) < 512; omega⟩ : Fin 512) = ⟨16 * h'.val + c.val, by omega⟩ from
          Fin.ext (Nat.zero_add _)]
        rw [both_lo, diff_apply hp hq, hlo, ← EReal.coe_mul]
      refine (Finset.sum_congr rfl fun h' _ => Finset.sum_congr rfl fun c _ => e h' c).trans ?_
      simp only [← coe_sum]
      congr 1
      rw [Finset.sum_eq_single h (fun h' _ hne => by simp [hne]) (by simp)]
      simp
    · have e : ∀ h' c : Fin 16, both x0 x1 (ix2 r (⟨256 * (1 : Fin 2).val + (16 * h'.val + c.val), by show 256 * 1 + (16 * h'.val + c.val) < 512; omega⟩ : Fin 512))
          * x2 (ix2 (⟨256 * (1 : Fin 2).val + (16 * h'.val + c.val), by show 256 * 1 + (16 * h'.val + c.val) < 512; omega⟩ : Fin 512) (at16 h k))
          = (((p h' c - q c) * (p h' c - q c) * (if h' = h then 1 else 0) : ℝ) : EReal) := by
        intro h' c
        rw [show (⟨256 * (1 : Fin 2).val + (16 * h'.val + c.val), by show 256 * 1 + (16 * h'.val + c.val) < 512; omega⟩ : Fin 512) = ⟨256 + (16 * h'.val + c.val), by omega⟩ from
          Fin.ext rfl]
        rw [both_hi, diff_apply hp hq, hhi, ← EReal.coe_mul, ← EReal.coe_mul]
      refine (Finset.sum_congr rfl fun h' _ => Finset.sum_congr rfl fun c _ => e h' c).trans ?_
      simp only [← coe_sum]
      congr 1
      rw [Finset.sum_eq_single h (fun h' _ hne => by simp [hne]) (by simp)]
      simp
  rw [hm, broadcast_apply]
  show max _ (Ideal.ofBits .f32 0x00000000#32) = _
  rw [ofBits_zero, ← EReal.coe_add, ← coe_max]
  rfl

/-- The influences. -/
theorem infl_apply {s : ℝ} (hs : 0 ≤ s) {j : S400x256.Idx} (h : sqd x0 x1 x2 x3 j = ((s : ℝ) : EReal)) : infl x0 x1 x2 x3 j = ((Reals.infl s : ℝ) : EReal) := by
  unfold infl
  rw [maximumf_apply, subf_apply, mulf_apply, broadcast_apply, broadcast_apply, broadcast_apply]
  show max (Ideal.ofBits .f32 0x3F800000#32 - Ideal.sqrt (sqd x0 x1 x2 x3 j) * Ideal.ofBits .f32 0x3F000000#32) (Ideal.ofBits .f32 0x00000000#32) = _
  rw [h, ofBits_one, ofBits_half, ofBits_zero, sqrt_coe_nonneg hs, ← EReal.coe_mul, ← EReal.coe_sub, ← coe_max]
  rfl

/-- Influences spread over the features. -/
theorem wide_apply {w : FVec Ideal S400x256 .f32} {W : Fin 16 → ℝ} (hx4 : ∀ (k' : Fin 16) (k : Fin 15) (c : Fin 64), x4 (ix2 k' (at64 k c)) = (((if k'.val = k.val then 1 else 0 : ℝ)) : EReal))
    (h : Fin 16) (hw : ∀ k, w (ix2 r (at16 h k)) = ((W k : ℝ) : EReal)) (k : Fin 15) (c : Fin 64) :
    wide w x4 (16 * h.val) (slices_w h.val h.isLt) (ix2 r (at64 k c)) = ((W ⟨k.val, by omega⟩ : ℝ) : EReal) := by
  unfold wide
  rw [ld_e]
  simp only [matmul]
  refine (Ideal.matmul_plain_apply (M := 400) (K := 16) (N := 960) _ _ _ _ r (at64 k c)).trans ?_
  rw [constant_apply, ofBits_zero, EReal.coe_zero, zero_add]
  have e : ∀ k' : Fin 16, (truncf .bf16 (extractStridedSlice S400x16 ![0, 16 * h.val] w (slices_w h.val h.isLt)) bitsLt_bf16_f32 : FVec Ideal S400x16 .bf16) (ix2 r k') * x4 (ix2 k' (at64 k c))
      = ((W k' * (if k'.val = k.val then 1 else 0) : ℝ) : EReal) := by
    intro k'
    rw [truncf_apply, hx4]
    rw [show extractStridedSlice S400x16 ![0, 16 * h.val] w (slices_w h.val h.isLt) (ix2 r k') = w (ix2 r (at16 h k')) from
      extractStridedSlice_apply _ _ _ _ _ fun a => by
        match a with
        | ⟨0, _⟩ => exact (Nat.zero_add _).symm
        | ⟨1, _⟩ => rfl]
    rw [hw, ← EReal.coe_mul]
  refine (Finset.sum_congr rfl fun k' _ => e k').trans ?_
  rw [← coe_sum]
  congr 1
  rw [Finset.sum_eq_single (⟨k.val, by omega⟩ : Fin 16) (fun k' _ hne => by
    rw [if_neg fun e => hne (Fin.ext e), mul_zero]) (by simp)]
  rw [if_pos rfl, mul_one]

/-- The weighted features. -/
theorem wsum_apply {w : FVec Ideal S400x256 .f32} {W : Fin 16 → Fin 16 → ℝ} (hx4 : ∀ (k' : Fin 16) (k : Fin 15) (c : Fin 64), x4 (ix2 k' (at64 k c)) = (((if k'.val = k.val then 1 else 0 : ℝ)) : EReal))
    (hf : ∀ h (c : Fin 64), x0 (ix3 h r ⟨c.val, by omega⟩) = ((f h c : ℝ) : EReal))
    (hw : ∀ h k, w (ix2 r (at16 h k)) = ((W h k : ℝ) : EReal)) (k : Fin 15) (c : Fin 64) :
    wsum x0 w x4 (ix2 r (at64 k c)) = ((∑ h, W h ⟨k.val, by omega⟩ * f h c : ℝ) : EReal) := by
  have e : ∀ h : Fin 16, part x0 w x4 h.val h.isLt (ix2 r (at64 k c)) = ((W h ⟨k.val, by omega⟩ * f h c : ℝ) : EReal) := by
    intro h
    unfold part
    rw [mulf_apply, wide_apply hx4 h (hw h) k c, tiled_apply, feat_apply, hf, EReal.coe_mul]
  rw [coe_sum, ← Finset.sum_congr rfl fun h _ => e h, ← sum16]
  unfold wsum
  simp only [addf_apply, broadcast_apply]
  rw [show (Scalar.ofBits (F := Ideal) .f32 0x00000000#32 : EReal) = 0 from ofBits_zero.trans EReal.coe_zero]
  rfl

/-- Whether the features add up to more than zero. -/
theorem pos_apply {g : FVec Ideal S400x64 .f32} {G : Fin 64 → ℝ} (hg : ∀ c, g (ix2 r c) = ((G c : ℝ) : EReal)) :
    pos g (ix2 r (0 : Fin 1)) = (((if 0 < ∑ c, G c then 1 else 0 : ℝ)) : EReal) := by
  unfold pos
  rw [sitofp_apply, extui_apply, cmpf_apply, broadcast_apply]
  rw [show shapeCast S400x1 (multiReduction .add [1] S400 g 0x00000000#32 reduces_S400x64_S400 (.inl rfl) rfl) shapeCasts_S400_S400x1 (ix2 r (0 : Fin 1))
      = ((∑ c, G c : ℝ) : EReal) from by
    refine (shapeCast_apply _ _ _ (ix1 r) ?_).trans ?_
    · rw [Shape.rowMajor_val_one, Shape.rowMajor_val_two]
      show r.val = r.val * 1 + 0
      omega
    · refine (Ideal.multiReduction_add_single (a := 1) g _ reduces_S400x64_S400 _ _ (ix1 r)).trans ?_
      rw [coe_sum]
      refine Finset.sum_congr rfl fun c _ => ?_
      refine Eq.trans (congrArg g ?_) (hg c)
      funext a
      match a with
      | ⟨0, _⟩ => rfl
      | ⟨1, _⟩ => rfl]
  show (((((Ideal.cmp .ogt ((∑ c, G c : ℝ) : EReal) (Ideal.ofBits .f32 0x00000000#32)).setWidth 32 : BitVec 32).toInt : ℝ)) : EReal) = _
  rw [ofBits_zero, ← cmp_pos]
  generalize Ideal.cmp .ogt ((∑ c, G c : ℝ) : EReal) ((0 : ℝ) : EReal) = b
  congr 1
  have : ∀ b : BitVec 1, (b.setWidth 32).toInt = (b.toNat : ℤ) := by decide
  rw [this]
  simp

/-- How many neighbors have features. -/
theorem count_apply (hf : ∀ h (c : Fin 64), x0 (ix3 h r ⟨c.val, by omega⟩) = ((f h c : ℝ) : EReal)) :
    count x0 (ix2 r (0 : Fin 1)) = ((∑ h, if 0 < ∑ c, f h c then 1 else 0 : ℝ) : EReal) := by
  have e : ∀ h : Fin 16, pos (feat x0 h.val h.isLt) (ix2 r (0 : Fin 1)) = (((if 0 < ∑ c, f h c then 1 else 0 : ℝ)) : EReal) :=
    fun h => pos_apply fun c => (feat_apply x0 h.val h.isLt r c).trans (hf h c)
  rw [coe_sum, ← Finset.sum_congr rfl fun h _ => e h, ← sum16]
  unfold count
  simp only [addf_apply, broadcast_apply]
  rw [show (Scalar.ofBits (F := Ideal) .f32 0x00000000#32 : EReal) = 0 from ofBits_zero.trans EReal.coe_zero]
  rfl

/-- The product with the weights. -/
theorem prod_apply {v : FVec Ideal S400x960 .f32} {V : Fin 15 → Fin 64 → ℝ} (hv : ∀ k c, v (ix2 r (at64 k c)) = ((V k c : ℝ) : EReal))
    (h5 : ∀ k c o, x5 (ix2 (at64 k c) o) = ((A k c o : ℝ) : EReal)) (h6 : ∀ k c (o : Fin 64), x6 (ix2 (at64 k c) o) = ((0 : ℝ) : EReal)) (o : Fin 64) :
    prod v x5 x6 (ix2 r o) = ((∑ k, ∑ c, V k c * A k c o : ℝ) : EReal) := by
  have hm : ∀ (y : FVec Ideal S400x960 .bf16) (x : FVec Ideal S960x64 .bf16) (Y : Fin 15 → Fin 64 → ℝ) (X : Fin 15 → Fin 64 → ℝ),
      (∀ k c, y (ix2 r (at64 k c)) = ((Y k c : ℝ) : EReal)) → (∀ k c, x (ix2 (at64 k c) o) = ((X k c : ℝ) : EReal)) →
      matmul dot_S400x960_S960x64_S400x64_1_0_0_1_n_n none y x (constant S400x64 .f32 0x00000000#32) (ix2 r o) = ((∑ k, ∑ c, Y k c * X k c : ℝ) : EReal) := by
    intro y x Y X hy hx
    simp only [matmul]
    refine (Ideal.matmul_plain_apply (M := 400) (K := 960) (N := 64) _ _ _ _ r o).trans ?_
    rw [constant_apply, ofBits_zero, EReal.coe_zero, zero_add, sum_blocks 15 64 960 rfl, coe_sum]
    refine Finset.sum_congr rfl fun k _ => ?_
    rw [coe_sum]
    refine Finset.sum_congr rfl fun c _ => ?_
    rw [EReal.coe_mul, ← hy, ← hx]
  unfold prod
  rw [ld_a, ld_a, addf_apply, addf_apply]
  rw [hm (truncf .bf16 v bitsLt_bf16_f32) x5 V (fun k c => A k c o) hv (fun k c => h5 k c o), hm (truncf .bf16 v bitsLt_bf16_f32) x6 V (fun _ _ => 0) hv (fun k c => h6 k c o),
    hm (truncf .bf16 (subf v (extf .f32 (truncf .bf16 v bitsLt_bf16_f32) bitsLt_bf16_f32)) bitsLt_bf16_f32) x5 (fun _ _ => 0) (fun k c => A k c o) (fun k c => by
      rw [truncf_apply, subf_apply, extf_apply, truncf_apply, hv, ← EReal.coe_sub, sub_self]) (fun k c => h5 k c o)]
  rw [← EReal.coe_add, ← EReal.coe_add]
  congr 1
  simp

/-- What the body leaves, an entry of it: the convolution's. -/
theorem left_apply (hp : ∀ h c, x0 (ix3 h r ⟨64 + c.val, by omega⟩) = ((p h c : ℝ) : EReal)) (hq : ∀ c, x1 (ix2 r c) = ((q c : ℝ) : EReal))
    (hf : ∀ h (c : Fin 64), x0 (ix3 h r ⟨c.val, by omega⟩) = ((f h c : ℝ) : EReal))
    (hlo : ∀ (h' c h k : Fin 16), x2 (ix2 (⟨16 * h'.val + c.val, by omega⟩ : Fin 512) (at16 h k)) = (((if h' = h then -2 * kp k c else 0 : ℝ)) : EReal))
    (hhi : ∀ (h' c h k : Fin 16), x2 (ix2 (⟨256 + (16 * h'.val + c.val), by omega⟩ : Fin 512) (at16 h k)) = (((if h' = h then 1 else 0 : ℝ)) : EReal))
    (hs : ∀ h k, x3 (ix2 (0 : Fin 1) (at16 h k)) = ((∑ c, kp k c * kp k c : ℝ) : EReal))
    (hx4 : ∀ (k' : Fin 16) (k : Fin 15) (c : Fin 64), x4 (ix2 k' (at64 k c)) = (((if k'.val = k.val then 1 else 0 : ℝ)) : EReal))
    (h5 : ∀ k c o, x5 (ix2 (at64 k c) o) = ((A k c o : ℝ) : EReal)) (h6 : ∀ k c (o : Fin 64), x6 (ix2 (at64 k c) o) = ((0 : ℝ) : EReal)) (o : Fin 64) :
    left x0 x1 x2 x3 x4 x5 x6 (ix2 r o)
      = ((conv (fun h k => Reals.infl (dist2 (fun c => p h c - q c) (kp ⟨k.val, by omega⟩))) f (fun k c => A k c o) : ℝ) : EReal) := by
  rw [left_eq]
  unfold out
  rw [divf_apply]
  rw [prod_apply (V := fun k c => ∑ h, Reals.infl (dist2 (fun c => p h c - q c) (kp ⟨k.val, by omega⟩)) * f h c)
    (fun k c => wsum_apply (W := fun h k => Reals.infl (dist2 (fun c => p h c - q c) (kp k))) hx4 hf (fun h k => infl_apply (dist2_nonneg _ _) (sqd_apply hp hq hlo hhi hs h k)) k c) h5 h6 o]
  rw [show broadcastTo S400x64 (maximumf (count x0) (broadcast S400x1 (Scalar.ofBits (F := Ideal) .f32 0x3F800000#32))) broadcasts_S400x1_S400x64 (ix2 r o)
      = ((max (∑ h, if 0 < ∑ c, f h c then 1 else 0) 1 : ℝ) : EReal) from by
    refine (broadcastTo_apply _ _ _ (ix2 r (0 : Fin 1)) fun a => by
      match a with
      | ⟨0, _⟩ => rfl
      | ⟨1, _⟩ => rfl).trans ?_
    rw [maximumf_apply, count_apply hf, broadcast_apply]
    show max _ (Ideal.ofBits .f32 0x3F800000#32) = _
    rw [ofBits_one, ← coe_max]]
  rw [div_coe_coe _ (by
    have : (1 : ℝ) ≤ max (∑ h, if 0 < ∑ c, f h c then 1 else 0) 1 := le_max_right _ _
    positivity)]
  rfl

end Cert.Proof.TcBody

end
-- ==== Proof.HostValue.lean ====
/- What the kernel's host code makes of its arguments, in real numbers, and the kernel's result. -/
module

public import proofs.«01_k».proof.Proof.Host
public import proofs.«01_k».proof.Proof.BodyValue
public import Idealize.ShloMosaic.Lib.IdealHost
public import Idealize.ShloMosaic.Lib.KernelVsHost

@[expose] public section

noncomputable section

namespace Cert.Proof.Host

open Cert.KernelIdeal Cert.KernelIdeal.Gen
open Cert.Proof.Reals
open Cert.Proof.TcBody (at16 at64)
open Idealize.ShloMosaic hiding ix0 ix1 ix2 ix3 ix4
open Idealize.ShloMosaic.ValueIdx
open scoped BigOperators

/-! ## Padding -/

/-- A real number padded: the rows and columns past the array's are zeros. -/
def padded {N : ℕ} (X : Fin N → Fin 3 → ℝ) (r : ℕ) (c : Fin 16) : ℝ := if h : r < N then fill (X ⟨r, h⟩) c else 0

theorem pad_apply {N M e : ℕ} {x : FVec Ideal ⟨2, ![N, 3]⟩ .f32} {X : Fin N → Fin 3 → ℝ} (hx : ∀ r c, x (ix2 r c) = ((X r c : ℝ) : EReal))
    (h : (⟨2, ![N, 3]⟩ : Shape).Pads ![0, 0] ![e, 13] ![0, 0] ⟨2, ![M, 16]⟩) (hu : 0 < S_.numel) (r : Fin M) (c : Fin 16) :
    pad ⟨2, ![M, 16]⟩ ![0, 0] ![e, 13] ![0, 0] x (sitofp (F := Ideal) .f32 (constantI S_ 32 0#32)) h hu (ix2 r c) = ((padded X r.val c : ℝ) : EReal) := by
  have hz : (sitofp (F := Ideal) .f32 (constantI S_ 32 0#32) : FVec Ideal S_ .f32) (Shape.Idx.first hu) = ((0 : ℝ) : EReal) := by
    show ((((0#32 : BitVec 32).toInt : ℝ)) : EReal) = _
    simp
  unfold padded
  by_cases hr : r.val < N
  · rw [dif_pos hr]
    unfold fill
    by_cases hc : c.val < 3
    · rw [dif_pos hc, ← hx]
      refine pad_apply_of_inside _ _ _ _ _ _ _ _ _ fun b => ?_
      match b with
      | ⟨0, _⟩ => show r.val = 0 + r.val * (0 + 1); omega
      | ⟨1, _⟩ => show c.val = 0 + c.val * (0 + 1); omega
    · rw [dif_neg hc]
      refine (pad_apply_of_not_inside _ _ _ _ _ _ _ _ 1 fun hh => hc ?_).trans hz
      have : (c.val - 0) / (0 + 1) < 3 := hh.2.2
      omega
  · rw [dif_neg hr]
    refine (pad_apply_of_not_inside _ _ _ _ _ _ _ _ 0 fun hh => hr ?_).trans hz
    have : (r.val - 0) / (0 + 1) < N := hh.2.2
    omega

/-! ## The tables -/

variable {a0 : FVec Ideal S50000x64 .f32} {a1 a2 : FVec Ideal S50000x3 .f32} {a3 : IVec S50000x16 32} {a4 : FVec Ideal S15x64x64 .f32} {a5 : FVec Ideal S15x3 .f32}
  {r0 : Fin 50000 → Fin 64 → ℝ} {r1 r2 : Fin 50000 → Fin 3 → ℝ} {r4 : Fin 15 → Fin 64 → Fin 64 → ℝ} {r5 : Fin 15 → Fin 3 → ℝ}

theorem table_feat (h0 : ∀ n c, a0 (ix2 n c) = ((r0 n c : ℝ) : EReal)) (n : Fin 50000) (c : Fin 64) :
    table a0 a2 (ix2 n (⟨c.val, by omega⟩ : Fin 128)) = ((r0 n c : ℝ) : EReal) := by
  rw [← h0]
  unfold table
  refine concatenate_apply_piece (t := S50000x128) 1 _ _ _ 0 ?_ S50000x64 a0 ?_ ?_ 0 ?_ (ix2 n c) ?_ ?_
  · simp
  · rfl
  · rfl
  · simp
  · intro b hb
    match b with
    | ⟨0, _⟩ => rfl
    | ⟨1, _⟩ => exact absurd rfl hb
  · exact Nat.zero_add _

theorem table_point (h2 : ∀ n c, a2 (ix2 n c) = ((r2 n c : ℝ) : EReal)) (n : Fin 50000) (c : Fin 16) :
    table a0 a2 (ix2 n (⟨64 + c.val, by omega⟩ : Fin 128)) = ((fill (r2 n) c : ℝ) : EReal) := by
  unfold table
  refine (concatenate_apply_piece (t := S50000x128) 1 _ _ _ 1 ?_ S50000x16
    (pad S50000x16 ![0, 0] ![0, 13] ![0, 0] a2 (sitofp (F := Ideal) .f32 (constantI S_ 32 0#32)) pads_S50000x3_S50000x16_000_0130 h_S_) ?_ ?_ 64 ?_ (ix2 n c) ?_ ?_).trans ?_
  · simp
  · rfl
  · rfl
  · simp
  · intro b hb
    match b with
    | ⟨0, _⟩ => rfl
    | ⟨1, _⟩ => exact absurd rfl hb
  · rfl
  · refine (pad_apply (N := 50000) (M := 50000) h2 _ _ n c).trans ?_
    unfold padded
    rw [dif_pos n.isLt]

theorem queries_apply (h1 : ∀ n c, a1 (ix2 n c) = ((r1 n c : ℝ) : EReal)) (n : Fin 50000) (c : Fin 16) :
    queries a1 (ix2 n c) = ((fill (r1 n) c : ℝ) : EReal) := by
  unfold queries
  refine (pad_apply (N := 50000) (M := 50000) h1 _ _ n c).trans ?_
  unfold padded
  rw [dif_pos n.isLt]

theorem kpts_apply (h5 : ∀ k c, a5 (ix2 k c) = ((r5 k c : ℝ) : EReal)) (c k : Fin 16) :
    kpts a5 (ix2 c k) = ((padded r5 k.val c : ℝ) : EReal) := by
  unfold kpts
  refine (transpose_apply _ _ _ (ix2 c k) (ix2 k c) fun b => by
    match b with
    | ⟨0, _⟩ => rfl
    | ⟨1, _⟩ => rfl).trans ?_
  exact pad_apply (N := 15) (M := 16) h5 _ _ k c

theorem kron_apply (a b : FVec Ideal S16x16 .f32) (i k j l : Fin 16) :
    kron a b (ix2 (at16 i k) (at16 j l)) = a (ix2 i j) * b (ix2 k l) := by
  unfold kron
  refine (shapeCast_apply _ _ (ix2 (at16 i k) (at16 j l)) (ix4 i k j l) ?_).trans ?_
  · rw [Shape.rowMajor_val_four, Shape.rowMajor_val_two]
    show ((i.val * 16 + k.val) * 16 + j.val) * 16 + l.val = (16 * i.val + k.val) * 256 + (16 * j.val + l.val)
    omega
  · rw [mulf_apply]
    congr 1
    · refine (broadcastInDim_apply _ _ _ _ (ix4 i (0 : Fin 1) j (0 : Fin 1)) fun a => by
        match a with
        | ⟨0, _⟩ => rfl
        | ⟨1, _⟩ => rfl
        | ⟨2, _⟩ => rfl
        | ⟨3, _⟩ => rfl).trans ?_
      exact broadcastInDim_apply _ _ _ _ (ix2 i j) fun a => by
        match a with
        | ⟨0, _⟩ => rfl
        | ⟨1, _⟩ => rfl
    · refine (broadcastInDim_apply _ _ _ _ (ix4 (0 : Fin 1) k (0 : Fin 1) l) fun a => by
        match a with
        | ⟨0, _⟩ => rfl
        | ⟨1, _⟩ => rfl
        | ⟨2, _⟩ => rfl
        | ⟨3, _⟩ => rfl).trans ?_
      exact broadcastInDim_apply _ _ _ _ (ix2 k l) fun a => by
        match a with
        | ⟨0, _⟩ => rfl
        | ⟨1, _⟩ => rfl

/-- Whether two small numbers are one, as words. -/
theorem eq_words : ∀ i j : Fin 16, (IntOp.cmpi .eq (IntOp.addi (BitVec.ofNat 32 i.val) 0#32) (BitVec.ofNat 32 j.val)).toNat = if i.val = j.val then 1 else 0 := by
  decide

theorem eye_apply (i j : Fin 16) : (eye : FVec Ideal S16x16 .f32) (ix2 i j) = (((if i = j then 1 else 0 : ℝ)) : EReal) := by
  show (((IntOp.cmpi .eq (IntOp.addi (BitVec.ofNat 32 i.val) 0#32) (BitVec.ofNat 32 j.val)).toNat : ℝ) : EReal) = _
  rw [eq_words]
  by_cases h : i = j
  · rw [if_pos (congrArg Fin.val h), if_pos h, Nat.cast_one]
  · rw [if_neg fun e => h (Fin.ext e), if_neg h, Nat.cast_zero]

theorem spread_apply (k' : Fin 16) (k : Fin 15) (c : Fin 64) : (spread : FVec Ideal S16x960 .bf16) (ix2 k' (at64 k c)) = (((if k'.val = k.val then 1 else 0 : ℝ)) : EReal) := by
  unfold spread
  rw [truncf_apply]
  refine (shapeCast_apply _ _ (ix2 k' (at64 k c)) (ix4 k' (0 : Fin 1) k c) ?_).trans ?_
  · rw [Shape.rowMajor_val_four, Shape.rowMajor_val_two]
    show ((k'.val * 1 + 0) * 15 + k.val) * 64 + c.val = k'.val * 960 + (64 * k.val + c.val)
    omega
  · rw [mulf_apply]
    rw [show ∀ x : FVec Ideal S16x15 .f32, broadcastInDim S16x1x15x64 ![0, 1, 2, 3] bcast_S16x1x15x1_S16x1x15x64_0_1_2_3 (broadcastInDim S16x1x15x1 ![0, 2] bcast_S16x15_S16x1x15x1_0_2 x) (ix4 k' (0 : Fin 1) k c)
        = x (ix2 k' k) from fun x =>
      (broadcastInDim_apply _ _ _ _ (ix4 k' (0 : Fin 1) k (0 : Fin 1)) fun a => by
        match a with
        | ⟨0, _⟩ => rfl
        | ⟨1, _⟩ => rfl
        | ⟨2, _⟩ => rfl
        | ⟨3, _⟩ => rfl).trans (broadcastInDim_apply _ _ _ _ (ix2 k' k) fun a => by
        match a with
        | ⟨0, _⟩ => rfl
        | ⟨1, _⟩ => rfl)]
    rw [show broadcastInDim S16x1x15x64 ![0, 1, 2, 3] bcast_S1x1x1x64_S16x1x15x64_0_1_2_3 (broadcastInDim S1x1x1x64 ![1, 3] bcast_S1x64_S1x1x1x64_1_3
        (broadcastInDim S1x64 ![] bcast_S_S1x64 (constant (F := Ideal) S_ .f32 0x3F800000#32))) (ix4 k' (0 : Fin 1) k c) = ((1 : ℝ) : EReal) from ofBits_one]
    show (((IntOp.cmpi .eq (IntOp.addi (BitVec.ofNat 32 k'.val) 0#32) (BitVec.ofNat 32 k.val)).toNat : ℝ) : EReal) * _ = _
    rw [eq_words k' ⟨k.val, by omega⟩, ← EReal.coe_mul, mul_one]
    by_cases h : k'.val = k.val
    · rw [if_pos h, if_pos h, Nat.cast_one]
    · rw [if_neg h, if_neg h, Nat.cast_zero]

theorem expand_lo (h5 : ∀ k c, a5 (ix2 k c) = ((r5 k c : ℝ) : EReal)) (h' c h k : Fin 16) :
    expand a5 (ix2 (⟨16 * h'.val + c.val, by omega⟩ : Fin 512) (at16 h k)) = (((if h' = h then -2 * padded r5 k.val c else 0 : ℝ)) : EReal) := by
  unfold expand
  refine (concatenate_apply_piece (t := S512x256) 0 _ _ _ 0 ?_ S256x256
    (kron eye (mulf (broadcastInDim S16x16 ![] bcast_S_S16x16 (constant (F := Ideal) S_ .f32 0xC0000000#32)) (kpts a5))) ?_ ?_ 0 ?_ (ix2 (at16 h' c) (at16 h k)) ?_ ?_).trans ?_
  · simp
  · rfl
  · rfl
  · simp
  · intro b hb
    match b with
    | ⟨0, _⟩ => exact absurd rfl hb
    | ⟨1, _⟩ => rfl
  · exact Nat.zero_add _
  · rw [kron_apply, eye_apply, mulf_apply, kpts_apply h5]
    rw [show broadcastInDim S16x16 ![] bcast_S_S16x16 (constant (F := Ideal) S_ .f32 0xC0000000#32) (ix2 c k) = ((-2 : ℝ) : EReal) from ofBits_neg_two]
    rw [← EReal.coe_mul, ← EReal.coe_mul]
    congr 1
    by_cases e : h' = h
    · rw [if_pos e, if_pos e, one_mul]
    · rw [if_neg e, if_neg e, zero_mul]

theorem expand_hi (h' c h k : Fin 16) :
    expand a5 (ix2 (⟨256 + (16 * h'.val + c.val), by omega⟩ : Fin 512) (at16 h k)) = (((if h' = h then 1 else 0 : ℝ)) : EReal) := by
  unfold expand
  refine (concatenate_apply_piece (t := S512x256) 0 _ _ _ 1 ?_ S256x256
    (kron eye (broadcastInDim S16x16 ![] bcast_S_S16x16 (constant (F := Ideal) S_ .f32 0x3F800000#32))) ?_ ?_ 256 ?_ (ix2 (at16 h' c) (at16 h k)) ?_ ?_).trans ?_
  · simp
  · rfl
  · rfl
  · simp
  · intro b hb
    match b with
    | ⟨0, _⟩ => exact absurd rfl hb
    | ⟨1, _⟩ => rfl
  · rfl
  · rw [kron_apply, eye_apply]
    rw [show broadcastInDim S16x16 ![] bcast_S_S16x16 (constant (F := Ideal) S_ .f32 0x3F800000#32) (ix2 c k) = ((1 : ℝ) : EReal) from ofBits_one]
    rw [← EReal.coe_mul, mul_one]

theorem squares_apply (h5 : ∀ k c, a5 (ix2 k c) = ((r5 k c : ℝ) : EReal)) (h k : Fin 16) :
    squares a5 (ix2 (0 : Fin 1) (at16 h k)) = ((∑ c, padded r5 k.val c * padded r5 k.val c : ℝ) : EReal) := by
  unfold squares
  refine (shapeCast_apply _ _ (ix2 (0 : Fin 1) (at16 h k)) (ix4 (0 : Fin 1) (0 : Fin 1) h k) ?_).trans ?_
  · rw [Shape.rowMajor_val_four, Shape.rowMajor_val_two]
    show ((0 * 1 + 0) * 16 + h.val) * 16 + k.val = 0 * 256 + (16 * h.val + k.val)
    omega
  refine (broadcastInDim_apply _ _ _ _ (ix4 (0 : Fin 1) (0 : Fin 1) (0 : Fin 1) k) fun a => by
    match a with
    | ⟨0, _⟩ => rfl
    | ⟨1, _⟩ => rfl
    | ⟨2, _⟩ => rfl
    | ⟨3, _⟩ => rfl).trans ?_
  refine (shapeCast_apply _ _ _ (ix2 (0 : Fin 1) k) ?_).trans ?_
  · rw [Shape.rowMajor_val_four, Shape.rowMajor_val_two]
    rfl
  refine (broadcastInDim_apply _ _ _ _ (ix1 k) fun a => by
    match a with
    | ⟨0, _⟩ => rfl).trans ?_
  rw [hostReduceAdd_apply, Ideal.hostReduceAdd_single _ (show S16x16.Reduces [0] S16 by decide), constant_apply, ofBits_zero, EReal.coe_zero, zero_add, coe_sum]
  refine Finset.sum_congr rfl fun (c : Fin 16) _ => ?_
  have e : (show S16x16.Reduces [0] S16 by decide).lift (ix1 k) c = ix2 c k := by
    funext a
    match a with
    | ⟨0, _⟩ => rfl
    | ⟨1, _⟩ => rfl
  refine (congrArg (mulf (kpts a5) (kpts a5)) e).trans ?_
  rw [mulf_apply, kpts_apply h5, EReal.coe_mul]

theorem lead_apply (h4 : ∀ k c o, a4 (ix3 k c o) = ((r4 k c o : ℝ) : EReal)) (k : Fin 15) (c o : Fin 64) :
    lead a4 (ix2 (at64 k c) o) = ((r4 k c o : ℝ) : EReal) := by
  unfold lead
  rw [truncf_apply, ← h4]
  refine shapeCast_apply _ _ _ _ ?_
  rw [Shape.rowMajor_val_three, Shape.rowMajor_val_two]
  show (k.val * 64 + c.val) * 64 + o.val = (64 * k.val + c.val) * 64 + o.val
  omega

theorem trail_apply (h4 : ∀ k c o, a4 (ix3 k c o) = ((r4 k c o : ℝ) : EReal)) (k : Fin 15) (c o : Fin 64) :
    trail a4 (ix2 (at64 k c) o) = ((0 : ℝ) : EReal) := by
  unfold trail
  rw [truncf_apply, subf_apply, extf_apply, lead_apply h4]
  rw [show shapeCast S960x64 a4 shapeCasts_S15x64x64_S960x64 (ix2 (at64 k c) o) = ((r4 k c o : ℝ) : EReal) from lead_apply h4 k c o]
  rw [← EReal.coe_sub, sub_self]

/-! ## The gathered rows -/

/-- The row that a neighbor's word names. -/
def row (a3 : IVec S50000x16 32) (n : Fin 50000) (h : Fin 16) : Fin 50000 := ⟨(a3 (ix2 n h)).toNat % 50000, Nat.mod_lt _ (by decide)⟩

/-- Neighbor `p` of query `off + q` stands at place `10000 * p + q` of a fifth. -/
theorem fifth_apply (off : ℕ) (h : S16x50000.Slices ![0, off] S16x10000) (p : Fin 16) (q : Fin 10000)
    (hq : off + q.val < 50000) (k : S1x160000.Idx) (hk : (k 1).val = p.val * 10000 + q.val) :
    fifth off h (byNeighbor a3) k = a3 (ix2 ⟨off + q.val, hq⟩ p) := by
  unfold fifth byNeighbor
  refine (shapeCast_apply _ _ k (ix2 p q) ?_).trans ?_
  · rw [Shape.rowMajor_val_two, Shape.rowMajor_val_two]
    have h0 : (k 0).val = 0 := by have := (k 0).isLt; have h1 : S1x160000.size 0 = 1 := rfl; omega
    show p.val * 10000 + q.val = (k 0).val * 160000 + (k 1).val
    omega
  refine (extractStridedSlice_apply _ _ _ _ (ix2 p (⟨off + q.val, hq⟩ : Fin 50000)) fun a => by
    match a with
    | ⟨0, _⟩ => exact (Nat.zero_add _).symm
    | ⟨1, _⟩ => rfl).trans ?_
  exact transpose_apply _ _ _ _ _ fun b => by
    match b with
    | ⟨0, _⟩ => rfl
    | ⟨1, _⟩ => rfl

theorem gathered_apply (tab : FVec Ideal S50000x128 .f32) (off : ℕ) (h : S16x50000.Slices ![0, off] S16x10000) (p : Fin 16) (q : Fin 10000)
    (hq : off + q.val < 50000) (l : Fin 128) :
    (shapeCast S16x10000x128 (Rows.gathered (α := Elt Ideal .f32) tab (fifth off h (byNeighbor a3))) shapeCasts_S160000x128_S16x10000x128) (ix3 p q l)
      = tab (ix2 (row a3 ⟨off + q.val, hq⟩ p) l) := by
  refine (shapeCast_apply _ _ _ (ix2 (⟨p.val * 10000 + q.val, by omega⟩ : Fin 160000) l) ?_).trans ?_
  · rw [Shape.rowMajor_val_two, Shape.rowMajor_val_three]
    rfl
  unfold Rows.gathered
  refine congrArg tab (funext fun b => ?_)
  match b with
  | 0 =>
    refine Fin.ext ?_
    show (fifth off h (byNeighbor a3) _).toNat % 50000 = _
    rw [fifth_apply off h p q hq _ rfl]
    rfl
  | 1 => rfl

/-! ## The result -/

/-- A fifth of the result, an entry of it. -/
theorem fifthOut_apply (h0 : ∀ n c, a0 (ix2 n c) = ((r0 n c : ℝ) : EReal)) (h1 : ∀ n c, a1 (ix2 n c) = ((r1 n c : ℝ) : EReal)) (h2 : ∀ n c, a2 (ix2 n c) = ((r2 n c : ℝ) : EReal))
    (h4 : ∀ k c o, a4 (ix3 k c o) = ((r4 k c o : ℝ) : EReal)) (h5 : ∀ k c, a5 (ix2 k c) = ((r5 k c : ℝ) : EReal))
    (off : ℕ) (h : S16x50000.Slices ![0, off] S16x10000) (h' : S50000x16.Slices ![off, 0] S10000x16) (q : Fin 10000) (hq : off + q.val < 50000) (o : Fin 64) :
    fifthOut off h h' a0 a1 a2 a3 a4 a5 (ix2 q o) = ((entry r0 r1 r2 (row a3) r4 r5 ⟨off + q.val, hq⟩ o : ℝ) : EReal) := by
  unfold fifthOut part
  have hdm : 400 * (q.val / 400) + q.val % 400 = q.val := by omega
  have ht : q.val / 400 < 25 := by have := q.isLt; omega
  have hm : q.val % 400 < 400 := by omega
  have hrow : ∀ (p : Fin 16) (l : Fin 128),
      Stage.rowBlock (shapeCast S16x10000x128 (Rows.gathered (α := Elt Ideal .f32) (table a0 a2) (fifth off h (byNeighbor a3))) shapeCasts_S160000x128_S16x10000x128) ⟨q.val / 400, ht⟩ (ix3 p (⟨q.val % 400, hm⟩ : Fin 400) l)
        = table a0 a2 (ix2 (row a3 ⟨off + q.val, hq⟩ p) l) := by
    intro p l
    rw [← gathered_apply (table a0 a2) off h p q hq l]
    unfold Stage.rowBlock
    congr 1
    funext a
    match a with
    | ⟨0, _⟩ => rfl
    | ⟨1, _⟩ => exact Fin.ext hdm
    | ⟨2, _⟩ => rfl
  have hqry : ∀ c : Fin 16, Stage.queryBlock (extractStridedSlice S10000x16 ![off, 0] (queries a1) h') ⟨q.val / 400, ht⟩ (ix2 (⟨q.val % 400, hm⟩ : Fin 400) c)
      = ((fill (r1 ⟨off + q.val, hq⟩) c : ℝ) : EReal) := by
    intro c
    rw [← queries_apply h1]
    unfold Stage.queryBlock
    refine extractStridedSlice_apply _ _ _ _ _ fun a => ?_
    match a with
    | ⟨0, _⟩ => show off + q.val = off + (400 * (q.val / 400) + q.val % 400); rw [hdm]
    | ⟨1, _⟩ => exact (Nat.zero_add _).symm
  unfold Stage.staged
  refine (TcBody.left_apply (p := fun p c => fill (r2 (row a3 ⟨off + q.val, hq⟩ p)) c) (q := fun c => fill (r1 ⟨off + q.val, hq⟩) c) (f := fun p => r0 (row a3 ⟨off + q.val, hq⟩ p))
    (kp := fun k c => padded r5 k.val c) (A := r4) (r := ⟨q.val % 400, hm⟩)
    (fun p c => (hrow p _).trans (table_point h2 _ c)) hqry (fun p c => (hrow p _).trans (table_feat h0 _ c)) (expand_lo h5) expand_hi (squares_apply h5) spread_apply
    (lead_apply h4) (trail_apply h4) o).trans ?_
  unfold entry
  congr 2
  funext p k
  rw [fill_sub]
  rw [show (fun c => padded r5 k.val c) = fill (r5 k) from funext fun c => by unfold padded; rw [dif_pos k.isLt]]
  rw [dist2_fill]

/-- The kernel's result, an entry of it. -/
theorem result_apply (h0 : ∀ n c, a0 (ix2 n c) = ((r0 n c : ℝ) : EReal)) (h1 : ∀ n c, a1 (ix2 n c) = ((r1 n c : ℝ) : EReal)) (h2 : ∀ n c, a2 (ix2 n c) = ((r2 n c : ℝ) : EReal))
    (h4 : ∀ k c o, a4 (ix3 k c o) = ((r4 k c o : ℝ) : EReal)) (h5 : ∀ k c, a5 (ix2 k c) = ((r5 k c : ℝ) : EReal)) (n : Fin 50000) (o : Fin 64) :
    result a0 a1 a2 a3 a4 a5 (ix2 n o) = ((entry r0 r1 r2 (row a3) r4 r5 n o : ℝ) : EReal) := by
  have piece : ∀ (off : ℕ) (h : S16x50000.Slices ![0, off] S16x10000) (h' : S50000x16.Slices ![off, 0] S10000x16) (q : Fin 10000) (hq : off + q.val = n.val),
      fifthOut off h h' a0 a1 a2 a3 a4 a5 (ix2 q o) = ((entry r0 r1 r2 (row a3) r4 r5 n o : ℝ) : EReal) := by
    intro off h h' q hq
    rw [fifthOut_apply h0 h1 h2 h4 h5 off h h' q (hq ▸ n.isLt) o]
    rw [show (⟨off + q.val, hq ▸ n.isLt⟩ : Fin 50000) = n from Fin.ext hq]
  have place : ∀ off : ℕ, off ≤ n.val → n.val < off + 10000 → ∃ q : Fin 10000, off + q.val = n.val :=
    fun off hl hu => ⟨⟨n.val - off, by omega⟩, by show off + (n.val - off) = n.val; omega⟩
  unfold result
  have hn := n.isLt
  rcases (by omega : n.val < 10000 ∨ (10000 ≤ n.val ∧ n.val < 20000) ∨ (20000 ≤ n.val ∧ n.val < 30000) ∨ (30000 ≤ n.val ∧ n.val < 40000) ∨ 40000 ≤ n.val) with e | e | e | e | e
  · obtain ⟨q, hq⟩ := place 0 (by omega) (by omega)
    refine (concatenate_apply_piece (t := S50000x64) 0 _ _ _ 0 ?_ S10000x64
      (fifthOut 0 slices_S16x50000_S16x10000_0_0 slices_S50000x16_S10000x16_0_0 a0 a1 a2 a3 a4 a5) ?_ ?_ 0 ?_ (ix2 q o) ?_ ?_).trans (piece 0 _ _ q hq)
    · simp
    · rfl
    · rfl
    · simp
    · intro b hb
      match b with
      | ⟨0, _⟩ => exact absurd rfl hb
      | ⟨1, _⟩ => rfl
    · exact hq
  · obtain ⟨q, hq⟩ := place 10000 (by omega) (by omega)
    refine (concatenate_apply_piece (t := S50000x64) 0 _ _ _ 1 ?_ S10000x64
      (fifthOut 10000 slices_S16x50000_S16x10000_0_10000 slices_S50000x16_S10000x16_10000_0 a0 a1 a2 a3 a4 a5) ?_ ?_ 10000 ?_ (ix2 q o) ?_ ?_).trans (piece 10000 _ _ q hq)
    · simp
    · rfl
    · rfl
    · simp
    · intro b hb
      match b with
      | ⟨0, _⟩ => exact absurd rfl hb
      | ⟨1, _⟩ => rfl
    · exact hq
  · obtain ⟨q, hq⟩ := place 20000 (by omega) (by omega)
    refine (concatenate_apply_piece (t := S50000x64) 0 _ _ _ 2 ?_ S10000x64
      (fifthOut 20000 slices_S16x50000_S16x10000_0_20000 slices_S50000x16_S10000x16_20000_0 a0 a1 a2 a3 a4 a5) ?_ ?_ 20000 ?_ (ix2 q o) ?_ ?_).trans (piece 20000 _ _ q hq)
    · simp
    · rfl
    · rfl
    · simp
    · intro b hb
      match b with
      | ⟨0, _⟩ => exact absurd rfl hb
      | ⟨1, _⟩ => rfl
    · exact hq
  · obtain ⟨q, hq⟩ := place 30000 (by omega) (by omega)
    refine (concatenate_apply_piece (t := S50000x64) 0 _ _ _ 3 ?_ S10000x64
      (fifthOut 30000 slices_S16x50000_S16x10000_0_30000 slices_S50000x16_S10000x16_30000_0 a0 a1 a2 a3 a4 a5) ?_ ?_ 30000 ?_ (ix2 q o) ?_ ?_).trans (piece 30000 _ _ q hq)
    · simp
    · rfl
    · rfl
    · simp
    · intro b hb
      match b with
      | ⟨0, _⟩ => exact absurd rfl hb
      | ⟨1, _⟩ => rfl
    · exact hq
  · obtain ⟨q, hq⟩ := place 40000 (by omega) (by omega)
    refine (concatenate_apply_piece (t := S50000x64) 0 _ _ _ 4 ?_ S10000x64
      (fifthOut 40000 slices_S16x50000_S16x10000_0_40000 slices_S50000x16_S10000x16_40000_0 a0 a1 a2 a3 a4 a5) ?_ ?_ 40000 ?_ (ix2 q o) ?_ ?_).trans (piece 40000 _ _ q hq)
    · simp
    · rfl
    · rfl
    · simp
    · intro b hb
      match b with
      | ⟨0, _⟩ => exact absurd rfl hb
      | ⟨1, _⟩ => rfl
    · exact hq

end Cert.Proof.Host

end
-- ==== Proof.RefValue.lean ====
/- What the claims assume, and the reference's result in real numbers. `jnp.take` wraps a negative index, looks the row up at the clamped
   index and puts a fill value where the index was out of range: where every index is a row number of the table nothing of that shows. -/
module

public import proofs.«01_k».proof.Proof.Gen.ReferenceIdeal.Run
public import proofs.«01_k».proof.Proof.Gen.Pre_in_range
public import proofs.«01_k».proof.Proof.Gen.Pre_finite_in_range
public import proofs.«01_k».proof.Proof.Reals
public import Idealize.ShloMosaic.Lib.ReduceAll
public import Idealize.ShloMosaic.Lib.ValueIdx
public import Idealize.ShloMosaic.Lib.ValueIdxCore
public import Idealize.ShloMosaic.Lib.KernelVsHost
public import Idealize.ShloMosaic.Lib.IdealHost
public import Idealize.ShloMosaic.Lib.TwoAxisContraction

@[expose] public section

noncomputable section

namespace Cert.Proof.RefValue

open Cert.Proof.Reals
open Idealize.ShloMosaic
open Idealize.ShloMosaic.ValueIdx
open scoped BigOperators

/-! ## Words below 50000 -/

theorem not_neg {v : BitVec 32} (h : v.toNat < 50000) : IntOp.cmpi .slt v 0#32 = 0#1 := by
  simp only [IntOp.cmpi, BitVec.slt_eq_decide, BitVec.toInt_eq_toNat_cond, BitVec.toNat_ofNat, Nat.reducePow, Nat.reduceMod]
  rw [decide_eq_false (by omega)]; rfl

theorem ge_zero {v : BitVec 32} (h : v.toNat < 50000) : IntOp.cmpi .sge v 0#32 = 1#1 := by
  simp only [IntOp.cmpi, BitVec.sle_eq_decide, BitVec.toInt_eq_toNat_cond, BitVec.toNat_ofNat, Nat.reducePow, Nat.reduceMod]
  rw [decide_eq_true (by omega)]; rfl

theorem le_last {v : BitVec 32} (h : v.toNat < 50000) : IntOp.cmpi .sle v 50000#32 = 1#1 := by
  simp only [IntOp.cmpi, BitVec.sle_eq_decide, BitVec.toInt_eq_toNat_cond, BitVec.toNat_ofNat, Nat.reducePow, Nat.reduceMod]
  rw [decide_eq_true (by omega)]; rfl

theorem toInt_toNat {v : BitVec 32} (h : v.toNat < 50000) : v.toInt.toNat = v.toNat := by
  rw [BitVec.toInt_eq_toNat_cond]; simp only [Nat.reducePow]; omega

theorem one_of_ofBool {b : Bool} (h : BitVec.ofBool b = 1#1) : b = true := by cases b <;> simp_all

/-- A word that, read signed, is neither below 0 nor at 50000 or above, is below 50000. -/
theorem lt_of_cmp {v : BitVec 32} (h : IntOp.andi (IntOp.cmpi .sge v 0#32) (IntOp.cmpi .slt v 50000#32) = 1#1) : v.toNat < 50000 := by
  obtain ⟨h1, h2⟩ := IntOp.andi_eq_one.1 h
  replace h1 := one_of_ofBool (show BitVec.ofBool _ = 1#1 from h1)
  replace h2 := one_of_ofBool (show BitVec.ofBool _ = 1#1 from h2)
  simp only [BitVec.sle_eq_decide, BitVec.slt_eq_decide, decide_eq_true_eq, BitVec.toInt_eq_toNat_cond, BitVec.toNat_ofNat, Nat.reducePow,
    Nat.reduceMod] at h1 h2
  omega

/-! ## What the claims assume -/

section Pre

/-- The range, read at one index. -/
theorem range {F : FTy → Type} [FloatOps F] (a0 : FVec F Cert.Pre_in_range.S50000x64 .f32) (a1 a2 : FVec F Cert.Pre_in_range.S50000x3 .f32) (w : IVec Cert.Pre_in_range.S50000x16 32)
    (a4 : FVec F Cert.Pre_in_range.S15x64x64 .f32) (a5 : FVec F Cert.Pre_in_range.S15x3 .f32)
    (h : Cert.Pre_in_range.fn (F := F) a0 a1 a2 w a4 a5 = fun _ => 1#1) (x : Cert.Pre_in_range.S50000x16.Idx) : (w x).toNat < 50000 := by
  haveI : Subsingleton Cert.Pre_in_range.S_.Idx := ⟨fun a b => funext fun i => nomatch i⟩
  have e := congrFun h (Shape.Idx.first Cert.Pre_in_range.Gen.facts.h_S_)
  exact lt_of_cmp (Host.reduce_andi_all _ _ _ _ _ e x)

/-- An extended real whose absolute value is below infinity is a real number. -/
theorem real_of {x : EReal} (h : Ideal.cmp .olt (max x (-x)) (Ideal.ofBits .f32 0x7F800000#32) = 1#1) : ∃ r : ℝ, x = ((r : ℝ) : EReal) := by
  have hi : Ideal.ofBits .f32 0x7F800000#32 = ⊤ := by simp [Ideal.ofBits, Ideal.ieee]
  rw [hi] at h
  have h' : max x (-x) < ⊤ := of_decide_eq_true (one_of_ofBool h)
  induction x with
  | bot => simp at h'
  | coe r => exact ⟨r, rfl⟩
  | top => simp at h'

open Cert.Pre_finite_in_range Cert.Pre_finite_in_range.Gen in
/-- What the value claim assumes: every float is a real number and every index a row number. -/
theorem finite (a0 : FVec Ideal S50000x64 .f32) (a1 a2 : FVec Ideal S50000x3 .f32) (w : IVec S50000x16 32) (a4 : FVec Ideal S15x64x64 .f32) (a5 : FVec Ideal S15x3 .f32)
    (h : Cert.Pre_finite_in_range.fn (F := Ideal) a0 a1 a2 w a4 a5 = fun _ => 1#1) :
    (∀ x, ∃ r : ℝ, a0 x = ((r : ℝ) : EReal)) ∧ (∀ x, ∃ r : ℝ, a1 x = ((r : ℝ) : EReal)) ∧ (∀ x, ∃ r : ℝ, a2 x = ((r : ℝ) : EReal))
      ∧ (∀ x, ∃ r : ℝ, a4 x = ((r : ℝ) : EReal)) ∧ (∀ x, ∃ r : ℝ, a5 x = ((r : ℝ) : EReal)) ∧ ∀ x, (w x).toNat < 50000 := by
  haveI : Subsingleton S_.Idx := ⟨fun a b => funext fun i => nomatch i⟩
  have e := congrFun h (Shape.Idx.first Cert.Pre_finite_in_range.Gen.facts.h_S_)
  obtain ⟨e, hw⟩ := IntOp.andi_eq_one.1 e
  obtain ⟨e, h5⟩ := IntOp.andi_eq_one.1 e
  obtain ⟨e, h4⟩ := IntOp.andi_eq_one.1 e
  obtain ⟨e, h2⟩ := IntOp.andi_eq_one.1 e
  obtain ⟨h0, h1⟩ := IntOp.andi_eq_one.1 e
  exact ⟨fun x => real_of (Host.reduce_andi_all _ _ _ _ _ h0 x), fun x => real_of (Host.reduce_andi_all _ _ _ _ _ h1 x), fun x => real_of (Host.reduce_andi_all _ _ _ _ _ h2 x),
    fun x => real_of (Host.reduce_andi_all _ _ _ _ _ h4 x), fun x => real_of (Host.reduce_andi_all _ _ _ _ _ h5 x), fun x => lt_of_cmp (Host.reduce_andi_all _ _ _ _ _ hw x)⟩

end Pre

/-! ## A lookup of rows by a plane of row numbers -/

section
variable {α : Type} {N A B C : ℕ}

/-- The lookup of rows of C entries. -/
abbrev lookup (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- The lookup, entry by entry, at row numbers of the table. -/
theorem lookup_apply (wf : GatherDims.WF ⟨2, ![N, C]⟩ ⟨3, ![A, B, 1]⟩ ⟨3, ![A, B, C]⟩ [2] [0] [] [0] [] 2 ![1, C])
    (tb : (⟨2, ![N, C]⟩ : Shape).Idx → α) (w : IVec ⟨3, ![A, B, 1]⟩ 32) (p : Fin A) (q : Fin B) (c : Fin C)
    (h : (w (ix3 p q 0)).toNat < 50000) (hN : 50000 ≤ N) :
    Host.gather (lookup wf) tb w (ix3 p q c) = tb (ix2 ⟨(w (ix3 p q 0)).toNat, lt_of_lt_of_le h hN⟩ c) := by
  unfold Host.gather
  refine congrArg tb (funext fun a => Fin.ext ?_)
  match a with
  | 0 =>
    show GatherDims.start _ _ w 0 + GatherDims.batchCoord _ _ 0 + GatherDims.offCoord _ _ 0 = _
    rw [GatherDims.batchCoord_eq_zero _ _ _ (fun h => by cases h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (lookup wf).startIndexMap from List.mem_singleton.mpr rfl)]
    have hs : GatherDims.siIdx (lookup wf) (ix3 p q c) ⟨List.idxOf (0 : Fin 2)
        (lookup wf).startIndexMap, List.idxOf_lt_length_iff.2 (List.mem_singleton.mpr rfl)⟩
        = ix3 p q 0 := by
      funext b
      match b with
      | 0 => rfl
      | 1 => rfl
      | 2 => rfl
    rw [hs, toInt_toNat h]
    exact Nat.min_eq_left (by show _ ≤ N - 1; omega)
  | 1 =>
    show GatherDims.start _ _ w 1 + GatherDims.batchCoord _ _ 1 + GatherDims.offCoord _ _ 1 = _
    rw [GatherDims.batchCoord_eq_zero _ _ _ (fun h => by cases h)]
    unfold GatherDims.start GatherDims.offCoord
    rw [dif_neg (show (1 : Fin 2) ∉ (lookup wf).startIndexMap from fun h => absurd (List.mem_singleton.mp h) (show ¬ (1 : Fin 2) = 0 from by decide)),
      dif_pos (show (1 : Fin 2) ∈ (lookup wf).sKept from (GatherDims.mem_sKept _ _).mpr ⟨fun h => absurd (List.mem_singleton.mp h) (show ¬ (1 : Fin 2) = 0 from by decide), fun h => by cases h⟩)]
    show 0 + 0 + ((ix3 p q c) _).val = c.val
    rw [Nat.zero_add]
    rfl

end

/-! ## The reference's rows -/

open Cert.ReferenceIdeal Cert.ReferenceIdeal.Gen

variable {F : FTy → Type} [FloatOps F]

/-- The row numbers as `jnp.take` looks them up: a negative one wrapped. -/
def wrapped (v : IVec S50000x16 32) : IVec S50000x16x1 32 :=
  broadcastInDim S50000x16x1 ![0, 1] bcast_S50000x16_S50000x16x1_0_1 (select (cmpi .slt v (broadcastInDim S50000x16 ![] bcast_S_S50000x16 (constantI S_ 32 0#32))) (addi v (broadcastInDim S50000x16 ![] bcast_S_S50000x16 (constantI S_ 32 50001#32))) v)

/-- Where a row number is in range. -/
def mask (u : IVec S50000x16x1 32) : IVec S50000x16 1 :=
  Host.reduce IntOp.andi (andi (cmpi .sge u (broadcastInDim S50000x16x1 ![] bcast_S_S50000x16x1 (constantI S_ 32 0#32))) (cmpi .sle u (broadcastInDim S50000x16x1 ![0, 1, 2] bcast_S1x1x1_S50000x16x1_0_1_2 (broadcastInDim S1x1x1 ![2] bcast_S1_S1x1x1_2 (constantI S1 32 50000#32))))) (constantI S_ 1 1#1) reducesTo_S50000x16x1_S50000x16_d2 h_S_

/-- The features of the neighbors, or the fill value. -/
def feats (a0 : FVec F S50000x64 .f32) (u : IVec S50000x16x1 32) : FVec F S50000x16x64 .f32 :=
  select (broadcastInDim S50000x16x64 ![0, 1] bcast_S50000x16_S50000x16x64_0_1 (mask u))
    (Host.gather gather_S50001x64_S50000x16x1_S50000x16x64_2_0_n_n_0_2_164 (concatenate S50001x64 0 [⟨S50000x64, a0⟩, ⟨S1x64, broadcastInDim S1x64 ![] bcast_S_S1x64 (constant (F := F) S_ .f32 0x00000000#32)⟩] concatenates_S50000x64_S1x64_S50001x64_d0) u)
    (broadcastInDim S50000x16x64 ![] bcast_S_S50000x16x64 (constant (F := F) S_ .f32 0x7FC00000#32))

/-- The points of the neighbors, or the fill value. -/
def pts (a1 : FVec F S50000x3 .f32) (u : IVec S50000x16x1 32) : FVec F S50000x16x3 .f32 :=
  select (broadcastInDim S50000x16x3 ![0, 1] bcast_S50000x16_S50000x16x3_0_1 (mask u))
    (Host.gather gather_S50001x3_S50000x16x1_S50000x16x3_2_0_n_n_0_2_13 (concatenate S50001x3 0 [⟨S50000x3, a1⟩, ⟨S1x3, broadcastInDim S1x3 ![] bcast_S_S1x3 (constant (F := F) S_ .f32 0x49742400#32)⟩] concatenates_S50000x3_S1x3_S50001x3_d0) u)
    (broadcastInDim S50000x16x3 ![] bcast_S_S50000x16x3 (constant (F := F) S_ .f32 0x7FC00000#32))

/-- A row number of the table is not wrapped. -/
theorem wrapped_apply (v : IVec S50000x16 32) (hv : ∀ k, (v k).toNat < 50000) (p : Fin 50000) (q : Fin 16) : wrapped v (ix3 p q 0) = v (ix2 p q) := by
  unfold wrapped
  rw [broadcastInDim_apply _ _ _ _ (ix2 p q) (fun a => match a with | 0 => rfl | 1 => rfl)]
  show (if IntOp.cmpi .slt (v (ix2 p q)) 0#32 = 1#1 then _ else v (ix2 p q)) = v (ix2 p q)
  rw [not_neg (hv _)]
  exact if_neg (by decide)

theorem wrapped_lt (v : IVec S50000x16 32) (hv : ∀ k, (v k).toNat < 50000) (x : S50000x16x1.Idx) : (wrapped v x).toNat < 50000 := by
  have e : x = ix3 (x 0) (x 1) 0 := by
    funext a
    match a with
    | 0 => rfl
    | 1 => rfl
    | 2 => exact Fin.ext (by have := (x 2).isLt; show (x 2).val = 0; have h1 : S50000x16x1.size 2 = 1 := rfl; omega)
  rw [e]
  exact (congrArg BitVec.toNat (wrapped_apply v hv (x 0) (x 1))).trans_lt (hv _)

theorem mask_one (u : IVec S50000x16x1 32) (hu : ∀ x, (u x).toNat < 50000) : mask u = fun _ => 1#1 :=
  funext fun _ => Host.reduce_andi_one _ _ _ _ _ rfl fun x => IntOp.andi_eq_one.2 ⟨ge_zero (hu x), le_last (hu x)⟩

/-- A looked up row of features. -/
theorem feats_apply (a0 : FVec F S50000x64 .f32) (u : IVec S50000x16x1 32) (hu : ∀ x, (u x).toNat < 50000) (p : Fin 50000) (q : Fin 16) (c : Fin 64) :
    feats a0 u (ix3 p q c) = a0 (ix2 ⟨(u (ix3 p q 0)).toNat, hu _⟩ c) := by
  unfold feats
  rw [mask_one u hu]
  refine (lookup_apply gather_S50001x64_S50000x16x1_S50000x16x64_2_0_n_n_0_2_164_wf
    (concatenate S50001x64 0 [⟨S50000x64, a0⟩, ⟨S1x64, broadcastInDim S1x64 ![] bcast_S_S1x64 (constant (F := F) S_ .f32 0x00000000#32)⟩] concatenates_S50000x64_S1x64_S50001x64_d0) u p q c (hu _) (show 50000 ≤ 50001 from by decide)).trans ?_
  refine concatenate_apply_piece (t := S50001x64) 0 _ _ _ 0 (by simp) S50000x64 a0 rfl rfl 0 rfl _ (fun b hb => ?_) (by show 0 + _ = _; rw [Nat.zero_add]; rfl)
  match b with
  | 0 => exact absurd rfl hb
  | 1 => rfl

/-- A looked up row of points. -/
theorem pts_apply (a1 : FVec F S50000x3 .f32) (u : IVec S50000x16x1 32) (hu : ∀ x, (u x).toNat < 50000) (p : Fin 50000) (q : Fin 16) (c : Fin 3) :
    pts a1 u (ix3 p q c) = a1 (ix2 ⟨(u (ix3 p q 0)).toNat, hu _⟩ c) := by
  unfold pts
  rw [mask_one u hu]
  refine (lookup_apply gather_S50001x3_S50000x16x1_S50000x16x3_2_0_n_n_0_2_13_wf
    (concatenate S50001x3 0 [⟨S50000x3, a1⟩, ⟨S1x3, broadcastInDim S1x3 ![] bcast_S_S1x3 (constant (F := F) S_ .f32 0x49742400#32)⟩] concatenates_S50000x3_S1x3_S50001x3_d0) u p q c (hu _) (show 50000 ≤ 50001 from by decide)).trans ?_
  refine concatenate_apply_piece (t := S50001x3) 0 _ _ _ 0 (by simp) S50000x3 a1 rfl rfl 0 rfl _ (fun b hb => ?_) (by show 0 + _ = _; rw [Nat.zero_add]; rfl)
  match b with
  | 0 => exact absurd rfl hb
  | 1 => rfl

/-! ## The reference's result -/

/-- The neighbors' points less the query points, less each kernel point. -/
def differences (a1 : FVec F S50000x3 .f32) (P : FVec F S50000x16x3 .f32) (a5 : FVec F S15x3 .f32) : FVec F S50000x16x15x3 .f32 :=
  subf (broadcastInDim S50000x16x15x3 ![0, 1, 2, 3] bcast_S50000x16x1x3_S50000x16x15x3_0_1_2_3 (broadcastInDim S50000x16x1x3 ![0, 1, 3] bcast_S50000x16x3_S50000x16x1x3_0_1_3
      (subf P (broadcastInDim S50000x16x3 ![0, 1, 2] bcast_S50000x1x3_S50000x16x3_0_1_2 (broadcastInDim S50000x1x3 ![0, 2] bcast_S50000x3_S50000x1x3_0_2 a1)))))
    (broadcastInDim S50000x16x15x3 ![0, 1, 2, 3] bcast_S1x1x15x3_S50000x16x15x3_0_1_2_3 (broadcastInDim S1x1x15x3 ![2, 3] bcast_S15x3_S1x1x15x3_2_3 a5))

/-- The influences. -/
def influences (D : FVec F S50000x16x15x3 .f32) : FVec F S50000x16x15 .f32 :=
  maximumf (subf (broadcastInDim S50000x16x15 ![] bcast_S_S50000x16x15 (constant S_ .f32 0x3F800000#32))
    (Host.divf (Host.sqrt (Host.reduceAdd (mulf D D) (constant S_ .f32 0x00000000#32) reducesTo_S50000x16x15x3_S50000x16x15_d3 h_S_)) (broadcastInDim S50000x16x15 ![] bcast_S_S50000x16x15 (constant S_ .f32 0x40000000#32))))
    (broadcastInDim S50000x16x15 ![] bcast_S_S50000x16x15 (constant S_ .f32 0x00000000#32))

/-- The features, weighted by the influences. -/
def weighted (w : FVec F S50000x16x15 .f32) (f : FVec F S50000x16x64 .f32) : FVec F S50000x15x64 .f32 :=
  Host.dotGeneral dot_S50000x15x16_S50000x16x64_S50000x15x64_2_1_1_2_0_0 none (transpose S50000x15x16 [0, 2, 1] w transposes_S50000x16x15_S50000x15x16_0_2_1) f

/-- How many neighbors have features, at least one. -/
def counts (f : FVec F S50000x16x64 .f32) : FVec F S50000 .f32 :=
  maximumf (Host.reduceAdd (uitofp .f32 (cmpf .ogt (Host.reduceAdd f (constant S_ .f32 0x00000000#32) reducesTo_S50000x16x64_S50000x16_d2 h_S_) (broadcastInDim S50000x16 ![] bcast_S_S50000x16 (constant S_ .f32 0x00000000#32))))
    (constant S_ .f32 0x00000000#32) reducesTo_S50000x16_S50000_d1 h_S_) (broadcastInDim S50000 ![] bcast_S_S50000 (constant S_ .f32 0x3F800000#32))

/-- The result, of the looked up features and points. -/
def outOf (f : FVec F S50000x16x64 .f32) (P : FVec F S50000x16x3 .f32) (a1 : FVec F S50000x3 .f32) (a4 : FVec F S15x64x64 .f32) (a5 : FVec F S15x3 .f32) : FVec F S50000x64 .f32 :=
  Host.divf (Host.dotGeneral dot_S50000x15x64_S15x64x64_S50000x64_21_10_0_2_n_n none (weighted (influences (differences a1 P a5)) f) a4)
    (broadcastInDim S50000x64 ![0, 1] bcast_S50000x1_S50000x64_0_1 (broadcastInDim S50000x1 ![0] bcast_S50000_S50000x1_0 (counts f)))

/-- The result, of the arguments. -/
def result (a0 : FVec F S50000x64 .f32) (a1 a2 : FVec F S50000x3 .f32) (a3 : IVec S50000x16 32) (a4 : FVec F S15x64x64 .f32) (a5 : FVec F S15x3 .f32) : FVec F S50000x64 .f32 :=
  outOf (feats a0 (wrapped a3)) (pts a2 (wrapped a3)) a1 a4 a5

/-- It is what the run leaves. -/
theorem run_result (m : (ℓ : Loc nD τ sig) → Buf (Elt F) ℓ) (c : Dev nD) :
    Cert.ReferenceIdeal.Value.res_main_v35 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold Cert.ReferenceIdeal.Value.res_main_v35
  rfl

/-! ## In real numbers -/

section Real

variable {f : FVec Ideal S50000x16x64 .f32} {P : FVec Ideal S50000x16x3 .f32} {a1 : FVec Ideal S50000x3 .f32} {a4 : FVec Ideal S15x64x64 .f32} {a5 : FVec Ideal S15x3 .f32}
  {G : Fin 16 → Fin 64 → ℝ} {Q : Fin 16 → Fin 3 → ℝ} {r1 : Fin 3 → ℝ} {r4 : Fin 15 → Fin 64 → Fin 64 → ℝ} {r5 : Fin 15 → Fin 3 → ℝ} {n : Fin 50000}

theorem differences_apply (hP : ∀ h c, P (ix3 n h c) = ((Q h c : ℝ) : EReal)) (h1 : ∀ c, a1 (ix2 n c) = ((r1 c : ℝ) : EReal)) (h5 : ∀ k c, a5 (ix2 k c) = ((r5 k c : ℝ) : EReal))
    (h : Fin 16) (k : Fin 15) (c : Fin 3) : differences a1 P a5 (ix4 n h k c) = ((Q h c - r1 c - r5 k c : ℝ) : EReal) := by
  unfold differences
  rw [subf_apply, EReal.coe_sub, EReal.coe_sub, ← hP, ← h1, ← h5]
  congr 1
  · refine (broadcastInDim_apply _ _ _ _ (ix4 n h (0 : Fin 1) c) fun a => by
      match a with
      | ⟨0, _⟩ => rfl
      | ⟨1, _⟩ => rfl
      | ⟨2, _⟩ => rfl
      | ⟨3, _⟩ => rfl).trans ?_
    refine (broadcastInDim_apply _ _ _ _ (ix3 n h c) fun a => by
      match a with
      | ⟨0, _⟩ => rfl
      | ⟨1, _⟩ => rfl
      | ⟨2, _⟩ => rfl).trans ?_
    rw [subf_apply]
    congr 1
    refine (broadcastInDim_apply _ _ _ _ (ix3 n (0 : Fin 1) c) fun a => by
      match a with
      | ⟨0, _⟩ => rfl
      | ⟨1, _⟩ => rfl
      | ⟨2, _⟩ => rfl).trans ?_
    exact broadcastInDim_apply _ _ _ _ (ix2 n c) fun a => by
      match a with
      | ⟨0, _⟩ => rfl
      | ⟨1, _⟩ => rfl
  · refine (broadcastInDim_apply _ _ _ _ (ix4 (0 : Fin 1) (0 : Fin 1) k c) fun a => by
      match a with
      | ⟨0, _⟩ => rfl
      | ⟨1, _⟩ => rfl
      | ⟨2, _⟩ => rfl
      | ⟨3, _⟩ => rfl).trans ?_
    exact broadcastInDim_apply _ _ _ _ (ix2 k c) fun a => by
      match a with
      | ⟨0, _⟩ => rfl
      | ⟨1, _⟩ => rfl

theorem influences_apply {D : FVec Ideal S50000x16x15x3 .f32} {d k : Fin 3 → ℝ} (h : Fin 16) (j : Fin 15) (hD : ∀ c, D (ix4 n h j c) = ((d c - k c : ℝ) : EReal)) :
    influences D (ix3 n h j) = ((infl (sqdist d k) : ℝ) : EReal) := by
  have hs : (Host.reduceAdd (mulf D D) (constant S_ .f32 0x00000000#32) reducesTo_S50000x16x15x3_S50000x16x15_d3 h_S_ : FVec Ideal S50000x16x15 .f32) (ix3 n h j) = ((sqdist d k : ℝ) : EReal) := by
    rw [hostReduceAdd_apply, Ideal.hostReduceAdd_single _ (show S50000x16x15x3.Reduces [3] S50000x16x15 by decide), constant_apply, ofBits_zero, EReal.coe_zero, zero_add]
    unfold sqdist
    rw [coe_sum]
    refine Finset.sum_congr rfl fun (c : Fin 3) _ => ?_
    have e : (show S50000x16x15x3.Reduces [3] S50000x16x15 by decide).lift (ix3 n h j) c = ix4 n h j c := by
      funext a
      match a with
      | ⟨0, _⟩ => rfl
      | ⟨1, _⟩ => rfl
      | ⟨2, _⟩ => rfl
      | ⟨3, _⟩ => rfl
    refine (congrArg (mulf D D) e).trans ?_
    rw [mulf_apply, hD, EReal.coe_mul]
  unfold influences
  generalize (Host.reduceAdd (mulf D D) (constant S_ .f32 0x00000000#32) reducesTo_S50000x16x15x3_S50000x16x15_d3 h_S_ : FVec Ideal S50000x16x15 .f32) = R at hs ⊢
  rw [maximumf_apply, subf_apply, hostDivf_apply]
  show max (Ideal.ofBits .f32 0x3F800000#32 - Ideal.div (Ideal.sqrt (R (ix3 n h j))) (Ideal.ofBits .f32 0x40000000#32)) (Ideal.ofBits .f32 0x00000000#32) = _
  rw [hs, ofBits_one, ofBits_two, ofBits_zero, sqrt_coe_nonneg (sqdist_nonneg d k), div_coe_coe _ (by norm_num), ← EReal.coe_sub, ← coe_max]
  congr 2
  ring

theorem weighted_apply {w : FVec Ideal S50000x16x15 .f32} {W : Fin 16 → Fin 15 → ℝ} (hw : ∀ h k, w (ix3 n h k) = ((W h k : ℝ) : EReal)) (hf : ∀ h c, f (ix3 n h c) = ((G h c : ℝ) : EReal))
    (k : Fin 15) (c : Fin 64) : weighted w f (ix3 n k c) = ((∑ h, W h k * G h c : ℝ) : EReal) := by
  unfold weighted
  simp only [Host.dotGeneral]
  rw [Ideal.dotGeneral_apply, ← Equiv.sum_comp (contrEquiv1 dot_S50000x15x16_S50000x16x64_S50000x15x64_2_1_1_2_0_0 16 rfl rfl).symm, coe_sum]
  refine Finset.sum_congr rfl fun h _ => ?_
  have hk := contrEquiv1_symm_val dot_S50000x15x16_S50000x16x64_S50000x15x64_2_1_1_2_0_0 16 rfl rfl h
  have el : dot_S50000x15x16_S50000x16x64_S50000x15x64_2_1_1_2_0_0.lhsIdx (ix3 n k c) ((contrEquiv1 dot_S50000x15x16_S50000x16x64_S50000x15x64_2_1_1_2_0_0 16 rfl rfl).symm h) = ix3 n k h := by
    funext a; apply Fin.ext
    match a with
    | ⟨0, _⟩ => rfl
    | ⟨1, _⟩ => rfl
    | ⟨2, _⟩ => exact hk
  have er : dot_S50000x15x16_S50000x16x64_S50000x15x64_2_1_1_2_0_0.rhsIdx (ix3 n k c) ((contrEquiv1 dot_S50000x15x16_S50000x16x64_S50000x15x64_2_1_1_2_0_0 16 rfl rfl).symm h) = ix3 n h c := by
    funext a; apply Fin.ext
    match a with
    | ⟨0, _⟩ => rfl
    | ⟨1, _⟩ => exact hk
    | ⟨2, _⟩ => rfl
  rw [el, er, hf, EReal.coe_mul, ← hw]
  congr 1
  exact transpose_apply _ _ _ _ _ fun b => by
    match b with
    | ⟨0, _⟩ => rfl
    | ⟨1, _⟩ => rfl
    | ⟨2, _⟩ => rfl

theorem product_apply {v : FVec Ideal S50000x15x64 .f32} {V : Fin 15 → Fin 64 → ℝ} (hv : ∀ k c, v (ix3 n k c) = ((V k c : ℝ) : EReal)) (h4 : ∀ k c o, a4 (ix3 k c o) = ((r4 k c o : ℝ) : EReal))
    (o : Fin 64) : (Host.dotGeneral dot_S50000x15x64_S15x64x64_S50000x64_21_10_0_2_n_n none v a4 : FVec Ideal S50000x64 .f32) (ix2 n o) = ((∑ k, ∑ c, V k c * r4 k c o : ℝ) : EReal) := by
  simp only [Host.dotGeneral]
  rw [Ideal.dotGeneral_apply, sum_contr2 dot_S50000x15x64_S15x64x64_S50000x64_21_10_0_2_n_n 64 15 rfl rfl rfl, Finset.sum_comm, coe_sum]
  refine Finset.sum_congr rfl fun k _ => ?_
  rw [coe_sum]
  refine Finset.sum_congr rfl fun c _ => ?_
  have hk0 := contrEquiv2_symm_val0 dot_S50000x15x64_S15x64x64_S50000x64_21_10_0_2_n_n 64 15 rfl rfl rfl (c, k)
  have hk1 := contrEquiv2_symm_val1 dot_S50000x15x64_S15x64x64_S50000x64_21_10_0_2_n_n 64 15 rfl rfl rfl (c, k)
  have el : dot_S50000x15x64_S15x64x64_S50000x64_21_10_0_2_n_n.lhsIdx (ix2 n o) ((contrEquiv2 dot_S50000x15x64_S15x64x64_S50000x64_21_10_0_2_n_n 64 15 rfl rfl rfl).symm (c, k)) = ix3 n k c := by
    funext a; apply Fin.ext
    match a with
    | ⟨0, _⟩ => rfl
    | ⟨1, _⟩ => exact hk1
    | ⟨2, _⟩ => exact hk0
  have er : dot_S50000x15x64_S15x64x64_S50000x64_21_10_0_2_n_n.rhsIdx (ix2 n o) ((contrEquiv2 dot_S50000x15x64_S15x64x64_S50000x64_21_10_0_2_n_n 64 15 rfl rfl rfl).symm (c, k)) = ix3 k c o := by
    funext a; apply Fin.ext
    match a with
    | ⟨0, _⟩ => exact hk1
    | ⟨1, _⟩ => exact hk0
    | ⟨2, _⟩ => rfl
  rw [el, er, hv, h4, EReal.coe_mul]

/-- A sum's bit, as a number. -/
theorem positive_apply {R : FVec Ideal S50000x16 .f32} {s : ℝ} (x : S50000x16.Idx) (hR : R x = ((s : ℝ) : EReal)) :
    (uitofp .f32 (cmpf .ogt R (broadcastInDim S50000x16 ![] bcast_S_S50000x16 (constant S_ .f32 0x00000000#32))) : FVec Ideal S50000x16 .f32) x = (((if 0 < s then 1 else 0 : ℝ)) : EReal) := by
  show ((((Ideal.cmp .ogt (R x) (Ideal.ofBits .f32 0x00000000#32)).toNat : ℝ)) : EReal) = _
  rw [hR, ofBits_zero]
  exact cmp_pos s

theorem counts_apply (hf : ∀ h c, f (ix3 n h c) = ((G h c : ℝ) : EReal)) : counts f (ix1 n) = ((max (∑ h, if 0 < ∑ c, G h c then 1 else 0) 1 : ℝ) : EReal) := by
  have hs : ∀ h : Fin 16, (Host.reduceAdd f (constant S_ .f32 0x00000000#32) reducesTo_S50000x16x64_S50000x16_d2 h_S_ : FVec Ideal S50000x16 .f32) (ix2 n h) = ((∑ c, G h c : ℝ) : EReal) := by
    intro h
    rw [hostReduceAdd_apply, Ideal.hostReduceAdd_single _ (show S50000x16x64.Reduces [2] S50000x16 by decide), constant_apply, ofBits_zero, EReal.coe_zero, zero_add, coe_sum]
    refine Finset.sum_congr rfl fun (c : Fin 64) _ => ?_
    have e : (show S50000x16x64.Reduces [2] S50000x16 by decide).lift (ix2 n h) c = ix3 n h c := by
      funext a
      match a with
      | ⟨0, _⟩ => rfl
      | ⟨1, _⟩ => rfl
      | ⟨2, _⟩ => rfl
    exact (congrArg f e).trans (hf h c)
  unfold counts
  rw [maximumf_apply, hostReduceAdd_apply, Ideal.hostReduceAdd_single _ (show S50000x16.Reduces [1] S50000 by decide), constant_apply, ofBits_zero, EReal.coe_zero, zero_add]
  rw [show broadcastInDim S50000 ![] bcast_S_S50000 (constant (F := Ideal) S_ .f32 0x3F800000#32) (ix1 n) = ((1 : ℝ) : EReal) from ofBits_one, coe_max, coe_sum]
  congr 1
  refine Finset.sum_congr rfl fun (h : Fin 16) _ => ?_
  have e : (show S50000x16.Reduces [1] S50000 by decide).lift (ix1 n) h = ix2 n h := by
    funext a
    match a with
    | ⟨0, _⟩ => rfl
    | ⟨1, _⟩ => rfl
  exact (congrArg _ e).trans (positive_apply _ (hs h))

/-- The reference's result, an entry of it. -/
theorem outOf_apply (hf : ∀ h c, f (ix3 n h c) = ((G h c : ℝ) : EReal)) (hP : ∀ h c, P (ix3 n h c) = ((Q h c : ℝ) : EReal)) (h1 : ∀ c, a1 (ix2 n c) = ((r1 c : ℝ) : EReal))
    (h4 : ∀ k c o, a4 (ix3 k c o) = ((r4 k c o : ℝ) : EReal)) (h5 : ∀ k c, a5 (ix2 k c) = ((r5 k c : ℝ) : EReal)) (o : Fin 64) :
    outOf f P a1 a4 a5 (ix2 n o) = ((conv (fun h k => infl (sqdist (fun c => Q h c - r1 c) (r5 k))) G (fun k c => r4 k c o) : ℝ) : EReal) := by
  unfold outOf
  rw [hostDivf_apply]
  rw [product_apply (V := fun k c => ∑ h, infl (sqdist (fun c => Q h c - r1 c) (r5 k)) * G h c)
    (fun k c => weighted_apply (W := fun h k => infl (sqdist (fun c => Q h c - r1 c) (r5 k))) (fun h k => influences_apply h k fun c => differences_apply hP h1 h5 h k c) hf k c) h4 o]
  rw [show broadcastInDim S50000x64 ![0, 1] bcast_S50000x1_S50000x64_0_1 (broadcastInDim S50000x1 ![0] bcast_S50000_S50000x1_0 (counts f)) (ix2 n o) = counts f (ix1 n) from
    (broadcastInDim_apply _ _ _ _ (ix2 n (0 : Fin 1)) fun a => by
      match a with
      | ⟨0, _⟩ => rfl
      | ⟨1, _⟩ => rfl).trans (broadcastInDim_apply _ _ _ _ (ix1 n) fun a => by
      match a with
      | ⟨0, _⟩ => rfl)]
  rw [counts_apply hf, div_coe_coe _ (by
    have : (1 : ℝ) ≤ max (∑ h, if 0 < ∑ c, G h c then 1 else 0) 1 := le_max_right _ _
    positivity)]
  rfl

/-- The same, of the arguments. -/
theorem result_apply {a0 : FVec Ideal S50000x64 .f32} {a1 a2 : FVec Ideal S50000x3 .f32} {a3 : IVec S50000x16 32} {a4 : FVec Ideal S15x64x64 .f32} {a5 : FVec Ideal S15x3 .f32}
    {r0 : Fin 50000 → Fin 64 → ℝ} {r1 r2 : Fin 50000 → Fin 3 → ℝ} {r4 : Fin 15 → Fin 64 → Fin 64 → ℝ} {r5 : Fin 15 → Fin 3 → ℝ} (ha : ∀ x, (a3 x).toNat < 50000)
    (h0 : ∀ n c, a0 (ix2 n c) = ((r0 n c : ℝ) : EReal)) (h1 : ∀ n c, a1 (ix2 n c) = ((r1 n c : ℝ) : EReal)) (h2 : ∀ n c, a2 (ix2 n c) = ((r2 n c : ℝ) : EReal))
    (h4 : ∀ k c o, a4 (ix3 k c o) = ((r4 k c o : ℝ) : EReal)) (h5 : ∀ k c, a5 (ix2 k c) = ((r5 k c : ℝ) : EReal)) (n : Fin 50000) (o : Fin 64) :
    result a0 a1 a2 a3 a4 a5 (ix2 n o) = ((entry r0 r1 r2 (fun n h => ⟨(a3 (ix2 n h)).toNat, ha _⟩) r4 r5 n o : ℝ) : EReal) := by
  have hu : ∀ h : Fin 16, (⟨(wrapped a3 (ix3 n h 0)).toNat, wrapped_lt a3 ha _⟩ : Fin 50000) = ⟨(a3 (ix2 n h)).toNat, ha _⟩ := fun h =>
    Fin.ext (congrArg BitVec.toNat (wrapped_apply a3 ha n h))
  unfold result
  refine outOf_apply (G := fun h => r0 ⟨(a3 (ix2 n h)).toNat, ha _⟩) (Q := fun h => r2 ⟨(a3 (ix2 n h)).toNat, ha _⟩) (r1 := r1 n) (fun h c => ?_) (fun h c => ?_) (h1 n) h4 h5 o
  · rw [feats_apply a0 _ (wrapped_lt a3 ha), hu, h0]
  · rw [pts_apply a2 _ (wrapped_lt a3 ha), hu, h2]

end Real

end Cert.Proof.RefValue

end
-- ==== Proof.Same.lean ====
/- The kernel and its idealization are one program: no operation of it was replaced. The two body tables, row by row. -/
module

public import proofs.«01_k».proof.Proof.Gen.KernelIdeal.Skeleton
public import proofs.«01_k».proof.Proof.Gen.Kernel.Skeleton

@[expose] public section

set_option maxHeartbeats 16000000

noncomputable section

namespace Cert.Proof.Same

open Idealize.ShloMosaic

variable {F : FTy → Type} [FloatOps F]

/-- A row of the one table is the row of the other. -/
theorem bodies_row (p : Proc Cert.Kernel.τ) (ℓ : Fin 10) (a : Cert.Kernel.Λ₀.Args ℓ) : Cert.Kernel.defs₀ (F := F) p ℓ a = Cert.KernelIdeal.defs₀ (F := F) p ℓ a := by
  unfold Cert.Kernel.defs₀ Cert.KernelIdeal.defs₀
  exact match p, ℓ, a with
    | .scVector _ _, 0, _ => rfl
    | .tc, 1, (_, _) => rfl
    | .scVector _ _, 2, _ => rfl
    | .tc, 3, (_, _) => rfl
    | .scVector _ _, 4, _ => rfl
    | .tc, 5, (_, _) => rfl
    | .scVector _ _, 6, _ => rfl
    | .tc, 7, (_, _) => rfl
    | .scVector _ _, 8, _ => rfl
    | .tc, 9, (_, _) => rfl
    | .tc, 0, _ => rfl
    | .scScalar _, 0, _ => rfl
    | .scScalar _, 1, _ => rfl
    | .scVector _ _, 1, _ => rfl
    | .tc, 2, _ => rfl
    | .scScalar _, 2, _ => rfl
    | .scScalar _, 3, _ => rfl
    | .scVector _ _, 3, _ => rfl
    | .tc, 4, _ => rfl
    | .scScalar _, 4, _ => rfl
    | .scScalar _, 5, _ => rfl
    | .scVector _ _, 5, _ => rfl
    | .tc, 6, _ => rfl
    | .scScalar _, 6, _ => rfl
    | .scScalar _, 7, _ => rfl
    | .scVector _ _, 7, _ => rfl
    | .tc, 8, _ => rfl
    | .scScalar _, 8, _ => rfl
    | .scScalar _, 9, _ => rfl
    | .scVector _ _, 9, _ => rfl

/-- The one table is the other. -/
theorem bodies : Cert.Kernel.defs₀ (F := F) = Cert.KernelIdeal.defs₀ (F := F) :=
  funext fun p => funext fun ℓ => funext fun a => bodies_row p ℓ a

end Cert.Proof.Same

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Run
public import proofs.«01_k».proof.Proof.HostValue
public import proofs.«01_k».proof.Proof.RefValue
public import proofs.«01_k».proof.Proof.Same
public import proofs.«01_k».proof.Proof.Gen.Pre_in_range
public import proofs.«01_k».proof.Proof.Gen.Pre_finite_in_range
public import Idealize.ShloMosaic.Adequacy
public import Idealize.ShloMosaic.Init

@[expose] public section

noncomputable section

namespace Cert.Proof

open Idealize.ShloMosaic hiding ix0 ix1 ix2 ix3 ix4
open Idealize.ShloMosaic.ValueIdx
open Idealize.ShloMosaic.TcCoe Idealize.SL.Sem

/-- The kernel's program ends from every memory whose indices are in range, its arguments as they were and every semaphore at zero,
    whatever its floats are. -/
theorem frames {F : FTy → Type} [FloatOps F] [∀ e, Nonempty (Elt F e)] (m : (ℓ : Loc Cert.KernelIdeal.nD Cert.KernelIdeal.τ Cert.KernelIdeal.sig) → Buf (Elt F) ℓ) (ρ : Dev Cert.KernelIdeal.nD → PrngReg)
    (hm : Run.InRange m) :
    θ_run (Cert.KernelIdeal.defs (F := F)) (Cert.KernelIdeal.threads (F := F)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0) :=
  (θ_run (Cert.KernelIdeal.defs (F := F)) _ _).mono (fun r h => ⟨fun c => (Run.ends_of m r h c).2, h.2⟩) (Run.run_main m ρ hm)

/-- The same of any body table that is the kernel's. -/
theorem frames_of {F : FTy → Type} [FloatOps F] [∀ e, Nonempty (Elt F e)] (B : Defs Cert.KernelIdeal.nD Cert.KernelIdeal.τ Cert.KernelIdeal.sig (Elt F) Cert.KernelIdeal.Λ₀) (hB : B = Cert.KernelIdeal.defs₀ (F := F))
    (m : (ℓ : Loc Cert.KernelIdeal.nD Cert.KernelIdeal.τ Cert.KernelIdeal.sig) → Buf (Elt F) ℓ) (ρ : Dev Cert.KernelIdeal.nD → PrngReg) (hm : Run.InRange m) :
    θ_run ((Cert.KernelIdeal.sc (F := F)).defs (Pipeline.defs Cert.KernelIdeal.pcfgs B)) (Cert.KernelIdeal.threads (F := F)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0) := by
  subst hB
  exact frames m ρ hm

set_option maxHeartbeats 16000000 in
/-- The kernel ends, its arguments as they were. -/
theorem frame_kernel : Cert.quiescent_Kernel := fun m ρ h => frames_of (F := Bits) (Cert.Kernel.defs₀ (F := Bits)) Same.bodies m ρ (fun d x => RefValue.range _ _ _ _ _ _ (h d) x)

/-- The same over the reals. -/
theorem frame_ideal : Cert.quiescent_KernelIdeal := fun m ρ h => frames (F := Ideal) m ρ (fun d x => RefValue.range _ _ _ _ _ _ (h d) x)

/-- The indices of a memory that the value claim is about are in range. -/
theorem range_of_finite (m : (ℓ : Loc Cert.KernelIdeal.nD Cert.KernelIdeal.τ Cert.KernelIdeal.sig) → Buf (Elt Ideal) ℓ) (h : Cert.Pre_KernelIdeal_finite_in_range m) : Run.InRange m := fun d x =>
  (RefValue.finite _ _ _ _ _ _ (h d)).2.2.2.2.2 x

/-- The same over the reals, from the memories that the value claim is about. -/
theorem frame_ideal_finite : Cert.quiescent_KernelIdeal_pre_finite_in_range := fun m ρ h => frames (F := Ideal) m ρ (range_of_finite m h)

/-- The reference ends, its arguments as they were. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from the memories that the value claim is about. -/
theorem frame_reference_finite : Cert.quiescent_ReferenceIdeal_pre_finite_in_range := fun m ρ _ => frame_reference m ρ trivial

/-- The reference's result and the kernel's, of the same arguments, are one function of real numbers. -/
theorem results_eq (a0 : FVec Ideal Cert.KernelIdeal.S50000x64 .f32) (a1 a2 : FVec Ideal Cert.KernelIdeal.S50000x3 .f32) (a3 : IVec Cert.KernelIdeal.S50000x16 32) (a4 : FVec Ideal Cert.KernelIdeal.S15x64x64 .f32)
    (a5 : FVec Ideal Cert.KernelIdeal.S15x3 .f32) (h : Cert.Pre_finite_in_range.fn (F := Ideal) a0 a1 a2 a3 a4 a5 = fun _ => 1#1) :
    RefValue.result a0 a1 a2 a3 a4 a5 = Host.result a0 a1 a2 a3 a4 a5 := by
  obtain ⟨f0, f1, f2, f4, f5, hw⟩ := RefValue.finite a0 a1 a2 a3 a4 a5 h
  choose r0 h0 using f0
  choose r1 h1 using f1
  choose r2 h2 using f2
  choose r4 h4 using f4
  choose r5 h5 using f5
  have hr : (fun (n : Fin 50000) (h : Fin 16) => (⟨(a3 (ix2 n h)).toNat, hw _⟩ : Fin 50000)) = Host.row a3 :=
    funext fun n => funext fun h => Fin.ext (Nat.mod_eq_of_lt (hw _)).symm
  funext j
  rw [show j = ix2 (j 0) (j 1) from ValueIdx.eq_ix2 j]
  refine (RefValue.result_apply (r0 := fun n c => r0 (ix2 n c)) (r1 := fun n c => r1 (ix2 n c)) (r2 := fun n c => r2 (ix2 n c)) (r4 := fun k c o => r4 (ix3 k c o)) (r5 := fun k c => r5 (ix2 k c))
    hw (fun _ _ => h0 _) (fun _ _ => h1 _) (fun _ _ => h2 _) (fun _ _ _ => h4 _) (fun _ _ => h5 _) (j 0) (j 1)).trans ?_
  rw [hr]
  exact (Host.result_apply (r0 := fun n c => r0 (ix2 n c)) (r1 := fun n c => r1 (ix2 n c)) (r2 := fun n c => r2 (ix2 n c)) (r4 := fun k c o => r4 (ix3 k c o)) (r5 := fun k c => r5 (ix2 k c))
    (fun _ _ => h0 _) (fun _ _ => h1 _) (fun _ _ => h2 _) (fun _ _ _ => h4 _) (fun _ _ => h5 _) (j 0) (j 1)).symm

/-- The reference's result, at arguments that agree with the kernel's, is the kernel's. -/
theorem value_at (m : (ℓ : Loc Cert.KernelIdeal.nD Cert.KernelIdeal.τ Cert.KernelIdeal.sig) → Buf (Elt Ideal) ℓ) (h : Cert.Pre_KernelIdeal_finite_in_range m)
    (m' : (ℓ : Loc Cert.ReferenceIdeal.nD Cert.ReferenceIdeal.τ Cert.ReferenceIdeal.sig) → Buf (Elt Ideal) ℓ) (c : Dev Cert.KernelIdeal.nD)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v35 (F := Ideal) m' c
      = Host.result (F := Ideal) (Run.V m c (Launch.ref Cert.KernelIdeal.main_arg0)) (Run.V m c (Launch.ref Cert.KernelIdeal.main_arg1)) (Run.V m c (Launch.ref Cert.KernelIdeal.main_arg2)) (Run.V m c (Launch.ref Cert.KernelIdeal.main_arg3)) (Run.V m c (Launch.ref Cert.KernelIdeal.main_arg4)) (Run.V m c (Launch.ref Cert.KernelIdeal.main_arg5)) := by
  have key := results_eq (Run.V m c (Launch.ref Cert.KernelIdeal.main_arg0)) (Run.V m c (Launch.ref Cert.KernelIdeal.main_arg1)) (Run.V m c (Launch.ref Cert.KernelIdeal.main_arg2)) (Run.V m c (Launch.ref Cert.KernelIdeal.main_arg3)) (Run.V m c (Launch.ref Cert.KernelIdeal.main_arg4)) (Run.V m c (Launch.ref Cert.KernelIdeal.main_arg5)) (h c)
  refine ((RefValue.run_result m' c).trans ?_).trans key
  have e0 : m' ((c.tc : Thread Cert.ReferenceIdeal.nD Cert.ReferenceIdeal.τ).loc Cert.ReferenceIdeal.main_arg0) = Run.V m c (Launch.ref Cert.KernelIdeal.main_arg0) := e.1
  have e1 : m' ((c.tc : Thread Cert.ReferenceIdeal.nD Cert.ReferenceIdeal.τ).loc Cert.ReferenceIdeal.main_arg1) = Run.V m c (Launch.ref Cert.KernelIdeal.main_arg1) := e.2.1
  have e2 : m' ((c.tc : Thread Cert.ReferenceIdeal.nD Cert.ReferenceIdeal.τ).loc Cert.ReferenceIdeal.main_arg2) = Run.V m c (Launch.ref Cert.KernelIdeal.main_arg2) := e.2.2.1
  have e3 : m' ((c.tc : Thread Cert.ReferenceIdeal.nD Cert.ReferenceIdeal.τ).loc Cert.ReferenceIdeal.main_arg3) = Run.V m c (Launch.ref Cert.KernelIdeal.main_arg3) := e.2.2.2.1
  have e4 : m' ((c.tc : Thread Cert.ReferenceIdeal.nD Cert.ReferenceIdeal.τ).loc Cert.ReferenceIdeal.main_arg4) = Run.V m c (Launch.ref Cert.KernelIdeal.main_arg4) := e.2.2.2.2.1
  have e5 : m' ((c.tc : Thread Cert.ReferenceIdeal.nD Cert.ReferenceIdeal.τ).loc Cert.ReferenceIdeal.main_arg5) = Run.V m c (Launch.ref Cert.KernelIdeal.main_arg5) := e.2.2.2.2.2
  rw [← e0, ← e1, ← e2, ← e3, ← e4, ← e5]

/-- Over the reals the kernel's result is the reference's. -/
theorem value : Cert.algebraic_KernelIdeal_ReferenceIdeal_pre_finite_in_range := by
  intro m ρ m' ρ' h e
  refine ⟨fun c => Host.result (F := Ideal) (Run.V m c (Launch.ref Cert.KernelIdeal.main_arg0)) (Run.V m c (Launch.ref Cert.KernelIdeal.main_arg1)) (Run.V m c (Launch.ref Cert.KernelIdeal.main_arg2)) (Run.V m c (Launch.ref Cert.KernelIdeal.main_arg3)) (Run.V m c (Launch.ref Cert.KernelIdeal.main_arg4)) (Run.V m c (Launch.ref Cert.KernelIdeal.main_arg5)),
    (θ_run (Cert.KernelIdeal.defs (F := Ideal)) _ _).mono (fun r h c => Run.ends_of m r h c) (Run.run_main (F := Ideal) m ρ (range_of_finite m h)), ?_⟩
  exact (θ_run Cert.ReferenceIdeal.defs _ _).mono (fun _ h' c => ⟨(h' c).1.trans (value_at m h m' c (e c)), (h' c).2⟩)
    (Cert.ReferenceIdeal.Value.run (F := Ideal) m' ρ')

theorem claim : Cert.Claim := ⟨Cert.Kernel.Gen.facts, Cert.KernelIdeal.Gen.facts, Cert.ReferenceIdeal.Gen.facts, Cert.Pre_in_range.Gen.facts, Cert.Pre_finite_in_range.Gen.facts,
  frame_kernel, frame_ideal, frame_ideal_finite, frame_reference, frame_reference_finite, trivial, value⟩

end Cert.Proof

end
